-- ==== Defs.lean ====
def Pre_Kernel [hPre_proposals_in_image : Cert.Pre_proposals_in_image.Facts] (m : (ℓ : Loc Cert.Kernel.nD Cert.Kernel.τ Cert.Kernel.sig) → Buf (Elt Bits) ℓ) : Prop :=
  ∀ c : Dev Cert.Kernel.nD,
    (Cert.Pre_proposals_in_image.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_proposals_in_image : Cert.Pre_proposals_in_image.Facts] (m : (ℓ : Loc Cert.KernelIdeal.nD Cert.KernelIdeal.τ Cert.KernelIdeal.sig) → Buf (Elt Ideal) ℓ) : Prop :=
  ∀ c : Dev Cert.KernelIdeal.nD,
    (Cert.Pre_proposals_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proposals_in_image [hPre_proposals_in_image : Cert.Pre_proposals_in_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proposals_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_proposals_in_image : Cert.Pre_proposals_in_image.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_proposals_in_image : Cert.Pre_proposals_in_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proposals_in_image [hReferenceIdeal : Cert.ReferenceIdeal.Facts] [hPre_proposals_in_image : Cert.Pre_proposals_in_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proposals_in_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_proposals_in_image : Cert.Pre_proposals_in_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_proposals_in_image : Cert.Pre_proposals_in_image.Facts),
    quiescent_Kernel (hKernel := hKernel) (hPre_proposals_in_image := hPre_proposals_in_image)
    ∧ quiescent_KernelIdeal (hKernelIdeal := hKernelIdeal) (hPre_proposals_in_image := hPre_proposals_in_image)
    ∧ quiescent_ReferenceIdeal (hReferenceIdeal := hReferenceIdeal)
    ∧ quiescent_ReferenceIdeal_pre_proposals_in_image (hReferenceIdeal := hReferenceIdeal) (hPre_proposals_in_image := hPre_proposals_in_image)
    ∧ preserves_Kernel_KernelIdeal
    ∧ algebraic_KernelIdeal_ReferenceIdeal (hKernelIdeal := hKernelIdeal) (hReferenceIdeal := hReferenceIdeal) (hPre_proposals_in_image := hPre_proposals_in_image)
-- ==== Pre_proposals_in_image.lean ====
abbrev S2x256x50x50 : Shape := ⟨4, ![2, 256, 50, 50]⟩
abbrev S2x128x4 : Shape := ⟨3, ![2, 128, 4]⟩
abbrev S_ : Shape := ⟨0, ![]⟩

class Facts : Prop where
  bcast_S_S2x128x4 : S_.BroadcastsInDim S2x128x4 (![] : Fin 0 → Fin S2x128x4.rank)

variable [Facts]

def fn {F : FTy → Type} [FloatOps F] (main_arg0 : FVec F S2x256x50x50 .f32) (main_arg1 : IVec S2x128x4 32) : IVec S2x128x4 1 :=
  let main_c : IVec S_ 32 := constantI S_ 32 16#32
  let main_v0 : IVec S2x128x4 32 := broadcastInDim S2x128x4 ![] bcast_S_S2x128x4 main_c
  let main_v1 : IVec S2x128x4 1 := cmpi .sge main_arg1 main_v0
  let main_c_0 : IVec S_ 32 := constantI S_ 32 400#32
  let main_v2 : IVec S2x128x4 32 := broadcastInDim S2x128x4 ![] bcast_S_S2x128x4 main_c_0
  let main_v3 : IVec S2x128x4 1 := cmpi .slt main_arg1 main_v2
  let main_v4 : IVec S2x128x4 1 := andi main_v1 main_v3
  main_v4
-- ==== Kernel.lean ====
abbrev S2x256x50x50 : Shape := ⟨4, ![2, 256, 50, 50]⟩
abbrev S2x128x4 : Shape := ⟨3, ![2, 128, 4]⟩
abbrev S64 : Shape := ⟨1, ![64]⟩
abbrev S2x50x50x256 : Shape := ⟨4, ![2, 50, 50, 256]⟩
abbrev S1024 : Shape := ⟨1, ![1024]⟩
abbrev S2x128x1x256 : Shape := ⟨4, ![2, 128, 1, 256]⟩
abbrev S1x50x50x256 : Shape := ⟨4, ![1, 50, 50, 256]⟩
abbrev S1x128x1x256 : Shape := ⟨4, ![1, 128, 1, 256]⟩
abbrev S5x50x50x256 : Shape := ⟨4, ![5, 50, 50, 256]⟩
abbrev S32x256 : Shape := ⟨2, ![32, 256]⟩
abbrev S50x50x256 : Shape := ⟨3, ![50, 50, 256]⟩
abbrev S1x47x50x256 : Shape := ⟨4, ![1, 47, 50, 256]⟩
abbrev S47x50x256 : Shape := ⟨3, ![47, 50, 256]⟩
abbrev S1x45x50x256 : Shape := ⟨4, ![1, 45, 50, 256]⟩
abbrev S45x50x256 : Shape := ⟨3, ![45, 50, 256]⟩
abbrev S1x41x50x256 : Shape := ⟨4, ![1, 41, 50, 256]⟩
abbrev S41x50x256 : Shape := ⟨3, ![41, 50, 256]⟩
abbrev S1x33x50x256 : Shape := ⟨4, ![1, 33, 50, 256]⟩
abbrev S33x50x256 : Shape := ⟨3, ![33, 50, 256]⟩
abbrev S1 : Shape := ⟨1, ![1]⟩
abbrev S1x1x32x256 : Shape := ⟨4, ![1, 1, 32, 256]⟩
abbrev S256 : Shape := ⟨1, ![256]⟩
abbrev S1x1x1x256 : Shape := ⟨4, ![1, 1, 1, 256]⟩
abbrev S256x256 : Shape := ⟨2, ![256, 256]⟩
abbrev S256x256x1x1 : Shape := ⟨4, ![256, 256, 1, 1]⟩

abbrev nBuf : Space → Nat
  | .hbm => 8
  | .vmem => 5
  | .smem => 2
  | _ => 0

abbrev bufTy : (tb : Table) → Fin (tcTables nBuf tb) → BufTy
  | .hbm, ⟨0, _⟩ => ⟨S2x256x50x50, .f32⟩
  | .hbm, ⟨1, _⟩ => ⟨S2x128x4, .i32⟩
  | .hbm, ⟨2, _⟩ => ⟨S64, .i32⟩
  | .hbm, ⟨3, _⟩ => ⟨S2x50x50x256, .f32⟩
  | .hbm, ⟨4, _⟩ => ⟨S1024, .i32⟩
  | .hbm, ⟨5, _⟩ => ⟨S2x128x1x256, .f32⟩
  | .hbm, ⟨6, _⟩ => ⟨S256x256, .f32⟩
  | .hbm, ⟨7, _⟩ => ⟨S256x256x1x1, .f32⟩
  | .local _ .vmem, ⟨0, _⟩ => ⟨S1x50x50x256, .f32⟩
  | .local _ .vmem, ⟨1, _⟩ => ⟨S1x50x50x256, .f32⟩
  | .local _ .vmem, ⟨2, _⟩ => ⟨S1x128x1x256, .f32⟩
  | .local _ .vmem, ⟨3, _⟩ => ⟨S1x128x1x256, .f32⟩
  | .local _ .vmem, ⟨4, _⟩ => ⟨S5x50x50x256, .f32⟩
  | .local _ .smem, ⟨0, _⟩ => ⟨S1024, .i32⟩
  | .local _ .smem, ⟨1, _⟩ => ⟨S64, .i32⟩
  | _, _ => ⟨S2x256x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def k0_off1 (i : grid0.Coords) (c0_i32_52 : BitVec 32) : Fin 1 → Nat :=
  let arg0 : BitVec 32 := BitVec.ofNat 32 (i 0).val
  let c128_i32_51 : BitVec 32 := 128#32
  let v40 : BitVec 32 := Scalar.muli arg0 c128_i32_51
  let c0_i32 : BitVec 32 := 0#32
  let c128_i32 : BitVec 32 := 128#32
  let v38 : BitVec 32 := Scalar.muli c0_i32 c128_i32
  let c0_i32_50 : BitVec 32 := 0#32
  let v39 : BitVec 32 := Scalar.addi v38 c0_i32_50
  let v41 : BitVec 32 := Scalar.addi v40 v39
  let c4_i32 : BitVec 32 := 4#32
  let v42 : BitVec 32 := Scalar.muli v41 c4_i32
  let v43 : BitVec 32 := Scalar.addi v42 c0_i32_52
  let v44 : Index := Scalar.indexCast v43
  ![v44.toNat]
def k0_mult1 (v45 : BitVec 32) : BitVec 32 :=
  let c4_i32_53 : BitVec 32 := 4#32
  let v46 : BitVec 32 := Scalar.shrsi v45 c4_i32_53
  let c3_i32_57 : BitVec 32 := 3#32
  let v59 : BitVec 32 := Scalar.shrsi v46 c3_i32_57
  let c3_i32_58 : BitVec 32 := 3#32
  let v60 : BitVec 32 := Scalar.shli v59 c3_i32_58
  let c16_i32 : BitVec 32 := 16#32
  let v61 : BitVec 32 := Scalar.minsi v60 c16_i32
  v61

def k0_chk1 (v45 : BitVec 32) : Prop :=
  (8 ∣ (k0_mult1 v45).toNat)
theorem k0_mult1_dvd : ∀ (v45 : BitVec 32) (k0_hw1 : k0_chk1 v45), 8 ∣ (k0_mult1 v45).toNat := fun v45 k0_hw1 => k0_hw1

def k0_off2 (v57 : BitVec 32) : Fin 1 → Nat :=
  let c4_i32_56 : BitVec 32 := 4#32
  let v58 : BitVec 32 := Scalar.shrsi v57 c4_i32_56
  let v63 : Index := Scalar.indexCast v58
  ![v63.toNat]

def k0_off3 (v57 : BitVec 32) : Fin 1 → Nat :=
  let c32_i32 : BitVec 32 := 32#32
  let c4_i32_56 : BitVec 32 := 4#32
  let v58 : BitVec 32 := Scalar.shrsi v57 c4_i32_56
  let v65 : BitVec 32 := Scalar.addi c32_i32 v58
  let v66 : Index := Scalar.indexCast v65
  ![v66.toNat]

def k0_chk2 (v57 : BitVec 32) : Prop :=
  (∀ a, (k0_off2 v57) a + S1.size a ≤ S64.size a) ∧
  (∀ a, (k0_off3 v57) a + S1.size a ≤ S64.size a)
theorem k0_off2_inb : ∀ (v57 : BitVec 32) (k0_hw2 : k0_chk2 v57), ∀ a, (k0_off2 v57) a + S1.size a ≤ S64.size a := fun v57 k0_hw2 => k0_hw2.1
theorem k0_off3_inb : ∀ (v57 : BitVec 32) (k0_hw2 : k0_chk2 v57), ∀ a, (k0_off3 v57) a + S1.size a ≤ S64.size a := fun v57 k0_hw2 => k0_hw2.2

def k0_off4 (v45 : BitVec 32) (v49 : BitVec 32) (v64 : BitVec 32) : Fin 4 → Nat :=
  let v69 : Index := Scalar.indexCast v64
  let c4_i32_54 : BitVec 32 := 4#32
  let v50 : BitVec 32 := Scalar.shrsi v49 c4_i32_54
  let v70 : Index := Scalar.indexCast v50
  let c4_i32_53 : BitVec 32 := 4#32
  let v46 : BitVec 32 := Scalar.shrsi v45 c4_i32_53
  let c3_i32_57 : BitVec 32 := 3#32
  let v59 : BitVec 32 := Scalar.shrsi v46 c3_i32_57
  let c3_i32_58 : BitVec 32 := 3#32
  let v60 : BitVec 32 := Scalar.shli v59 c3_i32_58
  let c16_i32 : BitVec 32 := 16#32
  let v61 : BitVec 32 := Scalar.minsi v60 c16_i32
  let v62 : BitVec 32 := v61
  let v71 : Index := Scalar.indexCast v62
  let c0_59 : Index := 0#32
  ![v69.toNat, v70.toNat, v71.toNat, 0]

def k0_chk3 (v45 : BitVec 32) (v49 : BitVec 32) (v64 : BitVec 32) : Prop :=
  (∀ a, (k0_off4 v45 v49 v64) a + S1x1x32x256.size a ≤ S5x50x50x256.size a)
theorem k0_off4_inb : ∀ (v45 : BitVec 32) (v49 : BitVec 32) (v64 : BitVec 32) (k0_hw3 : k0_chk3 v45 v49 v64), ∀ a, (k0_off4 v45 v49 v64) a + S1x1x32x256.size a ≤ S5x50x50x256.size a := fun v45 v49 v64 k0_hw3 => k0_hw3

def k0_off5 (v45 : BitVec 32) (v49 : BitVec 32) (v64 : BitVec 32) (v67 : BitVec 32) : Fin 4 → Nat :=
  let v74 : Index := Scalar.indexCast v64
  let c4_i32_54 : BitVec 32 := 4#32
  let v50 : BitVec 32 := Scalar.shrsi v49 c4_i32_54
  let v68 : BitVec 32 := Scalar.addi v50 v67
  let v75 : Index := Scalar.indexCast v68
  let c4_i32_53 : BitVec 32 := 4#32
  let v46 : BitVec 32 := Scalar.shrsi v45 c4_i32_53
  let c3_i32_57 : BitVec 32 := 3#32
  let v59 : BitVec 32 := Scalar.shrsi v46 c3_i32_57
  let c3_i32_58 : BitVec 32 := 3#32
  let v60 : BitVec 32 := Scalar.shli v59 c3_i32_58
  let c16_i32 : BitVec 32 := 16#32
  let v61 : BitVec 32 := Scalar.minsi v60 c16_i32
  let v62 : BitVec 32 := v61
  let v76 : Index := Scalar.indexCast v62
  let c0_60 : Index := 0#32
  ![v74.toNat, v75.toNat, v76.toNat, 0]

def k0_chk4 (v45 : BitVec 32) (v49 : BitVec 32) (v64 : BitVec 32) (v67 : BitVec 32) : Prop :=
  (∀ a, (k0_off5 v45 v49 v64 v67) a + S1x1x32x256.size a ≤ S5x50x50x256.size a)
theorem k0_off5_inb : ∀ (v45 : BitVec 32) (v49 : BitVec 32) (v64 : BitVec 32) (v67 : BitVec 32) (k0_hw4 : k0_chk4 v45 v49 v64 v67), ∀ a, (k0_off5 v45 v49 v64 v67) a + S1x1x32x256.size a ≤ S5x50x50x256.size a := fun v45 v49 v64 v67 k0_hw4 => k0_hw4

def k0_off6 : Fin 4 → Nat :=
  let c0_62 : Index := 0#32
  let c0_i32 : BitVec 32 := 0#32
  let c128_i32 : BitVec 32 := 128#32
  let v38 : BitVec 32 := Scalar.muli c0_i32 c128_i32
  let c0_i32_50 : BitVec 32 := 0#32
  let v39 : BitVec 32 := Scalar.addi v38 c0_i32_50
  let v88 : Index := Scalar.indexCast v39
  let c0_63 : Index := 0#32
  let c0_64 : Index := 0#32
  ![0, v88.toNat, 0, 0]
def k0_off7 (i : grid0.Coords) (c0_i32_69 : BitVec 32) : Fin 1 → Nat :=
  let arg0 : BitVec 32 := BitVec.ofNat 32 (i 0).val
  let c128_i32_67 : BitVec 32 := 128#32
  let v94 : BitVec 32 := Scalar.muli arg0 c128_i32_67
  let c0_i32 : BitVec 32 := 0#32
  let c128_i32_65 : BitVec 32 := 128#32
  let v92 : BitVec 32 := Scalar.muli c0_i32 c128_i32_65
  let c1_i32_66 : BitVec 32 := 1#32
  let v93 : BitVec 32 := Scalar.addi v92 c1_i32_66
  let v95 : BitVec 32 := Scalar.addi v94 v93
  let c4_i32_68 : BitVec 32 := 4#32
  let v96 : BitVec 32 := Scalar.muli v95 c4_i32_68
  let v97 : BitVec 32 := Scalar.addi v96 c0_i32_69
  let v98 : Index := Scalar.indexCast v97
  ![v98.toNat]
def k0_mult2 (v99 : BitVec 32) : BitVec 32 :=
  let c4_i32_70 : BitVec 32 := 4#32
  let v100 : BitVec 32 := Scalar.shrsi v99 c4_i32_70
  let c3_i32_77 : BitVec 32 := 3#32
  let v113 : BitVec 32 := Scalar.shrsi v100 c3_i32_77
  let c3_i32_78 : BitVec 32 := 3#32
  let v114 : BitVec 32 := Scalar.shli v113 c3_i32_78
  let c16_i32_79 : BitVec 32 := 16#32
  let v115 : BitVec 32 := Scalar.minsi v114 c16_i32_79
  v115

def k0_chk5 (v99 : BitVec 32) : Prop :=
  (8 ∣ (k0_mult2 v99).toNat)
theorem k0_mult2_dvd : ∀ (v99 : BitVec 32) (k0_hw5 : k0_chk5 v99), 8 ∣ (k0_mult2 v99).toNat := fun v99 k0_hw5 => k0_hw5

def k0_off8 (v111 : BitVec 32) : Fin 1 → Nat :=
  let c4_i32_76 : BitVec 32 := 4#32
  let v112 : BitVec 32 := Scalar.shrsi v111 c4_i32_76
  let v117 : Index := Scalar.indexCast v112
  ![v117.toNat]

def k0_off9 (v111 : BitVec 32) : Fin 1 → Nat :=
  let c32_i32_80 : BitVec 32 := 32#32
  let c4_i32_76 : BitVec 32 := 4#32
  let v112 : BitVec 32 := Scalar.shrsi v111 c4_i32_76
  let v119 : BitVec 32 := Scalar.addi c32_i32_80 v112
  let v120 : Index := Scalar.indexCast v119
  ![v120.toNat]

def k0_chk6 (v111 : BitVec 32) : Prop :=
  (∀ a, (k0_off8 v111) a + S1.size a ≤ S64.size a) ∧
  (∀ a, (k0_off9 v111) a + S1.size a ≤ S64.size a)
theorem k0_off8_inb : ∀ (v111 : BitVec 32) (k0_hw6 : k0_chk6 v111), ∀ a, (k0_off8 v111) a + S1.size a ≤ S64.size a := fun v111 k0_hw6 => k0_hw6.1
theorem k0_off9_inb : ∀ (v111 : BitVec 32) (k0_hw6 : k0_chk6 v111), ∀ a, (k0_off9 v111) a + S1.size a ≤ S64.size a := fun v111 k0_hw6 => k0_hw6.2

def k0_off10 (v99 : BitVec 32) (v103 : BitVec 32) (v118 : BitVec 32) : Fin 4 → Nat :=
  let v123 : Index := Scalar.indexCast v118
  let c4_i32_72 : BitVec 32 := 4#32
  let v104 : BitVec 32 := Scalar.shrsi v103 c4_i32_72
  let v124 : Index := Scalar.indexCast v104
  let c4_i32_70 : BitVec 32 := 4#32
  let v100 : BitVec 32 := Scalar.shrsi v99 c4_i32_70
  let c3_i32_77 : BitVec 32 := 3#32
  let v113 : BitVec 32 := Scalar.shrsi v100 c3_i32_77
  let c3_i32_78 : BitVec 32 := 3#32
  let v114 : BitVec 32 := Scalar.shli v113 c3_i32_78
  let c16_i32_79 : BitVec 32 := 16#32
  let v115 : BitVec 32 := Scalar.minsi v114 c16_i32_79
  let v116 : BitVec 32 := v115
  let v125 : Index := Scalar.indexCast v116
  let c0_81 : Index := 0#32
  ![v123.toNat, v124.toNat, v125.toNat, 0]

def k0_chk7 (v99 : BitVec 32) (v103 : BitVec 32) (v118 : BitVec 32) : Prop :=
  (∀ a, (k0_off10 v99 v103 v118) a + S1x1x32x256.size a ≤ S5x50x50x256.size a)
theorem k0_off10_inb : ∀ (v99 : BitVec 32) (v103 : BitVec 32) (v118 : BitVec 32) (k0_hw7 : k0_chk7 v99 v103 v118), ∀ a, (k0_off10 v99 v103 v118) a + S1x1x32x256.size a ≤ S5x50x50x256.size a := fun v99 v103 v118 k0_hw7 => k0_hw7

def k0_off11 (v99 : BitVec 32) (v103 : BitVec 32) (v118 : BitVec 32) (v121 : BitVec 32) : Fin 4 → Nat :=
  let v128 : Index := Scalar.indexCast v118
  let c4_i32_72 : BitVec 32 := 4#32
  let v104 : BitVec 32 := Scalar.shrsi v103 c4_i32_72
  let v122 : BitVec 32 := Scalar.addi v104 v121
  let v129 : Index := Scalar.indexCast v122
  let c4_i32_70 : BitVec 32 := 4#32
  let v100 : BitVec 32 := Scalar.shrsi v99 c4_i32_70
  let c3_i32_77 : BitVec 32 := 3#32
  let v113 : BitVec 32 := Scalar.shrsi v100 c3_i32_77
  let c3_i32_78 : BitVec 32 := 3#32
  let v114 : BitVec 32 := Scalar.shli v113 c3_i32_78
  let c16_i32_79 : BitVec 32 := 16#32
  let v115 : BitVec 32 := Scalar.minsi v114 c16_i32_79
  let v116 : BitVec 32 := v115
  let v130 : Index := Scalar.indexCast v116
  let c0_82 : Index := 0#32
  ![v128.toNat, v129.toNat, v130.toNat, 0]

def k0_chk8 (v99 : BitVec 32) (v103 : BitVec 32) (v118 : BitVec 32) (v121 : BitVec 32) : Prop :=
  (∀ a, (k0_off11 v99 v103 v118 v121) a + S1x1x32x256.size a ≤ S5x50x50x256.size a)
theorem k0_off11_inb : ∀ (v99 : BitVec 32) (v103 : BitVec 32) (v118 : BitVec 32) (v121 : BitVec 32) (k0_hw8 : k0_chk8 v99 v103 v118 v121), ∀ a, (k0_off11 v99 v103 v118 v121) a + S1x1x32x256.size a ≤ S5x50x50x256.size a := fun v99 v103 v118 v121 k0_hw8 => k0_hw8

def k0_off12 : Fin 4 → Nat :=
  let c0_85 : Index := 0#32
  let c0_i32 : BitVec 32 := 0#32
  let c128_i32_65 : BitVec 32 := 128#32
  let v92 : BitVec 32 := Scalar.muli c0_i32 c128_i32_65
  let c1_i32_66 : BitVec 32 := 1#32
  let v93 : BitVec 32 := Scalar.addi v92 c1_i32_66
  let v142 : Index := Scalar.indexCast v93
  let c0_86 : Index := 0#32
  let c0_87 : Index := 0#32
  ![0, v142.toNat, 0, 0]
def k0_off13 (i : grid0.Coords) (c0_i32_92 : BitVec 32) : Fin 1 → Nat :=
  let arg0 : BitVec 32 := BitVec.ofNat 32 (i 0).val
  let c128_i32_90 : BitVec 32 := 128#32
  let v148 : BitVec 32 := Scalar.muli arg0 c128_i32_90
  let c0_i32 : BitVec 32 := 0#32
  let c128_i32_88 : BitVec 32 := 128#32
  let v146 : BitVec 32 := Scalar.muli c0_i32 c128_i32_88
  let c2_i32_89 : BitVec 32 := 2#32
  let v147 : BitVec 32 := Scalar.addi v146 c2_i32_89
  let v149 : BitVec 32 := Scalar.addi v148 v147
  let c4_i32_91 : BitVec 32 := 4#32
  let v150 : BitVec 32 := Scalar.muli v149 c4_i32_91
  let v151 : BitVec 32 := Scalar.addi v150 c0_i32_92
  let v152 : Index := Scalar.indexCast v151
  ![v152.toNat]
def k0_mult3 (v153 : BitVec 32) : BitVec 32 :=
  let c4_i32_93 : BitVec 32 := 4#32
  let v154 : BitVec 32 := Scalar.shrsi v153 c4_i32_93
  let c3_i32_100 : BitVec 32 := 3#32
  let v167 : BitVec 32 := Scalar.shrsi v154 c3_i32_100
  let c3_i32_101 : BitVec 32 := 3#32
  let v168 : BitVec 32 := Scalar.shli v167 c3_i32_101
  let c16_i32_102 : BitVec 32 := 16#32
  let v169 : BitVec 32 := Scalar.minsi v168 c16_i32_102
  v169

def k0_chk9 (v153 : BitVec 32) : Prop :=
  (8 ∣ (k0_mult3 v153).toNat)
theorem k0_mult3_dvd : ∀ (v153 : BitVec 32) (k0_hw9 : k0_chk9 v153), 8 ∣ (k0_mult3 v153).toNat := fun v153 k0_hw9 => k0_hw9

def k0_off14 (v165 : BitVec 32) : Fin 1 → Nat :=
  let c4_i32_99 : BitVec 32 := 4#32
  let v166 : BitVec 32 := Scalar.shrsi v165 c4_i32_99
  let v171 : Index := Scalar.indexCast v166
  ![v171.toNat]

def k0_off15 (v165 : BitVec 32) : Fin 1 → Nat :=
  let c32_i32_103 : BitVec 32 := 32#32
  let c4_i32_99 : BitVec 32 := 4#32
  let v166 : BitVec 32 := Scalar.shrsi v165 c4_i32_99
  let v173 : BitVec 32 := Scalar.addi c32_i32_103 v166
  let v174 : Index := Scalar.indexCast v173
  ![v174.toNat]

def k0_chk10 (v165 : BitVec 32) : Prop :=
  (∀ a, (k0_off14 v165) a + S1.size a ≤ S64.size a) ∧
  (∀ a, (k0_off15 v165) a + S1.size a ≤ S64.size a)
theorem k0_off14_inb : ∀ (v165 : BitVec 32) (k0_hw10 : k0_chk10 v165), ∀ a, (k0_off14 v165) a + S1.size a ≤ S64.size a := fun v165 k0_hw10 => k0_hw10.1
theorem k0_off15_inb : ∀ (v165 : BitVec 32) (k0_hw10 : k0_chk10 v165), ∀ a, (k0_off15 v165) a + S1.size a ≤ S64.size a := fun v165 k0_hw10 => k0_hw10.2

def k0_off16 (v153 : BitVec 32) (v157 : BitVec 32) (v172 : BitVec 32) : Fin 4 → Nat :=
  let v177 : Index := Scalar.indexCast v172
  let c4_i32_95 : BitVec 32 := 4#32
  let v158 : BitVec 32 := Scalar.shrsi v157 c4_i32_95
  let v178 : Index := Scalar.indexCast v158
  let c4_i32_93 : BitVec 32 := 4#32
  let v154 : BitVec 32 := Scalar.shrsi v153 c4_i32_93
  let c3_i32_100 : BitVec 32 := 3#32
  let v167 : BitVec 32 := Scalar.shrsi v154 c3_i32_100
  let c3_i32_101 : BitVec 32 := 3#32
  let v168 : BitVec 32 := Scalar.shli v167 c3_i32_101
  let c16_i32_102 : BitVec 32 := 16#32
  let v169 : BitVec 32 := Scalar.minsi v168 c16_i32_102
  let v170 : BitVec 32 := v169
  let v179 : Index := Scalar.indexCast v170
  let c0_104 : Index := 0#32
  ![v177.toNat, v178.toNat, v179.toNat, 0]

def k0_chk11 (v153 : BitVec 32) (v157 : BitVec 32) (v172 : BitVec 32) : Prop :=
  (∀ a, (k0_off16 v153 v157 v172) a + S1x1x32x256.size a ≤ S5x50x50x256.size a)
theorem k0_off16_inb : ∀ (v153 : BitVec 32) (v157 : BitVec 32) (v172 : BitVec 32) (k0_hw11 : k0_chk11 v153 v157 v172), ∀ a, (k0_off16 v153 v157 v172) a + S1x1x32x256.size a ≤ S5x50x50x256.size a := fun v153 v157 v172 k0_hw11 => k0_hw11

def k0_off17 (v153 : BitVec 32) (v157 : BitVec 32) (v172 : BitVec 32) (v175 : BitVec 32) : Fin 4 → Nat :=
  let v182 : Index := Scalar.indexCast v172
  let c4_i32_95 : BitVec 32 := 4#32
  let v158 : BitVec 32 := Scalar.shrsi v157 c4_i32_95
  let v176 : BitVec 32 := Scalar.addi v158 v175
  let v183 : Index := Scalar.indexCast v176
  let c4_i32_93 : BitVec 32 := 4#32
  let v154 : BitVec 32 := Scalar.shrsi v153 c4_i32_93
  let c3_i32_100 : BitVec 32 := 3#32
  let v167 : BitVec 32 := Scalar.shrsi v154 c3_i32_100
  let c3_i32_101 : BitVec 32 := 3#32
  let v168 : BitVec 32 := Scalar.shli v167 c3_i32_101
  let c16_i32_102 : BitVec 32 := 16#32
  let v169 : BitVec 32 := Scalar.minsi v168 c16_i32_102
  let v170 : BitVec 32 := v169
  let v184 : Index := Scalar.indexCast v170
  let c0_105 : Index := 0#32
  ![v182.toNat, v183.toNat, v184.toNat, 0]

def k0_chk12 (v153 : BitVec 32) (v157 : BitVec 32) (v172 : BitVec 32) (v175 : BitVec 32) : Prop :=
  (∀ a, (k0_off17 v153 v157 v172 v175) a + S1x1x32x256.size a ≤ S5x50x50x256.size a)
theorem k0_off17_inb : ∀ (v153 : BitVec 32) (v157 : BitVec 32) (v172 : BitVec 32) (v175 : BitVec 32) (k0_hw12 : k0_chk12 v153 v157 v172 v175), ∀ a, (k0_off17 v153 v157 v172 v175) a + S1x1x32x256.size a ≤ S5x50x50x256.size a := fun v153 v157 v172 v175 k0_hw12 => k0_hw12

def k0_off18 : Fin 4 → Nat :=
  let c0_108 : Index := 0#32
  let c0_i32 : BitVec 32 := 0#32
  let c128_i32_88 : BitVec 32 := 128#32
  let v146 : BitVec 32 := Scalar.muli c0_i32 c128_i32_88
  let c2_i32_89 : BitVec 32 := 2#32
  let v147 : BitVec 32 := Scalar.addi v146 c2_i32_89
  let v196 : Index := Scalar.indexCast v147
  let c0_109 : Index := 0#32
  let c0_110 : Index := 0#32
  ![0, v196.toNat, 0, 0]
def k0_off19 (i : grid0.Coords) (c0_i32_115 : BitVec 32) : Fin 1 → Nat :=
  let arg0 : BitVec 32 := BitVec.ofNat 32 (i 0).val
  let c128_i32_113 : BitVec 32 := 128#32
  let v202 : BitVec 32 := Scalar.muli arg0 c128_i32_113
  let c0_i32 : BitVec 32 := 0#32
  let c128_i32_111 : BitVec 32 := 128#32
  let v200 : BitVec 32 := Scalar.muli c0_i32 c128_i32_111
  let c3_i32_112 : BitVec 32 := 3#32
  let v201 : BitVec 32 := Scalar.addi v200 c3_i32_112
  let v203 : BitVec 32 := Scalar.addi v202 v201
  let c4_i32_114 : BitVec 32 := 4#32
  let v204 : BitVec 32 := Scalar.muli v203 c4_i32_114
  let v205 : BitVec 32 := Scalar.addi v204 c0_i32_115
  let v206 : Index := Scalar.indexCast v205
  ![v206.toNat]
def k0_mult4 (v207 : BitVec 32) : BitVec 32 :=
  let c4_i32_116 : BitVec 32 := 4#32
  let v208 : BitVec 32 := Scalar.shrsi v207 c4_i32_116
  let c3_i32_123 : BitVec 32 := 3#32
  let v221 : BitVec 32 := Scalar.shrsi v208 c3_i32_123
  let c3_i32_124 : BitVec 32 := 3#32
  let v222 : BitVec 32 := Scalar.shli v221 c3_i32_124
  let c16_i32_125 : BitVec 32 := 16#32
  let v223 : BitVec 32 := Scalar.minsi v222 c16_i32_125
  v223

def k0_chk13 (v207 : BitVec 32) : Prop :=
  (8 ∣ (k0_mult4 v207).toNat)
theorem k0_mult4_dvd : ∀ (v207 : BitVec 32) (k0_hw13 : k0_chk13 v207), 8 ∣ (k0_mult4 v207).toNat := fun v207 k0_hw13 => k0_hw13

def k0_off20 (v219 : BitVec 32) : Fin 1 → Nat :=
  let c4_i32_122 : BitVec 32 := 4#32
  let v220 : BitVec 32 := Scalar.shrsi v219 c4_i32_122
  let v225 : Index := Scalar.indexCast v220
  ![v225.toNat]

def k0_off21 (v219 : BitVec 32) : Fin 1 → Nat :=
  let c32_i32_126 : BitVec 32 := 32#32
  let c4_i32_122 : BitVec 32 := 4#32
  let v220 : BitVec 32 := Scalar.shrsi v219 c4_i32_122
  let v227 : BitVec 32 := Scalar.addi c32_i32_126 v220
  let v228 : Index := Scalar.indexCast v227
  ![v228.toNat]

def k0_chk14 (v219 : BitVec 32) : Prop :=
  (∀ a, (k0_off20 v219) a + S1.size a ≤ S64.size a) ∧
  (∀ a, (k0_off21 v219) a + S1.size a ≤ S64.size a)
theorem k0_off20_inb : ∀ (v219 : BitVec 32) (k0_hw14 : k0_chk14 v219), ∀ a, (k0_off20 v219) a + S1.size a ≤ S64.size a := fun v219 k0_hw14 => k0_hw14.1
theorem k0_off21_inb : ∀ (v219 : BitVec 32) (k0_hw14 : k0_chk14 v219), ∀ a, (k0_off21 v219) a + S1.size a ≤ S64.size a := fun v219 k0_hw14 => k0_hw14.2

def k0_off22 (v207 : BitVec 32) (v211 : BitVec 32) (v226 : BitVec 32) : Fin 4 → Nat :=
  let v231 : Index := Scalar.indexCast v226
  let c4_i32_118 : BitVec 32 := 4#32
  let v212 : BitVec 32 := Scalar.shrsi v211 c4_i32_118
  let v232 : Index := Scalar.indexCast v212
  let c4_i32_116 : BitVec 32 := 4#32
  let v208 : BitVec 32 := Scalar.shrsi v207 c4_i32_116
  let c3_i32_123 : BitVec 32 := 3#32
  let v221 : BitVec 32 := Scalar.shrsi v208 c3_i32_123
  let c3_i32_124 : BitVec 32 := 3#32
  let v222 : BitVec 32 := Scalar.shli v221 c3_i32_124
  let c16_i32_125 : BitVec 32 := 16#32
  let v223 : BitVec 32 := Scalar.minsi v222 c16_i32_125
  let v224 : BitVec 32 := v223
  let v233 : Index := Scalar.indexCast v224
  let c0_127 : Index := 0#32
  ![v231.toNat, v232.toNat, v233.toNat, 0]

def k0_chk15 (v207 : BitVec 32) (v211 : BitVec 32) (v226 : BitVec 32) : Prop :=
  (∀ a, (k0_off22 v207 v211 v226) a + S1x1x32x256.size a ≤ S5x50x50x256.size a)
theorem k0_off22_inb : ∀ (v207 : BitVec 32) (v211 : BitVec 32) (v226 : BitVec 32) (k0_hw15 : k0_chk15 v207 v211 v226), ∀ a, (k0_off22 v207 v211 v226) a + S1x1x32x256.size a ≤ S5x50x50x256.size a := fun v207 v211 v226 k0_hw15 => k0_hw15

def k0_off23 (v207 : BitVec 32) (v211 : BitVec 32) (v226 : BitVec 32) (v229 : BitVec 32) : Fin 4 → Nat :=
  let v236 : Index := Scalar.indexCast v226
  let c4_i32_118 : BitVec 32 := 4#32
  let v212 : BitVec 32 := Scalar.shrsi v211 c4_i32_118
  let v230 : BitVec 32 := Scalar.addi v212 v229
  let v237 : Index := Scalar.indexCast v230
  let c4_i32_116 : BitVec 32 := 4#32
  let v208 : BitVec 32 := Scalar.shrsi v207 c4_i32_116
  let c3_i32_123 : BitVec 32 := 3#32
  let v221 : BitVec 32 := Scalar.shrsi v208 c3_i32_123
  let c3_i32_124 : BitVec 32 := 3#32
  let v222 : BitVec 32 := Scalar.shli v221 c3_i32_124
  let c16_i32_125 : BitVec 32 := 16#32
  let v223 : BitVec 32 := Scalar.minsi v222 c16_i32_125
  let v224 : BitVec 32 := v223
  let v238 : Index := Scalar.indexCast v224
  let c0_128 : Index := 0#32
  ![v236.toNat, v237.toNat, v238.toNat, 0]

def k0_chk16 (v207 : BitVec 32) (v211 : BitVec 32) (v226 : BitVec 32) (v229 : BitVec 32) : Prop :=
  (∀ a, (k0_off23 v207 v211 v226 v229) a + S1x1x32x256.size a ≤ S5x50x50x256.size a)
theorem k0_off23_inb : ∀ (v207 : BitVec 32) (v211 : BitVec 32) (v226 : BitVec 32) (v229 : BitVec 32) (k0_hw16 : k0_chk16 v207 v211 v226 v229), ∀ a, (k0_off23 v207 v211 v226 v229) a + S1x1x32x256.size a ≤ S5x50x50x256.size a := fun v207 v211 v226 v229 k0_hw16 => k0_hw16

def k0_off24 : Fin 4 → Nat :=
  let c0_131 : Index := 0#32
  let c0_i32 : BitVec 32 := 0#32
  let c128_i32_111 : BitVec 32 := 128#32
  let v200 : BitVec 32 := Scalar.muli c0_i32 c128_i32_111
  let c3_i32_112 : BitVec 32 := 3#32
  let v201 : BitVec 32 := Scalar.addi v200 c3_i32_112
  let v250 : Index := Scalar.indexCast v201
  let c0_132 : Index := 0#32
  let c0_133 : Index := 0#32
  ![0, v250.toNat, 0, 0]
def k0_off25 (i : grid0.Coords) (c0_i32_138 : BitVec 32) : Fin 1 → Nat :=
  let arg0 : BitVec 32 := BitVec.ofNat 32 (i 0).val
  let c128_i32_136 : BitVec 32 := 128#32
  let v256 : BitVec 32 := Scalar.muli arg0 c128_i32_136
  let c0_i32 : BitVec 32 := 0#32
  let c128_i32_134 : BitVec 32 := 128#32
  let v254 : BitVec 32 := Scalar.muli c0_i32 c128_i32_134
  let c4_i32_135 : BitVec 32 := 4#32
  let v255 : BitVec 32 := Scalar.addi v254 c4_i32_135
  let v257 : BitVec 32 := Scalar.addi v256 v255
  let c4_i32_137 : BitVec 32 := 4#32
  let v258 : BitVec 32 := Scalar.muli v257 c4_i32_137
  let v259 : BitVec 32 := Scalar.addi v258 c0_i32_138
  let v260 : Index := Scalar.indexCast v259
  ![v260.toNat]
def k0_mult5 (v261 : BitVec 32) : BitVec 32 :=
  let c4_i32_139 : BitVec 32 := 4#32
  let v262 : BitVec 32 := Scalar.shrsi v261 c4_i32_139
  let c3_i32_146 : BitVec 32 := 3#32
  let v275 : BitVec 32 := Scalar.shrsi v262 c3_i32_146
  let c3_i32_147 : BitVec 32 := 3#32
  let v276 : BitVec 32 := Scalar.shli v275 c3_i32_147
  let c16_i32_148 : BitVec 32 := 16#32
  let v277 : BitVec 32 := Scalar.minsi v276 c16_i32_148
  v277

def k0_chk17 (v261 : BitVec 32) : Prop :=
  (8 ∣ (k0_mult5 v261).toNat)
theorem k0_mult5_dvd : ∀ (v261 : BitVec 32) (k0_hw17 : k0_chk17 v261), 8 ∣ (k0_mult5 v261).toNat := fun v261 k0_hw17 => k0_hw17

def k0_off26 (v273 : BitVec 32) : Fin 1 → Nat :=
  let c4_i32_145 : BitVec 32 := 4#32
  let v274 : BitVec 32 := Scalar.shrsi v273 c4_i32_145
  let v279 : Index := Scalar.indexCast v274
  ![v279.toNat]

def k0_off27 (v273 : BitVec 32) : Fin 1 → Nat :=
  let c32_i32_149 : BitVec 32 := 32#32
  let c4_i32_145 : BitVec 32 := 4#32
  let v274 : BitVec 32 := Scalar.shrsi v273 c4_i32_145
  let v281 : BitVec 32 := Scalar.addi c32_i32_149 v274
  let v282 : Index := Scalar.indexCast v281
  ![v282.toNat]

def k0_chk18 (v273 : BitVec 32) : Prop :=
  (∀ a, (k0_off26 v273) a + S1.size a ≤ S64.size a) ∧
  (∀ a, (k0_off27 v273) a + S1.size a ≤ S64.size a)
theorem k0_off26_inb : ∀ (v273 : BitVec 32) (k0_hw18 : k0_chk18 v273), ∀ a, (k0_off26 v273) a + S1.size a ≤ S64.size a := fun v273 k0_hw18 => k0_hw18.1
theorem k0_off27_inb : ∀ (v273 : BitVec 32) (k0_hw18 : k0_chk18 v273), ∀ a, (k0_off27 v273) a + S1.size a ≤ S64.size a := fun v273 k0_hw18 => k0_hw18.2

def k0_off28 (v261 : BitVec 32) (v265 : BitVec 32) (v280 : BitVec 32) : Fin 4 → Nat :=
  let v285 : Index := Scalar.indexCast v280
  let c4_i32_141 : BitVec 32 := 4#32
  let v266 : BitVec 32 := Scalar.shrsi v265 c4_i32_141
  let v286 : Index := Scalar.indexCast v266
  let c4_i32_139 : BitVec 32 := 4#32
  let v262 : BitVec 32 := Scalar.shrsi v261 c4_i32_139
  let c3_i32_146 : BitVec 32 := 3#32
  let v275 : BitVec 32 := Scalar.shrsi v262 c3_i32_146
  let c3_i32_147 : BitVec 32 := 3#32
  let v276 : BitVec 32 := Scalar.shli v275 c3_i32_147
  let c16_i32_148 : BitVec 32 := 16#32
  let v277 : BitVec 32 := Scalar.minsi v276 c16_i32_148
  let v278 : BitVec 32 := v277
  let v287 : Index := Scalar.indexCast v278
  let c0_150 : Index := 0#32
  ![v285.toNat, v286.toNat, v287.toNat, 0]

def k0_chk19 (v261 : BitVec 32) (v265 : BitVec 32) (v280 : BitVec 32) : Prop :=
  (∀ a, (k0_off28 v261 v265 v280) a + S1x1x32x256.size a ≤ S5x50x50x256.size a)
theorem k0_off28_inb : ∀ (v261 : BitVec 32) (v265 : BitVec 32) (v280 : BitVec 32) (k0_hw19 : k0_chk19 v261 v265 v280), ∀ a, (k0_off28 v261 v265 v280) a + S1x1x32x256.size a ≤ S5x50x50x256.size a := fun v261 v265 v280 k0_hw19 => k0_hw19

def k0_off29 (v261 : BitVec 32) (v265 : BitVec 32) (v280 : BitVec 32) (v283 : BitVec 32) : Fin 4 → Nat :=
  let v290 : Index := Scalar.indexCast v280
  let c4_i32_141 : BitVec 32 := 4#32
  let v266 : BitVec 32 := Scalar.shrsi v265 c4_i32_141
  let v284 : BitVec 32 := Scalar.addi v266 v283
  let v291 : Index := Scalar.indexCast v284
  let c4_i32_139 : BitVec 32 := 4#32
  let v262 : BitVec 32 := Scalar.shrsi v261 c4_i32_139
  let c3_i32_146 : BitVec 32 := 3#32
  let v275 : BitVec 32 := Scalar.shrsi v262 c3_i32_146
  let c3_i32_147 : BitVec 32 := 3#32
  let v276 : BitVec 32 := Scalar.shli v275 c3_i32_147
  let c16_i32_148 : BitVec 32 := 16#32
  let v277 : BitVec 32 := Scalar.minsi v276 c16_i32_148
  let v278 : BitVec 32 := v277
  let v292 : Index := Scalar.indexCast v278
  let c0_151 : Index := 0#32
  ![v290.toNat, v291.toNat, v292.toNat, 0]

def k0_chk20 (v261 : BitVec 32) (v265 : BitVec 32) (v280 : BitVec 32) (v283 : BitVec 32) : Prop :=
  (∀ a, (k0_off29 v261 v265 v280 v283) a + S1x1x32x256.size a ≤ S5x50x50x256.size a)
theorem k0_off29_inb : ∀ (v261 : BitVec 32) (v265 : BitVec 32) (v280 : BitVec 32) (v283 : BitVec 32) (k0_hw20 : k0_chk20 v261 v265 v280 v283), ∀ a, (k0_off29 v261 v265 v280 v283) a + S1x1x32x256.size a ≤ S5x50x50x256.size a := fun v261 v265 v280 v283 k0_hw20 => k0_hw20

def k0_off30 : Fin 4 → Nat :=
  let c0_154 : Index := 0#32
  let c0_i32 : BitVec 32 := 0#32
  let c128_i32_134 : BitVec 32 := 128#32
  let v254 : BitVec 32 := Scalar.muli c0_i32 c128_i32_134
  let c4_i32_135 : BitVec 32 := 4#32
  let v255 : BitVec 32 := Scalar.addi v254 c4_i32_135
  let v304 : Index := Scalar.indexCast v255
  let c0_155 : Index := 0#32
  let c0_156 : Index := 0#32
  ![0, v304.toNat, 0, 0]
def k0_off31 (i : grid0.Coords) (c0_i32_160 : BitVec 32) : Fin 1 → Nat :=
  let arg0 : BitVec 32 := BitVec.ofNat 32 (i 0).val
  let c128_i32_158 : BitVec 32 := 128#32
  let v310 : BitVec 32 := Scalar.muli arg0 c128_i32_158
  let c0_i32 : BitVec 32 := 0#32
  let c128_i32_157 : BitVec 32 := 128#32
  let v308 : BitVec 32 := Scalar.muli c0_i32 c128_i32_157
  let c5_i32 : BitVec 32 := 5#32
  let v309 : BitVec 32 := Scalar.addi v308 c5_i32
  let v311 : BitVec 32 := Scalar.addi v310 v309
  let c4_i32_159 : BitVec 32 := 4#32
  let v312 : BitVec 32 := Scalar.muli v311 c4_i32_159
  let v313 : BitVec 32 := Scalar.addi v312 c0_i32_160
  let v314 : Index := Scalar.indexCast v313
  ![v314.toNat]
def k0_mult6 (v315 : BitVec 32) : BitVec 32 :=
  let c4_i32_161 : BitVec 32 := 4#32
  let v316 : BitVec 32 := Scalar.shrsi v315 c4_i32_161
  let c3_i32_168 : BitVec 32 := 3#32
  let v329 : BitVec 32 := Scalar.shrsi v316 c3_i32_168
  let c3_i32_169 : BitVec 32 := 3#32
  let v330 : BitVec 32 := Scalar.shli v329 c3_i32_169
  let c16_i32_170 : BitVec 32 := 16#32
  let v331 : BitVec 32 := Scalar.minsi v330 c16_i32_170
  v331

def k0_chk21 (v315 : BitVec 32) : Prop :=
  (8 ∣ (k0_mult6 v315).toNat)
theorem k0_mult6_dvd : ∀ (v315 : BitVec 32) (k0_hw21 : k0_chk21 v315), 8 ∣ (k0_mult6 v315).toNat := fun v315 k0_hw21 => k0_hw21

def k0_off32 (v327 : BitVec 32) : Fin 1 → Nat :=
  let c4_i32_167 : BitVec 32 := 4#32
  let v328 : BitVec 32 := Scalar.shrsi v327 c4_i32_167
  let v333 : Index := Scalar.indexCast v328
  ![v333.toNat]

def k0_off33 (v327 : BitVec 32) : Fin 1 → Nat :=
  let c32_i32_171 : BitVec 32 := 32#32
  let c4_i32_167 : BitVec 32 := 4#32
  let v328 : BitVec 32 := Scalar.shrsi v327 c4_i32_167
  let v335 : BitVec 32 := Scalar.addi c32_i32_171 v328
  let v336 : Index := Scalar.indexCast v335
  ![v336.toNat]

def k0_chk22 (v327 : BitVec 32) : Prop :=
  (∀ a, (k0_off32 v327) a + S1.size a ≤ S64.size a) ∧
  (∀ a, (k0_off33 v327) a + S1.size a ≤ S64.size a)
theorem k0_off32_inb : ∀ (v327 : BitVec 32) (k0_hw22 : k0_chk22 v327), ∀ a, (k0_off32 v327) a + S1.size a ≤ S64.size a := fun v327 k0_hw22 => k0_hw22.1
theorem k0_off33_inb : ∀ (v327 : BitVec 32) (k0_hw22 : k0_chk22 v327), ∀ a, (k0_off33 v327) a + S1.size a ≤ S64.size a := fun v327 k0_hw22 => k0_hw22.2

def k0_off34 (v315 : BitVec 32) (v319 : BitVec 32) (v334 : BitVec 32) : Fin 4 → Nat :=
  let v339 : Index := Scalar.indexCast v334
  let c4_i32_163 : BitVec 32 := 4#32
  let v320 : BitVec 32 := Scalar.shrsi v319 c4_i32_163
  let v340 : Index := Scalar.indexCast v320
  let c4_i32_161 : BitVec 32 := 4#32
  let v316 : BitVec 32 := Scalar.shrsi v315 c4_i32_161
  let c3_i32_168 : BitVec 32 := 3#32
  let v329 : BitVec 32 := Scalar.shrsi v316 c3_i32_168
  let c3_i32_169 : BitVec 32 := 3#32
  let v330 : BitVec 32 := Scalar.shli v329 c3_i32_169
  let c16_i32_170 : BitVec 32 := 16#32
  let v331 : BitVec 32 := Scalar.minsi v330 c16_i32_170
  let v332 : BitVec 32 := v331
  let v341 : Index := Scalar.indexCast v332
  let c0_172 : Index := 0#32
  ![v339.toNat, v340.toNat, v341.toNat, 0]

def k0_chk23 (v315 : BitVec 32) (v319 : BitVec 32) (v334 : BitVec 32) : Prop :=
  (∀ a, (k0_off34 v315 v319 v334) a + S1x1x32x256.size a ≤ S5x50x50x256.size a)
theorem k0_off34_inb : ∀ (v315 : BitVec 32) (v319 : BitVec 32) (v334 : BitVec 32) (k0_hw23 : k0_chk23 v315 v319 v334), ∀ a, (k0_off34 v315 v319 v334) a + S1x1x32x256.size a ≤ S5x50x50x256.size a := fun v315 v319 v334 k0_hw23 => k0_hw23

def k0_off35 (v315 : BitVec 32) (v319 : BitVec 32) (v334 : BitVec 32) (v337 : BitVec 32) : Fin 4 → Nat :=
  let v344 : Index := Scalar.indexCast v334
  let c4_i32_163 : BitVec 32 := 4#32
  let v320 : BitVec 32 := Scalar.shrsi v319 c4_i32_163
  let v338 : BitVec 32 := Scalar.addi v320 v337
  let v345 : Index := Scalar.indexCast v338
  let c4_i32_161 : BitVec 32 := 4#32
  let v316 : BitVec 32 := Scalar.shrsi v315 c4_i32_161
  let c3_i32_168 : BitVec 32 := 3#32
  let v329 : BitVec 32 := Scalar.shrsi v316 c3_i32_168
  let c3_i32_169 : BitVec 32 := 3#32
  let v330 : BitVec 32 := Scalar.shli v329 c3_i32_169
  let c16_i32_170 : BitVec 32 := 16#32
  let v331 : BitVec 32 := Scalar.minsi v330 c16_i32_170
  let v332 : BitVec 32 := v331
  let v346 : Index := Scalar.indexCast v332
  let c0_173 : Index := 0#32
  ![v344.toNat, v345.toNat, v346.toNat, 0]

def k0_chk24 (v315 : BitVec 32) (v319 : BitVec 32) (v334 : BitVec 32) (v337 : BitVec 32) : Prop :=
  (∀ a, (k0_off35 v315 v319 v334 v337) a + S1x1x32x256.size a ≤ S5x50x50x256.size a)
theorem k0_off35_inb : ∀ (v315 : BitVec 32) (v319 : BitVec 32) (v334 : BitVec 32) (v337 : BitVec 32) (k0_hw24 : k0_chk24 v315 v319 v334 v337), ∀ a, (k0_off35 v315 v319 v334 v337) a + S1x1x32x256.size a ≤ S5x50x50x256.size a := fun v315 v319 v334 v337 k0_hw24 => k0_hw24

def k0_off36 : Fin 4 → Nat :=
  let c0_176 : Index := 0#32
  let c0_i32 : BitVec 32 := 0#32
  let c128_i32_157 : BitVec 32 := 128#32
  let v308 : BitVec 32 := Scalar.muli c0_i32 c128_i32_157
  let c5_i32 : BitVec 32 := 5#32
  let v309 : BitVec 32 := Scalar.addi v308 c5_i32
  let v358 : Index := Scalar.indexCast v309
  let c0_177 : Index := 0#32
  let c0_178 : Index := 0#32
  ![0, v358.toNat, 0, 0]
def k0_off37 (i : grid0.Coords) (c0_i32_182 : BitVec 32) : Fin 1 → Nat :=
  let arg0 : BitVec 32 := BitVec.ofNat 32 (i 0).val
  let c128_i32_180 : BitVec 32 := 128#32
  let v364 : BitVec 32 := Scalar.muli arg0 c128_i32_180
  let c0_i32 : BitVec 32 := 0#32
  let c128_i32_179 : BitVec 32 := 128#32
  let v362 : BitVec 32 := Scalar.muli c0_i32 c128_i32_179
  let c6_i32 : BitVec 32 := 6#32
  let v363 : BitVec 32 := Scalar.addi v362 c6_i32
  let v365 : BitVec 32 := Scalar.addi v364 v363
  let c4_i32_181 : BitVec 32 := 4#32
  let v366 : BitVec 32 := Scalar.muli v365 c4_i32_181
  let v367 : BitVec 32 := Scalar.addi v366 c0_i32_182
  let v368 : Index := Scalar.indexCast v367
  ![v368.toNat]
def k0_mult7 (v369 : BitVec 32) : BitVec 32 :=
  let c4_i32_183 : BitVec 32 := 4#32
  let v370 : BitVec 32 := Scalar.shrsi v369 c4_i32_183
  let c3_i32_190 : BitVec 32 := 3#32
  let v383 : BitVec 32 := Scalar.shrsi v370 c3_i32_190
  let c3_i32_191 : BitVec 32 := 3#32
  let v384 : BitVec 32 := Scalar.shli v383 c3_i32_191
  let c16_i32_192 : BitVec 32 := 16#32
  let v385 : BitVec 32 := Scalar.minsi v384 c16_i32_192
  v385

def k0_chk25 (v369 : BitVec 32) : Prop :=
  (8 ∣ (k0_mult7 v369).toNat)
theorem k0_mult7_dvd : ∀ (v369 : BitVec 32) (k0_hw25 : k0_chk25 v369), 8 ∣ (k0_mult7 v369).toNat := fun v369 k0_hw25 => k0_hw25

def k0_off38 (v381 : BitVec 32) : Fin 1 → Nat :=
  let c4_i32_189 : BitVec 32 := 4#32
  let v382 : BitVec 32 := Scalar.shrsi v381 c4_i32_189
  let v387 : Index := Scalar.indexCast v382
  ![v387.toNat]

def k0_off39 (v381 : BitVec 32) : Fin 1 → Nat :=
  let c32_i32_193 : BitVec 32 := 32#32
  let c4_i32_189 : BitVec 32 := 4#32
  let v382 : BitVec 32 := Scalar.shrsi v381 c4_i32_189
  let v389 : BitVec 32 := Scalar.addi c32_i32_193 v382
  let v390 : Index := Scalar.indexCast v389
  ![v390.toNat]

def k0_chk26 (v381 : BitVec 32) : Prop :=
  (∀ a, (k0_off38 v381) a + S1.size a ≤ S64.size a) ∧
  (∀ a, (k0_off39 v381) a + S1.size a ≤ S64.size a)
theorem k0_off38_inb : ∀ (v381 : BitVec 32) (k0_hw26 : k0_chk26 v381), ∀ a, (k0_off38 v381) a + S1.size a ≤ S64.size a := fun v381 k0_hw26 => k0_hw26.1
theorem k0_off39_inb : ∀ (v381 : BitVec 32) (k0_hw26 : k0_chk26 v381), ∀ a, (k0_off39 v381) a + S1.size a ≤ S64.size a := fun v381 k0_hw26 => k0_hw26.2

def k0_off40 (v369 : BitVec 32) (v373 : BitVec 32) (v388 : BitVec 32) : Fin 4 → Nat :=
  let v393 : Index := Scalar.indexCast v388
  let c4_i32_185 : BitVec 32 := 4#32
  let v374 : BitVec 32 := Scalar.shrsi v373 c4_i32_185
  let v394 : Index := Scalar.indexCast v374
  let c4_i32_183 : BitVec 32 := 4#32
  let v370 : BitVec 32 := Scalar.shrsi v369 c4_i32_183
  let c3_i32_190 : BitVec 32 := 3#32
  let v383 : BitVec 32 := Scalar.shrsi v370 c3_i32_190
  let c3_i32_191 : BitVec 32 := 3#32
  let v384 : BitVec 32 := Scalar.shli v383 c3_i32_191
  let c16_i32_192 : BitVec 32 := 16#32
  let v385 : BitVec 32 := Scalar.minsi v384 c16_i32_192
  let v386 : BitVec 32 := v385
  let v395 : Index := Scalar.indexCast v386
  let c0_194 : Index := 0#32
  ![v393.toNat, v394.toNat, v395.toNat, 0]

def k0_chk27 (v369 : BitVec 32) (v373 : BitVec 32) (v388 : BitVec 32) : Prop :=
  (∀ a, (k0_off40 v369 v373 v388) a + S1x1x32x256.size a ≤ S5x50x50x256.size a)
theorem k0_off40_inb : ∀ (v369 : BitVec 32) (v373 : BitVec 32) (v388 : BitVec 32) (k0_hw27 : k0_chk27 v369 v373 v388), ∀ a, (k0_off40 v369 v373 v388) a + S1x1x32x256.size a ≤ S5x50x50x256.size a := fun v369 v373 v388 k0_hw27 => k0_hw27

def k0_off41 (v369 : BitVec 32) (v373 : BitVec 32) (v388 : BitVec 32) (v391 : BitVec 32) : Fin 4 → Nat :=
  let v398 : Index := Scalar.indexCast v388
  let c4_i32_185 : BitVec 32 := 4#32
  let v374 : BitVec 32 := Scalar.shrsi v373 c4_i32_185
  let v392 : BitVec 32 := Scalar.addi v374 v391
  let v399 : Index := Scalar.indexCast v392
  let c4_i32_183 : BitVec 32 := 4#32
  let v370 : BitVec 32 := Scalar.shrsi v369 c4_i32_183
  let c3_i32_190 : BitVec 32 := 3#32
  let v383 : BitVec 32 := Scalar.shrsi v370 c3_i32_190
  let c3_i32_191 : BitVec 32 := 3#32
  let v384 : BitVec 32 := Scalar.shli v383 c3_i32_191
  let c16_i32_192 : BitVec 32 := 16#32
  let v385 : BitVec 32 := Scalar.minsi v384 c16_i32_192
  let v386 : BitVec 32 := v385
  let v400 : Index := Scalar.indexCast v386
  let c0_195 : Index := 0#32
  ![v398.toNat, v399.toNat, v400.toNat, 0]

def k0_chk28 (v369 : BitVec 32) (v373 : BitVec 32) (v388 : BitVec 32) (v391 : BitVec 32) : Prop :=
  (∀ a, (k0_off41 v369 v373 v388 v391) a + S1x1x32x256.size a ≤ S5x50x50x256.size a)
theorem k0_off41_inb : ∀ (v369 : BitVec 32) (v373 : BitVec 32) (v388 : BitVec 32) (v391 : BitVec 32) (k0_hw28 : k0_chk28 v369 v373 v388 v391), ∀ a, (k0_off41 v369 v373 v388 v391) a + S1x1x32x256.size a ≤ S5x50x50x256.size a := fun v369 v373 v388 v391 k0_hw28 => k0_hw28

def k0_off42 : Fin 4 → Nat :=
  let c0_198 : Index := 0#32
  let c0_i32 : BitVec 32 := 0#32
  let c128_i32_179 : BitVec 32 := 128#32
  let v362 : BitVec 32 := Scalar.muli c0_i32 c128_i32_179
  let c6_i32 : BitVec 32 := 6#32
  let v363 : BitVec 32 := Scalar.addi v362 c6_i32
  let v412 : Index := Scalar.indexCast v363
  let c0_199 : Index := 0#32
  let c0_200 : Index := 0#32
  ![0, v412.toNat, 0, 0]
def k0_off43 (i : grid0.Coords) (c0_i32_204 : BitVec 32) : Fin 1 → Nat :=
  let arg0 : BitVec 32 := BitVec.ofNat 32 (i 0).val
  let c128_i32_202 : BitVec 32 := 128#32
  let v418 : BitVec 32 := Scalar.muli arg0 c128_i32_202
  let c0_i32 : BitVec 32 := 0#32
  let c128_i32_201 : BitVec 32 := 128#32
  let v416 : BitVec 32 := Scalar.muli c0_i32 c128_i32_201
  let c7_i32 : BitVec 32 := 7#32
  let v417 : BitVec 32 := Scalar.addi v416 c7_i32
  let v419 : BitVec 32 := Scalar.addi v418 v417
  let c4_i32_203 : BitVec 32 := 4#32
  let v420 : BitVec 32 := Scalar.muli v419 c4_i32_203
  let v421 : BitVec 32 := Scalar.addi v420 c0_i32_204
  let v422 : Index := Scalar.indexCast v421
  ![v422.toNat]
def k0_mult8 (v423 : BitVec 32) : BitVec 32 :=
  let c4_i32_205 : BitVec 32 := 4#32
  let v424 : BitVec 32 := Scalar.shrsi v423 c4_i32_205
  let c3_i32_212 : BitVec 32 := 3#32
  let v437 : BitVec 32 := Scalar.shrsi v424 c3_i32_212
  let c3_i32_213 : BitVec 32 := 3#32
  let v438 : BitVec 32 := Scalar.shli v437 c3_i32_213
  let c16_i32_214 : BitVec 32 := 16#32
  let v439 : BitVec 32 := Scalar.minsi v438 c16_i32_214
  v439

def k0_chk29 (v423 : BitVec 32) : Prop :=
  (8 ∣ (k0_mult8 v423).toNat)
theorem k0_mult8_dvd : ∀ (v423 : BitVec 32) (k0_hw29 : k0_chk29 v423), 8 ∣ (k0_mult8 v423).toNat := fun v423 k0_hw29 => k0_hw29

def k0_off44 (v435 : BitVec 32) : Fin 1 → Nat :=
  let c4_i32_211 : BitVec 32 := 4#32
  let v436 : BitVec 32 := Scalar.shrsi v435 c4_i32_211
  let v441 : Index := Scalar.indexCast v436
  ![v441.toNat]

def k0_off45 (v435 : BitVec 32) : Fin 1 → Nat :=
  let c32_i32_215 : BitVec 32 := 32#32
  let c4_i32_211 : BitVec 32 := 4#32
  let v436 : BitVec 32 := Scalar.shrsi v435 c4_i32_211
  let v443 : BitVec 32 := Scalar.addi c32_i32_215 v436
  let v444 : Index := Scalar.indexCast v443
  ![v444.toNat]

def k0_chk30 (v435 : BitVec 32) : Prop :=
  (∀ a, (k0_off44 v435) a + S1.size a ≤ S64.size a) ∧
  (∀ a, (k0_off45 v435) a + S1.size a ≤ S64.size a)
theorem k0_off44_inb : ∀ (v435 : BitVec 32) (k0_hw30 : k0_chk30 v435), ∀ a, (k0_off44 v435) a + S1.size a ≤ S64.size a := fun v435 k0_hw30 => k0_hw30.1
theorem k0_off45_inb : ∀ (v435 : BitVec 32) (k0_hw30 : k0_chk30 v435), ∀ a, (k0_off45 v435) a + S1.size a ≤ S64.size a := fun v435 k0_hw30 => k0_hw30.2

def k0_off46 (v423 : BitVec 32) (v427 : BitVec 32) (v442 : BitVec 32) : Fin 4 → Nat :=
  let v447 : Index := Scalar.indexCast v442
  let c4_i32_207 : BitVec 32 := 4#32
  let v428 : BitVec 32 := Scalar.shrsi v427 c4_i32_207
  let v448 : Index := Scalar.indexCast v428
  let c4_i32_205 : BitVec 32 := 4#32
  let v424 : BitVec 32 := Scalar.shrsi v423 c4_i32_205
  let c3_i32_212 : BitVec 32 := 3#32
  let v437 : BitVec 32 := Scalar.shrsi v424 c3_i32_212
  let c3_i32_213 : BitVec 32 := 3#32
  let v438 : BitVec 32 := Scalar.shli v437 c3_i32_213
  let c16_i32_214 : BitVec 32 := 16#32
  let v439 : BitVec 32 := Scalar.minsi v438 c16_i32_214
  let v440 : BitVec 32 := v439
  let v449 : Index := Scalar.indexCast v440
  let c0_216 : Index := 0#32
  ![v447.toNat, v448.toNat, v449.toNat, 0]

def k0_chk31 (v423 : BitVec 32) (v427 : BitVec 32) (v442 : BitVec 32) : Prop :=
  (∀ a, (k0_off46 v423 v427 v442) a + S1x1x32x256.size a ≤ S5x50x50x256.size a)
theorem k0_off46_inb : ∀ (v423 : BitVec 32) (v427 : BitVec 32) (v442 : BitVec 32) (k0_hw31 : k0_chk31 v423 v427 v442), ∀ a, (k0_off46 v423 v427 v442) a + S1x1x32x256.size a ≤ S5x50x50x256.size a := fun v423 v427 v442 k0_hw31 => k0_hw31

def k0_off47 (v423 : BitVec 32) (v427 : BitVec 32) (v442 : BitVec 32) (v445 : BitVec 32) : Fin 4 → Nat :=
  let v452 : Index := Scalar.indexCast v442
  let c4_i32_207 : BitVec 32 := 4#32
  let v428 : BitVec 32 := Scalar.shrsi v427 c4_i32_207
  let v446 : BitVec 32 := Scalar.addi v428 v445
  let v453 : Index := Scalar.indexCast v446
  let c4_i32_205 : BitVec 32 := 4#32
  let v424 : BitVec 32 := Scalar.shrsi v423 c4_i32_205
  let c3_i32_212 : BitVec 32 := 3#32
  let v437 : BitVec 32 := Scalar.shrsi v424 c3_i32_212
  let c3_i32_213 : BitVec 32 := 3#32
  let v438 : BitVec 32 := Scalar.shli v437 c3_i32_213
  let c16_i32_214 : BitVec 32 := 16#32
  let v439 : BitVec 32 := Scalar.minsi v438 c16_i32_214
  let v440 : BitVec 32 := v439
  let v454 : Index := Scalar.indexCast v440
  let c0_217 : Index := 0#32
  ![v452.toNat, v453.toNat, v454.toNat, 0]

def k0_chk32 (v423 : BitVec 32) (v427 : BitVec 32) (v442 : BitVec 32) (v445 : BitVec 32) : Prop :=
  (∀ a, (k0_off47 v423 v427 v442 v445) a + S1x1x32x256.size a ≤ S5x50x50x256.size a)
theorem k0_off47_inb : ∀ (v423 : BitVec 32) (v427 : BitVec 32) (v442 : BitVec 32) (v445 : BitVec 32) (k0_hw32 : k0_chk32 v423 v427 v442 v445), ∀ a, (k0_off47 v423 v427 v442 v445) a + S1x1x32x256.size a ≤ S5x50x50x256.size a := fun v423 v427 v442 v445 k0_hw32 => k0_hw32

def k0_off48 : Fin 4 → Nat :=
  let c0_220 : Index := 0#32
  let c0_i32 : BitVec 32 := 0#32
  let c128_i32_201 : BitVec 32 := 128#32
  let v416 : BitVec 32 := Scalar.muli c0_i32 c128_i32_201
  let c7_i32 : BitVec 32 := 7#32
  let v417 : BitVec 32 := Scalar.addi v416 c7_i32
  let v466 : Index := Scalar.indexCast v417
  let c0_221 : Index := 0#32
  let c0_222 : Index := 0#32
  ![0, v466.toNat, 0, 0]
def k0_off49 (i : grid0.Coords) (c0_i32_226 : BitVec 32) : Fin 1 → Nat :=
  let arg0 : BitVec 32 := BitVec.ofNat 32 (i 0).val
  let c128_i32_224 : BitVec 32 := 128#32
  let v472 : BitVec 32 := Scalar.muli arg0 c128_i32_224
  let c0_i32 : BitVec 32 := 0#32
  let c128_i32_223 : BitVec 32 := 128#32
  let v470 : BitVec 32 := Scalar.muli c0_i32 c128_i32_223
  let c8_i32 : BitVec 32 := 8#32
  let v471 : BitVec 32 := Scalar.addi v470 c8_i32
  let v473 : BitVec 32 := Scalar.addi v472 v471
  let c4_i32_225 : BitVec 32 := 4#32
  let v474 : BitVec 32 := Scalar.muli v473 c4_i32_225
  let v475 : BitVec 32 := Scalar.addi v474 c0_i32_226
  let v476 : Index := Scalar.indexCast v475
  ![v476.toNat]
def k0_mult9 (v477 : BitVec 32) : BitVec 32 :=
  let c4_i32_227 : BitVec 32 := 4#32
  let v478 : BitVec 32 := Scalar.shrsi v477 c4_i32_227
  let c3_i32_234 : BitVec 32 := 3#32
  let v491 : BitVec 32 := Scalar.shrsi v478 c3_i32_234
  let c3_i32_235 : BitVec 32 := 3#32
  let v492 : BitVec 32 := Scalar.shli v491 c3_i32_235
  let c16_i32_236 : BitVec 32 := 16#32
  let v493 : BitVec 32 := Scalar.minsi v492 c16_i32_236
  v493

def k0_chk33 (v477 : BitVec 32) : Prop :=
  (8 ∣ (k0_mult9 v477).toNat)
theorem k0_mult9_dvd : ∀ (v477 : BitVec 32) (k0_hw33 : k0_chk33 v477), 8 ∣ (k0_mult9 v477).toNat := fun v477 k0_hw33 => k0_hw33

def k0_off50 (v489 : BitVec 32) : Fin 1 → Nat :=
  let c4_i32_233 : BitVec 32 := 4#32
  let v490 : BitVec 32 := Scalar.shrsi v489 c4_i32_233
  let v495 : Index := Scalar.indexCast v490
  ![v495.toNat]

def k0_off51 (v489 : BitVec 32) : Fin 1 → Nat :=
  let c32_i32_237 : BitVec 32 := 32#32
  let c4_i32_233 : BitVec 32 := 4#32
  let v490 : BitVec 32 := Scalar.shrsi v489 c4_i32_233
  let v497 : BitVec 32 := Scalar.addi c32_i32_237 v490
  let v498 : Index := Scalar.indexCast v497
  ![v498.toNat]

def k0_chk34 (v489 : BitVec 32) : Prop :=
  (∀ a, (k0_off50 v489) a + S1.size a ≤ S64.size a) ∧
  (∀ a, (k0_off51 v489) a + S1.size a ≤ S64.size a)
theorem k0_off50_inb : ∀ (v489 : BitVec 32) (k0_hw34 : k0_chk34 v489), ∀ a, (k0_off50 v489) a + S1.size a ≤ S64.size a := fun v489 k0_hw34 => k0_hw34.1
theorem k0_off51_inb : ∀ (v489 : BitVec 32) (k0_hw34 : k0_chk34 v489), ∀ a, (k0_off51 v489) a + S1.size a ≤ S64.size a := fun v489 k0_hw34 => k0_hw34.2

def k0_off52 (v477 : BitVec 32) (v481 : BitVec 32) (v496 : BitVec 32) : Fin 4 → Nat :=
  let v501 : Index := Scalar.indexCast v496
  let c4_i32_229 : BitVec 32 := 4#32
  let v482 : BitVec 32 := Scalar.shrsi v481 c4_i32_229
  let v502 : Index := Scalar.indexCast v482
  let c4_i32_227 : BitVec 32 := 4#32
  let v478 : BitVec 32 := Scalar.shrsi v477 c4_i32_227
  let c3_i32_234 : BitVec 32 := 3#32
  let v491 : BitVec 32 := Scalar.shrsi v478 c3_i32_234
  let c3_i32_235 : BitVec 32 := 3#32
  let v492 : BitVec 32 := Scalar.shli v491 c3_i32_235
  let c16_i32_236 : BitVec 32 := 16#32
  let v493 : BitVec 32 := Scalar.minsi v492 c16_i32_236
  let v494 : BitVec 32 := v493
  let v503 : Index := Scalar.indexCast v494
  let c0_238 : Index := 0#32
  ![v501.toNat, v502.toNat, v503.toNat, 0]

def k0_chk35 (v477 : BitVec 32) (v481 : BitVec 32) (v496 : BitVec 32) : Prop :=
  (∀ a, (k0_off52 v477 v481 v496) a + S1x1x32x256.size a ≤ S5x50x50x256.size a)
theorem k0_off52_inb : ∀ (v477 : BitVec 32) (v481 : BitVec 32) (v496 : BitVec 32) (k0_hw35 : k0_chk35 v477 v481 v496), ∀ a, (k0_off52 v477 v481 v496) a + S1x1x32x256.size a ≤ S5x50x50x256.size a := fun v477 v481 v496 k0_hw35 => k0_hw35

def k0_off53 (v477 : BitVec 32) (v481 : BitVec 32) (v496 : BitVec 32) (v499 : BitVec 32) : Fin 4 → Nat :=
  let v506 : Index := Scalar.indexCast v496
  let c4_i32_229 : BitVec 32 := 4#32
  let v482 : BitVec 32 := Scalar.shrsi v481 c4_i32_229
  let v500 : BitVec 32 := Scalar.addi v482 v499
  let v507 : Index := Scalar.indexCast v500
  let c4_i32_227 : BitVec 32 := 4#32
  let v478 : BitVec 32 := Scalar.shrsi v477 c4_i32_227
  let c3_i32_234 : BitVec 32 := 3#32
  let v491 : BitVec 32 := Scalar.shrsi v478 c3_i32_234
  let c3_i32_235 : BitVec 32 := 3#32
  let v492 : BitVec 32 := Scalar.shli v491 c3_i32_235
  let c16_i32_236 : BitVec 32 := 16#32
  let v493 : BitVec 32 := Scalar.minsi v492 c16_i32_236
  let v494 : BitVec 32 := v493
  let v508 : Index := Scalar.indexCast v494
  let c0_239 : Index := 0#32
  ![v506.toNat, v507.toNat, v508.toNat, 0]

def k0_chk36 (v477 : BitVec 32) (v481 : BitVec 32) (v496 : BitVec 32) (v499 : BitVec 32) : Prop :=
  (∀ a, (k0_off53 v477 v481 v496 v499) a + S1x1x32x256.size a ≤ S5x50x50x256.size a)
theorem k0_off53_inb : ∀ (v477 : BitVec 32) (v481 : BitVec 32) (v496 : BitVec 32) (v499 : BitVec 32) (k0_hw36 : k0_chk36 v477 v481 v496 v499), ∀ a, (k0_off53 v477 v481 v496 v499) a + S1x1x32x256.size a ≤ S5x50x50x256.size a := fun v477 v481 v496 v499 k0_hw36 => k0_hw36

def k0_off54 : Fin 4 → Nat :=
  let c0_242 : Index := 0#32
  let c0_i32 : BitVec 32 := 0#32
  let c128_i32_223 : BitVec 32 := 128#32
  let v470 : BitVec 32 := Scalar.muli c0_i32 c128_i32_223
  let c8_i32 : BitVec 32 := 8#32
  let v471 : BitVec 32 := Scalar.addi v470 c8_i32
  let v520 : Index := Scalar.indexCast v471
  let c0_243 : Index := 0#32
  let c0_244 : Index := 0#32
  ![0, v520.toNat, 0, 0]
def k0_off55 (i : grid0.Coords) (c0_i32_248 : BitVec 32) : Fin 1 → Nat :=
  let arg0 : BitVec 32 := BitVec.ofNat 32 (i 0).val
  let c128_i32_246 : BitVec 32 := 128#32
  let v526 : BitVec 32 := Scalar.muli arg0 c128_i32_246
  let c0_i32 : BitVec 32 := 0#32
  let c128_i32_245 : BitVec 32 := 128#32
  let v524 : BitVec 32 := Scalar.muli c0_i32 c128_i32_245
  let c9_i32 : BitVec 32 := 9#32
  let v525 : BitVec 32 := Scalar.addi v524 c9_i32
  let v527 : BitVec 32 := Scalar.addi v526 v525
  let c4_i32_247 : BitVec 32 := 4#32
  let v528 : BitVec 32 := Scalar.muli v527 c4_i32_247
  let v529 : BitVec 32 := Scalar.addi v528 c0_i32_248
  let v530 : Index := Scalar.indexCast v529
  ![v530.toNat]
def k0_mult10 (v531 : BitVec 32) : BitVec 32 :=
  let c4_i32_249 : BitVec 32 := 4#32
  let v532 : BitVec 32 := Scalar.shrsi v531 c4_i32_249
  let c3_i32_256 : BitVec 32 := 3#32
  let v545 : BitVec 32 := Scalar.shrsi v532 c3_i32_256
  let c3_i32_257 : BitVec 32 := 3#32
  let v546 : BitVec 32 := Scalar.shli v545 c3_i32_257
  let c16_i32_258 : BitVec 32 := 16#32
  let v547 : BitVec 32 := Scalar.minsi v546 c16_i32_258
  v547

def k0_chk37 (v531 : BitVec 32) : Prop :=
  (8 ∣ (k0_mult10 v531).toNat)
theorem k0_mult10_dvd : ∀ (v531 : BitVec 32) (k0_hw37 : k0_chk37 v531), 8 ∣ (k0_mult10 v531).toNat := fun v531 k0_hw37 => k0_hw37

def k0_off56 (v543 : BitVec 32) : Fin 1 → Nat :=
  let c4_i32_255 : BitVec 32 := 4#32
  let v544 : BitVec 32 := Scalar.shrsi v543 c4_i32_255
  let v549 : Index := Scalar.indexCast v544
  ![v549.toNat]

def k0_off57 (v543 : BitVec 32) : Fin 1 → Nat :=
  let c32_i32_259 : BitVec 32 := 32#32
  let c4_i32_255 : BitVec 32 := 4#32
  let v544 : BitVec 32 := Scalar.shrsi v543 c4_i32_255
  let v551 : BitVec 32 := Scalar.addi c32_i32_259 v544
  let v552 : Index := Scalar.indexCast v551
  ![v552.toNat]

def k0_chk38 (v543 : BitVec 32) : Prop :=
  (∀ a, (k0_off56 v543) a + S1.size a ≤ S64.size a) ∧
  (∀ a, (k0_off57 v543) a + S1.size a ≤ S64.size a)
theorem k0_off56_inb : ∀ (v543 : BitVec 32) (k0_hw38 : k0_chk38 v543), ∀ a, (k0_off56 v543) a + S1.size a ≤ S64.size a := fun v543 k0_hw38 => k0_hw38.1
theorem k0_off57_inb : ∀ (v543 : BitVec 32) (k0_hw38 : k0_chk38 v543), ∀ a, (k0_off57 v543) a + S1.size a ≤ S64.size a := fun v543 k0_hw38 => k0_hw38.2

def k0_off58 (v531 : BitVec 32) (v535 : BitVec 32) (v550 : BitVec 32) : Fin 4 → Nat :=
  let v555 : Index := Scalar.indexCast v550
  let c4_i32_251 : BitVec 32 := 4#32
  let v536 : BitVec 32 := Scalar.shrsi v535 c4_i32_251
  let v556 : Index := Scalar.indexCast v536
  let c4_i32_249 : BitVec 32 := 4#32
  let v532 : BitVec 32 := Scalar.shrsi v531 c4_i32_249
  let c3_i32_256 : BitVec 32 := 3#32
  let v545 : BitVec 32 := Scalar.shrsi v532 c3_i32_256
  let c3_i32_257 : BitVec 32 := 3#32
  let v546 : BitVec 32 := Scalar.shli v545 c3_i32_257
  let c16_i32_258 : BitVec 32 := 16#32
  let v547 : BitVec 32 := Scalar.minsi v546 c16_i32_258
  let v548 : BitVec 32 := v547
  let v557 : Index := Scalar.indexCast v548
  let c0_260 : Index := 0#32
  ![v555.toNat, v556.toNat, v557.toNat, 0]

def k0_chk39 (v531 : BitVec 32) (v535 : BitVec 32) (v550 : BitVec 32) : Prop :=
  (∀ a, (k0_off58 v531 v535 v550) a + S1x1x32x256.size a ≤ S5x50x50x256.size a)
theorem k0_off58_inb : ∀ (v531 : BitVec 32) (v535 : BitVec 32) (v550 : BitVec 32) (k0_hw39 : k0_chk39 v531 v535 v550), ∀ a, (k0_off58 v531 v535 v550) a + S1x1x32x256.size a ≤ S5x50x50x256.size a := fun v531 v535 v550 k0_hw39 => k0_hw39

def k0_off59 (v531 : BitVec 32) (v535 : BitVec 32) (v550 : BitVec 32) (v553 : BitVec 32) : Fin 4 → Nat :=
  let v560 : Index := Scalar.indexCast v550
  let c4_i32_251 : BitVec 32 := 4#32
  let v536 : BitVec 32 := Scalar.shrsi v535 c4_i32_251
  let v554 : BitVec 32 := Scalar.addi v536 v553
  let v561 : Index := Scalar.indexCast v554
  let c4_i32_249 : BitVec 32 := 4#32
  let v532 : BitVec 32 := Scalar.shrsi v531 c4_i32_249
  let c3_i32_256 : BitVec 32 := 3#32
  let v545 : BitVec 32 := Scalar.shrsi v532 c3_i32_256
  let c3_i32_257 : BitVec 32 := 3#32
  let v546 : BitVec 32 := Scalar.shli v545 c3_i32_257
  let c16_i32_258 : BitVec 32 := 16#32
  let v547 : BitVec 32 := Scalar.minsi v546 c16_i32_258
  let v548 : BitVec 32 := v547
  let v562 : Index := Scalar.indexCast v548
  let c0_261 : Index := 0#32
  ![v560.toNat, v561.toNat, v562.toNat, 0]

def k0_chk40 (v531 : BitVec 32) (v535 : BitVec 32) (v550 : BitVec 32) (v553 : BitVec 32) : Prop :=
  (∀ a, (k0_off59 v531 v535 v550 v553) a + S1x1x32x256.size a ≤ S5x50x50x256.size a)
theorem k0_off59_inb : ∀ (v531 : BitVec 32) (v535 : BitVec 32) (v550 : BitVec 32) (v553 : BitVec 32) (k0_hw40 : k0_chk40 v531 v535 v550 v553), ∀ a, (k0_off59 v531 v535 v550 v553) a + S1x1x32x256.size a ≤ S5x50x50x256.size a := fun v531 v535 v550 v553 k0_hw40 => k0_hw40

def k0_off60 : Fin 4 → Nat :=
  let c0_264 : Index := 0#32
  let c0_i32 : BitVec 32 := 0#32
  let c128_i32_245 : BitVec 32 := 128#32
  let v524 : BitVec 32 := Scalar.muli c0_i32 c128_i32_245
  let c9_i32 : BitVec 32 := 9#32
  let v525 : BitVec 32 := Scalar.addi v524 c9_i32
  let v574 : Index := Scalar.indexCast v525
  let c0_265 : Index := 0#32
  let c0_266 : Index := 0#32
  ![0, v574.toNat, 0, 0]
def k0_off61 (i : grid0.Coords) (c0_i32_270 : BitVec 32) : Fin 1 → Nat :=
  let arg0 : BitVec 32 := BitVec.ofNat 32 (i 0).val
  let c128_i32_268 : BitVec 32 := 128#32
  let v580 : BitVec 32 := Scalar.muli arg0 c128_i32_268
  let c0_i32 : BitVec 32 := 0#32
  let c128_i32_267 : BitVec 32 := 128#32
  let v578 : BitVec 32 := Scalar.muli c0_i32 c128_i32_267
  let c10_i32 : BitVec 32 := 10#32
  let v579 : BitVec 32 := Scalar.addi v578 c10_i32
  let v581 : BitVec 32 := Scalar.addi v580 v579
  let c4_i32_269 : BitVec 32 := 4#32
  let v582 : BitVec 32 := Scalar.muli v581 c4_i32_269
  let v583 : BitVec 32 := Scalar.addi v582 c0_i32_270
  let v584 : Index := Scalar.indexCast v583
  ![v584.toNat]
def k0_mult11 (v585 : BitVec 32) : BitVec 32 :=
  let c4_i32_271 : BitVec 32 := 4#32
  let v586 : BitVec 32 := Scalar.shrsi v585 c4_i32_271
  let c3_i32_278 : BitVec 32 := 3#32
  let v599 : BitVec 32 := Scalar.shrsi v586 c3_i32_278
  let c3_i32_279 : BitVec 32 := 3#32
  let v600 : BitVec 32 := Scalar.shli v599 c3_i32_279
  let c16_i32_280 : BitVec 32 := 16#32
  let v601 : BitVec 32 := Scalar.minsi v600 c16_i32_280
  v601

def k0_chk41 (v585 : BitVec 32) : Prop :=
  (8 ∣ (k0_mult11 v585).toNat)
theorem k0_mult11_dvd : ∀ (v585 : BitVec 32) (k0_hw41 : k0_chk41 v585), 8 ∣ (k0_mult11 v585).toNat := fun v585 k0_hw41 => k0_hw41

def k0_off62 (v597 : BitVec 32) : Fin 1 → Nat :=
  let c4_i32_277 : BitVec 32 := 4#32
  let v598 : BitVec 32 := Scalar.shrsi v597 c4_i32_277
  let v603 : Index := Scalar.indexCast v598
  ![v603.toNat]

def k0_off63 (v597 : BitVec 32) : Fin 1 → Nat :=
  let c32_i32_281 : BitVec 32 := 32#32
  let c4_i32_277 : BitVec 32 := 4#32
  let v598 : BitVec 32 := Scalar.shrsi v597 c4_i32_277
  let v605 : BitVec 32 := Scalar.addi c32_i32_281 v598
  let v606 : Index := Scalar.indexCast v605
  ![v606.toNat]

def k0_chk42 (v597 : BitVec 32) : Prop :=
  (∀ a, (k0_off62 v597) a + S1.size a ≤ S64.size a) ∧
  (∀ a, (k0_off63 v597) a + S1.size a ≤ S64.size a)
theorem k0_off62_inb : ∀ (v597 : BitVec 32) (k0_hw42 : k0_chk42 v597), ∀ a, (k0_off62 v597) a + S1.size a ≤ S64.size a := fun v597 k0_hw42 => k0_hw42.1
theorem k0_off63_inb : ∀ (v597 : BitVec 32) (k0_hw42 : k0_chk42 v597), ∀ a, (k0_off63 v597) a + S1.size a ≤ S64.size a := fun v597 k0_hw42 => k0_hw42.2

def k0_off64 (v585 : BitVec 32) (v589 : BitVec 32) (v604 : BitVec 32) : Fin 4 → Nat :=
  let v609 : Index := Scalar.indexCast v604
  let c4_i32_273 : BitVec 32 := 4#32
  let v590 : BitVec 32 := Scalar.shrsi v589 c4_i32_273
  let v610 : Index := Scalar.indexCast v590
  let c4_i32_271 : BitVec 32 := 4#32
  let v586 : BitVec 32 := Scalar.shrsi v585 c4_i32_271
  let c3_i32_278 : BitVec 32 := 3#32
  let v599 : BitVec 32 := Scalar.shrsi v586 c3_i32_278
  let c3_i32_279 : BitVec 32 := 3#32
  let v600 : BitVec 32 := Scalar.shli v599 c3_i32_279
  let c16_i32_280 : BitVec 32 := 16#32
  let v601 : BitVec 32 := Scalar.minsi v600 c16_i32_280
  let v602 : BitVec 32 := v601
  let v611 : Index := Scalar.indexCast v602
  let c0_282 : Index := 0#32
  ![v609.toNat, v610.toNat, v611.toNat, 0]

def k0_chk43 (v585 : BitVec 32) (v589 : BitVec 32) (v604 : BitVec 32) : Prop :=
  (∀ a, (k0_off64 v585 v589 v604) a + S1x1x32x256.size a ≤ S5x50x50x256.size a)
theorem k0_off64_inb : ∀ (v585 : BitVec 32) (v589 : BitVec 32) (v604 : BitVec 32) (k0_hw43 : k0_chk43 v585 v589 v604), ∀ a, (k0_off64 v585 v589 v604) a + S1x1x32x256.size a ≤ S5x50x50x256.size a := fun v585 v589 v604 k0_hw43 => k0_hw43

def k0_off65 (v585 : BitVec 32) (v589 : BitVec 32) (v604 : BitVec 32) (v607 : BitVec 32) : Fin 4 → Nat :=
  let v614 : Index := Scalar.indexCast v604
  let c4_i32_273 : BitVec 32 := 4#32
  let v590 : BitVec 32 := Scalar.shrsi v589 c4_i32_273
  let v608 : BitVec 32 := Scalar.addi v590 v607
  let v615 : Index := Scalar.indexCast v608
  let c4_i32_271 : BitVec 32 := 4#32
  let v586 : BitVec 32 := Scalar.shrsi v585 c4_i32_271
  let c3_i32_278 : BitVec 32 := 3#32
  let v599 : BitVec 32 := Scalar.shrsi v586 c3_i32_278
  let c3_i32_279 : BitVec 32 := 3#32
  let v600 : BitVec 32 := Scalar.shli v599 c3_i32_279
  let c16_i32_280 : BitVec 32 := 16#32
  let v601 : BitVec 32 := Scalar.minsi v600 c16_i32_280
  let v602 : BitVec 32 := v601
  let v616 : Index := Scalar.indexCast v602
  let c0_283 : Index := 0#32
  ![v614.toNat, v615.toNat, v616.toNat, 0]

def k0_chk44 (v585 : BitVec 32) (v589 : BitVec 32) (v604 : BitVec 32) (v607 : BitVec 32) : Prop :=
  (∀ a, (k0_off65 v585 v589 v604 v607) a + S1x1x32x256.size a ≤ S5x50x50x256.size a)
theorem k0_off65_inb : ∀ (v585 : BitVec 32) (v589 : BitVec 32) (v604 : BitVec 32) (v607 : BitVec 32) (k0_hw44 : k0_chk44 v585 v589 v604 v607), ∀ a, (k0_off65 v585 v589 v604 v607) a + S1x1x32x256.size a ≤ S5x50x50x256.size a := fun v585 v589 v604 v607 k0_hw44 => k0_hw44

def k0_off66 : Fin 4 → Nat :=
  let c0_286 : Index := 0#32
  let c0_i32 : BitVec 32 := 0#32
  let c128_i32_267 : BitVec 32 := 128#32
  let v578 : BitVec 32 := Scalar.muli c0_i32 c128_i32_267
  let c10_i32 : BitVec 32 := 10#32
  let v579 : BitVec 32 := Scalar.addi v578 c10_i32
  let v628 : Index := Scalar.indexCast v579
  let c0_287 : Index := 0#32
  let c0_288 : Index := 0#32
  ![0, v628.toNat, 0, 0]
def k0_off67 (i : grid0.Coords) (c0_i32_292 : BitVec 32) : Fin 1 → Nat :=
  let arg0 : BitVec 32 := BitVec.ofNat 32 (i 0).val
  let c128_i32_290 : BitVec 32 := 128#32
  let v634 : BitVec 32 := Scalar.muli arg0 c128_i32_290
  let c0_i32 : BitVec 32 := 0#32
  let c128_i32_289 : BitVec 32 := 128#32
  let v632 : BitVec 32 := Scalar.muli c0_i32 c128_i32_289
  let c11_i32 : BitVec 32 := 11#32
  let v633 : BitVec 32 := Scalar.addi v632 c11_i32
  let v635 : BitVec 32 := Scalar.addi v634 v633
  let c4_i32_291 : BitVec 32 := 4#32
  let v636 : BitVec 32 := Scalar.muli v635 c4_i32_291
  let v637 : BitVec 32 := Scalar.addi v636 c0_i32_292
  let v638 : Index := Scalar.indexCast v637
  ![v638.toNat]
def k0_mult12 (v639 : BitVec 32) : BitVec 32 :=
  let c4_i32_293 : BitVec 32 := 4#32
  let v640 : BitVec 32 := Scalar.shrsi v639 c4_i32_293
  let c3_i32_300 : BitVec 32 := 3#32
  let v653 : BitVec 32 := Scalar.shrsi v640 c3_i32_300
  let c3_i32_301 : BitVec 32 := 3#32
  let v654 : BitVec 32 := Scalar.shli v653 c3_i32_301
  let c16_i32_302 : BitVec 32 := 16#32
  let v655 : BitVec 32 := Scalar.minsi v654 c16_i32_302
  v655

def k0_chk45 (v639 : BitVec 32) : Prop :=
  (8 ∣ (k0_mult12 v639).toNat)
theorem k0_mult12_dvd : ∀ (v639 : BitVec 32) (k0_hw45 : k0_chk45 v639), 8 ∣ (k0_mult12 v639).toNat := fun v639 k0_hw45 => k0_hw45

def k0_off68 (v651 : BitVec 32) : Fin 1 → Nat :=
  let c4_i32_299 : BitVec 32 := 4#32
  let v652 : BitVec 32 := Scalar.shrsi v651 c4_i32_299
  let v657 : Index := Scalar.indexCast v652
  ![v657.toNat]

def k0_off69 (v651 : BitVec 32) : Fin 1 → Nat :=
  let c32_i32_303 : BitVec 32 := 32#32
  let c4_i32_299 : BitVec 32 := 4#32
  let v652 : BitVec 32 := Scalar.shrsi v651 c4_i32_299
  let v659 : BitVec 32 := Scalar.addi c32_i32_303 v652
  let v660 : Index := Scalar.indexCast v659
  ![v660.toNat]

def k0_chk46 (v651 : BitVec 32) : Prop :=
  (∀ a, (k0_off68 v651) a + S1.size a ≤ S64.size a) ∧
  (∀ a, (k0_off69 v651) a + S1.size a ≤ S64.size a)
theorem k0_off68_inb : ∀ (v651 : BitVec 32) (k0_hw46 : k0_chk46 v651), ∀ a, (k0_off68 v651) a + S1.size a ≤ S64.size a := fun v651 k0_hw46 => k0_hw46.1
theorem k0_off69_inb : ∀ (v651 : BitVec 32) (k0_hw46 : k0_chk46 v651), ∀ a, (k0_off69 v651) a + S1.size a ≤ S64.size a := fun v651 k0_hw46 => k0_hw46.2

def k0_off70 (v639 : BitVec 32) (v643 : BitVec 32) (v658 : BitVec 32) : Fin 4 → Nat :=
  let v663 : Index := Scalar.indexCast v658
  let c4_i32_295 : BitVec 32 := 4#32
  let v644 : BitVec 32 := Scalar.shrsi v643 c4_i32_295
  let v664 : Index := Scalar.indexCast v644
  let c4_i32_293 : BitVec 32 := 4#32
  let v640 : BitVec 32 := Scalar.shrsi v639 c4_i32_293
  let c3_i32_300 : BitVec 32 := 3#32
  let v653 : BitVec 32 := Scalar.shrsi v640 c3_i32_300
  let c3_i32_301 : BitVec 32 := 3#32
  let v654 : BitVec 32 := Scalar.shli v653 c3_i32_301
  let c16_i32_302 : BitVec 32 := 16#32
  let v655 : BitVec 32 := Scalar.minsi v654 c16_i32_302
  let v656 : BitVec 32 := v655
  let v665 : Index := Scalar.indexCast v656
  let c0_304 : Index := 0#32
  ![v663.toNat, v664.toNat, v665.toNat, 0]

def k0_chk47 (v639 : BitVec 32) (v643 : BitVec 32) (v658 : BitVec 32) : Prop :=
  (∀ a, (k0_off70 v639 v643 v658) a + S1x1x32x256.size a ≤ S5x50x50x256.size a)
theorem k0_off70_inb : ∀ (v639 : BitVec 32) (v643 : BitVec 32) (v658 : BitVec 32) (k0_hw47 : k0_chk47 v639 v643 v658), ∀ a, (k0_off70 v639 v643 v658) a + S1x1x32x256.size a ≤ S5x50x50x256.size a := fun v639 v643 v658 k0_hw47 => k0_hw47

def k0_off71 (v639 : BitVec 32) (v643 : BitVec 32) (v658 : BitVec 32) (v661 : BitVec 32) : Fin 4 → Nat :=
  let v668 : Index := Scalar.indexCast v658
  let c4_i32_295 : BitVec 32 := 4#32
  let v644 : BitVec 32 := Scalar.shrsi v643 c4_i32_295
  let v662 : BitVec 32 := Scalar.addi v644 v661
  let v669 : Index := Scalar.indexCast v662
  let c4_i32_293 : BitVec 32 := 4#32
  let v640 : BitVec 32 := Scalar.shrsi v639 c4_i32_293
  let c3_i32_300 : BitVec 32 := 3#32
  let v653 : BitVec 32 := Scalar.shrsi v640 c3_i32_300
  let c3_i32_301 : BitVec 32 := 3#32
  let v654 : BitVec 32 := Scalar.shli v653 c3_i32_301
  let c16_i32_302 : BitVec 32 := 16#32
  let v655 : BitVec 32 := Scalar.minsi v654 c16_i32_302
  let v656 : BitVec 32 := v655
  let v670 : Index := Scalar.indexCast v656
  let c0_305 : Index := 0#32
  ![v668.toNat, v669.toNat, v670.toNat, 0]

def k0_chk48 (v639 : BitVec 32) (v643 : BitVec 32) (v658 : BitVec 32) (v661 : BitVec 32) : Prop :=
  (∀ a, (k0_off71 v639 v643 v658 v661) a + S1x1x32x256.size a ≤ S5x50x50x256.size a)
theorem k0_off71_inb : ∀ (v639 : BitVec 32) (v643 : BitVec 32) (v658 : BitVec 32) (v661 : BitVec 32) (k0_hw48 : k0_chk48 v639 v643 v658 v661), ∀ a, (k0_off71 v639 v643 v658 v661) a + S1x1x32x256.size a ≤ S5x50x50x256.size a := fun v639 v643 v658 v661 k0_hw48 => k0_hw48

def k0_off72 : Fin 4 → Nat :=
  let c0_308 : Index := 0#32
  let c0_i32 : BitVec 32 := 0#32
  let c128_i32_289 : BitVec 32 := 128#32
  let v632 : BitVec 32 := Scalar.muli c0_i32 c128_i32_289
  let c11_i32 : BitVec 32 := 11#32
  let v633 : BitVec 32 := Scalar.addi v632 c11_i32
  let v682 : Index := Scalar.indexCast v633
  let c0_309 : Index := 0#32
  let c0_310 : Index := 0#32
  ![0, v682.toNat, 0, 0]
def k0_off73 (i : grid0.Coords) (c0_i32_314 : BitVec 32) : Fin 1 → Nat :=
  let arg0 : BitVec 32 := BitVec.ofNat 32 (i 0).val
  let c128_i32_312 : BitVec 32 := 128#32
  let v688 : BitVec 32 := Scalar.muli arg0 c128_i32_312
  let c0_i32 : BitVec 32 := 0#32
  let c128_i32_311 : BitVec 32 := 128#32
  let v686 : BitVec 32 := Scalar.muli c0_i32 c128_i32_311
  let c12_i32 : BitVec 32 := 12#32
  let v687 : BitVec 32 := Scalar.addi v686 c12_i32
  let v689 : BitVec 32 := Scalar.addi v688 v687
  let c4_i32_313 : BitVec 32 := 4#32
  let v690 : BitVec 32 := Scalar.muli v689 c4_i32_313
  let v691 : BitVec 32 := Scalar.addi v690 c0_i32_314
  let v692 : Index := Scalar.indexCast v691
  ![v692.toNat]
def k0_mult13 (v693 : BitVec 32) : BitVec 32 :=
  let c4_i32_315 : BitVec 32 := 4#32
  let v694 : BitVec 32 := Scalar.shrsi v693 c4_i32_315
  let c3_i32_322 : BitVec 32 := 3#32
  let v707 : BitVec 32 := Scalar.shrsi v694 c3_i32_322
  let c3_i32_323 : BitVec 32 := 3#32
  let v708 : BitVec 32 := Scalar.shli v707 c3_i32_323
  let c16_i32_324 : BitVec 32 := 16#32
  let v709 : BitVec 32 := Scalar.minsi v708 c16_i32_324
  v709

def k0_chk49 (v693 : BitVec 32) : Prop :=
  (8 ∣ (k0_mult13 v693).toNat)
theorem k0_mult13_dvd : ∀ (v693 : BitVec 32) (k0_hw49 : k0_chk49 v693), 8 ∣ (k0_mult13 v693).toNat := fun v693 k0_hw49 => k0_hw49

def k0_off74 (v705 : BitVec 32) : Fin 1 → Nat :=
  let c4_i32_321 : BitVec 32 := 4#32
  let v706 : BitVec 32 := Scalar.shrsi v705 c4_i32_321
  let v711 : Index := Scalar.indexCast v706
  ![v711.toNat]

def k0_off75 (v705 : BitVec 32) : Fin 1 → Nat :=
  let c32_i32_325 : BitVec 32 := 32#32
  let c4_i32_321 : BitVec 32 := 4#32
  let v706 : BitVec 32 := Scalar.shrsi v705 c4_i32_321
  let v713 : BitVec 32 := Scalar.addi c32_i32_325 v706
  let v714 : Index := Scalar.indexCast v713
  ![v714.toNat]

def k0_chk50 (v705 : BitVec 32) : Prop :=
  (∀ a, (k0_off74 v705) a + S1.size a ≤ S64.size a) ∧
  (∀ a, (k0_off75 v705) a + S1.size a ≤ S64.size a)
theorem k0_off74_inb : ∀ (v705 : BitVec 32) (k0_hw50 : k0_chk50 v705), ∀ a, (k0_off74 v705) a + S1.size a ≤ S64.size a := fun v705 k0_hw50 => k0_hw50.1
theorem k0_off75_inb : ∀ (v705 : BitVec 32) (k0_hw50 : k0_chk50 v705), ∀ a, (k0_off75 v705) a + S1.size a ≤ S64.size a := fun v705 k0_hw50 => k0_hw50.2

def k0_off76 (v693 : BitVec 32) (v697 : BitVec 32) (v712 : BitVec 32) : Fin 4 → Nat :=
  let v717 : Index := Scalar.indexCast v712
  let c4_i32_317 : BitVec 32 := 4#32
  let v698 : BitVec 32 := Scalar.shrsi v697 c4_i32_317
  let v718 : Index := Scalar.indexCast v698
  let c4_i32_315 : BitVec 32 := 4#32
  let v694 : BitVec 32 := Scalar.shrsi v693 c4_i32_315
  let c3_i32_322 : BitVec 32 := 3#32
  let v707 : BitVec 32 := Scalar.shrsi v694 c3_i32_322
  let c3_i32_323 : BitVec 32 := 3#32
  let v708 : BitVec 32 := Scalar.shli v707 c3_i32_323
  let c16_i32_324 : BitVec 32 := 16#32
  let v709 : BitVec 32 := Scalar.minsi v708 c16_i32_324
  let v710 : BitVec 32 := v709
  let v719 : Index := Scalar.indexCast v710
  let c0_326 : Index := 0#32
  ![v717.toNat, v718.toNat, v719.toNat, 0]

def k0_chk51 (v693 : BitVec 32) (v697 : BitVec 32) (v712 : BitVec 32) : Prop :=
  (∀ a, (k0_off76 v693 v697 v712) a + S1x1x32x256.size a ≤ S5x50x50x256.size a)
theorem k0_off76_inb : ∀ (v693 : BitVec 32) (v697 : BitVec 32) (v712 : BitVec 32) (k0_hw51 : k0_chk51 v693 v697 v712), ∀ a, (k0_off76 v693 v697 v712) a + S1x1x32x256.size a ≤ S5x50x50x256.size a := fun v693 v697 v712 k0_hw51 => k0_hw51

def k0_off77 (v693 : BitVec 32) (v697 : BitVec 32) (v712 : BitVec 32) (v715 : BitVec 32) : Fin 4 → Nat :=
  let v722 : Index := Scalar.indexCast v712
  let c4_i32_317 : BitVec 32 := 4#32
  let v698 : BitVec 32 := Scalar.shrsi v697 c4_i32_317
  let v716 : BitVec 32 := Scalar.addi v698 v715
  let v723 : Index := Scalar.indexCast v716
  let c4_i32_315 : BitVec 32 := 4#32
  let v694 : BitVec 32 := Scalar.shrsi v693 c4_i32_315
  let c3_i32_322 : BitVec 32 := 3#32
  let v707 : BitVec 32 := Scalar.shrsi v694 c3_i32_322
  let c3_i32_323 : BitVec 32 := 3#32
  let v708 : BitVec 32 := Scalar.shli v707 c3_i32_323
  let c16_i32_324 : BitVec 32 := 16#32
  let v709 : BitVec 32 := Scalar.minsi v708 c16_i32_324
  let v710 : BitVec 32 := v709
  let v724 : Index := Scalar.indexCast v710
  let c0_327 : Index := 0#32
  ![v722.toNat, v723.toNat, v724.toNat, 0]

def k0_chk52 (v693 : BitVec 32) (v697 : BitVec 32) (v712 : BitVec 32) (v715 : BitVec 32) : Prop :=
  (∀ a, (k0_off77 v693 v697 v712 v715) a + S1x1x32x256.size a ≤ S5x50x50x256.size a)
theorem k0_off77_inb : ∀ (v693 : BitVec 32) (v697 : BitVec 32) (v712 : BitVec 32) (v715 : BitVec 32) (k0_hw52 : k0_chk52 v693 v697 v712 v715), ∀ a, (k0_off77 v693 v697 v712 v715) a + S1x1x32x256.size a ≤ S5x50x50x256.size a := fun v693 v697 v712 v715 k0_hw52 => k0_hw52

def k0_off78 : Fin 4 → Nat :=
  let c0_330 : Index := 0#32
  let c0_i32 : BitVec 32 := 0#32
  let c128_i32_311 : BitVec 32 := 128#32
  let v686 : BitVec 32 := Scalar.muli c0_i32 c128_i32_311
  let c12_i32 : BitVec 32 := 12#32
  let v687 : BitVec 32 := Scalar.addi v686 c12_i32
  let v736 : Index := Scalar.indexCast v687
  let c0_331 : Index := 0#32
  let c0_332 : Index := 0#32
  ![0, v736.toNat, 0, 0]
def k0_off79 (i : grid0.Coords) (c0_i32_336 : BitVec 32) : Fin 1 → Nat :=
  let arg0 : BitVec 32 := BitVec.ofNat 32 (i 0).val
  let c128_i32_334 : BitVec 32 := 128#32
  let v742 : BitVec 32 := Scalar.muli arg0 c128_i32_334
  let c0_i32 : BitVec 32 := 0#32
  let c128_i32_333 : BitVec 32 := 128#32
  let v740 : BitVec 32 := Scalar.muli c0_i32 c128_i32_333
  let c13_i32 : BitVec 32 := 13#32
  let v741 : BitVec 32 := Scalar.addi v740 c13_i32
  let v743 : BitVec 32 := Scalar.addi v742 v741
  let c4_i32_335 : BitVec 32 := 4#32
  let v744 : BitVec 32 := Scalar.muli v743 c4_i32_335
  let v745 : BitVec 32 := Scalar.addi v744 c0_i32_336
  let v746 : Index := Scalar.indexCast v745
  ![v746.toNat]
def k0_mult14 (v747 : BitVec 32) : BitVec 32 :=
  let c4_i32_337 : BitVec 32 := 4#32
  let v748 : BitVec 32 := Scalar.shrsi v747 c4_i32_337
  let c3_i32_344 : BitVec 32 := 3#32
  let v761 : BitVec 32 := Scalar.shrsi v748 c3_i32_344
  let c3_i32_345 : BitVec 32 := 3#32
  let v762 : BitVec 32 := Scalar.shli v761 c3_i32_345
  let c16_i32_346 : BitVec 32 := 16#32
  let v763 : BitVec 32 := Scalar.minsi v762 c16_i32_346
  v763

def k0_chk53 (v747 : BitVec 32) : Prop :=
  (8 ∣ (k0_mult14 v747).toNat)
theorem k0_mult14_dvd : ∀ (v747 : BitVec 32) (k0_hw53 : k0_chk53 v747), 8 ∣ (k0_mult14 v747).toNat := fun v747 k0_hw53 => k0_hw53

def k0_off80 (v759 : BitVec 32) : Fin 1 → Nat :=
  let c4_i32_343 : BitVec 32 := 4#32
  let v760 : BitVec 32 := Scalar.shrsi v759 c4_i32_343
  let v765 : Index := Scalar.indexCast v760
  ![v765.toNat]

def k0_off81 (v759 : BitVec 32) : Fin 1 → Nat :=
  let c32_i32_347 : BitVec 32 := 32#32
  let c4_i32_343 : BitVec 32 := 4#32
  let v760 : BitVec 32 := Scalar.shrsi v759 c4_i32_343
  let v767 : BitVec 32 := Scalar.addi c32_i32_347 v760
  let v768 : Index := Scalar.indexCast v767
  ![v768.toNat]

def k0_chk54 (v759 : BitVec 32) : Prop :=
  (∀ a, (k0_off80 v759) a + S1.size a ≤ S64.size a) ∧
  (∀ a, (k0_off81 v759) a + S1.size a ≤ S64.size a)
theorem k0_off80_inb : ∀ (v759 : BitVec 32) (k0_hw54 : k0_chk54 v759), ∀ a, (k0_off80 v759) a + S1.size a ≤ S64.size a := fun v759 k0_hw54 => k0_hw54.1
theorem k0_off81_inb : ∀ (v759 : BitVec 32) (k0_hw54 : k0_chk54 v759), ∀ a, (k0_off81 v759) a + S1.size a ≤ S64.size a := fun v759 k0_hw54 => k0_hw54.2

def k0_off82 (v747 : BitVec 32) (v751 : BitVec 32) (v766 : BitVec 32) : Fin 4 → Nat :=
  let v771 : Index := Scalar.indexCast v766
  let c4_i32_339 : BitVec 32 := 4#32
  let v752 : BitVec 32 := Scalar.shrsi v751 c4_i32_339
  let v772 : Index := Scalar.indexCast v752
  let c4_i32_337 : BitVec 32 := 4#32
  let v748 : BitVec 32 := Scalar.shrsi v747 c4_i32_337
  let c3_i32_344 : BitVec 32 := 3#32
  let v761 : BitVec 32 := Scalar.shrsi v748 c3_i32_344
  let c3_i32_345 : BitVec 32 := 3#32
  let v762 : BitVec 32 := Scalar.shli v761 c3_i32_345
  let c16_i32_346 : BitVec 32 := 16#32
  let v763 : BitVec 32 := Scalar.minsi v762 c16_i32_346
  let v764 : BitVec 32 := v763
  let v773 : Index := Scalar.indexCast v764
  let c0_348 : Index := 0#32
  ![v771.toNat, v772.toNat, v773.toNat, 0]

def k0_chk55 (v747 : BitVec 32) (v751 : BitVec 32) (v766 : BitVec 32) : Prop :=
  (∀ a, (k0_off82 v747 v751 v766) a + S1x1x32x256.size a ≤ S5x50x50x256.size a)
theorem k0_off82_inb : ∀ (v747 : BitVec 32) (v751 : BitVec 32) (v766 : BitVec 32) (k0_hw55 : k0_chk55 v747 v751 v766), ∀ a, (k0_off82 v747 v751 v766) a + S1x1x32x256.size a ≤ S5x50x50x256.size a := fun v747 v751 v766 k0_hw55 => k0_hw55

def k0_off83 (v747 : BitVec 32) (v751 : BitVec 32) (v766 : BitVec 32) (v769 : BitVec 32) : Fin 4 → Nat :=
  let v776 : Index := Scalar.indexCast v766
  let c4_i32_339 : BitVec 32 := 4#32
  let v752 : BitVec 32 := Scalar.shrsi v751 c4_i32_339
  let v770 : BitVec 32 := Scalar.addi v752 v769
  let v777 : Index := Scalar.indexCast v770
  let c4_i32_337 : BitVec 32 := 4#32
  let v748 : BitVec 32 := Scalar.shrsi v747 c4_i32_337
  let c3_i32_344 : BitVec 32 := 3#32
  let v761 : BitVec 32 := Scalar.shrsi v748 c3_i32_344
  let c3_i32_345 : BitVec 32 := 3#32
  let v762 : BitVec 32 := Scalar.shli v761 c3_i32_345
  let c16_i32_346 : BitVec 32 := 16#32
  let v763 : BitVec 32 := Scalar.minsi v762 c16_i32_346
  let v764 : BitVec 32 := v763
  let v778 : Index := Scalar.indexCast v764
  let c0_349 : Index := 0#32
  ![v776.toNat, v777.toNat, v778.toNat, 0]

def k0_chk56 (v747 : BitVec 32) (v751 : BitVec 32) (v766 : BitVec 32) (v769 : BitVec 32) : Prop :=
  (∀ a, (k0_off83 v747 v751 v766 v769) a + S1x1x32x256.size a ≤ S5x50x50x256.size a)
theorem k0_off83_inb : ∀ (v747 : BitVec 32) (v751 : BitVec 32) (v766 : BitVec 32) (v769 : BitVec 32) (k0_hw56 : k0_chk56 v747 v751 v766 v769), ∀ a, (k0_off83 v747 v751 v766 v769) a + S1x1x32x256.size a ≤ S5x50x50x256.size a := fun v747 v751 v766 v769 k0_hw56 => k0_hw56

def k0_off84 : Fin 4 → Nat :=
  let c0_352 : Index := 0#32
  let c0_i32 : BitVec 32 := 0#32
  let c128_i32_333 : BitVec 32 := 128#32
  let v740 : BitVec 32 := Scalar.muli c0_i32 c128_i32_333
  let c13_i32 : BitVec 32 := 13#32
  let v741 : BitVec 32 := Scalar.addi v740 c13_i32
  let v790 : Index := Scalar.indexCast v741
  let c0_353 : Index := 0#32
  let c0_354 : Index := 0#32
  ![0, v790.toNat, 0, 0]
def k0_off85 (i : grid0.Coords) (c0_i32_358 : BitVec 32) : Fin 1 → Nat :=
  let arg0 : BitVec 32 := BitVec.ofNat 32 (i 0).val
  let c128_i32_356 : BitVec 32 := 128#32
  let v796 : BitVec 32 := Scalar.muli arg0 c128_i32_356
  let c0_i32 : BitVec 32 := 0#32
  let c128_i32_355 : BitVec 32 := 128#32
  let v794 : BitVec 32 := Scalar.muli c0_i32 c128_i32_355
  let c14_i32 : BitVec 32 := 14#32
  let v795 : BitVec 32 := Scalar.addi v794 c14_i32
  let v797 : BitVec 32 := Scalar.addi v796 v795
  let c4_i32_357 : BitVec 32 := 4#32
  let v798 : BitVec 32 := Scalar.muli v797 c4_i32_357
  let v799 : BitVec 32 := Scalar.addi v798 c0_i32_358
  let v800 : Index := Scalar.indexCast v799
  ![v800.toNat]
def k0_mult15 (v801 : BitVec 32) : BitVec 32 :=
  let c4_i32_359 : BitVec 32 := 4#32
  let v802 : BitVec 32 := Scalar.shrsi v801 c4_i32_359
  let c3_i32_366 : BitVec 32 := 3#32
  let v815 : BitVec 32 := Scalar.shrsi v802 c3_i32_366
  let c3_i32_367 : BitVec 32 := 3#32
  let v816 : BitVec 32 := Scalar.shli v815 c3_i32_367
  let c16_i32_368 : BitVec 32 := 16#32
  let v817 : BitVec 32 := Scalar.minsi v816 c16_i32_368
  v817

def k0_chk57 (v801 : BitVec 32) : Prop :=
  (8 ∣ (k0_mult15 v801).toNat)
theorem k0_mult15_dvd : ∀ (v801 : BitVec 32) (k0_hw57 : k0_chk57 v801), 8 ∣ (k0_mult15 v801).toNat := fun v801 k0_hw57 => k0_hw57

def k0_off86 (v813 : BitVec 32) : Fin 1 → Nat :=
  let c4_i32_365 : BitVec 32 := 4#32
  let v814 : BitVec 32 := Scalar.shrsi v813 c4_i32_365
  let v819 : Index := Scalar.indexCast v814
  ![v819.toNat]

def k0_off87 (v813 : BitVec 32) : Fin 1 → Nat :=
  let c32_i32_369 : BitVec 32 := 32#32
  let c4_i32_365 : BitVec 32 := 4#32
  let v814 : BitVec 32 := Scalar.shrsi v813 c4_i32_365
  let v821 : BitVec 32 := Scalar.addi c32_i32_369 v814
  let v822 : Index := Scalar.indexCast v821
  ![v822.toNat]

def k0_chk58 (v813 : BitVec 32) : Prop :=
  (∀ a, (k0_off86 v813) a + S1.size a ≤ S64.size a) ∧
  (∀ a, (k0_off87 v813) a + S1.size a ≤ S64.size a)
theorem k0_off86_inb : ∀ (v813 : BitVec 32) (k0_hw58 : k0_chk58 v813), ∀ a, (k0_off86 v813) a + S1.size a ≤ S64.size a := fun v813 k0_hw58 => k0_hw58.1
theorem k0_off87_inb : ∀ (v813 : BitVec 32) (k0_hw58 : k0_chk58 v813), ∀ a, (k0_off87 v813) a + S1.size a ≤ S64.size a := fun v813 k0_hw58 => k0_hw58.2

def k0_off88 (v801 : BitVec 32) (v805 : BitVec 32) (v820 : BitVec 32) : Fin 4 → Nat :=
  let v825 : Index := Scalar.indexCast v820
  let c4_i32_361 : BitVec 32 := 4#32
  let v806 : BitVec 32 := Scalar.shrsi v805 c4_i32_361
  let v826 : Index := Scalar.indexCast v806
  let c4_i32_359 : BitVec 32 := 4#32
  let v802 : BitVec 32 := Scalar.shrsi v801 c4_i32_359
  let c3_i32_366 : BitVec 32 := 3#32
  let v815 : BitVec 32 := Scalar.shrsi v802 c3_i32_366
  let c3_i32_367 : BitVec 32 := 3#32
  let v816 : BitVec 32 := Scalar.shli v815 c3_i32_367
  let c16_i32_368 : BitVec 32 := 16#32
  let v817 : BitVec 32 := Scalar.minsi v816 c16_i32_368
  let v818 : BitVec 32 := v817
  let v827 : Index := Scalar.indexCast v818
  let c0_370 : Index := 0#32
  ![v825.toNat, v826.toNat, v827.toNat, 0]

def k0_chk59 (v801 : BitVec 32) (v805 : BitVec 32) (v820 : BitVec 32) : Prop :=
  (∀ a, (k0_off88 v801 v805 v820) a + S1x1x32x256.size a ≤ S5x50x50x256.size a)
theorem k0_off88_inb : ∀ (v801 : BitVec 32) (v805 : BitVec 32) (v820 : BitVec 32) (k0_hw59 : k0_chk59 v801 v805 v820), ∀ a, (k0_off88 v801 v805 v820) a + S1x1x32x256.size a ≤ S5x50x50x256.size a := fun v801 v805 v820 k0_hw59 => k0_hw59

def k0_off89 (v801 : BitVec 32) (v805 : BitVec 32) (v820 : BitVec 32) (v823 : BitVec 32) : Fin 4 → Nat :=
  let v830 : Index := Scalar.indexCast v820
  let c4_i32_361 : BitVec 32 := 4#32
  let v806 : BitVec 32 := Scalar.shrsi v805 c4_i32_361
  let v824 : BitVec 32 := Scalar.addi v806 v823
  let v831 : Index := Scalar.indexCast v824
  let c4_i32_359 : BitVec 32 := 4#32
  let v802 : BitVec 32 := Scalar.shrsi v801 c4_i32_359
  let c3_i32_366 : BitVec 32 := 3#32
  let v815 : BitVec 32 := Scalar.shrsi v802 c3_i32_366
  let c3_i32_367 : BitVec 32 := 3#32
  let v816 : BitVec 32 := Scalar.shli v815 c3_i32_367
  let c16_i32_368 : BitVec 32 := 16#32
  let v817 : BitVec 32 := Scalar.minsi v816 c16_i32_368
  let v818 : BitVec 32 := v817
  let v832 : Index := Scalar.indexCast v818
  let c0_371 : Index := 0#32
  ![v830.toNat, v831.toNat, v832.toNat, 0]

def k0_chk60 (v801 : BitVec 32) (v805 : BitVec 32) (v820 : BitVec 32) (v823 : BitVec 32) : Prop :=
  (∀ a, (k0_off89 v801 v805 v820 v823) a + S1x1x32x256.size a ≤ S5x50x50x256.size a)
theorem k0_off89_inb : ∀ (v801 : BitVec 32) (v805 : BitVec 32) (v820 : BitVec 32) (v823 : BitVec 32) (k0_hw60 : k0_chk60 v801 v805 v820 v823), ∀ a, (k0_off89 v801 v805 v820 v823) a + S1x1x32x256.size a ≤ S5x50x50x256.size a := fun v801 v805 v820 v823 k0_hw60 => k0_hw60

def k0_off90 : Fin 4 → Nat :=
  let c0_374 : Index := 0#32
  let c0_i32 : BitVec 32 := 0#32
  let c128_i32_355 : BitVec 32 := 128#32
  let v794 : BitVec 32 := Scalar.muli c0_i32 c128_i32_355
  let c14_i32 : BitVec 32 := 14#32
  let v795 : BitVec 32 := Scalar.addi v794 c14_i32
  let v844 : Index := Scalar.indexCast v795
  let c0_375 : Index := 0#32
  let c0_376 : Index := 0#32
  ![0, v844.toNat, 0, 0]
def k0_off91 (i : grid0.Coords) (c0_i32_380 : BitVec 32) : Fin 1 → Nat :=
  let arg0 : BitVec 32 := BitVec.ofNat 32 (i 0).val
  let c128_i32_378 : BitVec 32 := 128#32
  let v850 : BitVec 32 := Scalar.muli arg0 c128_i32_378
  let c0_i32 : BitVec 32 := 0#32
  let c128_i32_377 : BitVec 32 := 128#32
  let v848 : BitVec 32 := Scalar.muli c0_i32 c128_i32_377
  let c15_i32 : BitVec 32 := 15#32
  let v849 : BitVec 32 := Scalar.addi v848 c15_i32
  let v851 : BitVec 32 := Scalar.addi v850 v849
  let c4_i32_379 : BitVec 32 := 4#32
  let v852 : BitVec 32 := Scalar.muli v851 c4_i32_379
  let v853 : BitVec 32 := Scalar.addi v852 c0_i32_380
  let v854 : Index := Scalar.indexCast v853
  ![v854.toNat]
def k0_mult16 (v855 : BitVec 32) : BitVec 32 :=
  let c4_i32_381 : BitVec 32 := 4#32
  let v856 : BitVec 32 := Scalar.shrsi v855 c4_i32_381
  let c3_i32_388 : BitVec 32 := 3#32
  let v869 : BitVec 32 := Scalar.shrsi v856 c3_i32_388
  let c3_i32_389 : BitVec 32 := 3#32
  let v870 : BitVec 32 := Scalar.shli v869 c3_i32_389
  let c16_i32_390 : BitVec 32 := 16#32
  let v871 : BitVec 32 := Scalar.minsi v870 c16_i32_390
  v871

def k0_chk61 (v855 : BitVec 32) : Prop :=
  (8 ∣ (k0_mult16 v855).toNat)
theorem k0_mult16_dvd : ∀ (v855 : BitVec 32) (k0_hw61 : k0_chk61 v855), 8 ∣ (k0_mult16 v855).toNat := fun v855 k0_hw61 => k0_hw61

def k0_off92 (v867 : BitVec 32) : Fin 1 → Nat :=
  let c4_i32_387 : BitVec 32 := 4#32
  let v868 : BitVec 32 := Scalar.shrsi v867 c4_i32_387
  let v873 : Index := Scalar.indexCast v868
  ![v873.toNat]

def k0_off93 (v867 : BitVec 32) : Fin 1 → Nat :=
  let c32_i32_391 : BitVec 32 := 32#32
  let c4_i32_387 : BitVec 32 := 4#32
  let v868 : BitVec 32 := Scalar.shrsi v867 c4_i32_387
  let v875 : BitVec 32 := Scalar.addi c32_i32_391 v868
  let v876 : Index := Scalar.indexCast v875
  ![v876.toNat]

def k0_chk62 (v867 : BitVec 32) : Prop :=
  (∀ a, (k0_off92 v867) a + S1.size a ≤ S64.size a) ∧
  (∀ a, (k0_off93 v867) a + S1.size a ≤ S64.size a)
theorem k0_off92_inb : ∀ (v867 : BitVec 32) (k0_hw62 : k0_chk62 v867), ∀ a, (k0_off92 v867) a + S1.size a ≤ S64.size a := fun v867 k0_hw62 => k0_hw62.1
theorem k0_off93_inb : ∀ (v867 : BitVec 32) (k0_hw62 : k0_chk62 v867), ∀ a, (k0_off93 v867) a + S1.size a ≤ S64.size a := fun v867 k0_hw62 => k0_hw62.2

def k0_off94 (v855 : BitVec 32) (v859 : BitVec 32) (v874 : BitVec 32) : Fin 4 → Nat :=
  let v879 : Index := Scalar.indexCast v874
  let c4_i32_383 : BitVec 32 := 4#32
  let v860 : BitVec 32 := Scalar.shrsi v859 c4_i32_383
  let v880 : Index := Scalar.indexCast v860
  let c4_i32_381 : BitVec 32 := 4#32
  let v856 : BitVec 32 := Scalar.shrsi v855 c4_i32_381
  let c3_i32_388 : BitVec 32 := 3#32
  let v869 : BitVec 32 := Scalar.shrsi v856 c3_i32_388
  let c3_i32_389 : BitVec 32 := 3#32
  let v870 : BitVec 32 := Scalar.shli v869 c3_i32_389
  let c16_i32_390 : BitVec 32 := 16#32
  let v871 : BitVec 32 := Scalar.minsi v870 c16_i32_390
  let v872 : BitVec 32 := v871
  let v881 : Index := Scalar.indexCast v872
  let c0_392 : Index := 0#32
  ![v879.toNat, v880.toNat, v881.toNat, 0]

def k0_chk63 (v855 : BitVec 32) (v859 : BitVec 32) (v874 : BitVec 32) : Prop :=
  (∀ a, (k0_off94 v855 v859 v874) a + S1x1x32x256.size a ≤ S5x50x50x256.size a)
theorem k0_off94_inb : ∀ (v855 : BitVec 32) (v859 : BitVec 32) (v874 : BitVec 32) (k0_hw63 : k0_chk63 v855 v859 v874), ∀ a, (k0_off94 v855 v859 v874) a + S1x1x32x256.size a ≤ S5x50x50x256.size a := fun v855 v859 v874 k0_hw63 => k0_hw63

def k0_off95 (v855 : BitVec 32) (v859 : BitVec 32) (v874 : BitVec 32) (v877 : BitVec 32) : Fin 4 → Nat :=
  let v884 : Index := Scalar.indexCast v874
  let c4_i32_383 : BitVec 32 := 4#32
  let v860 : BitVec 32 := Scalar.shrsi v859 c4_i32_383
  let v878 : BitVec 32 := Scalar.addi v860 v877
  let v885 : Index := Scalar.indexCast v878
  let c4_i32_381 : BitVec 32 := 4#32
  let v856 : BitVec 32 := Scalar.shrsi v855 c4_i32_381
  let c3_i32_388 : BitVec 32 := 3#32
  let v869 : BitVec 32 := Scalar.shrsi v856 c3_i32_388
  let c3_i32_389 : BitVec 32 := 3#32
  let v870 : BitVec 32 := Scalar.shli v869 c3_i32_389
  let c16_i32_390 : BitVec 32 := 16#32
  let v871 : BitVec 32 := Scalar.minsi v870 c16_i32_390
  let v872 : BitVec 32 := v871
  let v886 : Index := Scalar.indexCast v872
  let c0_393 : Index := 0#32
  ![v884.toNat, v885.toNat, v886.toNat, 0]

def k0_chk64 (v855 : BitVec 32) (v859 : BitVec 32) (v874 : BitVec 32) (v877 : BitVec 32) : Prop :=
  (∀ a, (k0_off95 v855 v859 v874 v877) a + S1x1x32x256.size a ≤ S5x50x50x256.size a)
theorem k0_off95_inb : ∀ (v855 : BitVec 32) (v859 : BitVec 32) (v874 : BitVec 32) (v877 : BitVec 32) (k0_hw64 : k0_chk64 v855 v859 v874 v877), ∀ a, (k0_off95 v855 v859 v874 v877) a + S1x1x32x256.size a ≤ S5x50x50x256.size a := fun v855 v859 v874 v877 k0_hw64 => k0_hw64

def k0_off96 : Fin 4 → Nat :=
  let c0_396 : Index := 0#32
  let c0_i32 : BitVec 32 := 0#32
  let c128_i32_377 : BitVec 32 := 128#32
  let v848 : BitVec 32 := Scalar.muli c0_i32 c128_i32_377
  let c15_i32 : BitVec 32 := 15#32
  let v849 : BitVec 32 := Scalar.addi v848 c15_i32
  let v898 : Index := Scalar.indexCast v849
  let c0_397 : Index := 0#32
  let c0_398 : Index := 0#32
  ![0, v898.toNat, 0, 0]
def k0_off97 (i : grid0.Coords) (c0_i32_403 : BitVec 32) : Fin 1 → Nat :=
  let arg0 : BitVec 32 := BitVec.ofNat 32 (i 0).val
  let c128_i32_401 : BitVec 32 := 128#32
  let v904 : BitVec 32 := Scalar.muli arg0 c128_i32_401
  let c0_i32 : BitVec 32 := 0#32
  let c128_i32_399 : BitVec 32 := 128#32
  let v902 : BitVec 32 := Scalar.muli c0_i32 c128_i32_399
  let c16_i32_400 : BitVec 32 := 16#32
  let v903 : BitVec 32 := Scalar.addi v902 c16_i32_400
  let v905 : BitVec 32 := Scalar.addi v904 v903
  let c4_i32_402 : BitVec 32 := 4#32
  let v906 : BitVec 32 := Scalar.muli v905 c4_i32_402
  let v907 : BitVec 32 := Scalar.addi v906 c0_i32_403
  let v908 : Index := Scalar.indexCast v907
  ![v908.toNat]
def k0_mult17 (v909 : BitVec 32) : BitVec 32 :=
  let c4_i32_404 : BitVec 32 := 4#32
  let v910 : BitVec 32 := Scalar.shrsi v909 c4_i32_404
  let c3_i32_411 : BitVec 32 := 3#32
  let v923 : BitVec 32 := Scalar.shrsi v910 c3_i32_411
  let c3_i32_412 : BitVec 32 := 3#32
  let v924 : BitVec 32 := Scalar.shli v923 c3_i32_412
  let c16_i32_413 : BitVec 32 := 16#32
  let v925 : BitVec 32 := Scalar.minsi v924 c16_i32_413
  v925

def k0_chk65 (v909 : BitVec 32) : Prop :=
  (8 ∣ (k0_mult17 v909).toNat)
theorem k0_mult17_dvd : ∀ (v909 : BitVec 32) (k0_hw65 : k0_chk65 v909), 8 ∣ (k0_mult17 v909).toNat := fun v909 k0_hw65 => k0_hw65

def k0_off98 (v921 : BitVec 32) : Fin 1 → Nat :=
  let c4_i32_410 : BitVec 32 := 4#32
  let v922 : BitVec 32 := Scalar.shrsi v921 c4_i32_410
  let v927 : Index := Scalar.indexCast v922
  ![v927.toNat]

def k0_off99 (v921 : BitVec 32) : Fin 1 → Nat :=
  let c32_i32_414 : BitVec 32 := 32#32
  let c4_i32_410 : BitVec 32 := 4#32
  let v922 : BitVec 32 := Scalar.shrsi v921 c4_i32_410
  let v929 : BitVec 32 := Scalar.addi c32_i32_414 v922
  let v930 : Index := Scalar.indexCast v929
  ![v930.toNat]

def k0_chk66 (v921 : BitVec 32) : Prop :=
  (∀ a, (k0_off98 v921) a + S1.size a ≤ S64.size a) ∧
  (∀ a, (k0_off99 v921) a + S1.size a ≤ S64.size a)
theorem k0_off98_inb : ∀ (v921 : BitVec 32) (k0_hw66 : k0_chk66 v921), ∀ a, (k0_off98 v921) a + S1.size a ≤ S64.size a := fun v921 k0_hw66 => k0_hw66.1
theorem k0_off99_inb : ∀ (v921 : BitVec 32) (k0_hw66 : k0_chk66 v921), ∀ a, (k0_off99 v921) a + S1.size a ≤ S64.size a := fun v921 k0_hw66 => k0_hw66.2

def k0_off100 (v909 : BitVec 32) (v913 : BitVec 32) (v928 : BitVec 32) : Fin 4 → Nat :=
  let v933 : Index := Scalar.indexCast v928
  let c4_i32_406 : BitVec 32 := 4#32
  let v914 : BitVec 32 := Scalar.shrsi v913 c4_i32_406
  let v934 : Index := Scalar.indexCast v914
  let c4_i32_404 : BitVec 32 := 4#32
  let v910 : BitVec 32 := Scalar.shrsi v909 c4_i32_404
  let c3_i32_411 : BitVec 32 := 3#32
  let v923 : BitVec 32 := Scalar.shrsi v910 c3_i32_411
  let c3_i32_412 : BitVec 32 := 3#32
  let v924 : BitVec 32 := Scalar.shli v923 c3_i32_412
  let c16_i32_413 : BitVec 32 := 16#32
  let v925 : BitVec 32 := Scalar.minsi v924 c16_i32_413
  let v926 : BitVec 32 := v925
  let v935 : Index := Scalar.indexCast v926
  let c0_415 : Index := 0#32
  ![v933.toNat, v934.toNat, v935.toNat, 0]

def k0_chk67 (v909 : BitVec 32) (v913 : BitVec 32) (v928 : BitVec 32) : Prop :=
  (∀ a, (k0_off100 v909 v913 v928) a + S1x1x32x256.size a ≤ S5x50x50x256.size a)
theorem k0_off100_inb : ∀ (v909 : BitVec 32) (v913 : BitVec 32) (v928 : BitVec 32) (k0_hw67 : k0_chk67 v909 v913 v928), ∀ a, (k0_off100 v909 v913 v928) a + S1x1x32x256.size a ≤ S5x50x50x256.size a := fun v909 v913 v928 k0_hw67 => k0_hw67

def k0_off101 (v909 : BitVec 32) (v913 : BitVec 32) (v928 : BitVec 32) (v931 : BitVec 32) : Fin 4 → Nat :=
  let v938 : Index := Scalar.indexCast v928
  let c4_i32_406 : BitVec 32 := 4#32
  let v914 : BitVec 32 := Scalar.shrsi v913 c4_i32_406
  let v932 : BitVec 32 := Scalar.addi v914 v931
  let v939 : Index := Scalar.indexCast v932
  let c4_i32_404 : BitVec 32 := 4#32
  let v910 : BitVec 32 := Scalar.shrsi v909 c4_i32_404
  let c3_i32_411 : BitVec 32 := 3#32
  let v923 : BitVec 32 := Scalar.shrsi v910 c3_i32_411
  let c3_i32_412 : BitVec 32 := 3#32
  let v924 : BitVec 32 := Scalar.shli v923 c3_i32_412
  let c16_i32_413 : BitVec 32 := 16#32
  let v925 : BitVec 32 := Scalar.minsi v924 c16_i32_413
  let v926 : BitVec 32 := v925
  let v940 : Index := Scalar.indexCast v926
  let c0_416 : Index := 0#32
  ![v938.toNat, v939.toNat, v940.toNat, 0]

def k0_chk68 (v909 : BitVec 32) (v913 : BitVec 32) (v928 : BitVec 32) (v931 : BitVec 32) : Prop :=
  (∀ a, (k0_off101 v909 v913 v928 v931) a + S1x1x32x256.size a ≤ S5x50x50x256.size a)
theorem k0_off101_inb : ∀ (v909 : BitVec 32) (v913 : BitVec 32) (v928 : BitVec 32) (v931 : BitVec 32) (k0_hw68 : k0_chk68 v909 v913 v928 v931), ∀ a, (k0_off101 v909 v913 v928 v931) a + S1x1x32x256.size a ≤ S5x50x50x256.size a := fun v909 v913 v928 v931 k0_hw68 => k0_hw68

def k0_off102 : Fin 4 → Nat :=
  let c0_419 : Index := 0#32
  let c0_i32 : BitVec 32 := 0#32
  let c128_i32_399 : BitVec 32 := 128#32
  let v902 : BitVec 32 := Scalar.muli c0_i32 c128_i32_399
  let c16_i32_400 : BitVec 32 := 16#32
  let v903 : BitVec 32 := Scalar.addi v902 c16_i32_400
  let v952 : Index := Scalar.indexCast v903
  let c0_420 : Index := 0#32
  let c0_421 : Index := 0#32
  ![0, v952.toNat, 0, 0]
def k0_off103 (i : grid0.Coords) (c0_i32_425 : BitVec 32) : Fin 1 → Nat :=
  let arg0 : BitVec 32 := BitVec.ofNat 32 (i 0).val
  let c128_i32_423 : BitVec 32 := 128#32
  let v958 : BitVec 32 := Scalar.muli arg0 c128_i32_423
  let c0_i32 : BitVec 32 := 0#32
  let c128_i32_422 : BitVec 32 := 128#32
  let v956 : BitVec 32 := Scalar.muli c0_i32 c128_i32_422
  let c17_i32 : BitVec 32 := 17#32
  let v957 : BitVec 32 := Scalar.addi v956 c17_i32
  let v959 : BitVec 32 := Scalar.addi v958 v957
  let c4_i32_424 : BitVec 32 := 4#32
  let v960 : BitVec 32 := Scalar.muli v959 c4_i32_424
  let v961 : BitVec 32 := Scalar.addi v960 c0_i32_425
  let v962 : Index := Scalar.indexCast v961
  ![v962.toNat]
def k0_mult18 (v963 : BitVec 32) : BitVec 32 :=
  let c4_i32_426 : BitVec 32 := 4#32
  let v964 : BitVec 32 := Scalar.shrsi v963 c4_i32_426
  let c3_i32_433 : BitVec 32 := 3#32
  let v977 : BitVec 32 := Scalar.shrsi v964 c3_i32_433
  let c3_i32_434 : BitVec 32 := 3#32
  let v978 : BitVec 32 := Scalar.shli v977 c3_i32_434
  let c16_i32_435 : BitVec 32 := 16#32
  let v979 : BitVec 32 := Scalar.minsi v978 c16_i32_435
  v979

def k0_chk69 (v963 : BitVec 32) : Prop :=
  (8 ∣ (k0_mult18 v963).toNat)
theorem k0_mult18_dvd : ∀ (v963 : BitVec 32) (k0_hw69 : k0_chk69 v963), 8 ∣ (k0_mult18 v963).toNat := fun v963 k0_hw69 => k0_hw69

def k0_off104 (v975 : BitVec 32) : Fin 1 → Nat :=
  let c4_i32_432 : BitVec 32 := 4#32
  let v976 : BitVec 32 := Scalar.shrsi v975 c4_i32_432
  let v981 : Index := Scalar.indexCast v976
  ![v981.toNat]

def k0_off105 (v975 : BitVec 32) : Fin 1 → Nat :=
  let c32_i32_436 : BitVec 32 := 32#32
  let c4_i32_432 : BitVec 32 := 4#32
  let v976 : BitVec 32 := Scalar.shrsi v975 c4_i32_432
  let v983 : BitVec 32 := Scalar.addi c32_i32_436 v976
  let v984 : Index := Scalar.indexCast v983
  ![v984.toNat]

def k0_chk70 (v975 : BitVec 32) : Prop :=
  (∀ a, (k0_off104 v975) a + S1.size a ≤ S64.size a) ∧
  (∀ a, (k0_off105 v975) a + S1.size a ≤ S64.size a)
theorem k0_off104_inb : ∀ (v975 : BitVec 32) (k0_hw70 : k0_chk70 v975), ∀ a, (k0_off104 v975) a + S1.size a ≤ S64.size a := fun v975 k0_hw70 => k0_hw70.1
theorem k0_off105_inb : ∀ (v975 : BitVec 32) (k0_hw70 : k0_chk70 v975), ∀ a, (k0_off105 v975) a + S1.size a ≤ S64.size a := fun v975 k0_hw70 => k0_hw70.2

def k0_off106 (v963 : BitVec 32) (v967 : BitVec 32) (v982 : BitVec 32) : Fin 4 → Nat :=
  let v987 : Index := Scalar.indexCast v982
  let c4_i32_428 : BitVec 32 := 4#32
  let v968 : BitVec 32 := Scalar.shrsi v967 c4_i32_428
  let v988 : Index := Scalar.indexCast v968
  let c4_i32_426 : BitVec 32 := 4#32
  let v964 : BitVec 32 := Scalar.shrsi v963 c4_i32_426
  let c3_i32_433 : BitVec 32 := 3#32
  let v977 : BitVec 32 := Scalar.shrsi v964 c3_i32_433
  let c3_i32_434 : BitVec 32 := 3#32
  let v978 : BitVec 32 := Scalar.shli v977 c3_i32_434
  let c16_i32_435 : BitVec 32 := 16#32
  let v979 : BitVec 32 := Scalar.minsi v978 c16_i32_435
  let v980 : BitVec 32 := v979
  let v989 : Index := Scalar.indexCast v980
  let c0_437 : Index := 0#32
  ![v987.toNat, v988.toNat, v989.toNat, 0]

def k0_chk71 (v963 : BitVec 32) (v967 : BitVec 32) (v982 : BitVec 32) : Prop :=
  (∀ a, (k0_off106 v963 v967 v982) a + S1x1x32x256.size a ≤ S5x50x50x256.size a)
theorem k0_off106_inb : ∀ (v963 : BitVec 32) (v967 : BitVec 32) (v982 : BitVec 32) (k0_hw71 : k0_chk71 v963 v967 v982), ∀ a, (k0_off106 v963 v967 v982) a + S1x1x32x256.size a ≤ S5x50x50x256.size a := fun v963 v967 v982 k0_hw71 => k0_hw71

def k0_off107 (v963 : BitVec 32) (v967 : BitVec 32) (v982 : BitVec 32) (v985 : BitVec 32) : Fin 4 → Nat :=
  let v992 : Index := Scalar.indexCast v982
  let c4_i32_428 : BitVec 32 := 4#32
  let v968 : BitVec 32 := Scalar.shrsi v967 c4_i32_428
  let v986 : BitVec 32 := Scalar.addi v968 v985
  let v993 : Index := Scalar.indexCast v986
  let c4_i32_426 : BitVec 32 := 4#32
  let v964 : BitVec 32 := Scalar.shrsi v963 c4_i32_426
  let c3_i32_433 : BitVec 32 := 3#32
  let v977 : BitVec 32 := Scalar.shrsi v964 c3_i32_433
  let c3_i32_434 : BitVec 32 := 3#32
  let v978 : BitVec 32 := Scalar.shli v977 c3_i32_434
  let c16_i32_435 : BitVec 32 := 16#32
  let v979 : BitVec 32 := Scalar.minsi v978 c16_i32_435
  let v980 : BitVec 32 := v979
  let v994 : Index := Scalar.indexCast v980
  let c0_438 : Index := 0#32
  ![v992.toNat, v993.toNat, v994.toNat, 0]

def k0_chk72 (v963 : BitVec 32) (v967 : BitVec 32) (v982 : BitVec 32) (v985 : BitVec 32) : Prop :=
  (∀ a, (k0_off107 v963 v967 v982 v985) a + S1x1x32x256.size a ≤ S5x50x50x256.size a)
theorem k0_off107_inb : ∀ (v963 : BitVec 32) (v967 : BitVec 32) (v982 : BitVec 32) (v985 : BitVec 32) (k0_hw72 : k0_chk72 v963 v967 v982 v985), ∀ a, (k0_off107 v963 v967 v982 v985) a + S1x1x32x256.size a ≤ S5x50x50x256.size a := fun v963 v967 v982 v985 k0_hw72 => k0_hw72

def k0_off108 : Fin 4 → Nat :=
  let c0_441 : Index := 0#32
  let c0_i32 : BitVec 32 := 0#32
  let c128_i32_422 : BitVec 32 := 128#32
  let v956 : BitVec 32 := Scalar.muli c0_i32 c128_i32_422
  let c17_i32 : BitVec 32 := 17#32
  let v957 : BitVec 32 := Scalar.addi v956 c17_i32
  let v1006 : Index := Scalar.indexCast v957
  let c0_442 : Index := 0#32
  let c0_443 : Index := 0#32
  ![0, v1006.toNat, 0, 0]
def k0_off109 (i : grid0.Coords) (c0_i32_447 : BitVec 32) : Fin 1 → Nat :=
  let arg0 : BitVec 32 := BitVec.ofNat 32 (i 0).val
  let c128_i32_445 : BitVec 32 := 128#32
  let v1012 : BitVec 32 := Scalar.muli arg0 c128_i32_445
  let c0_i32 : BitVec 32 := 0#32
  let c128_i32_444 : BitVec 32 := 128#32
  let v1010 : BitVec 32 := Scalar.muli c0_i32 c128_i32_444
  let c18_i32 : BitVec 32 := 18#32
  let v1011 : BitVec 32 := Scalar.addi v1010 c18_i32
  let v1013 : BitVec 32 := Scalar.addi v1012 v1011
  let c4_i32_446 : BitVec 32 := 4#32
  let v1014 : BitVec 32 := Scalar.muli v1013 c4_i32_446
  let v1015 : BitVec 32 := Scalar.addi v1014 c0_i32_447
  let v1016 : Index := Scalar.indexCast v1015
  ![v1016.toNat]
def k0_mult19 (v1017 : BitVec 32) : BitVec 32 :=
  let c4_i32_448 : BitVec 32 := 4#32
  let v1018 : BitVec 32 := Scalar.shrsi v1017 c4_i32_448
  let c3_i32_455 : BitVec 32 := 3#32
  let v1031 : BitVec 32 := Scalar.shrsi v1018 c3_i32_455
  let c3_i32_456 : BitVec 32 := 3#32
  let v1032 : BitVec 32 := Scalar.shli v1031 c3_i32_456
  let c16_i32_457 : BitVec 32 := 16#32
  let v1033 : BitVec 32 := Scalar.minsi v1032 c16_i32_457
  v1033

def k0_chk73 (v1017 : BitVec 32) : Prop :=
  (8 ∣ (k0_mult19 v1017).toNat)
theorem k0_mult19_dvd : ∀ (v1017 : BitVec 32) (k0_hw73 : k0_chk73 v1017), 8 ∣ (k0_mult19 v1017).toNat := fun v1017 k0_hw73 => k0_hw73

def k0_off110 (v1029 : BitVec 32) : Fin 1 → Nat :=
  let c4_i32_454 : BitVec 32 := 4#32
  let v1030 : BitVec 32 := Scalar.shrsi v1029 c4_i32_454
  let v1035 : Index := Scalar.indexCast v1030
  ![v1035.toNat]

def k0_off111 (v1029 : BitVec 32) : Fin 1 → Nat :=
  let c32_i32_458 : BitVec 32 := 32#32
  let c4_i32_454 : BitVec 32 := 4#32
  let v1030 : BitVec 32 := Scalar.shrsi v1029 c4_i32_454
  let v1037 : BitVec 32 := Scalar.addi c32_i32_458 v1030
  let v1038 : Index := Scalar.indexCast v1037
  ![v1038.toNat]

def k0_chk74 (v1029 : BitVec 32) : Prop :=
  (∀ a, (k0_off110 v1029) a + S1.size a ≤ S64.size a) ∧
  (∀ a, (k0_off111 v1029) a + S1.size a ≤ S64.size a)
theorem k0_off110_inb : ∀ (v1029 : BitVec 32) (k0_hw74 : k0_chk74 v1029), ∀ a, (k0_off110 v1029) a + S1.size a ≤ S64.size a := fun v1029 k0_hw74 => k0_hw74.1
theorem k0_off111_inb : ∀ (v1029 : BitVec 32) (k0_hw74 : k0_chk74 v1029), ∀ a, (k0_off111 v1029) a + S1.size a ≤ S64.size a := fun v1029 k0_hw74 => k0_hw74.2

def k0_off112 (v1017 : BitVec 32) (v1021 : BitVec 32) (v1036 : BitVec 32) : Fin 4 → Nat :=
  let v1041 : Index := Scalar.indexCast v1036
  let c4_i32_450 : BitVec 32 := 4#32
  let v1022 : BitVec 32 := Scalar.shrsi v1021 c4_i32_450
  let v1042 : Index := Scalar.indexCast v1022
  let c4_i32_448 : BitVec 32 := 4#32
  let v1018 : BitVec 32 := Scalar.shrsi v1017 c4_i32_448
  let c3_i32_455 : BitVec 32 := 3#32
  let v1031 : BitVec 32 := Scalar.shrsi v1018 c3_i32_455
  let c3_i32_456 : BitVec 32 := 3#32
  let v1032 : BitVec 32 := Scalar.shli v1031 c3_i32_456
  let c16_i32_457 : BitVec 32 := 16#32
  let v1033 : BitVec 32 := Scalar.minsi v1032 c16_i32_457
  let v1034 : BitVec 32 := v1033
  let v1043 : Index := Scalar.indexCast v1034
  let c0_459 : Index := 0#32
  ![v1041.toNat, v1042.toNat, v1043.toNat, 0]

def k0_chk75 (v1017 : BitVec 32) (v1021 : BitVec 32) (v1036 : BitVec 32) : Prop :=
  (∀ a, (k0_off112 v1017 v1021 v1036) a + S1x1x32x256.size a ≤ S5x50x50x256.size a)
theorem k0_off112_inb : ∀ (v1017 : BitVec 32) (v1021 : BitVec 32) (v1036 : BitVec 32) (k0_hw75 : k0_chk75 v1017 v1021 v1036), ∀ a, (k0_off112 v1017 v1021 v1036) a + S1x1x32x256.size a ≤ S5x50x50x256.size a := fun v1017 v1021 v1036 k0_hw75 => k0_hw75

def k0_off113 (v1017 : BitVec 32) (v1021 : BitVec 32) (v1036 : BitVec 32) (v1039 : BitVec 32) : Fin 4 → Nat :=
  let v1046 : Index := Scalar.indexCast v1036
  let c4_i32_450 : BitVec 32 := 4#32
  let v1022 : BitVec 32 := Scalar.shrsi v1021 c4_i32_450
  let v1040 : BitVec 32 := Scalar.addi v1022 v1039
  let v1047 : Index := Scalar.indexCast v1040
  let c4_i32_448 : BitVec 32 := 4#32
  let v1018 : BitVec 32 := Scalar.shrsi v1017 c4_i32_448
  let c3_i32_455 : BitVec 32 := 3#32
  let v1031 : BitVec 32 := Scalar.shrsi v1018 c3_i32_455
  let c3_i32_456 : BitVec 32 := 3#32
  let v1032 : BitVec 32 := Scalar.shli v1031 c3_i32_456
  let c16_i32_457 : BitVec 32 := 16#32
  let v1033 : BitVec 32 := Scalar.minsi v1032 c16_i32_457
  let v1034 : BitVec 32 := v1033
  let v1048 : Index := Scalar.indexCast v1034
  let c0_460 : Index := 0#32
  ![v1046.toNat, v1047.toNat, v1048.toNat, 0]

def k0_chk76 (v1017 : BitVec 32) (v1021 : BitVec 32) (v1036 : BitVec 32) (v1039 : BitVec 32) : Prop :=
  (∀ a, (k0_off113 v1017 v1021 v1036 v1039) a + S1x1x32x256.size a ≤ S5x50x50x256.size a)
theorem k0_off113_inb : ∀ (v1017 : BitVec 32) (v1021 : BitVec 32) (v1036 : BitVec 32) (v1039 : BitVec 32) (k0_hw76 : k0_chk76 v1017 v1021 v1036 v1039), ∀ a, (k0_off113 v1017 v1021 v1036 v1039) a + S1x1x32x256.size a ≤ S5x50x50x256.size a := fun v1017 v1021 v1036 v1039 k0_hw76 => k0_hw76

def k0_off114 : Fin 4 → Nat :=
  let c0_463 : Index := 0#32
  let c0_i32 : BitVec 32 := 0#32
  let c128_i32_444 : BitVec 32 := 128#32
  let v1010 : BitVec 32 := Scalar.muli c0_i32 c128_i32_444
  let c18_i32 : BitVec 32 := 18#32
  let v1011 : BitVec 32 := Scalar.addi v1010 c18_i32
  let v1060 : Index := Scalar.indexCast v1011
  let c0_464 : Index := 0#32
  let c0_465 : Index := 0#32
  ![0, v1060.toNat, 0, 0]
def k0_off115 (i : grid0.Coords) (c0_i32_469 : BitVec 32) : Fin 1 → Nat :=
  let arg0 : BitVec 32 := BitVec.ofNat 32 (i 0).val
  let c128_i32_467 : BitVec 32 := 128#32
  let v1066 : BitVec 32 := Scalar.muli arg0 c128_i32_467
  let c0_i32 : BitVec 32 := 0#32
  let c128_i32_466 : BitVec 32 := 128#32
  let v1064 : BitVec 32 := Scalar.muli c0_i32 c128_i32_466
  let c19_i32 : BitVec 32 := 19#32
  let v1065 : BitVec 32 := Scalar.addi v1064 c19_i32
  let v1067 : BitVec 32 := Scalar.addi v1066 v1065
  let c4_i32_468 : BitVec 32 := 4#32
  let v1068 : BitVec 32 := Scalar.muli v1067 c4_i32_468
  let v1069 : BitVec 32 := Scalar.addi v1068 c0_i32_469
  let v1070 : Index := Scalar.indexCast v1069
  ![v1070.toNat]
def k0_mult20 (v1071 : BitVec 32) : BitVec 32 :=
  let c4_i32_470 : BitVec 32 := 4#32
  let v1072 : BitVec 32 := Scalar.shrsi v1071 c4_i32_470
  let c3_i32_477 : BitVec 32 := 3#32
  let v1085 : BitVec 32 := Scalar.shrsi v1072 c3_i32_477
  let c3_i32_478 : BitVec 32 := 3#32
  let v1086 : BitVec 32 := Scalar.shli v1085 c3_i32_478
  let c16_i32_479 : BitVec 32 := 16#32
  let v1087 : BitVec 32 := Scalar.minsi v1086 c16_i32_479
  v1087

def k0_chk77 (v1071 : BitVec 32) : Prop :=
  (8 ∣ (k0_mult20 v1071).toNat)
theorem k0_mult20_dvd : ∀ (v1071 : BitVec 32) (k0_hw77 : k0_chk77 v1071), 8 ∣ (k0_mult20 v1071).toNat := fun v1071 k0_hw77 => k0_hw77

def k0_off116 (v1083 : BitVec 32) : Fin 1 → Nat :=
  let c4_i32_476 : BitVec 32 := 4#32
  let v1084 : BitVec 32 := Scalar.shrsi v1083 c4_i32_476
  let v1089 : Index := Scalar.indexCast v1084
  ![v1089.toNat]

def k0_off117 (v1083 : BitVec 32) : Fin 1 → Nat :=
  let c32_i32_480 : BitVec 32 := 32#32
  let c4_i32_476 : BitVec 32 := 4#32
  let v1084 : BitVec 32 := Scalar.shrsi v1083 c4_i32_476
  let v1091 : BitVec 32 := Scalar.addi c32_i32_480 v1084
  let v1092 : Index := Scalar.indexCast v1091
  ![v1092.toNat]

def k0_chk78 (v1083 : BitVec 32) : Prop :=
  (∀ a, (k0_off116 v1083) a + S1.size a ≤ S64.size a) ∧
  (∀ a, (k0_off117 v1083) a + S1.size a ≤ S64.size a)
theorem k0_off116_inb : ∀ (v1083 : BitVec 32) (k0_hw78 : k0_chk78 v1083), ∀ a, (k0_off116 v1083) a + S1.size a ≤ S64.size a := fun v1083 k0_hw78 => k0_hw78.1
theorem k0_off117_inb : ∀ (v1083 : BitVec 32) (k0_hw78 : k0_chk78 v1083), ∀ a, (k0_off117 v1083) a + S1.size a ≤ S64.size a := fun v1083 k0_hw78 => k0_hw78.2

def k0_off118 (v1071 : BitVec 32) (v1075 : BitVec 32) (v1090 : BitVec 32) : Fin 4 → Nat :=
  let v1095 : Index := Scalar.indexCast v1090
  let c4_i32_472 : BitVec 32 := 4#32
  let v1076 : BitVec 32 := Scalar.shrsi v1075 c4_i32_472
  let v1096 : Index := Scalar.indexCast v1076
  let c4_i32_470 : BitVec 32 := 4#32
  let v1072 : BitVec 32 := Scalar.shrsi v1071 c4_i32_470
  let c3_i32_477 : BitVec 32 := 3#32
  let v1085 : BitVec 32 := Scalar.shrsi v1072 c3_i32_477
  let c3_i32_478 : BitVec 32 := 3#32
  let v1086 : BitVec 32 := Scalar.shli v1085 c3_i32_478
  let c16_i32_479 : BitVec 32 := 16#32
  let v1087 : BitVec 32 := Scalar.minsi v1086 c16_i32_479
  let v1088 : BitVec 32 := v1087
  let v1097 : Index := Scalar.indexCast v1088
  let c0_481 : Index := 0#32
  ![v1095.toNat, v1096.toNat, v1097.toNat, 0]

def k0_chk79 (v1071 : BitVec 32) (v1075 : BitVec 32) (v1090 : BitVec 32) : Prop :=
  (∀ a, (k0_off118 v1071 v1075 v1090) a + S1x1x32x256.size a ≤ S5x50x50x256.size a)
theorem k0_off118_inb : ∀ (v1071 : BitVec 32) (v1075 : BitVec 32) (v1090 : BitVec 32) (k0_hw79 : k0_chk79 v1071 v1075 v1090), ∀ a, (k0_off118 v1071 v1075 v1090) a + S1x1x32x256.size a ≤ S5x50x50x256.size a := fun v1071 v1075 v1090 k0_hw79 => k0_hw79

def k0_off119 (v1071 : BitVec 32) (v1075 : BitVec 32) (v1090 : BitVec 32) (v1093 : BitVec 32) : Fin 4 → Nat :=
  let v1100 : Index := Scalar.indexCast v1090
  let c4_i32_472 : BitVec 32 := 4#32
  let v1076 : BitVec 32 := Scalar.shrsi v1075 c4_i32_472
  let v1094 : BitVec 32 := Scalar.addi v1076 v1093
  let v1101 : Index := Scalar.indexCast v1094
  let c4_i32_470 : BitVec 32 := 4#32
  let v1072 : BitVec 32 := Scalar.shrsi v1071 c4_i32_470
  let c3_i32_477 : BitVec 32 := 3#32
  let v1085 : BitVec 32 := Scalar.shrsi v1072 c3_i32_477
  let c3_i32_478 : BitVec 32 := 3#32
  let v1086 : BitVec 32 := Scalar.shli v1085 c3_i32_478
  let c16_i32_479 : BitVec 32 := 16#32
  let v1087 : BitVec 32 := Scalar.minsi v1086 c16_i32_479
  let v1088 : BitVec 32 := v1087
  let v1102 : Index := Scalar.indexCast v1088
  let c0_482 : Index := 0#32
  ![v1100.toNat, v1101.toNat, v1102.toNat, 0]

def k0_chk80 (v1071 : BitVec 32) (v1075 : BitVec 32) (v1090 : BitVec 32) (v1093 : BitVec 32) : Prop :=
  (∀ a, (k0_off119 v1071 v1075 v1090 v1093) a + S1x1x32x256.size a ≤ S5x50x50x256.size a)
theorem k0_off119_inb : ∀ (v1071 : BitVec 32) (v1075 : BitVec 32) (v1090 : BitVec 32) (v1093 : BitVec 32) (k0_hw80 : k0_chk80 v1071 v1075 v1090 v1093), ∀ a, (k0_off119 v1071 v1075 v1090 v1093) a + S1x1x32x256.size a ≤ S5x50x50x256.size a := fun v1071 v1075 v1090 v1093 k0_hw80 => k0_hw80

def k0_off120 : Fin 4 → Nat :=
  let c0_485 : Index := 0#32
  let c0_i32 : BitVec 32 := 0#32
  let c128_i32_466 : BitVec 32 := 128#32
  let v1064 : BitVec 32 := Scalar.muli c0_i32 c128_i32_466
  let c19_i32 : BitVec 32 := 19#32
  let v1065 : BitVec 32 := Scalar.addi v1064 c19_i32
  let v1114 : Index := Scalar.indexCast v1065
  let c0_486 : Index := 0#32
  let c0_487 : Index := 0#32
  ![0, v1114.toNat, 0, 0]
def k0_off121 (i : grid0.Coords) (c0_i32_491 : BitVec 32) : Fin 1 → Nat :=
  let arg0 : BitVec 32 := BitVec.ofNat 32 (i 0).val
  let c128_i32_489 : BitVec 32 := 128#32
  let v1120 : BitVec 32 := Scalar.muli arg0 c128_i32_489
  let c0_i32 : BitVec 32 := 0#32
  let c128_i32_488 : BitVec 32 := 128#32
  let v1118 : BitVec 32 := Scalar.muli c0_i32 c128_i32_488
  let c20_i32 : BitVec 32 := 20#32
  let v1119 : BitVec 32 := Scalar.addi v1118 c20_i32
  let v1121 : BitVec 32 := Scalar.addi v1120 v1119
  let c4_i32_490 : BitVec 32 := 4#32
  let v1122 : BitVec 32 := Scalar.muli v1121 c4_i32_490
  let v1123 : BitVec 32 := Scalar.addi v1122 c0_i32_491
  let v1124 : Index := Scalar.indexCast v1123
  ![v1124.toNat]
def k0_mult21 (v1125 : BitVec 32) : BitVec 32 :=
  let c4_i32_492 : BitVec 32 := 4#32
  let v1126 : BitVec 32 := Scalar.shrsi v1125 c4_i32_492
  let c3_i32_499 : BitVec 32 := 3#32
  let v1139 : BitVec 32 := Scalar.shrsi v1126 c3_i32_499
  let c3_i32_500 : BitVec 32 := 3#32
  let v1140 : BitVec 32 := Scalar.shli v1139 c3_i32_500
  let c16_i32_501 : BitVec 32 := 16#32
  let v1141 : BitVec 32 := Scalar.minsi v1140 c16_i32_501
  v1141

def k0_chk81 (v1125 : BitVec 32) : Prop :=
  (8 ∣ (k0_mult21 v1125).toNat)
theorem k0_mult21_dvd : ∀ (v1125 : BitVec 32) (k0_hw81 : k0_chk81 v1125), 8 ∣ (k0_mult21 v1125).toNat := fun v1125 k0_hw81 => k0_hw81

def k0_off122 (v1137 : BitVec 32) : Fin 1 → Nat :=
  let c4_i32_498 : BitVec 32 := 4#32
  let v1138 : BitVec 32 := Scalar.shrsi v1137 c4_i32_498
  let v1143 : Index := Scalar.indexCast v1138
  ![v1143.toNat]

def k0_off123 (v1137 : BitVec 32) : Fin 1 → Nat :=
  let c32_i32_502 : BitVec 32 := 32#32
  let c4_i32_498 : BitVec 32 := 4#32
  let v1138 : BitVec 32 := Scalar.shrsi v1137 c4_i32_498
  let v1145 : BitVec 32 := Scalar.addi c32_i32_502 v1138
  let v1146 : Index := Scalar.indexCast v1145
  ![v1146.toNat]

def k0_chk82 (v1137 : BitVec 32) : Prop :=
  (∀ a, (k0_off122 v1137) a + S1.size a ≤ S64.size a) ∧
  (∀ a, (k0_off123 v1137) a + S1.size a ≤ S64.size a)
theorem k0_off122_inb : ∀ (v1137 : BitVec 32) (k0_hw82 : k0_chk82 v1137), ∀ a, (k0_off122 v1137) a + S1.size a ≤ S64.size a := fun v1137 k0_hw82 => k0_hw82.1
theorem k0_off123_inb : ∀ (v1137 : BitVec 32) (k0_hw82 : k0_chk82 v1137), ∀ a, (k0_off123 v1137) a + S1.size a ≤ S64.size a := fun v1137 k0_hw82 => k0_hw82.2

def k0_off124 (v1125 : BitVec 32) (v1129 : BitVec 32) (v1144 : BitVec 32) : Fin 4 → Nat :=
  let v1149 : Index := Scalar.indexCast v1144
  let c4_i32_494 : BitVec 32 := 4#32
  let v1130 : BitVec 32 := Scalar.shrsi v1129 c4_i32_494
  let v1150 : Index := Scalar.indexCast v1130
  let c4_i32_492 : BitVec 32 := 4#32
  let v1126 : BitVec 32 := Scalar.shrsi v1125 c4_i32_492
  let c3_i32_499 : BitVec 32 := 3#32
  let v1139 : BitVec 32 := Scalar.shrsi v1126 c3_i32_499
  let c3_i32_500 : BitVec 32 := 3#32
  let v1140 : BitVec 32 := Scalar.shli v1139 c3_i32_500
  let c16_i32_501 : BitVec 32 := 16#32
  let v1141 : BitVec 32 := Scalar.minsi v1140 c16_i32_501
  let v1142 : BitVec 32 := v1141
  let v1151 : Index := Scalar.indexCast v1142
  let c0_503 : Index := 0#32
  ![v1149.toNat, v1150.toNat, v1151.toNat, 0]

def k0_chk83 (v1125 : BitVec 32) (v1129 : BitVec 32) (v1144 : BitVec 32) : Prop :=
  (∀ a, (k0_off124 v1125 v1129 v1144) a + S1x1x32x256.size a ≤ S5x50x50x256.size a)
theorem k0_off124_inb : ∀ (v1125 : BitVec 32) (v1129 : BitVec 32) (v1144 : BitVec 32) (k0_hw83 : k0_chk83 v1125 v1129 v1144), ∀ a, (k0_off124 v1125 v1129 v1144) a + S1x1x32x256.size a ≤ S5x50x50x256.size a := fun v1125 v1129 v1144 k0_hw83 => k0_hw83

def k0_off125 (v1125 : BitVec 32) (v1129 : BitVec 32) (v1144 : BitVec 32) (v1147 : BitVec 32) : Fin 4 → Nat :=
  let v1154 : Index := Scalar.indexCast v1144
  let c4_i32_494 : BitVec 32 := 4#32
  let v1130 : BitVec 32 := Scalar.shrsi v1129 c4_i32_494
  let v1148 : BitVec 32 := Scalar.addi v1130 v1147
  let v1155 : Index := Scalar.indexCast v1148
  let c4_i32_492 : BitVec 32 := 4#32
  let v1126 : BitVec 32 := Scalar.shrsi v1125 c4_i32_492
  let c3_i32_499 : BitVec 32 := 3#32
  let v1139 : BitVec 32 := Scalar.shrsi v1126 c3_i32_499
  let c3_i32_500 : BitVec 32 := 3#32
  let v1140 : BitVec 32 := Scalar.shli v1139 c3_i32_500
  let c16_i32_501 : BitVec 32 := 16#32
  let v1141 : BitVec 32 := Scalar.minsi v1140 c16_i32_501
  let v1142 : BitVec 32 := v1141
  let v1156 : Index := Scalar.indexCast v1142
  let c0_504 : Index := 0#32
  ![v1154.toNat, v1155.toNat, v1156.toNat, 0]

def k0_chk84 (v1125 : BitVec 32) (v1129 : BitVec 32) (v1144 : BitVec 32) (v1147 : BitVec 32) : Prop :=
  (∀ a, (k0_off125 v1125 v1129 v1144 v1147) a + S1x1x32x256.size a ≤ S5x50x50x256.size a)
theorem k0_off125_inb : ∀ (v1125 : BitVec 32) (v1129 : BitVec 32) (v1144 : BitVec 32) (v1147 : BitVec 32) (k0_hw84 : k0_chk84 v1125 v1129 v1144 v1147), ∀ a, (k0_off125 v1125 v1129 v1144 v1147) a + S1x1x32x256.size a ≤ S5x50x50x256.size a := fun v1125 v1129 v1144 v1147 k0_hw84 => k0_hw84

def k0_off126 : Fin 4 → Nat :=
  let c0_507 : Index := 0#32
  let c0_i32 : BitVec 32 := 0#32
  let c128_i32_488 : BitVec 32 := 128#32
  let v1118 : BitVec 32 := Scalar.muli c0_i32 c128_i32_488
  let c20_i32 : BitVec 32 := 20#32
  let v1119 : BitVec 32 := Scalar.addi v1118 c20_i32
  let v1168 : Index := Scalar.indexCast v1119
  let c0_508 : Index := 0#32
  let c0_509 : Index := 0#32
  ![0, v1168.toNat, 0, 0]
def k0_off127 (i : grid0.Coords) (c0_i32_513 : BitVec 32) : Fin 1 → Nat :=
  let arg0 : BitVec 32 := BitVec.ofNat 32 (i 0).val
  let c128_i32_511 : BitVec 32 := 128#32
  let v1174 : BitVec 32 := Scalar.muli arg0 c128_i32_511
  let c0_i32 : BitVec 32 := 0#32
  let c128_i32_510 : BitVec 32 := 128#32
  let v1172 : BitVec 32 := Scalar.muli c0_i32 c128_i32_510
  let c21_i32 : BitVec 32 := 21#32
  let v1173 : BitVec 32 := Scalar.addi v1172 c21_i32
  let v1175 : BitVec 32 := Scalar.addi v1174 v1173
  let c4_i32_512 : BitVec 32 := 4#32
  let v1176 : BitVec 32 := Scalar.muli v1175 c4_i32_512
  let v1177 : BitVec 32 := Scalar.addi v1176 c0_i32_513
  let v1178 : Index := Scalar.indexCast v1177
  ![v1178.toNat]
def k0_mult22 (v1179 : BitVec 32) : BitVec 32 :=
  let c4_i32_514 : BitVec 32 := 4#32
  let v1180 : BitVec 32 := Scalar.shrsi v1179 c4_i32_514
  let c3_i32_521 : BitVec 32 := 3#32
  let v1193 : BitVec 32 := Scalar.shrsi v1180 c3_i32_521
  let c3_i32_522 : BitVec 32 := 3#32
  let v1194 : BitVec 32 := Scalar.shli v1193 c3_i32_522
  let c16_i32_523 : BitVec 32 := 16#32
  let v1195 : BitVec 32 := Scalar.minsi v1194 c16_i32_523
  v1195

def k0_chk85 (v1179 : BitVec 32) : Prop :=
  (8 ∣ (k0_mult22 v1179).toNat)
theorem k0_mult22_dvd : ∀ (v1179 : BitVec 32) (k0_hw85 : k0_chk85 v1179), 8 ∣ (k0_mult22 v1179).toNat := fun v1179 k0_hw85 => k0_hw85

def k0_off128 (v1191 : BitVec 32) : Fin 1 → Nat :=
  let c4_i32_520 : BitVec 32 := 4#32
  let v1192 : BitVec 32 := Scalar.shrsi v1191 c4_i32_520
  let v1197 : Index := Scalar.indexCast v1192
  ![v1197.toNat]

def k0_off129 (v1191 : BitVec 32) : Fin 1 → Nat :=
  let c32_i32_524 : BitVec 32 := 32#32
  let c4_i32_520 : BitVec 32 := 4#32
  let v1192 : BitVec 32 := Scalar.shrsi v1191 c4_i32_520
  let v1199 : BitVec 32 := Scalar.addi c32_i32_524 v1192
  let v1200 : Index := Scalar.indexCast v1199
  ![v1200.toNat]

def k0_chk86 (v1191 : BitVec 32) : Prop :=
  (∀ a, (k0_off128 v1191) a + S1.size a ≤ S64.size a) ∧
  (∀ a, (k0_off129 v1191) a + S1.size a ≤ S64.size a)
theorem k0_off128_inb : ∀ (v1191 : BitVec 32) (k0_hw86 : k0_chk86 v1191), ∀ a, (k0_off128 v1191) a + S1.size a ≤ S64.size a := fun v1191 k0_hw86 => k0_hw86.1
theorem k0_off129_inb : ∀ (v1191 : BitVec 32) (k0_hw86 : k0_chk86 v1191), ∀ a, (k0_off129 v1191) a + S1.size a ≤ S64.size a := fun v1191 k0_hw86 => k0_hw86.2

def k0_off130 (v1179 : BitVec 32) (v1183 : BitVec 32) (v1198 : BitVec 32) : Fin 4 → Nat :=
  let v1203 : Index := Scalar.indexCast v1198
  let c4_i32_516 : BitVec 32 := 4#32
  let v1184 : BitVec 32 := Scalar.shrsi v1183 c4_i32_516
  let v1204 : Index := Scalar.indexCast v1184
  let c4_i32_514 : BitVec 32 := 4#32
  let v1180 : BitVec 32 := Scalar.shrsi v1179 c4_i32_514
  let c3_i32_521 : BitVec 32 := 3#32
  let v1193 : BitVec 32 := Scalar.shrsi v1180 c3_i32_521
  let c3_i32_522 : BitVec 32 := 3#32
  let v1194 : BitVec 32 := Scalar.shli v1193 c3_i32_522
  let c16_i32_523 : BitVec 32 := 16#32
  let v1195 : BitVec 32 := Scalar.minsi v1194 c16_i32_523
  let v1196 : BitVec 32 := v1195
  let v1205 : Index := Scalar.indexCast v1196
  let c0_525 : Index := 0#32
  ![v1203.toNat, v1204.toNat, v1205.toNat, 0]

def k0_chk87 (v1179 : BitVec 32) (v1183 : BitVec 32) (v1198 : BitVec 32) : Prop :=
  (∀ a, (k0_off130 v1179 v1183 v1198) a + S1x1x32x256.size a ≤ S5x50x50x256.size a)
theorem k0_off130_inb : ∀ (v1179 : BitVec 32) (v1183 : BitVec 32) (v1198 : BitVec 32) (k0_hw87 : k0_chk87 v1179 v1183 v1198), ∀ a, (k0_off130 v1179 v1183 v1198) a + S1x1x32x256.size a ≤ S5x50x50x256.size a := fun v1179 v1183 v1198 k0_hw87 => k0_hw87

def k0_off131 (v1179 : BitVec 32) (v1183 : BitVec 32) (v1198 : BitVec 32) (v1201 : BitVec 32) : Fin 4 → Nat :=
  let v1208 : Index := Scalar.indexCast v1198
  let c4_i32_516 : BitVec 32 := 4#32
  let v1184 : BitVec 32 := Scalar.shrsi v1183 c4_i32_516
  let v1202 : BitVec 32 := Scalar.addi v1184 v1201
  let v1209 : Index := Scalar.indexCast v1202
  let c4_i32_514 : BitVec 32 := 4#32
  let v1180 : BitVec 32 := Scalar.shrsi v1179 c4_i32_514
  let c3_i32_521 : BitVec 32 := 3#32
  let v1193 : BitVec 32 := Scalar.shrsi v1180 c3_i32_521
  let c3_i32_522 : BitVec 32 := 3#32
  let v1194 : BitVec 32 := Scalar.shli v1193 c3_i32_522
  let c16_i32_523 : BitVec 32 := 16#32
  let v1195 : BitVec 32 := Scalar.minsi v1194 c16_i32_523
  let v1196 : BitVec 32 := v1195
  let v1210 : Index := Scalar.indexCast v1196
  let c0_526 : Index := 0#32
  ![v1208.toNat, v1209.toNat, v1210.toNat, 0]

def k0_chk88 (v1179 : BitVec 32) (v1183 : BitVec 32) (v1198 : BitVec 32) (v1201 : BitVec 32) : Prop :=
  (∀ a, (k0_off131 v1179 v1183 v1198 v1201) a + S1x1x32x256.size a ≤ S5x50x50x256.size a)
theorem k0_off131_inb : ∀ (v1179 : BitVec 32) (v1183 : BitVec 32) (v1198 : BitVec 32) (v1201 : BitVec 32) (k0_hw88 : k0_chk88 v1179 v1183 v1198 v1201), ∀ a, (k0_off131 v1179 v1183 v1198 v1201) a + S1x1x32x256.size a ≤ S5x50x50x256.size a := fun v1179 v1183 v1198 v1201 k0_hw88 => k0_hw88

def k0_off132 : Fin 4 → Nat :=
  let c0_529 : Index := 0#32
  let c0_i32 : BitVec 32 := 0#32
  let c128_i32_510 : BitVec 32 := 128#32
  let v1172 : BitVec 32 := Scalar.muli c0_i32 c128_i32_510
  let c21_i32 : BitVec 32 := 21#32
  let v1173 : BitVec 32 := Scalar.addi v1172 c21_i32
  let v1222 : Index := Scalar.indexCast v1173
  let c0_530 : Index := 0#32
  let c0_531 : Index := 0#32
  ![0, v1222.toNat, 0, 0]
def k0_off133 (i : grid0.Coords) (c0_i32_535 : BitVec 32) : Fin 1 → Nat :=
  let arg0 : BitVec 32 := BitVec.ofNat 32 (i 0).val
  let c128_i32_533 : BitVec 32 := 128#32
  let v1228 : BitVec 32 := Scalar.muli arg0 c128_i32_533
  let c0_i32 : BitVec 32 := 0#32
  let c128_i32_532 : BitVec 32 := 128#32
  let v1226 : BitVec 32 := Scalar.muli c0_i32 c128_i32_532
  let c22_i32 : BitVec 32 := 22#32
  let v1227 : BitVec 32 := Scalar.addi v1226 c22_i32
  let v1229 : BitVec 32 := Scalar.addi v1228 v1227
  let c4_i32_534 : BitVec 32 := 4#32
  let v1230 : BitVec 32 := Scalar.muli v1229 c4_i32_534
  let v1231 : BitVec 32 := Scalar.addi v1230 c0_i32_535
  let v1232 : Index := Scalar.indexCast v1231
  ![v1232.toNat]
def k0_mult23 (v1233 : BitVec 32) : BitVec 32 :=
  let c4_i32_536 : BitVec 32 := 4#32
  let v1234 : BitVec 32 := Scalar.shrsi v1233 c4_i32_536
  let c3_i32_543 : BitVec 32 := 3#32
  let v1247 : BitVec 32 := Scalar.shrsi v1234 c3_i32_543
  let c3_i32_544 : BitVec 32 := 3#32
  let v1248 : BitVec 32 := Scalar.shli v1247 c3_i32_544
  let c16_i32_545 : BitVec 32 := 16#32
  let v1249 : BitVec 32 := Scalar.minsi v1248 c16_i32_545
  v1249

def k0_chk89 (v1233 : BitVec 32) : Prop :=
  (8 ∣ (k0_mult23 v1233).toNat)
theorem k0_mult23_dvd : ∀ (v1233 : BitVec 32) (k0_hw89 : k0_chk89 v1233), 8 ∣ (k0_mult23 v1233).toNat := fun v1233 k0_hw89 => k0_hw89

def k0_off134 (v1245 : BitVec 32) : Fin 1 → Nat :=
  let c4_i32_542 : BitVec 32 := 4#32
  let v1246 : BitVec 32 := Scalar.shrsi v1245 c4_i32_542
  let v1251 : Index := Scalar.indexCast v1246
  ![v1251.toNat]

def k0_off135 (v1245 : BitVec 32) : Fin 1 → Nat :=
  let c32_i32_546 : BitVec 32 := 32#32
  let c4_i32_542 : BitVec 32 := 4#32
  let v1246 : BitVec 32 := Scalar.shrsi v1245 c4_i32_542
  let v1253 : BitVec 32 := Scalar.addi c32_i32_546 v1246
  let v1254 : Index := Scalar.indexCast v1253
  ![v1254.toNat]

def k0_chk90 (v1245 : BitVec 32) : Prop :=
  (∀ a, (k0_off134 v1245) a + S1.size a ≤ S64.size a) ∧
  (∀ a, (k0_off135 v1245) a + S1.size a ≤ S64.size a)
theorem k0_off134_inb : ∀ (v1245 : BitVec 32) (k0_hw90 : k0_chk90 v1245), ∀ a, (k0_off134 v1245) a + S1.size a ≤ S64.size a := fun v1245 k0_hw90 => k0_hw90.1
theorem k0_off135_inb : ∀ (v1245 : BitVec 32) (k0_hw90 : k0_chk90 v1245), ∀ a, (k0_off135 v1245) a + S1.size a ≤ S64.size a := fun v1245 k0_hw90 => k0_hw90.2

def k0_off136 (v1233 : BitVec 32) (v1237 : BitVec 32) (v1252 : BitVec 32) : Fin 4 → Nat :=
  let v1257 : Index := Scalar.indexCast v1252
  let c4_i32_538 : BitVec 32 := 4#32
  let v1238 : BitVec 32 := Scalar.shrsi v1237 c4_i32_538
  let v1258 : Index := Scalar.indexCast v1238
  let c4_i32_536 : BitVec 32 := 4#32
  let v1234 : BitVec 32 := Scalar.shrsi v1233 c4_i32_536
  let c3_i32_543 : BitVec 32 := 3#32
  let v1247 : BitVec 32 := Scalar.shrsi v1234 c3_i32_543
  let c3_i32_544 : BitVec 32 := 3#32
  let v1248 : BitVec 32 := Scalar.shli v1247 c3_i32_544
  let c16_i32_545 : BitVec 32 := 16#32
  let v1249 : BitVec 32 := Scalar.minsi v1248 c16_i32_545
  let v1250 : BitVec 32 := v1249
  let v1259 : Index := Scalar.indexCast v1250
  let c0_547 : Index := 0#32
  ![v1257.toNat, v1258.toNat, v1259.toNat, 0]

def k0_chk91 (v1233 : BitVec 32) (v1237 : BitVec 32) (v1252 : BitVec 32) : Prop :=
  (∀ a, (k0_off136 v1233 v1237 v1252) a + S1x1x32x256.size a ≤ S5x50x50x256.size a)
theorem k0_off136_inb : ∀ (v1233 : BitVec 32) (v1237 : BitVec 32) (v1252 : BitVec 32) (k0_hw91 : k0_chk91 v1233 v1237 v1252), ∀ a, (k0_off136 v1233 v1237 v1252) a + S1x1x32x256.size a ≤ S5x50x50x256.size a := fun v1233 v1237 v1252 k0_hw91 => k0_hw91

def k0_off137 (v1233 : BitVec 32) (v1237 : BitVec 32) (v1252 : BitVec 32) (v1255 : BitVec 32) : Fin 4 → Nat :=
  let v1262 : Index := Scalar.indexCast v1252
  let c4_i32_538 : BitVec 32 := 4#32
  let v1238 : BitVec 32 := Scalar.shrsi v1237 c4_i32_538
  let v1256 : BitVec 32 := Scalar.addi v1238 v1255
  let v1263 : Index := Scalar.indexCast v1256
  let c4_i32_536 : BitVec 32 := 4#32
  let v1234 : BitVec 32 := Scalar.shrsi v1233 c4_i32_536
  let c3_i32_543 : BitVec 32 := 3#32
  let v1247 : BitVec 32 := Scalar.shrsi v1234 c3_i32_543
  let c3_i32_544 : BitVec 32 := 3#32
  let v1248 : BitVec 32 := Scalar.shli v1247 c3_i32_544
  let c16_i32_545 : BitVec 32 := 16#32
  let v1249 : BitVec 32 := Scalar.minsi v1248 c16_i32_545
  let v1250 : BitVec 32 := v1249
  let v1264 : Index := Scalar.indexCast v1250
  let c0_548 : Index := 0#32
  ![v1262.toNat, v1263.toNat, v1264.toNat, 0]

def k0_chk92 (v1233 : BitVec 32) (v1237 : BitVec 32) (v1252 : BitVec 32) (v1255 : BitVec 32) : Prop :=
  (∀ a, (k0_off137 v1233 v1237 v1252 v1255) a + S1x1x32x256.size a ≤ S5x50x50x256.size a)
theorem k0_off137_inb : ∀ (v1233 : BitVec 32) (v1237 : BitVec 32) (v1252 : BitVec 32) (v1255 : BitVec 32) (k0_hw92 : k0_chk92 v1233 v1237 v1252 v1255), ∀ a, (k0_off137 v1233 v1237 v1252 v1255) a + S1x1x32x256.size a ≤ S5x50x50x256.size a := fun v1233 v1237 v1252 v1255 k0_hw92 => k0_hw92

def k0_off138 : Fin 4 → Nat :=
  let c0_551 : Index := 0#32
  let c0_i32 : BitVec 32 := 0#32
  let c128_i32_532 : BitVec 32 := 128#32
  let v1226 : BitVec 32 := Scalar.muli c0_i32 c128_i32_532
  let c22_i32 : BitVec 32 := 22#32
  let v1227 : BitVec 32 := Scalar.addi v1226 c22_i32
  let v1276 : Index := Scalar.indexCast v1227
  let c0_552 : Index := 0#32
  let c0_553 : Index := 0#32
  ![0, v1276.toNat, 0, 0]
def k0_off139 (i : grid0.Coords) (c0_i32_557 : BitVec 32) : Fin 1 → Nat :=
  let arg0 : BitVec 32 := BitVec.ofNat 32 (i 0).val
  let c128_i32_555 : BitVec 32 := 128#32
  let v1282 : BitVec 32 := Scalar.muli arg0 c128_i32_555
  let c0_i32 : BitVec 32 := 0#32
  let c128_i32_554 : BitVec 32 := 128#32
  let v1280 : BitVec 32 := Scalar.muli c0_i32 c128_i32_554
  let c23_i32 : BitVec 32 := 23#32
  let v1281 : BitVec 32 := Scalar.addi v1280 c23_i32
  let v1283 : BitVec 32 := Scalar.addi v1282 v1281
  let c4_i32_556 : BitVec 32 := 4#32
  let v1284 : BitVec 32 := Scalar.muli v1283 c4_i32_556
  let v1285 : BitVec 32 := Scalar.addi v1284 c0_i32_557
  let v1286 : Index := Scalar.indexCast v1285
  ![v1286.toNat]
def k0_mult24 (v1287 : BitVec 32) : BitVec 32 :=
  let c4_i32_558 : BitVec 32 := 4#32
  let v1288 : BitVec 32 := Scalar.shrsi v1287 c4_i32_558
  let c3_i32_565 : BitVec 32 := 3#32
  let v1301 : BitVec 32 := Scalar.shrsi v1288 c3_i32_565
  let c3_i32_566 : BitVec 32 := 3#32
  let v1302 : BitVec 32 := Scalar.shli v1301 c3_i32_566
  let c16_i32_567 : BitVec 32 := 16#32
  let v1303 : BitVec 32 := Scalar.minsi v1302 c16_i32_567
  v1303

def k0_chk93 (v1287 : BitVec 32) : Prop :=
  (8 ∣ (k0_mult24 v1287).toNat)
theorem k0_mult24_dvd : ∀ (v1287 : BitVec 32) (k0_hw93 : k0_chk93 v1287), 8 ∣ (k0_mult24 v1287).toNat := fun v1287 k0_hw93 => k0_hw93

def k0_off140 (v1299 : BitVec 32) : Fin 1 → Nat :=
  let c4_i32_564 : BitVec 32 := 4#32
  let v1300 : BitVec 32 := Scalar.shrsi v1299 c4_i32_564
  let v1305 : Index := Scalar.indexCast v1300
  ![v1305.toNat]

def k0_off141 (v1299 : BitVec 32) : Fin 1 → Nat :=
  let c32_i32_568 : BitVec 32 := 32#32
  let c4_i32_564 : BitVec 32 := 4#32
  let v1300 : BitVec 32 := Scalar.shrsi v1299 c4_i32_564
  let v1307 : BitVec 32 := Scalar.addi c32_i32_568 v1300
  let v1308 : Index := Scalar.indexCast v1307
  ![v1308.toNat]

def k0_chk94 (v1299 : BitVec 32) : Prop :=
  (∀ a, (k0_off140 v1299) a + S1.size a ≤ S64.size a) ∧
  (∀ a, (k0_off141 v1299) a + S1.size a ≤ S64.size a)
theorem k0_off140_inb : ∀ (v1299 : BitVec 32) (k0_hw94 : k0_chk94 v1299), ∀ a, (k0_off140 v1299) a + S1.size a ≤ S64.size a := fun v1299 k0_hw94 => k0_hw94.1
theorem k0_off141_inb : ∀ (v1299 : BitVec 32) (k0_hw94 : k0_chk94 v1299), ∀ a, (k0_off141 v1299) a + S1.size a ≤ S64.size a := fun v1299 k0_hw94 => k0_hw94.2

def k0_off142 (v1287 : BitVec 32) (v1291 : BitVec 32) (v1306 : BitVec 32) : Fin 4 → Nat :=
  let v1311 : Index := Scalar.indexCast v1306
  let c4_i32_560 : BitVec 32 := 4#32
  let v1292 : BitVec 32 := Scalar.shrsi v1291 c4_i32_560
  let v1312 : Index := Scalar.indexCast v1292
  let c4_i32_558 : BitVec 32 := 4#32
  let v1288 : BitVec 32 := Scalar.shrsi v1287 c4_i32_558
  let c3_i32_565 : BitVec 32 := 3#32
  let v1301 : BitVec 32 := Scalar.shrsi v1288 c3_i32_565
  let c3_i32_566 : BitVec 32 := 3#32
  let v1302 : BitVec 32 := Scalar.shli v1301 c3_i32_566
  let c16_i32_567 : BitVec 32 := 16#32
  let v1303 : BitVec 32 := Scalar.minsi v1302 c16_i32_567
  let v1304 : BitVec 32 := v1303
  let v1313 : Index := Scalar.indexCast v1304
  let c0_569 : Index := 0#32
  ![v1311.toNat, v1312.toNat, v1313.toNat, 0]

def k0_chk95 (v1287 : BitVec 32) (v1291 : BitVec 32) (v1306 : BitVec 32) : Prop :=
  (∀ a, (k0_off142 v1287 v1291 v1306) a + S1x1x32x256.size a ≤ S5x50x50x256.size a)
theorem k0_off142_inb : ∀ (v1287 : BitVec 32) (v1291 : BitVec 32) (v1306 : BitVec 32) (k0_hw95 : k0_chk95 v1287 v1291 v1306), ∀ a, (k0_off142 v1287 v1291 v1306) a + S1x1x32x256.size a ≤ S5x50x50x256.size a := fun v1287 v1291 v1306 k0_hw95 => k0_hw95

def k0_off143 (v1287 : BitVec 32) (v1291 : BitVec 32) (v1306 : BitVec 32) (v1309 : BitVec 32) : Fin 4 → Nat :=
  let v1316 : Index := Scalar.indexCast v1306
  let c4_i32_560 : BitVec 32 := 4#32
  let v1292 : BitVec 32 := Scalar.shrsi v1291 c4_i32_560
  let v1310 : BitVec 32 := Scalar.addi v1292 v1309
  let v1317 : Index := Scalar.indexCast v1310
  let c4_i32_558 : BitVec 32 := 4#32
  let v1288 : BitVec 32 := Scalar.shrsi v1287 c4_i32_558
  let c3_i32_565 : BitVec 32 := 3#32
  let v1301 : BitVec 32 := Scalar.shrsi v1288 c3_i32_565
  let c3_i32_566 : BitVec 32 := 3#32
  let v1302 : BitVec 32 := Scalar.shli v1301 c3_i32_566
  let c16_i32_567 : BitVec 32 := 16#32
  let v1303 : BitVec 32 := Scalar.minsi v1302 c16_i32_567
  let v1304 : BitVec 32 := v1303
  let v1318 : Index := Scalar.indexCast v1304
  let c0_570 : Index := 0#32
  ![v1316.toNat, v1317.toNat, v1318.toNat, 0]

def k0_chk96 (v1287 : BitVec 32) (v1291 : BitVec 32) (v1306 : BitVec 32) (v1309 : BitVec 32) : Prop :=
  (∀ a, (k0_off143 v1287 v1291 v1306 v1309) a + S1x1x32x256.size a ≤ S5x50x50x256.size a)
theorem k0_off143_inb : ∀ (v1287 : BitVec 32) (v1291 : BitVec 32) (v1306 : BitVec 32) (v1309 : BitVec 32) (k0_hw96 : k0_chk96 v1287 v1291 v1306 v1309), ∀ a, (k0_off143 v1287 v1291 v1306 v1309) a + S1x1x32x256.size a ≤ S5x50x50x256.size a := fun v1287 v1291 v1306 v1309 k0_hw96 => k0_hw96

def k0_off144 : Fin 4 → Nat :=
  let c0_573 : Index := 0#32
  let c0_i32 : BitVec 32 := 0#32
  let c128_i32_554 : BitVec 32 := 128#32
  let v1280 : BitVec 32 := Scalar.muli c0_i32 c128_i32_554
  let c23_i32 : BitVec 32 := 23#32
  let v1281 : BitVec 32 := Scalar.addi v1280 c23_i32
  let v1330 : Index := Scalar.indexCast v1281
  let c0_574 : Index := 0#32
  let c0_575 : Index := 0#32
  ![0, v1330.toNat, 0, 0]
def k0_off145 (i : grid0.Coords) (c0_i32_579 : BitVec 32) : Fin 1 → Nat :=
  let arg0 : BitVec 32 := BitVec.ofNat 32 (i 0).val
  let c128_i32_577 : BitVec 32 := 128#32
  let v1336 : BitVec 32 := Scalar.muli arg0 c128_i32_577
  let c0_i32 : BitVec 32 := 0#32
  let c128_i32_576 : BitVec 32 := 128#32
  let v1334 : BitVec 32 := Scalar.muli c0_i32 c128_i32_576
  let c24_i32 : BitVec 32 := 24#32
  let v1335 : BitVec 32 := Scalar.addi v1334 c24_i32
  let v1337 : BitVec 32 := Scalar.addi v1336 v1335
  let c4_i32_578 : BitVec 32 := 4#32
  let v1338 : BitVec 32 := Scalar.muli v1337 c4_i32_578
  let v1339 : BitVec 32 := Scalar.addi v1338 c0_i32_579
  let v1340 : Index := Scalar.indexCast v1339
  ![v1340.toNat]
def k0_mult25 (v1341 : BitVec 32) : BitVec 32 :=
  let c4_i32_580 : BitVec 32 := 4#32
  let v1342 : BitVec 32 := Scalar.shrsi v1341 c4_i32_580
  let c3_i32_587 : BitVec 32 := 3#32
  let v1355 : BitVec 32 := Scalar.shrsi v1342 c3_i32_587
  let c3_i32_588 : BitVec 32 := 3#32
  let v1356 : BitVec 32 := Scalar.shli v1355 c3_i32_588
  let c16_i32_589 : BitVec 32 := 16#32
  let v1357 : BitVec 32 := Scalar.minsi v1356 c16_i32_589
  v1357

def k0_chk97 (v1341 : BitVec 32) : Prop :=
  (8 ∣ (k0_mult25 v1341).toNat)
theorem k0_mult25_dvd : ∀ (v1341 : BitVec 32) (k0_hw97 : k0_chk97 v1341), 8 ∣ (k0_mult25 v1341).toNat := fun v1341 k0_hw97 => k0_hw97

def k0_off146 (v1353 : BitVec 32) : Fin 1 → Nat :=
  let c4_i32_586 : BitVec 32 := 4#32
  let v1354 : BitVec 32 := Scalar.shrsi v1353 c4_i32_586
  let v1359 : Index := Scalar.indexCast v1354
  ![v1359.toNat]

def k0_off147 (v1353 : BitVec 32) : Fin 1 → Nat :=
  let c32_i32_590 : BitVec 32 := 32#32
  let c4_i32_586 : BitVec 32 := 4#32
  let v1354 : BitVec 32 := Scalar.shrsi v1353 c4_i32_586
  let v1361 : BitVec 32 := Scalar.addi c32_i32_590 v1354
  let v1362 : Index := Scalar.indexCast v1361
  ![v1362.toNat]

def k0_chk98 (v1353 : BitVec 32) : Prop :=
  (∀ a, (k0_off146 v1353) a + S1.size a ≤ S64.size a) ∧
  (∀ a, (k0_off147 v1353) a + S1.size a ≤ S64.size a)
theorem k0_off146_inb : ∀ (v1353 : BitVec 32) (k0_hw98 : k0_chk98 v1353), ∀ a, (k0_off146 v1353) a + S1.size a ≤ S64.size a := fun v1353 k0_hw98 => k0_hw98.1
theorem k0_off147_inb : ∀ (v1353 : BitVec 32) (k0_hw98 : k0_chk98 v1353), ∀ a, (k0_off147 v1353) a + S1.size a ≤ S64.size a := fun v1353 k0_hw98 => k0_hw98.2

def k0_off148 (v1341 : BitVec 32) (v1345 : BitVec 32) (v1360 : BitVec 32) : Fin 4 → Nat :=
  let v1365 : Index := Scalar.indexCast v1360
  let c4_i32_582 : BitVec 32 := 4#32
  let v1346 : BitVec 32 := Scalar.shrsi v1345 c4_i32_582
  let v1366 : Index := Scalar.indexCast v1346
  let c4_i32_580 : BitVec 32 := 4#32
  let v1342 : BitVec 32 := Scalar.shrsi v1341 c4_i32_580
  let c3_i32_587 : BitVec 32 := 3#32
  let v1355 : BitVec 32 := Scalar.shrsi v1342 c3_i32_587
  let c3_i32_588 : BitVec 32 := 3#32
  let v1356 : BitVec 32 := Scalar.shli v1355 c3_i32_588
  let c16_i32_589 : BitVec 32 := 16#32
  let v1357 : BitVec 32 := Scalar.minsi v1356 c16_i32_589
  let v1358 : BitVec 32 := v1357
  let v1367 : Index := Scalar.indexCast v1358
  let c0_591 : Index := 0#32
  ![v1365.toNat, v1366.toNat, v1367.toNat, 0]

def k0_chk99 (v1341 : BitVec 32) (v1345 : BitVec 32) (v1360 : BitVec 32) : Prop :=
  (∀ a, (k0_off148 v1341 v1345 v1360) a + S1x1x32x256.size a ≤ S5x50x50x256.size a)
theorem k0_off148_inb : ∀ (v1341 : BitVec 32) (v1345 : BitVec 32) (v1360 : BitVec 32) (k0_hw99 : k0_chk99 v1341 v1345 v1360), ∀ a, (k0_off148 v1341 v1345 v1360) a + S1x1x32x256.size a ≤ S5x50x50x256.size a := fun v1341 v1345 v1360 k0_hw99 => k0_hw99

def k0_off149 (v1341 : BitVec 32) (v1345 : BitVec 32) (v1360 : BitVec 32) (v1363 : BitVec 32) : Fin 4 → Nat :=
  let v1370 : Index := Scalar.indexCast v1360
  let c4_i32_582 : BitVec 32 := 4#32
  let v1346 : BitVec 32 := Scalar.shrsi v1345 c4_i32_582
  let v1364 : BitVec 32 := Scalar.addi v1346 v1363
  let v1371 : Index := Scalar.indexCast v1364
  let c4_i32_580 : BitVec 32 := 4#32
  let v1342 : BitVec 32 := Scalar.shrsi v1341 c4_i32_580
  let c3_i32_587 : BitVec 32 := 3#32
  let v1355 : BitVec 32 := Scalar.shrsi v1342 c3_i32_587
  let c3_i32_588 : BitVec 32 := 3#32
  let v1356 : BitVec 32 := Scalar.shli v1355 c3_i32_588
  let c16_i32_589 : BitVec 32 := 16#32
  let v1357 : BitVec 32 := Scalar.minsi v1356 c16_i32_589
  let v1358 : BitVec 32 := v1357
  let v1372 : Index := Scalar.indexCast v1358
  let c0_592 : Index := 0#32
  ![v1370.toNat, v1371.toNat, v1372.toNat, 0]

def k0_chk100 (v1341 : BitVec 32) (v1345 : BitVec 32) (v1360 : BitVec 32) (v1363 : BitVec 32) : Prop :=
  (∀ a, (k0_off149 v1341 v1345 v1360 v1363) a + S1x1x32x256.size a ≤ S5x50x50x256.size a)
theorem k0_off149_inb : ∀ (v1341 : BitVec 32) (v1345 : BitVec 32) (v1360 : BitVec 32) (v1363 : BitVec 32) (k0_hw100 : k0_chk100 v1341 v1345 v1360 v1363), ∀ a, (k0_off149 v1341 v1345 v1360 v1363) a + S1x1x32x256.size a ≤ S5x50x50x256.size a := fun v1341 v1345 v1360 v1363 k0_hw100 => k0_hw100

def k0_off150 : Fin 4 → Nat :=
  let c0_595 : Index := 0#32
  let c0_i32 : BitVec 32 := 0#32
  let c128_i32_576 : BitVec 32 := 128#32
  let v1334 : BitVec 32 := Scalar.muli c0_i32 c128_i32_576
  let c24_i32 : BitVec 32 := 24#32
  let v1335 : BitVec 32 := Scalar.addi v1334 c24_i32
  let v1384 : Index := Scalar.indexCast v1335
  let c0_596 : Index := 0#32
  let c0_597 : Index := 0#32
  ![0, v1384.toNat, 0, 0]
def k0_off151 (i : grid0.Coords) (c0_i32_601 : BitVec 32) : Fin 1 → Nat :=
  let arg0 : BitVec 32 := BitVec.ofNat 32 (i 0).val
  let c128_i32_599 : BitVec 32 := 128#32
  let v1390 : BitVec 32 := Scalar.muli arg0 c128_i32_599
  let c0_i32 : BitVec 32 := 0#32
  let c128_i32_598 : BitVec 32 := 128#32
  let v1388 : BitVec 32 := Scalar.muli c0_i32 c128_i32_598
  let c25_i32 : BitVec 32 := 25#32
  let v1389 : BitVec 32 := Scalar.addi v1388 c25_i32
  let v1391 : BitVec 32 := Scalar.addi v1390 v1389
  let c4_i32_600 : BitVec 32 := 4#32
  let v1392 : BitVec 32 := Scalar.muli v1391 c4_i32_600
  let v1393 : BitVec 32 := Scalar.addi v1392 c0_i32_601
  let v1394 : Index := Scalar.indexCast v1393
  ![v1394.toNat]
def k0_mult26 (v1395 : BitVec 32) : BitVec 32 :=
  let c4_i32_602 : BitVec 32 := 4#32
  let v1396 : BitVec 32 := Scalar.shrsi v1395 c4_i32_602
  let c3_i32_609 : BitVec 32 := 3#32
  let v1409 : BitVec 32 := Scalar.shrsi v1396 c3_i32_609
  let c3_i32_610 : BitVec 32 := 3#32
  let v1410 : BitVec 32 := Scalar.shli v1409 c3_i32_610
  let c16_i32_611 : BitVec 32 := 16#32
  let v1411 : BitVec 32 := Scalar.minsi v1410 c16_i32_611
  v1411

def k0_chk101 (v1395 : BitVec 32) : Prop :=
  (8 ∣ (k0_mult26 v1395).toNat)
theorem k0_mult26_dvd : ∀ (v1395 : BitVec 32) (k0_hw101 : k0_chk101 v1395), 8 ∣ (k0_mult26 v1395).toNat := fun v1395 k0_hw101 => k0_hw101

def k0_off152 (v1407 : BitVec 32) : Fin 1 → Nat :=
  let c4_i32_608 : BitVec 32 := 4#32
  let v1408 : BitVec 32 := Scalar.shrsi v1407 c4_i32_608
  let v1413 : Index := Scalar.indexCast v1408
  ![v1413.toNat]

def k0_off153 (v1407 : BitVec 32) : Fin 1 → Nat :=
  let c32_i32_612 : BitVec 32 := 32#32
  let c4_i32_608 : BitVec 32 := 4#32
  let v1408 : BitVec 32 := Scalar.shrsi v1407 c4_i32_608
  let v1415 : BitVec 32 := Scalar.addi c32_i32_612 v1408
  let v1416 : Index := Scalar.indexCast v1415
  ![v1416.toNat]

def k0_chk102 (v1407 : BitVec 32) : Prop :=
  (∀ a, (k0_off152 v1407) a + S1.size a ≤ S64.size a) ∧
  (∀ a, (k0_off153 v1407) a + S1.size a ≤ S64.size a)
theorem k0_off152_inb : ∀ (v1407 : BitVec 32) (k0_hw102 : k0_chk102 v1407), ∀ a, (k0_off152 v1407) a + S1.size a ≤ S64.size a := fun v1407 k0_hw102 => k0_hw102.1
theorem k0_off153_inb : ∀ (v1407 : BitVec 32) (k0_hw102 : k0_chk102 v1407), ∀ a, (k0_off153 v1407) a + S1.size a ≤ S64.size a := fun v1407 k0_hw102 => k0_hw102.2

def k0_off154 (v1395 : BitVec 32) (v1399 : BitVec 32) (v1414 : BitVec 32) : Fin 4 → Nat :=
  let v1419 : Index := Scalar.indexCast v1414
  let c4_i32_604 : BitVec 32 := 4#32
  let v1400 : BitVec 32 := Scalar.shrsi v1399 c4_i32_604
  let v1420 : Index := Scalar.indexCast v1400
  let c4_i32_602 : BitVec 32 := 4#32
  let v1396 : BitVec 32 := Scalar.shrsi v1395 c4_i32_602
  let c3_i32_609 : BitVec 32 := 3#32
  let v1409 : BitVec 32 := Scalar.shrsi v1396 c3_i32_609
  let c3_i32_610 : BitVec 32 := 3#32
  let v1410 : BitVec 32 := Scalar.shli v1409 c3_i32_610
  let c16_i32_611 : BitVec 32 := 16#32
  let v1411 : BitVec 32 := Scalar.minsi v1410 c16_i32_611
  let v1412 : BitVec 32 := v1411
  let v1421 : Index := Scalar.indexCast v1412
  let c0_613 : Index := 0#32
  ![v1419.toNat, v1420.toNat, v1421.toNat, 0]

def k0_chk103 (v1395 : BitVec 32) (v1399 : BitVec 32) (v1414 : BitVec 32) : Prop :=
  (∀ a, (k0_off154 v1395 v1399 v1414) a + S1x1x32x256.size a ≤ S5x50x50x256.size a)
theorem k0_off154_inb : ∀ (v1395 : BitVec 32) (v1399 : BitVec 32) (v1414 : BitVec 32) (k0_hw103 : k0_chk103 v1395 v1399 v1414), ∀ a, (k0_off154 v1395 v1399 v1414) a + S1x1x32x256.size a ≤ S5x50x50x256.size a := fun v1395 v1399 v1414 k0_hw103 => k0_hw103

def k0_off155 (v1395 : BitVec 32) (v1399 : BitVec 32) (v1414 : BitVec 32) (v1417 : BitVec 32) : Fin 4 → Nat :=
  let v1424 : Index := Scalar.indexCast v1414
  let c4_i32_604 : BitVec 32 := 4#32
  let v1400 : BitVec 32 := Scalar.shrsi v1399 c4_i32_604
  let v1418 : BitVec 32 := Scalar.addi v1400 v1417
  let v1425 : Index := Scalar.indexCast v1418
  let c4_i32_602 : BitVec 32 := 4#32
  let v1396 : BitVec 32 := Scalar.shrsi v1395 c4_i32_602
  let c3_i32_609 : BitVec 32 := 3#32
  let v1409 : BitVec 32 := Scalar.shrsi v1396 c3_i32_609
  let c3_i32_610 : BitVec 32 := 3#32
  let v1410 : BitVec 32 := Scalar.shli v1409 c3_i32_610
  let c16_i32_611 : BitVec 32 := 16#32
  let v1411 : BitVec 32 := Scalar.minsi v1410 c16_i32_611
  let v1412 : BitVec 32 := v1411
  let v1426 : Index := Scalar.indexCast v1412
  let c0_614 : Index := 0#32
  ![v1424.toNat, v1425.toNat, v1426.toNat, 0]

def k0_chk104 (v1395 : BitVec 32) (v1399 : BitVec 32) (v1414 : BitVec 32) (v1417 : BitVec 32) : Prop :=
  (∀ a, (k0_off155 v1395 v1399 v1414 v1417) a + S1x1x32x256.size a ≤ S5x50x50x256.size a)
theorem k0_off155_inb : ∀ (v1395 : BitVec 32) (v1399 : BitVec 32) (v1414 : BitVec 32) (v1417 : BitVec 32) (k0_hw104 : k0_chk104 v1395 v1399 v1414 v1417), ∀ a, (k0_off155 v1395 v1399 v1414 v1417) a + S1x1x32x256.size a ≤ S5x50x50x256.size a := fun v1395 v1399 v1414 v1417 k0_hw104 => k0_hw104

def k0_off156 : Fin 4 → Nat :=
  let c0_617 : Index := 0#32
  let c0_i32 : BitVec 32 := 0#32
  let c128_i32_598 : BitVec 32 := 128#32
  let v1388 : BitVec 32 := Scalar.muli c0_i32 c128_i32_598
  let c25_i32 : BitVec 32 := 25#32
  let v1389 : BitVec 32 := Scalar.addi v1388 c25_i32
  let v1438 : Index := Scalar.indexCast v1389
  let c0_618 : Index := 0#32
  let c0_619 : Index := 0#32
  ![0, v1438.toNat, 0, 0]
def k0_off157 (i : grid0.Coords) (c0_i32_623 : BitVec 32) : Fin 1 → Nat :=
  let arg0 : BitVec 32 := BitVec.ofNat 32 (i 0).val
  let c128_i32_621 : BitVec 32 := 128#32
  let v1444 : BitVec 32 := Scalar.muli arg0 c128_i32_621
  let c0_i32 : BitVec 32 := 0#32
  let c128_i32_620 : BitVec 32 := 128#32
  let v1442 : BitVec 32 := Scalar.muli c0_i32 c128_i32_620
  let c26_i32 : BitVec 32 := 26#32
  let v1443 : BitVec 32 := Scalar.addi v1442 c26_i32
  let v1445 : BitVec 32 := Scalar.addi v1444 v1443
  let c4_i32_622 : BitVec 32 := 4#32
  let v1446 : BitVec 32 := Scalar.muli v1445 c4_i32_622
  let v1447 : BitVec 32 := Scalar.addi v1446 c0_i32_623
  let v1448 : Index := Scalar.indexCast v1447
  ![v1448.toNat]
def k0_mult27 (v1449 : BitVec 32) : BitVec 32 :=
  let c4_i32_624 : BitVec 32 := 4#32
  let v1450 : BitVec 32 := Scalar.shrsi v1449 c4_i32_624
  let c3_i32_631 : BitVec 32 := 3#32
  let v1463 : BitVec 32 := Scalar.shrsi v1450 c3_i32_631
  let c3_i32_632 : BitVec 32 := 3#32
  let v1464 : BitVec 32 := Scalar.shli v1463 c3_i32_632
  let c16_i32_633 : BitVec 32 := 16#32
  let v1465 : BitVec 32 := Scalar.minsi v1464 c16_i32_633
  v1465

def k0_chk105 (v1449 : BitVec 32) : Prop :=
  (8 ∣ (k0_mult27 v1449).toNat)
theorem k0_mult27_dvd : ∀ (v1449 : BitVec 32) (k0_hw105 : k0_chk105 v1449), 8 ∣ (k0_mult27 v1449).toNat := fun v1449 k0_hw105 => k0_hw105

def k0_off158 (v1461 : BitVec 32) : Fin 1 → Nat :=
  let c4_i32_630 : BitVec 32 := 4#32
  let v1462 : BitVec 32 := Scalar.shrsi v1461 c4_i32_630
  let v1467 : Index := Scalar.indexCast v1462
  ![v1467.toNat]

def k0_off159 (v1461 : BitVec 32) : Fin 1 → Nat :=
  let c32_i32_634 : BitVec 32 := 32#32
  let c4_i32_630 : BitVec 32 := 4#32
  let v1462 : BitVec 32 := Scalar.shrsi v1461 c4_i32_630
  let v1469 : BitVec 32 := Scalar.addi c32_i32_634 v1462
  let v1470 : Index := Scalar.indexCast v1469
  ![v1470.toNat]

def k0_chk106 (v1461 : BitVec 32) : Prop :=
  (∀ a, (k0_off158 v1461) a + S1.size a ≤ S64.size a) ∧
  (∀ a, (k0_off159 v1461) a + S1.size a ≤ S64.size a)
theorem k0_off158_inb : ∀ (v1461 : BitVec 32) (k0_hw106 : k0_chk106 v1461), ∀ a, (k0_off158 v1461) a + S1.size a ≤ S64.size a := fun v1461 k0_hw106 => k0_hw106.1
theorem k0_off159_inb : ∀ (v1461 : BitVec 32) (k0_hw106 : k0_chk106 v1461), ∀ a, (k0_off159 v1461) a + S1.size a ≤ S64.size a := fun v1461 k0_hw106 => k0_hw106.2

def k0_off160 (v1449 : BitVec 32) (v1453 : BitVec 32) (v1468 : BitVec 32) : Fin 4 → Nat :=
  let v1473 : Index := Scalar.indexCast v1468
  let c4_i32_626 : BitVec 32 := 4#32
  let v1454 : BitVec 32 := Scalar.shrsi v1453 c4_i32_626
  let v1474 : Index := Scalar.indexCast v1454
  let c4_i32_624 : BitVec 32 := 4#32
  let v1450 : BitVec 32 := Scalar.shrsi v1449 c4_i32_624
  let c3_i32_631 : BitVec 32 := 3#32
  let v1463 : BitVec 32 := Scalar.shrsi v1450 c3_i32_631
  let c3_i32_632 : BitVec 32 := 3#32
  let v1464 : BitVec 32 := Scalar.shli v1463 c3_i32_632
  let c16_i32_633 : BitVec 32 := 16#32
  let v1465 : BitVec 32 := Scalar.minsi v1464 c16_i32_633
  let v1466 : BitVec 32 := v1465
  let v1475 : Index := Scalar.indexCast v1466
  let c0_635 : Index := 0#32
  ![v1473.toNat, v1474.toNat, v1475.toNat, 0]

def k0_chk107 (v1449 : BitVec 32) (v1453 : BitVec 32) (v1468 : BitVec 32) : Prop :=
  (∀ a, (k0_off160 v1449 v1453 v1468) a + S1x1x32x256.size a ≤ S5x50x50x256.size a)
theorem k0_off160_inb : ∀ (v1449 : BitVec 32) (v1453 : BitVec 32) (v1468 : BitVec 32) (k0_hw107 : k0_chk107 v1449 v1453 v1468), ∀ a, (k0_off160 v1449 v1453 v1468) a + S1x1x32x256.size a ≤ S5x50x50x256.size a := fun v1449 v1453 v1468 k0_hw107 => k0_hw107

def k0_off161 (v1449 : BitVec 32) (v1453 : BitVec 32) (v1468 : BitVec 32) (v1471 : BitVec 32) : Fin 4 → Nat :=
  let v1478 : Index := Scalar.indexCast v1468
  let c4_i32_626 : BitVec 32 := 4#32
  let v1454 : BitVec 32 := Scalar.shrsi v1453 c4_i32_626
  let v1472 : BitVec 32 := Scalar.addi v1454 v1471
  let v1479 : Index := Scalar.indexCast v1472
  let c4_i32_624 : BitVec 32 := 4#32
  let v1450 : BitVec 32 := Scalar.shrsi v1449 c4_i32_624
  let c3_i32_631 : BitVec 32 := 3#32
  let v1463 : BitVec 32 := Scalar.shrsi v1450 c3_i32_631
  let c3_i32_632 : BitVec 32 := 3#32
  let v1464 : BitVec 32 := Scalar.shli v1463 c3_i32_632
  let c16_i32_633 : BitVec 32 := 16#32
  let v1465 : BitVec 32 := Scalar.minsi v1464 c16_i32_633
  let v1466 : BitVec 32 := v1465
  let v1480 : Index := Scalar.indexCast v1466
  let c0_636 : Index := 0#32
  ![v1478.toNat, v1479.toNat, v1480.toNat, 0]

def k0_chk108 (v1449 : BitVec 32) (v1453 : BitVec 32) (v1468 : BitVec 32) (v1471 : BitVec 32) : Prop :=
  (∀ a, (k0_off161 v1449 v1453 v1468 v1471) a + S1x1x32x256.size a ≤ S5x50x50x256.size a)
theorem k0_off161_inb : ∀ (v1449 : BitVec 32) (v1453 : BitVec 32) (v1468 : BitVec 32) (v1471 : BitVec 32) (k0_hw108 : k0_chk108 v1449 v1453 v1468 v1471), ∀ a, (k0_off161 v1449 v1453 v1468 v1471) a + S1x1x32x256.size a ≤ S5x50x50x256.size a := fun v1449 v1453 v1468 v1471 k0_hw108 => k0_hw108

def k0_off162 : Fin 4 → Nat :=
  let c0_639 : Index := 0#32
  let c0_i32 : BitVec 32 := 0#32
  let c128_i32_620 : BitVec 32 := 128#32
  let v1442 : BitVec 32 := Scalar.muli c0_i32 c128_i32_620
  let c26_i32 : BitVec 32 := 26#32
  let v1443 : BitVec 32 := Scalar.addi v1442 c26_i32
  let v1492 : Index := Scalar.indexCast v1443
  let c0_640 : Index := 0#32
  let c0_641 : Index := 0#32
  ![0, v1492.toNat, 0, 0]
def k0_off163 (i : grid0.Coords) (c0_i32_645 : BitVec 32) : Fin 1 → Nat :=
  let arg0 : BitVec 32 := BitVec.ofNat 32 (i 0).val
  let c128_i32_643 : BitVec 32 := 128#32
  let v1498 : BitVec 32 := Scalar.muli arg0 c128_i32_643
  let c0_i32 : BitVec 32 := 0#32
  let c128_i32_642 : BitVec 32 := 128#32
  let v1496 : BitVec 32 := Scalar.muli c0_i32 c128_i32_642
  let c27_i32 : BitVec 32 := 27#32
  let v1497 : BitVec 32 := Scalar.addi v1496 c27_i32
  let v1499 : BitVec 32 := Scalar.addi v1498 v1497
  let c4_i32_644 : BitVec 32 := 4#32
  let v1500 : BitVec 32 := Scalar.muli v1499 c4_i32_644
  let v1501 : BitVec 32 := Scalar.addi v1500 c0_i32_645
  let v1502 : Index := Scalar.indexCast v1501
  ![v1502.toNat]
def k0_mult28 (v1503 : BitVec 32) : BitVec 32 :=
  let c4_i32_646 : BitVec 32 := 4#32
  let v1504 : BitVec 32 := Scalar.shrsi v1503 c4_i32_646
  let c3_i32_653 : BitVec 32 := 3#32
  let v1517 : BitVec 32 := Scalar.shrsi v1504 c3_i32_653
  let c3_i32_654 : BitVec 32 := 3#32
  let v1518 : BitVec 32 := Scalar.shli v1517 c3_i32_654
  let c16_i32_655 : BitVec 32 := 16#32
  let v1519 : BitVec 32 := Scalar.minsi v1518 c16_i32_655
  v1519

def k0_chk109 (v1503 : BitVec 32) : Prop :=
  (8 ∣ (k0_mult28 v1503).toNat)
theorem k0_mult28_dvd : ∀ (v1503 : BitVec 32) (k0_hw109 : k0_chk109 v1503), 8 ∣ (k0_mult28 v1503).toNat := fun v1503 k0_hw109 => k0_hw109

def k0_off164 (v1515 : BitVec 32) : Fin 1 → Nat :=
  let c4_i32_652 : BitVec 32 := 4#32
  let v1516 : BitVec 32 := Scalar.shrsi v1515 c4_i32_652
  let v1521 : Index := Scalar.indexCast v1516
  ![v1521.toNat]

def k0_off165 (v1515 : BitVec 32) : Fin 1 → Nat :=
  let c32_i32_656 : BitVec 32 := 32#32
  let c4_i32_652 : BitVec 32 := 4#32
  let v1516 : BitVec 32 := Scalar.shrsi v1515 c4_i32_652
  let v1523 : BitVec 32 := Scalar.addi c32_i32_656 v1516
  let v1524 : Index := Scalar.indexCast v1523
  ![v1524.toNat]

def k0_chk110 (v1515 : BitVec 32) : Prop :=
  (∀ a, (k0_off164 v1515) a + S1.size a ≤ S64.size a) ∧
  (∀ a, (k0_off165 v1515) a + S1.size a ≤ S64.size a)
theorem k0_off164_inb : ∀ (v1515 : BitVec 32) (k0_hw110 : k0_chk110 v1515), ∀ a, (k0_off164 v1515) a + S1.size a ≤ S64.size a := fun v1515 k0_hw110 => k0_hw110.1
theorem k0_off165_inb : ∀ (v1515 : BitVec 32) (k0_hw110 : k0_chk110 v1515), ∀ a, (k0_off165 v1515) a + S1.size a ≤ S64.size a := fun v1515 k0_hw110 => k0_hw110.2

def k0_off166 (v1503 : BitVec 32) (v1507 : BitVec 32) (v1522 : BitVec 32) : Fin 4 → Nat :=
  let v1527 : Index := Scalar.indexCast v1522
  let c4_i32_648 : BitVec 32 := 4#32
  let v1508 : BitVec 32 := Scalar.shrsi v1507 c4_i32_648
  let v1528 : Index := Scalar.indexCast v1508
  let c4_i32_646 : BitVec 32 := 4#32
  let v1504 : BitVec 32 := Scalar.shrsi v1503 c4_i32_646
  let c3_i32_653 : BitVec 32 := 3#32
  let v1517 : BitVec 32 := Scalar.shrsi v1504 c3_i32_653
  let c3_i32_654 : BitVec 32 := 3#32
  let v1518 : BitVec 32 := Scalar.shli v1517 c3_i32_654
  let c16_i32_655 : BitVec 32 := 16#32
  let v1519 : BitVec 32 := Scalar.minsi v1518 c16_i32_655
  let v1520 : BitVec 32 := v1519
  let v1529 : Index := Scalar.indexCast v1520
  let c0_657 : Index := 0#32
  ![v1527.toNat, v1528.toNat, v1529.toNat, 0]

def k0_chk111 (v1503 : BitVec 32) (v1507 : BitVec 32) (v1522 : BitVec 32) : Prop :=
  (∀ a, (k0_off166 v1503 v1507 v1522) a + S1x1x32x256.size a ≤ S5x50x50x256.size a)
theorem k0_off166_inb : ∀ (v1503 : BitVec 32) (v1507 : BitVec 32) (v1522 : BitVec 32) (k0_hw111 : k0_chk111 v1503 v1507 v1522), ∀ a, (k0_off166 v1503 v1507 v1522) a + S1x1x32x256.size a ≤ S5x50x50x256.size a := fun v1503 v1507 v1522 k0_hw111 => k0_hw111

def k0_off167 (v1503 : BitVec 32) (v1507 : BitVec 32) (v1522 : BitVec 32) (v1525 : BitVec 32) : Fin 4 → Nat :=
  let v1532 : Index := Scalar.indexCast v1522
  let c4_i32_648 : BitVec 32 := 4#32
  let v1508 : BitVec 32 := Scalar.shrsi v1507 c4_i32_648
  let v1526 : BitVec 32 := Scalar.addi v1508 v1525
  let v1533 : Index := Scalar.indexCast v1526
  let c4_i32_646 : BitVec 32 := 4#32
  let v1504 : BitVec 32 := Scalar.shrsi v1503 c4_i32_646
  let c3_i32_653 : BitVec 32 := 3#32
  let v1517 : BitVec 32 := Scalar.shrsi v1504 c3_i32_653
  let c3_i32_654 : BitVec 32 := 3#32
  let v1518 : BitVec 32 := Scalar.shli v1517 c3_i32_654
  let c16_i32_655 : BitVec 32 := 16#32
  let v1519 : BitVec 32 := Scalar.minsi v1518 c16_i32_655
  let v1520 : BitVec 32 := v1519
  let v1534 : Index := Scalar.indexCast v1520
  let c0_658 : Index := 0#32
  ![v1532.toNat, v1533.toNat, v1534.toNat, 0]

def k0_chk112 (v1503 : BitVec 32) (v1507 : BitVec 32) (v1522 : BitVec 32) (v1525 : BitVec 32) : Prop :=
  (∀ a, (k0_off167 v1503 v1507 v1522 v1525) a + S1x1x32x256.size a ≤ S5x50x50x256.size a)
theorem k0_off167_inb : ∀ (v1503 : BitVec 32) (v1507 : BitVec 32) (v1522 : BitVec 32) (v1525 : BitVec 32) (k0_hw112 : k0_chk112 v1503 v1507 v1522 v1525), ∀ a, (k0_off167 v1503 v1507 v1522 v1525) a + S1x1x32x256.size a ≤ S5x50x50x256.size a := fun v1503 v1507 v1522 v1525 k0_hw112 => k0_hw112

def k0_off168 : Fin 4 → Nat :=
  let c0_661 : Index := 0#32
  let c0_i32 : BitVec 32 := 0#32
  let c128_i32_642 : BitVec 32 := 128#32
  let v1496 : BitVec 32 := Scalar.muli c0_i32 c128_i32_642
  let c27_i32 : BitVec 32 := 27#32
  let v1497 : BitVec 32 := Scalar.addi v1496 c27_i32
  let v1546 : Index := Scalar.indexCast v1497
  let c0_662 : Index := 0#32
  let c0_663 : Index := 0#32
  ![0, v1546.toNat, 0, 0]
def k0_off169 (i : grid0.Coords) (c0_i32_667 : BitVec 32) : Fin 1 → Nat :=
  let arg0 : BitVec 32 := BitVec.ofNat 32 (i 0).val
  let c128_i32_665 : BitVec 32 := 128#32
  let v1552 : BitVec 32 := Scalar.muli arg0 c128_i32_665
  let c0_i32 : BitVec 32 := 0#32
  let c128_i32_664 : BitVec 32 := 128#32
  let v1550 : BitVec 32 := Scalar.muli c0_i32 c128_i32_664
  let c28_i32 : BitVec 32 := 28#32
  let v1551 : BitVec 32 := Scalar.addi v1550 c28_i32
  let v1553 : BitVec 32 := Scalar.addi v1552 v1551
  let c4_i32_666 : BitVec 32 := 4#32
  let v1554 : BitVec 32 := Scalar.muli v1553 c4_i32_666
  let v1555 : BitVec 32 := Scalar.addi v1554 c0_i32_667
  let v1556 : Index := Scalar.indexCast v1555
  ![v1556.toNat]
def k0_mult29 (v1557 : BitVec 32) : BitVec 32 :=
  let c4_i32_668 : BitVec 32 := 4#32
  let v1558 : BitVec 32 := Scalar.shrsi v1557 c4_i32_668
  let c3_i32_675 : BitVec 32 := 3#32
  let v1571 : BitVec 32 := Scalar.shrsi v1558 c3_i32_675
  let c3_i32_676 : BitVec 32 := 3#32
  let v1572 : BitVec 32 := Scalar.shli v1571 c3_i32_676
  let c16_i32_677 : BitVec 32 := 16#32
  let v1573 : BitVec 32 := Scalar.minsi v1572 c16_i32_677
  v1573

def k0_chk113 (v1557 : BitVec 32) : Prop :=
  (8 ∣ (k0_mult29 v1557).toNat)
theorem k0_mult29_dvd : ∀ (v1557 : BitVec 32) (k0_hw113 : k0_chk113 v1557), 8 ∣ (k0_mult29 v1557).toNat := fun v1557 k0_hw113 => k0_hw113

def k0_off170 (v1569 : BitVec 32) : Fin 1 → Nat :=
  let c4_i32_674 : BitVec 32 := 4#32
  let v1570 : BitVec 32 := Scalar.shrsi v1569 c4_i32_674
  let v1575 : Index := Scalar.indexCast v1570
  ![v1575.toNat]

def k0_off171 (v1569 : BitVec 32) : Fin 1 → Nat :=
  let c32_i32_678 : BitVec 32 := 32#32
  let c4_i32_674 : BitVec 32 := 4#32
  let v1570 : BitVec 32 := Scalar.shrsi v1569 c4_i32_674
  let v1577 : BitVec 32 := Scalar.addi c32_i32_678 v1570
  let v1578 : Index := Scalar.indexCast v1577
  ![v1578.toNat]

def k0_chk114 (v1569 : BitVec 32) : Prop :=
  (∀ a, (k0_off170 v1569) a + S1.size a ≤ S64.size a) ∧
  (∀ a, (k0_off171 v1569) a + S1.size a ≤ S64.size a)
theorem k0_off170_inb : ∀ (v1569 : BitVec 32) (k0_hw114 : k0_chk114 v1569), ∀ a, (k0_off170 v1569) a + S1.size a ≤ S64.size a := fun v1569 k0_hw114 => k0_hw114.1
theorem k0_off171_inb : ∀ (v1569 : BitVec 32) (k0_hw114 : k0_chk114 v1569), ∀ a, (k0_off171 v1569) a + S1.size a ≤ S64.size a := fun v1569 k0_hw114 => k0_hw114.2

def k0_off172 (v1557 : BitVec 32) (v1561 : BitVec 32) (v1576 : BitVec 32) : Fin 4 → Nat :=
  let v1581 : Index := Scalar.indexCast v1576
  let c4_i32_670 : BitVec 32 := 4#32
  let v1562 : BitVec 32 := Scalar.shrsi v1561 c4_i32_670
  let v1582 : Index := Scalar.indexCast v1562
  let c4_i32_668 : BitVec 32 := 4#32
  let v1558 : BitVec 32 := Scalar.shrsi v1557 c4_i32_668
  let c3_i32_675 : BitVec 32 := 3#32
  let v1571 : BitVec 32 := Scalar.shrsi v1558 c3_i32_675
  let c3_i32_676 : BitVec 32 := 3#32
  let v1572 : BitVec 32 := Scalar.shli v1571 c3_i32_676
  let c16_i32_677 : BitVec 32 := 16#32
  let v1573 : BitVec 32 := Scalar.minsi v1572 c16_i32_677
  let v1574 : BitVec 32 := v1573
  let v1583 : Index := Scalar.indexCast v1574
  let c0_679 : Index := 0#32
  ![v1581.toNat, v1582.toNat, v1583.toNat, 0]

def k0_chk115 (v1557 : BitVec 32) (v1561 : BitVec 32) (v1576 : BitVec 32) : Prop :=
  (∀ a, (k0_off172 v1557 v1561 v1576) a + S1x1x32x256.size a ≤ S5x50x50x256.size a)
theorem k0_off172_inb : ∀ (v1557 : BitVec 32) (v1561 : BitVec 32) (v1576 : BitVec 32) (k0_hw115 : k0_chk115 v1557 v1561 v1576), ∀ a, (k0_off172 v1557 v1561 v1576) a + S1x1x32x256.size a ≤ S5x50x50x256.size a := fun v1557 v1561 v1576 k0_hw115 => k0_hw115

def k0_off173 (v1557 : BitVec 32) (v1561 : BitVec 32) (v1576 : BitVec 32) (v1579 : BitVec 32) : Fin 4 → Nat :=
  let v1586 : Index := Scalar.indexCast v1576
  let c4_i32_670 : BitVec 32 := 4#32
  let v1562 : BitVec 32 := Scalar.shrsi v1561 c4_i32_670
  let v1580 : BitVec 32 := Scalar.addi v1562 v1579
  let v1587 : Index := Scalar.indexCast v1580
  let c4_i32_668 : BitVec 32 := 4#32
  let v1558 : BitVec 32 := Scalar.shrsi v1557 c4_i32_668
  let c3_i32_675 : BitVec 32 := 3#32
  let v1571 : BitVec 32 := Scalar.shrsi v1558 c3_i32_675
  let c3_i32_676 : BitVec 32 := 3#32
  let v1572 : BitVec 32 := Scalar.shli v1571 c3_i32_676
  let c16_i32_677 : BitVec 32 := 16#32
  let v1573 : BitVec 32 := Scalar.minsi v1572 c16_i32_677
  let v1574 : BitVec 32 := v1573
  let v1588 : Index := Scalar.indexCast v1574
  let c0_680 : Index := 0#32
  ![v1586.toNat, v1587.toNat, v1588.toNat, 0]

def k0_chk116 (v1557 : BitVec 32) (v1561 : BitVec 32) (v1576 : BitVec 32) (v1579 : BitVec 32) : Prop :=
  (∀ a, (k0_off173 v1557 v1561 v1576 v1579) a + S1x1x32x256.size a ≤ S5x50x50x256.size a)
theorem k0_off173_inb : ∀ (v1557 : BitVec 32) (v1561 : BitVec 32) (v1576 : BitVec 32) (v1579 : BitVec 32) (k0_hw116 : k0_chk116 v1557 v1561 v1576 v1579), ∀ a, (k0_off173 v1557 v1561 v1576 v1579) a + S1x1x32x256.size a ≤ S5x50x50x256.size a := fun v1557 v1561 v1576 v1579 k0_hw116 => k0_hw116

def k0_off174 : Fin 4 → Nat :=
  let c0_683 : Index := 0#32
  let c0_i32 : BitVec 32 := 0#32
  let c128_i32_664 : BitVec 32 := 128#32
  let v1550 : BitVec 32 := Scalar.muli c0_i32 c128_i32_664
  let c28_i32 : BitVec 32 := 28#32
  let v1551 : BitVec 32 := Scalar.addi v1550 c28_i32
  let v1600 : Index := Scalar.indexCast v1551
  let c0_684 : Index := 0#32
  let c0_685 : Index := 0#32
  ![0, v1600.toNat, 0, 0]
def k0_off175 (i : grid0.Coords) (c0_i32_689 : BitVec 32) : Fin 1 → Nat :=
  let arg0 : BitVec 32 := BitVec.ofNat 32 (i 0).val
  let c128_i32_687 : BitVec 32 := 128#32
  let v1606 : BitVec 32 := Scalar.muli arg0 c128_i32_687
  let c0_i32 : BitVec 32 := 0#32
  let c128_i32_686 : BitVec 32 := 128#32
  let v1604 : BitVec 32 := Scalar.muli c0_i32 c128_i32_686
  let c29_i32 : BitVec 32 := 29#32
  let v1605 : BitVec 32 := Scalar.addi v1604 c29_i32
  let v1607 : BitVec 32 := Scalar.addi v1606 v1605
  let c4_i32_688 : BitVec 32 := 4#32
  let v1608 : BitVec 32 := Scalar.muli v1607 c4_i32_688
  let v1609 : BitVec 32 := Scalar.addi v1608 c0_i32_689
  let v1610 : Index := Scalar.indexCast v1609
  ![v1610.toNat]
def k0_mult30 (v1611 : BitVec 32) : BitVec 32 :=
  let c4_i32_690 : BitVec 32 := 4#32
  let v1612 : BitVec 32 := Scalar.shrsi v1611 c4_i32_690
  let c3_i32_697 : BitVec 32 := 3#32
  let v1625 : BitVec 32 := Scalar.shrsi v1612 c3_i32_697
  let c3_i32_698 : BitVec 32 := 3#32
  let v1626 : BitVec 32 := Scalar.shli v1625 c3_i32_698
  let c16_i32_699 : BitVec 32 := 16#32
  let v1627 : BitVec 32 := Scalar.minsi v1626 c16_i32_699
  v1627

def k0_chk117 (v1611 : BitVec 32) : Prop :=
  (8 ∣ (k0_mult30 v1611).toNat)
theorem k0_mult30_dvd : ∀ (v1611 : BitVec 32) (k0_hw117 : k0_chk117 v1611), 8 ∣ (k0_mult30 v1611).toNat := fun v1611 k0_hw117 => k0_hw117

def k0_off176 (v1623 : BitVec 32) : Fin 1 → Nat :=
  let c4_i32_696 : BitVec 32 := 4#32
  let v1624 : BitVec 32 := Scalar.shrsi v1623 c4_i32_696
  let v1629 : Index := Scalar.indexCast v1624
  ![v1629.toNat]

def k0_off177 (v1623 : BitVec 32) : Fin 1 → Nat :=
  let c32_i32_700 : BitVec 32 := 32#32
  let c4_i32_696 : BitVec 32 := 4#32
  let v1624 : BitVec 32 := Scalar.shrsi v1623 c4_i32_696
  let v1631 : BitVec 32 := Scalar.addi c32_i32_700 v1624
  let v1632 : Index := Scalar.indexCast v1631
  ![v1632.toNat]

def k0_chk118 (v1623 : BitVec 32) : Prop :=
  (∀ a, (k0_off176 v1623) a + S1.size a ≤ S64.size a) ∧
  (∀ a, (k0_off177 v1623) a + S1.size a ≤ S64.size a)
theorem k0_off176_inb : ∀ (v1623 : BitVec 32) (k0_hw118 : k0_chk118 v1623), ∀ a, (k0_off176 v1623) a + S1.size a ≤ S64.size a := fun v1623 k0_hw118 => k0_hw118.1
theorem k0_off177_inb : ∀ (v1623 : BitVec 32) (k0_hw118 : k0_chk118 v1623), ∀ a, (k0_off177 v1623) a + S1.size a ≤ S64.size a := fun v1623 k0_hw118 => k0_hw118.2

def k0_off178 (v1611 : BitVec 32) (v1615 : BitVec 32) (v1630 : BitVec 32) : Fin 4 → Nat :=
  let v1635 : Index := Scalar.indexCast v1630
  let c4_i32_692 : BitVec 32 := 4#32
  let v1616 : BitVec 32 := Scalar.shrsi v1615 c4_i32_692
  let v1636 : Index := Scalar.indexCast v1616
  let c4_i32_690 : BitVec 32 := 4#32
  let v1612 : BitVec 32 := Scalar.shrsi v1611 c4_i32_690
  let c3_i32_697 : BitVec 32 := 3#32
  let v1625 : BitVec 32 := Scalar.shrsi v1612 c3_i32_697
  let c3_i32_698 : BitVec 32 := 3#32
  let v1626 : BitVec 32 := Scalar.shli v1625 c3_i32_698
  let c16_i32_699 : BitVec 32 := 16#32
  let v1627 : BitVec 32 := Scalar.minsi v1626 c16_i32_699
  let v1628 : BitVec 32 := v1627
  let v1637 : Index := Scalar.indexCast v1628
  let c0_701 : Index := 0#32
  ![v1635.toNat, v1636.toNat, v1637.toNat, 0]

def k0_chk119 (v1611 : BitVec 32) (v1615 : BitVec 32) (v1630 : BitVec 32) : Prop :=
  (∀ a, (k0_off178 v1611 v1615 v1630) a + S1x1x32x256.size a ≤ S5x50x50x256.size a)
theorem k0_off178_inb : ∀ (v1611 : BitVec 32) (v1615 : BitVec 32) (v1630 : BitVec 32) (k0_hw119 : k0_chk119 v1611 v1615 v1630), ∀ a, (k0_off178 v1611 v1615 v1630) a + S1x1x32x256.size a ≤ S5x50x50x256.size a := fun v1611 v1615 v1630 k0_hw119 => k0_hw119

def k0_off179 (v1611 : BitVec 32) (v1615 : BitVec 32) (v1630 : BitVec 32) (v1633 : BitVec 32) : Fin 4 → Nat :=
  let v1640 : Index := Scalar.indexCast v1630
  let c4_i32_692 : BitVec 32 := 4#32
  let v1616 : BitVec 32 := Scalar.shrsi v1615 c4_i32_692
  let v1634 : BitVec 32 := Scalar.addi v1616 v1633
  let v1641 : Index := Scalar.indexCast v1634
  let c4_i32_690 : BitVec 32 := 4#32
  let v1612 : BitVec 32 := Scalar.shrsi v1611 c4_i32_690
  let c3_i32_697 : BitVec 32 := 3#32
  let v1625 : BitVec 32 := Scalar.shrsi v1612 c3_i32_697
  let c3_i32_698 : BitVec 32 := 3#32
  let v1626 : BitVec 32 := Scalar.shli v1625 c3_i32_698
  let c16_i32_699 : BitVec 32 := 16#32
  let v1627 : BitVec 32 := Scalar.minsi v1626 c16_i32_699
  let v1628 : BitVec 32 := v1627
  let v1642 : Index := Scalar.indexCast v1628
  let c0_702 : Index := 0#32
  ![v1640.toNat, v1641.toNat, v1642.toNat, 0]

def k0_chk120 (v1611 : BitVec 32) (v1615 : BitVec 32) (v1630 : BitVec 32) (v1633 : BitVec 32) : Prop :=
  (∀ a, (k0_off179 v1611 v1615 v1630 v1633) a + S1x1x32x256.size a ≤ S5x50x50x256.size a)
theorem k0_off179_inb : ∀ (v1611 : BitVec 32) (v1615 : BitVec 32) (v1630 : BitVec 32) (v1633 : BitVec 32) (k0_hw120 : k0_chk120 v1611 v1615 v1630 v1633), ∀ a, (k0_off179 v1611 v1615 v1630 v1633) a + S1x1x32x256.size a ≤ S5x50x50x256.size a := fun v1611 v1615 v1630 v1633 k0_hw120 => k0_hw120

def k0_off180 : Fin 4 → Nat :=
  let c0_705 : Index := 0#32
  let c0_i32 : BitVec 32 := 0#32
  let c128_i32_686 : BitVec 32 := 128#32
  let v1604 : BitVec 32 := Scalar.muli c0_i32 c128_i32_686
  let c29_i32 : BitVec 32 := 29#32
  let v1605 : BitVec 32 := Scalar.addi v1604 c29_i32
  let v1654 : Index := Scalar.indexCast v1605
  let c0_706 : Index := 0#32
  let c0_707 : Index := 0#32
  ![0, v1654.toNat, 0, 0]
def k0_off181 (i : grid0.Coords) (c0_i32_711 : BitVec 32) : Fin 1 → Nat :=
  let arg0 : BitVec 32 := BitVec.ofNat 32 (i 0).val
  let c128_i32_709 : BitVec 32 := 128#32
  let v1660 : BitVec 32 := Scalar.muli arg0 c128_i32_709
  let c0_i32 : BitVec 32 := 0#32
  let c128_i32_708 : BitVec 32 := 128#32
  let v1658 : BitVec 32 := Scalar.muli c0_i32 c128_i32_708
  let c30_i32 : BitVec 32 := 30#32
  let v1659 : BitVec 32 := Scalar.addi v1658 c30_i32
  let v1661 : BitVec 32 := Scalar.addi v1660 v1659
  let c4_i32_710 : BitVec 32 := 4#32
  let v1662 : BitVec 32 := Scalar.muli v1661 c4_i32_710
  let v1663 : BitVec 32 := Scalar.addi v1662 c0_i32_711
  let v1664 : Index := Scalar.indexCast v1663
  ![v1664.toNat]
def k0_mult31 (v1665 : BitVec 32) : BitVec 32 :=
  let c4_i32_712 : BitVec 32 := 4#32
  let v1666 : BitVec 32 := Scalar.shrsi v1665 c4_i32_712
  let c3_i32_719 : BitVec 32 := 3#32
  let v1679 : BitVec 32 := Scalar.shrsi v1666 c3_i32_719
  let c3_i32_720 : BitVec 32 := 3#32
  let v1680 : BitVec 32 := Scalar.shli v1679 c3_i32_720
  let c16_i32_721 : BitVec 32 := 16#32
  let v1681 : BitVec 32 := Scalar.minsi v1680 c16_i32_721
  v1681

def k0_chk121 (v1665 : BitVec 32) : Prop :=
  (8 ∣ (k0_mult31 v1665).toNat)
theorem k0_mult31_dvd : ∀ (v1665 : BitVec 32) (k0_hw121 : k0_chk121 v1665), 8 ∣ (k0_mult31 v1665).toNat := fun v1665 k0_hw121 => k0_hw121

def k0_off182 (v1677 : BitVec 32) : Fin 1 → Nat :=
  let c4_i32_718 : BitVec 32 := 4#32
  let v1678 : BitVec 32 := Scalar.shrsi v1677 c4_i32_718
  let v1683 : Index := Scalar.indexCast v1678
  ![v1683.toNat]

def k0_off183 (v1677 : BitVec 32) : Fin 1 → Nat :=
  let c32_i32_722 : BitVec 32 := 32#32
  let c4_i32_718 : BitVec 32 := 4#32
  let v1678 : BitVec 32 := Scalar.shrsi v1677 c4_i32_718
  let v1685 : BitVec 32 := Scalar.addi c32_i32_722 v1678
  let v1686 : Index := Scalar.indexCast v1685
  ![v1686.toNat]

def k0_chk122 (v1677 : BitVec 32) : Prop :=
  (∀ a, (k0_off182 v1677) a + S1.size a ≤ S64.size a) ∧
  (∀ a, (k0_off183 v1677) a + S1.size a ≤ S64.size a)
theorem k0_off182_inb : ∀ (v1677 : BitVec 32) (k0_hw122 : k0_chk122 v1677), ∀ a, (k0_off182 v1677) a + S1.size a ≤ S64.size a := fun v1677 k0_hw122 => k0_hw122.1
theorem k0_off183_inb : ∀ (v1677 : BitVec 32) (k0_hw122 : k0_chk122 v1677), ∀ a, (k0_off183 v1677) a + S1.size a ≤ S64.size a := fun v1677 k0_hw122 => k0_hw122.2

def k0_off184 (v1665 : BitVec 32) (v1669 : BitVec 32) (v1684 : BitVec 32) : Fin 4 → Nat :=
  let v1689 : Index := Scalar.indexCast v1684
  let c4_i32_714 : BitVec 32 := 4#32
  let v1670 : BitVec 32 := Scalar.shrsi v1669 c4_i32_714
  let v1690 : Index := Scalar.indexCast v1670
  let c4_i32_712 : BitVec 32 := 4#32
  let v1666 : BitVec 32 := Scalar.shrsi v1665 c4_i32_712
  let c3_i32_719 : BitVec 32 := 3#32
  let v1679 : BitVec 32 := Scalar.shrsi v1666 c3_i32_719
  let c3_i32_720 : BitVec 32 := 3#32
  let v1680 : BitVec 32 := Scalar.shli v1679 c3_i32_720
  let c16_i32_721 : BitVec 32 := 16#32
  let v1681 : BitVec 32 := Scalar.minsi v1680 c16_i32_721
  let v1682 : BitVec 32 := v1681
  let v1691 : Index := Scalar.indexCast v1682
  let c0_723 : Index := 0#32
  ![v1689.toNat, v1690.toNat, v1691.toNat, 0]

def k0_chk123 (v1665 : BitVec 32) (v1669 : BitVec 32) (v1684 : BitVec 32) : Prop :=
  (∀ a, (k0_off184 v1665 v1669 v1684) a + S1x1x32x256.size a ≤ S5x50x50x256.size a)
theorem k0_off184_inb : ∀ (v1665 : BitVec 32) (v1669 : BitVec 32) (v1684 : BitVec 32) (k0_hw123 : k0_chk123 v1665 v1669 v1684), ∀ a, (k0_off184 v1665 v1669 v1684) a + S1x1x32x256.size a ≤ S5x50x50x256.size a := fun v1665 v1669 v1684 k0_hw123 => k0_hw123

def k0_off185 (v1665 : BitVec 32) (v1669 : BitVec 32) (v1684 : BitVec 32) (v1687 : BitVec 32) : Fin 4 → Nat :=
  let v1694 : Index := Scalar.indexCast v1684
  let c4_i32_714 : BitVec 32 := 4#32
  let v1670 : BitVec 32 := Scalar.shrsi v1669 c4_i32_714
  let v1688 : BitVec 32 := Scalar.addi v1670 v1687
  let v1695 : Index := Scalar.indexCast v1688
  let c4_i32_712 : BitVec 32 := 4#32
  let v1666 : BitVec 32 := Scalar.shrsi v1665 c4_i32_712
  let c3_i32_719 : BitVec 32 := 3#32
  let v1679 : BitVec 32 := Scalar.shrsi v1666 c3_i32_719
  let c3_i32_720 : BitVec 32 := 3#32
  let v1680 : BitVec 32 := Scalar.shli v1679 c3_i32_720
  let c16_i32_721 : BitVec 32 := 16#32
  let v1681 : BitVec 32 := Scalar.minsi v1680 c16_i32_721
  let v1682 : BitVec 32 := v1681
  let v1696 : Index := Scalar.indexCast v1682
  let c0_724 : Index := 0#32
  ![v1694.toNat, v1695.toNat, v1696.toNat, 0]

def k0_chk124 (v1665 : BitVec 32) (v1669 : BitVec 32) (v1684 : BitVec 32) (v1687 : BitVec 32) : Prop :=
  (∀ a, (k0_off185 v1665 v1669 v1684 v1687) a + S1x1x32x256.size a ≤ S5x50x50x256.size a)
theorem k0_off185_inb : ∀ (v1665 : BitVec 32) (v1669 : BitVec 32) (v1684 : BitVec 32) (v1687 : BitVec 32) (k0_hw124 : k0_chk124 v1665 v1669 v1684 v1687), ∀ a, (k0_off185 v1665 v1669 v1684 v1687) a + S1x1x32x256.size a ≤ S5x50x50x256.size a := fun v1665 v1669 v1684 v1687 k0_hw124 => k0_hw124

def k0_off186 : Fin 4 → Nat :=
  let c0_727 : Index := 0#32
  let c0_i32 : BitVec 32 := 0#32
  let c128_i32_708 : BitVec 32 := 128#32
  let v1658 : BitVec 32 := Scalar.muli c0_i32 c128_i32_708
  let c30_i32 : BitVec 32 := 30#32
  let v1659 : BitVec 32 := Scalar.addi v1658 c30_i32
  let v1708 : Index := Scalar.indexCast v1659
  let c0_728 : Index := 0#32
  let c0_729 : Index := 0#32
  ![0, v1708.toNat, 0, 0]
def k0_off187 (i : grid0.Coords) (c0_i32_733 : BitVec 32) : Fin 1 → Nat :=
  let arg0 : BitVec 32 := BitVec.ofNat 32 (i 0).val
  let c128_i32_731 : BitVec 32 := 128#32
  let v1714 : BitVec 32 := Scalar.muli arg0 c128_i32_731
  let c0_i32 : BitVec 32 := 0#32
  let c128_i32_730 : BitVec 32 := 128#32
  let v1712 : BitVec 32 := Scalar.muli c0_i32 c128_i32_730
  let c31_i32 : BitVec 32 := 31#32
  let v1713 : BitVec 32 := Scalar.addi v1712 c31_i32
  let v1715 : BitVec 32 := Scalar.addi v1714 v1713
  let c4_i32_732 : BitVec 32 := 4#32
  let v1716 : BitVec 32 := Scalar.muli v1715 c4_i32_732
  let v1717 : BitVec 32 := Scalar.addi v1716 c0_i32_733
  let v1718 : Index := Scalar.indexCast v1717
  ![v1718.toNat]
def k0_mult32 (v1719 : BitVec 32) : BitVec 32 :=
  let c4_i32_734 : BitVec 32 := 4#32
  let v1720 : BitVec 32 := Scalar.shrsi v1719 c4_i32_734
  let c3_i32_741 : BitVec 32 := 3#32
  let v1733 : BitVec 32 := Scalar.shrsi v1720 c3_i32_741
  let c3_i32_742 : BitVec 32 := 3#32
  let v1734 : BitVec 32 := Scalar.shli v1733 c3_i32_742
  let c16_i32_743 : BitVec 32 := 16#32
  let v1735 : BitVec 32 := Scalar.minsi v1734 c16_i32_743
  v1735

def k0_chk125 (v1719 : BitVec 32) : Prop :=
  (8 ∣ (k0_mult32 v1719).toNat)
theorem k0_mult32_dvd : ∀ (v1719 : BitVec 32) (k0_hw125 : k0_chk125 v1719), 8 ∣ (k0_mult32 v1719).toNat := fun v1719 k0_hw125 => k0_hw125

def k0_off188 (v1731 : BitVec 32) : Fin 1 → Nat :=
  let c4_i32_740 : BitVec 32 := 4#32
  let v1732 : BitVec 32 := Scalar.shrsi v1731 c4_i32_740
  let v1737 : Index := Scalar.indexCast v1732
  ![v1737.toNat]

def k0_off189 (v1731 : BitVec 32) : Fin 1 → Nat :=
  let c32_i32_744 : BitVec 32 := 32#32
  let c4_i32_740 : BitVec 32 := 4#32
  let v1732 : BitVec 32 := Scalar.shrsi v1731 c4_i32_740
  let v1739 : BitVec 32 := Scalar.addi c32_i32_744 v1732
  let v1740 : Index := Scalar.indexCast v1739
  ![v1740.toNat]

def k0_chk126 (v1731 : BitVec 32) : Prop :=
  (∀ a, (k0_off188 v1731) a + S1.size a ≤ S64.size a) ∧
  (∀ a, (k0_off189 v1731) a + S1.size a ≤ S64.size a)
theorem k0_off188_inb : ∀ (v1731 : BitVec 32) (k0_hw126 : k0_chk126 v1731), ∀ a, (k0_off188 v1731) a + S1.size a ≤ S64.size a := fun v1731 k0_hw126 => k0_hw126.1
theorem k0_off189_inb : ∀ (v1731 : BitVec 32) (k0_hw126 : k0_chk126 v1731), ∀ a, (k0_off189 v1731) a + S1.size a ≤ S64.size a := fun v1731 k0_hw126 => k0_hw126.2

def k0_off190 (v1719 : BitVec 32) (v1723 : BitVec 32) (v1738 : BitVec 32) : Fin 4 → Nat :=
  let v1743 : Index := Scalar.indexCast v1738
  let c4_i32_736 : BitVec 32 := 4#32
  let v1724 : BitVec 32 := Scalar.shrsi v1723 c4_i32_736
  let v1744 : Index := Scalar.indexCast v1724
  let c4_i32_734 : BitVec 32 := 4#32
  let v1720 : BitVec 32 := Scalar.shrsi v1719 c4_i32_734
  let c3_i32_741 : BitVec 32 := 3#32
  let v1733 : BitVec 32 := Scalar.shrsi v1720 c3_i32_741
  let c3_i32_742 : BitVec 32 := 3#32
  let v1734 : BitVec 32 := Scalar.shli v1733 c3_i32_742
  let c16_i32_743 : BitVec 32 := 16#32
  let v1735 : BitVec 32 := Scalar.minsi v1734 c16_i32_743
  let v1736 : BitVec 32 := v1735
  let v1745 : Index := Scalar.indexCast v1736
  let c0_745 : Index := 0#32
  ![v1743.toNat, v1744.toNat, v1745.toNat, 0]

def k0_chk127 (v1719 : BitVec 32) (v1723 : BitVec 32) (v1738 : BitVec 32) : Prop :=
  (∀ a, (k0_off190 v1719 v1723 v1738) a + S1x1x32x256.size a ≤ S5x50x50x256.size a)
theorem k0_off190_inb : ∀ (v1719 : BitVec 32) (v1723 : BitVec 32) (v1738 : BitVec 32) (k0_hw127 : k0_chk127 v1719 v1723 v1738), ∀ a, (k0_off190 v1719 v1723 v1738) a + S1x1x32x256.size a ≤ S5x50x50x256.size a := fun v1719 v1723 v1738 k0_hw127 => k0_hw127

def k0_off191 (v1719 : BitVec 32) (v1723 : BitVec 32) (v1738 : BitVec 32) (v1741 : BitVec 32) : Fin 4 → Nat :=
  let v1748 : Index := Scalar.indexCast v1738
  let c4_i32_736 : BitVec 32 := 4#32
  let v1724 : BitVec 32 := Scalar.shrsi v1723 c4_i32_736
  let v1742 : BitVec 32 := Scalar.addi v1724 v1741
  let v1749 : Index := Scalar.indexCast v1742
  let c4_i32_734 : BitVec 32 := 4#32
  let v1720 : BitVec 32 := Scalar.shrsi v1719 c4_i32_734
  let c3_i32_741 : BitVec 32 := 3#32
  let v1733 : BitVec 32 := Scalar.shrsi v1720 c3_i32_741
  let c3_i32_742 : BitVec 32 := 3#32
  let v1734 : BitVec 32 := Scalar.shli v1733 c3_i32_742
  let c16_i32_743 : BitVec 32 := 16#32
  let v1735 : BitVec 32 := Scalar.minsi v1734 c16_i32_743
  let v1736 : BitVec 32 := v1735
  let v1750 : Index := Scalar.indexCast v1736
  let c0_746 : Index := 0#32
  ![v1748.toNat, v1749.toNat, v1750.toNat, 0]

def k0_chk128 (v1719 : BitVec 32) (v1723 : BitVec 32) (v1738 : BitVec 32) (v1741 : BitVec 32) : Prop :=
  (∀ a, (k0_off191 v1719 v1723 v1738 v1741) a + S1x1x32x256.size a ≤ S5x50x50x256.size a)
theorem k0_off191_inb : ∀ (v1719 : BitVec 32) (v1723 : BitVec 32) (v1738 : BitVec 32) (v1741 : BitVec 32) (k0_hw128 : k0_chk128 v1719 v1723 v1738 v1741), ∀ a, (k0_off191 v1719 v1723 v1738 v1741) a + S1x1x32x256.size a ≤ S5x50x50x256.size a := fun v1719 v1723 v1738 v1741 k0_hw128 => k0_hw128

def k0_off192 : Fin 4 → Nat :=
  let c0_749 : Index := 0#32
  let c0_i32 : BitVec 32 := 0#32
  let c128_i32_730 : BitVec 32 := 128#32
  let v1712 : BitVec 32 := Scalar.muli c0_i32 c128_i32_730
  let c31_i32 : BitVec 32 := 31#32
  let v1713 : BitVec 32 := Scalar.addi v1712 c31_i32
  let v1762 : Index := Scalar.indexCast v1713
  let c0_750 : Index := 0#32
  let c0_751 : Index := 0#32
  ![0, v1762.toNat, 0, 0]
def k0_off193 (i : grid0.Coords) (c0_i32_756 : BitVec 32) : Fin 1 → Nat :=
  let arg0 : BitVec 32 := BitVec.ofNat 32 (i 0).val
  let c128_i32_754 : BitVec 32 := 128#32
  let v1768 : BitVec 32 := Scalar.muli arg0 c128_i32_754
  let c0_i32 : BitVec 32 := 0#32
  let c128_i32_752 : BitVec 32 := 128#32
  let v1766 : BitVec 32 := Scalar.muli c0_i32 c128_i32_752
  let c32_i32_753 : BitVec 32 := 32#32
  let v1767 : BitVec 32 := Scalar.addi v1766 c32_i32_753
  let v1769 : BitVec 32 := Scalar.addi v1768 v1767
  let c4_i32_755 : BitVec 32 := 4#32
  let v1770 : BitVec 32 := Scalar.muli v1769 c4_i32_755
  let v1771 : BitVec 32 := Scalar.addi v1770 c0_i32_756
  let v1772 : Index := Scalar.indexCast v1771
  ![v1772.toNat]
def k0_mult33 (v1773 : BitVec 32) : BitVec 32 :=
  let c4_i32_757 : BitVec 32 := 4#32
  let v1774 : BitVec 32 := Scalar.shrsi v1773 c4_i32_757
  let c3_i32_764 : BitVec 32 := 3#32
  let v1787 : BitVec 32 := Scalar.shrsi v1774 c3_i32_764
  let c3_i32_765 : BitVec 32 := 3#32
  let v1788 : BitVec 32 := Scalar.shli v1787 c3_i32_765
  let c16_i32_766 : BitVec 32 := 16#32
  let v1789 : BitVec 32 := Scalar.minsi v1788 c16_i32_766
  v1789

def k0_chk129 (v1773 : BitVec 32) : Prop :=
  (8 ∣ (k0_mult33 v1773).toNat)
theorem k0_mult33_dvd : ∀ (v1773 : BitVec 32) (k0_hw129 : k0_chk129 v1773), 8 ∣ (k0_mult33 v1773).toNat := fun v1773 k0_hw129 => k0_hw129

def k0_off194 (v1785 : BitVec 32) : Fin 1 → Nat :=
  let c4_i32_763 : BitVec 32 := 4#32
  let v1786 : BitVec 32 := Scalar.shrsi v1785 c4_i32_763
  let v1791 : Index := Scalar.indexCast v1786
  ![v1791.toNat]

def k0_off195 (v1785 : BitVec 32) : Fin 1 → Nat :=
  let c32_i32_767 : BitVec 32 := 32#32
  let c4_i32_763 : BitVec 32 := 4#32
  let v1786 : BitVec 32 := Scalar.shrsi v1785 c4_i32_763
  let v1793 : BitVec 32 := Scalar.addi c32_i32_767 v1786
  let v1794 : Index := Scalar.indexCast v1793
  ![v1794.toNat]

def k0_chk130 (v1785 : BitVec 32) : Prop :=
  (∀ a, (k0_off194 v1785) a + S1.size a ≤ S64.size a) ∧
  (∀ a, (k0_off195 v1785) a + S1.size a ≤ S64.size a)
theorem k0_off194_inb : ∀ (v1785 : BitVec 32) (k0_hw130 : k0_chk130 v1785), ∀ a, (k0_off194 v1785) a + S1.size a ≤ S64.size a := fun v1785 k0_hw130 => k0_hw130.1
theorem k0_off195_inb : ∀ (v1785 : BitVec 32) (k0_hw130 : k0_chk130 v1785), ∀ a, (k0_off195 v1785) a + S1.size a ≤ S64.size a := fun v1785 k0_hw130 => k0_hw130.2

def k0_off196 (v1773 : BitVec 32) (v1777 : BitVec 32) (v1792 : BitVec 32) : Fin 4 → Nat :=
  let v1797 : Index := Scalar.indexCast v1792
  let c4_i32_759 : BitVec 32 := 4#32
  let v1778 : BitVec 32 := Scalar.shrsi v1777 c4_i32_759
  let v1798 : Index := Scalar.indexCast v1778
  let c4_i32_757 : BitVec 32 := 4#32
  let v1774 : BitVec 32 := Scalar.shrsi v1773 c4_i32_757
  let c3_i32_764 : BitVec 32 := 3#32
  let v1787 : BitVec 32 := Scalar.shrsi v1774 c3_i32_764
  let c3_i32_765 : BitVec 32 := 3#32
  let v1788 : BitVec 32 := Scalar.shli v1787 c3_i32_765
  let c16_i32_766 : BitVec 32 := 16#32
  let v1789 : BitVec 32 := Scalar.minsi v1788 c16_i32_766
  let v1790 : BitVec 32 := v1789
  let v1799 : Index := Scalar.indexCast v1790
  let c0_768 : Index := 0#32
  ![v1797.toNat, v1798.toNat, v1799.toNat, 0]

def k0_chk131 (v1773 : BitVec 32) (v1777 : BitVec 32) (v1792 : BitVec 32) : Prop :=
  (∀ a, (k0_off196 v1773 v1777 v1792) a + S1x1x32x256.size a ≤ S5x50x50x256.size a)
theorem k0_off196_inb : ∀ (v1773 : BitVec 32) (v1777 : BitVec 32) (v1792 : BitVec 32) (k0_hw131 : k0_chk131 v1773 v1777 v1792), ∀ a, (k0_off196 v1773 v1777 v1792) a + S1x1x32x256.size a ≤ S5x50x50x256.size a := fun v1773 v1777 v1792 k0_hw131 => k0_hw131

def k0_off197 (v1773 : BitVec 32) (v1777 : BitVec 32) (v1792 : BitVec 32) (v1795 : BitVec 32) : Fin 4 → Nat :=
  let v1802 : Index := Scalar.indexCast v1792
  let c4_i32_759 : BitVec 32 := 4#32
  let v1778 : BitVec 32 := Scalar.shrsi v1777 c4_i32_759
  let v1796 : BitVec 32 := Scalar.addi v1778 v1795
  let v1803 : Index := Scalar.indexCast v1796
  let c4_i32_757 : BitVec 32 := 4#32
  let v1774 : BitVec 32 := Scalar.shrsi v1773 c4_i32_757
  let c3_i32_764 : BitVec 32 := 3#32
  let v1787 : BitVec 32 := Scalar.shrsi v1774 c3_i32_764
  let c3_i32_765 : BitVec 32 := 3#32
  let v1788 : BitVec 32 := Scalar.shli v1787 c3_i32_765
  let c16_i32_766 : BitVec 32 := 16#32
  let v1789 : BitVec 32 := Scalar.minsi v1788 c16_i32_766
  let v1790 : BitVec 32 := v1789
  let v1804 : Index := Scalar.indexCast v1790
  let c0_769 : Index := 0#32
  ![v1802.toNat, v1803.toNat, v1804.toNat, 0]

def k0_chk132 (v1773 : BitVec 32) (v1777 : BitVec 32) (v1792 : BitVec 32) (v1795 : BitVec 32) : Prop :=
  (∀ a, (k0_off197 v1773 v1777 v1792 v1795) a + S1x1x32x256.size a ≤ S5x50x50x256.size a)
theorem k0_off197_inb : ∀ (v1773 : BitVec 32) (v1777 : BitVec 32) (v1792 : BitVec 32) (v1795 : BitVec 32) (k0_hw132 : k0_chk132 v1773 v1777 v1792 v1795), ∀ a, (k0_off197 v1773 v1777 v1792 v1795) a + S1x1x32x256.size a ≤ S5x50x50x256.size a := fun v1773 v1777 v1792 v1795 k0_hw132 => k0_hw132

def k0_off198 : Fin 4 → Nat :=
  let c0_772 : Index := 0#32
  let c0_i32 : BitVec 32 := 0#32
  let c128_i32_752 : BitVec 32 := 128#32
  let v1766 : BitVec 32 := Scalar.muli c0_i32 c128_i32_752
  let c32_i32_753 : BitVec 32 := 32#32
  let v1767 : BitVec 32 := Scalar.addi v1766 c32_i32_753
  let v1816 : Index := Scalar.indexCast v1767
  let c0_773 : Index := 0#32
  let c0_774 : Index := 0#32
  ![0, v1816.toNat, 0, 0]
def k0_off199 (i : grid0.Coords) (c0_i32_778 : BitVec 32) : Fin 1 → Nat :=
  let arg0 : BitVec 32 := BitVec.ofNat 32 (i 0).val
  let c128_i32_776 : BitVec 32 := 128#32
  let v1822 : BitVec 32 := Scalar.muli arg0 c128_i32_776
  let c0_i32 : BitVec 32 := 0#32
  let c128_i32_775 : BitVec 32 := 128#32
  let v1820 : BitVec 32 := Scalar.muli c0_i32 c128_i32_775
  let c33_i32 : BitVec 32 := 33#32
  let v1821 : BitVec 32 := Scalar.addi v1820 c33_i32
  let v1823 : BitVec 32 := Scalar.addi v1822 v1821
  let c4_i32_777 : BitVec 32 := 4#32
  let v1824 : BitVec 32 := Scalar.muli v1823 c4_i32_777
  let v1825 : BitVec 32 := Scalar.addi v1824 c0_i32_778
  let v1826 : Index := Scalar.indexCast v1825
  ![v1826.toNat]
def k0_mult34 (v1827 : BitVec 32) : BitVec 32 :=
  let c4_i32_779 : BitVec 32 := 4#32
  let v1828 : BitVec 32 := Scalar.shrsi v1827 c4_i32_779
  let c3_i32_786 : BitVec 32 := 3#32
  let v1841 : BitVec 32 := Scalar.shrsi v1828 c3_i32_786
  let c3_i32_787 : BitVec 32 := 3#32
  let v1842 : BitVec 32 := Scalar.shli v1841 c3_i32_787
  let c16_i32_788 : BitVec 32 := 16#32
  let v1843 : BitVec 32 := Scalar.minsi v1842 c16_i32_788
  v1843

def k0_chk133 (v1827 : BitVec 32) : Prop :=
  (8 ∣ (k0_mult34 v1827).toNat)
theorem k0_mult34_dvd : ∀ (v1827 : BitVec 32) (k0_hw133 : k0_chk133 v1827), 8 ∣ (k0_mult34 v1827).toNat := fun v1827 k0_hw133 => k0_hw133

def k0_off200 (v1839 : BitVec 32) : Fin 1 → Nat :=
  let c4_i32_785 : BitVec 32 := 4#32
  let v1840 : BitVec 32 := Scalar.shrsi v1839 c4_i32_785
  let v1845 : Index := Scalar.indexCast v1840
  ![v1845.toNat]

def k0_off201 (v1839 : BitVec 32) : Fin 1 → Nat :=
  let c32_i32_789 : BitVec 32 := 32#32
  let c4_i32_785 : BitVec 32 := 4#32
  let v1840 : BitVec 32 := Scalar.shrsi v1839 c4_i32_785
  let v1847 : BitVec 32 := Scalar.addi c32_i32_789 v1840
  let v1848 : Index := Scalar.indexCast v1847
  ![v1848.toNat]

def k0_chk134 (v1839 : BitVec 32) : Prop :=
  (∀ a, (k0_off200 v1839) a + S1.size a ≤ S64.size a) ∧
  (∀ a, (k0_off201 v1839) a + S1.size a ≤ S64.size a)
theorem k0_off200_inb : ∀ (v1839 : BitVec 32) (k0_hw134 : k0_chk134 v1839), ∀ a, (k0_off200 v1839) a + S1.size a ≤ S64.size a := fun v1839 k0_hw134 => k0_hw134.1
theorem k0_off201_inb : ∀ (v1839 : BitVec 32) (k0_hw134 : k0_chk134 v1839), ∀ a, (k0_off201 v1839) a + S1.size a ≤ S64.size a := fun v1839 k0_hw134 => k0_hw134.2

def k0_off202 (v1827 : BitVec 32) (v1831 : BitVec 32) (v1846 : BitVec 32) : Fin 4 → Nat :=
  let v1851 : Index := Scalar.indexCast v1846
  let c4_i32_781 : BitVec 32 := 4#32
  let v1832 : BitVec 32 := Scalar.shrsi v1831 c4_i32_781
  let v1852 : Index := Scalar.indexCast v1832
  let c4_i32_779 : BitVec 32 := 4#32
  let v1828 : BitVec 32 := Scalar.shrsi v1827 c4_i32_779
  let c3_i32_786 : BitVec 32 := 3#32
  let v1841 : BitVec 32 := Scalar.shrsi v1828 c3_i32_786
  let c3_i32_787 : BitVec 32 := 3#32
  let v1842 : BitVec 32 := Scalar.shli v1841 c3_i32_787
  let c16_i32_788 : BitVec 32 := 16#32
  let v1843 : BitVec 32 := Scalar.minsi v1842 c16_i32_788
  let v1844 : BitVec 32 := v1843
  let v1853 : Index := Scalar.indexCast v1844
  let c0_790 : Index := 0#32
  ![v1851.toNat, v1852.toNat, v1853.toNat, 0]

def k0_chk135 (v1827 : BitVec 32) (v1831 : BitVec 32) (v1846 : BitVec 32) : Prop :=
  (∀ a, (k0_off202 v1827 v1831 v1846) a + S1x1x32x256.size a ≤ S5x50x50x256.size a)
theorem k0_off202_inb : ∀ (v1827 : BitVec 32) (v1831 : BitVec 32) (v1846 : BitVec 32) (k0_hw135 : k0_chk135 v1827 v1831 v1846), ∀ a, (k0_off202 v1827 v1831 v1846) a + S1x1x32x256.size a ≤ S5x50x50x256.size a := fun v1827 v1831 v1846 k0_hw135 => k0_hw135

def k0_off203 (v1827 : BitVec 32) (v1831 : BitVec 32) (v1846 : BitVec 32) (v1849 : BitVec 32) : Fin 4 → Nat :=
  let v1856 : Index := Scalar.indexCast v1846
  let c4_i32_781 : BitVec 32 := 4#32
  let v1832 : BitVec 32 := Scalar.shrsi v1831 c4_i32_781
  let v1850 : BitVec 32 := Scalar.addi v1832 v1849
  let v1857 : Index := Scalar.indexCast v1850
  let c4_i32_779 : BitVec 32 := 4#32
  let v1828 : BitVec 32 := Scalar.shrsi v1827 c4_i32_779
  let c3_i32_786 : BitVec 32 := 3#32
  let v1841 : BitVec 32 := Scalar.shrsi v1828 c3_i32_786
  let c3_i32_787 : BitVec 32 := 3#32
  let v1842 : BitVec 32 := Scalar.shli v1841 c3_i32_787
  let c16_i32_788 : BitVec 32 := 16#32
  let v1843 : BitVec 32 := Scalar.minsi v1842 c16_i32_788
  let v1844 : BitVec 32 := v1843
  let v1858 : Index := Scalar.indexCast v1844
  let c0_791 : Index := 0#32
  ![v1856.toNat, v1857.toNat, v1858.toNat, 0]

def k0_chk136 (v1827 : BitVec 32) (v1831 : BitVec 32) (v1846 : BitVec 32) (v1849 : BitVec 32) : Prop :=
  (∀ a, (k0_off203 v1827 v1831 v1846 v1849) a + S1x1x32x256.size a ≤ S5x50x50x256.size a)
theorem k0_off203_inb : ∀ (v1827 : BitVec 32) (v1831 : BitVec 32) (v1846 : BitVec 32) (v1849 : BitVec 32) (k0_hw136 : k0_chk136 v1827 v1831 v1846 v1849), ∀ a, (k0_off203 v1827 v1831 v1846 v1849) a + S1x1x32x256.size a ≤ S5x50x50x256.size a := fun v1827 v1831 v1846 v1849 k0_hw136 => k0_hw136

def k0_off204 : Fin 4 → Nat :=
  let c0_794 : Index := 0#32
  let c0_i32 : BitVec 32 := 0#32
  let c128_i32_775 : BitVec 32 := 128#32
  let v1820 : BitVec 32 := Scalar.muli c0_i32 c128_i32_775
  let c33_i32 : BitVec 32 := 33#32
  let v1821 : BitVec 32 := Scalar.addi v1820 c33_i32
  let v1870 : Index := Scalar.indexCast v1821
  let c0_795 : Index := 0#32
  let c0_796 : Index := 0#32
  ![0, v1870.toNat, 0, 0]
def k0_off205 (i : grid0.Coords) (c0_i32_800 : BitVec 32) : Fin 1 → Nat :=
  let arg0 : BitVec 32 := BitVec.ofNat 32 (i 0).val
  let c128_i32_798 : BitVec 32 := 128#32
  let v1876 : BitVec 32 := Scalar.muli arg0 c128_i32_798
  let c0_i32 : BitVec 32 := 0#32
  let c128_i32_797 : BitVec 32 := 128#32
  let v1874 : BitVec 32 := Scalar.muli c0_i32 c128_i32_797
  let c34_i32 : BitVec 32 := 34#32
  let v1875 : BitVec 32 := Scalar.addi v1874 c34_i32
  let v1877 : BitVec 32 := Scalar.addi v1876 v1875
  let c4_i32_799 : BitVec 32 := 4#32
  let v1878 : BitVec 32 := Scalar.muli v1877 c4_i32_799
  let v1879 : BitVec 32 := Scalar.addi v1878 c0_i32_800
  let v1880 : Index := Scalar.indexCast v1879
  ![v1880.toNat]
def k0_mult35 (v1881 : BitVec 32) : BitVec 32 :=
  let c4_i32_801 : BitVec 32 := 4#32
  let v1882 : BitVec 32 := Scalar.shrsi v1881 c4_i32_801
  let c3_i32_808 : BitVec 32 := 3#32
  let v1895 : BitVec 32 := Scalar.shrsi v1882 c3_i32_808
  let c3_i32_809 : BitVec 32 := 3#32
  let v1896 : BitVec 32 := Scalar.shli v1895 c3_i32_809
  let c16_i32_810 : BitVec 32 := 16#32
  let v1897 : BitVec 32 := Scalar.minsi v1896 c16_i32_810
  v1897

def k0_chk137 (v1881 : BitVec 32) : Prop :=
  (8 ∣ (k0_mult35 v1881).toNat)
theorem k0_mult35_dvd : ∀ (v1881 : BitVec 32) (k0_hw137 : k0_chk137 v1881), 8 ∣ (k0_mult35 v1881).toNat := fun v1881 k0_hw137 => k0_hw137

def k0_off206 (v1893 : BitVec 32) : Fin 1 → Nat :=
  let c4_i32_807 : BitVec 32 := 4#32
  let v1894 : BitVec 32 := Scalar.shrsi v1893 c4_i32_807
  let v1899 : Index := Scalar.indexCast v1894
  ![v1899.toNat]

def k0_off207 (v1893 : BitVec 32) : Fin 1 → Nat :=
  let c32_i32_811 : BitVec 32 := 32#32
  let c4_i32_807 : BitVec 32 := 4#32
  let v1894 : BitVec 32 := Scalar.shrsi v1893 c4_i32_807
  let v1901 : BitVec 32 := Scalar.addi c32_i32_811 v1894
  let v1902 : Index := Scalar.indexCast v1901
  ![v1902.toNat]

def k0_chk138 (v1893 : BitVec 32) : Prop :=
  (∀ a, (k0_off206 v1893) a + S1.size a ≤ S64.size a) ∧
  (∀ a, (k0_off207 v1893) a + S1.size a ≤ S64.size a)
theorem k0_off206_inb : ∀ (v1893 : BitVec 32) (k0_hw138 : k0_chk138 v1893), ∀ a, (k0_off206 v1893) a + S1.size a ≤ S64.size a := fun v1893 k0_hw138 => k0_hw138.1
theorem k0_off207_inb : ∀ (v1893 : BitVec 32) (k0_hw138 : k0_chk138 v1893), ∀ a, (k0_off207 v1893) a + S1.size a ≤ S64.size a := fun v1893 k0_hw138 => k0_hw138.2

def k0_off208 (v1881 : BitVec 32) (v1885 : BitVec 32) (v1900 : BitVec 32) : Fin 4 → Nat :=
  let v1905 : Index := Scalar.indexCast v1900
  let c4_i32_803 : BitVec 32 := 4#32
  let v1886 : BitVec 32 := Scalar.shrsi v1885 c4_i32_803
  let v1906 : Index := Scalar.indexCast v1886
  let c4_i32_801 : BitVec 32 := 4#32
  let v1882 : BitVec 32 := Scalar.shrsi v1881 c4_i32_801
  let c3_i32_808 : BitVec 32 := 3#32
  let v1895 : BitVec 32 := Scalar.shrsi v1882 c3_i32_808
  let c3_i32_809 : BitVec 32 := 3#32
  let v1896 : BitVec 32 := Scalar.shli v1895 c3_i32_809
  let c16_i32_810 : BitVec 32 := 16#32
  let v1897 : BitVec 32 := Scalar.minsi v1896 c16_i32_810
  let v1898 : BitVec 32 := v1897
  let v1907 : Index := Scalar.indexCast v1898
  let c0_812 : Index := 0#32
  ![v1905.toNat, v1906.toNat, v1907.toNat, 0]

def k0_chk139 (v1881 : BitVec 32) (v1885 : BitVec 32) (v1900 : BitVec 32) : Prop :=
  (∀ a, (k0_off208 v1881 v1885 v1900) a + S1x1x32x256.size a ≤ S5x50x50x256.size a)
theorem k0_off208_inb : ∀ (v1881 : BitVec 32) (v1885 : BitVec 32) (v1900 : BitVec 32) (k0_hw139 : k0_chk139 v1881 v1885 v1900), ∀ a, (k0_off208 v1881 v1885 v1900) a + S1x1x32x256.size a ≤ S5x50x50x256.size a := fun v1881 v1885 v1900 k0_hw139 => k0_hw139

def k0_off209 (v1881 : BitVec 32) (v1885 : BitVec 32) (v1900 : BitVec 32) (v1903 : BitVec 32) : Fin 4 → Nat :=
  let v1910 : Index := Scalar.indexCast v1900
  let c4_i32_803 : BitVec 32 := 4#32
  let v1886 : BitVec 32 := Scalar.shrsi v1885 c4_i32_803
  let v1904 : BitVec 32 := Scalar.addi v1886 v1903
  let v1911 : Index := Scalar.indexCast v1904
  let c4_i32_801 : BitVec 32 := 4#32
  let v1882 : BitVec 32 := Scalar.shrsi v1881 c4_i32_801
  let c3_i32_808 : BitVec 32 := 3#32
  let v1895 : BitVec 32 := Scalar.shrsi v1882 c3_i32_808
  let c3_i32_809 : BitVec 32 := 3#32
  let v1896 : BitVec 32 := Scalar.shli v1895 c3_i32_809
  let c16_i32_810 : BitVec 32 := 16#32
  let v1897 : BitVec 32 := Scalar.minsi v1896 c16_i32_810
  let v1898 : BitVec 32 := v1897
  let v1912 : Index := Scalar.indexCast v1898
  let c0_813 : Index := 0#32
  ![v1910.toNat, v1911.toNat, v1912.toNat, 0]

def k0_chk140 (v1881 : BitVec 32) (v1885 : BitVec 32) (v1900 : BitVec 32) (v1903 : BitVec 32) : Prop :=
  (∀ a, (k0_off209 v1881 v1885 v1900 v1903) a + S1x1x32x256.size a ≤ S5x50x50x256.size a)
theorem k0_off209_inb : ∀ (v1881 : BitVec 32) (v1885 : BitVec 32) (v1900 : BitVec 32) (v1903 : BitVec 32) (k0_hw140 : k0_chk140 v1881 v1885 v1900 v1903), ∀ a, (k0_off209 v1881 v1885 v1900 v1903) a + S1x1x32x256.size a ≤ S5x50x50x256.size a := fun v1881 v1885 v1900 v1903 k0_hw140 => k0_hw140

def k0_off210 : Fin 4 → Nat :=
  let c0_816 : Index := 0#32
  let c0_i32 : BitVec 32 := 0#32
  let c128_i32_797 : BitVec 32 := 128#32
  let v1874 : BitVec 32 := Scalar.muli c0_i32 c128_i32_797
  let c34_i32 : BitVec 32 := 34#32
  let v1875 : BitVec 32 := Scalar.addi v1874 c34_i32
  let v1924 : Index := Scalar.indexCast v1875
  let c0_817 : Index := 0#32
  let c0_818 : Index := 0#32
  ![0, v1924.toNat, 0, 0]
def k0_off211 (i : grid0.Coords) (c0_i32_822 : BitVec 32) : Fin 1 → Nat :=
  let arg0 : BitVec 32 := BitVec.ofNat 32 (i 0).val
  let c128_i32_820 : BitVec 32 := 128#32
  let v1930 : BitVec 32 := Scalar.muli arg0 c128_i32_820
  let c0_i32 : BitVec 32 := 0#32
  let c128_i32_819 : BitVec 32 := 128#32
  let v1928 : BitVec 32 := Scalar.muli c0_i32 c128_i32_819
  let c35_i32 : BitVec 32 := 35#32
  let v1929 : BitVec 32 := Scalar.addi v1928 c35_i32
  let v1931 : BitVec 32 := Scalar.addi v1930 v1929
  let c4_i32_821 : BitVec 32 := 4#32
  let v1932 : BitVec 32 := Scalar.muli v1931 c4_i32_821
  let v1933 : BitVec 32 := Scalar.addi v1932 c0_i32_822
  let v1934 : Index := Scalar.indexCast v1933
  ![v1934.toNat]
def k0_mult36 (v1935 : BitVec 32) : BitVec 32 :=
  let c4_i32_823 : BitVec 32 := 4#32
  let v1936 : BitVec 32 := Scalar.shrsi v1935 c4_i32_823
  let c3_i32_830 : BitVec 32 := 3#32
  let v1949 : BitVec 32 := Scalar.shrsi v1936 c3_i32_830
  let c3_i32_831 : BitVec 32 := 3#32
  let v1950 : BitVec 32 := Scalar.shli v1949 c3_i32_831
  let c16_i32_832 : BitVec 32 := 16#32
  let v1951 : BitVec 32 := Scalar.minsi v1950 c16_i32_832
  v1951

def k0_chk141 (v1935 : BitVec 32) : Prop :=
  (8 ∣ (k0_mult36 v1935).toNat)
theorem k0_mult36_dvd : ∀ (v1935 : BitVec 32) (k0_hw141 : k0_chk141 v1935), 8 ∣ (k0_mult36 v1935).toNat := fun v1935 k0_hw141 => k0_hw141

def k0_off212 (v1947 : BitVec 32) : Fin 1 → Nat :=
  let c4_i32_829 : BitVec 32 := 4#32
  let v1948 : BitVec 32 := Scalar.shrsi v1947 c4_i32_829
  let v1953 : Index := Scalar.indexCast v1948
  ![v1953.toNat]

def k0_off213 (v1947 : BitVec 32) : Fin 1 → Nat :=
  let c32_i32_833 : BitVec 32 := 32#32
  let c4_i32_829 : BitVec 32 := 4#32
  let v1948 : BitVec 32 := Scalar.shrsi v1947 c4_i32_829
  let v1955 : BitVec 32 := Scalar.addi c32_i32_833 v1948
  let v1956 : Index := Scalar.indexCast v1955
  ![v1956.toNat]

def k0_chk142 (v1947 : BitVec 32) : Prop :=
  (∀ a, (k0_off212 v1947) a + S1.size a ≤ S64.size a) ∧
  (∀ a, (k0_off213 v1947) a + S1.size a ≤ S64.size a)
theorem k0_off212_inb : ∀ (v1947 : BitVec 32) (k0_hw142 : k0_chk142 v1947), ∀ a, (k0_off212 v1947) a + S1.size a ≤ S64.size a := fun v1947 k0_hw142 => k0_hw142.1
theorem k0_off213_inb : ∀ (v1947 : BitVec 32) (k0_hw142 : k0_chk142 v1947), ∀ a, (k0_off213 v1947) a + S1.size a ≤ S64.size a := fun v1947 k0_hw142 => k0_hw142.2

def k0_off214 (v1935 : BitVec 32) (v1939 : BitVec 32) (v1954 : BitVec 32) : Fin 4 → Nat :=
  let v1959 : Index := Scalar.indexCast v1954
  let c4_i32_825 : BitVec 32 := 4#32
  let v1940 : BitVec 32 := Scalar.shrsi v1939 c4_i32_825
  let v1960 : Index := Scalar.indexCast v1940
  let c4_i32_823 : BitVec 32 := 4#32
  let v1936 : BitVec 32 := Scalar.shrsi v1935 c4_i32_823
  let c3_i32_830 : BitVec 32 := 3#32
  let v1949 : BitVec 32 := Scalar.shrsi v1936 c3_i32_830
  let c3_i32_831 : BitVec 32 := 3#32
  let v1950 : BitVec 32 := Scalar.shli v1949 c3_i32_831
  let c16_i32_832 : BitVec 32 := 16#32
  let v1951 : BitVec 32 := Scalar.minsi v1950 c16_i32_832
  let v1952 : BitVec 32 := v1951
  let v1961 : Index := Scalar.indexCast v1952
  let c0_834 : Index := 0#32
  ![v1959.toNat, v1960.toNat, v1961.toNat, 0]

def k0_chk143 (v1935 : BitVec 32) (v1939 : BitVec 32) (v1954 : BitVec 32) : Prop :=
  (∀ a, (k0_off214 v1935 v1939 v1954) a + S1x1x32x256.size a ≤ S5x50x50x256.size a)
theorem k0_off214_inb : ∀ (v1935 : BitVec 32) (v1939 : BitVec 32) (v1954 : BitVec 32) (k0_hw143 : k0_chk143 v1935 v1939 v1954), ∀ a, (k0_off214 v1935 v1939 v1954) a + S1x1x32x256.size a ≤ S5x50x50x256.size a := fun v1935 v1939 v1954 k0_hw143 => k0_hw143

def k0_off215 (v1935 : BitVec 32) (v1939 : BitVec 32) (v1954 : BitVec 32) (v1957 : BitVec 32) : Fin 4 → Nat :=
  let v1964 : Index := Scalar.indexCast v1954
  let c4_i32_825 : BitVec 32 := 4#32
  let v1940 : BitVec 32 := Scalar.shrsi v1939 c4_i32_825
  let v1958 : BitVec 32 := Scalar.addi v1940 v1957
  let v1965 : Index := Scalar.indexCast v1958
  let c4_i32_823 : BitVec 32 := 4#32
  let v1936 : BitVec 32 := Scalar.shrsi v1935 c4_i32_823
  let c3_i32_830 : BitVec 32 := 3#32
  let v1949 : BitVec 32 := Scalar.shrsi v1936 c3_i32_830
  let c3_i32_831 : BitVec 32 := 3#32
  let v1950 : BitVec 32 := Scalar.shli v1949 c3_i32_831
  let c16_i32_832 : BitVec 32 := 16#32
  let v1951 : BitVec 32 := Scalar.minsi v1950 c16_i32_832
  let v1952 : BitVec 32 := v1951
  let v1966 : Index := Scalar.indexCast v1952
  let c0_835 : Index := 0#32
  ![v1964.toNat, v1965.toNat, v1966.toNat, 0]

def k0_chk144 (v1935 : BitVec 32) (v1939 : BitVec 32) (v1954 : BitVec 32) (v1957 : BitVec 32) : Prop :=
  (∀ a, (k0_off215 v1935 v1939 v1954 v1957) a + S1x1x32x256.size a ≤ S5x50x50x256.size a)
theorem k0_off215_inb : ∀ (v1935 : BitVec 32) (v1939 : BitVec 32) (v1954 : BitVec 32) (v1957 : BitVec 32) (k0_hw144 : k0_chk144 v1935 v1939 v1954 v1957), ∀ a, (k0_off215 v1935 v1939 v1954 v1957) a + S1x1x32x256.size a ≤ S5x50x50x256.size a := fun v1935 v1939 v1954 v1957 k0_hw144 => k0_hw144

def k0_off216 : Fin 4 → Nat :=
  let c0_838 : Index := 0#32
  let c0_i32 : BitVec 32 := 0#32
  let c128_i32_819 : BitVec 32 := 128#32
  let v1928 : BitVec 32 := Scalar.muli c0_i32 c128_i32_819
  let c35_i32 : BitVec 32 := 35#32
  let v1929 : BitVec 32 := Scalar.addi v1928 c35_i32
  let v1978 : Index := Scalar.indexCast v1929
  let c0_839 : Index := 0#32
  let c0_840 : Index := 0#32
  ![0, v1978.toNat, 0, 0]
def k0_off217 (i : grid0.Coords) (c0_i32_844 : BitVec 32) : Fin 1 → Nat :=
  let arg0 : BitVec 32 := BitVec.ofNat 32 (i 0).val
  let c128_i32_842 : BitVec 32 := 128#32
  let v1984 : BitVec 32 := Scalar.muli arg0 c128_i32_842
  let c0_i32 : BitVec 32 := 0#32
  let c128_i32_841 : BitVec 32 := 128#32
  let v1982 : BitVec 32 := Scalar.muli c0_i32 c128_i32_841
  let c36_i32 : BitVec 32 := 36#32
  let v1983 : BitVec 32 := Scalar.addi v1982 c36_i32
  let v1985 : BitVec 32 := Scalar.addi v1984 v1983
  let c4_i32_843 : BitVec 32 := 4#32
  let v1986 : BitVec 32 := Scalar.muli v1985 c4_i32_843
  let v1987 : BitVec 32 := Scalar.addi v1986 c0_i32_844
  let v1988 : Index := Scalar.indexCast v1987
  ![v1988.toNat]
def k0_mult37 (v1989 : BitVec 32) : BitVec 32 :=
  let c4_i32_845 : BitVec 32 := 4#32
  let v1990 : BitVec 32 := Scalar.shrsi v1989 c4_i32_845
  let c3_i32_852 : BitVec 32 := 3#32
  let v2003 : BitVec 32 := Scalar.shrsi v1990 c3_i32_852
  let c3_i32_853 : BitVec 32 := 3#32
  let v2004 : BitVec 32 := Scalar.shli v2003 c3_i32_853
  let c16_i32_854 : BitVec 32 := 16#32
  let v2005 : BitVec 32 := Scalar.minsi v2004 c16_i32_854
  v2005

def k0_chk145 (v1989 : BitVec 32) : Prop :=
  (8 ∣ (k0_mult37 v1989).toNat)
theorem k0_mult37_dvd : ∀ (v1989 : BitVec 32) (k0_hw145 : k0_chk145 v1989), 8 ∣ (k0_mult37 v1989).toNat := fun v1989 k0_hw145 => k0_hw145

def k0_off218 (v2001 : BitVec 32) : Fin 1 → Nat :=
  let c4_i32_851 : BitVec 32 := 4#32
  let v2002 : BitVec 32 := Scalar.shrsi v2001 c4_i32_851
  let v2007 : Index := Scalar.indexCast v2002
  ![v2007.toNat]

def k0_off219 (v2001 : BitVec 32) : Fin 1 → Nat :=
  let c32_i32_855 : BitVec 32 := 32#32
  let c4_i32_851 : BitVec 32 := 4#32
  let v2002 : BitVec 32 := Scalar.shrsi v2001 c4_i32_851
  let v2009 : BitVec 32 := Scalar.addi c32_i32_855 v2002
  let v2010 : Index := Scalar.indexCast v2009
  ![v2010.toNat]

def k0_chk146 (v2001 : BitVec 32) : Prop :=
  (∀ a, (k0_off218 v2001) a + S1.size a ≤ S64.size a) ∧
  (∀ a, (k0_off219 v2001) a + S1.size a ≤ S64.size a)
theorem k0_off218_inb : ∀ (v2001 : BitVec 32) (k0_hw146 : k0_chk146 v2001), ∀ a, (k0_off218 v2001) a + S1.size a ≤ S64.size a := fun v2001 k0_hw146 => k0_hw146.1
theorem k0_off219_inb : ∀ (v2001 : BitVec 32) (k0_hw146 : k0_chk146 v2001), ∀ a, (k0_off219 v2001) a + S1.size a ≤ S64.size a := fun v2001 k0_hw146 => k0_hw146.2

def k0_off220 (v1989 : BitVec 32) (v1993 : BitVec 32) (v2008 : BitVec 32) : Fin 4 → Nat :=
  let v2013 : Index := Scalar.indexCast v2008
  let c4_i32_847 : BitVec 32 := 4#32
  let v1994 : BitVec 32 := Scalar.shrsi v1993 c4_i32_847
  let v2014 : Index := Scalar.indexCast v1994
  let c4_i32_845 : BitVec 32 := 4#32
  let v1990 : BitVec 32 := Scalar.shrsi v1989 c4_i32_845
  let c3_i32_852 : BitVec 32 := 3#32
  let v2003 : BitVec 32 := Scalar.shrsi v1990 c3_i32_852
  let c3_i32_853 : BitVec 32 := 3#32
  let v2004 : BitVec 32 := Scalar.shli v2003 c3_i32_853
  let c16_i32_854 : BitVec 32 := 16#32
  let v2005 : BitVec 32 := Scalar.minsi v2004 c16_i32_854
  let v2006 : BitVec 32 := v2005
  let v2015 : Index := Scalar.indexCast v2006
  let c0_856 : Index := 0#32
  ![v2013.toNat, v2014.toNat, v2015.toNat, 0]

def k0_chk147 (v1989 : BitVec 32) (v1993 : BitVec 32) (v2008 : BitVec 32) : Prop :=
  (∀ a, (k0_off220 v1989 v1993 v2008) a + S1x1x32x256.size a ≤ S5x50x50x256.size a)
theorem k0_off220_inb : ∀ (v1989 : BitVec 32) (v1993 : BitVec 32) (v2008 : BitVec 32) (k0_hw147 : k0_chk147 v1989 v1993 v2008), ∀ a, (k0_off220 v1989 v1993 v2008) a + S1x1x32x256.size a ≤ S5x50x50x256.size a := fun v1989 v1993 v2008 k0_hw147 => k0_hw147

def k0_off221 (v1989 : BitVec 32) (v1993 : BitVec 32) (v2008 : BitVec 32) (v2011 : BitVec 32) : Fin 4 → Nat :=
  let v2018 : Index := Scalar.indexCast v2008
  let c4_i32_847 : BitVec 32 := 4#32
  let v1994 : BitVec 32 := Scalar.shrsi v1993 c4_i32_847
  let v2012 : BitVec 32 := Scalar.addi v1994 v2011
  let v2019 : Index := Scalar.indexCast v2012
  let c4_i32_845 : BitVec 32 := 4#32
  let v1990 : BitVec 32 := Scalar.shrsi v1989 c4_i32_845
  let c3_i32_852 : BitVec 32 := 3#32
  let v2003 : BitVec 32 := Scalar.shrsi v1990 c3_i32_852
  let c3_i32_853 : BitVec 32 := 3#32
  let v2004 : BitVec 32 := Scalar.shli v2003 c3_i32_853
  let c16_i32_854 : BitVec 32 := 16#32
  let v2005 : BitVec 32 := Scalar.minsi v2004 c16_i32_854
  let v2006 : BitVec 32 := v2005
  let v2020 : Index := Scalar.indexCast v2006
  let c0_857 : Index := 0#32
  ![v2018.toNat, v2019.toNat, v2020.toNat, 0]

def k0_chk148 (v1989 : BitVec 32) (v1993 : BitVec 32) (v2008 : BitVec 32) (v2011 : BitVec 32) : Prop :=
  (∀ a, (k0_off221 v1989 v1993 v2008 v2011) a + S1x1x32x256.size a ≤ S5x50x50x256.size a)
theorem k0_off221_inb : ∀ (v1989 : BitVec 32) (v1993 : BitVec 32) (v2008 : BitVec 32) (v2011 : BitVec 32) (k0_hw148 : k0_chk148 v1989 v1993 v2008 v2011), ∀ a, (k0_off221 v1989 v1993 v2008 v2011) a + S1x1x32x256.size a ≤ S5x50x50x256.size a := fun v1989 v1993 v2008 v2011 k0_hw148 => k0_hw148

def k0_off222 : Fin 4 → Nat :=
  let c0_860 : Index := 0#32
  let c0_i32 : BitVec 32 := 0#32
  let c128_i32_841 : BitVec 32 := 128#32
  let v1982 : BitVec 32 := Scalar.muli c0_i32 c128_i32_841
  let c36_i32 : BitVec 32 := 36#32
  let v1983 : BitVec 32 := Scalar.addi v1982 c36_i32
  let v2032 : Index := Scalar.indexCast v1983
  let c0_861 : Index := 0#32
  let c0_862 : Index := 0#32
  ![0, v2032.toNat, 0, 0]
def k0_off223 (i : grid0.Coords) (c0_i32_866 : BitVec 32) : Fin 1 → Nat :=
  let arg0 : BitVec 32 := BitVec.ofNat 32 (i 0).val
  let c128_i32_864 : BitVec 32 := 128#32
  let v2038 : BitVec 32 := Scalar.muli arg0 c128_i32_864
  let c0_i32 : BitVec 32 := 0#32
  let c128_i32_863 : BitVec 32 := 128#32
  let v2036 : BitVec 32 := Scalar.muli c0_i32 c128_i32_863
  let c37_i32 : BitVec 32 := 37#32
  let v2037 : BitVec 32 := Scalar.addi v2036 c37_i32
  let v2039 : BitVec 32 := Scalar.addi v2038 v2037
  let c4_i32_865 : BitVec 32 := 4#32
  let v2040 : BitVec 32 := Scalar.muli v2039 c4_i32_865
  let v2041 : BitVec 32 := Scalar.addi v2040 c0_i32_866
  let v2042 : Index := Scalar.indexCast v2041
  ![v2042.toNat]
def k0_mult38 (v2043 : BitVec 32) : BitVec 32 :=
  let c4_i32_867 : BitVec 32 := 4#32
  let v2044 : BitVec 32 := Scalar.shrsi v2043 c4_i32_867
  let c3_i32_874 : BitVec 32 := 3#32
  let v2057 : BitVec 32 := Scalar.shrsi v2044 c3_i32_874
  let c3_i32_875 : BitVec 32 := 3#32
  let v2058 : BitVec 32 := Scalar.shli v2057 c3_i32_875
  let c16_i32_876 : BitVec 32 := 16#32
  let v2059 : BitVec 32 := Scalar.minsi v2058 c16_i32_876
  v2059

def k0_chk149 (v2043 : BitVec 32) : Prop :=
  (8 ∣ (k0_mult38 v2043).toNat)
theorem k0_mult38_dvd : ∀ (v2043 : BitVec 32) (k0_hw149 : k0_chk149 v2043), 8 ∣ (k0_mult38 v2043).toNat := fun v2043 k0_hw149 => k0_hw149

def k0_off224 (v2055 : BitVec 32) : Fin 1 → Nat :=
  let c4_i32_873 : BitVec 32 := 4#32
  let v2056 : BitVec 32 := Scalar.shrsi v2055 c4_i32_873
  let v2061 : Index := Scalar.indexCast v2056
  ![v2061.toNat]

def k0_off225 (v2055 : BitVec 32) : Fin 1 → Nat :=
  let c32_i32_877 : BitVec 32 := 32#32
  let c4_i32_873 : BitVec 32 := 4#32
  let v2056 : BitVec 32 := Scalar.shrsi v2055 c4_i32_873
  let v2063 : BitVec 32 := Scalar.addi c32_i32_877 v2056
  let v2064 : Index := Scalar.indexCast v2063
  ![v2064.toNat]

def k0_chk150 (v2055 : BitVec 32) : Prop :=
  (∀ a, (k0_off224 v2055) a + S1.size a ≤ S64.size a) ∧
  (∀ a, (k0_off225 v2055) a + S1.size a ≤ S64.size a)
theorem k0_off224_inb : ∀ (v2055 : BitVec 32) (k0_hw150 : k0_chk150 v2055), ∀ a, (k0_off224 v2055) a + S1.size a ≤ S64.size a := fun v2055 k0_hw150 => k0_hw150.1
theorem k0_off225_inb : ∀ (v2055 : BitVec 32) (k0_hw150 : k0_chk150 v2055), ∀ a, (k0_off225 v2055) a + S1.size a ≤ S64.size a := fun v2055 k0_hw150 => k0_hw150.2

def k0_off226 (v2043 : BitVec 32) (v2047 : BitVec 32) (v2062 : BitVec 32) : Fin 4 → Nat :=
  let v2067 : Index := Scalar.indexCast v2062
  let c4_i32_869 : BitVec 32 := 4#32
  let v2048 : BitVec 32 := Scalar.shrsi v2047 c4_i32_869
  let v2068 : Index := Scalar.indexCast v2048
  let c4_i32_867 : BitVec 32 := 4#32
  let v2044 : BitVec 32 := Scalar.shrsi v2043 c4_i32_867
  let c3_i32_874 : BitVec 32 := 3#32
  let v2057 : BitVec 32 := Scalar.shrsi v2044 c3_i32_874
  let c3_i32_875 : BitVec 32 := 3#32
  let v2058 : BitVec 32 := Scalar.shli v2057 c3_i32_875
  let c16_i32_876 : BitVec 32 := 16#32
  let v2059 : BitVec 32 := Scalar.minsi v2058 c16_i32_876
  let v2060 : BitVec 32 := v2059
  let v2069 : Index := Scalar.indexCast v2060
  let c0_878 : Index := 0#32
  ![v2067.toNat, v2068.toNat, v2069.toNat, 0]

def k0_chk151 (v2043 : BitVec 32) (v2047 : BitVec 32) (v2062 : BitVec 32) : Prop :=
  (∀ a, (k0_off226 v2043 v2047 v2062) a + S1x1x32x256.size a ≤ S5x50x50x256.size a)
theorem k0_off226_inb : ∀ (v2043 : BitVec 32) (v2047 : BitVec 32) (v2062 : BitVec 32) (k0_hw151 : k0_chk151 v2043 v2047 v2062), ∀ a, (k0_off226 v2043 v2047 v2062) a + S1x1x32x256.size a ≤ S5x50x50x256.size a := fun v2043 v2047 v2062 k0_hw151 => k0_hw151

def k0_off227 (v2043 : BitVec 32) (v2047 : BitVec 32) (v2062 : BitVec 32) (v2065 : BitVec 32) : Fin 4 → Nat :=
  let v2072 : Index := Scalar.indexCast v2062
  let c4_i32_869 : BitVec 32 := 4#32
  let v2048 : BitVec 32 := Scalar.shrsi v2047 c4_i32_869
  let v2066 : BitVec 32 := Scalar.addi v2048 v2065
  let v2073 : Index := Scalar.indexCast v2066
  let c4_i32_867 : BitVec 32 := 4#32
  let v2044 : BitVec 32 := Scalar.shrsi v2043 c4_i32_867
  let c3_i32_874 : BitVec 32 := 3#32
  let v2057 : BitVec 32 := Scalar.shrsi v2044 c3_i32_874
  let c3_i32_875 : BitVec 32 := 3#32
  let v2058 : BitVec 32 := Scalar.shli v2057 c3_i32_875
  let c16_i32_876 : BitVec 32 := 16#32
  let v2059 : BitVec 32 := Scalar.minsi v2058 c16_i32_876
  let v2060 : BitVec 32 := v2059
  let v2074 : Index := Scalar.indexCast v2060
  let c0_879 : Index := 0#32
  ![v2072.toNat, v2073.toNat, v2074.toNat, 0]

def k0_chk152 (v2043 : BitVec 32) (v2047 : BitVec 32) (v2062 : BitVec 32) (v2065 : BitVec 32) : Prop :=
  (∀ a, (k0_off227 v2043 v2047 v2062 v2065) a + S1x1x32x256.size a ≤ S5x50x50x256.size a)
theorem k0_off227_inb : ∀ (v2043 : BitVec 32) (v2047 : BitVec 32) (v2062 : BitVec 32) (v2065 : BitVec 32) (k0_hw152 : k0_chk152 v2043 v2047 v2062 v2065), ∀ a, (k0_off227 v2043 v2047 v2062 v2065) a + S1x1x32x256.size a ≤ S5x50x50x256.size a := fun v2043 v2047 v2062 v2065 k0_hw152 => k0_hw152

def k0_off228 : Fin 4 → Nat :=
  let c0_882 : Index := 0#32
  let c0_i32 : BitVec 32 := 0#32
  let c128_i32_863 : BitVec 32 := 128#32
  let v2036 : BitVec 32 := Scalar.muli c0_i32 c128_i32_863
  let c37_i32 : BitVec 32 := 37#32
  let v2037 : BitVec 32 := Scalar.addi v2036 c37_i32
  let v2086 : Index := Scalar.indexCast v2037
  let c0_883 : Index := 0#32
  let c0_884 : Index := 0#32
  ![0, v2086.toNat, 0, 0]
def k0_off229 (i : grid0.Coords) (c0_i32_888 : BitVec 32) : Fin 1 → Nat :=
  let arg0 : BitVec 32 := BitVec.ofNat 32 (i 0).val
  let c128_i32_886 : BitVec 32 := 128#32
  let v2092 : BitVec 32 := Scalar.muli arg0 c128_i32_886
  let c0_i32 : BitVec 32 := 0#32
  let c128_i32_885 : BitVec 32 := 128#32
  let v2090 : BitVec 32 := Scalar.muli c0_i32 c128_i32_885
  let c38_i32 : BitVec 32 := 38#32
  let v2091 : BitVec 32 := Scalar.addi v2090 c38_i32
  let v2093 : BitVec 32 := Scalar.addi v2092 v2091
  let c4_i32_887 : BitVec 32 := 4#32
  let v2094 : BitVec 32 := Scalar.muli v2093 c4_i32_887
  let v2095 : BitVec 32 := Scalar.addi v2094 c0_i32_888
  let v2096 : Index := Scalar.indexCast v2095
  ![v2096.toNat]
def k0_mult39 (v2097 : BitVec 32) : BitVec 32 :=
  let c4_i32_889 : BitVec 32 := 4#32
  let v2098 : BitVec 32 := Scalar.shrsi v2097 c4_i32_889
  let c3_i32_896 : BitVec 32 := 3#32
  let v2111 : BitVec 32 := Scalar.shrsi v2098 c3_i32_896
  let c3_i32_897 : BitVec 32 := 3#32
  let v2112 : BitVec 32 := Scalar.shli v2111 c3_i32_897
  let c16_i32_898 : BitVec 32 := 16#32
  let v2113 : BitVec 32 := Scalar.minsi v2112 c16_i32_898
  v2113

def k0_chk153 (v2097 : BitVec 32) : Prop :=
  (8 ∣ (k0_mult39 v2097).toNat)
theorem k0_mult39_dvd : ∀ (v2097 : BitVec 32) (k0_hw153 : k0_chk153 v2097), 8 ∣ (k0_mult39 v2097).toNat := fun v2097 k0_hw153 => k0_hw153

def k0_off230 (v2109 : BitVec 32) : Fin 1 → Nat :=
  let c4_i32_895 : BitVec 32 := 4#32
  let v2110 : BitVec 32 := Scalar.shrsi v2109 c4_i32_895
  let v2115 : Index := Scalar.indexCast v2110
  ![v2115.toNat]

def k0_off231 (v2109 : BitVec 32) : Fin 1 → Nat :=
  let c32_i32_899 : BitVec 32 := 32#32
  let c4_i32_895 : BitVec 32 := 4#32
  let v2110 : BitVec 32 := Scalar.shrsi v2109 c4_i32_895
  let v2117 : BitVec 32 := Scalar.addi c32_i32_899 v2110
  let v2118 : Index := Scalar.indexCast v2117
  ![v2118.toNat]

def k0_chk154 (v2109 : BitVec 32) : Prop :=
  (∀ a, (k0_off230 v2109) a + S1.size a ≤ S64.size a) ∧
  (∀ a, (k0_off231 v2109) a + S1.size a ≤ S64.size a)
theorem k0_off230_inb : ∀ (v2109 : BitVec 32) (k0_hw154 : k0_chk154 v2109), ∀ a, (k0_off230 v2109) a + S1.size a ≤ S64.size a := fun v2109 k0_hw154 => k0_hw154.1
theorem k0_off231_inb : ∀ (v2109 : BitVec 32) (k0_hw154 : k0_chk154 v2109), ∀ a, (k0_off231 v2109) a + S1.size a ≤ S64.size a := fun v2109 k0_hw154 => k0_hw154.2

def k0_off232 (v2097 : BitVec 32) (v2101 : BitVec 32) (v2116 : BitVec 32) : Fin 4 → Nat :=
  let v2121 : Index := Scalar.indexCast v2116
  let c4_i32_891 : BitVec 32 := 4#32
  let v2102 : BitVec 32 := Scalar.shrsi v2101 c4_i32_891
  let v2122 : Index := Scalar.indexCast v2102
  let c4_i32_889 : BitVec 32 := 4#32
  let v2098 : BitVec 32 := Scalar.shrsi v2097 c4_i32_889
  let c3_i32_896 : BitVec 32 := 3#32
  let v2111 : BitVec 32 := Scalar.shrsi v2098 c3_i32_896
  let c3_i32_897 : BitVec 32 := 3#32
  let v2112 : BitVec 32 := Scalar.shli v2111 c3_i32_897
  let c16_i32_898 : BitVec 32 := 16#32
  let v2113 : BitVec 32 := Scalar.minsi v2112 c16_i32_898
  let v2114 : BitVec 32 := v2113
  let v2123 : Index := Scalar.indexCast v2114
  let c0_900 : Index := 0#32
  ![v2121.toNat, v2122.toNat, v2123.toNat, 0]

def k0_chk155 (v2097 : BitVec 32) (v2101 : BitVec 32) (v2116 : BitVec 32) : Prop :=
  (∀ a, (k0_off232 v2097 v2101 v2116) a + S1x1x32x256.size a ≤ S5x50x50x256.size a)
theorem k0_off232_inb : ∀ (v2097 : BitVec 32) (v2101 : BitVec 32) (v2116 : BitVec 32) (k0_hw155 : k0_chk155 v2097 v2101 v2116), ∀ a, (k0_off232 v2097 v2101 v2116) a + S1x1x32x256.size a ≤ S5x50x50x256.size a := fun v2097 v2101 v2116 k0_hw155 => k0_hw155

def k0_off233 (v2097 : BitVec 32) (v2101 : BitVec 32) (v2116 : BitVec 32) (v2119 : BitVec 32) : Fin 4 → Nat :=
  let v2126 : Index := Scalar.indexCast v2116
  let c4_i32_891 : BitVec 32 := 4#32
  let v2102 : BitVec 32 := Scalar.shrsi v2101 c4_i32_891
  let v2120 : BitVec 32 := Scalar.addi v2102 v2119
  let v2127 : Index := Scalar.indexCast v2120
  let c4_i32_889 : BitVec 32 := 4#32
  let v2098 : BitVec 32 := Scalar.shrsi v2097 c4_i32_889
  let c3_i32_896 : BitVec 32 := 3#32
  let v2111 : BitVec 32 := Scalar.shrsi v2098 c3_i32_896
  let c3_i32_897 : BitVec 32 := 3#32
  let v2112 : BitVec 32 := Scalar.shli v2111 c3_i32_897
  let c16_i32_898 : BitVec 32 := 16#32
  let v2113 : BitVec 32 := Scalar.minsi v2112 c16_i32_898
  let v2114 : BitVec 32 := v2113
  let v2128 : Index := Scalar.indexCast v2114
  let c0_901 : Index := 0#32
  ![v2126.toNat, v2127.toNat, v2128.toNat, 0]

def k0_chk156 (v2097 : BitVec 32) (v2101 : BitVec 32) (v2116 : BitVec 32) (v2119 : BitVec 32) : Prop :=
  (∀ a, (k0_off233 v2097 v2101 v2116 v2119) a + S1x1x32x256.size a ≤ S5x50x50x256.size a)
theorem k0_off233_inb : ∀ (v2097 : BitVec 32) (v2101 : BitVec 32) (v2116 : BitVec 32) (v2119 : BitVec 32) (k0_hw156 : k0_chk156 v2097 v2101 v2116 v2119), ∀ a, (k0_off233 v2097 v2101 v2116 v2119) a + S1x1x32x256.size a ≤ S5x50x50x256.size a := fun v2097 v2101 v2116 v2119 k0_hw156 => k0_hw156

def k0_off234 : Fin 4 → Nat :=
  let c0_904 : Index := 0#32
  let c0_i32 : BitVec 32 := 0#32
  let c128_i32_885 : BitVec 32 := 128#32
  let v2090 : BitVec 32 := Scalar.muli c0_i32 c128_i32_885
  let c38_i32 : BitVec 32 := 38#32
  let v2091 : BitVec 32 := Scalar.addi v2090 c38_i32
  let v2140 : Index := Scalar.indexCast v2091
  let c0_905 : Index := 0#32
  let c0_906 : Index := 0#32
  ![0, v2140.toNat, 0, 0]
def k0_off235 (i : grid0.Coords) (c0_i32_910 : BitVec 32) : Fin 1 → Nat :=
  let arg0 : BitVec 32 := BitVec.ofNat 32 (i 0).val
  let c128_i32_908 : BitVec 32 := 128#32
  let v2146 : BitVec 32 := Scalar.muli arg0 c128_i32_908
  let c0_i32 : BitVec 32 := 0#32
  let c128_i32_907 : BitVec 32 := 128#32
  let v2144 : BitVec 32 := Scalar.muli c0_i32 c128_i32_907
  let c39_i32 : BitVec 32 := 39#32
  let v2145 : BitVec 32 := Scalar.addi v2144 c39_i32
  let v2147 : BitVec 32 := Scalar.addi v2146 v2145
  let c4_i32_909 : BitVec 32 := 4#32
  let v2148 : BitVec 32 := Scalar.muli v2147 c4_i32_909
  let v2149 : BitVec 32 := Scalar.addi v2148 c0_i32_910
  let v2150 : Index := Scalar.indexCast v2149
  ![v2150.toNat]
def k0_mult40 (v2151 : BitVec 32) : BitVec 32 :=
  let c4_i32_911 : BitVec 32 := 4#32
  let v2152 : BitVec 32 := Scalar.shrsi v2151 c4_i32_911
  let c3_i32_918 : BitVec 32 := 3#32
  let v2165 : BitVec 32 := Scalar.shrsi v2152 c3_i32_918
  let c3_i32_919 : BitVec 32 := 3#32
  let v2166 : BitVec 32 := Scalar.shli v2165 c3_i32_919
  let c16_i32_920 : BitVec 32 := 16#32
  let v2167 : BitVec 32 := Scalar.minsi v2166 c16_i32_920
  v2167

def k0_chk157 (v2151 : BitVec 32) : Prop :=
  (8 ∣ (k0_mult40 v2151).toNat)
theorem k0_mult40_dvd : ∀ (v2151 : BitVec 32) (k0_hw157 : k0_chk157 v2151), 8 ∣ (k0_mult40 v2151).toNat := fun v2151 k0_hw157 => k0_hw157

def k0_off236 (v2163 : BitVec 32) : Fin 1 → Nat :=
  let c4_i32_917 : BitVec 32 := 4#32
  let v2164 : BitVec 32 := Scalar.shrsi v2163 c4_i32_917
  let v2169 : Index := Scalar.indexCast v2164
  ![v2169.toNat]

def k0_off237 (v2163 : BitVec 32) : Fin 1 → Nat :=
  let c32_i32_921 : BitVec 32 := 32#32
  let c4_i32_917 : BitVec 32 := 4#32
  let v2164 : BitVec 32 := Scalar.shrsi v2163 c4_i32_917
  let v2171 : BitVec 32 := Scalar.addi c32_i32_921 v2164
  let v2172 : Index := Scalar.indexCast v2171
  ![v2172.toNat]

def k0_chk158 (v2163 : BitVec 32) : Prop :=
  (∀ a, (k0_off236 v2163) a + S1.size a ≤ S64.size a) ∧
  (∀ a, (k0_off237 v2163) a + S1.size a ≤ S64.size a)
theorem k0_off236_inb : ∀ (v2163 : BitVec 32) (k0_hw158 : k0_chk158 v2163), ∀ a, (k0_off236 v2163) a + S1.size a ≤ S64.size a := fun v2163 k0_hw158 => k0_hw158.1
theorem k0_off237_inb : ∀ (v2163 : BitVec 32) (k0_hw158 : k0_chk158 v2163), ∀ a, (k0_off237 v2163) a + S1.size a ≤ S64.size a := fun v2163 k0_hw158 => k0_hw158.2

def k0_off238 (v2151 : BitVec 32) (v2155 : BitVec 32) (v2170 : BitVec 32) : Fin 4 → Nat :=
  let v2175 : Index := Scalar.indexCast v2170
  let c4_i32_913 : BitVec 32 := 4#32
  let v2156 : BitVec 32 := Scalar.shrsi v2155 c4_i32_913
  let v2176 : Index := Scalar.indexCast v2156
  let c4_i32_911 : BitVec 32 := 4#32
  let v2152 : BitVec 32 := Scalar.shrsi v2151 c4_i32_911
  let c3_i32_918 : BitVec 32 := 3#32
  let v2165 : BitVec 32 := Scalar.shrsi v2152 c3_i32_918
  let c3_i32_919 : BitVec 32 := 3#32
  let v2166 : BitVec 32 := Scalar.shli v2165 c3_i32_919
  let c16_i32_920 : BitVec 32 := 16#32
  let v2167 : BitVec 32 := Scalar.minsi v2166 c16_i32_920
  let v2168 : BitVec 32 := v2167
  let v2177 : Index := Scalar.indexCast v2168
  let c0_922 : Index := 0#32
  ![v2175.toNat, v2176.toNat, v2177.toNat, 0]

def k0_chk159 (v2151 : BitVec 32) (v2155 : BitVec 32) (v2170 : BitVec 32) : Prop :=
  (∀ a, (k0_off238 v2151 v2155 v2170) a + S1x1x32x256.size a ≤ S5x50x50x256.size a)
theorem k0_off238_inb : ∀ (v2151 : BitVec 32) (v2155 : BitVec 32) (v2170 : BitVec 32) (k0_hw159 : k0_chk159 v2151 v2155 v2170), ∀ a, (k0_off238 v2151 v2155 v2170) a + S1x1x32x256.size a ≤ S5x50x50x256.size a := fun v2151 v2155 v2170 k0_hw159 => k0_hw159

def k0_off239 (v2151 : BitVec 32) (v2155 : BitVec 32) (v2170 : BitVec 32) (v2173 : BitVec 32) : Fin 4 → Nat :=
  let v2180 : Index := Scalar.indexCast v2170
  let c4_i32_913 : BitVec 32 := 4#32
  let v2156 : BitVec 32 := Scalar.shrsi v2155 c4_i32_913
  let v2174 : BitVec 32 := Scalar.addi v2156 v2173
  let v2181 : Index := Scalar.indexCast v2174
  let c4_i32_911 : BitVec 32 := 4#32
  let v2152 : BitVec 32 := Scalar.shrsi v2151 c4_i32_911
  let c3_i32_918 : BitVec 32 := 3#32
  let v2165 : BitVec 32 := Scalar.shrsi v2152 c3_i32_918
  let c3_i32_919 : BitVec 32 := 3#32
  let v2166 : BitVec 32 := Scalar.shli v2165 c3_i32_919
  let c16_i32_920 : BitVec 32 := 16#32
  let v2167 : BitVec 32 := Scalar.minsi v2166 c16_i32_920
  let v2168 : BitVec 32 := v2167
  let v2182 : Index := Scalar.indexCast v2168
  let c0_923 : Index := 0#32
  ![v2180.toNat, v2181.toNat, v2182.toNat, 0]

def k0_chk160 (v2151 : BitVec 32) (v2155 : BitVec 32) (v2170 : BitVec 32) (v2173 : BitVec 32) : Prop :=
  (∀ a, (k0_off239 v2151 v2155 v2170 v2173) a + S1x1x32x256.size a ≤ S5x50x50x256.size a)
theorem k0_off239_inb : ∀ (v2151 : BitVec 32) (v2155 : BitVec 32) (v2170 : BitVec 32) (v2173 : BitVec 32) (k0_hw160 : k0_chk160 v2151 v2155 v2170 v2173), ∀ a, (k0_off239 v2151 v2155 v2170 v2173) a + S1x1x32x256.size a ≤ S5x50x50x256.size a := fun v2151 v2155 v2170 v2173 k0_hw160 => k0_hw160

def k0_off240 : Fin 4 → Nat :=
  let c0_926 : Index := 0#32
  let c0_i32 : BitVec 32 := 0#32
  let c128_i32_907 : BitVec 32 := 128#32
  let v2144 : BitVec 32 := Scalar.muli c0_i32 c128_i32_907
  let c39_i32 : BitVec 32 := 39#32
  let v2145 : BitVec 32 := Scalar.addi v2144 c39_i32
  let v2194 : Index := Scalar.indexCast v2145
  let c0_927 : Index := 0#32
  let c0_928 : Index := 0#32
  ![0, v2194.toNat, 0, 0]
def k0_off241 (i : grid0.Coords) (c0_i32_932 : BitVec 32) : Fin 1 → Nat :=
  let arg0 : BitVec 32 := BitVec.ofNat 32 (i 0).val
  let c128_i32_930 : BitVec 32 := 128#32
  let v2200 : BitVec 32 := Scalar.muli arg0 c128_i32_930
  let c0_i32 : BitVec 32 := 0#32
  let c128_i32_929 : BitVec 32 := 128#32
  let v2198 : BitVec 32 := Scalar.muli c0_i32 c128_i32_929
  let c40_i32 : BitVec 32 := 40#32
  let v2199 : BitVec 32 := Scalar.addi v2198 c40_i32
  let v2201 : BitVec 32 := Scalar.addi v2200 v2199
  let c4_i32_931 : BitVec 32 := 4#32
  let v2202 : BitVec 32 := Scalar.muli v2201 c4_i32_931
  let v2203 : BitVec 32 := Scalar.addi v2202 c0_i32_932
  let v2204 : Index := Scalar.indexCast v2203
  ![v2204.toNat]
def k0_mult41 (v2205 : BitVec 32) : BitVec 32 :=
  let c4_i32_933 : BitVec 32 := 4#32
  let v2206 : BitVec 32 := Scalar.shrsi v2205 c4_i32_933
  let c3_i32_940 : BitVec 32 := 3#32
  let v2219 : BitVec 32 := Scalar.shrsi v2206 c3_i32_940
  let c3_i32_941 : BitVec 32 := 3#32
  let v2220 : BitVec 32 := Scalar.shli v2219 c3_i32_941
  let c16_i32_942 : BitVec 32 := 16#32
  let v2221 : BitVec 32 := Scalar.minsi v2220 c16_i32_942
  v2221

def k0_chk161 (v2205 : BitVec 32) : Prop :=
  (8 ∣ (k0_mult41 v2205).toNat)
theorem k0_mult41_dvd : ∀ (v2205 : BitVec 32) (k0_hw161 : k0_chk161 v2205), 8 ∣ (k0_mult41 v2205).toNat := fun v2205 k0_hw161 => k0_hw161

def k0_off242 (v2217 : BitVec 32) : Fin 1 → Nat :=
  let c4_i32_939 : BitVec 32 := 4#32
  let v2218 : BitVec 32 := Scalar.shrsi v2217 c4_i32_939
  let v2223 : Index := Scalar.indexCast v2218
  ![v2223.toNat]

def k0_off243 (v2217 : BitVec 32) : Fin 1 → Nat :=
  let c32_i32_943 : BitVec 32 := 32#32
  let c4_i32_939 : BitVec 32 := 4#32
  let v2218 : BitVec 32 := Scalar.shrsi v2217 c4_i32_939
  let v2225 : BitVec 32 := Scalar.addi c32_i32_943 v2218
  let v2226 : Index := Scalar.indexCast v2225
  ![v2226.toNat]

def k0_chk162 (v2217 : BitVec 32) : Prop :=
  (∀ a, (k0_off242 v2217) a + S1.size a ≤ S64.size a) ∧
  (∀ a, (k0_off243 v2217) a + S1.size a ≤ S64.size a)
theorem k0_off242_inb : ∀ (v2217 : BitVec 32) (k0_hw162 : k0_chk162 v2217), ∀ a, (k0_off242 v2217) a + S1.size a ≤ S64.size a := fun v2217 k0_hw162 => k0_hw162.1
theorem k0_off243_inb : ∀ (v2217 : BitVec 32) (k0_hw162 : k0_chk162 v2217), ∀ a, (k0_off243 v2217) a + S1.size a ≤ S64.size a := fun v2217 k0_hw162 => k0_hw162.2

def k0_off244 (v2205 : BitVec 32) (v2209 : BitVec 32) (v2224 : BitVec 32) : Fin 4 → Nat :=
  let v2229 : Index := Scalar.indexCast v2224
  let c4_i32_935 : BitVec 32 := 4#32
  let v2210 : BitVec 32 := Scalar.shrsi v2209 c4_i32_935
  let v2230 : Index := Scalar.indexCast v2210
  let c4_i32_933 : BitVec 32 := 4#32
  let v2206 : BitVec 32 := Scalar.shrsi v2205 c4_i32_933
  let c3_i32_940 : BitVec 32 := 3#32
  let v2219 : BitVec 32 := Scalar.shrsi v2206 c3_i32_940
  let c3_i32_941 : BitVec 32 := 3#32
  let v2220 : BitVec 32 := Scalar.shli v2219 c3_i32_941
  let c16_i32_942 : BitVec 32 := 16#32
  let v2221 : BitVec 32 := Scalar.minsi v2220 c16_i32_942
  let v2222 : BitVec 32 := v2221
  let v2231 : Index := Scalar.indexCast v2222
  let c0_944 : Index := 0#32
  ![v2229.toNat, v2230.toNat, v2231.toNat, 0]

def k0_chk163 (v2205 : BitVec 32) (v2209 : BitVec 32) (v2224 : BitVec 32) : Prop :=
  (∀ a, (k0_off244 v2205 v2209 v2224) a + S1x1x32x256.size a ≤ S5x50x50x256.size a)
theorem k0_off244_inb : ∀ (v2205 : BitVec 32) (v2209 : BitVec 32) (v2224 : BitVec 32) (k0_hw163 : k0_chk163 v2205 v2209 v2224), ∀ a, (k0_off244 v2205 v2209 v2224) a + S1x1x32x256.size a ≤ S5x50x50x256.size a := fun v2205 v2209 v2224 k0_hw163 => k0_hw163

def k0_off245 (v2205 : BitVec 32) (v2209 : BitVec 32) (v2224 : BitVec 32) (v2227 : BitVec 32) : Fin 4 → Nat :=
  let v2234 : Index := Scalar.indexCast v2224
  let c4_i32_935 : BitVec 32 := 4#32
  let v2210 : BitVec 32 := Scalar.shrsi v2209 c4_i32_935
  let v2228 : BitVec 32 := Scalar.addi v2210 v2227
  let v2235 : Index := Scalar.indexCast v2228
  let c4_i32_933 : BitVec 32 := 4#32
  let v2206 : BitVec 32 := Scalar.shrsi v2205 c4_i32_933
  let c3_i32_940 : BitVec 32 := 3#32
  let v2219 : BitVec 32 := Scalar.shrsi v2206 c3_i32_940
  let c3_i32_941 : BitVec 32 := 3#32
  let v2220 : BitVec 32 := Scalar.shli v2219 c3_i32_941
  let c16_i32_942 : BitVec 32 := 16#32
  let v2221 : BitVec 32 := Scalar.minsi v2220 c16_i32_942
  let v2222 : BitVec 32 := v2221
  let v2236 : Index := Scalar.indexCast v2222
  let c0_945 : Index := 0#32
  ![v2234.toNat, v2235.toNat, v2236.toNat, 0]

def k0_chk164 (v2205 : BitVec 32) (v2209 : BitVec 32) (v2224 : BitVec 32) (v2227 : BitVec 32) : Prop :=
  (∀ a, (k0_off245 v2205 v2209 v2224 v2227) a + S1x1x32x256.size a ≤ S5x50x50x256.size a)
theorem k0_off245_inb : ∀ (v2205 : BitVec 32) (v2209 : BitVec 32) (v2224 : BitVec 32) (v2227 : BitVec 32) (k0_hw164 : k0_chk164 v2205 v2209 v2224 v2227), ∀ a, (k0_off245 v2205 v2209 v2224 v2227) a + S1x1x32x256.size a ≤ S5x50x50x256.size a := fun v2205 v2209 v2224 v2227 k0_hw164 => k0_hw164

def k0_off246 : Fin 4 → Nat :=
  let c0_948 : Index := 0#32
  let c0_i32 : BitVec 32 := 0#32
  let c128_i32_929 : BitVec 32 := 128#32
  let v2198 : BitVec 32 := Scalar.muli c0_i32 c128_i32_929
  let c40_i32 : BitVec 32 := 40#32
  let v2199 : BitVec 32 := Scalar.addi v2198 c40_i32
  let v2248 : Index := Scalar.indexCast v2199
  let c0_949 : Index := 0#32
  let c0_950 : Index := 0#32
  ![0, v2248.toNat, 0, 0]
def k0_off247 (i : grid0.Coords) (c0_i32_954 : BitVec 32) : Fin 1 → Nat :=
  let arg0 : BitVec 32 := BitVec.ofNat 32 (i 0).val
  let c128_i32_952 : BitVec 32 := 128#32
  let v2254 : BitVec 32 := Scalar.muli arg0 c128_i32_952
  let c0_i32 : BitVec 32 := 0#32
  let c128_i32_951 : BitVec 32 := 128#32
  let v2252 : BitVec 32 := Scalar.muli c0_i32 c128_i32_951
  let c41_i32 : BitVec 32 := 41#32
  let v2253 : BitVec 32 := Scalar.addi v2252 c41_i32
  let v2255 : BitVec 32 := Scalar.addi v2254 v2253
  let c4_i32_953 : BitVec 32 := 4#32
  let v2256 : BitVec 32 := Scalar.muli v2255 c4_i32_953
  let v2257 : BitVec 32 := Scalar.addi v2256 c0_i32_954
  let v2258 : Index := Scalar.indexCast v2257
  ![v2258.toNat]
def k0_mult42 (v2259 : BitVec 32) : BitVec 32 :=
  let c4_i32_955 : BitVec 32 := 4#32
  let v2260 : BitVec 32 := Scalar.shrsi v2259 c4_i32_955
  let c3_i32_962 : BitVec 32 := 3#32
  let v2273 : BitVec 32 := Scalar.shrsi v2260 c3_i32_962
  let c3_i32_963 : BitVec 32 := 3#32
  let v2274 : BitVec 32 := Scalar.shli v2273 c3_i32_963
  let c16_i32_964 : BitVec 32 := 16#32
  let v2275 : BitVec 32 := Scalar.minsi v2274 c16_i32_964
  v2275

def k0_chk165 (v2259 : BitVec 32) : Prop :=
  (8 ∣ (k0_mult42 v2259).toNat)
theorem k0_mult42_dvd : ∀ (v2259 : BitVec 32) (k0_hw165 : k0_chk165 v2259), 8 ∣ (k0_mult42 v2259).toNat := fun v2259 k0_hw165 => k0_hw165

def k0_off248 (v2271 : BitVec 32) : Fin 1 → Nat :=
  let c4_i32_961 : BitVec 32 := 4#32
  let v2272 : BitVec 32 := Scalar.shrsi v2271 c4_i32_961
  let v2277 : Index := Scalar.indexCast v2272
  ![v2277.toNat]

def k0_off249 (v2271 : BitVec 32) : Fin 1 → Nat :=
  let c32_i32_965 : BitVec 32 := 32#32
  let c4_i32_961 : BitVec 32 := 4#32
  let v2272 : BitVec 32 := Scalar.shrsi v2271 c4_i32_961
  let v2279 : BitVec 32 := Scalar.addi c32_i32_965 v2272
  let v2280 : Index := Scalar.indexCast v2279
  ![v2280.toNat]

def k0_chk166 (v2271 : BitVec 32) : Prop :=
  (∀ a, (k0_off248 v2271) a + S1.size a ≤ S64.size a) ∧
  (∀ a, (k0_off249 v2271) a + S1.size a ≤ S64.size a)
theorem k0_off248_inb : ∀ (v2271 : BitVec 32) (k0_hw166 : k0_chk166 v2271), ∀ a, (k0_off248 v2271) a + S1.size a ≤ S64.size a := fun v2271 k0_hw166 => k0_hw166.1
theorem k0_off249_inb : ∀ (v2271 : BitVec 32) (k0_hw166 : k0_chk166 v2271), ∀ a, (k0_off249 v2271) a + S1.size a ≤ S64.size a := fun v2271 k0_hw166 => k0_hw166.2

def k0_off250 (v2259 : BitVec 32) (v2263 : BitVec 32) (v2278 : BitVec 32) : Fin 4 → Nat :=
  let v2283 : Index := Scalar.indexCast v2278
  let c4_i32_957 : BitVec 32 := 4#32
  let v2264 : BitVec 32 := Scalar.shrsi v2263 c4_i32_957
  let v2284 : Index := Scalar.indexCast v2264
  let c4_i32_955 : BitVec 32 := 4#32
  let v2260 : BitVec 32 := Scalar.shrsi v2259 c4_i32_955
  let c3_i32_962 : BitVec 32 := 3#32
  let v2273 : BitVec 32 := Scalar.shrsi v2260 c3_i32_962
  let c3_i32_963 : BitVec 32 := 3#32
  let v2274 : BitVec 32 := Scalar.shli v2273 c3_i32_963
  let c16_i32_964 : BitVec 32 := 16#32
  let v2275 : BitVec 32 := Scalar.minsi v2274 c16_i32_964
  let v2276 : BitVec 32 := v2275
  let v2285 : Index := Scalar.indexCast v2276
  let c0_966 : Index := 0#32
  ![v2283.toNat, v2284.toNat, v2285.toNat, 0]

def k0_chk167 (v2259 : BitVec 32) (v2263 : BitVec 32) (v2278 : BitVec 32) : Prop :=
  (∀ a, (k0_off250 v2259 v2263 v2278) a + S1x1x32x256.size a ≤ S5x50x50x256.size a)
theorem k0_off250_inb : ∀ (v2259 : BitVec 32) (v2263 : BitVec 32) (v2278 : BitVec 32) (k0_hw167 : k0_chk167 v2259 v2263 v2278), ∀ a, (k0_off250 v2259 v2263 v2278) a + S1x1x32x256.size a ≤ S5x50x50x256.size a := fun v2259 v2263 v2278 k0_hw167 => k0_hw167

def k0_off251 (v2259 : BitVec 32) (v2263 : BitVec 32) (v2278 : BitVec 32) (v2281 : BitVec 32) : Fin 4 → Nat :=
  let v2288 : Index := Scalar.indexCast v2278
  let c4_i32_957 : BitVec 32 := 4#32
  let v2264 : BitVec 32 := Scalar.shrsi v2263 c4_i32_957
  let v2282 : BitVec 32 := Scalar.addi v2264 v2281
  let v2289 : Index := Scalar.indexCast v2282
  let c4_i32_955 : BitVec 32 := 4#32
  let v2260 : BitVec 32 := Scalar.shrsi v2259 c4_i32_955
  let c3_i32_962 : BitVec 32 := 3#32
  let v2273 : BitVec 32 := Scalar.shrsi v2260 c3_i32_962
  let c3_i32_963 : BitVec 32 := 3#32
  let v2274 : BitVec 32 := Scalar.shli v2273 c3_i32_963
  let c16_i32_964 : BitVec 32 := 16#32
  let v2275 : BitVec 32 := Scalar.minsi v2274 c16_i32_964
  let v2276 : BitVec 32 := v2275
  let v2290 : Index := Scalar.indexCast v2276
  let c0_967 : Index := 0#32
  ![v2288.toNat, v2289.toNat, v2290.toNat, 0]

def k0_chk168 (v2259 : BitVec 32) (v2263 : BitVec 32) (v2278 : BitVec 32) (v2281 : BitVec 32) : Prop :=
  (∀ a, (k0_off251 v2259 v2263 v2278 v2281) a + S1x1x32x256.size a ≤ S5x50x50x256.size a)
theorem k0_off251_inb : ∀ (v2259 : BitVec 32) (v2263 : BitVec 32) (v2278 : BitVec 32) (v2281 : BitVec 32) (k0_hw168 : k0_chk168 v2259 v2263 v2278 v2281), ∀ a, (k0_off251 v2259 v2263 v2278 v2281) a + S1x1x32x256.size a ≤ S5x50x50x256.size a := fun v2259 v2263 v2278 v2281 k0_hw168 => k0_hw168

def k0_off252 : Fin 4 → Nat :=
  let c0_970 : Index := 0#32
  let c0_i32 : BitVec 32 := 0#32
  let c128_i32_951 : BitVec 32 := 128#32
  let v2252 : BitVec 32 := Scalar.muli c0_i32 c128_i32_951
  let c41_i32 : BitVec 32 := 41#32
  let v2253 : BitVec 32 := Scalar.addi v2252 c41_i32
  let v2302 : Index := Scalar.indexCast v2253
  let c0_971 : Index := 0#32
  let c0_972 : Index := 0#32
  ![0, v2302.toNat, 0, 0]
def k0_off253 (i : grid0.Coords) (c0_i32_976 : BitVec 32) : Fin 1 → Nat :=
  let arg0 : BitVec 32 := BitVec.ofNat 32 (i 0).val
  let c128_i32_974 : BitVec 32 := 128#32
  let v2308 : BitVec 32 := Scalar.muli arg0 c128_i32_974
  let c0_i32 : BitVec 32 := 0#32
  let c128_i32_973 : BitVec 32 := 128#32
  let v2306 : BitVec 32 := Scalar.muli c0_i32 c128_i32_973
  let c42_i32 : BitVec 32 := 42#32
  let v2307 : BitVec 32 := Scalar.addi v2306 c42_i32
  let v2309 : BitVec 32 := Scalar.addi v2308 v2307
  let c4_i32_975 : BitVec 32 := 4#32
  let v2310 : BitVec 32 := Scalar.muli v2309 c4_i32_975
  let v2311 : BitVec 32 := Scalar.addi v2310 c0_i32_976
  let v2312 : Index := Scalar.indexCast v2311
  ![v2312.toNat]
def k0_mult43 (v2313 : BitVec 32) : BitVec 32 :=
  let c4_i32_977 : BitVec 32 := 4#32
  let v2314 : BitVec 32 := Scalar.shrsi v2313 c4_i32_977
  let c3_i32_984 : BitVec 32 := 3#32
  let v2327 : BitVec 32 := Scalar.shrsi v2314 c3_i32_984
  let c3_i32_985 : BitVec 32 := 3#32
  let v2328 : BitVec 32 := Scalar.shli v2327 c3_i32_985
  let c16_i32_986 : BitVec 32 := 16#32
  let v2329 : BitVec 32 := Scalar.minsi v2328 c16_i32_986
  v2329

def k0_chk169 (v2313 : BitVec 32) : Prop :=
  (8 ∣ (k0_mult43 v2313).toNat)
theorem k0_mult43_dvd : ∀ (v2313 : BitVec 32) (k0_hw169 : k0_chk169 v2313), 8 ∣ (k0_mult43 v2313).toNat := fun v2313 k0_hw169 => k0_hw169

def k0_off254 (v2325 : BitVec 32) : Fin 1 → Nat :=
  let c4_i32_983 : BitVec 32 := 4#32
  let v2326 : BitVec 32 := Scalar.shrsi v2325 c4_i32_983
  let v2331 : Index := Scalar.indexCast v2326
  ![v2331.toNat]

def k0_off255 (v2325 : BitVec 32) : Fin 1 → Nat :=
  let c32_i32_987 : BitVec 32 := 32#32
  let c4_i32_983 : BitVec 32 := 4#32
  let v2326 : BitVec 32 := Scalar.shrsi v2325 c4_i32_983
  let v2333 : BitVec 32 := Scalar.addi c32_i32_987 v2326
  let v2334 : Index := Scalar.indexCast v2333
  ![v2334.toNat]

def k0_chk170 (v2325 : BitVec 32) : Prop :=
  (∀ a, (k0_off254 v2325) a + S1.size a ≤ S64.size a) ∧
  (∀ a, (k0_off255 v2325) a + S1.size a ≤ S64.size a)
theorem k0_off254_inb : ∀ (v2325 : BitVec 32) (k0_hw170 : k0_chk170 v2325), ∀ a, (k0_off254 v2325) a + S1.size a ≤ S64.size a := fun v2325 k0_hw170 => k0_hw170.1
theorem k0_off255_inb : ∀ (v2325 : BitVec 32) (k0_hw170 : k0_chk170 v2325), ∀ a, (k0_off255 v2325) a + S1.size a ≤ S64.size a := fun v2325 k0_hw170 => k0_hw170.2

def k0_off256 (v2313 : BitVec 32) (v2317 : BitVec 32) (v2332 : BitVec 32) : Fin 4 → Nat :=
  let v2337 : Index := Scalar.indexCast v2332
  let c4_i32_979 : BitVec 32 := 4#32
  let v2318 : BitVec 32 := Scalar.shrsi v2317 c4_i32_979
  let v2338 : Index := Scalar.indexCast v2318
  let c4_i32_977 : BitVec 32 := 4#32
  let v2314 : BitVec 32 := Scalar.shrsi v2313 c4_i32_977
  let c3_i32_984 : BitVec 32 := 3#32
  let v2327 : BitVec 32 := Scalar.shrsi v2314 c3_i32_984
  let c3_i32_985 : BitVec 32 := 3#32
  let v2328 : BitVec 32 := Scalar.shli v2327 c3_i32_985
  let c16_i32_986 : BitVec 32 := 16#32
  let v2329 : BitVec 32 := Scalar.minsi v2328 c16_i32_986
  let v2330 : BitVec 32 := v2329
  let v2339 : Index := Scalar.indexCast v2330
  let c0_988 : Index := 0#32
  ![v2337.toNat, v2338.toNat, v2339.toNat, 0]

def k0_chk171 (v2313 : BitVec 32) (v2317 : BitVec 32) (v2332 : BitVec 32) : Prop :=
  (∀ a, (k0_off256 v2313 v2317 v2332) a + S1x1x32x256.size a ≤ S5x50x50x256.size a)
theorem k0_off256_inb : ∀ (v2313 : BitVec 32) (v2317 : BitVec 32) (v2332 : BitVec 32) (k0_hw171 : k0_chk171 v2313 v2317 v2332), ∀ a, (k0_off256 v2313 v2317 v2332) a + S1x1x32x256.size a ≤ S5x50x50x256.size a := fun v2313 v2317 v2332 k0_hw171 => k0_hw171

def k0_off257 (v2313 : BitVec 32) (v2317 : BitVec 32) (v2332 : BitVec 32) (v2335 : BitVec 32) : Fin 4 → Nat :=
  let v2342 : Index := Scalar.indexCast v2332
  let c4_i32_979 : BitVec 32 := 4#32
  let v2318 : BitVec 32 := Scalar.shrsi v2317 c4_i32_979
  let v2336 : BitVec 32 := Scalar.addi v2318 v2335
  let v2343 : Index := Scalar.indexCast v2336
  let c4_i32_977 : BitVec 32 := 4#32
  let v2314 : BitVec 32 := Scalar.shrsi v2313 c4_i32_977
  let c3_i32_984 : BitVec 32 := 3#32
  let v2327 : BitVec 32 := Scalar.shrsi v2314 c3_i32_984
  let c3_i32_985 : BitVec 32 := 3#32
  let v2328 : BitVec 32 := Scalar.shli v2327 c3_i32_985
  let c16_i32_986 : BitVec 32 := 16#32
  let v2329 : BitVec 32 := Scalar.minsi v2328 c16_i32_986
  let v2330 : BitVec 32 := v2329
  let v2344 : Index := Scalar.indexCast v2330
  let c0_989 : Index := 0#32
  ![v2342.toNat, v2343.toNat, v2344.toNat, 0]

def k0_chk172 (v2313 : BitVec 32) (v2317 : BitVec 32) (v2332 : BitVec 32) (v2335 : BitVec 32) : Prop :=
  (∀ a, (k0_off257 v2313 v2317 v2332 v2335) a + S1x1x32x256.size a ≤ S5x50x50x256.size a)
theorem k0_off257_inb : ∀ (v2313 : BitVec 32) (v2317 : BitVec 32) (v2332 : BitVec 32) (v2335 : BitVec 32) (k0_hw172 : k0_chk172 v2313 v2317 v2332 v2335), ∀ a, (k0_off257 v2313 v2317 v2332 v2335) a + S1x1x32x256.size a ≤ S5x50x50x256.size a := fun v2313 v2317 v2332 v2335 k0_hw172 => k0_hw172

def k0_off258 : Fin 4 → Nat :=
  let c0_992 : Index := 0#32
  let c0_i32 : BitVec 32 := 0#32
  let c128_i32_973 : BitVec 32 := 128#32
  let v2306 : BitVec 32 := Scalar.muli c0_i32 c128_i32_973
  let c42_i32 : BitVec 32 := 42#32
  let v2307 : BitVec 32 := Scalar.addi v2306 c42_i32
  let v2356 : Index := Scalar.indexCast v2307
  let c0_993 : Index := 0#32
  let c0_994 : Index := 0#32
  ![0, v2356.toNat, 0, 0]
def k0_off259 (i : grid0.Coords) (c0_i32_998 : BitVec 32) : Fin 1 → Nat :=
  let arg0 : BitVec 32 := BitVec.ofNat 32 (i 0).val
  let c128_i32_996 : BitVec 32 := 128#32
  let v2362 : BitVec 32 := Scalar.muli arg0 c128_i32_996
  let c0_i32 : BitVec 32 := 0#32
  let c128_i32_995 : BitVec 32 := 128#32
  let v2360 : BitVec 32 := Scalar.muli c0_i32 c128_i32_995
  let c43_i32 : BitVec 32 := 43#32
  let v2361 : BitVec 32 := Scalar.addi v2360 c43_i32
  let v2363 : BitVec 32 := Scalar.addi v2362 v2361
  let c4_i32_997 : BitVec 32 := 4#32
  let v2364 : BitVec 32 := Scalar.muli v2363 c4_i32_997
  let v2365 : BitVec 32 := Scalar.addi v2364 c0_i32_998
  let v2366 : Index := Scalar.indexCast v2365
  ![v2366.toNat]
def k0_mult44 (v2367 : BitVec 32) : BitVec 32 :=
  let c4_i32_999 : BitVec 32 := 4#32
  let v2368 : BitVec 32 := Scalar.shrsi v2367 c4_i32_999
  let c3_i32_1006 : BitVec 32 := 3#32
  let v2381 : BitVec 32 := Scalar.shrsi v2368 c3_i32_1006
  let c3_i32_1007 : BitVec 32 := 3#32
  let v2382 : BitVec 32 := Scalar.shli v2381 c3_i32_1007
  let c16_i32_1008 : BitVec 32 := 16#32
  let v2383 : BitVec 32 := Scalar.minsi v2382 c16_i32_1008
  v2383

def k0_chk173 (v2367 : BitVec 32) : Prop :=
  (8 ∣ (k0_mult44 v2367).toNat)
theorem k0_mult44_dvd : ∀ (v2367 : BitVec 32) (k0_hw173 : k0_chk173 v2367), 8 ∣ (k0_mult44 v2367).toNat := fun v2367 k0_hw173 => k0_hw173

def k0_off260 (v2379 : BitVec 32) : Fin 1 → Nat :=
  let c4_i32_1005 : BitVec 32 := 4#32
  let v2380 : BitVec 32 := Scalar.shrsi v2379 c4_i32_1005
  let v2385 : Index := Scalar.indexCast v2380
  ![v2385.toNat]

def k0_off261 (v2379 : BitVec 32) : Fin 1 → Nat :=
  let c32_i32_1009 : BitVec 32 := 32#32
  let c4_i32_1005 : BitVec 32 := 4#32
  let v2380 : BitVec 32 := Scalar.shrsi v2379 c4_i32_1005
  let v2387 : BitVec 32 := Scalar.addi c32_i32_1009 v2380
  let v2388 : Index := Scalar.indexCast v2387
  ![v2388.toNat]

def k0_chk174 (v2379 : BitVec 32) : Prop :=
  (∀ a, (k0_off260 v2379) a + S1.size a ≤ S64.size a) ∧
  (∀ a, (k0_off261 v2379) a + S1.size a ≤ S64.size a)
theorem k0_off260_inb : ∀ (v2379 : BitVec 32) (k0_hw174 : k0_chk174 v2379), ∀ a, (k0_off260 v2379) a + S1.size a ≤ S64.size a := fun v2379 k0_hw174 => k0_hw174.1
theorem k0_off261_inb : ∀ (v2379 : BitVec 32) (k0_hw174 : k0_chk174 v2379), ∀ a, (k0_off261 v2379) a + S1.size a ≤ S64.size a := fun v2379 k0_hw174 => k0_hw174.2

def k0_off262 (v2367 : BitVec 32) (v2371 : BitVec 32) (v2386 : BitVec 32) : Fin 4 → Nat :=
  let v2391 : Index := Scalar.indexCast v2386
  let c4_i32_1001 : BitVec 32 := 4#32
  let v2372 : BitVec 32 := Scalar.shrsi v2371 c4_i32_1001
  let v2392 : Index := Scalar.indexCast v2372
  let c4_i32_999 : BitVec 32 := 4#32
  let v2368 : BitVec 32 := Scalar.shrsi v2367 c4_i32_999
  let c3_i32_1006 : BitVec 32 := 3#32
  let v2381 : BitVec 32 := Scalar.shrsi v2368 c3_i32_1006
  let c3_i32_1007 : BitVec 32 := 3#32
  let v2382 : BitVec 32 := Scalar.shli v2381 c3_i32_1007
  let c16_i32_1008 : BitVec 32 := 16#32
  let v2383 : BitVec 32 := Scalar.minsi v2382 c16_i32_1008
  let v2384 : BitVec 32 := v2383
  let v2393 : Index := Scalar.indexCast v2384
  let c0_1010 : Index := 0#32
  ![v2391.toNat, v2392.toNat, v2393.toNat, 0]

def k0_chk175 (v2367 : BitVec 32) (v2371 : BitVec 32) (v2386 : BitVec 32) : Prop :=
  (∀ a, (k0_off262 v2367 v2371 v2386) a + S1x1x32x256.size a ≤ S5x50x50x256.size a)
theorem k0_off262_inb : ∀ (v2367 : BitVec 32) (v2371 : BitVec 32) (v2386 : BitVec 32) (k0_hw175 : k0_chk175 v2367 v2371 v2386), ∀ a, (k0_off262 v2367 v2371 v2386) a + S1x1x32x256.size a ≤ S5x50x50x256.size a := fun v2367 v2371 v2386 k0_hw175 => k0_hw175

def k0_off263 (v2367 : BitVec 32) (v2371 : BitVec 32) (v2386 : BitVec 32) (v2389 : BitVec 32) : Fin 4 → Nat :=
  let v2396 : Index := Scalar.indexCast v2386
  let c4_i32_1001 : BitVec 32 := 4#32
  let v2372 : BitVec 32 := Scalar.shrsi v2371 c4_i32_1001
  let v2390 : BitVec 32 := Scalar.addi v2372 v2389
  let v2397 : Index := Scalar.indexCast v2390
  let c4_i32_999 : BitVec 32 := 4#32
  let v2368 : BitVec 32 := Scalar.shrsi v2367 c4_i32_999
  let c3_i32_1006 : BitVec 32 := 3#32
  let v2381 : BitVec 32 := Scalar.shrsi v2368 c3_i32_1006
  let c3_i32_1007 : BitVec 32 := 3#32
  let v2382 : BitVec 32 := Scalar.shli v2381 c3_i32_1007
  let c16_i32_1008 : BitVec 32 := 16#32
  let v2383 : BitVec 32 := Scalar.minsi v2382 c16_i32_1008
  let v2384 : BitVec 32 := v2383
  let v2398 : Index := Scalar.indexCast v2384
  let c0_1011 : Index := 0#32
  ![v2396.toNat, v2397.toNat, v2398.toNat, 0]

def k0_chk176 (v2367 : BitVec 32) (v2371 : BitVec 32) (v2386 : BitVec 32) (v2389 : BitVec 32) : Prop :=
  (∀ a, (k0_off263 v2367 v2371 v2386 v2389) a + S1x1x32x256.size a ≤ S5x50x50x256.size a)
theorem k0_off263_inb : ∀ (v2367 : BitVec 32) (v2371 : BitVec 32) (v2386 : BitVec 32) (v2389 : BitVec 32) (k0_hw176 : k0_chk176 v2367 v2371 v2386 v2389), ∀ a, (k0_off263 v2367 v2371 v2386 v2389) a + S1x1x32x256.size a ≤ S5x50x50x256.size a := fun v2367 v2371 v2386 v2389 k0_hw176 => k0_hw176

def k0_off264 : Fin 4 → Nat :=
  let c0_1014 : Index := 0#32
  let c0_i32 : BitVec 32 := 0#32
  let c128_i32_995 : BitVec 32 := 128#32
  let v2360 : BitVec 32 := Scalar.muli c0_i32 c128_i32_995
  let c43_i32 : BitVec 32 := 43#32
  let v2361 : BitVec 32 := Scalar.addi v2360 c43_i32
  let v2410 : Index := Scalar.indexCast v2361
  let c0_1015 : Index := 0#32
  let c0_1016 : Index := 0#32
  ![0, v2410.toNat, 0, 0]
def k0_off265 (i : grid0.Coords) (c0_i32_1020 : BitVec 32) : Fin 1 → Nat :=
  let arg0 : BitVec 32 := BitVec.ofNat 32 (i 0).val
  let c128_i32_1018 : BitVec 32 := 128#32
  let v2416 : BitVec 32 := Scalar.muli arg0 c128_i32_1018
  let c0_i32 : BitVec 32 := 0#32
  let c128_i32_1017 : BitVec 32 := 128#32
  let v2414 : BitVec 32 := Scalar.muli c0_i32 c128_i32_1017
  let c44_i32 : BitVec 32 := 44#32
  let v2415 : BitVec 32 := Scalar.addi v2414 c44_i32
  let v2417 : BitVec 32 := Scalar.addi v2416 v2415
  let c4_i32_1019 : BitVec 32 := 4#32
  let v2418 : BitVec 32 := Scalar.muli v2417 c4_i32_1019
  let v2419 : BitVec 32 := Scalar.addi v2418 c0_i32_1020
  let v2420 : Index := Scalar.indexCast v2419
  ![v2420.toNat]
def k0_mult45 (v2421 : BitVec 32) : BitVec 32 :=
  let c4_i32_1021 : BitVec 32 := 4#32
  let v2422 : BitVec 32 := Scalar.shrsi v2421 c4_i32_1021
  let c3_i32_1028 : BitVec 32 := 3#32
  let v2435 : BitVec 32 := Scalar.shrsi v2422 c3_i32_1028
  let c3_i32_1029 : BitVec 32 := 3#32
  let v2436 : BitVec 32 := Scalar.shli v2435 c3_i32_1029
  let c16_i32_1030 : BitVec 32 := 16#32
  let v2437 : BitVec 32 := Scalar.minsi v2436 c16_i32_1030
  v2437

def k0_chk177 (v2421 : BitVec 32) : Prop :=
  (8 ∣ (k0_mult45 v2421).toNat)
theorem k0_mult45_dvd : ∀ (v2421 : BitVec 32) (k0_hw177 : k0_chk177 v2421), 8 ∣ (k0_mult45 v2421).toNat := fun v2421 k0_hw177 => k0_hw177

def k0_off266 (v2433 : BitVec 32) : Fin 1 → Nat :=
  let c4_i32_1027 : BitVec 32 := 4#32
  let v2434 : BitVec 32 := Scalar.shrsi v2433 c4_i32_1027
  let v2439 : Index := Scalar.indexCast v2434
  ![v2439.toNat]

def k0_off267 (v2433 : BitVec 32) : Fin 1 → Nat :=
  let c32_i32_1031 : BitVec 32 := 32#32
  let c4_i32_1027 : BitVec 32 := 4#32
  let v2434 : BitVec 32 := Scalar.shrsi v2433 c4_i32_1027
  let v2441 : BitVec 32 := Scalar.addi c32_i32_1031 v2434
  let v2442 : Index := Scalar.indexCast v2441
  ![v2442.toNat]

def k0_chk178 (v2433 : BitVec 32) : Prop :=
  (∀ a, (k0_off266 v2433) a + S1.size a ≤ S64.size a) ∧
  (∀ a, (k0_off267 v2433) a + S1.size a ≤ S64.size a)
theorem k0_off266_inb : ∀ (v2433 : BitVec 32) (k0_hw178 : k0_chk178 v2433), ∀ a, (k0_off266 v2433) a + S1.size a ≤ S64.size a := fun v2433 k0_hw178 => k0_hw178.1
theorem k0_off267_inb : ∀ (v2433 : BitVec 32) (k0_hw178 : k0_chk178 v2433), ∀ a, (k0_off267 v2433) a + S1.size a ≤ S64.size a := fun v2433 k0_hw178 => k0_hw178.2

def k0_off268 (v2421 : BitVec 32) (v2425 : BitVec 32) (v2440 : BitVec 32) : Fin 4 → Nat :=
  let v2445 : Index := Scalar.indexCast v2440
  let c4_i32_1023 : BitVec 32 := 4#32
  let v2426 : BitVec 32 := Scalar.shrsi v2425 c4_i32_1023
  let v2446 : Index := Scalar.indexCast v2426
  let c4_i32_1021 : BitVec 32 := 4#32
  let v2422 : BitVec 32 := Scalar.shrsi v2421 c4_i32_1021
  let c3_i32_1028 : BitVec 32 := 3#32
  let v2435 : BitVec 32 := Scalar.shrsi v2422 c3_i32_1028
  let c3_i32_1029 : BitVec 32 := 3#32
  let v2436 : BitVec 32 := Scalar.shli v2435 c3_i32_1029
  let c16_i32_1030 : BitVec 32 := 16#32
  let v2437 : BitVec 32 := Scalar.minsi v2436 c16_i32_1030
  let v2438 : BitVec 32 := v2437
  let v2447 : Index := Scalar.indexCast v2438
  let c0_1032 : Index := 0#32
  ![v2445.toNat, v2446.toNat, v2447.toNat, 0]

def k0_chk179 (v2421 : BitVec 32) (v2425 : BitVec 32) (v2440 : BitVec 32) : Prop :=
  (∀ a, (k0_off268 v2421 v2425 v2440) a + S1x1x32x256.size a ≤ S5x50x50x256.size a)
theorem k0_off268_inb : ∀ (v2421 : BitVec 32) (v2425 : BitVec 32) (v2440 : BitVec 32) (k0_hw179 : k0_chk179 v2421 v2425 v2440), ∀ a, (k0_off268 v2421 v2425 v2440) a + S1x1x32x256.size a ≤ S5x50x50x256.size a := fun v2421 v2425 v2440 k0_hw179 => k0_hw179

def k0_off269 (v2421 : BitVec 32) (v2425 : BitVec 32) (v2440 : BitVec 32) (v2443 : BitVec 32) : Fin 4 → Nat :=
  let v2450 : Index := Scalar.indexCast v2440
  let c4_i32_1023 : BitVec 32 := 4#32
  let v2426 : BitVec 32 := Scalar.shrsi v2425 c4_i32_1023
  let v2444 : BitVec 32 := Scalar.addi v2426 v2443
  let v2451 : Index := Scalar.indexCast v2444
  let c4_i32_1021 : BitVec 32 := 4#32
  let v2422 : BitVec 32 := Scalar.shrsi v2421 c4_i32_1021
  let c3_i32_1028 : BitVec 32 := 3#32
  let v2435 : BitVec 32 := Scalar.shrsi v2422 c3_i32_1028
  let c3_i32_1029 : BitVec 32 := 3#32
  let v2436 : BitVec 32 := Scalar.shli v2435 c3_i32_1029
  let c16_i32_1030 : BitVec 32 := 16#32
  let v2437 : BitVec 32 := Scalar.minsi v2436 c16_i32_1030
  let v2438 : BitVec 32 := v2437
  let v2452 : Index := Scalar.indexCast v2438
  let c0_1033 : Index := 0#32
  ![v2450.toNat, v2451.toNat, v2452.toNat, 0]

def k0_chk180 (v2421 : BitVec 32) (v2425 : BitVec 32) (v2440 : BitVec 32) (v2443 : BitVec 32) : Prop :=
  (∀ a, (k0_off269 v2421 v2425 v2440 v2443) a + S1x1x32x256.size a ≤ S5x50x50x256.size a)
theorem k0_off269_inb : ∀ (v2421 : BitVec 32) (v2425 : BitVec 32) (v2440 : BitVec 32) (v2443 : BitVec 32) (k0_hw180 : k0_chk180 v2421 v2425 v2440 v2443), ∀ a, (k0_off269 v2421 v2425 v2440 v2443) a + S1x1x32x256.size a ≤ S5x50x50x256.size a := fun v2421 v2425 v2440 v2443 k0_hw180 => k0_hw180

def k0_off270 : Fin 4 → Nat :=
  let c0_1036 : Index := 0#32
  let c0_i32 : BitVec 32 := 0#32
  let c128_i32_1017 : BitVec 32 := 128#32
  let v2414 : BitVec 32 := Scalar.muli c0_i32 c128_i32_1017
  let c44_i32 : BitVec 32 := 44#32
  let v2415 : BitVec 32 := Scalar.addi v2414 c44_i32
  let v2464 : Index := Scalar.indexCast v2415
  let c0_1037 : Index := 0#32
  let c0_1038 : Index := 0#32
  ![0, v2464.toNat, 0, 0]
def k0_off271 (i : grid0.Coords) (c0_i32_1042 : BitVec 32) : Fin 1 → Nat :=
  let arg0 : BitVec 32 := BitVec.ofNat 32 (i 0).val
  let c128_i32_1040 : BitVec 32 := 128#32
  let v2470 : BitVec 32 := Scalar.muli arg0 c128_i32_1040
  let c0_i32 : BitVec 32 := 0#32
  let c128_i32_1039 : BitVec 32 := 128#32
  let v2468 : BitVec 32 := Scalar.muli c0_i32 c128_i32_1039
  let c45_i32 : BitVec 32 := 45#32
  let v2469 : BitVec 32 := Scalar.addi v2468 c45_i32
  let v2471 : BitVec 32 := Scalar.addi v2470 v2469
  let c4_i32_1041 : BitVec 32 := 4#32
  let v2472 : BitVec 32 := Scalar.muli v2471 c4_i32_1041
  let v2473 : BitVec 32 := Scalar.addi v2472 c0_i32_1042
  let v2474 : Index := Scalar.indexCast v2473
  ![v2474.toNat]
def k0_mult46 (v2475 : BitVec 32) : BitVec 32 :=
  let c4_i32_1043 : BitVec 32 := 4#32
  let v2476 : BitVec 32 := Scalar.shrsi v2475 c4_i32_1043
  let c3_i32_1050 : BitVec 32 := 3#32
  let v2489 : BitVec 32 := Scalar.shrsi v2476 c3_i32_1050
  let c3_i32_1051 : BitVec 32 := 3#32
  let v2490 : BitVec 32 := Scalar.shli v2489 c3_i32_1051
  let c16_i32_1052 : BitVec 32 := 16#32
  let v2491 : BitVec 32 := Scalar.minsi v2490 c16_i32_1052
  v2491

def k0_chk181 (v2475 : BitVec 32) : Prop :=
  (8 ∣ (k0_mult46 v2475).toNat)
theorem k0_mult46_dvd : ∀ (v2475 : BitVec 32) (k0_hw181 : k0_chk181 v2475), 8 ∣ (k0_mult46 v2475).toNat := fun v2475 k0_hw181 => k0_hw181

def k0_off272 (v2487 : BitVec 32) : Fin 1 → Nat :=
  let c4_i32_1049 : BitVec 32 := 4#32
  let v2488 : BitVec 32 := Scalar.shrsi v2487 c4_i32_1049
  let v2493 : Index := Scalar.indexCast v2488
  ![v2493.toNat]

def k0_off273 (v2487 : BitVec 32) : Fin 1 → Nat :=
  let c32_i32_1053 : BitVec 32 := 32#32
  let c4_i32_1049 : BitVec 32 := 4#32
  let v2488 : BitVec 32 := Scalar.shrsi v2487 c4_i32_1049
  let v2495 : BitVec 32 := Scalar.addi c32_i32_1053 v2488
  let v2496 : Index := Scalar.indexCast v2495
  ![v2496.toNat]

def k0_chk182 (v2487 : BitVec 32) : Prop :=
  (∀ a, (k0_off272 v2487) a + S1.size a ≤ S64.size a) ∧
  (∀ a, (k0_off273 v2487) a + S1.size a ≤ S64.size a)
theorem k0_off272_inb : ∀ (v2487 : BitVec 32) (k0_hw182 : k0_chk182 v2487), ∀ a, (k0_off272 v2487) a + S1.size a ≤ S64.size a := fun v2487 k0_hw182 => k0_hw182.1
theorem k0_off273_inb : ∀ (v2487 : BitVec 32) (k0_hw182 : k0_chk182 v2487), ∀ a, (k0_off273 v2487) a + S1.size a ≤ S64.size a := fun v2487 k0_hw182 => k0_hw182.2

def k0_off274 (v2475 : BitVec 32) (v2479 : BitVec 32) (v2494 : BitVec 32) : Fin 4 → Nat :=
  let v2499 : Index := Scalar.indexCast v2494
  let c4_i32_1045 : BitVec 32 := 4#32
  let v2480 : BitVec 32 := Scalar.shrsi v2479 c4_i32_1045
  let v2500 : Index := Scalar.indexCast v2480
  let c4_i32_1043 : BitVec 32 := 4#32
  let v2476 : BitVec 32 := Scalar.shrsi v2475 c4_i32_1043
  let c3_i32_1050 : BitVec 32 := 3#32
  let v2489 : BitVec 32 := Scalar.shrsi v2476 c3_i32_1050
  let c3_i32_1051 : BitVec 32 := 3#32
  let v2490 : BitVec 32 := Scalar.shli v2489 c3_i32_1051
  let c16_i32_1052 : BitVec 32 := 16#32
  let v2491 : BitVec 32 := Scalar.minsi v2490 c16_i32_1052
  let v2492 : BitVec 32 := v2491
  let v2501 : Index := Scalar.indexCast v2492
  let c0_1054 : Index := 0#32
  ![v2499.toNat, v2500.toNat, v2501.toNat, 0]

def k0_chk183 (v2475 : BitVec 32) (v2479 : BitVec 32) (v2494 : BitVec 32) : Prop :=
  (∀ a, (k0_off274 v2475 v2479 v2494) a + S1x1x32x256.size a ≤ S5x50x50x256.size a)
theorem k0_off274_inb : ∀ (v2475 : BitVec 32) (v2479 : BitVec 32) (v2494 : BitVec 32) (k0_hw183 : k0_chk183 v2475 v2479 v2494), ∀ a, (k0_off274 v2475 v2479 v2494) a + S1x1x32x256.size a ≤ S5x50x50x256.size a := fun v2475 v2479 v2494 k0_hw183 => k0_hw183

def k0_off275 (v2475 : BitVec 32) (v2479 : BitVec 32) (v2494 : BitVec 32) (v2497 : BitVec 32) : Fin 4 → Nat :=
  let v2504 : Index := Scalar.indexCast v2494
  let c4_i32_1045 : BitVec 32 := 4#32
  let v2480 : BitVec 32 := Scalar.shrsi v2479 c4_i32_1045
  let v2498 : BitVec 32 := Scalar.addi v2480 v2497
  let v2505 : Index := Scalar.indexCast v2498
  let c4_i32_1043 : BitVec 32 := 4#32
  let v2476 : BitVec 32 := Scalar.shrsi v2475 c4_i32_1043
  let c3_i32_1050 : BitVec 32 := 3#32
  let v2489 : BitVec 32 := Scalar.shrsi v2476 c3_i32_1050
  let c3_i32_1051 : BitVec 32 := 3#32
  let v2490 : BitVec 32 := Scalar.shli v2489 c3_i32_1051
  let c16_i32_1052 : BitVec 32 := 16#32
  let v2491 : BitVec 32 := Scalar.minsi v2490 c16_i32_1052
  let v2492 : BitVec 32 := v2491
  let v2506 : Index := Scalar.indexCast v2492
  let c0_1055 : Index := 0#32
  ![v2504.toNat, v2505.toNat, v2506.toNat, 0]

def k0_chk184 (v2475 : BitVec 32) (v2479 : BitVec 32) (v2494 : BitVec 32) (v2497 : BitVec 32) : Prop :=
  (∀ a, (k0_off275 v2475 v2479 v2494 v2497) a + S1x1x32x256.size a ≤ S5x50x50x256.size a)
theorem k0_off275_inb : ∀ (v2475 : BitVec 32) (v2479 : BitVec 32) (v2494 : BitVec 32) (v2497 : BitVec 32) (k0_hw184 : k0_chk184 v2475 v2479 v2494 v2497), ∀ a, (k0_off275 v2475 v2479 v2494 v2497) a + S1x1x32x256.size a ≤ S5x50x50x256.size a := fun v2475 v2479 v2494 v2497 k0_hw184 => k0_hw184

def k0_off276 : Fin 4 → Nat :=
  let c0_1058 : Index := 0#32
  let c0_i32 : BitVec 32 := 0#32
  let c128_i32_1039 : BitVec 32 := 128#32
  let v2468 : BitVec 32 := Scalar.muli c0_i32 c128_i32_1039
  let c45_i32 : BitVec 32 := 45#32
  let v2469 : BitVec 32 := Scalar.addi v2468 c45_i32
  let v2518 : Index := Scalar.indexCast v2469
  let c0_1059 : Index := 0#32
  let c0_1060 : Index := 0#32
  ![0, v2518.toNat, 0, 0]
def k0_off277 (i : grid0.Coords) (c0_i32_1064 : BitVec 32) : Fin 1 → Nat :=
  let arg0 : BitVec 32 := BitVec.ofNat 32 (i 0).val
  let c128_i32_1062 : BitVec 32 := 128#32
  let v2524 : BitVec 32 := Scalar.muli arg0 c128_i32_1062
  let c0_i32 : BitVec 32 := 0#32
  let c128_i32_1061 : BitVec 32 := 128#32
  let v2522 : BitVec 32 := Scalar.muli c0_i32 c128_i32_1061
  let c46_i32 : BitVec 32 := 46#32
  let v2523 : BitVec 32 := Scalar.addi v2522 c46_i32
  let v2525 : BitVec 32 := Scalar.addi v2524 v2523
  let c4_i32_1063 : BitVec 32 := 4#32
  let v2526 : BitVec 32 := Scalar.muli v2525 c4_i32_1063
  let v2527 : BitVec 32 := Scalar.addi v2526 c0_i32_1064
  let v2528 : Index := Scalar.indexCast v2527
  ![v2528.toNat]
def k0_mult47 (v2529 : BitVec 32) : BitVec 32 :=
  let c4_i32_1065 : BitVec 32 := 4#32
  let v2530 : BitVec 32 := Scalar.shrsi v2529 c4_i32_1065
  let c3_i32_1072 : BitVec 32 := 3#32
  let v2543 : BitVec 32 := Scalar.shrsi v2530 c3_i32_1072
  let c3_i32_1073 : BitVec 32 := 3#32
  let v2544 : BitVec 32 := Scalar.shli v2543 c3_i32_1073
  let c16_i32_1074 : BitVec 32 := 16#32
  let v2545 : BitVec 32 := Scalar.minsi v2544 c16_i32_1074
  v2545

def k0_chk185 (v2529 : BitVec 32) : Prop :=
  (8 ∣ (k0_mult47 v2529).toNat)
theorem k0_mult47_dvd : ∀ (v2529 : BitVec 32) (k0_hw185 : k0_chk185 v2529), 8 ∣ (k0_mult47 v2529).toNat := fun v2529 k0_hw185 => k0_hw185

def k0_off278 (v2541 : BitVec 32) : Fin 1 → Nat :=
  let c4_i32_1071 : BitVec 32 := 4#32
  let v2542 : BitVec 32 := Scalar.shrsi v2541 c4_i32_1071
  let v2547 : Index := Scalar.indexCast v2542
  ![v2547.toNat]

def k0_off279 (v2541 : BitVec 32) : Fin 1 → Nat :=
  let c32_i32_1075 : BitVec 32 := 32#32
  let c4_i32_1071 : BitVec 32 := 4#32
  let v2542 : BitVec 32 := Scalar.shrsi v2541 c4_i32_1071
  let v2549 : BitVec 32 := Scalar.addi c32_i32_1075 v2542
  let v2550 : Index := Scalar.indexCast v2549
  ![v2550.toNat]

def k0_chk186 (v2541 : BitVec 32) : Prop :=
  (∀ a, (k0_off278 v2541) a + S1.size a ≤ S64.size a) ∧
  (∀ a, (k0_off279 v2541) a + S1.size a ≤ S64.size a)
theorem k0_off278_inb : ∀ (v2541 : BitVec 32) (k0_hw186 : k0_chk186 v2541), ∀ a, (k0_off278 v2541) a + S1.size a ≤ S64.size a := fun v2541 k0_hw186 => k0_hw186.1
theorem k0_off279_inb : ∀ (v2541 : BitVec 32) (k0_hw186 : k0_chk186 v2541), ∀ a, (k0_off279 v2541) a + S1.size a ≤ S64.size a := fun v2541 k0_hw186 => k0_hw186.2

def k0_off280 (v2529 : BitVec 32) (v2533 : BitVec 32) (v2548 : BitVec 32) : Fin 4 → Nat :=
  let v2553 : Index := Scalar.indexCast v2548
  let c4_i32_1067 : BitVec 32 := 4#32
  let v2534 : BitVec 32 := Scalar.shrsi v2533 c4_i32_1067
  let v2554 : Index := Scalar.indexCast v2534
  let c4_i32_1065 : BitVec 32 := 4#32
  let v2530 : BitVec 32 := Scalar.shrsi v2529 c4_i32_1065
  let c3_i32_1072 : BitVec 32 := 3#32
  let v2543 : BitVec 32 := Scalar.shrsi v2530 c3_i32_1072
  let c3_i32_1073 : BitVec 32 := 3#32
  let v2544 : BitVec 32 := Scalar.shli v2543 c3_i32_1073
  let c16_i32_1074 : BitVec 32 := 16#32
  let v2545 : BitVec 32 := Scalar.minsi v2544 c16_i32_1074
  let v2546 : BitVec 32 := v2545
  let v2555 : Index := Scalar.indexCast v2546
  let c0_1076 : Index := 0#32
  ![v2553.toNat, v2554.toNat, v2555.toNat, 0]

def k0_chk187 (v2529 : BitVec 32) (v2533 : BitVec 32) (v2548 : BitVec 32) : Prop :=
  (∀ a, (k0_off280 v2529 v2533 v2548) a + S1x1x32x256.size a ≤ S5x50x50x256.size a)
theorem k0_off280_inb : ∀ (v2529 : BitVec 32) (v2533 : BitVec 32) (v2548 : BitVec 32) (k0_hw187 : k0_chk187 v2529 v2533 v2548), ∀ a, (k0_off280 v2529 v2533 v2548) a + S1x1x32x256.size a ≤ S5x50x50x256.size a := fun v2529 v2533 v2548 k0_hw187 => k0_hw187

def k0_off281 (v2529 : BitVec 32) (v2533 : BitVec 32) (v2548 : BitVec 32) (v2551 : BitVec 32) : Fin 4 → Nat :=
  let v2558 : Index := Scalar.indexCast v2548
  let c4_i32_1067 : BitVec 32 := 4#32
  let v2534 : BitVec 32 := Scalar.shrsi v2533 c4_i32_1067
  let v2552 : BitVec 32 := Scalar.addi v2534 v2551
  let v2559 : Index := Scalar.indexCast v2552
  let c4_i32_1065 : BitVec 32 := 4#32
  let v2530 : BitVec 32 := Scalar.shrsi v2529 c4_i32_1065
  let c3_i32_1072 : BitVec 32 := 3#32
  let v2543 : BitVec 32 := Scalar.shrsi v2530 c3_i32_1072
  let c3_i32_1073 : BitVec 32 := 3#32
  let v2544 : BitVec 32 := Scalar.shli v2543 c3_i32_1073
  let c16_i32_1074 : BitVec 32 := 16#32
  let v2545 : BitVec 32 := Scalar.minsi v2544 c16_i32_1074
  let v2546 : BitVec 32 := v2545
  let v2560 : Index := Scalar.indexCast v2546
  let c0_1077 : Index := 0#32
  ![v2558.toNat, v2559.toNat, v2560.toNat, 0]

def k0_chk188 (v2529 : BitVec 32) (v2533 : BitVec 32) (v2548 : BitVec 32) (v2551 : BitVec 32) : Prop :=
  (∀ a, (k0_off281 v2529 v2533 v2548 v2551) a + S1x1x32x256.size a ≤ S5x50x50x256.size a)
theorem k0_off281_inb : ∀ (v2529 : BitVec 32) (v2533 : BitVec 32) (v2548 : BitVec 32) (v2551 : BitVec 32) (k0_hw188 : k0_chk188 v2529 v2533 v2548 v2551), ∀ a, (k0_off281 v2529 v2533 v2548 v2551) a + S1x1x32x256.size a ≤ S5x50x50x256.size a := fun v2529 v2533 v2548 v2551 k0_hw188 => k0_hw188

def k0_off282 : Fin 4 → Nat :=
  let c0_1080 : Index := 0#32
  let c0_i32 : BitVec 32 := 0#32
  let c128_i32_1061 : BitVec 32 := 128#32
  let v2522 : BitVec 32 := Scalar.muli c0_i32 c128_i32_1061
  let c46_i32 : BitVec 32 := 46#32
  let v2523 : BitVec 32 := Scalar.addi v2522 c46_i32
  let v2572 : Index := Scalar.indexCast v2523
  let c0_1081 : Index := 0#32
  let c0_1082 : Index := 0#32
  ![0, v2572.toNat, 0, 0]
def k0_off283 (i : grid0.Coords) (c0_i32_1086 : BitVec 32) : Fin 1 → Nat :=
  let arg0 : BitVec 32 := BitVec.ofNat 32 (i 0).val
  let c128_i32_1084 : BitVec 32 := 128#32
  let v2578 : BitVec 32 := Scalar.muli arg0 c128_i32_1084
  let c0_i32 : BitVec 32 := 0#32
  let c128_i32_1083 : BitVec 32 := 128#32
  let v2576 : BitVec 32 := Scalar.muli c0_i32 c128_i32_1083
  let c47_i32 : BitVec 32 := 47#32
  let v2577 : BitVec 32 := Scalar.addi v2576 c47_i32
  let v2579 : BitVec 32 := Scalar.addi v2578 v2577
  let c4_i32_1085 : BitVec 32 := 4#32
  let v2580 : BitVec 32 := Scalar.muli v2579 c4_i32_1085
  let v2581 : BitVec 32 := Scalar.addi v2580 c0_i32_1086
  let v2582 : Index := Scalar.indexCast v2581
  ![v2582.toNat]
def k0_mult48 (v2583 : BitVec 32) : BitVec 32 :=
  let c4_i32_1087 : BitVec 32 := 4#32
  let v2584 : BitVec 32 := Scalar.shrsi v2583 c4_i32_1087
  let c3_i32_1094 : BitVec 32 := 3#32
  let v2597 : BitVec 32 := Scalar.shrsi v2584 c3_i32_1094
  let c3_i32_1095 : BitVec 32 := 3#32
  let v2598 : BitVec 32 := Scalar.shli v2597 c3_i32_1095
  let c16_i32_1096 : BitVec 32 := 16#32
  let v2599 : BitVec 32 := Scalar.minsi v2598 c16_i32_1096
  v2599

def k0_chk189 (v2583 : BitVec 32) : Prop :=
  (8 ∣ (k0_mult48 v2583).toNat)
theorem k0_mult48_dvd : ∀ (v2583 : BitVec 32) (k0_hw189 : k0_chk189 v2583), 8 ∣ (k0_mult48 v2583).toNat := fun v2583 k0_hw189 => k0_hw189

def k0_off284 (v2595 : BitVec 32) : Fin 1 → Nat :=
  let c4_i32_1093 : BitVec 32 := 4#32
  let v2596 : BitVec 32 := Scalar.shrsi v2595 c4_i32_1093
  let v2601 : Index := Scalar.indexCast v2596
  ![v2601.toNat]

def k0_off285 (v2595 : BitVec 32) : Fin 1 → Nat :=
  let c32_i32_1097 : BitVec 32 := 32#32
  let c4_i32_1093 : BitVec 32 := 4#32
  let v2596 : BitVec 32 := Scalar.shrsi v2595 c4_i32_1093
  let v2603 : BitVec 32 := Scalar.addi c32_i32_1097 v2596
  let v2604 : Index := Scalar.indexCast v2603
  ![v2604.toNat]

def k0_chk190 (v2595 : BitVec 32) : Prop :=
  (∀ a, (k0_off284 v2595) a + S1.size a ≤ S64.size a) ∧
  (∀ a, (k0_off285 v2595) a + S1.size a ≤ S64.size a)
theorem k0_off284_inb : ∀ (v2595 : BitVec 32) (k0_hw190 : k0_chk190 v2595), ∀ a, (k0_off284 v2595) a + S1.size a ≤ S64.size a := fun v2595 k0_hw190 => k0_hw190.1
theorem k0_off285_inb : ∀ (v2595 : BitVec 32) (k0_hw190 : k0_chk190 v2595), ∀ a, (k0_off285 v2595) a + S1.size a ≤ S64.size a := fun v2595 k0_hw190 => k0_hw190.2

def k0_off286 (v2583 : BitVec 32) (v2587 : BitVec 32) (v2602 : BitVec 32) : Fin 4 → Nat :=
  let v2607 : Index := Scalar.indexCast v2602
  let c4_i32_1089 : BitVec 32 := 4#32
  let v2588 : BitVec 32 := Scalar.shrsi v2587 c4_i32_1089
  let v2608 : Index := Scalar.indexCast v2588
  let c4_i32_1087 : BitVec 32 := 4#32
  let v2584 : BitVec 32 := Scalar.shrsi v2583 c4_i32_1087
  let c3_i32_1094 : BitVec 32 := 3#32
  let v2597 : BitVec 32 := Scalar.shrsi v2584 c3_i32_1094
  let c3_i32_1095 : BitVec 32 := 3#32
  let v2598 : BitVec 32 := Scalar.shli v2597 c3_i32_1095
  let c16_i32_1096 : BitVec 32 := 16#32
  let v2599 : BitVec 32 := Scalar.minsi v2598 c16_i32_1096
  let v2600 : BitVec 32 := v2599
  let v2609 : Index := Scalar.indexCast v2600
  let c0_1098 : Index := 0#32
  ![v2607.toNat, v2608.toNat, v2609.toNat, 0]

def k0_chk191 (v2583 : BitVec 32) (v2587 : BitVec 32) (v2602 : BitVec 32) : Prop :=
  (∀ a, (k0_off286 v2583 v2587 v2602) a + S1x1x32x256.size a ≤ S5x50x50x256.size a)
theorem k0_off286_inb : ∀ (v2583 : BitVec 32) (v2587 : BitVec 32) (v2602 : BitVec 32) (k0_hw191 : k0_chk191 v2583 v2587 v2602), ∀ a, (k0_off286 v2583 v2587 v2602) a + S1x1x32x256.size a ≤ S5x50x50x256.size a := fun v2583 v2587 v2602 k0_hw191 => k0_hw191

def k0_off287 (v2583 : BitVec 32) (v2587 : BitVec 32) (v2602 : BitVec 32) (v2605 : BitVec 32) : Fin 4 → Nat :=
  let v2612 : Index := Scalar.indexCast v2602
  let c4_i32_1089 : BitVec 32 := 4#32
  let v2588 : BitVec 32 := Scalar.shrsi v2587 c4_i32_1089
  let v2606 : BitVec 32 := Scalar.addi v2588 v2605
  let v2613 : Index := Scalar.indexCast v2606
  let c4_i32_1087 : BitVec 32 := 4#32
  let v2584 : BitVec 32 := Scalar.shrsi v2583 c4_i32_1087
  let c3_i32_1094 : BitVec 32 := 3#32
  let v2597 : BitVec 32 := Scalar.shrsi v2584 c3_i32_1094
  let c3_i32_1095 : BitVec 32 := 3#32
  let v2598 : BitVec 32 := Scalar.shli v2597 c3_i32_1095
  let c16_i32_1096 : BitVec 32 := 16#32
  let v2599 : BitVec 32 := Scalar.minsi v2598 c16_i32_1096
  let v2600 : BitVec 32 := v2599
  let v2614 : Index := Scalar.indexCast v2600
  let c0_1099 : Index := 0#32
  ![v2612.toNat, v2613.toNat, v2614.toNat, 0]

def k0_chk192 (v2583 : BitVec 32) (v2587 : BitVec 32) (v2602 : BitVec 32) (v2605 : BitVec 32) : Prop :=
  (∀ a, (k0_off287 v2583 v2587 v2602 v2605) a + S1x1x32x256.size a ≤ S5x50x50x256.size a)
theorem k0_off287_inb : ∀ (v2583 : BitVec 32) (v2587 : BitVec 32) (v2602 : BitVec 32) (v2605 : BitVec 32) (k0_hw192 : k0_chk192 v2583 v2587 v2602 v2605), ∀ a, (k0_off287 v2583 v2587 v2602 v2605) a + S1x1x32x256.size a ≤ S5x50x50x256.size a := fun v2583 v2587 v2602 v2605 k0_hw192 => k0_hw192

def k0_off288 : Fin 4 → Nat :=
  let c0_1102 : Index := 0#32
  let c0_i32 : BitVec 32 := 0#32
  let c128_i32_1083 : BitVec 32 := 128#32
  let v2576 : BitVec 32 := Scalar.muli c0_i32 c128_i32_1083
  let c47_i32 : BitVec 32 := 47#32
  let v2577 : BitVec 32 := Scalar.addi v2576 c47_i32
  let v2626 : Index := Scalar.indexCast v2577
  let c0_1103 : Index := 0#32
  let c0_1104 : Index := 0#32
  ![0, v2626.toNat, 0, 0]
def k0_off289 (i : grid0.Coords) (c0_i32_1108 : BitVec 32) : Fin 1 → Nat :=
  let arg0 : BitVec 32 := BitVec.ofNat 32 (i 0).val
  let c128_i32_1106 : BitVec 32 := 128#32
  let v2632 : BitVec 32 := Scalar.muli arg0 c128_i32_1106
  let c0_i32 : BitVec 32 := 0#32
  let c128_i32_1105 : BitVec 32 := 128#32
  let v2630 : BitVec 32 := Scalar.muli c0_i32 c128_i32_1105
  let c48_i32 : BitVec 32 := 48#32
  let v2631 : BitVec 32 := Scalar.addi v2630 c48_i32
  let v2633 : BitVec 32 := Scalar.addi v2632 v2631
  let c4_i32_1107 : BitVec 32 := 4#32
  let v2634 : BitVec 32 := Scalar.muli v2633 c4_i32_1107
  let v2635 : BitVec 32 := Scalar.addi v2634 c0_i32_1108
  let v2636 : Index := Scalar.indexCast v2635
  ![v2636.toNat]
def k0_mult49 (v2637 : BitVec 32) : BitVec 32 :=
  let c4_i32_1109 : BitVec 32 := 4#32
  let v2638 : BitVec 32 := Scalar.shrsi v2637 c4_i32_1109
  let c3_i32_1116 : BitVec 32 := 3#32
  let v2651 : BitVec 32 := Scalar.shrsi v2638 c3_i32_1116
  let c3_i32_1117 : BitVec 32 := 3#32
  let v2652 : BitVec 32 := Scalar.shli v2651 c3_i32_1117
  let c16_i32_1118 : BitVec 32 := 16#32
  let v2653 : BitVec 32 := Scalar.minsi v2652 c16_i32_1118
  v2653

def k0_chk193 (v2637 : BitVec 32) : Prop :=
  (8 ∣ (k0_mult49 v2637).toNat)
theorem k0_mult49_dvd : ∀ (v2637 : BitVec 32) (k0_hw193 : k0_chk193 v2637), 8 ∣ (k0_mult49 v2637).toNat := fun v2637 k0_hw193 => k0_hw193

def k0_off290 (v2649 : BitVec 32) : Fin 1 → Nat :=
  let c4_i32_1115 : BitVec 32 := 4#32
  let v2650 : BitVec 32 := Scalar.shrsi v2649 c4_i32_1115
  let v2655 : Index := Scalar.indexCast v2650
  ![v2655.toNat]

def k0_off291 (v2649 : BitVec 32) : Fin 1 → Nat :=
  let c32_i32_1119 : BitVec 32 := 32#32
  let c4_i32_1115 : BitVec 32 := 4#32
  let v2650 : BitVec 32 := Scalar.shrsi v2649 c4_i32_1115
  let v2657 : BitVec 32 := Scalar.addi c32_i32_1119 v2650
  let v2658 : Index := Scalar.indexCast v2657
  ![v2658.toNat]

def k0_chk194 (v2649 : BitVec 32) : Prop :=
  (∀ a, (k0_off290 v2649) a + S1.size a ≤ S64.size a) ∧
  (∀ a, (k0_off291 v2649) a + S1.size a ≤ S64.size a)
theorem k0_off290_inb : ∀ (v2649 : BitVec 32) (k0_hw194 : k0_chk194 v2649), ∀ a, (k0_off290 v2649) a + S1.size a ≤ S64.size a := fun v2649 k0_hw194 => k0_hw194.1
theorem k0_off291_inb : ∀ (v2649 : BitVec 32) (k0_hw194 : k0_chk194 v2649), ∀ a, (k0_off291 v2649) a + S1.size a ≤ S64.size a := fun v2649 k0_hw194 => k0_hw194.2

def k0_off292 (v2637 : BitVec 32) (v2641 : BitVec 32) (v2656 : BitVec 32) : Fin 4 → Nat :=
  let v2661 : Index := Scalar.indexCast v2656
  let c4_i32_1111 : BitVec 32 := 4#32
  let v2642 : BitVec 32 := Scalar.shrsi v2641 c4_i32_1111
  let v2662 : Index := Scalar.indexCast v2642
  let c4_i32_1109 : BitVec 32 := 4#32
  let v2638 : BitVec 32 := Scalar.shrsi v2637 c4_i32_1109
  let c3_i32_1116 : BitVec 32 := 3#32
  let v2651 : BitVec 32 := Scalar.shrsi v2638 c3_i32_1116
  let c3_i32_1117 : BitVec 32 := 3#32
  let v2652 : BitVec 32 := Scalar.shli v2651 c3_i32_1117
  let c16_i32_1118 : BitVec 32 := 16#32
  let v2653 : BitVec 32 := Scalar.minsi v2652 c16_i32_1118
  let v2654 : BitVec 32 := v2653
  let v2663 : Index := Scalar.indexCast v2654
  let c0_1120 : Index := 0#32
  ![v2661.toNat, v2662.toNat, v2663.toNat, 0]

def k0_chk195 (v2637 : BitVec 32) (v2641 : BitVec 32) (v2656 : BitVec 32) : Prop :=
  (∀ a, (k0_off292 v2637 v2641 v2656) a + S1x1x32x256.size a ≤ S5x50x50x256.size a)
theorem k0_off292_inb : ∀ (v2637 : BitVec 32) (v2641 : BitVec 32) (v2656 : BitVec 32) (k0_hw195 : k0_chk195 v2637 v2641 v2656), ∀ a, (k0_off292 v2637 v2641 v2656) a + S1x1x32x256.size a ≤ S5x50x50x256.size a := fun v2637 v2641 v2656 k0_hw195 => k0_hw195

def k0_off293 (v2637 : BitVec 32) (v2641 : BitVec 32) (v2656 : BitVec 32) (v2659 : BitVec 32) : Fin 4 → Nat :=
  let v2666 : Index := Scalar.indexCast v2656
  let c4_i32_1111 : BitVec 32 := 4#32
  let v2642 : BitVec 32 := Scalar.shrsi v2641 c4_i32_1111
  let v2660 : BitVec 32 := Scalar.addi v2642 v2659
  let v2667 : Index := Scalar.indexCast v2660
  let c4_i32_1109 : BitVec 32 := 4#32
  let v2638 : BitVec 32 := Scalar.shrsi v2637 c4_i32_1109
  let c3_i32_1116 : BitVec 32 := 3#32
  let v2651 : BitVec 32 := Scalar.shrsi v2638 c3_i32_1116
  let c3_i32_1117 : BitVec 32 := 3#32
  let v2652 : BitVec 32 := Scalar.shli v2651 c3_i32_1117
  let c16_i32_1118 : BitVec 32 := 16#32
  let v2653 : BitVec 32 := Scalar.minsi v2652 c16_i32_1118
  let v2654 : BitVec 32 := v2653
  let v2668 : Index := Scalar.indexCast v2654
  let c0_1121 : Index := 0#32
  ![v2666.toNat, v2667.toNat, v2668.toNat, 0]

def k0_chk196 (v2637 : BitVec 32) (v2641 : BitVec 32) (v2656 : BitVec 32) (v2659 : BitVec 32) : Prop :=
  (∀ a, (k0_off293 v2637 v2641 v2656 v2659) a + S1x1x32x256.size a ≤ S5x50x50x256.size a)
theorem k0_off293_inb : ∀ (v2637 : BitVec 32) (v2641 : BitVec 32) (v2656 : BitVec 32) (v2659 : BitVec 32) (k0_hw196 : k0_chk196 v2637 v2641 v2656 v2659), ∀ a, (k0_off293 v2637 v2641 v2656 v2659) a + S1x1x32x256.size a ≤ S5x50x50x256.size a := fun v2637 v2641 v2656 v2659 k0_hw196 => k0_hw196

def k0_off294 : Fin 4 → Nat :=
  let c0_1124 : Index := 0#32
  let c0_i32 : BitVec 32 := 0#32
  let c128_i32_1105 : BitVec 32 := 128#32
  let v2630 : BitVec 32 := Scalar.muli c0_i32 c128_i32_1105
  let c48_i32 : BitVec 32 := 48#32
  let v2631 : BitVec 32 := Scalar.addi v2630 c48_i32
  let v2680 : Index := Scalar.indexCast v2631
  let c0_1125 : Index := 0#32
  let c0_1126 : Index := 0#32
  ![0, v2680.toNat, 0, 0]
def k0_off295 (i : grid0.Coords) (c0_i32_1130 : BitVec 32) : Fin 1 → Nat :=
  let arg0 : BitVec 32 := BitVec.ofNat 32 (i 0).val
  let c128_i32_1128 : BitVec 32 := 128#32
  let v2686 : BitVec 32 := Scalar.muli arg0 c128_i32_1128
  let c0_i32 : BitVec 32 := 0#32
  let c128_i32_1127 : BitVec 32 := 128#32
  let v2684 : BitVec 32 := Scalar.muli c0_i32 c128_i32_1127
  let c49_i32 : BitVec 32 := 49#32
  let v2685 : BitVec 32 := Scalar.addi v2684 c49_i32
  let v2687 : BitVec 32 := Scalar.addi v2686 v2685
  let c4_i32_1129 : BitVec 32 := 4#32
  let v2688 : BitVec 32 := Scalar.muli v2687 c4_i32_1129
  let v2689 : BitVec 32 := Scalar.addi v2688 c0_i32_1130
  let v2690 : Index := Scalar.indexCast v2689
  ![v2690.toNat]
def k0_mult50 (v2691 : BitVec 32) : BitVec 32 :=
  let c4_i32_1131 : BitVec 32 := 4#32
  let v2692 : BitVec 32 := Scalar.shrsi v2691 c4_i32_1131
  let c3_i32_1138 : BitVec 32 := 3#32
  let v2705 : BitVec 32 := Scalar.shrsi v2692 c3_i32_1138
  let c3_i32_1139 : BitVec 32 := 3#32
  let v2706 : BitVec 32 := Scalar.shli v2705 c3_i32_1139
  let c16_i32_1140 : BitVec 32 := 16#32
  let v2707 : BitVec 32 := Scalar.minsi v2706 c16_i32_1140
  v2707

def k0_chk197 (v2691 : BitVec 32) : Prop :=
  (8 ∣ (k0_mult50 v2691).toNat)
theorem k0_mult50_dvd : ∀ (v2691 : BitVec 32) (k0_hw197 : k0_chk197 v2691), 8 ∣ (k0_mult50 v2691).toNat := fun v2691 k0_hw197 => k0_hw197

def k0_off296 (v2703 : BitVec 32) : Fin 1 → Nat :=
  let c4_i32_1137 : BitVec 32 := 4#32
  let v2704 : BitVec 32 := Scalar.shrsi v2703 c4_i32_1137
  let v2709 : Index := Scalar.indexCast v2704
  ![v2709.toNat]

def k0_off297 (v2703 : BitVec 32) : Fin 1 → Nat :=
  let c32_i32_1141 : BitVec 32 := 32#32
  let c4_i32_1137 : BitVec 32 := 4#32
  let v2704 : BitVec 32 := Scalar.shrsi v2703 c4_i32_1137
  let v2711 : BitVec 32 := Scalar.addi c32_i32_1141 v2704
  let v2712 : Index := Scalar.indexCast v2711
  ![v2712.toNat]

def k0_chk198 (v2703 : BitVec 32) : Prop :=
  (∀ a, (k0_off296 v2703) a + S1.size a ≤ S64.size a) ∧
  (∀ a, (k0_off297 v2703) a + S1.size a ≤ S64.size a)
theorem k0_off296_inb : ∀ (v2703 : BitVec 32) (k0_hw198 : k0_chk198 v2703), ∀ a, (k0_off296 v2703) a + S1.size a ≤ S64.size a := fun v2703 k0_hw198 => k0_hw198.1
theorem k0_off297_inb : ∀ (v2703 : BitVec 32) (k0_hw198 : k0_chk198 v2703), ∀ a, (k0_off297 v2703) a + S1.size a ≤ S64.size a := fun v2703 k0_hw198 => k0_hw198.2

def k0_off298 (v2691 : BitVec 32) (v2695 : BitVec 32) (v2710 : BitVec 32) : Fin 4 → Nat :=
  let v2715 : Index := Scalar.indexCast v2710
  let c4_i32_1133 : BitVec 32 := 4#32
  let v2696 : BitVec 32 := Scalar.shrsi v2695 c4_i32_1133
  let v2716 : Index := Scalar.indexCast v2696
  let c4_i32_1131 : BitVec 32 := 4#32
  let v2692 : BitVec 32 := Scalar.shrsi v2691 c4_i32_1131
  let c3_i32_1138 : BitVec 32 := 3#32
  let v2705 : BitVec 32 := Scalar.shrsi v2692 c3_i32_1138
  let c3_i32_1139 : BitVec 32 := 3#32
  let v2706 : BitVec 32 := Scalar.shli v2705 c3_i32_1139
  let c16_i32_1140 : BitVec 32 := 16#32
  let v2707 : BitVec 32 := Scalar.minsi v2706 c16_i32_1140
  let v2708 : BitVec 32 := v2707
  let v2717 : Index := Scalar.indexCast v2708
  let c0_1142 : Index := 0#32
  ![v2715.toNat, v2716.toNat, v2717.toNat, 0]

def k0_chk199 (v2691 : BitVec 32) (v2695 : BitVec 32) (v2710 : BitVec 32) : Prop :=
  (∀ a, (k0_off298 v2691 v2695 v2710) a + S1x1x32x256.size a ≤ S5x50x50x256.size a)
theorem k0_off298_inb : ∀ (v2691 : BitVec 32) (v2695 : BitVec 32) (v2710 : BitVec 32) (k0_hw199 : k0_chk199 v2691 v2695 v2710), ∀ a, (k0_off298 v2691 v2695 v2710) a + S1x1x32x256.size a ≤ S5x50x50x256.size a := fun v2691 v2695 v2710 k0_hw199 => k0_hw199

def k0_off299 (v2691 : BitVec 32) (v2695 : BitVec 32) (v2710 : BitVec 32) (v2713 : BitVec 32) : Fin 4 → Nat :=
  let v2720 : Index := Scalar.indexCast v2710
  let c4_i32_1133 : BitVec 32 := 4#32
  let v2696 : BitVec 32 := Scalar.shrsi v2695 c4_i32_1133
  let v2714 : BitVec 32 := Scalar.addi v2696 v2713
  let v2721 : Index := Scalar.indexCast v2714
  let c4_i32_1131 : BitVec 32 := 4#32
  let v2692 : BitVec 32 := Scalar.shrsi v2691 c4_i32_1131
  let c3_i32_1138 : BitVec 32 := 3#32
  let v2705 : BitVec 32 := Scalar.shrsi v2692 c3_i32_1138
  let c3_i32_1139 : BitVec 32 := 3#32
  let v2706 : BitVec 32 := Scalar.shli v2705 c3_i32_1139
  let c16_i32_1140 : BitVec 32 := 16#32
  let v2707 : BitVec 32 := Scalar.minsi v2706 c16_i32_1140
  let v2708 : BitVec 32 := v2707
  let v2722 : Index := Scalar.indexCast v2708
  let c0_1143 : Index := 0#32
  ![v2720.toNat, v2721.toNat, v2722.toNat, 0]

def k0_chk200 (v2691 : BitVec 32) (v2695 : BitVec 32) (v2710 : BitVec 32) (v2713 : BitVec 32) : Prop :=
  (∀ a, (k0_off299 v2691 v2695 v2710 v2713) a + S1x1x32x256.size a ≤ S5x50x50x256.size a)
theorem k0_off299_inb : ∀ (v2691 : BitVec 32) (v2695 : BitVec 32) (v2710 : BitVec 32) (v2713 : BitVec 32) (k0_hw200 : k0_chk200 v2691 v2695 v2710 v2713), ∀ a, (k0_off299 v2691 v2695 v2710 v2713) a + S1x1x32x256.size a ≤ S5x50x50x256.size a := fun v2691 v2695 v2710 v2713 k0_hw200 => k0_hw200

def k0_off300 : Fin 4 → Nat :=
  let c0_1146 : Index := 0#32
  let c0_i32 : BitVec 32 := 0#32
  let c128_i32_1127 : BitVec 32 := 128#32
  let v2684 : BitVec 32 := Scalar.muli c0_i32 c128_i32_1127
  let c49_i32 : BitVec 32 := 49#32
  let v2685 : BitVec 32 := Scalar.addi v2684 c49_i32
  let v2734 : Index := Scalar.indexCast v2685
  let c0_1147 : Index := 0#32
  let c0_1148 : Index := 0#32
  ![0, v2734.toNat, 0, 0]
def k0_off301 (i : grid0.Coords) (c0_i32_1152 : BitVec 32) : Fin 1 → Nat :=
  let arg0 : BitVec 32 := BitVec.ofNat 32 (i 0).val
  let c128_i32_1150 : BitVec 32 := 128#32
  let v2740 : BitVec 32 := Scalar.muli arg0 c128_i32_1150
  let c0_i32 : BitVec 32 := 0#32
  let c128_i32_1149 : BitVec 32 := 128#32
  let v2738 : BitVec 32 := Scalar.muli c0_i32 c128_i32_1149
  let c50_i32 : BitVec 32 := 50#32
  let v2739 : BitVec 32 := Scalar.addi v2738 c50_i32
  let v2741 : BitVec 32 := Scalar.addi v2740 v2739
  let c4_i32_1151 : BitVec 32 := 4#32
  let v2742 : BitVec 32 := Scalar.muli v2741 c4_i32_1151
  let v2743 : BitVec 32 := Scalar.addi v2742 c0_i32_1152
  let v2744 : Index := Scalar.indexCast v2743
  ![v2744.toNat]
def k0_mult51 (v2745 : BitVec 32) : BitVec 32 :=
  let c4_i32_1153 : BitVec 32 := 4#32
  let v2746 : BitVec 32 := Scalar.shrsi v2745 c4_i32_1153
  let c3_i32_1160 : BitVec 32 := 3#32
  let v2759 : BitVec 32 := Scalar.shrsi v2746 c3_i32_1160
  let c3_i32_1161 : BitVec 32 := 3#32
  let v2760 : BitVec 32 := Scalar.shli v2759 c3_i32_1161
  let c16_i32_1162 : BitVec 32 := 16#32
  let v2761 : BitVec 32 := Scalar.minsi v2760 c16_i32_1162
  v2761

def k0_chk201 (v2745 : BitVec 32) : Prop :=
  (8 ∣ (k0_mult51 v2745).toNat)
theorem k0_mult51_dvd : ∀ (v2745 : BitVec 32) (k0_hw201 : k0_chk201 v2745), 8 ∣ (k0_mult51 v2745).toNat := fun v2745 k0_hw201 => k0_hw201

def k0_off302 (v2757 : BitVec 32) : Fin 1 → Nat :=
  let c4_i32_1159 : BitVec 32 := 4#32
  let v2758 : BitVec 32 := Scalar.shrsi v2757 c4_i32_1159
  let v2763 : Index := Scalar.indexCast v2758
  ![v2763.toNat]

def k0_off303 (v2757 : BitVec 32) : Fin 1 → Nat :=
  let c32_i32_1163 : BitVec 32 := 32#32
  let c4_i32_1159 : BitVec 32 := 4#32
  let v2758 : BitVec 32 := Scalar.shrsi v2757 c4_i32_1159
  let v2765 : BitVec 32 := Scalar.addi c32_i32_1163 v2758
  let v2766 : Index := Scalar.indexCast v2765
  ![v2766.toNat]

def k0_chk202 (v2757 : BitVec 32) : Prop :=
  (∀ a, (k0_off302 v2757) a + S1.size a ≤ S64.size a) ∧
  (∀ a, (k0_off303 v2757) a + S1.size a ≤ S64.size a)
theorem k0_off302_inb : ∀ (v2757 : BitVec 32) (k0_hw202 : k0_chk202 v2757), ∀ a, (k0_off302 v2757) a + S1.size a ≤ S64.size a := fun v2757 k0_hw202 => k0_hw202.1
theorem k0_off303_inb : ∀ (v2757 : BitVec 32) (k0_hw202 : k0_chk202 v2757), ∀ a, (k0_off303 v2757) a + S1.size a ≤ S64.size a := fun v2757 k0_hw202 => k0_hw202.2

def k0_off304 (v2745 : BitVec 32) (v2749 : BitVec 32) (v2764 : BitVec 32) : Fin 4 → Nat :=
  let v2769 : Index := Scalar.indexCast v2764
  let c4_i32_1155 : BitVec 32 := 4#32
  let v2750 : BitVec 32 := Scalar.shrsi v2749 c4_i32_1155
  let v2770 : Index := Scalar.indexCast v2750
  let c4_i32_1153 : BitVec 32 := 4#32
  let v2746 : BitVec 32 := Scalar.shrsi v2745 c4_i32_1153
  let c3_i32_1160 : BitVec 32 := 3#32
  let v2759 : BitVec 32 := Scalar.shrsi v2746 c3_i32_1160
  let c3_i32_1161 : BitVec 32 := 3#32
  let v2760 : BitVec 32 := Scalar.shli v2759 c3_i32_1161
  let c16_i32_1162 : BitVec 32 := 16#32
  let v2761 : BitVec 32 := Scalar.minsi v2760 c16_i32_1162
  let v2762 : BitVec 32 := v2761
  let v2771 : Index := Scalar.indexCast v2762
  let c0_1164 : Index := 0#32
  ![v2769.toNat, v2770.toNat, v2771.toNat, 0]

def k0_chk203 (v2745 : BitVec 32) (v2749 : BitVec 32) (v2764 : BitVec 32) : Prop :=
  (∀ a, (k0_off304 v2745 v2749 v2764) a + S1x1x32x256.size a ≤ S5x50x50x256.size a)
theorem k0_off304_inb : ∀ (v2745 : BitVec 32) (v2749 : BitVec 32) (v2764 : BitVec 32) (k0_hw203 : k0_chk203 v2745 v2749 v2764), ∀ a, (k0_off304 v2745 v2749 v2764) a + S1x1x32x256.size a ≤ S5x50x50x256.size a := fun v2745 v2749 v2764 k0_hw203 => k0_hw203

def k0_off305 (v2745 : BitVec 32) (v2749 : BitVec 32) (v2764 : BitVec 32) (v2767 : BitVec 32) : Fin 4 → Nat :=
  let v2774 : Index := Scalar.indexCast v2764
  let c4_i32_1155 : BitVec 32 := 4#32
  let v2750 : BitVec 32 := Scalar.shrsi v2749 c4_i32_1155
  let v2768 : BitVec 32 := Scalar.addi v2750 v2767
  let v2775 : Index := Scalar.indexCast v2768
  let c4_i32_1153 : BitVec 32 := 4#32
  let v2746 : BitVec 32 := Scalar.shrsi v2745 c4_i32_1153
  let c3_i32_1160 : BitVec 32 := 3#32
  let v2759 : BitVec 32 := Scalar.shrsi v2746 c3_i32_1160
  let c3_i32_1161 : BitVec 32 := 3#32
  let v2760 : BitVec 32 := Scalar.shli v2759 c3_i32_1161
  let c16_i32_1162 : BitVec 32 := 16#32
  let v2761 : BitVec 32 := Scalar.minsi v2760 c16_i32_1162
  let v2762 : BitVec 32 := v2761
  let v2776 : Index := Scalar.indexCast v2762
  let c0_1165 : Index := 0#32
  ![v2774.toNat, v2775.toNat, v2776.toNat, 0]

def k0_chk204 (v2745 : BitVec 32) (v2749 : BitVec 32) (v2764 : BitVec 32) (v2767 : BitVec 32) : Prop :=
  (∀ a, (k0_off305 v2745 v2749 v2764 v2767) a + S1x1x32x256.size a ≤ S5x50x50x256.size a)
theorem k0_off305_inb : ∀ (v2745 : BitVec 32) (v2749 : BitVec 32) (v2764 : BitVec 32) (v2767 : BitVec 32) (k0_hw204 : k0_chk204 v2745 v2749 v2764 v2767), ∀ a, (k0_off305 v2745 v2749 v2764 v2767) a + S1x1x32x256.size a ≤ S5x50x50x256.size a := fun v2745 v2749 v2764 v2767 k0_hw204 => k0_hw204

def k0_off306 : Fin 4 → Nat :=
  let c0_1168 : Index := 0#32
  let c0_i32 : BitVec 32 := 0#32
  let c128_i32_1149 : BitVec 32 := 128#32
  let v2738 : BitVec 32 := Scalar.muli c0_i32 c128_i32_1149
  let c50_i32 : BitVec 32 := 50#32
  let v2739 : BitVec 32 := Scalar.addi v2738 c50_i32
  let v2788 : Index := Scalar.indexCast v2739
  let c0_1169 : Index := 0#32
  let c0_1170 : Index := 0#32
  ![0, v2788.toNat, 0, 0]
def k0_off307 (i : grid0.Coords) (c0_i32_1174 : BitVec 32) : Fin 1 → Nat :=
  let arg0 : BitVec 32 := BitVec.ofNat 32 (i 0).val
  let c128_i32_1172 : BitVec 32 := 128#32
  let v2794 : BitVec 32 := Scalar.muli arg0 c128_i32_1172
  let c0_i32 : BitVec 32 := 0#32
  let c128_i32_1171 : BitVec 32 := 128#32
  let v2792 : BitVec 32 := Scalar.muli c0_i32 c128_i32_1171
  let c51_i32 : BitVec 32 := 51#32
  let v2793 : BitVec 32 := Scalar.addi v2792 c51_i32
  let v2795 : BitVec 32 := Scalar.addi v2794 v2793
  let c4_i32_1173 : BitVec 32 := 4#32
  let v2796 : BitVec 32 := Scalar.muli v2795 c4_i32_1173
  let v2797 : BitVec 32 := Scalar.addi v2796 c0_i32_1174
  let v2798 : Index := Scalar.indexCast v2797
  ![v2798.toNat]
def k0_mult52 (v2799 : BitVec 32) : BitVec 32 :=
  let c4_i32_1175 : BitVec 32 := 4#32
  let v2800 : BitVec 32 := Scalar.shrsi v2799 c4_i32_1175
  let c3_i32_1182 : BitVec 32 := 3#32
  let v2813 : BitVec 32 := Scalar.shrsi v2800 c3_i32_1182
  let c3_i32_1183 : BitVec 32 := 3#32
  let v2814 : BitVec 32 := Scalar.shli v2813 c3_i32_1183
  let c16_i32_1184 : BitVec 32 := 16#32
  let v2815 : BitVec 32 := Scalar.minsi v2814 c16_i32_1184
  v2815

def k0_chk205 (v2799 : BitVec 32) : Prop :=
  (8 ∣ (k0_mult52 v2799).toNat)
theorem k0_mult52_dvd : ∀ (v2799 : BitVec 32) (k0_hw205 : k0_chk205 v2799), 8 ∣ (k0_mult52 v2799).toNat := fun v2799 k0_hw205 => k0_hw205

def k0_off308 (v2811 : BitVec 32) : Fin 1 → Nat :=
  let c4_i32_1181 : BitVec 32 := 4#32
  let v2812 : BitVec 32 := Scalar.shrsi v2811 c4_i32_1181
  let v2817 : Index := Scalar.indexCast v2812
  ![v2817.toNat]

def k0_off309 (v2811 : BitVec 32) : Fin 1 → Nat :=
  let c32_i32_1185 : BitVec 32 := 32#32
  let c4_i32_1181 : BitVec 32 := 4#32
  let v2812 : BitVec 32 := Scalar.shrsi v2811 c4_i32_1181
  let v2819 : BitVec 32 := Scalar.addi c32_i32_1185 v2812
  let v2820 : Index := Scalar.indexCast v2819
  ![v2820.toNat]

def k0_chk206 (v2811 : BitVec 32) : Prop :=
  (∀ a, (k0_off308 v2811) a + S1.size a ≤ S64.size a) ∧
  (∀ a, (k0_off309 v2811) a + S1.size a ≤ S64.size a)
theorem k0_off308_inb : ∀ (v2811 : BitVec 32) (k0_hw206 : k0_chk206 v2811), ∀ a, (k0_off308 v2811) a + S1.size a ≤ S64.size a := fun v2811 k0_hw206 => k0_hw206.1
theorem k0_off309_inb : ∀ (v2811 : BitVec 32) (k0_hw206 : k0_chk206 v2811), ∀ a, (k0_off309 v2811) a + S1.size a ≤ S64.size a := fun v2811 k0_hw206 => k0_hw206.2

def k0_off310 (v2799 : BitVec 32) (v2803 : BitVec 32) (v2818 : BitVec 32) : Fin 4 → Nat :=
  let v2823 : Index := Scalar.indexCast v2818
  let c4_i32_1177 : BitVec 32 := 4#32
  let v2804 : BitVec 32 := Scalar.shrsi v2803 c4_i32_1177
  let v2824 : Index := Scalar.indexCast v2804
  let c4_i32_1175 : BitVec 32 := 4#32
  let v2800 : BitVec 32 := Scalar.shrsi v2799 c4_i32_1175
  let c3_i32_1182 : BitVec 32 := 3#32
  let v2813 : BitVec 32 := Scalar.shrsi v2800 c3_i32_1182
  let c3_i32_1183 : BitVec 32 := 3#32
  let v2814 : BitVec 32 := Scalar.shli v2813 c3_i32_1183
  let c16_i32_1184 : BitVec 32 := 16#32
  let v2815 : BitVec 32 := Scalar.minsi v2814 c16_i32_1184
  let v2816 : BitVec 32 := v2815
  let v2825 : Index := Scalar.indexCast v2816
  let c0_1186 : Index := 0#32
  ![v2823.toNat, v2824.toNat, v2825.toNat, 0]

def k0_chk207 (v2799 : BitVec 32) (v2803 : BitVec 32) (v2818 : BitVec 32) : Prop :=
  (∀ a, (k0_off310 v2799 v2803 v2818) a + S1x1x32x256.size a ≤ S5x50x50x256.size a)
theorem k0_off310_inb : ∀ (v2799 : BitVec 32) (v2803 : BitVec 32) (v2818 : BitVec 32) (k0_hw207 : k0_chk207 v2799 v2803 v2818), ∀ a, (k0_off310 v2799 v2803 v2818) a + S1x1x32x256.size a ≤ S5x50x50x256.size a := fun v2799 v2803 v2818 k0_hw207 => k0_hw207

def k0_off311 (v2799 : BitVec 32) (v2803 : BitVec 32) (v2818 : BitVec 32) (v2821 : BitVec 32) : Fin 4 → Nat :=
  let v2828 : Index := Scalar.indexCast v2818
  let c4_i32_1177 : BitVec 32 := 4#32
  let v2804 : BitVec 32 := Scalar.shrsi v2803 c4_i32_1177
  let v2822 : BitVec 32 := Scalar.addi v2804 v2821
  let v2829 : Index := Scalar.indexCast v2822
  let c4_i32_1175 : BitVec 32 := 4#32
  let v2800 : BitVec 32 := Scalar.shrsi v2799 c4_i32_1175
  let c3_i32_1182 : BitVec 32 := 3#32
  let v2813 : BitVec 32 := Scalar.shrsi v2800 c3_i32_1182
  let c3_i32_1183 : BitVec 32 := 3#32
  let v2814 : BitVec 32 := Scalar.shli v2813 c3_i32_1183
  let c16_i32_1184 : BitVec 32 := 16#32
  let v2815 : BitVec 32 := Scalar.minsi v2814 c16_i32_1184
  let v2816 : BitVec 32 := v2815
  let v2830 : Index := Scalar.indexCast v2816
  let c0_1187 : Index := 0#32
  ![v2828.toNat, v2829.toNat, v2830.toNat, 0]

def k0_chk208 (v2799 : BitVec 32) (v2803 : BitVec 32) (v2818 : BitVec 32) (v2821 : BitVec 32) : Prop :=
  (∀ a, (k0_off311 v2799 v2803 v2818 v2821) a + S1x1x32x256.size a ≤ S5x50x50x256.size a)
theorem k0_off311_inb : ∀ (v2799 : BitVec 32) (v2803 : BitVec 32) (v2818 : BitVec 32) (v2821 : BitVec 32) (k0_hw208 : k0_chk208 v2799 v2803 v2818 v2821), ∀ a, (k0_off311 v2799 v2803 v2818 v2821) a + S1x1x32x256.size a ≤ S5x50x50x256.size a := fun v2799 v2803 v2818 v2821 k0_hw208 => k0_hw208

def k0_off312 : Fin 4 → Nat :=
  let c0_1190 : Index := 0#32
  let c0_i32 : BitVec 32 := 0#32
  let c128_i32_1171 : BitVec 32 := 128#32
  let v2792 : BitVec 32 := Scalar.muli c0_i32 c128_i32_1171
  let c51_i32 : BitVec 32 := 51#32
  let v2793 : BitVec 32 := Scalar.addi v2792 c51_i32
  let v2842 : Index := Scalar.indexCast v2793
  let c0_1191 : Index := 0#32
  let c0_1192 : Index := 0#32
  ![0, v2842.toNat, 0, 0]
def k0_off313 (i : grid0.Coords) (c0_i32_1196 : BitVec 32) : Fin 1 → Nat :=
  let arg0 : BitVec 32 := BitVec.ofNat 32 (i 0).val
  let c128_i32_1194 : BitVec 32 := 128#32
  let v2848 : BitVec 32 := Scalar.muli arg0 c128_i32_1194
  let c0_i32 : BitVec 32 := 0#32
  let c128_i32_1193 : BitVec 32 := 128#32
  let v2846 : BitVec 32 := Scalar.muli c0_i32 c128_i32_1193
  let c52_i32 : BitVec 32 := 52#32
  let v2847 : BitVec 32 := Scalar.addi v2846 c52_i32
  let v2849 : BitVec 32 := Scalar.addi v2848 v2847
  let c4_i32_1195 : BitVec 32 := 4#32
  let v2850 : BitVec 32 := Scalar.muli v2849 c4_i32_1195
  let v2851 : BitVec 32 := Scalar.addi v2850 c0_i32_1196
  let v2852 : Index := Scalar.indexCast v2851
  ![v2852.toNat]
def k0_mult53 (v2853 : BitVec 32) : BitVec 32 :=
  let c4_i32_1197 : BitVec 32 := 4#32
  let v2854 : BitVec 32 := Scalar.shrsi v2853 c4_i32_1197
  let c3_i32_1204 : BitVec 32 := 3#32
  let v2867 : BitVec 32 := Scalar.shrsi v2854 c3_i32_1204
  let c3_i32_1205 : BitVec 32 := 3#32
  let v2868 : BitVec 32 := Scalar.shli v2867 c3_i32_1205
  let c16_i32_1206 : BitVec 32 := 16#32
  let v2869 : BitVec 32 := Scalar.minsi v2868 c16_i32_1206
  v2869

def k0_chk209 (v2853 : BitVec 32) : Prop :=
  (8 ∣ (k0_mult53 v2853).toNat)
theorem k0_mult53_dvd : ∀ (v2853 : BitVec 32) (k0_hw209 : k0_chk209 v2853), 8 ∣ (k0_mult53 v2853).toNat := fun v2853 k0_hw209 => k0_hw209

def k0_off314 (v2865 : BitVec 32) : Fin 1 → Nat :=
  let c4_i32_1203 : BitVec 32 := 4#32
  let v2866 : BitVec 32 := Scalar.shrsi v2865 c4_i32_1203
  let v2871 : Index := Scalar.indexCast v2866
  ![v2871.toNat]

def k0_off315 (v2865 : BitVec 32) : Fin 1 → Nat :=
  let c32_i32_1207 : BitVec 32 := 32#32
  let c4_i32_1203 : BitVec 32 := 4#32
  let v2866 : BitVec 32 := Scalar.shrsi v2865 c4_i32_1203
  let v2873 : BitVec 32 := Scalar.addi c32_i32_1207 v2866
  let v2874 : Index := Scalar.indexCast v2873
  ![v2874.toNat]

def k0_chk210 (v2865 : BitVec 32) : Prop :=
  (∀ a, (k0_off314 v2865) a + S1.size a ≤ S64.size a) ∧
  (∀ a, (k0_off315 v2865) a + S1.size a ≤ S64.size a)
theorem k0_off314_inb : ∀ (v2865 : BitVec 32) (k0_hw210 : k0_chk210 v2865), ∀ a, (k0_off314 v2865) a + S1.size a ≤ S64.size a := fun v2865 k0_hw210 => k0_hw210.1
theorem k0_off315_inb : ∀ (v2865 : BitVec 32) (k0_hw210 : k0_chk210 v2865), ∀ a, (k0_off315 v2865) a + S1.size a ≤ S64.size a := fun v2865 k0_hw210 => k0_hw210.2

def k0_off316 (v2853 : BitVec 32) (v2857 : BitVec 32) (v2872 : BitVec 32) : Fin 4 → Nat :=
  let v2877 : Index := Scalar.indexCast v2872
  let c4_i32_1199 : BitVec 32 := 4#32
  let v2858 : BitVec 32 := Scalar.shrsi v2857 c4_i32_1199
  let v2878 : Index := Scalar.indexCast v2858
  let c4_i32_1197 : BitVec 32 := 4#32
  let v2854 : BitVec 32 := Scalar.shrsi v2853 c4_i32_1197
  let c3_i32_1204 : BitVec 32 := 3#32
  let v2867 : BitVec 32 := Scalar.shrsi v2854 c3_i32_1204
  let c3_i32_1205 : BitVec 32 := 3#32
  let v2868 : BitVec 32 := Scalar.shli v2867 c3_i32_1205
  let c16_i32_1206 : BitVec 32 := 16#32
  let v2869 : BitVec 32 := Scalar.minsi v2868 c16_i32_1206
  let v2870 : BitVec 32 := v2869
  let v2879 : Index := Scalar.indexCast v2870
  let c0_1208 : Index := 0#32
  ![v2877.toNat, v2878.toNat, v2879.toNat, 0]

def k0_chk211 (v2853 : BitVec 32) (v2857 : BitVec 32) (v2872 : BitVec 32) : Prop :=
  (∀ a, (k0_off316 v2853 v2857 v2872) a + S1x1x32x256.size a ≤ S5x50x50x256.size a)
theorem k0_off316_inb : ∀ (v2853 : BitVec 32) (v2857 : BitVec 32) (v2872 : BitVec 32) (k0_hw211 : k0_chk211 v2853 v2857 v2872), ∀ a, (k0_off316 v2853 v2857 v2872) a + S1x1x32x256.size a ≤ S5x50x50x256.size a := fun v2853 v2857 v2872 k0_hw211 => k0_hw211

def k0_off317 (v2853 : BitVec 32) (v2857 : BitVec 32) (v2872 : BitVec 32) (v2875 : BitVec 32) : Fin 4 → Nat :=
  let v2882 : Index := Scalar.indexCast v2872
  let c4_i32_1199 : BitVec 32 := 4#32
  let v2858 : BitVec 32 := Scalar.shrsi v2857 c4_i32_1199
  let v2876 : BitVec 32 := Scalar.addi v2858 v2875
  let v2883 : Index := Scalar.indexCast v2876
  let c4_i32_1197 : BitVec 32 := 4#32
  let v2854 : BitVec 32 := Scalar.shrsi v2853 c4_i32_1197
  let c3_i32_1204 : BitVec 32 := 3#32
  let v2867 : BitVec 32 := Scalar.shrsi v2854 c3_i32_1204
  let c3_i32_1205 : BitVec 32 := 3#32
  let v2868 : BitVec 32 := Scalar.shli v2867 c3_i32_1205
  let c16_i32_1206 : BitVec 32 := 16#32
  let v2869 : BitVec 32 := Scalar.minsi v2868 c16_i32_1206
  let v2870 : BitVec 32 := v2869
  let v2884 : Index := Scalar.indexCast v2870
  let c0_1209 : Index := 0#32
  ![v2882.toNat, v2883.toNat, v2884.toNat, 0]

def k0_chk212 (v2853 : BitVec 32) (v2857 : BitVec 32) (v2872 : BitVec 32) (v2875 : BitVec 32) : Prop :=
  (∀ a, (k0_off317 v2853 v2857 v2872 v2875) a + S1x1x32x256.size a ≤ S5x50x50x256.size a)
theorem k0_off317_inb : ∀ (v2853 : BitVec 32) (v2857 : BitVec 32) (v2872 : BitVec 32) (v2875 : BitVec 32) (k0_hw212 : k0_chk212 v2853 v2857 v2872 v2875), ∀ a, (k0_off317 v2853 v2857 v2872 v2875) a + S1x1x32x256.size a ≤ S5x50x50x256.size a := fun v2853 v2857 v2872 v2875 k0_hw212 => k0_hw212

def k0_off318 : Fin 4 → Nat :=
  let c0_1212 : Index := 0#32
  let c0_i32 : BitVec 32 := 0#32
  let c128_i32_1193 : BitVec 32 := 128#32
  let v2846 : BitVec 32 := Scalar.muli c0_i32 c128_i32_1193
  let c52_i32 : BitVec 32 := 52#32
  let v2847 : BitVec 32 := Scalar.addi v2846 c52_i32
  let v2896 : Index := Scalar.indexCast v2847
  let c0_1213 : Index := 0#32
  let c0_1214 : Index := 0#32
  ![0, v2896.toNat, 0, 0]
def k0_off319 (i : grid0.Coords) (c0_i32_1218 : BitVec 32) : Fin 1 → Nat :=
  let arg0 : BitVec 32 := BitVec.ofNat 32 (i 0).val
  let c128_i32_1216 : BitVec 32 := 128#32
  let v2902 : BitVec 32 := Scalar.muli arg0 c128_i32_1216
  let c0_i32 : BitVec 32 := 0#32
  let c128_i32_1215 : BitVec 32 := 128#32
  let v2900 : BitVec 32 := Scalar.muli c0_i32 c128_i32_1215
  let c53_i32 : BitVec 32 := 53#32
  let v2901 : BitVec 32 := Scalar.addi v2900 c53_i32
  let v2903 : BitVec 32 := Scalar.addi v2902 v2901
  let c4_i32_1217 : BitVec 32 := 4#32
  let v2904 : BitVec 32 := Scalar.muli v2903 c4_i32_1217
  let v2905 : BitVec 32 := Scalar.addi v2904 c0_i32_1218
  let v2906 : Index := Scalar.indexCast v2905
  ![v2906.toNat]
def k0_mult54 (v2907 : BitVec 32) : BitVec 32 :=
  let c4_i32_1219 : BitVec 32 := 4#32
  let v2908 : BitVec 32 := Scalar.shrsi v2907 c4_i32_1219
  let c3_i32_1226 : BitVec 32 := 3#32
  let v2921 : BitVec 32 := Scalar.shrsi v2908 c3_i32_1226
  let c3_i32_1227 : BitVec 32 := 3#32
  let v2922 : BitVec 32 := Scalar.shli v2921 c3_i32_1227
  let c16_i32_1228 : BitVec 32 := 16#32
  let v2923 : BitVec 32 := Scalar.minsi v2922 c16_i32_1228
  v2923

def k0_chk213 (v2907 : BitVec 32) : Prop :=
  (8 ∣ (k0_mult54 v2907).toNat)
theorem k0_mult54_dvd : ∀ (v2907 : BitVec 32) (k0_hw213 : k0_chk213 v2907), 8 ∣ (k0_mult54 v2907).toNat := fun v2907 k0_hw213 => k0_hw213

def k0_off320 (v2919 : BitVec 32) : Fin 1 → Nat :=
  let c4_i32_1225 : BitVec 32 := 4#32
  let v2920 : BitVec 32 := Scalar.shrsi v2919 c4_i32_1225
  let v2925 : Index := Scalar.indexCast v2920
  ![v2925.toNat]

def k0_off321 (v2919 : BitVec 32) : Fin 1 → Nat :=
  let c32_i32_1229 : BitVec 32 := 32#32
  let c4_i32_1225 : BitVec 32 := 4#32
  let v2920 : BitVec 32 := Scalar.shrsi v2919 c4_i32_1225
  let v2927 : BitVec 32 := Scalar.addi c32_i32_1229 v2920
  let v2928 : Index := Scalar.indexCast v2927
  ![v2928.toNat]

def k0_chk214 (v2919 : BitVec 32) : Prop :=
  (∀ a, (k0_off320 v2919) a + S1.size a ≤ S64.size a) ∧
  (∀ a, (k0_off321 v2919) a + S1.size a ≤ S64.size a)
theorem k0_off320_inb : ∀ (v2919 : BitVec 32) (k0_hw214 : k0_chk214 v2919), ∀ a, (k0_off320 v2919) a + S1.size a ≤ S64.size a := fun v2919 k0_hw214 => k0_hw214.1
theorem k0_off321_inb : ∀ (v2919 : BitVec 32) (k0_hw214 : k0_chk214 v2919), ∀ a, (k0_off321 v2919) a + S1.size a ≤ S64.size a := fun v2919 k0_hw214 => k0_hw214.2

def k0_off322 (v2907 : BitVec 32) (v2911 : BitVec 32) (v2926 : BitVec 32) : Fin 4 → Nat :=
  let v2931 : Index := Scalar.indexCast v2926
  let c4_i32_1221 : BitVec 32 := 4#32
  let v2912 : BitVec 32 := Scalar.shrsi v2911 c4_i32_1221
  let v2932 : Index := Scalar.indexCast v2912
  let c4_i32_1219 : BitVec 32 := 4#32
  let v2908 : BitVec 32 := Scalar.shrsi v2907 c4_i32_1219
  let c3_i32_1226 : BitVec 32 := 3#32
  let v2921 : BitVec 32 := Scalar.shrsi v2908 c3_i32_1226
  let c3_i32_1227 : BitVec 32 := 3#32
  let v2922 : BitVec 32 := Scalar.shli v2921 c3_i32_1227
  let c16_i32_1228 : BitVec 32 := 16#32
  let v2923 : BitVec 32 := Scalar.minsi v2922 c16_i32_1228
  let v2924 : BitVec 32 := v2923
  let v2933 : Index := Scalar.indexCast v2924
  let c0_1230 : Index := 0#32
  ![v2931.toNat, v2932.toNat, v2933.toNat, 0]

def k0_chk215 (v2907 : BitVec 32) (v2911 : BitVec 32) (v2926 : BitVec 32) : Prop :=
  (∀ a, (k0_off322 v2907 v2911 v2926) a + S1x1x32x256.size a ≤ S5x50x50x256.size a)
theorem k0_off322_inb : ∀ (v2907 : BitVec 32) (v2911 : BitVec 32) (v2926 : BitVec 32) (k0_hw215 : k0_chk215 v2907 v2911 v2926), ∀ a, (k0_off322 v2907 v2911 v2926) a + S1x1x32x256.size a ≤ S5x50x50x256.size a := fun v2907 v2911 v2926 k0_hw215 => k0_hw215

def k0_off323 (v2907 : BitVec 32) (v2911 : BitVec 32) (v2926 : BitVec 32) (v2929 : BitVec 32) : Fin 4 → Nat :=
  let v2936 : Index := Scalar.indexCast v2926
  let c4_i32_1221 : BitVec 32 := 4#32
  let v2912 : BitVec 32 := Scalar.shrsi v2911 c4_i32_1221
  let v2930 : BitVec 32 := Scalar.addi v2912 v2929
  let v2937 : Index := Scalar.indexCast v2930
  let c4_i32_1219 : BitVec 32 := 4#32
  let v2908 : BitVec 32 := Scalar.shrsi v2907 c4_i32_1219
  let c3_i32_1226 : BitVec 32 := 3#32
  let v2921 : BitVec 32 := Scalar.shrsi v2908 c3_i32_1226
  let c3_i32_1227 : BitVec 32 := 3#32
  let v2922 : BitVec 32 := Scalar.shli v2921 c3_i32_1227
  let c16_i32_1228 : BitVec 32 := 16#32
  let v2923 : BitVec 32 := Scalar.minsi v2922 c16_i32_1228
  let v2924 : BitVec 32 := v2923
  let v2938 : Index := Scalar.indexCast v2924
  let c0_1231 : Index := 0#32
  ![v2936.toNat, v2937.toNat, v2938.toNat, 0]

def k0_chk216 (v2907 : BitVec 32) (v2911 : BitVec 32) (v2926 : BitVec 32) (v2929 : BitVec 32) : Prop :=
  (∀ a, (k0_off323 v2907 v2911 v2926 v2929) a + S1x1x32x256.size a ≤ S5x50x50x256.size a)
theorem k0_off323_inb : ∀ (v2907 : BitVec 32) (v2911 : BitVec 32) (v2926 : BitVec 32) (v2929 : BitVec 32) (k0_hw216 : k0_chk216 v2907 v2911 v2926 v2929), ∀ a, (k0_off323 v2907 v2911 v2926 v2929) a + S1x1x32x256.size a ≤ S5x50x50x256.size a := fun v2907 v2911 v2926 v2929 k0_hw216 => k0_hw216

def k0_off324 : Fin 4 → Nat :=
  let c0_1234 : Index := 0#32
  let c0_i32 : BitVec 32 := 0#32
  let c128_i32_1215 : BitVec 32 := 128#32
  let v2900 : BitVec 32 := Scalar.muli c0_i32 c128_i32_1215
  let c53_i32 : BitVec 32 := 53#32
  let v2901 : BitVec 32 := Scalar.addi v2900 c53_i32
  let v2950 : Index := Scalar.indexCast v2901
  let c0_1235 : Index := 0#32
  let c0_1236 : Index := 0#32
  ![0, v2950.toNat, 0, 0]
def k0_off325 (i : grid0.Coords) (c0_i32_1240 : BitVec 32) : Fin 1 → Nat :=
  let arg0 : BitVec 32 := BitVec.ofNat 32 (i 0).val
  let c128_i32_1238 : BitVec 32 := 128#32
  let v2956 : BitVec 32 := Scalar.muli arg0 c128_i32_1238
  let c0_i32 : BitVec 32 := 0#32
  let c128_i32_1237 : BitVec 32 := 128#32
  let v2954 : BitVec 32 := Scalar.muli c0_i32 c128_i32_1237
  let c54_i32 : BitVec 32 := 54#32
  let v2955 : BitVec 32 := Scalar.addi v2954 c54_i32
  let v2957 : BitVec 32 := Scalar.addi v2956 v2955
  let c4_i32_1239 : BitVec 32 := 4#32
  let v2958 : BitVec 32 := Scalar.muli v2957 c4_i32_1239
  let v2959 : BitVec 32 := Scalar.addi v2958 c0_i32_1240
  let v2960 : Index := Scalar.indexCast v2959
  ![v2960.toNat]
def k0_mult55 (v2961 : BitVec 32) : BitVec 32 :=
  let c4_i32_1241 : BitVec 32 := 4#32
  let v2962 : BitVec 32 := Scalar.shrsi v2961 c4_i32_1241
  let c3_i32_1248 : BitVec 32 := 3#32
  let v2975 : BitVec 32 := Scalar.shrsi v2962 c3_i32_1248
  let c3_i32_1249 : BitVec 32 := 3#32
  let v2976 : BitVec 32 := Scalar.shli v2975 c3_i32_1249
  let c16_i32_1250 : BitVec 32 := 16#32
  let v2977 : BitVec 32 := Scalar.minsi v2976 c16_i32_1250
  v2977

def k0_chk217 (v2961 : BitVec 32) : Prop :=
  (8 ∣ (k0_mult55 v2961).toNat)
theorem k0_mult55_dvd : ∀ (v2961 : BitVec 32) (k0_hw217 : k0_chk217 v2961), 8 ∣ (k0_mult55 v2961).toNat := fun v2961 k0_hw217 => k0_hw217

def k0_off326 (v2973 : BitVec 32) : Fin 1 → Nat :=
  let c4_i32_1247 : BitVec 32 := 4#32
  let v2974 : BitVec 32 := Scalar.shrsi v2973 c4_i32_1247
  let v2979 : Index := Scalar.indexCast v2974
  ![v2979.toNat]

def k0_off327 (v2973 : BitVec 32) : Fin 1 → Nat :=
  let c32_i32_1251 : BitVec 32 := 32#32
  let c4_i32_1247 : BitVec 32 := 4#32
  let v2974 : BitVec 32 := Scalar.shrsi v2973 c4_i32_1247
  let v2981 : BitVec 32 := Scalar.addi c32_i32_1251 v2974
  let v2982 : Index := Scalar.indexCast v2981
  ![v2982.toNat]

def k0_chk218 (v2973 : BitVec 32) : Prop :=
  (∀ a, (k0_off326 v2973) a + S1.size a ≤ S64.size a) ∧
  (∀ a, (k0_off327 v2973) a + S1.size a ≤ S64.size a)
theorem k0_off326_inb : ∀ (v2973 : BitVec 32) (k0_hw218 : k0_chk218 v2973), ∀ a, (k0_off326 v2973) a + S1.size a ≤ S64.size a := fun v2973 k0_hw218 => k0_hw218.1
theorem k0_off327_inb : ∀ (v2973 : BitVec 32) (k0_hw218 : k0_chk218 v2973), ∀ a, (k0_off327 v2973) a + S1.size a ≤ S64.size a := fun v2973 k0_hw218 => k0_hw218.2

def k0_off328 (v2961 : BitVec 32) (v2965 : BitVec 32) (v2980 : BitVec 32) : Fin 4 → Nat :=
  let v2985 : Index := Scalar.indexCast v2980
  let c4_i32_1243 : BitVec 32 := 4#32
  let v2966 : BitVec 32 := Scalar.shrsi v2965 c4_i32_1243
  let v2986 : Index := Scalar.indexCast v2966
  let c4_i32_1241 : BitVec 32 := 4#32
  let v2962 : BitVec 32 := Scalar.shrsi v2961 c4_i32_1241
  let c3_i32_1248 : BitVec 32 := 3#32
  let v2975 : BitVec 32 := Scalar.shrsi v2962 c3_i32_1248
  let c3_i32_1249 : BitVec 32 := 3#32
  let v2976 : BitVec 32 := Scalar.shli v2975 c3_i32_1249
  let c16_i32_1250 : BitVec 32 := 16#32
  let v2977 : BitVec 32 := Scalar.minsi v2976 c16_i32_1250
  let v2978 : BitVec 32 := v2977
  let v2987 : Index := Scalar.indexCast v2978
  let c0_1252 : Index := 0#32
  ![v2985.toNat, v2986.toNat, v2987.toNat, 0]

def k0_chk219 (v2961 : BitVec 32) (v2965 : BitVec 32) (v2980 : BitVec 32) : Prop :=
  (∀ a, (k0_off328 v2961 v2965 v2980) a + S1x1x32x256.size a ≤ S5x50x50x256.size a)
theorem k0_off328_inb : ∀ (v2961 : BitVec 32) (v2965 : BitVec 32) (v2980 : BitVec 32) (k0_hw219 : k0_chk219 v2961 v2965 v2980), ∀ a, (k0_off328 v2961 v2965 v2980) a + S1x1x32x256.size a ≤ S5x50x50x256.size a := fun v2961 v2965 v2980 k0_hw219 => k0_hw219

def k0_off329 (v2961 : BitVec 32) (v2965 : BitVec 32) (v2980 : BitVec 32) (v2983 : BitVec 32) : Fin 4 → Nat :=
  let v2990 : Index := Scalar.indexCast v2980
  let c4_i32_1243 : BitVec 32 := 4#32
  let v2966 : BitVec 32 := Scalar.shrsi v2965 c4_i32_1243
  let v2984 : BitVec 32 := Scalar.addi v2966 v2983
  let v2991 : Index := Scalar.indexCast v2984
  let c4_i32_1241 : BitVec 32 := 4#32
  let v2962 : BitVec 32 := Scalar.shrsi v2961 c4_i32_1241
  let c3_i32_1248 : BitVec 32 := 3#32
  let v2975 : BitVec 32 := Scalar.shrsi v2962 c3_i32_1248
  let c3_i32_1249 : BitVec 32 := 3#32
  let v2976 : BitVec 32 := Scalar.shli v2975 c3_i32_1249
  let c16_i32_1250 : BitVec 32 := 16#32
  let v2977 : BitVec 32 := Scalar.minsi v2976 c16_i32_1250
  let v2978 : BitVec 32 := v2977
  let v2992 : Index := Scalar.indexCast v2978
  let c0_1253 : Index := 0#32
  ![v2990.toNat, v2991.toNat, v2992.toNat, 0]

def k0_chk220 (v2961 : BitVec 32) (v2965 : BitVec 32) (v2980 : BitVec 32) (v2983 : BitVec 32) : Prop :=
  (∀ a, (k0_off329 v2961 v2965 v2980 v2983) a + S1x1x32x256.size a ≤ S5x50x50x256.size a)
theorem k0_off329_inb : ∀ (v2961 : BitVec 32) (v2965 : BitVec 32) (v2980 : BitVec 32) (v2983 : BitVec 32) (k0_hw220 : k0_chk220 v2961 v2965 v2980 v2983), ∀ a, (k0_off329 v2961 v2965 v2980 v2983) a + S1x1x32x256.size a ≤ S5x50x50x256.size a := fun v2961 v2965 v2980 v2983 k0_hw220 => k0_hw220

def k0_off330 : Fin 4 → Nat :=
  let c0_1256 : Index := 0#32
  let c0_i32 : BitVec 32 := 0#32
  let c128_i32_1237 : BitVec 32 := 128#32
  let v2954 : BitVec 32 := Scalar.muli c0_i32 c128_i32_1237
  let c54_i32 : BitVec 32 := 54#32
  let v2955 : BitVec 32 := Scalar.addi v2954 c54_i32
  let v3004 : Index := Scalar.indexCast v2955
  let c0_1257 : Index := 0#32
  let c0_1258 : Index := 0#32
  ![0, v3004.toNat, 0, 0]
def k0_off331 (i : grid0.Coords) (c0_i32_1262 : BitVec 32) : Fin 1 → Nat :=
  let arg0 : BitVec 32 := BitVec.ofNat 32 (i 0).val
  let c128_i32_1260 : BitVec 32 := 128#32
  let v3010 : BitVec 32 := Scalar.muli arg0 c128_i32_1260
  let c0_i32 : BitVec 32 := 0#32
  let c128_i32_1259 : BitVec 32 := 128#32
  let v3008 : BitVec 32 := Scalar.muli c0_i32 c128_i32_1259
  let c55_i32 : BitVec 32 := 55#32
  let v3009 : BitVec 32 := Scalar.addi v3008 c55_i32
  let v3011 : BitVec 32 := Scalar.addi v3010 v3009
  let c4_i32_1261 : BitVec 32 := 4#32
  let v3012 : BitVec 32 := Scalar.muli v3011 c4_i32_1261
  let v3013 : BitVec 32 := Scalar.addi v3012 c0_i32_1262
  let v3014 : Index := Scalar.indexCast v3013
  ![v3014.toNat]
def k0_mult56 (v3015 : BitVec 32) : BitVec 32 :=
  let c4_i32_1263 : BitVec 32 := 4#32
  let v3016 : BitVec 32 := Scalar.shrsi v3015 c4_i32_1263
  let c3_i32_1270 : BitVec 32 := 3#32
  let v3029 : BitVec 32 := Scalar.shrsi v3016 c3_i32_1270
  let c3_i32_1271 : BitVec 32 := 3#32
  let v3030 : BitVec 32 := Scalar.shli v3029 c3_i32_1271
  let c16_i32_1272 : BitVec 32 := 16#32
  let v3031 : BitVec 32 := Scalar.minsi v3030 c16_i32_1272
  v3031

def k0_chk221 (v3015 : BitVec 32) : Prop :=
  (8 ∣ (k0_mult56 v3015).toNat)
theorem k0_mult56_dvd : ∀ (v3015 : BitVec 32) (k0_hw221 : k0_chk221 v3015), 8 ∣ (k0_mult56 v3015).toNat := fun v3015 k0_hw221 => k0_hw221

def k0_off332 (v3027 : BitVec 32) : Fin 1 → Nat :=
  let c4_i32_1269 : BitVec 32 := 4#32
  let v3028 : BitVec 32 := Scalar.shrsi v3027 c4_i32_1269
  let v3033 : Index := Scalar.indexCast v3028
  ![v3033.toNat]

def k0_off333 (v3027 : BitVec 32) : Fin 1 → Nat :=
  let c32_i32_1273 : BitVec 32 := 32#32
  let c4_i32_1269 : BitVec 32 := 4#32
  let v3028 : BitVec 32 := Scalar.shrsi v3027 c4_i32_1269
  let v3035 : BitVec 32 := Scalar.addi c32_i32_1273 v3028
  let v3036 : Index := Scalar.indexCast v3035
  ![v3036.toNat]

def k0_chk222 (v3027 : BitVec 32) : Prop :=
  (∀ a, (k0_off332 v3027) a + S1.size a ≤ S64.size a) ∧
  (∀ a, (k0_off333 v3027) a + S1.size a ≤ S64.size a)
theorem k0_off332_inb : ∀ (v3027 : BitVec 32) (k0_hw222 : k0_chk222 v3027), ∀ a, (k0_off332 v3027) a + S1.size a ≤ S64.size a := fun v3027 k0_hw222 => k0_hw222.1
theorem k0_off333_inb : ∀ (v3027 : BitVec 32) (k0_hw222 : k0_chk222 v3027), ∀ a, (k0_off333 v3027) a + S1.size a ≤ S64.size a := fun v3027 k0_hw222 => k0_hw222.2

def k0_off334 (v3015 : BitVec 32) (v3019 : BitVec 32) (v3034 : BitVec 32) : Fin 4 → Nat :=
  let v3039 : Index := Scalar.indexCast v3034
  let c4_i32_1265 : BitVec 32 := 4#32
  let v3020 : BitVec 32 := Scalar.shrsi v3019 c4_i32_1265
  let v3040 : Index := Scalar.indexCast v3020
  let c4_i32_1263 : BitVec 32 := 4#32
  let v3016 : BitVec 32 := Scalar.shrsi v3015 c4_i32_1263
  let c3_i32_1270 : BitVec 32 := 3#32
  let v3029 : BitVec 32 := Scalar.shrsi v3016 c3_i32_1270
  let c3_i32_1271 : BitVec 32 := 3#32
  let v3030 : BitVec 32 := Scalar.shli v3029 c3_i32_1271
  let c16_i32_1272 : BitVec 32 := 16#32
  let v3031 : BitVec 32 := Scalar.minsi v3030 c16_i32_1272
  let v3032 : BitVec 32 := v3031
  let v3041 : Index := Scalar.indexCast v3032
  let c0_1274 : Index := 0#32
  ![v3039.toNat, v3040.toNat, v3041.toNat, 0]

def k0_chk223 (v3015 : BitVec 32) (v3019 : BitVec 32) (v3034 : BitVec 32) : Prop :=
  (∀ a, (k0_off334 v3015 v3019 v3034) a + S1x1x32x256.size a ≤ S5x50x50x256.size a)
theorem k0_off334_inb : ∀ (v3015 : BitVec 32) (v3019 : BitVec 32) (v3034 : BitVec 32) (k0_hw223 : k0_chk223 v3015 v3019 v3034), ∀ a, (k0_off334 v3015 v3019 v3034) a + S1x1x32x256.size a ≤ S5x50x50x256.size a := fun v3015 v3019 v3034 k0_hw223 => k0_hw223

def k0_off335 (v3015 : BitVec 32) (v3019 : BitVec 32) (v3034 : BitVec 32) (v3037 : BitVec 32) : Fin 4 → Nat :=
  let v3044 : Index := Scalar.indexCast v3034
  let c4_i32_1265 : BitVec 32 := 4#32
  let v3020 : BitVec 32 := Scalar.shrsi v3019 c4_i32_1265
  let v3038 : BitVec 32 := Scalar.addi v3020 v3037
  let v3045 : Index := Scalar.indexCast v3038
  let c4_i32_1263 : BitVec 32 := 4#32
  let v3016 : BitVec 32 := Scalar.shrsi v3015 c4_i32_1263
  let c3_i32_1270 : BitVec 32 := 3#32
  let v3029 : BitVec 32 := Scalar.shrsi v3016 c3_i32_1270
  let c3_i32_1271 : BitVec 32 := 3#32
  let v3030 : BitVec 32 := Scalar.shli v3029 c3_i32_1271
  let c16_i32_1272 : BitVec 32 := 16#32
  let v3031 : BitVec 32 := Scalar.minsi v3030 c16_i32_1272
  let v3032 : BitVec 32 := v3031
  let v3046 : Index := Scalar.indexCast v3032
  let c0_1275 : Index := 0#32
  ![v3044.toNat, v3045.toNat, v3046.toNat, 0]

def k0_chk224 (v3015 : BitVec 32) (v3019 : BitVec 32) (v3034 : BitVec 32) (v3037 : BitVec 32) : Prop :=
  (∀ a, (k0_off335 v3015 v3019 v3034 v3037) a + S1x1x32x256.size a ≤ S5x50x50x256.size a)
theorem k0_off335_inb : ∀ (v3015 : BitVec 32) (v3019 : BitVec 32) (v3034 : BitVec 32) (v3037 : BitVec 32) (k0_hw224 : k0_chk224 v3015 v3019 v3034 v3037), ∀ a, (k0_off335 v3015 v3019 v3034 v3037) a + S1x1x32x256.size a ≤ S5x50x50x256.size a := fun v3015 v3019 v3034 v3037 k0_hw224 => k0_hw224

def k0_off336 : Fin 4 → Nat :=
  let c0_1278 : Index := 0#32
  let c0_i32 : BitVec 32 := 0#32
  let c128_i32_1259 : BitVec 32 := 128#32
  let v3008 : BitVec 32 := Scalar.muli c0_i32 c128_i32_1259
  let c55_i32 : BitVec 32 := 55#32
  let v3009 : BitVec 32 := Scalar.addi v3008 c55_i32
  let v3058 : Index := Scalar.indexCast v3009
  let c0_1279 : Index := 0#32
  let c0_1280 : Index := 0#32
  ![0, v3058.toNat, 0, 0]
def k0_off337 (i : grid0.Coords) (c0_i32_1284 : BitVec 32) : Fin 1 → Nat :=
  let arg0 : BitVec 32 := BitVec.ofNat 32 (i 0).val
  let c128_i32_1282 : BitVec 32 := 128#32
  let v3064 : BitVec 32 := Scalar.muli arg0 c128_i32_1282
  let c0_i32 : BitVec 32 := 0#32
  let c128_i32_1281 : BitVec 32 := 128#32
  let v3062 : BitVec 32 := Scalar.muli c0_i32 c128_i32_1281
  let c56_i32 : BitVec 32 := 56#32
  let v3063 : BitVec 32 := Scalar.addi v3062 c56_i32
  let v3065 : BitVec 32 := Scalar.addi v3064 v3063
  let c4_i32_1283 : BitVec 32 := 4#32
  let v3066 : BitVec 32 := Scalar.muli v3065 c4_i32_1283
  let v3067 : BitVec 32 := Scalar.addi v3066 c0_i32_1284
  let v3068 : Index := Scalar.indexCast v3067
  ![v3068.toNat]
def k0_mult57 (v3069 : BitVec 32) : BitVec 32 :=
  let c4_i32_1285 : BitVec 32 := 4#32
  let v3070 : BitVec 32 := Scalar.shrsi v3069 c4_i32_1285
  let c3_i32_1292 : BitVec 32 := 3#32
  let v3083 : BitVec 32 := Scalar.shrsi v3070 c3_i32_1292
  let c3_i32_1293 : BitVec 32 := 3#32
  let v3084 : BitVec 32 := Scalar.shli v3083 c3_i32_1293
  let c16_i32_1294 : BitVec 32 := 16#32
  let v3085 : BitVec 32 := Scalar.minsi v3084 c16_i32_1294
  v3085

def k0_chk225 (v3069 : BitVec 32) : Prop :=
  (8 ∣ (k0_mult57 v3069).toNat)
theorem k0_mult57_dvd : ∀ (v3069 : BitVec 32) (k0_hw225 : k0_chk225 v3069), 8 ∣ (k0_mult57 v3069).toNat := fun v3069 k0_hw225 => k0_hw225

def k0_off338 (v3081 : BitVec 32) : Fin 1 → Nat :=
  let c4_i32_1291 : BitVec 32 := 4#32
  let v3082 : BitVec 32 := Scalar.shrsi v3081 c4_i32_1291
  let v3087 : Index := Scalar.indexCast v3082
  ![v3087.toNat]

def k0_off339 (v3081 : BitVec 32) : Fin 1 → Nat :=
  let c32_i32_1295 : BitVec 32 := 32#32
  let c4_i32_1291 : BitVec 32 := 4#32
  let v3082 : BitVec 32 := Scalar.shrsi v3081 c4_i32_1291
  let v3089 : BitVec 32 := Scalar.addi c32_i32_1295 v3082
  let v3090 : Index := Scalar.indexCast v3089
  ![v3090.toNat]

def k0_chk226 (v3081 : BitVec 32) : Prop :=
  (∀ a, (k0_off338 v3081) a + S1.size a ≤ S64.size a) ∧
  (∀ a, (k0_off339 v3081) a + S1.size a ≤ S64.size a)
theorem k0_off338_inb : ∀ (v3081 : BitVec 32) (k0_hw226 : k0_chk226 v3081), ∀ a, (k0_off338 v3081) a + S1.size a ≤ S64.size a := fun v3081 k0_hw226 => k0_hw226.1
theorem k0_off339_inb : ∀ (v3081 : BitVec 32) (k0_hw226 : k0_chk226 v3081), ∀ a, (k0_off339 v3081) a + S1.size a ≤ S64.size a := fun v3081 k0_hw226 => k0_hw226.2

def k0_off340 (v3069 : BitVec 32) (v3073 : BitVec 32) (v3088 : BitVec 32) : Fin 4 → Nat :=
  let v3093 : Index := Scalar.indexCast v3088
  let c4_i32_1287 : BitVec 32 := 4#32
  let v3074 : BitVec 32 := Scalar.shrsi v3073 c4_i32_1287
  let v3094 : Index := Scalar.indexCast v3074
  let c4_i32_1285 : BitVec 32 := 4#32
  let v3070 : BitVec 32 := Scalar.shrsi v3069 c4_i32_1285
  let c3_i32_1292 : BitVec 32 := 3#32
  let v3083 : BitVec 32 := Scalar.shrsi v3070 c3_i32_1292
  let c3_i32_1293 : BitVec 32 := 3#32
  let v3084 : BitVec 32 := Scalar.shli v3083 c3_i32_1293
  let c16_i32_1294 : BitVec 32 := 16#32
  let v3085 : BitVec 32 := Scalar.minsi v3084 c16_i32_1294
  let v3086 : BitVec 32 := v3085
  let v3095 : Index := Scalar.indexCast v3086
  let c0_1296 : Index := 0#32
  ![v3093.toNat, v3094.toNat, v3095.toNat, 0]

def k0_chk227 (v3069 : BitVec 32) (v3073 : BitVec 32) (v3088 : BitVec 32) : Prop :=
  (∀ a, (k0_off340 v3069 v3073 v3088) a + S1x1x32x256.size a ≤ S5x50x50x256.size a)
theorem k0_off340_inb : ∀ (v3069 : BitVec 32) (v3073 : BitVec 32) (v3088 : BitVec 32) (k0_hw227 : k0_chk227 v3069 v3073 v3088), ∀ a, (k0_off340 v3069 v3073 v3088) a + S1x1x32x256.size a ≤ S5x50x50x256.size a := fun v3069 v3073 v3088 k0_hw227 => k0_hw227

def k0_off341 (v3069 : BitVec 32) (v3073 : BitVec 32) (v3088 : BitVec 32) (v3091 : BitVec 32) : Fin 4 → Nat :=
  let v3098 : Index := Scalar.indexCast v3088
  let c4_i32_1287 : BitVec 32 := 4#32
  let v3074 : BitVec 32 := Scalar.shrsi v3073 c4_i32_1287
  let v3092 : BitVec 32 := Scalar.addi v3074 v3091
  let v3099 : Index := Scalar.indexCast v3092
  let c4_i32_1285 : BitVec 32 := 4#32
  let v3070 : BitVec 32 := Scalar.shrsi v3069 c4_i32_1285
  let c3_i32_1292 : BitVec 32 := 3#32
  let v3083 : BitVec 32 := Scalar.shrsi v3070 c3_i32_1292
  let c3_i32_1293 : BitVec 32 := 3#32
  let v3084 : BitVec 32 := Scalar.shli v3083 c3_i32_1293
  let c16_i32_1294 : BitVec 32 := 16#32
  let v3085 : BitVec 32 := Scalar.minsi v3084 c16_i32_1294
  let v3086 : BitVec 32 := v3085
  let v3100 : Index := Scalar.indexCast v3086
  let c0_1297 : Index := 0#32
  ![v3098.toNat, v3099.toNat, v3100.toNat, 0]

def k0_chk228 (v3069 : BitVec 32) (v3073 : BitVec 32) (v3088 : BitVec 32) (v3091 : BitVec 32) : Prop :=
  (∀ a, (k0_off341 v3069 v3073 v3088 v3091) a + S1x1x32x256.size a ≤ S5x50x50x256.size a)
theorem k0_off341_inb : ∀ (v3069 : BitVec 32) (v3073 : BitVec 32) (v3088 : BitVec 32) (v3091 : BitVec 32) (k0_hw228 : k0_chk228 v3069 v3073 v3088 v3091), ∀ a, (k0_off341 v3069 v3073 v3088 v3091) a + S1x1x32x256.size a ≤ S5x50x50x256.size a := fun v3069 v3073 v3088 v3091 k0_hw228 => k0_hw228

def k0_off342 : Fin 4 → Nat :=
  let c0_1300 : Index := 0#32
  let c0_i32 : BitVec 32 := 0#32
  let c128_i32_1281 : BitVec 32 := 128#32
  let v3062 : BitVec 32 := Scalar.muli c0_i32 c128_i32_1281
  let c56_i32 : BitVec 32 := 56#32
  let v3063 : BitVec 32 := Scalar.addi v3062 c56_i32
  let v3112 : Index := Scalar.indexCast v3063
  let c0_1301 : Index := 0#32
  let c0_1302 : Index := 0#32
  ![0, v3112.toNat, 0, 0]
def k0_off343 (i : grid0.Coords) (c0_i32_1306 : BitVec 32) : Fin 1 → Nat :=
  let arg0 : BitVec 32 := BitVec.ofNat 32 (i 0).val
  let c128_i32_1304 : BitVec 32 := 128#32
  let v3118 : BitVec 32 := Scalar.muli arg0 c128_i32_1304
  let c0_i32 : BitVec 32 := 0#32
  let c128_i32_1303 : BitVec 32 := 128#32
  let v3116 : BitVec 32 := Scalar.muli c0_i32 c128_i32_1303
  let c57_i32 : BitVec 32 := 57#32
  let v3117 : BitVec 32 := Scalar.addi v3116 c57_i32
  let v3119 : BitVec 32 := Scalar.addi v3118 v3117
  let c4_i32_1305 : BitVec 32 := 4#32
  let v3120 : BitVec 32 := Scalar.muli v3119 c4_i32_1305
  let v3121 : BitVec 32 := Scalar.addi v3120 c0_i32_1306
  let v3122 : Index := Scalar.indexCast v3121
  ![v3122.toNat]
def k0_mult58 (v3123 : BitVec 32) : BitVec 32 :=
  let c4_i32_1307 : BitVec 32 := 4#32
  let v3124 : BitVec 32 := Scalar.shrsi v3123 c4_i32_1307
  let c3_i32_1314 : BitVec 32 := 3#32
  let v3137 : BitVec 32 := Scalar.shrsi v3124 c3_i32_1314
  let c3_i32_1315 : BitVec 32 := 3#32
  let v3138 : BitVec 32 := Scalar.shli v3137 c3_i32_1315
  let c16_i32_1316 : BitVec 32 := 16#32
  let v3139 : BitVec 32 := Scalar.minsi v3138 c16_i32_1316
  v3139

def k0_chk229 (v3123 : BitVec 32) : Prop :=
  (8 ∣ (k0_mult58 v3123).toNat)
theorem k0_mult58_dvd : ∀ (v3123 : BitVec 32) (k0_hw229 : k0_chk229 v3123), 8 ∣ (k0_mult58 v3123).toNat := fun v3123 k0_hw229 => k0_hw229

def k0_off344 (v3135 : BitVec 32) : Fin 1 → Nat :=
  let c4_i32_1313 : BitVec 32 := 4#32
  let v3136 : BitVec 32 := Scalar.shrsi v3135 c4_i32_1313
  let v3141 : Index := Scalar.indexCast v3136
  ![v3141.toNat]

def k0_off345 (v3135 : BitVec 32) : Fin 1 → Nat :=
  let c32_i32_1317 : BitVec 32 := 32#32
  let c4_i32_1313 : BitVec 32 := 4#32
  let v3136 : BitVec 32 := Scalar.shrsi v3135 c4_i32_1313
  let v3143 : BitVec 32 := Scalar.addi c32_i32_1317 v3136
  let v3144 : Index := Scalar.indexCast v3143
  ![v3144.toNat]

def k0_chk230 (v3135 : BitVec 32) : Prop :=
  (∀ a, (k0_off344 v3135) a + S1.size a ≤ S64.size a) ∧
  (∀ a, (k0_off345 v3135) a + S1.size a ≤ S64.size a)
theorem k0_off344_inb : ∀ (v3135 : BitVec 32) (k0_hw230 : k0_chk230 v3135), ∀ a, (k0_off344 v3135) a + S1.size a ≤ S64.size a := fun v3135 k0_hw230 => k0_hw230.1
theorem k0_off345_inb : ∀ (v3135 : BitVec 32) (k0_hw230 : k0_chk230 v3135), ∀ a, (k0_off345 v3135) a + S1.size a ≤ S64.size a := fun v3135 k0_hw230 => k0_hw230.2

def k0_off346 (v3123 : BitVec 32) (v3127 : BitVec 32) (v3142 : BitVec 32) : Fin 4 → Nat :=
  let v3147 : Index := Scalar.indexCast v3142
  let c4_i32_1309 : BitVec 32 := 4#32
  let v3128 : BitVec 32 := Scalar.shrsi v3127 c4_i32_1309
  let v3148 : Index := Scalar.indexCast v3128
  let c4_i32_1307 : BitVec 32 := 4#32
  let v3124 : BitVec 32 := Scalar.shrsi v3123 c4_i32_1307
  let c3_i32_1314 : BitVec 32 := 3#32
  let v3137 : BitVec 32 := Scalar.shrsi v3124 c3_i32_1314
  let c3_i32_1315 : BitVec 32 := 3#32
  let v3138 : BitVec 32 := Scalar.shli v3137 c3_i32_1315
  let c16_i32_1316 : BitVec 32 := 16#32
  let v3139 : BitVec 32 := Scalar.minsi v3138 c16_i32_1316
  let v3140 : BitVec 32 := v3139
  let v3149 : Index := Scalar.indexCast v3140
  let c0_1318 : Index := 0#32
  ![v3147.toNat, v3148.toNat, v3149.toNat, 0]

def k0_chk231 (v3123 : BitVec 32) (v3127 : BitVec 32) (v3142 : BitVec 32) : Prop :=
  (∀ a, (k0_off346 v3123 v3127 v3142) a + S1x1x32x256.size a ≤ S5x50x50x256.size a)
theorem k0_off346_inb : ∀ (v3123 : BitVec 32) (v3127 : BitVec 32) (v3142 : BitVec 32) (k0_hw231 : k0_chk231 v3123 v3127 v3142), ∀ a, (k0_off346 v3123 v3127 v3142) a + S1x1x32x256.size a ≤ S5x50x50x256.size a := fun v3123 v3127 v3142 k0_hw231 => k0_hw231

def k0_off347 (v3123 : BitVec 32) (v3127 : BitVec 32) (v3142 : BitVec 32) (v3145 : BitVec 32) : Fin 4 → Nat :=
  let v3152 : Index := Scalar.indexCast v3142
  let c4_i32_1309 : BitVec 32 := 4#32
  let v3128 : BitVec 32 := Scalar.shrsi v3127 c4_i32_1309
  let v3146 : BitVec 32 := Scalar.addi v3128 v3145
  let v3153 : Index := Scalar.indexCast v3146
  let c4_i32_1307 : BitVec 32 := 4#32
  let v3124 : BitVec 32 := Scalar.shrsi v3123 c4_i32_1307
  let c3_i32_1314 : BitVec 32 := 3#32
  let v3137 : BitVec 32 := Scalar.shrsi v3124 c3_i32_1314
  let c3_i32_1315 : BitVec 32 := 3#32
  let v3138 : BitVec 32 := Scalar.shli v3137 c3_i32_1315
  let c16_i32_1316 : BitVec 32 := 16#32
  let v3139 : BitVec 32 := Scalar.minsi v3138 c16_i32_1316
  let v3140 : BitVec 32 := v3139
  let v3154 : Index := Scalar.indexCast v3140
  let c0_1319 : Index := 0#32
  ![v3152.toNat, v3153.toNat, v3154.toNat, 0]

def k0_chk232 (v3123 : BitVec 32) (v3127 : BitVec 32) (v3142 : BitVec 32) (v3145 : BitVec 32) : Prop :=
  (∀ a, (k0_off347 v3123 v3127 v3142 v3145) a + S1x1x32x256.size a ≤ S5x50x50x256.size a)
theorem k0_off347_inb : ∀ (v3123 : BitVec 32) (v3127 : BitVec 32) (v3142 : BitVec 32) (v3145 : BitVec 32) (k0_hw232 : k0_chk232 v3123 v3127 v3142 v3145), ∀ a, (k0_off347 v3123 v3127 v3142 v3145) a + S1x1x32x256.size a ≤ S5x50x50x256.size a := fun v3123 v3127 v3142 v3145 k0_hw232 => k0_hw232

def k0_off348 : Fin 4 → Nat :=
  let c0_1322 : Index := 0#32
  let c0_i32 : BitVec 32 := 0#32
  let c128_i32_1303 : BitVec 32 := 128#32
  let v3116 : BitVec 32 := Scalar.muli c0_i32 c128_i32_1303
  let c57_i32 : BitVec 32 := 57#32
  let v3117 : BitVec 32 := Scalar.addi v3116 c57_i32
  let v3166 : Index := Scalar.indexCast v3117
  let c0_1323 : Index := 0#32
  let c0_1324 : Index := 0#32
  ![0, v3166.toNat, 0, 0]
def k0_off349 (i : grid0.Coords) (c0_i32_1328 : BitVec 32) : Fin 1 → Nat :=
  let arg0 : BitVec 32 := BitVec.ofNat 32 (i 0).val
  let c128_i32_1326 : BitVec 32 := 128#32
  let v3172 : BitVec 32 := Scalar.muli arg0 c128_i32_1326
  let c0_i32 : BitVec 32 := 0#32
  let c128_i32_1325 : BitVec 32 := 128#32
  let v3170 : BitVec 32 := Scalar.muli c0_i32 c128_i32_1325
  let c58_i32 : BitVec 32 := 58#32
  let v3171 : BitVec 32 := Scalar.addi v3170 c58_i32
  let v3173 : BitVec 32 := Scalar.addi v3172 v3171
  let c4_i32_1327 : BitVec 32 := 4#32
  let v3174 : BitVec 32 := Scalar.muli v3173 c4_i32_1327
  let v3175 : BitVec 32 := Scalar.addi v3174 c0_i32_1328
  let v3176 : Index := Scalar.indexCast v3175
  ![v3176.toNat]
def k0_mult59 (v3177 : BitVec 32) : BitVec 32 :=
  let c4_i32_1329 : BitVec 32 := 4#32
  let v3178 : BitVec 32 := Scalar.shrsi v3177 c4_i32_1329
  let c3_i32_1336 : BitVec 32 := 3#32
  let v3191 : BitVec 32 := Scalar.shrsi v3178 c3_i32_1336
  let c3_i32_1337 : BitVec 32 := 3#32
  let v3192 : BitVec 32 := Scalar.shli v3191 c3_i32_1337
  let c16_i32_1338 : BitVec 32 := 16#32
  let v3193 : BitVec 32 := Scalar.minsi v3192 c16_i32_1338
  v3193

def k0_chk233 (v3177 : BitVec 32) : Prop :=
  (8 ∣ (k0_mult59 v3177).toNat)
theorem k0_mult59_dvd : ∀ (v3177 : BitVec 32) (k0_hw233 : k0_chk233 v3177), 8 ∣ (k0_mult59 v3177).toNat := fun v3177 k0_hw233 => k0_hw233

def k0_off350 (v3189 : BitVec 32) : Fin 1 → Nat :=
  let c4_i32_1335 : BitVec 32 := 4#32
  let v3190 : BitVec 32 := Scalar.shrsi v3189 c4_i32_1335
  let v3195 : Index := Scalar.indexCast v3190
  ![v3195.toNat]

def k0_off351 (v3189 : BitVec 32) : Fin 1 → Nat :=
  let c32_i32_1339 : BitVec 32 := 32#32
  let c4_i32_1335 : BitVec 32 := 4#32
  let v3190 : BitVec 32 := Scalar.shrsi v3189 c4_i32_1335
  let v3197 : BitVec 32 := Scalar.addi c32_i32_1339 v3190
  let v3198 : Index := Scalar.indexCast v3197
  ![v3198.toNat]

def k0_chk234 (v3189 : BitVec 32) : Prop :=
  (∀ a, (k0_off350 v3189) a + S1.size a ≤ S64.size a) ∧
  (∀ a, (k0_off351 v3189) a + S1.size a ≤ S64.size a)
theorem k0_off350_inb : ∀ (v3189 : BitVec 32) (k0_hw234 : k0_chk234 v3189), ∀ a, (k0_off350 v3189) a + S1.size a ≤ S64.size a := fun v3189 k0_hw234 => k0_hw234.1
theorem k0_off351_inb : ∀ (v3189 : BitVec 32) (k0_hw234 : k0_chk234 v3189), ∀ a, (k0_off351 v3189) a + S1.size a ≤ S64.size a := fun v3189 k0_hw234 => k0_hw234.2

def k0_off352 (v3177 : BitVec 32) (v3181 : BitVec 32) (v3196 : BitVec 32) : Fin 4 → Nat :=
  let v3201 : Index := Scalar.indexCast v3196
  let c4_i32_1331 : BitVec 32 := 4#32
  let v3182 : BitVec 32 := Scalar.shrsi v3181 c4_i32_1331
  let v3202 : Index := Scalar.indexCast v3182
  let c4_i32_1329 : BitVec 32 := 4#32
  let v3178 : BitVec 32 := Scalar.shrsi v3177 c4_i32_1329
  let c3_i32_1336 : BitVec 32 := 3#32
  let v3191 : BitVec 32 := Scalar.shrsi v3178 c3_i32_1336
  let c3_i32_1337 : BitVec 32 := 3#32
  let v3192 : BitVec 32 := Scalar.shli v3191 c3_i32_1337
  let c16_i32_1338 : BitVec 32 := 16#32
  let v3193 : BitVec 32 := Scalar.minsi v3192 c16_i32_1338
  let v3194 : BitVec 32 := v3193
  let v3203 : Index := Scalar.indexCast v3194
  let c0_1340 : Index := 0#32
  ![v3201.toNat, v3202.toNat, v3203.toNat, 0]

def k0_chk235 (v3177 : BitVec 32) (v3181 : BitVec 32) (v3196 : BitVec 32) : Prop :=
  (∀ a, (k0_off352 v3177 v3181 v3196) a + S1x1x32x256.size a ≤ S5x50x50x256.size a)
theorem k0_off352_inb : ∀ (v3177 : BitVec 32) (v3181 : BitVec 32) (v3196 : BitVec 32) (k0_hw235 : k0_chk235 v3177 v3181 v3196), ∀ a, (k0_off352 v3177 v3181 v3196) a + S1x1x32x256.size a ≤ S5x50x50x256.size a := fun v3177 v3181 v3196 k0_hw235 => k0_hw235

def k0_off353 (v3177 : BitVec 32) (v3181 : BitVec 32) (v3196 : BitVec 32) (v3199 : BitVec 32) : Fin 4 → Nat :=
  let v3206 : Index := Scalar.indexCast v3196
  let c4_i32_1331 : BitVec 32 := 4#32
  let v3182 : BitVec 32 := Scalar.shrsi v3181 c4_i32_1331
  let v3200 : BitVec 32 := Scalar.addi v3182 v3199
  let v3207 : Index := Scalar.indexCast v3200
  let c4_i32_1329 : BitVec 32 := 4#32
  let v3178 : BitVec 32 := Scalar.shrsi v3177 c4_i32_1329
  let c3_i32_1336 : BitVec 32 := 3#32
  let v3191 : BitVec 32 := Scalar.shrsi v3178 c3_i32_1336
  let c3_i32_1337 : BitVec 32 := 3#32
  let v3192 : BitVec 32 := Scalar.shli v3191 c3_i32_1337
  let c16_i32_1338 : BitVec 32 := 16#32
  let v3193 : BitVec 32 := Scalar.minsi v3192 c16_i32_1338
  let v3194 : BitVec 32 := v3193
  let v3208 : Index := Scalar.indexCast v3194
  let c0_1341 : Index := 0#32
  ![v3206.toNat, v3207.toNat, v3208.toNat, 0]

def k0_chk236 (v3177 : BitVec 32) (v3181 : BitVec 32) (v3196 : BitVec 32) (v3199 : BitVec 32) : Prop :=
  (∀ a, (k0_off353 v3177 v3181 v3196 v3199) a + S1x1x32x256.size a ≤ S5x50x50x256.size a)
theorem k0_off353_inb : ∀ (v3177 : BitVec 32) (v3181 : BitVec 32) (v3196 : BitVec 32) (v3199 : BitVec 32) (k0_hw236 : k0_chk236 v3177 v3181 v3196 v3199), ∀ a, (k0_off353 v3177 v3181 v3196 v3199) a + S1x1x32x256.size a ≤ S5x50x50x256.size a := fun v3177 v3181 v3196 v3199 k0_hw236 => k0_hw236

def k0_off354 : Fin 4 → Nat :=
  let c0_1344 : Index := 0#32
  let c0_i32 : BitVec 32 := 0#32
  let c128_i32_1325 : BitVec 32 := 128#32
  let v3170 : BitVec 32 := Scalar.muli c0_i32 c128_i32_1325
  let c58_i32 : BitVec 32 := 58#32
  let v3171 : BitVec 32 := Scalar.addi v3170 c58_i32
  let v3220 : Index := Scalar.indexCast v3171
  let c0_1345 : Index := 0#32
  let c0_1346 : Index := 0#32
  ![0, v3220.toNat, 0, 0]
def k0_off355 (i : grid0.Coords) (c0_i32_1350 : BitVec 32) : Fin 1 → Nat :=
  let arg0 : BitVec 32 := BitVec.ofNat 32 (i 0).val
  let c128_i32_1348 : BitVec 32 := 128#32
  let v3226 : BitVec 32 := Scalar.muli arg0 c128_i32_1348
  let c0_i32 : BitVec 32 := 0#32
  let c128_i32_1347 : BitVec 32 := 128#32
  let v3224 : BitVec 32 := Scalar.muli c0_i32 c128_i32_1347
  let c59_i32 : BitVec 32 := 59#32
  let v3225 : BitVec 32 := Scalar.addi v3224 c59_i32
  let v3227 : BitVec 32 := Scalar.addi v3226 v3225
  let c4_i32_1349 : BitVec 32 := 4#32
  let v3228 : BitVec 32 := Scalar.muli v3227 c4_i32_1349
  let v3229 : BitVec 32 := Scalar.addi v3228 c0_i32_1350
  let v3230 : Index := Scalar.indexCast v3229
  ![v3230.toNat]
def k0_mult60 (v3231 : BitVec 32) : BitVec 32 :=
  let c4_i32_1351 : BitVec 32 := 4#32
  let v3232 : BitVec 32 := Scalar.shrsi v3231 c4_i32_1351
  let c3_i32_1358 : BitVec 32 := 3#32
  let v3245 : BitVec 32 := Scalar.shrsi v3232 c3_i32_1358
  let c3_i32_1359 : BitVec 32 := 3#32
  let v3246 : BitVec 32 := Scalar.shli v3245 c3_i32_1359
  let c16_i32_1360 : BitVec 32 := 16#32
  let v3247 : BitVec 32 := Scalar.minsi v3246 c16_i32_1360
  v3247

def k0_chk237 (v3231 : BitVec 32) : Prop :=
  (8 ∣ (k0_mult60 v3231).toNat)
theorem k0_mult60_dvd : ∀ (v3231 : BitVec 32) (k0_hw237 : k0_chk237 v3231), 8 ∣ (k0_mult60 v3231).toNat := fun v3231 k0_hw237 => k0_hw237

def k0_off356 (v3243 : BitVec 32) : Fin 1 → Nat :=
  let c4_i32_1357 : BitVec 32 := 4#32
  let v3244 : BitVec 32 := Scalar.shrsi v3243 c4_i32_1357
  let v3249 : Index := Scalar.indexCast v3244
  ![v3249.toNat]

def k0_off357 (v3243 : BitVec 32) : Fin 1 → Nat :=
  let c32_i32_1361 : BitVec 32 := 32#32
  let c4_i32_1357 : BitVec 32 := 4#32
  let v3244 : BitVec 32 := Scalar.shrsi v3243 c4_i32_1357
  let v3251 : BitVec 32 := Scalar.addi c32_i32_1361 v3244
  let v3252 : Index := Scalar.indexCast v3251
  ![v3252.toNat]

def k0_chk238 (v3243 : BitVec 32) : Prop :=
  (∀ a, (k0_off356 v3243) a + S1.size a ≤ S64.size a) ∧
  (∀ a, (k0_off357 v3243) a + S1.size a ≤ S64.size a)
theorem k0_off356_inb : ∀ (v3243 : BitVec 32) (k0_hw238 : k0_chk238 v3243), ∀ a, (k0_off356 v3243) a + S1.size a ≤ S64.size a := fun v3243 k0_hw238 => k0_hw238.1
theorem k0_off357_inb : ∀ (v3243 : BitVec 32) (k0_hw238 : k0_chk238 v3243), ∀ a, (k0_off357 v3243) a + S1.size a ≤ S64.size a := fun v3243 k0_hw238 => k0_hw238.2

def k0_off358 (v3231 : BitVec 32) (v3235 : BitVec 32) (v3250 : BitVec 32) : Fin 4 → Nat :=
  let v3255 : Index := Scalar.indexCast v3250
  let c4_i32_1353 : BitVec 32 := 4#32
  let v3236 : BitVec 32 := Scalar.shrsi v3235 c4_i32_1353
  let v3256 : Index := Scalar.indexCast v3236
  let c4_i32_1351 : BitVec 32 := 4#32
  let v3232 : BitVec 32 := Scalar.shrsi v3231 c4_i32_1351
  let c3_i32_1358 : BitVec 32 := 3#32
  let v3245 : BitVec 32 := Scalar.shrsi v3232 c3_i32_1358
  let c3_i32_1359 : BitVec 32 := 3#32
  let v3246 : BitVec 32 := Scalar.shli v3245 c3_i32_1359
  let c16_i32_1360 : BitVec 32 := 16#32
  let v3247 : BitVec 32 := Scalar.minsi v3246 c16_i32_1360
  let v3248 : BitVec 32 := v3247
  let v3257 : Index := Scalar.indexCast v3248
  let c0_1362 : Index := 0#32
  ![v3255.toNat, v3256.toNat, v3257.toNat, 0]

def k0_chk239 (v3231 : BitVec 32) (v3235 : BitVec 32) (v3250 : BitVec 32) : Prop :=
  (∀ a, (k0_off358 v3231 v3235 v3250) a + S1x1x32x256.size a ≤ S5x50x50x256.size a)
theorem k0_off358_inb : ∀ (v3231 : BitVec 32) (v3235 : BitVec 32) (v3250 : BitVec 32) (k0_hw239 : k0_chk239 v3231 v3235 v3250), ∀ a, (k0_off358 v3231 v3235 v3250) a + S1x1x32x256.size a ≤ S5x50x50x256.size a := fun v3231 v3235 v3250 k0_hw239 => k0_hw239

def k0_off359 (v3231 : BitVec 32) (v3235 : BitVec 32) (v3250 : BitVec 32) (v3253 : BitVec 32) : Fin 4 → Nat :=
  let v3260 : Index := Scalar.indexCast v3250
  let c4_i32_1353 : BitVec 32 := 4#32
  let v3236 : BitVec 32 := Scalar.shrsi v3235 c4_i32_1353
  let v3254 : BitVec 32 := Scalar.addi v3236 v3253
  let v3261 : Index := Scalar.indexCast v3254
  let c4_i32_1351 : BitVec 32 := 4#32
  let v3232 : BitVec 32 := Scalar.shrsi v3231 c4_i32_1351
  let c3_i32_1358 : BitVec 32 := 3#32
  let v3245 : BitVec 32 := Scalar.shrsi v3232 c3_i32_1358
  let c3_i32_1359 : BitVec 32 := 3#32
  let v3246 : BitVec 32 := Scalar.shli v3245 c3_i32_1359
  let c16_i32_1360 : BitVec 32 := 16#32
  let v3247 : BitVec 32 := Scalar.minsi v3246 c16_i32_1360
  let v3248 : BitVec 32 := v3247
  let v3262 : Index := Scalar.indexCast v3248
  let c0_1363 : Index := 0#32
  ![v3260.toNat, v3261.toNat, v3262.toNat, 0]

def k0_chk240 (v3231 : BitVec 32) (v3235 : BitVec 32) (v3250 : BitVec 32) (v3253 : BitVec 32) : Prop :=
  (∀ a, (k0_off359 v3231 v3235 v3250 v3253) a + S1x1x32x256.size a ≤ S5x50x50x256.size a)
theorem k0_off359_inb : ∀ (v3231 : BitVec 32) (v3235 : BitVec 32) (v3250 : BitVec 32) (v3253 : BitVec 32) (k0_hw240 : k0_chk240 v3231 v3235 v3250 v3253), ∀ a, (k0_off359 v3231 v3235 v3250 v3253) a + S1x1x32x256.size a ≤ S5x50x50x256.size a := fun v3231 v3235 v3250 v3253 k0_hw240 => k0_hw240

def k0_off360 : Fin 4 → Nat :=
  let c0_1366 : Index := 0#32
  let c0_i32 : BitVec 32 := 0#32
  let c128_i32_1347 : BitVec 32 := 128#32
  let v3224 : BitVec 32 := Scalar.muli c0_i32 c128_i32_1347
  let c59_i32 : BitVec 32 := 59#32
  let v3225 : BitVec 32 := Scalar.addi v3224 c59_i32
  let v3274 : Index := Scalar.indexCast v3225
  let c0_1367 : Index := 0#32
  let c0_1368 : Index := 0#32
  ![0, v3274.toNat, 0, 0]
def k0_off361 (i : grid0.Coords) (c0_i32_1372 : BitVec 32) : Fin 1 → Nat :=
  let arg0 : BitVec 32 := BitVec.ofNat 32 (i 0).val
  let c128_i32_1370 : BitVec 32 := 128#32
  let v3280 : BitVec 32 := Scalar.muli arg0 c128_i32_1370
  let c0_i32 : BitVec 32 := 0#32
  let c128_i32_1369 : BitVec 32 := 128#32
  let v3278 : BitVec 32 := Scalar.muli c0_i32 c128_i32_1369
  let c60_i32 : BitVec 32 := 60#32
  let v3279 : BitVec 32 := Scalar.addi v3278 c60_i32
  let v3281 : BitVec 32 := Scalar.addi v3280 v3279
  let c4_i32_1371 : BitVec 32 := 4#32
  let v3282 : BitVec 32 := Scalar.muli v3281 c4_i32_1371
  let v3283 : BitVec 32 := Scalar.addi v3282 c0_i32_1372
  let v3284 : Index := Scalar.indexCast v3283
  ![v3284.toNat]
def k0_mult61 (v3285 : BitVec 32) : BitVec 32 :=
  let c4_i32_1373 : BitVec 32 := 4#32
  let v3286 : BitVec 32 := Scalar.shrsi v3285 c4_i32_1373
  let c3_i32_1380 : BitVec 32 := 3#32
  let v3299 : BitVec 32 := Scalar.shrsi v3286 c3_i32_1380
  let c3_i32_1381 : BitVec 32 := 3#32
  let v3300 : BitVec 32 := Scalar.shli v3299 c3_i32_1381
  let c16_i32_1382 : BitVec 32 := 16#32
  let v3301 : BitVec 32 := Scalar.minsi v3300 c16_i32_1382
  v3301

def k0_chk241 (v3285 : BitVec 32) : Prop :=
  (8 ∣ (k0_mult61 v3285).toNat)
theorem k0_mult61_dvd : ∀ (v3285 : BitVec 32) (k0_hw241 : k0_chk241 v3285), 8 ∣ (k0_mult61 v3285).toNat := fun v3285 k0_hw241 => k0_hw241

def k0_off362 (v3297 : BitVec 32) : Fin 1 → Nat :=
  let c4_i32_1379 : BitVec 32 := 4#32
  let v3298 : BitVec 32 := Scalar.shrsi v3297 c4_i32_1379
  let v3303 : Index := Scalar.indexCast v3298
  ![v3303.toNat]

def k0_off363 (v3297 : BitVec 32) : Fin 1 → Nat :=
  let c32_i32_1383 : BitVec 32 := 32#32
  let c4_i32_1379 : BitVec 32 := 4#32
  let v3298 : BitVec 32 := Scalar.shrsi v3297 c4_i32_1379
  let v3305 : BitVec 32 := Scalar.addi c32_i32_1383 v3298
  let v3306 : Index := Scalar.indexCast v3305
  ![v3306.toNat]

def k0_chk242 (v3297 : BitVec 32) : Prop :=
  (∀ a, (k0_off362 v3297) a + S1.size a ≤ S64.size a) ∧
  (∀ a, (k0_off363 v3297) a + S1.size a ≤ S64.size a)
theorem k0_off362_inb : ∀ (v3297 : BitVec 32) (k0_hw242 : k0_chk242 v3297), ∀ a, (k0_off362 v3297) a + S1.size a ≤ S64.size a := fun v3297 k0_hw242 => k0_hw242.1
theorem k0_off363_inb : ∀ (v3297 : BitVec 32) (k0_hw242 : k0_chk242 v3297), ∀ a, (k0_off363 v3297) a + S1.size a ≤ S64.size a := fun v3297 k0_hw242 => k0_hw242.2

def k0_off364 (v3285 : BitVec 32) (v3289 : BitVec 32) (v3304 : BitVec 32) : Fin 4 → Nat :=
  let v3309 : Index := Scalar.indexCast v3304
  let c4_i32_1375 : BitVec 32 := 4#32
  let v3290 : BitVec 32 := Scalar.shrsi v3289 c4_i32_1375
  let v3310 : Index := Scalar.indexCast v3290
  let c4_i32_1373 : BitVec 32 := 4#32
  let v3286 : BitVec 32 := Scalar.shrsi v3285 c4_i32_1373
  let c3_i32_1380 : BitVec 32 := 3#32
  let v3299 : BitVec 32 := Scalar.shrsi v3286 c3_i32_1380
  let c3_i32_1381 : BitVec 32 := 3#32
  let v3300 : BitVec 32 := Scalar.shli v3299 c3_i32_1381
  let c16_i32_1382 : BitVec 32 := 16#32
  let v3301 : BitVec 32 := Scalar.minsi v3300 c16_i32_1382
  let v3302 : BitVec 32 := v3301
  let v3311 : Index := Scalar.indexCast v3302
  let c0_1384 : Index := 0#32
  ![v3309.toNat, v3310.toNat, v3311.toNat, 0]

def k0_chk243 (v3285 : BitVec 32) (v3289 : BitVec 32) (v3304 : BitVec 32) : Prop :=
  (∀ a, (k0_off364 v3285 v3289 v3304) a + S1x1x32x256.size a ≤ S5x50x50x256.size a)
theorem k0_off364_inb : ∀ (v3285 : BitVec 32) (v3289 : BitVec 32) (v3304 : BitVec 32) (k0_hw243 : k0_chk243 v3285 v3289 v3304), ∀ a, (k0_off364 v3285 v3289 v3304) a + S1x1x32x256.size a ≤ S5x50x50x256.size a := fun v3285 v3289 v3304 k0_hw243 => k0_hw243

def k0_off365 (v3285 : BitVec 32) (v3289 : BitVec 32) (v3304 : BitVec 32) (v3307 : BitVec 32) : Fin 4 → Nat :=
  let v3314 : Index := Scalar.indexCast v3304
  let c4_i32_1375 : BitVec 32 := 4#32
  let v3290 : BitVec 32 := Scalar.shrsi v3289 c4_i32_1375
  let v3308 : BitVec 32 := Scalar.addi v3290 v3307
  let v3315 : Index := Scalar.indexCast v3308
  let c4_i32_1373 : BitVec 32 := 4#32
  let v3286 : BitVec 32 := Scalar.shrsi v3285 c4_i32_1373
  let c3_i32_1380 : BitVec 32 := 3#32
  let v3299 : BitVec 32 := Scalar.shrsi v3286 c3_i32_1380
  let c3_i32_1381 : BitVec 32 := 3#32
  let v3300 : BitVec 32 := Scalar.shli v3299 c3_i32_1381
  let c16_i32_1382 : BitVec 32 := 16#32
  let v3301 : BitVec 32 := Scalar.minsi v3300 c16_i32_1382
  let v3302 : BitVec 32 := v3301
  let v3316 : Index := Scalar.indexCast v3302
  let c0_1385 : Index := 0#32
  ![v3314.toNat, v3315.toNat, v3316.toNat, 0]

def k0_chk244 (v3285 : BitVec 32) (v3289 : BitVec 32) (v3304 : BitVec 32) (v3307 : BitVec 32) : Prop :=
  (∀ a, (k0_off365 v3285 v3289 v3304 v3307) a + S1x1x32x256.size a ≤ S5x50x50x256.size a)
theorem k0_off365_inb : ∀ (v3285 : BitVec 32) (v3289 : BitVec 32) (v3304 : BitVec 32) (v3307 : BitVec 32) (k0_hw244 : k0_chk244 v3285 v3289 v3304 v3307), ∀ a, (k0_off365 v3285 v3289 v3304 v3307) a + S1x1x32x256.size a ≤ S5x50x50x256.size a := fun v3285 v3289 v3304 v3307 k0_hw244 => k0_hw244

def k0_off366 : Fin 4 → Nat :=
  let c0_1388 : Index := 0#32
  let c0_i32 : BitVec 32 := 0#32
  let c128_i32_1369 : BitVec 32 := 128#32
  let v3278 : BitVec 32 := Scalar.muli c0_i32 c128_i32_1369
  let c60_i32 : BitVec 32 := 60#32
  let v3279 : BitVec 32 := Scalar.addi v3278 c60_i32
  let v3328 : Index := Scalar.indexCast v3279
  let c0_1389 : Index := 0#32
  let c0_1390 : Index := 0#32
  ![0, v3328.toNat, 0, 0]
def k0_off367 (i : grid0.Coords) (c0_i32_1394 : BitVec 32) : Fin 1 → Nat :=
  let arg0 : BitVec 32 := BitVec.ofNat 32 (i 0).val
  let c128_i32_1392 : BitVec 32 := 128#32
  let v3334 : BitVec 32 := Scalar.muli arg0 c128_i32_1392
  let c0_i32 : BitVec 32 := 0#32
  let c128_i32_1391 : BitVec 32 := 128#32
  let v3332 : BitVec 32 := Scalar.muli c0_i32 c128_i32_1391
  let c61_i32 : BitVec 32 := 61#32
  let v3333 : BitVec 32 := Scalar.addi v3332 c61_i32
  let v3335 : BitVec 32 := Scalar.addi v3334 v3333
  let c4_i32_1393 : BitVec 32 := 4#32
  let v3336 : BitVec 32 := Scalar.muli v3335 c4_i32_1393
  let v3337 : BitVec 32 := Scalar.addi v3336 c0_i32_1394
  let v3338 : Index := Scalar.indexCast v3337
  ![v3338.toNat]
def k0_mult62 (v3339 : BitVec 32) : BitVec 32 :=
  let c4_i32_1395 : BitVec 32 := 4#32
  let v3340 : BitVec 32 := Scalar.shrsi v3339 c4_i32_1395
  let c3_i32_1402 : BitVec 32 := 3#32
  let v3353 : BitVec 32 := Scalar.shrsi v3340 c3_i32_1402
  let c3_i32_1403 : BitVec 32 := 3#32
  let v3354 : BitVec 32 := Scalar.shli v3353 c3_i32_1403
  let c16_i32_1404 : BitVec 32 := 16#32
  let v3355 : BitVec 32 := Scalar.minsi v3354 c16_i32_1404
  v3355

def k0_chk245 (v3339 : BitVec 32) : Prop :=
  (8 ∣ (k0_mult62 v3339).toNat)
theorem k0_mult62_dvd : ∀ (v3339 : BitVec 32) (k0_hw245 : k0_chk245 v3339), 8 ∣ (k0_mult62 v3339).toNat := fun v3339 k0_hw245 => k0_hw245

def k0_off368 (v3351 : BitVec 32) : Fin 1 → Nat :=
  let c4_i32_1401 : BitVec 32 := 4#32
  let v3352 : BitVec 32 := Scalar.shrsi v3351 c4_i32_1401
  let v3357 : Index := Scalar.indexCast v3352
  ![v3357.toNat]

def k0_off369 (v3351 : BitVec 32) : Fin 1 → Nat :=
  let c32_i32_1405 : BitVec 32 := 32#32
  let c4_i32_1401 : BitVec 32 := 4#32
  let v3352 : BitVec 32 := Scalar.shrsi v3351 c4_i32_1401
  let v3359 : BitVec 32 := Scalar.addi c32_i32_1405 v3352
  let v3360 : Index := Scalar.indexCast v3359
  ![v3360.toNat]

def k0_chk246 (v3351 : BitVec 32) : Prop :=
  (∀ a, (k0_off368 v3351) a + S1.size a ≤ S64.size a) ∧
  (∀ a, (k0_off369 v3351) a + S1.size a ≤ S64.size a)
theorem k0_off368_inb : ∀ (v3351 : BitVec 32) (k0_hw246 : k0_chk246 v3351), ∀ a, (k0_off368 v3351) a + S1.size a ≤ S64.size a := fun v3351 k0_hw246 => k0_hw246.1
theorem k0_off369_inb : ∀ (v3351 : BitVec 32) (k0_hw246 : k0_chk246 v3351), ∀ a, (k0_off369 v3351) a + S1.size a ≤ S64.size a := fun v3351 k0_hw246 => k0_hw246.2

def k0_off370 (v3339 : BitVec 32) (v3343 : BitVec 32) (v3358 : BitVec 32) : Fin 4 → Nat :=
  let v3363 : Index := Scalar.indexCast v3358
  let c4_i32_1397 : BitVec 32 := 4#32
  let v3344 : BitVec 32 := Scalar.shrsi v3343 c4_i32_1397
  let v3364 : Index := Scalar.indexCast v3344
  let c4_i32_1395 : BitVec 32 := 4#32
  let v3340 : BitVec 32 := Scalar.shrsi v3339 c4_i32_1395
  let c3_i32_1402 : BitVec 32 := 3#32
  let v3353 : BitVec 32 := Scalar.shrsi v3340 c3_i32_1402
  let c3_i32_1403 : BitVec 32 := 3#32
  let v3354 : BitVec 32 := Scalar.shli v3353 c3_i32_1403
  let c16_i32_1404 : BitVec 32 := 16#32
  let v3355 : BitVec 32 := Scalar.minsi v3354 c16_i32_1404
  let v3356 : BitVec 32 := v3355
  let v3365 : Index := Scalar.indexCast v3356
  let c0_1406 : Index := 0#32
  ![v3363.toNat, v3364.toNat, v3365.toNat, 0]

def k0_chk247 (v3339 : BitVec 32) (v3343 : BitVec 32) (v3358 : BitVec 32) : Prop :=
  (∀ a, (k0_off370 v3339 v3343 v3358) a + S1x1x32x256.size a ≤ S5x50x50x256.size a)
theorem k0_off370_inb : ∀ (v3339 : BitVec 32) (v3343 : BitVec 32) (v3358 : BitVec 32) (k0_hw247 : k0_chk247 v3339 v3343 v3358), ∀ a, (k0_off370 v3339 v3343 v3358) a + S1x1x32x256.size a ≤ S5x50x50x256.size a := fun v3339 v3343 v3358 k0_hw247 => k0_hw247

def k0_off371 (v3339 : BitVec 32) (v3343 : BitVec 32) (v3358 : BitVec 32) (v3361 : BitVec 32) : Fin 4 → Nat :=
  let v3368 : Index := Scalar.indexCast v3358
  let c4_i32_1397 : BitVec 32 := 4#32
  let v3344 : BitVec 32 := Scalar.shrsi v3343 c4_i32_1397
  let v3362 : BitVec 32 := Scalar.addi v3344 v3361
  let v3369 : Index := Scalar.indexCast v3362
  let c4_i32_1395 : BitVec 32 := 4#32
  let v3340 : BitVec 32 := Scalar.shrsi v3339 c4_i32_1395
  let c3_i32_1402 : BitVec 32 := 3#32
  let v3353 : BitVec 32 := Scalar.shrsi v3340 c3_i32_1402
  let c3_i32_1403 : BitVec 32 := 3#32
  let v3354 : BitVec 32 := Scalar.shli v3353 c3_i32_1403
  let c16_i32_1404 : BitVec 32 := 16#32
  let v3355 : BitVec 32 := Scalar.minsi v3354 c16_i32_1404
  let v3356 : BitVec 32 := v3355
  let v3370 : Index := Scalar.indexCast v3356
  let c0_1407 : Index := 0#32
  ![v3368.toNat, v3369.toNat, v3370.toNat, 0]

def k0_chk248 (v3339 : BitVec 32) (v3343 : BitVec 32) (v3358 : BitVec 32) (v3361 : BitVec 32) : Prop :=
  (∀ a, (k0_off371 v3339 v3343 v3358 v3361) a + S1x1x32x256.size a ≤ S5x50x50x256.size a)
theorem k0_off371_inb : ∀ (v3339 : BitVec 32) (v3343 : BitVec 32) (v3358 : BitVec 32) (v3361 : BitVec 32) (k0_hw248 : k0_chk248 v3339 v3343 v3358 v3361), ∀ a, (k0_off371 v3339 v3343 v3358 v3361) a + S1x1x32x256.size a ≤ S5x50x50x256.size a := fun v3339 v3343 v3358 v3361 k0_hw248 => k0_hw248

def k0_off372 : Fin 4 → Nat :=
  let c0_1410 : Index := 0#32
  let c0_i32 : BitVec 32 := 0#32
  let c128_i32_1391 : BitVec 32 := 128#32
  let v3332 : BitVec 32 := Scalar.muli c0_i32 c128_i32_1391
  let c61_i32 : BitVec 32 := 61#32
  let v3333 : BitVec 32 := Scalar.addi v3332 c61_i32
  let v3382 : Index := Scalar.indexCast v3333
  let c0_1411 : Index := 0#32
  let c0_1412 : Index := 0#32
  ![0, v3382.toNat, 0, 0]
def k0_off373 (i : grid0.Coords) (c0_i32_1416 : BitVec 32) : Fin 1 → Nat :=
  let arg0 : BitVec 32 := BitVec.ofNat 32 (i 0).val
  let c128_i32_1414 : BitVec 32 := 128#32
  let v3388 : BitVec 32 := Scalar.muli arg0 c128_i32_1414
  let c0_i32 : BitVec 32 := 0#32
  let c128_i32_1413 : BitVec 32 := 128#32
  let v3386 : BitVec 32 := Scalar.muli c0_i32 c128_i32_1413
  let c62_i32 : BitVec 32 := 62#32
  let v3387 : BitVec 32 := Scalar.addi v3386 c62_i32
  let v3389 : BitVec 32 := Scalar.addi v3388 v3387
  let c4_i32_1415 : BitVec 32 := 4#32
  let v3390 : BitVec 32 := Scalar.muli v3389 c4_i32_1415
  let v3391 : BitVec 32 := Scalar.addi v3390 c0_i32_1416
  let v3392 : Index := Scalar.indexCast v3391
  ![v3392.toNat]
def k0_mult63 (v3393 : BitVec 32) : BitVec 32 :=
  let c4_i32_1417 : BitVec 32 := 4#32
  let v3394 : BitVec 32 := Scalar.shrsi v3393 c4_i32_1417
  let c3_i32_1424 : BitVec 32 := 3#32
  let v3407 : BitVec 32 := Scalar.shrsi v3394 c3_i32_1424
  let c3_i32_1425 : BitVec 32 := 3#32
  let v3408 : BitVec 32 := Scalar.shli v3407 c3_i32_1425
  let c16_i32_1426 : BitVec 32 := 16#32
  let v3409 : BitVec 32 := Scalar.minsi v3408 c16_i32_1426
  v3409

def k0_chk249 (v3393 : BitVec 32) : Prop :=
  (8 ∣ (k0_mult63 v3393).toNat)
theorem k0_mult63_dvd : ∀ (v3393 : BitVec 32) (k0_hw249 : k0_chk249 v3393), 8 ∣ (k0_mult63 v3393).toNat := fun v3393 k0_hw249 => k0_hw249

def k0_off374 (v3405 : BitVec 32) : Fin 1 → Nat :=
  let c4_i32_1423 : BitVec 32 := 4#32
  let v3406 : BitVec 32 := Scalar.shrsi v3405 c4_i32_1423
  let v3411 : Index := Scalar.indexCast v3406
  ![v3411.toNat]

def k0_off375 (v3405 : BitVec 32) : Fin 1 → Nat :=
  let c32_i32_1427 : BitVec 32 := 32#32
  let c4_i32_1423 : BitVec 32 := 4#32
  let v3406 : BitVec 32 := Scalar.shrsi v3405 c4_i32_1423
  let v3413 : BitVec 32 := Scalar.addi c32_i32_1427 v3406
  let v3414 : Index := Scalar.indexCast v3413
  ![v3414.toNat]

def k0_chk250 (v3405 : BitVec 32) : Prop :=
  (∀ a, (k0_off374 v3405) a + S1.size a ≤ S64.size a) ∧
  (∀ a, (k0_off375 v3405) a + S1.size a ≤ S64.size a)
theorem k0_off374_inb : ∀ (v3405 : BitVec 32) (k0_hw250 : k0_chk250 v3405), ∀ a, (k0_off374 v3405) a + S1.size a ≤ S64.size a := fun v3405 k0_hw250 => k0_hw250.1
theorem k0_off375_inb : ∀ (v3405 : BitVec 32) (k0_hw250 : k0_chk250 v3405), ∀ a, (k0_off375 v3405) a + S1.size a ≤ S64.size a := fun v3405 k0_hw250 => k0_hw250.2

def k0_off376 (v3393 : BitVec 32) (v3397 : BitVec 32) (v3412 : BitVec 32) : Fin 4 → Nat :=
  let v3417 : Index := Scalar.indexCast v3412
  let c4_i32_1419 : BitVec 32 := 4#32
  let v3398 : BitVec 32 := Scalar.shrsi v3397 c4_i32_1419
  let v3418 : Index := Scalar.indexCast v3398
  let c4_i32_1417 : BitVec 32 := 4#32
  let v3394 : BitVec 32 := Scalar.shrsi v3393 c4_i32_1417
  let c3_i32_1424 : BitVec 32 := 3#32
  let v3407 : BitVec 32 := Scalar.shrsi v3394 c3_i32_1424
  let c3_i32_1425 : BitVec 32 := 3#32
  let v3408 : BitVec 32 := Scalar.shli v3407 c3_i32_1425
  let c16_i32_1426 : BitVec 32 := 16#32
  let v3409 : BitVec 32 := Scalar.minsi v3408 c16_i32_1426
  let v3410 : BitVec 32 := v3409
  let v3419 : Index := Scalar.indexCast v3410
  let c0_1428 : Index := 0#32
  ![v3417.toNat, v3418.toNat, v3419.toNat, 0]

def k0_chk251 (v3393 : BitVec 32) (v3397 : BitVec 32) (v3412 : BitVec 32) : Prop :=
  (∀ a, (k0_off376 v3393 v3397 v3412) a + S1x1x32x256.size a ≤ S5x50x50x256.size a)
theorem k0_off376_inb : ∀ (v3393 : BitVec 32) (v3397 : BitVec 32) (v3412 : BitVec 32) (k0_hw251 : k0_chk251 v3393 v3397 v3412), ∀ a, (k0_off376 v3393 v3397 v3412) a + S1x1x32x256.size a ≤ S5x50x50x256.size a := fun v3393 v3397 v3412 k0_hw251 => k0_hw251

def k0_off377 (v3393 : BitVec 32) (v3397 : BitVec 32) (v3412 : BitVec 32) (v3415 : BitVec 32) : Fin 4 → Nat :=
  let v3422 : Index := Scalar.indexCast v3412
  let c4_i32_1419 : BitVec 32 := 4#32
  let v3398 : BitVec 32 := Scalar.shrsi v3397 c4_i32_1419
  let v3416 : BitVec 32 := Scalar.addi v3398 v3415
  let v3423 : Index := Scalar.indexCast v3416
  let c4_i32_1417 : BitVec 32 := 4#32
  let v3394 : BitVec 32 := Scalar.shrsi v3393 c4_i32_1417
  let c3_i32_1424 : BitVec 32 := 3#32
  let v3407 : BitVec 32 := Scalar.shrsi v3394 c3_i32_1424
  let c3_i32_1425 : BitVec 32 := 3#32
  let v3408 : BitVec 32 := Scalar.shli v3407 c3_i32_1425
  let c16_i32_1426 : BitVec 32 := 16#32
  let v3409 : BitVec 32 := Scalar.minsi v3408 c16_i32_1426
  let v3410 : BitVec 32 := v3409
  let v3424 : Index := Scalar.indexCast v3410
  let c0_1429 : Index := 0#32
  ![v3422.toNat, v3423.toNat, v3424.toNat, 0]

def k0_chk252 (v3393 : BitVec 32) (v3397 : BitVec 32) (v3412 : BitVec 32) (v3415 : BitVec 32) : Prop :=
  (∀ a, (k0_off377 v3393 v3397 v3412 v3415) a + S1x1x32x256.size a ≤ S5x50x50x256.size a)
theorem k0_off377_inb : ∀ (v3393 : BitVec 32) (v3397 : BitVec 32) (v3412 : BitVec 32) (v3415 : BitVec 32) (k0_hw252 : k0_chk252 v3393 v3397 v3412 v3415), ∀ a, (k0_off377 v3393 v3397 v3412 v3415) a + S1x1x32x256.size a ≤ S5x50x50x256.size a := fun v3393 v3397 v3412 v3415 k0_hw252 => k0_hw252

def k0_off378 : Fin 4 → Nat :=
  let c0_1432 : Index := 0#32
  let c0_i32 : BitVec 32 := 0#32
  let c128_i32_1413 : BitVec 32 := 128#32
  let v3386 : BitVec 32 := Scalar.muli c0_i32 c128_i32_1413
  let c62_i32 : BitVec 32 := 62#32
  let v3387 : BitVec 32 := Scalar.addi v3386 c62_i32
  let v3436 : Index := Scalar.indexCast v3387
  let c0_1433 : Index := 0#32
  let c0_1434 : Index := 0#32
  ![0, v3436.toNat, 0, 0]
def k0_off379 (i : grid0.Coords) (c0_i32_1438 : BitVec 32) : Fin 1 → Nat :=
  let arg0 : BitVec 32 := BitVec.ofNat 32 (i 0).val
  let c128_i32_1436 : BitVec 32 := 128#32
  let v3442 : BitVec 32 := Scalar.muli arg0 c128_i32_1436
  let c0_i32 : BitVec 32 := 0#32
  let c128_i32_1435 : BitVec 32 := 128#32
  let v3440 : BitVec 32 := Scalar.muli c0_i32 c128_i32_1435
  let c63_i32 : BitVec 32 := 63#32
  let v3441 : BitVec 32 := Scalar.addi v3440 c63_i32
  let v3443 : BitVec 32 := Scalar.addi v3442 v3441
  let c4_i32_1437 : BitVec 32 := 4#32
  let v3444 : BitVec 32 := Scalar.muli v3443 c4_i32_1437
  let v3445 : BitVec 32 := Scalar.addi v3444 c0_i32_1438
  let v3446 : Index := Scalar.indexCast v3445
  ![v3446.toNat]
def k0_mult64 (v3447 : BitVec 32) : BitVec 32 :=
  let c4_i32_1439 : BitVec 32 := 4#32
  let v3448 : BitVec 32 := Scalar.shrsi v3447 c4_i32_1439
  let c3_i32_1446 : BitVec 32 := 3#32
  let v3461 : BitVec 32 := Scalar.shrsi v3448 c3_i32_1446
  let c3_i32_1447 : BitVec 32 := 3#32
  let v3462 : BitVec 32 := Scalar.shli v3461 c3_i32_1447
  let c16_i32_1448 : BitVec 32 := 16#32
  let v3463 : BitVec 32 := Scalar.minsi v3462 c16_i32_1448
  v3463

def k0_chk253 (v3447 : BitVec 32) : Prop :=
  (8 ∣ (k0_mult64 v3447).toNat)
theorem k0_mult64_dvd : ∀ (v3447 : BitVec 32) (k0_hw253 : k0_chk253 v3447), 8 ∣ (k0_mult64 v3447).toNat := fun v3447 k0_hw253 => k0_hw253

def k0_off380 (v3459 : BitVec 32) : Fin 1 → Nat :=
  let c4_i32_1445 : BitVec 32 := 4#32
  let v3460 : BitVec 32 := Scalar.shrsi v3459 c4_i32_1445
  let v3465 : Index := Scalar.indexCast v3460
  ![v3465.toNat]

def k0_off381 (v3459 : BitVec 32) : Fin 1 → Nat :=
  let c32_i32_1449 : BitVec 32 := 32#32
  let c4_i32_1445 : BitVec 32 := 4#32
  let v3460 : BitVec 32 := Scalar.shrsi v3459 c4_i32_1445
  let v3467 : BitVec 32 := Scalar.addi c32_i32_1449 v3460
  let v3468 : Index := Scalar.indexCast v3467
  ![v3468.toNat]

def k0_chk254 (v3459 : BitVec 32) : Prop :=
  (∀ a, (k0_off380 v3459) a + S1.size a ≤ S64.size a) ∧
  (∀ a, (k0_off381 v3459) a + S1.size a ≤ S64.size a)
theorem k0_off380_inb : ∀ (v3459 : BitVec 32) (k0_hw254 : k0_chk254 v3459), ∀ a, (k0_off380 v3459) a + S1.size a ≤ S64.size a := fun v3459 k0_hw254 => k0_hw254.1
theorem k0_off381_inb : ∀ (v3459 : BitVec 32) (k0_hw254 : k0_chk254 v3459), ∀ a, (k0_off381 v3459) a + S1.size a ≤ S64.size a := fun v3459 k0_hw254 => k0_hw254.2

def k0_off382 (v3447 : BitVec 32) (v3451 : BitVec 32) (v3466 : BitVec 32) : Fin 4 → Nat :=
  let v3471 : Index := Scalar.indexCast v3466
  let c4_i32_1441 : BitVec 32 := 4#32
  let v3452 : BitVec 32 := Scalar.shrsi v3451 c4_i32_1441
  let v3472 : Index := Scalar.indexCast v3452
  let c4_i32_1439 : BitVec 32 := 4#32
  let v3448 : BitVec 32 := Scalar.shrsi v3447 c4_i32_1439
  let c3_i32_1446 : BitVec 32 := 3#32
  let v3461 : BitVec 32 := Scalar.shrsi v3448 c3_i32_1446
  let c3_i32_1447 : BitVec 32 := 3#32
  let v3462 : BitVec 32 := Scalar.shli v3461 c3_i32_1447
  let c16_i32_1448 : BitVec 32 := 16#32
  let v3463 : BitVec 32 := Scalar.minsi v3462 c16_i32_1448
  let v3464 : BitVec 32 := v3463
  let v3473 : Index := Scalar.indexCast v3464
  let c0_1450 : Index := 0#32
  ![v3471.toNat, v3472.toNat, v3473.toNat, 0]

def k0_chk255 (v3447 : BitVec 32) (v3451 : BitVec 32) (v3466 : BitVec 32) : Prop :=
  (∀ a, (k0_off382 v3447 v3451 v3466) a + S1x1x32x256.size a ≤ S5x50x50x256.size a)
theorem k0_off382_inb : ∀ (v3447 : BitVec 32) (v3451 : BitVec 32) (v3466 : BitVec 32) (k0_hw255 : k0_chk255 v3447 v3451 v3466), ∀ a, (k0_off382 v3447 v3451 v3466) a + S1x1x32x256.size a ≤ S5x50x50x256.size a := fun v3447 v3451 v3466 k0_hw255 => k0_hw255

def k0_off383 (v3447 : BitVec 32) (v3451 : BitVec 32) (v3466 : BitVec 32) (v3469 : BitVec 32) : Fin 4 → Nat :=
  let v3476 : Index := Scalar.indexCast v3466
  let c4_i32_1441 : BitVec 32 := 4#32
  let v3452 : BitVec 32 := Scalar.shrsi v3451 c4_i32_1441
  let v3470 : BitVec 32 := Scalar.addi v3452 v3469
  let v3477 : Index := Scalar.indexCast v3470
  let c4_i32_1439 : BitVec 32 := 4#32
  let v3448 : BitVec 32 := Scalar.shrsi v3447 c4_i32_1439
  let c3_i32_1446 : BitVec 32 := 3#32
  let v3461 : BitVec 32 := Scalar.shrsi v3448 c3_i32_1446
  let c3_i32_1447 : BitVec 32 := 3#32
  let v3462 : BitVec 32 := Scalar.shli v3461 c3_i32_1447
  let c16_i32_1448 : BitVec 32 := 16#32
  let v3463 : BitVec 32 := Scalar.minsi v3462 c16_i32_1448
  let v3464 : BitVec 32 := v3463
  let v3478 : Index := Scalar.indexCast v3464
  let c0_1451 : Index := 0#32
  ![v3476.toNat, v3477.toNat, v3478.toNat, 0]

def k0_chk256 (v3447 : BitVec 32) (v3451 : BitVec 32) (v3466 : BitVec 32) (v3469 : BitVec 32) : Prop :=
  (∀ a, (k0_off383 v3447 v3451 v3466 v3469) a + S1x1x32x256.size a ≤ S5x50x50x256.size a)
theorem k0_off383_inb : ∀ (v3447 : BitVec 32) (v3451 : BitVec 32) (v3466 : BitVec 32) (v3469 : BitVec 32) (k0_hw256 : k0_chk256 v3447 v3451 v3466 v3469), ∀ a, (k0_off383 v3447 v3451 v3466 v3469) a + S1x1x32x256.size a ≤ S5x50x50x256.size a := fun v3447 v3451 v3466 v3469 k0_hw256 => k0_hw256

def k0_off384 : Fin 4 → Nat :=
  let c0_1454 : Index := 0#32
  let c0_i32 : BitVec 32 := 0#32
  let c128_i32_1435 : BitVec 32 := 128#32
  let v3440 : BitVec 32 := Scalar.muli c0_i32 c128_i32_1435
  let c63_i32 : BitVec 32 := 63#32
  let v3441 : BitVec 32 := Scalar.addi v3440 c63_i32
  let v3490 : Index := Scalar.indexCast v3441
  let c0_1455 : Index := 0#32
  let c0_1456 : Index := 0#32
  ![0, v3490.toNat, 0, 0]
def k0_off385 (i : grid0.Coords) (c0_i32_1460 : BitVec 32) : Fin 1 → Nat :=
  let arg0 : BitVec 32 := BitVec.ofNat 32 (i 0).val
  let c128_i32_1458 : BitVec 32 := 128#32
  let v3496 : BitVec 32 := Scalar.muli arg0 c128_i32_1458
  let c0_i32 : BitVec 32 := 0#32
  let c128_i32_1457 : BitVec 32 := 128#32
  let v3494 : BitVec 32 := Scalar.muli c0_i32 c128_i32_1457
  let c64_i32 : BitVec 32 := 64#32
  let v3495 : BitVec 32 := Scalar.addi v3494 c64_i32
  let v3497 : BitVec 32 := Scalar.addi v3496 v3495
  let c4_i32_1459 : BitVec 32 := 4#32
  let v3498 : BitVec 32 := Scalar.muli v3497 c4_i32_1459
  let v3499 : BitVec 32 := Scalar.addi v3498 c0_i32_1460
  let v3500 : Index := Scalar.indexCast v3499
  ![v3500.toNat]
def k0_mult65 (v3501 : BitVec 32) : BitVec 32 :=
  let c4_i32_1461 : BitVec 32 := 4#32
  let v3502 : BitVec 32 := Scalar.shrsi v3501 c4_i32_1461
  let c3_i32_1468 : BitVec 32 := 3#32
  let v3515 : BitVec 32 := Scalar.shrsi v3502 c3_i32_1468
  let c3_i32_1469 : BitVec 32 := 3#32
  let v3516 : BitVec 32 := Scalar.shli v3515 c3_i32_1469
  let c16_i32_1470 : BitVec 32 := 16#32
  let v3517 : BitVec 32 := Scalar.minsi v3516 c16_i32_1470
  v3517

def k0_chk257 (v3501 : BitVec 32) : Prop :=
  (8 ∣ (k0_mult65 v3501).toNat)
theorem k0_mult65_dvd : ∀ (v3501 : BitVec 32) (k0_hw257 : k0_chk257 v3501), 8 ∣ (k0_mult65 v3501).toNat := fun v3501 k0_hw257 => k0_hw257

def k0_off386 (v3513 : BitVec 32) : Fin 1 → Nat :=
  let c4_i32_1467 : BitVec 32 := 4#32
  let v3514 : BitVec 32 := Scalar.shrsi v3513 c4_i32_1467
  let v3519 : Index := Scalar.indexCast v3514
  ![v3519.toNat]

def k0_off387 (v3513 : BitVec 32) : Fin 1 → Nat :=
  let c32_i32_1471 : BitVec 32 := 32#32
  let c4_i32_1467 : BitVec 32 := 4#32
  let v3514 : BitVec 32 := Scalar.shrsi v3513 c4_i32_1467
  let v3521 : BitVec 32 := Scalar.addi c32_i32_1471 v3514
  let v3522 : Index := Scalar.indexCast v3521
  ![v3522.toNat]

def k0_chk258 (v3513 : BitVec 32) : Prop :=
  (∀ a, (k0_off386 v3513) a + S1.size a ≤ S64.size a) ∧
  (∀ a, (k0_off387 v3513) a + S1.size a ≤ S64.size a)
theorem k0_off386_inb : ∀ (v3513 : BitVec 32) (k0_hw258 : k0_chk258 v3513), ∀ a, (k0_off386 v3513) a + S1.size a ≤ S64.size a := fun v3513 k0_hw258 => k0_hw258.1
theorem k0_off387_inb : ∀ (v3513 : BitVec 32) (k0_hw258 : k0_chk258 v3513), ∀ a, (k0_off387 v3513) a + S1.size a ≤ S64.size a := fun v3513 k0_hw258 => k0_hw258.2

def k0_off388 (v3501 : BitVec 32) (v3505 : BitVec 32) (v3520 : BitVec 32) : Fin 4 → Nat :=
  let v3525 : Index := Scalar.indexCast v3520
  let c4_i32_1463 : BitVec 32 := 4#32
  let v3506 : BitVec 32 := Scalar.shrsi v3505 c4_i32_1463
  let v3526 : Index := Scalar.indexCast v3506
  let c4_i32_1461 : BitVec 32 := 4#32
  let v3502 : BitVec 32 := Scalar.shrsi v3501 c4_i32_1461
  let c3_i32_1468 : BitVec 32 := 3#32
  let v3515 : BitVec 32 := Scalar.shrsi v3502 c3_i32_1468
  let c3_i32_1469 : BitVec 32 := 3#32
  let v3516 : BitVec 32 := Scalar.shli v3515 c3_i32_1469
  let c16_i32_1470 : BitVec 32 := 16#32
  let v3517 : BitVec 32 := Scalar.minsi v3516 c16_i32_1470
  let v3518 : BitVec 32 := v3517
  let v3527 : Index := Scalar.indexCast v3518
  let c0_1472 : Index := 0#32
  ![v3525.toNat, v3526.toNat, v3527.toNat, 0]

def k0_chk259 (v3501 : BitVec 32) (v3505 : BitVec 32) (v3520 : BitVec 32) : Prop :=
  (∀ a, (k0_off388 v3501 v3505 v3520) a + S1x1x32x256.size a ≤ S5x50x50x256.size a)
theorem k0_off388_inb : ∀ (v3501 : BitVec 32) (v3505 : BitVec 32) (v3520 : BitVec 32) (k0_hw259 : k0_chk259 v3501 v3505 v3520), ∀ a, (k0_off388 v3501 v3505 v3520) a + S1x1x32x256.size a ≤ S5x50x50x256.size a := fun v3501 v3505 v3520 k0_hw259 => k0_hw259

def k0_off389 (v3501 : BitVec 32) (v3505 : BitVec 32) (v3520 : BitVec 32) (v3523 : BitVec 32) : Fin 4 → Nat :=
  let v3530 : Index := Scalar.indexCast v3520
  let c4_i32_1463 : BitVec 32 := 4#32
  let v3506 : BitVec 32 := Scalar.shrsi v3505 c4_i32_1463
  let v3524 : BitVec 32 := Scalar.addi v3506 v3523
  let v3531 : Index := Scalar.indexCast v3524
  let c4_i32_1461 : BitVec 32 := 4#32
  let v3502 : BitVec 32 := Scalar.shrsi v3501 c4_i32_1461
  let c3_i32_1468 : BitVec 32 := 3#32
  let v3515 : BitVec 32 := Scalar.shrsi v3502 c3_i32_1468
  let c3_i32_1469 : BitVec 32 := 3#32
  let v3516 : BitVec 32 := Scalar.shli v3515 c3_i32_1469
  let c16_i32_1470 : BitVec 32 := 16#32
  let v3517 : BitVec 32 := Scalar.minsi v3516 c16_i32_1470
  let v3518 : BitVec 32 := v3517
  let v3532 : Index := Scalar.indexCast v3518
  let c0_1473 : Index := 0#32
  ![v3530.toNat, v3531.toNat, v3532.toNat, 0]

def k0_chk260 (v3501 : BitVec 32) (v3505 : BitVec 32) (v3520 : BitVec 32) (v3523 : BitVec 32) : Prop :=
  (∀ a, (k0_off389 v3501 v3505 v3520 v3523) a + S1x1x32x256.size a ≤ S5x50x50x256.size a)
theorem k0_off389_inb : ∀ (v3501 : BitVec 32) (v3505 : BitVec 32) (v3520 : BitVec 32) (v3523 : BitVec 32) (k0_hw260 : k0_chk260 v3501 v3505 v3520 v3523), ∀ a, (k0_off389 v3501 v3505 v3520 v3523) a + S1x1x32x256.size a ≤ S5x50x50x256.size a := fun v3501 v3505 v3520 v3523 k0_hw260 => k0_hw260

def k0_off390 : Fin 4 → Nat :=
  let c0_1476 : Index := 0#32
  let c0_i32 : BitVec 32 := 0#32
  let c128_i32_1457 : BitVec 32 := 128#32
  let v3494 : BitVec 32 := Scalar.muli c0_i32 c128_i32_1457
  let c64_i32 : BitVec 32 := 64#32
  let v3495 : BitVec 32 := Scalar.addi v3494 c64_i32
  let v3544 : Index := Scalar.indexCast v3495
  let c0_1477 : Index := 0#32
  let c0_1478 : Index := 0#32
  ![0, v3544.toNat, 0, 0]
def k0_off391 (i : grid0.Coords) (c0_i32_1482 : BitVec 32) : Fin 1 → Nat :=
  let arg0 : BitVec 32 := BitVec.ofNat 32 (i 0).val
  let c128_i32_1480 : BitVec 32 := 128#32
  let v3550 : BitVec 32 := Scalar.muli arg0 c128_i32_1480
  let c0_i32 : BitVec 32 := 0#32
  let c128_i32_1479 : BitVec 32 := 128#32
  let v3548 : BitVec 32 := Scalar.muli c0_i32 c128_i32_1479
  let c65_i32 : BitVec 32 := 65#32
  let v3549 : BitVec 32 := Scalar.addi v3548 c65_i32
  let v3551 : BitVec 32 := Scalar.addi v3550 v3549
  let c4_i32_1481 : BitVec 32 := 4#32
  let v3552 : BitVec 32 := Scalar.muli v3551 c4_i32_1481
  let v3553 : BitVec 32 := Scalar.addi v3552 c0_i32_1482
  let v3554 : Index := Scalar.indexCast v3553
  ![v3554.toNat]
def k0_mult66 (v3555 : BitVec 32) : BitVec 32 :=
  let c4_i32_1483 : BitVec 32 := 4#32
  let v3556 : BitVec 32 := Scalar.shrsi v3555 c4_i32_1483
  let c3_i32_1490 : BitVec 32 := 3#32
  let v3569 : BitVec 32 := Scalar.shrsi v3556 c3_i32_1490
  let c3_i32_1491 : BitVec 32 := 3#32
  let v3570 : BitVec 32 := Scalar.shli v3569 c3_i32_1491
  let c16_i32_1492 : BitVec 32 := 16#32
  let v3571 : BitVec 32 := Scalar.minsi v3570 c16_i32_1492
  v3571

def k0_chk261 (v3555 : BitVec 32) : Prop :=
  (8 ∣ (k0_mult66 v3555).toNat)
theorem k0_mult66_dvd : ∀ (v3555 : BitVec 32) (k0_hw261 : k0_chk261 v3555), 8 ∣ (k0_mult66 v3555).toNat := fun v3555 k0_hw261 => k0_hw261

def k0_off392 (v3567 : BitVec 32) : Fin 1 → Nat :=
  let c4_i32_1489 : BitVec 32 := 4#32
  let v3568 : BitVec 32 := Scalar.shrsi v3567 c4_i32_1489
  let v3573 : Index := Scalar.indexCast v3568
  ![v3573.toNat]

def k0_off393 (v3567 : BitVec 32) : Fin 1 → Nat :=
  let c32_i32_1493 : BitVec 32 := 32#32
  let c4_i32_1489 : BitVec 32 := 4#32
  let v3568 : BitVec 32 := Scalar.shrsi v3567 c4_i32_1489
  let v3575 : BitVec 32 := Scalar.addi c32_i32_1493 v3568
  let v3576 : Index := Scalar.indexCast v3575
  ![v3576.toNat]

def k0_chk262 (v3567 : BitVec 32) : Prop :=
  (∀ a, (k0_off392 v3567) a + S1.size a ≤ S64.size a) ∧
  (∀ a, (k0_off393 v3567) a + S1.size a ≤ S64.size a)
theorem k0_off392_inb : ∀ (v3567 : BitVec 32) (k0_hw262 : k0_chk262 v3567), ∀ a, (k0_off392 v3567) a + S1.size a ≤ S64.size a := fun v3567 k0_hw262 => k0_hw262.1
theorem k0_off393_inb : ∀ (v3567 : BitVec 32) (k0_hw262 : k0_chk262 v3567), ∀ a, (k0_off393 v3567) a + S1.size a ≤ S64.size a := fun v3567 k0_hw262 => k0_hw262.2

def k0_off394 (v3555 : BitVec 32) (v3559 : BitVec 32) (v3574 : BitVec 32) : Fin 4 → Nat :=
  let v3579 : Index := Scalar.indexCast v3574
  let c4_i32_1485 : BitVec 32 := 4#32
  let v3560 : BitVec 32 := Scalar.shrsi v3559 c4_i32_1485
  let v3580 : Index := Scalar.indexCast v3560
  let c4_i32_1483 : BitVec 32 := 4#32
  let v3556 : BitVec 32 := Scalar.shrsi v3555 c4_i32_1483
  let c3_i32_1490 : BitVec 32 := 3#32
  let v3569 : BitVec 32 := Scalar.shrsi v3556 c3_i32_1490
  let c3_i32_1491 : BitVec 32 := 3#32
  let v3570 : BitVec 32 := Scalar.shli v3569 c3_i32_1491
  let c16_i32_1492 : BitVec 32 := 16#32
  let v3571 : BitVec 32 := Scalar.minsi v3570 c16_i32_1492
  let v3572 : BitVec 32 := v3571
  let v3581 : Index := Scalar.indexCast v3572
  let c0_1494 : Index := 0#32
  ![v3579.toNat, v3580.toNat, v3581.toNat, 0]

def k0_chk263 (v3555 : BitVec 32) (v3559 : BitVec 32) (v3574 : BitVec 32) : Prop :=
  (∀ a, (k0_off394 v3555 v3559 v3574) a + S1x1x32x256.size a ≤ S5x50x50x256.size a)
theorem k0_off394_inb : ∀ (v3555 : BitVec 32) (v3559 : BitVec 32) (v3574 : BitVec 32) (k0_hw263 : k0_chk263 v3555 v3559 v3574), ∀ a, (k0_off394 v3555 v3559 v3574) a + S1x1x32x256.size a ≤ S5x50x50x256.size a := fun v3555 v3559 v3574 k0_hw263 => k0_hw263

def k0_off395 (v3555 : BitVec 32) (v3559 : BitVec 32) (v3574 : BitVec 32) (v3577 : BitVec 32) : Fin 4 → Nat :=
  let v3584 : Index := Scalar.indexCast v3574
  let c4_i32_1485 : BitVec 32 := 4#32
  let v3560 : BitVec 32 := Scalar.shrsi v3559 c4_i32_1485
  let v3578 : BitVec 32 := Scalar.addi v3560 v3577
  let v3585 : Index := Scalar.indexCast v3578
  let c4_i32_1483 : BitVec 32 := 4#32
  let v3556 : BitVec 32 := Scalar.shrsi v3555 c4_i32_1483
  let c3_i32_1490 : BitVec 32 := 3#32
  let v3569 : BitVec 32 := Scalar.shrsi v3556 c3_i32_1490
  let c3_i32_1491 : BitVec 32 := 3#32
  let v3570 : BitVec 32 := Scalar.shli v3569 c3_i32_1491
  let c16_i32_1492 : BitVec 32 := 16#32
  let v3571 : BitVec 32 := Scalar.minsi v3570 c16_i32_1492
  let v3572 : BitVec 32 := v3571
  let v3586 : Index := Scalar.indexCast v3572
  let c0_1495 : Index := 0#32
  ![v3584.toNat, v3585.toNat, v3586.toNat, 0]

def k0_chk264 (v3555 : BitVec 32) (v3559 : BitVec 32) (v3574 : BitVec 32) (v3577 : BitVec 32) : Prop :=
  (∀ a, (k0_off395 v3555 v3559 v3574 v3577) a + S1x1x32x256.size a ≤ S5x50x50x256.size a)
theorem k0_off395_inb : ∀ (v3555 : BitVec 32) (v3559 : BitVec 32) (v3574 : BitVec 32) (v3577 : BitVec 32) (k0_hw264 : k0_chk264 v3555 v3559 v3574 v3577), ∀ a, (k0_off395 v3555 v3559 v3574 v3577) a + S1x1x32x256.size a ≤ S5x50x50x256.size a := fun v3555 v3559 v3574 v3577 k0_hw264 => k0_hw264

def k0_off396 : Fin 4 → Nat :=
  let c0_1498 : Index := 0#32
  let c0_i32 : BitVec 32 := 0#32
  let c128_i32_1479 : BitVec 32 := 128#32
  let v3548 : BitVec 32 := Scalar.muli c0_i32 c128_i32_1479
  let c65_i32 : BitVec 32 := 65#32
  let v3549 : BitVec 32 := Scalar.addi v3548 c65_i32
  let v3598 : Index := Scalar.indexCast v3549
  let c0_1499 : Index := 0#32
  let c0_1500 : Index := 0#32
  ![0, v3598.toNat, 0, 0]
def k0_off397 (i : grid0.Coords) (c0_i32_1504 : BitVec 32) : Fin 1 → Nat :=
  let arg0 : BitVec 32 := BitVec.ofNat 32 (i 0).val
  let c128_i32_1502 : BitVec 32 := 128#32
  let v3604 : BitVec 32 := Scalar.muli arg0 c128_i32_1502
  let c0_i32 : BitVec 32 := 0#32
  let c128_i32_1501 : BitVec 32 := 128#32
  let v3602 : BitVec 32 := Scalar.muli c0_i32 c128_i32_1501
  let c66_i32 : BitVec 32 := 66#32
  let v3603 : BitVec 32 := Scalar.addi v3602 c66_i32
  let v3605 : BitVec 32 := Scalar.addi v3604 v3603
  let c4_i32_1503 : BitVec 32 := 4#32
  let v3606 : BitVec 32 := Scalar.muli v3605 c4_i32_1503
  let v3607 : BitVec 32 := Scalar.addi v3606 c0_i32_1504
  let v3608 : Index := Scalar.indexCast v3607
  ![v3608.toNat]
def k0_mult67 (v3609 : BitVec 32) : BitVec 32 :=
  let c4_i32_1505 : BitVec 32 := 4#32
  let v3610 : BitVec 32 := Scalar.shrsi v3609 c4_i32_1505
  let c3_i32_1512 : BitVec 32 := 3#32
  let v3623 : BitVec 32 := Scalar.shrsi v3610 c3_i32_1512
  let c3_i32_1513 : BitVec 32 := 3#32
  let v3624 : BitVec 32 := Scalar.shli v3623 c3_i32_1513
  let c16_i32_1514 : BitVec 32 := 16#32
  let v3625 : BitVec 32 := Scalar.minsi v3624 c16_i32_1514
  v3625

def k0_chk265 (v3609 : BitVec 32) : Prop :=
  (8 ∣ (k0_mult67 v3609).toNat)
theorem k0_mult67_dvd : ∀ (v3609 : BitVec 32) (k0_hw265 : k0_chk265 v3609), 8 ∣ (k0_mult67 v3609).toNat := fun v3609 k0_hw265 => k0_hw265

def k0_off398 (v3621 : BitVec 32) : Fin 1 → Nat :=
  let c4_i32_1511 : BitVec 32 := 4#32
  let v3622 : BitVec 32 := Scalar.shrsi v3621 c4_i32_1511
  let v3627 : Index := Scalar.indexCast v3622
  ![v3627.toNat]

def k0_off399 (v3621 : BitVec 32) : Fin 1 → Nat :=
  let c32_i32_1515 : BitVec 32 := 32#32
  let c4_i32_1511 : BitVec 32 := 4#32
  let v3622 : BitVec 32 := Scalar.shrsi v3621 c4_i32_1511
  let v3629 : BitVec 32 := Scalar.addi c32_i32_1515 v3622
  let v3630 : Index := Scalar.indexCast v3629
  ![v3630.toNat]

def k0_chk266 (v3621 : BitVec 32) : Prop :=
  (∀ a, (k0_off398 v3621) a + S1.size a ≤ S64.size a) ∧
  (∀ a, (k0_off399 v3621) a + S1.size a ≤ S64.size a)
theorem k0_off398_inb : ∀ (v3621 : BitVec 32) (k0_hw266 : k0_chk266 v3621), ∀ a, (k0_off398 v3621) a + S1.size a ≤ S64.size a := fun v3621 k0_hw266 => k0_hw266.1
theorem k0_off399_inb : ∀ (v3621 : BitVec 32) (k0_hw266 : k0_chk266 v3621), ∀ a, (k0_off399 v3621) a + S1.size a ≤ S64.size a := fun v3621 k0_hw266 => k0_hw266.2

def k0_off400 (v3609 : BitVec 32) (v3613 : BitVec 32) (v3628 : BitVec 32) : Fin 4 → Nat :=
  let v3633 : Index := Scalar.indexCast v3628
  let c4_i32_1507 : BitVec 32 := 4#32
  let v3614 : BitVec 32 := Scalar.shrsi v3613 c4_i32_1507
  let v3634 : Index := Scalar.indexCast v3614
  let c4_i32_1505 : BitVec 32 := 4#32
  let v3610 : BitVec 32 := Scalar.shrsi v3609 c4_i32_1505
  let c3_i32_1512 : BitVec 32 := 3#32
  let v3623 : BitVec 32 := Scalar.shrsi v3610 c3_i32_1512
  let c3_i32_1513 : BitVec 32 := 3#32
  let v3624 : BitVec 32 := Scalar.shli v3623 c3_i32_1513
  let c16_i32_1514 : BitVec 32 := 16#32
  let v3625 : BitVec 32 := Scalar.minsi v3624 c16_i32_1514
  let v3626 : BitVec 32 := v3625
  let v3635 : Index := Scalar.indexCast v3626
  let c0_1516 : Index := 0#32
  ![v3633.toNat, v3634.toNat, v3635.toNat, 0]

def k0_chk267 (v3609 : BitVec 32) (v3613 : BitVec 32) (v3628 : BitVec 32) : Prop :=
  (∀ a, (k0_off400 v3609 v3613 v3628) a + S1x1x32x256.size a ≤ S5x50x50x256.size a)
theorem k0_off400_inb : ∀ (v3609 : BitVec 32) (v3613 : BitVec 32) (v3628 : BitVec 32) (k0_hw267 : k0_chk267 v3609 v3613 v3628), ∀ a, (k0_off400 v3609 v3613 v3628) a + S1x1x32x256.size a ≤ S5x50x50x256.size a := fun v3609 v3613 v3628 k0_hw267 => k0_hw267

def k0_off401 (v3609 : BitVec 32) (v3613 : BitVec 32) (v3628 : BitVec 32) (v3631 : BitVec 32) : Fin 4 → Nat :=
  let v3638 : Index := Scalar.indexCast v3628
  let c4_i32_1507 : BitVec 32 := 4#32
  let v3614 : BitVec 32 := Scalar.shrsi v3613 c4_i32_1507
  let v3632 : BitVec 32 := Scalar.addi v3614 v3631
  let v3639 : Index := Scalar.indexCast v3632
  let c4_i32_1505 : BitVec 32 := 4#32
  let v3610 : BitVec 32 := Scalar.shrsi v3609 c4_i32_1505
  let c3_i32_1512 : BitVec 32 := 3#32
  let v3623 : BitVec 32 := Scalar.shrsi v3610 c3_i32_1512
  let c3_i32_1513 : BitVec 32 := 3#32
  let v3624 : BitVec 32 := Scalar.shli v3623 c3_i32_1513
  let c16_i32_1514 : BitVec 32 := 16#32
  let v3625 : BitVec 32 := Scalar.minsi v3624 c16_i32_1514
  let v3626 : BitVec 32 := v3625
  let v3640 : Index := Scalar.indexCast v3626
  let c0_1517 : Index := 0#32
  ![v3638.toNat, v3639.toNat, v3640.toNat, 0]

def k0_chk268 (v3609 : BitVec 32) (v3613 : BitVec 32) (v3628 : BitVec 32) (v3631 : BitVec 32) : Prop :=
  (∀ a, (k0_off401 v3609 v3613 v3628 v3631) a + S1x1x32x256.size a ≤ S5x50x50x256.size a)
theorem k0_off401_inb : ∀ (v3609 : BitVec 32) (v3613 : BitVec 32) (v3628 : BitVec 32) (v3631 : BitVec 32) (k0_hw268 : k0_chk268 v3609 v3613 v3628 v3631), ∀ a, (k0_off401 v3609 v3613 v3628 v3631) a + S1x1x32x256.size a ≤ S5x50x50x256.size a := fun v3609 v3613 v3628 v3631 k0_hw268 => k0_hw268

def k0_off402 : Fin 4 → Nat :=
  let c0_1520 : Index := 0#32
  let c0_i32 : BitVec 32 := 0#32
  let c128_i32_1501 : BitVec 32 := 128#32
  let v3602 : BitVec 32 := Scalar.muli c0_i32 c128_i32_1501
  let c66_i32 : BitVec 32 := 66#32
  let v3603 : BitVec 32 := Scalar.addi v3602 c66_i32
  let v3652 : Index := Scalar.indexCast v3603
  let c0_1521 : Index := 0#32
  let c0_1522 : Index := 0#32
  ![0, v3652.toNat, 0, 0]
def k0_off403 (i : grid0.Coords) (c0_i32_1526 : BitVec 32) : Fin 1 → Nat :=
  let arg0 : BitVec 32 := BitVec.ofNat 32 (i 0).val
  let c128_i32_1524 : BitVec 32 := 128#32
  let v3658 : BitVec 32 := Scalar.muli arg0 c128_i32_1524
  let c0_i32 : BitVec 32 := 0#32
  let c128_i32_1523 : BitVec 32 := 128#32
  let v3656 : BitVec 32 := Scalar.muli c0_i32 c128_i32_1523
  let c67_i32 : BitVec 32 := 67#32
  let v3657 : BitVec 32 := Scalar.addi v3656 c67_i32
  let v3659 : BitVec 32 := Scalar.addi v3658 v3657
  let c4_i32_1525 : BitVec 32 := 4#32
  let v3660 : BitVec 32 := Scalar.muli v3659 c4_i32_1525
  let v3661 : BitVec 32 := Scalar.addi v3660 c0_i32_1526
  let v3662 : Index := Scalar.indexCast v3661
  ![v3662.toNat]
def k0_mult68 (v3663 : BitVec 32) : BitVec 32 :=
  let c4_i32_1527 : BitVec 32 := 4#32
  let v3664 : BitVec 32 := Scalar.shrsi v3663 c4_i32_1527
  let c3_i32_1534 : BitVec 32 := 3#32
  let v3677 : BitVec 32 := Scalar.shrsi v3664 c3_i32_1534
  let c3_i32_1535 : BitVec 32 := 3#32
  let v3678 : BitVec 32 := Scalar.shli v3677 c3_i32_1535
  let c16_i32_1536 : BitVec 32 := 16#32
  let v3679 : BitVec 32 := Scalar.minsi v3678 c16_i32_1536
  v3679

def k0_chk269 (v3663 : BitVec 32) : Prop :=
  (8 ∣ (k0_mult68 v3663).toNat)
theorem k0_mult68_dvd : ∀ (v3663 : BitVec 32) (k0_hw269 : k0_chk269 v3663), 8 ∣ (k0_mult68 v3663).toNat := fun v3663 k0_hw269 => k0_hw269

def k0_off404 (v3675 : BitVec 32) : Fin 1 → Nat :=
  let c4_i32_1533 : BitVec 32 := 4#32
  let v3676 : BitVec 32 := Scalar.shrsi v3675 c4_i32_1533
  let v3681 : Index := Scalar.indexCast v3676
  ![v3681.toNat]

def k0_off405 (v3675 : BitVec 32) : Fin 1 → Nat :=
  let c32_i32_1537 : BitVec 32 := 32#32
  let c4_i32_1533 : BitVec 32 := 4#32
  let v3676 : BitVec 32 := Scalar.shrsi v3675 c4_i32_1533
  let v3683 : BitVec 32 := Scalar.addi c32_i32_1537 v3676
  let v3684 : Index := Scalar.indexCast v3683
  ![v3684.toNat]

def k0_chk270 (v3675 : BitVec 32) : Prop :=
  (∀ a, (k0_off404 v3675) a + S1.size a ≤ S64.size a) ∧
  (∀ a, (k0_off405 v3675) a + S1.size a ≤ S64.size a)
theorem k0_off404_inb : ∀ (v3675 : BitVec 32) (k0_hw270 : k0_chk270 v3675), ∀ a, (k0_off404 v3675) a + S1.size a ≤ S64.size a := fun v3675 k0_hw270 => k0_hw270.1
theorem k0_off405_inb : ∀ (v3675 : BitVec 32) (k0_hw270 : k0_chk270 v3675), ∀ a, (k0_off405 v3675) a + S1.size a ≤ S64.size a := fun v3675 k0_hw270 => k0_hw270.2

def k0_off406 (v3663 : BitVec 32) (v3667 : BitVec 32) (v3682 : BitVec 32) : Fin 4 → Nat :=
  let v3687 : Index := Scalar.indexCast v3682
  let c4_i32_1529 : BitVec 32 := 4#32
  let v3668 : BitVec 32 := Scalar.shrsi v3667 c4_i32_1529
  let v3688 : Index := Scalar.indexCast v3668
  let c4_i32_1527 : BitVec 32 := 4#32
  let v3664 : BitVec 32 := Scalar.shrsi v3663 c4_i32_1527
  let c3_i32_1534 : BitVec 32 := 3#32
  let v3677 : BitVec 32 := Scalar.shrsi v3664 c3_i32_1534
  let c3_i32_1535 : BitVec 32 := 3#32
  let v3678 : BitVec 32 := Scalar.shli v3677 c3_i32_1535
  let c16_i32_1536 : BitVec 32 := 16#32
  let v3679 : BitVec 32 := Scalar.minsi v3678 c16_i32_1536
  let v3680 : BitVec 32 := v3679
  let v3689 : Index := Scalar.indexCast v3680
  let c0_1538 : Index := 0#32
  ![v3687.toNat, v3688.toNat, v3689.toNat, 0]

def k0_chk271 (v3663 : BitVec 32) (v3667 : BitVec 32) (v3682 : BitVec 32) : Prop :=
  (∀ a, (k0_off406 v3663 v3667 v3682) a + S1x1x32x256.size a ≤ S5x50x50x256.size a)
theorem k0_off406_inb : ∀ (v3663 : BitVec 32) (v3667 : BitVec 32) (v3682 : BitVec 32) (k0_hw271 : k0_chk271 v3663 v3667 v3682), ∀ a, (k0_off406 v3663 v3667 v3682) a + S1x1x32x256.size a ≤ S5x50x50x256.size a := fun v3663 v3667 v3682 k0_hw271 => k0_hw271

def k0_off407 (v3663 : BitVec 32) (v3667 : BitVec 32) (v3682 : BitVec 32) (v3685 : BitVec 32) : Fin 4 → Nat :=
  let v3692 : Index := Scalar.indexCast v3682
  let c4_i32_1529 : BitVec 32 := 4#32
  let v3668 : BitVec 32 := Scalar.shrsi v3667 c4_i32_1529
  let v3686 : BitVec 32 := Scalar.addi v3668 v3685
  let v3693 : Index := Scalar.indexCast v3686
  let c4_i32_1527 : BitVec 32 := 4#32
  let v3664 : BitVec 32 := Scalar.shrsi v3663 c4_i32_1527
  let c3_i32_1534 : BitVec 32 := 3#32
  let v3677 : BitVec 32 := Scalar.shrsi v3664 c3_i32_1534
  let c3_i32_1535 : BitVec 32 := 3#32
  let v3678 : BitVec 32 := Scalar.shli v3677 c3_i32_1535
  let c16_i32_1536 : BitVec 32 := 16#32
  let v3679 : BitVec 32 := Scalar.minsi v3678 c16_i32_1536
  let v3680 : BitVec 32 := v3679
  let v3694 : Index := Scalar.indexCast v3680
  let c0_1539 : Index := 0#32
  ![v3692.toNat, v3693.toNat, v3694.toNat, 0]

def k0_chk272 (v3663 : BitVec 32) (v3667 : BitVec 32) (v3682 : BitVec 32) (v3685 : BitVec 32) : Prop :=
  (∀ a, (k0_off407 v3663 v3667 v3682 v3685) a + S1x1x32x256.size a ≤ S5x50x50x256.size a)
theorem k0_off407_inb : ∀ (v3663 : BitVec 32) (v3667 : BitVec 32) (v3682 : BitVec 32) (v3685 : BitVec 32) (k0_hw272 : k0_chk272 v3663 v3667 v3682 v3685), ∀ a, (k0_off407 v3663 v3667 v3682 v3685) a + S1x1x32x256.size a ≤ S5x50x50x256.size a := fun v3663 v3667 v3682 v3685 k0_hw272 => k0_hw272

def k0_off408 : Fin 4 → Nat :=
  let c0_1542 : Index := 0#32
  let c0_i32 : BitVec 32 := 0#32
  let c128_i32_1523 : BitVec 32 := 128#32
  let v3656 : BitVec 32 := Scalar.muli c0_i32 c128_i32_1523
  let c67_i32 : BitVec 32 := 67#32
  let v3657 : BitVec 32 := Scalar.addi v3656 c67_i32
  let v3706 : Index := Scalar.indexCast v3657
  let c0_1543 : Index := 0#32
  let c0_1544 : Index := 0#32
  ![0, v3706.toNat, 0, 0]
def k0_off409 (i : grid0.Coords) (c0_i32_1548 : BitVec 32) : Fin 1 → Nat :=
  let arg0 : BitVec 32 := BitVec.ofNat 32 (i 0).val
  let c128_i32_1546 : BitVec 32 := 128#32
  let v3712 : BitVec 32 := Scalar.muli arg0 c128_i32_1546
  let c0_i32 : BitVec 32 := 0#32
  let c128_i32_1545 : BitVec 32 := 128#32
  let v3710 : BitVec 32 := Scalar.muli c0_i32 c128_i32_1545
  let c68_i32 : BitVec 32 := 68#32
  let v3711 : BitVec 32 := Scalar.addi v3710 c68_i32
  let v3713 : BitVec 32 := Scalar.addi v3712 v3711
  let c4_i32_1547 : BitVec 32 := 4#32
  let v3714 : BitVec 32 := Scalar.muli v3713 c4_i32_1547
  let v3715 : BitVec 32 := Scalar.addi v3714 c0_i32_1548
  let v3716 : Index := Scalar.indexCast v3715
  ![v3716.toNat]
def k0_mult69 (v3717 : BitVec 32) : BitVec 32 :=
  let c4_i32_1549 : BitVec 32 := 4#32
  let v3718 : BitVec 32 := Scalar.shrsi v3717 c4_i32_1549
  let c3_i32_1556 : BitVec 32 := 3#32
  let v3731 : BitVec 32 := Scalar.shrsi v3718 c3_i32_1556
  let c3_i32_1557 : BitVec 32 := 3#32
  let v3732 : BitVec 32 := Scalar.shli v3731 c3_i32_1557
  let c16_i32_1558 : BitVec 32 := 16#32
  let v3733 : BitVec 32 := Scalar.minsi v3732 c16_i32_1558
  v3733

def k0_chk273 (v3717 : BitVec 32) : Prop :=
  (8 ∣ (k0_mult69 v3717).toNat)
theorem k0_mult69_dvd : ∀ (v3717 : BitVec 32) (k0_hw273 : k0_chk273 v3717), 8 ∣ (k0_mult69 v3717).toNat := fun v3717 k0_hw273 => k0_hw273

def k0_off410 (v3729 : BitVec 32) : Fin 1 → Nat :=
  let c4_i32_1555 : BitVec 32 := 4#32
  let v3730 : BitVec 32 := Scalar.shrsi v3729 c4_i32_1555
  let v3735 : Index := Scalar.indexCast v3730
  ![v3735.toNat]

def k0_off411 (v3729 : BitVec 32) : Fin 1 → Nat :=
  let c32_i32_1559 : BitVec 32 := 32#32
  let c4_i32_1555 : BitVec 32 := 4#32
  let v3730 : BitVec 32 := Scalar.shrsi v3729 c4_i32_1555
  let v3737 : BitVec 32 := Scalar.addi c32_i32_1559 v3730
  let v3738 : Index := Scalar.indexCast v3737
  ![v3738.toNat]

def k0_chk274 (v3729 : BitVec 32) : Prop :=
  (∀ a, (k0_off410 v3729) a + S1.size a ≤ S64.size a) ∧
  (∀ a, (k0_off411 v3729) a + S1.size a ≤ S64.size a)
theorem k0_off410_inb : ∀ (v3729 : BitVec 32) (k0_hw274 : k0_chk274 v3729), ∀ a, (k0_off410 v3729) a + S1.size a ≤ S64.size a := fun v3729 k0_hw274 => k0_hw274.1
theorem k0_off411_inb : ∀ (v3729 : BitVec 32) (k0_hw274 : k0_chk274 v3729), ∀ a, (k0_off411 v3729) a + S1.size a ≤ S64.size a := fun v3729 k0_hw274 => k0_hw274.2

def k0_off412 (v3717 : BitVec 32) (v3721 : BitVec 32) (v3736 : BitVec 32) : Fin 4 → Nat :=
  let v3741 : Index := Scalar.indexCast v3736
  let c4_i32_1551 : BitVec 32 := 4#32
  let v3722 : BitVec 32 := Scalar.shrsi v3721 c4_i32_1551
  let v3742 : Index := Scalar.indexCast v3722
  let c4_i32_1549 : BitVec 32 := 4#32
  let v3718 : BitVec 32 := Scalar.shrsi v3717 c4_i32_1549
  let c3_i32_1556 : BitVec 32 := 3#32
  let v3731 : BitVec 32 := Scalar.shrsi v3718 c3_i32_1556
  let c3_i32_1557 : BitVec 32 := 3#32
  let v3732 : BitVec 32 := Scalar.shli v3731 c3_i32_1557
  let c16_i32_1558 : BitVec 32 := 16#32
  let v3733 : BitVec 32 := Scalar.minsi v3732 c16_i32_1558
  let v3734 : BitVec 32 := v3733
  let v3743 : Index := Scalar.indexCast v3734
  let c0_1560 : Index := 0#32
  ![v3741.toNat, v3742.toNat, v3743.toNat, 0]

def k0_chk275 (v3717 : BitVec 32) (v3721 : BitVec 32) (v3736 : BitVec 32) : Prop :=
  (∀ a, (k0_off412 v3717 v3721 v3736) a + S1x1x32x256.size a ≤ S5x50x50x256.size a)
theorem k0_off412_inb : ∀ (v3717 : BitVec 32) (v3721 : BitVec 32) (v3736 : BitVec 32) (k0_hw275 : k0_chk275 v3717 v3721 v3736), ∀ a, (k0_off412 v3717 v3721 v3736) a + S1x1x32x256.size a ≤ S5x50x50x256.size a := fun v3717 v3721 v3736 k0_hw275 => k0_hw275

def k0_off413 (v3717 : BitVec 32) (v3721 : BitVec 32) (v3736 : BitVec 32) (v3739 : BitVec 32) : Fin 4 → Nat :=
  let v3746 : Index := Scalar.indexCast v3736
  let c4_i32_1551 : BitVec 32 := 4#32
  let v3722 : BitVec 32 := Scalar.shrsi v3721 c4_i32_1551
  let v3740 : BitVec 32 := Scalar.addi v3722 v3739
  let v3747 : Index := Scalar.indexCast v3740
  let c4_i32_1549 : BitVec 32 := 4#32
  let v3718 : BitVec 32 := Scalar.shrsi v3717 c4_i32_1549
  let c3_i32_1556 : BitVec 32 := 3#32
  let v3731 : BitVec 32 := Scalar.shrsi v3718 c3_i32_1556
  let c3_i32_1557 : BitVec 32 := 3#32
  let v3732 : BitVec 32 := Scalar.shli v3731 c3_i32_1557
  let c16_i32_1558 : BitVec 32 := 16#32
  let v3733 : BitVec 32 := Scalar.minsi v3732 c16_i32_1558
  let v3734 : BitVec 32 := v3733
  let v3748 : Index := Scalar.indexCast v3734
  let c0_1561 : Index := 0#32
  ![v3746.toNat, v3747.toNat, v3748.toNat, 0]

def k0_chk276 (v3717 : BitVec 32) (v3721 : BitVec 32) (v3736 : BitVec 32) (v3739 : BitVec 32) : Prop :=
  (∀ a, (k0_off413 v3717 v3721 v3736 v3739) a + S1x1x32x256.size a ≤ S5x50x50x256.size a)
theorem k0_off413_inb : ∀ (v3717 : BitVec 32) (v3721 : BitVec 32) (v3736 : BitVec 32) (v3739 : BitVec 32) (k0_hw276 : k0_chk276 v3717 v3721 v3736 v3739), ∀ a, (k0_off413 v3717 v3721 v3736 v3739) a + S1x1x32x256.size a ≤ S5x50x50x256.size a := fun v3717 v3721 v3736 v3739 k0_hw276 => k0_hw276

def k0_off414 : Fin 4 → Nat :=
  let c0_1564 : Index := 0#32
  let c0_i32 : BitVec 32 := 0#32
  let c128_i32_1545 : BitVec 32 := 128#32
  let v3710 : BitVec 32 := Scalar.muli c0_i32 c128_i32_1545
  let c68_i32 : BitVec 32 := 68#32
  let v3711 : BitVec 32 := Scalar.addi v3710 c68_i32
  let v3760 : Index := Scalar.indexCast v3711
  let c0_1565 : Index := 0#32
  let c0_1566 : Index := 0#32
  ![0, v3760.toNat, 0, 0]
def k0_off415 (i : grid0.Coords) (c0_i32_1570 : BitVec 32) : Fin 1 → Nat :=
  let arg0 : BitVec 32 := BitVec.ofNat 32 (i 0).val
  let c128_i32_1568 : BitVec 32 := 128#32
  let v3766 : BitVec 32 := Scalar.muli arg0 c128_i32_1568
  let c0_i32 : BitVec 32 := 0#32
  let c128_i32_1567 : BitVec 32 := 128#32
  let v3764 : BitVec 32 := Scalar.muli c0_i32 c128_i32_1567
  let c69_i32 : BitVec 32 := 69#32
  let v3765 : BitVec 32 := Scalar.addi v3764 c69_i32
  let v3767 : BitVec 32 := Scalar.addi v3766 v3765
  let c4_i32_1569 : BitVec 32 := 4#32
  let v3768 : BitVec 32 := Scalar.muli v3767 c4_i32_1569
  let v3769 : BitVec 32 := Scalar.addi v3768 c0_i32_1570
  let v3770 : Index := Scalar.indexCast v3769
  ![v3770.toNat]
def k0_mult70 (v3771 : BitVec 32) : BitVec 32 :=
  let c4_i32_1571 : BitVec 32 := 4#32
  let v3772 : BitVec 32 := Scalar.shrsi v3771 c4_i32_1571
  let c3_i32_1578 : BitVec 32 := 3#32
  let v3785 : BitVec 32 := Scalar.shrsi v3772 c3_i32_1578
  let c3_i32_1579 : BitVec 32 := 3#32
  let v3786 : BitVec 32 := Scalar.shli v3785 c3_i32_1579
  let c16_i32_1580 : BitVec 32 := 16#32
  let v3787 : BitVec 32 := Scalar.minsi v3786 c16_i32_1580
  v3787

def k0_chk277 (v3771 : BitVec 32) : Prop :=
  (8 ∣ (k0_mult70 v3771).toNat)
theorem k0_mult70_dvd : ∀ (v3771 : BitVec 32) (k0_hw277 : k0_chk277 v3771), 8 ∣ (k0_mult70 v3771).toNat := fun v3771 k0_hw277 => k0_hw277

def k0_off416 (v3783 : BitVec 32) : Fin 1 → Nat :=
  let c4_i32_1577 : BitVec 32 := 4#32
  let v3784 : BitVec 32 := Scalar.shrsi v3783 c4_i32_1577
  let v3789 : Index := Scalar.indexCast v3784
  ![v3789.toNat]

def k0_off417 (v3783 : BitVec 32) : Fin 1 → Nat :=
  let c32_i32_1581 : BitVec 32 := 32#32
  let c4_i32_1577 : BitVec 32 := 4#32
  let v3784 : BitVec 32 := Scalar.shrsi v3783 c4_i32_1577
  let v3791 : BitVec 32 := Scalar.addi c32_i32_1581 v3784
  let v3792 : Index := Scalar.indexCast v3791
  ![v3792.toNat]

def k0_chk278 (v3783 : BitVec 32) : Prop :=
  (∀ a, (k0_off416 v3783) a + S1.size a ≤ S64.size a) ∧
  (∀ a, (k0_off417 v3783) a + S1.size a ≤ S64.size a)
theorem k0_off416_inb : ∀ (v3783 : BitVec 32) (k0_hw278 : k0_chk278 v3783), ∀ a, (k0_off416 v3783) a + S1.size a ≤ S64.size a := fun v3783 k0_hw278 => k0_hw278.1
theorem k0_off417_inb : ∀ (v3783 : BitVec 32) (k0_hw278 : k0_chk278 v3783), ∀ a, (k0_off417 v3783) a + S1.size a ≤ S64.size a := fun v3783 k0_hw278 => k0_hw278.2

def k0_off418 (v3771 : BitVec 32) (v3775 : BitVec 32) (v3790 : BitVec 32) : Fin 4 → Nat :=
  let v3795 : Index := Scalar.indexCast v3790
  let c4_i32_1573 : BitVec 32 := 4#32
  let v3776 : BitVec 32 := Scalar.shrsi v3775 c4_i32_1573
  let v3796 : Index := Scalar.indexCast v3776
  let c4_i32_1571 : BitVec 32 := 4#32
  let v3772 : BitVec 32 := Scalar.shrsi v3771 c4_i32_1571
  let c3_i32_1578 : BitVec 32 := 3#32
  let v3785 : BitVec 32 := Scalar.shrsi v3772 c3_i32_1578
  let c3_i32_1579 : BitVec 32 := 3#32
  let v3786 : BitVec 32 := Scalar.shli v3785 c3_i32_1579
  let c16_i32_1580 : BitVec 32 := 16#32
  let v3787 : BitVec 32 := Scalar.minsi v3786 c16_i32_1580
  let v3788 : BitVec 32 := v3787
  let v3797 : Index := Scalar.indexCast v3788
  let c0_1582 : Index := 0#32
  ![v3795.toNat, v3796.toNat, v3797.toNat, 0]

def k0_chk279 (v3771 : BitVec 32) (v3775 : BitVec 32) (v3790 : BitVec 32) : Prop :=
  (∀ a, (k0_off418 v3771 v3775 v3790) a + S1x1x32x256.size a ≤ S5x50x50x256.size a)
theorem k0_off418_inb : ∀ (v3771 : BitVec 32) (v3775 : BitVec 32) (v3790 : BitVec 32) (k0_hw279 : k0_chk279 v3771 v3775 v3790), ∀ a, (k0_off418 v3771 v3775 v3790) a + S1x1x32x256.size a ≤ S5x50x50x256.size a := fun v3771 v3775 v3790 k0_hw279 => k0_hw279

def k0_off419 (v3771 : BitVec 32) (v3775 : BitVec 32) (v3790 : BitVec 32) (v3793 : BitVec 32) : Fin 4 → Nat :=
  let v3800 : Index := Scalar.indexCast v3790
  let c4_i32_1573 : BitVec 32 := 4#32
  let v3776 : BitVec 32 := Scalar.shrsi v3775 c4_i32_1573
  let v3794 : BitVec 32 := Scalar.addi v3776 v3793
  let v3801 : Index := Scalar.indexCast v3794
  let c4_i32_1571 : BitVec 32 := 4#32
  let v3772 : BitVec 32 := Scalar.shrsi v3771 c4_i32_1571
  let c3_i32_1578 : BitVec 32 := 3#32
  let v3785 : BitVec 32 := Scalar.shrsi v3772 c3_i32_1578
  let c3_i32_1579 : BitVec 32 := 3#32
  let v3786 : BitVec 32 := Scalar.shli v3785 c3_i32_1579
  let c16_i32_1580 : BitVec 32 := 16#32
  let v3787 : BitVec 32 := Scalar.minsi v3786 c16_i32_1580
  let v3788 : BitVec 32 := v3787
  let v3802 : Index := Scalar.indexCast v3788
  let c0_1583 : Index := 0#32
  ![v3800.toNat, v3801.toNat, v3802.toNat, 0]

def k0_chk280 (v3771 : BitVec 32) (v3775 : BitVec 32) (v3790 : BitVec 32) (v3793 : BitVec 32) : Prop :=
  (∀ a, (k0_off419 v3771 v3775 v3790 v3793) a + S1x1x32x256.size a ≤ S5x50x50x256.size a)
theorem k0_off419_inb : ∀ (v3771 : BitVec 32) (v3775 : BitVec 32) (v3790 : BitVec 32) (v3793 : BitVec 32) (k0_hw280 : k0_chk280 v3771 v3775 v3790 v3793), ∀ a, (k0_off419 v3771 v3775 v3790 v3793) a + S1x1x32x256.size a ≤ S5x50x50x256.size a := fun v3771 v3775 v3790 v3793 k0_hw280 => k0_hw280

def k0_off420 : Fin 4 → Nat :=
  let c0_1586 : Index := 0#32
  let c0_i32 : BitVec 32 := 0#32
  let c128_i32_1567 : BitVec 32 := 128#32
  let v3764 : BitVec 32 := Scalar.muli c0_i32 c128_i32_1567
  let c69_i32 : BitVec 32 := 69#32
  let v3765 : BitVec 32 := Scalar.addi v3764 c69_i32
  let v3814 : Index := Scalar.indexCast v3765
  let c0_1587 : Index := 0#32
  let c0_1588 : Index := 0#32
  ![0, v3814.toNat, 0, 0]
def k0_off421 (i : grid0.Coords) (c0_i32_1592 : BitVec 32) : Fin 1 → Nat :=
  let arg0 : BitVec 32 := BitVec.ofNat 32 (i 0).val
  let c128_i32_1590 : BitVec 32 := 128#32
  let v3820 : BitVec 32 := Scalar.muli arg0 c128_i32_1590
  let c0_i32 : BitVec 32 := 0#32
  let c128_i32_1589 : BitVec 32 := 128#32
  let v3818 : BitVec 32 := Scalar.muli c0_i32 c128_i32_1589
  let c70_i32 : BitVec 32 := 70#32
  let v3819 : BitVec 32 := Scalar.addi v3818 c70_i32
  let v3821 : BitVec 32 := Scalar.addi v3820 v3819
  let c4_i32_1591 : BitVec 32 := 4#32
  let v3822 : BitVec 32 := Scalar.muli v3821 c4_i32_1591
  let v3823 : BitVec 32 := Scalar.addi v3822 c0_i32_1592
  let v3824 : Index := Scalar.indexCast v3823
  ![v3824.toNat]
def k0_mult71 (v3825 : BitVec 32) : BitVec 32 :=
  let c4_i32_1593 : BitVec 32 := 4#32
  let v3826 : BitVec 32 := Scalar.shrsi v3825 c4_i32_1593
  let c3_i32_1600 : BitVec 32 := 3#32
  let v3839 : BitVec 32 := Scalar.shrsi v3826 c3_i32_1600
  let c3_i32_1601 : BitVec 32 := 3#32
  let v3840 : BitVec 32 := Scalar.shli v3839 c3_i32_1601
  let c16_i32_1602 : BitVec 32 := 16#32
  let v3841 : BitVec 32 := Scalar.minsi v3840 c16_i32_1602
  v3841

def k0_chk281 (v3825 : BitVec 32) : Prop :=
  (8 ∣ (k0_mult71 v3825).toNat)
theorem k0_mult71_dvd : ∀ (v3825 : BitVec 32) (k0_hw281 : k0_chk281 v3825), 8 ∣ (k0_mult71 v3825).toNat := fun v3825 k0_hw281 => k0_hw281

def k0_off422 (v3837 : BitVec 32) : Fin 1 → Nat :=
  let c4_i32_1599 : BitVec 32 := 4#32
  let v3838 : BitVec 32 := Scalar.shrsi v3837 c4_i32_1599
  let v3843 : Index := Scalar.indexCast v3838
  ![v3843.toNat]

def k0_off423 (v3837 : BitVec 32) : Fin 1 → Nat :=
  let c32_i32_1603 : BitVec 32 := 32#32
  let c4_i32_1599 : BitVec 32 := 4#32
  let v3838 : BitVec 32 := Scalar.shrsi v3837 c4_i32_1599
  let v3845 : BitVec 32 := Scalar.addi c32_i32_1603 v3838
  let v3846 : Index := Scalar.indexCast v3845
  ![v3846.toNat]

def k0_chk282 (v3837 : BitVec 32) : Prop :=
  (∀ a, (k0_off422 v3837) a + S1.size a ≤ S64.size a) ∧
  (∀ a, (k0_off423 v3837) a + S1.size a ≤ S64.size a)
theorem k0_off422_inb : ∀ (v3837 : BitVec 32) (k0_hw282 : k0_chk282 v3837), ∀ a, (k0_off422 v3837) a + S1.size a ≤ S64.size a := fun v3837 k0_hw282 => k0_hw282.1
theorem k0_off423_inb : ∀ (v3837 : BitVec 32) (k0_hw282 : k0_chk282 v3837), ∀ a, (k0_off423 v3837) a + S1.size a ≤ S64.size a := fun v3837 k0_hw282 => k0_hw282.2

def k0_off424 (v3825 : BitVec 32) (v3829 : BitVec 32) (v3844 : BitVec 32) : Fin 4 → Nat :=
  let v3849 : Index := Scalar.indexCast v3844
  let c4_i32_1595 : BitVec 32 := 4#32
  let v3830 : BitVec 32 := Scalar.shrsi v3829 c4_i32_1595
  let v3850 : Index := Scalar.indexCast v3830
  let c4_i32_1593 : BitVec 32 := 4#32
  let v3826 : BitVec 32 := Scalar.shrsi v3825 c4_i32_1593
  let c3_i32_1600 : BitVec 32 := 3#32
  let v3839 : BitVec 32 := Scalar.shrsi v3826 c3_i32_1600
  let c3_i32_1601 : BitVec 32 := 3#32
  let v3840 : BitVec 32 := Scalar.shli v3839 c3_i32_1601
  let c16_i32_1602 : BitVec 32 := 16#32
  let v3841 : BitVec 32 := Scalar.minsi v3840 c16_i32_1602
  let v3842 : BitVec 32 := v3841
  let v3851 : Index := Scalar.indexCast v3842
  let c0_1604 : Index := 0#32
  ![v3849.toNat, v3850.toNat, v3851.toNat, 0]

def k0_chk283 (v3825 : BitVec 32) (v3829 : BitVec 32) (v3844 : BitVec 32) : Prop :=
  (∀ a, (k0_off424 v3825 v3829 v3844) a + S1x1x32x256.size a ≤ S5x50x50x256.size a)
theorem k0_off424_inb : ∀ (v3825 : BitVec 32) (v3829 : BitVec 32) (v3844 : BitVec 32) (k0_hw283 : k0_chk283 v3825 v3829 v3844), ∀ a, (k0_off424 v3825 v3829 v3844) a + S1x1x32x256.size a ≤ S5x50x50x256.size a := fun v3825 v3829 v3844 k0_hw283 => k0_hw283

def k0_off425 (v3825 : BitVec 32) (v3829 : BitVec 32) (v3844 : BitVec 32) (v3847 : BitVec 32) : Fin 4 → Nat :=
  let v3854 : Index := Scalar.indexCast v3844
  let c4_i32_1595 : BitVec 32 := 4#32
  let v3830 : BitVec 32 := Scalar.shrsi v3829 c4_i32_1595
  let v3848 : BitVec 32 := Scalar.addi v3830 v3847
  let v3855 : Index := Scalar.indexCast v3848
  let c4_i32_1593 : BitVec 32 := 4#32
  let v3826 : BitVec 32 := Scalar.shrsi v3825 c4_i32_1593
  let c3_i32_1600 : BitVec 32 := 3#32
  let v3839 : BitVec 32 := Scalar.shrsi v3826 c3_i32_1600
  let c3_i32_1601 : BitVec 32 := 3#32
  let v3840 : BitVec 32 := Scalar.shli v3839 c3_i32_1601
  let c16_i32_1602 : BitVec 32 := 16#32
  let v3841 : BitVec 32 := Scalar.minsi v3840 c16_i32_1602
  let v3842 : BitVec 32 := v3841
  let v3856 : Index := Scalar.indexCast v3842
  let c0_1605 : Index := 0#32
  ![v3854.toNat, v3855.toNat, v3856.toNat, 0]

def k0_chk284 (v3825 : BitVec 32) (v3829 : BitVec 32) (v3844 : BitVec 32) (v3847 : BitVec 32) : Prop :=
  (∀ a, (k0_off425 v3825 v3829 v3844 v3847) a + S1x1x32x256.size a ≤ S5x50x50x256.size a)
theorem k0_off425_inb : ∀ (v3825 : BitVec 32) (v3829 : BitVec 32) (v3844 : BitVec 32) (v3847 : BitVec 32) (k0_hw284 : k0_chk284 v3825 v3829 v3844 v3847), ∀ a, (k0_off425 v3825 v3829 v3844 v3847) a + S1x1x32x256.size a ≤ S5x50x50x256.size a := fun v3825 v3829 v3844 v3847 k0_hw284 => k0_hw284

def k0_off426 : Fin 4 → Nat :=
  let c0_1608 : Index := 0#32
  let c0_i32 : BitVec 32 := 0#32
  let c128_i32_1589 : BitVec 32 := 128#32
  let v3818 : BitVec 32 := Scalar.muli c0_i32 c128_i32_1589
  let c70_i32 : BitVec 32 := 70#32
  let v3819 : BitVec 32 := Scalar.addi v3818 c70_i32
  let v3868 : Index := Scalar.indexCast v3819
  let c0_1609 : Index := 0#32
  let c0_1610 : Index := 0#32
  ![0, v3868.toNat, 0, 0]
def k0_off427 (i : grid0.Coords) (c0_i32_1614 : BitVec 32) : Fin 1 → Nat :=
  let arg0 : BitVec 32 := BitVec.ofNat 32 (i 0).val
  let c128_i32_1612 : BitVec 32 := 128#32
  let v3874 : BitVec 32 := Scalar.muli arg0 c128_i32_1612
  let c0_i32 : BitVec 32 := 0#32
  let c128_i32_1611 : BitVec 32 := 128#32
  let v3872 : BitVec 32 := Scalar.muli c0_i32 c128_i32_1611
  let c71_i32 : BitVec 32 := 71#32
  let v3873 : BitVec 32 := Scalar.addi v3872 c71_i32
  let v3875 : BitVec 32 := Scalar.addi v3874 v3873
  let c4_i32_1613 : BitVec 32 := 4#32
  let v3876 : BitVec 32 := Scalar.muli v3875 c4_i32_1613
  let v3877 : BitVec 32 := Scalar.addi v3876 c0_i32_1614
  let v3878 : Index := Scalar.indexCast v3877
  ![v3878.toNat]
def k0_mult72 (v3879 : BitVec 32) : BitVec 32 :=
  let c4_i32_1615 : BitVec 32 := 4#32
  let v3880 : BitVec 32 := Scalar.shrsi v3879 c4_i32_1615
  let c3_i32_1622 : BitVec 32 := 3#32
  let v3893 : BitVec 32 := Scalar.shrsi v3880 c3_i32_1622
  let c3_i32_1623 : BitVec 32 := 3#32
  let v3894 : BitVec 32 := Scalar.shli v3893 c3_i32_1623
  let c16_i32_1624 : BitVec 32 := 16#32
  let v3895 : BitVec 32 := Scalar.minsi v3894 c16_i32_1624
  v3895

def k0_chk285 (v3879 : BitVec 32) : Prop :=
  (8 ∣ (k0_mult72 v3879).toNat)
theorem k0_mult72_dvd : ∀ (v3879 : BitVec 32) (k0_hw285 : k0_chk285 v3879), 8 ∣ (k0_mult72 v3879).toNat := fun v3879 k0_hw285 => k0_hw285

def k0_off428 (v3891 : BitVec 32) : Fin 1 → Nat :=
  let c4_i32_1621 : BitVec 32 := 4#32
  let v3892 : BitVec 32 := Scalar.shrsi v3891 c4_i32_1621
  let v3897 : Index := Scalar.indexCast v3892
  ![v3897.toNat]

def k0_off429 (v3891 : BitVec 32) : Fin 1 → Nat :=
  let c32_i32_1625 : BitVec 32 := 32#32
  let c4_i32_1621 : BitVec 32 := 4#32
  let v3892 : BitVec 32 := Scalar.shrsi v3891 c4_i32_1621
  let v3899 : BitVec 32 := Scalar.addi c32_i32_1625 v3892
  let v3900 : Index := Scalar.indexCast v3899
  ![v3900.toNat]

def k0_chk286 (v3891 : BitVec 32) : Prop :=
  (∀ a, (k0_off428 v3891) a + S1.size a ≤ S64.size a) ∧
  (∀ a, (k0_off429 v3891) a + S1.size a ≤ S64.size a)
theorem k0_off428_inb : ∀ (v3891 : BitVec 32) (k0_hw286 : k0_chk286 v3891), ∀ a, (k0_off428 v3891) a + S1.size a ≤ S64.size a := fun v3891 k0_hw286 => k0_hw286.1
theorem k0_off429_inb : ∀ (v3891 : BitVec 32) (k0_hw286 : k0_chk286 v3891), ∀ a, (k0_off429 v3891) a + S1.size a ≤ S64.size a := fun v3891 k0_hw286 => k0_hw286.2

def k0_off430 (v3879 : BitVec 32) (v3883 : BitVec 32) (v3898 : BitVec 32) : Fin 4 → Nat :=
  let v3903 : Index := Scalar.indexCast v3898
  let c4_i32_1617 : BitVec 32 := 4#32
  let v3884 : BitVec 32 := Scalar.shrsi v3883 c4_i32_1617
  let v3904 : Index := Scalar.indexCast v3884
  let c4_i32_1615 : BitVec 32 := 4#32
  let v3880 : BitVec 32 := Scalar.shrsi v3879 c4_i32_1615
  let c3_i32_1622 : BitVec 32 := 3#32
  let v3893 : BitVec 32 := Scalar.shrsi v3880 c3_i32_1622
  let c3_i32_1623 : BitVec 32 := 3#32
  let v3894 : BitVec 32 := Scalar.shli v3893 c3_i32_1623
  let c16_i32_1624 : BitVec 32 := 16#32
  let v3895 : BitVec 32 := Scalar.minsi v3894 c16_i32_1624
  let v3896 : BitVec 32 := v3895
  let v3905 : Index := Scalar.indexCast v3896
  let c0_1626 : Index := 0#32
  ![v3903.toNat, v3904.toNat, v3905.toNat, 0]

def k0_chk287 (v3879 : BitVec 32) (v3883 : BitVec 32) (v3898 : BitVec 32) : Prop :=
  (∀ a, (k0_off430 v3879 v3883 v3898) a + S1x1x32x256.size a ≤ S5x50x50x256.size a)
theorem k0_off430_inb : ∀ (v3879 : BitVec 32) (v3883 : BitVec 32) (v3898 : BitVec 32) (k0_hw287 : k0_chk287 v3879 v3883 v3898), ∀ a, (k0_off430 v3879 v3883 v3898) a + S1x1x32x256.size a ≤ S5x50x50x256.size a := fun v3879 v3883 v3898 k0_hw287 => k0_hw287

def k0_off431 (v3879 : BitVec 32) (v3883 : BitVec 32) (v3898 : BitVec 32) (v3901 : BitVec 32) : Fin 4 → Nat :=
  let v3908 : Index := Scalar.indexCast v3898
  let c4_i32_1617 : BitVec 32 := 4#32
  let v3884 : BitVec 32 := Scalar.shrsi v3883 c4_i32_1617
  let v3902 : BitVec 32 := Scalar.addi v3884 v3901
  let v3909 : Index := Scalar.indexCast v3902
  let c4_i32_1615 : BitVec 32 := 4#32
  let v3880 : BitVec 32 := Scalar.shrsi v3879 c4_i32_1615
  let c3_i32_1622 : BitVec 32 := 3#32
  let v3893 : BitVec 32 := Scalar.shrsi v3880 c3_i32_1622
  let c3_i32_1623 : BitVec 32 := 3#32
  let v3894 : BitVec 32 := Scalar.shli v3893 c3_i32_1623
  let c16_i32_1624 : BitVec 32 := 16#32
  let v3895 : BitVec 32 := Scalar.minsi v3894 c16_i32_1624
  let v3896 : BitVec 32 := v3895
  let v3910 : Index := Scalar.indexCast v3896
  let c0_1627 : Index := 0#32
  ![v3908.toNat, v3909.toNat, v3910.toNat, 0]

def k0_chk288 (v3879 : BitVec 32) (v3883 : BitVec 32) (v3898 : BitVec 32) (v3901 : BitVec 32) : Prop :=
  (∀ a, (k0_off431 v3879 v3883 v3898 v3901) a + S1x1x32x256.size a ≤ S5x50x50x256.size a)
theorem k0_off431_inb : ∀ (v3879 : BitVec 32) (v3883 : BitVec 32) (v3898 : BitVec 32) (v3901 : BitVec 32) (k0_hw288 : k0_chk288 v3879 v3883 v3898 v3901), ∀ a, (k0_off431 v3879 v3883 v3898 v3901) a + S1x1x32x256.size a ≤ S5x50x50x256.size a := fun v3879 v3883 v3898 v3901 k0_hw288 => k0_hw288

def k0_off432 : Fin 4 → Nat :=
  let c0_1630 : Index := 0#32
  let c0_i32 : BitVec 32 := 0#32
  let c128_i32_1611 : BitVec 32 := 128#32
  let v3872 : BitVec 32 := Scalar.muli c0_i32 c128_i32_1611
  let c71_i32 : BitVec 32 := 71#32
  let v3873 : BitVec 32 := Scalar.addi v3872 c71_i32
  let v3922 : Index := Scalar.indexCast v3873
  let c0_1631 : Index := 0#32
  let c0_1632 : Index := 0#32
  ![0, v3922.toNat, 0, 0]
def k0_off433 (i : grid0.Coords) (c0_i32_1636 : BitVec 32) : Fin 1 → Nat :=
  let arg0 : BitVec 32 := BitVec.ofNat 32 (i 0).val
  let c128_i32_1634 : BitVec 32 := 128#32
  let v3928 : BitVec 32 := Scalar.muli arg0 c128_i32_1634
  let c0_i32 : BitVec 32 := 0#32
  let c128_i32_1633 : BitVec 32 := 128#32
  let v3926 : BitVec 32 := Scalar.muli c0_i32 c128_i32_1633
  let c72_i32 : BitVec 32 := 72#32
  let v3927 : BitVec 32 := Scalar.addi v3926 c72_i32
  let v3929 : BitVec 32 := Scalar.addi v3928 v3927
  let c4_i32_1635 : BitVec 32 := 4#32
  let v3930 : BitVec 32 := Scalar.muli v3929 c4_i32_1635
  let v3931 : BitVec 32 := Scalar.addi v3930 c0_i32_1636
  let v3932 : Index := Scalar.indexCast v3931
  ![v3932.toNat]
def k0_mult73 (v3933 : BitVec 32) : BitVec 32 :=
  let c4_i32_1637 : BitVec 32 := 4#32
  let v3934 : BitVec 32 := Scalar.shrsi v3933 c4_i32_1637
  let c3_i32_1644 : BitVec 32 := 3#32
  let v3947 : BitVec 32 := Scalar.shrsi v3934 c3_i32_1644
  let c3_i32_1645 : BitVec 32 := 3#32
  let v3948 : BitVec 32 := Scalar.shli v3947 c3_i32_1645
  let c16_i32_1646 : BitVec 32 := 16#32
  let v3949 : BitVec 32 := Scalar.minsi v3948 c16_i32_1646
  v3949

def k0_chk289 (v3933 : BitVec 32) : Prop :=
  (8 ∣ (k0_mult73 v3933).toNat)
theorem k0_mult73_dvd : ∀ (v3933 : BitVec 32) (k0_hw289 : k0_chk289 v3933), 8 ∣ (k0_mult73 v3933).toNat := fun v3933 k0_hw289 => k0_hw289

def k0_off434 (v3945 : BitVec 32) : Fin 1 → Nat :=
  let c4_i32_1643 : BitVec 32 := 4#32
  let v3946 : BitVec 32 := Scalar.shrsi v3945 c4_i32_1643
  let v3951 : Index := Scalar.indexCast v3946
  ![v3951.toNat]

def k0_off435 (v3945 : BitVec 32) : Fin 1 → Nat :=
  let c32_i32_1647 : BitVec 32 := 32#32
  let c4_i32_1643 : BitVec 32 := 4#32
  let v3946 : BitVec 32 := Scalar.shrsi v3945 c4_i32_1643
  let v3953 : BitVec 32 := Scalar.addi c32_i32_1647 v3946
  let v3954 : Index := Scalar.indexCast v3953
  ![v3954.toNat]

def k0_chk290 (v3945 : BitVec 32) : Prop :=
  (∀ a, (k0_off434 v3945) a + S1.size a ≤ S64.size a) ∧
  (∀ a, (k0_off435 v3945) a + S1.size a ≤ S64.size a)
theorem k0_off434_inb : ∀ (v3945 : BitVec 32) (k0_hw290 : k0_chk290 v3945), ∀ a, (k0_off434 v3945) a + S1.size a ≤ S64.size a := fun v3945 k0_hw290 => k0_hw290.1
theorem k0_off435_inb : ∀ (v3945 : BitVec 32) (k0_hw290 : k0_chk290 v3945), ∀ a, (k0_off435 v3945) a + S1.size a ≤ S64.size a := fun v3945 k0_hw290 => k0_hw290.2

def k0_off436 (v3933 : BitVec 32) (v3937 : BitVec 32) (v3952 : BitVec 32) : Fin 4 → Nat :=
  let v3957 : Index := Scalar.indexCast v3952
  let c4_i32_1639 : BitVec 32 := 4#32
  let v3938 : BitVec 32 := Scalar.shrsi v3937 c4_i32_1639
  let v3958 : Index := Scalar.indexCast v3938
  let c4_i32_1637 : BitVec 32 := 4#32
  let v3934 : BitVec 32 := Scalar.shrsi v3933 c4_i32_1637
  let c3_i32_1644 : BitVec 32 := 3#32
  let v3947 : BitVec 32 := Scalar.shrsi v3934 c3_i32_1644
  let c3_i32_1645 : BitVec 32 := 3#32
  let v3948 : BitVec 32 := Scalar.shli v3947 c3_i32_1645
  let c16_i32_1646 : BitVec 32 := 16#32
  let v3949 : BitVec 32 := Scalar.minsi v3948 c16_i32_1646
  let v3950 : BitVec 32 := v3949
  let v3959 : Index := Scalar.indexCast v3950
  let c0_1648 : Index := 0#32
  ![v3957.toNat, v3958.toNat, v3959.toNat, 0]

def k0_chk291 (v3933 : BitVec 32) (v3937 : BitVec 32) (v3952 : BitVec 32) : Prop :=
  (∀ a, (k0_off436 v3933 v3937 v3952) a + S1x1x32x256.size a ≤ S5x50x50x256.size a)
theorem k0_off436_inb : ∀ (v3933 : BitVec 32) (v3937 : BitVec 32) (v3952 : BitVec 32) (k0_hw291 : k0_chk291 v3933 v3937 v3952), ∀ a, (k0_off436 v3933 v3937 v3952) a + S1x1x32x256.size a ≤ S5x50x50x256.size a := fun v3933 v3937 v3952 k0_hw291 => k0_hw291

def k0_off437 (v3933 : BitVec 32) (v3937 : BitVec 32) (v3952 : BitVec 32) (v3955 : BitVec 32) : Fin 4 → Nat :=
  let v3962 : Index := Scalar.indexCast v3952
  let c4_i32_1639 : BitVec 32 := 4#32
  let v3938 : BitVec 32 := Scalar.shrsi v3937 c4_i32_1639
  let v3956 : BitVec 32 := Scalar.addi v3938 v3955
  let v3963 : Index := Scalar.indexCast v3956
  let c4_i32_1637 : BitVec 32 := 4#32
  let v3934 : BitVec 32 := Scalar.shrsi v3933 c4_i32_1637
  let c3_i32_1644 : BitVec 32 := 3#32
  let v3947 : BitVec 32 := Scalar.shrsi v3934 c3_i32_1644
  let c3_i32_1645 : BitVec 32 := 3#32
  let v3948 : BitVec 32 := Scalar.shli v3947 c3_i32_1645
  let c16_i32_1646 : BitVec 32 := 16#32
  let v3949 : BitVec 32 := Scalar.minsi v3948 c16_i32_1646
  let v3950 : BitVec 32 := v3949
  let v3964 : Index := Scalar.indexCast v3950
  let c0_1649 : Index := 0#32
  ![v3962.toNat, v3963.toNat, v3964.toNat, 0]

def k0_chk292 (v3933 : BitVec 32) (v3937 : BitVec 32) (v3952 : BitVec 32) (v3955 : BitVec 32) : Prop :=
  (∀ a, (k0_off437 v3933 v3937 v3952 v3955) a + S1x1x32x256.size a ≤ S5x50x50x256.size a)
theorem k0_off437_inb : ∀ (v3933 : BitVec 32) (v3937 : BitVec 32) (v3952 : BitVec 32) (v3955 : BitVec 32) (k0_hw292 : k0_chk292 v3933 v3937 v3952 v3955), ∀ a, (k0_off437 v3933 v3937 v3952 v3955) a + S1x1x32x256.size a ≤ S5x50x50x256.size a := fun v3933 v3937 v3952 v3955 k0_hw292 => k0_hw292

def k0_off438 : Fin 4 → Nat :=
  let c0_1652 : Index := 0#32
  let c0_i32 : BitVec 32 := 0#32
  let c128_i32_1633 : BitVec 32 := 128#32
  let v3926 : BitVec 32 := Scalar.muli c0_i32 c128_i32_1633
  let c72_i32 : BitVec 32 := 72#32
  let v3927 : BitVec 32 := Scalar.addi v3926 c72_i32
  let v3976 : Index := Scalar.indexCast v3927
  let c0_1653 : Index := 0#32
  let c0_1654 : Index := 0#32
  ![0, v3976.toNat, 0, 0]
def k0_off439 (i : grid0.Coords) (c0_i32_1658 : BitVec 32) : Fin 1 → Nat :=
  let arg0 : BitVec 32 := BitVec.ofNat 32 (i 0).val
  let c128_i32_1656 : BitVec 32 := 128#32
  let v3982 : BitVec 32 := Scalar.muli arg0 c128_i32_1656
  let c0_i32 : BitVec 32 := 0#32
  let c128_i32_1655 : BitVec 32 := 128#32
  let v3980 : BitVec 32 := Scalar.muli c0_i32 c128_i32_1655
  let c73_i32 : BitVec 32 := 73#32
  let v3981 : BitVec 32 := Scalar.addi v3980 c73_i32
  let v3983 : BitVec 32 := Scalar.addi v3982 v3981
  let c4_i32_1657 : BitVec 32 := 4#32
  let v3984 : BitVec 32 := Scalar.muli v3983 c4_i32_1657
  let v3985 : BitVec 32 := Scalar.addi v3984 c0_i32_1658
  let v3986 : Index := Scalar.indexCast v3985
  ![v3986.toNat]
def k0_mult74 (v3987 : BitVec 32) : BitVec 32 :=
  let c4_i32_1659 : BitVec 32 := 4#32
  let v3988 : BitVec 32 := Scalar.shrsi v3987 c4_i32_1659
  let c3_i32_1666 : BitVec 32 := 3#32
  let v4001 : BitVec 32 := Scalar.shrsi v3988 c3_i32_1666
  let c3_i32_1667 : BitVec 32 := 3#32
  let v4002 : BitVec 32 := Scalar.shli v4001 c3_i32_1667
  let c16_i32_1668 : BitVec 32 := 16#32
  let v4003 : BitVec 32 := Scalar.minsi v4002 c16_i32_1668
  v4003

def k0_chk293 (v3987 : BitVec 32) : Prop :=
  (8 ∣ (k0_mult74 v3987).toNat)
theorem k0_mult74_dvd : ∀ (v3987 : BitVec 32) (k0_hw293 : k0_chk293 v3987), 8 ∣ (k0_mult74 v3987).toNat := fun v3987 k0_hw293 => k0_hw293

def k0_off440 (v3999 : BitVec 32) : Fin 1 → Nat :=
  let c4_i32_1665 : BitVec 32 := 4#32
  let v4000 : BitVec 32 := Scalar.shrsi v3999 c4_i32_1665
  let v4005 : Index := Scalar.indexCast v4000
  ![v4005.toNat]

def k0_off441 (v3999 : BitVec 32) : Fin 1 → Nat :=
  let c32_i32_1669 : BitVec 32 := 32#32
  let c4_i32_1665 : BitVec 32 := 4#32
  let v4000 : BitVec 32 := Scalar.shrsi v3999 c4_i32_1665
  let v4007 : BitVec 32 := Scalar.addi c32_i32_1669 v4000
  let v4008 : Index := Scalar.indexCast v4007
  ![v4008.toNat]

def k0_chk294 (v3999 : BitVec 32) : Prop :=
  (∀ a, (k0_off440 v3999) a + S1.size a ≤ S64.size a) ∧
  (∀ a, (k0_off441 v3999) a + S1.size a ≤ S64.size a)
theorem k0_off440_inb : ∀ (v3999 : BitVec 32) (k0_hw294 : k0_chk294 v3999), ∀ a, (k0_off440 v3999) a + S1.size a ≤ S64.size a := fun v3999 k0_hw294 => k0_hw294.1
theorem k0_off441_inb : ∀ (v3999 : BitVec 32) (k0_hw294 : k0_chk294 v3999), ∀ a, (k0_off441 v3999) a + S1.size a ≤ S64.size a := fun v3999 k0_hw294 => k0_hw294.2

def k0_off442 (v3987 : BitVec 32) (v3991 : BitVec 32) (v4006 : BitVec 32) : Fin 4 → Nat :=
  let v4011 : Index := Scalar.indexCast v4006
  let c4_i32_1661 : BitVec 32 := 4#32
  let v3992 : BitVec 32 := Scalar.shrsi v3991 c4_i32_1661
  let v4012 : Index := Scalar.indexCast v3992
  let c4_i32_1659 : BitVec 32 := 4#32
  let v3988 : BitVec 32 := Scalar.shrsi v3987 c4_i32_1659
  let c3_i32_1666 : BitVec 32 := 3#32
  let v4001 : BitVec 32 := Scalar.shrsi v3988 c3_i32_1666
  let c3_i32_1667 : BitVec 32 := 3#32
  let v4002 : BitVec 32 := Scalar.shli v4001 c3_i32_1667
  let c16_i32_1668 : BitVec 32 := 16#32
  let v4003 : BitVec 32 := Scalar.minsi v4002 c16_i32_1668
  let v4004 : BitVec 32 := v4003
  let v4013 : Index := Scalar.indexCast v4004
  let c0_1670 : Index := 0#32
  ![v4011.toNat, v4012.toNat, v4013.toNat, 0]

def k0_chk295 (v3987 : BitVec 32) (v3991 : BitVec 32) (v4006 : BitVec 32) : Prop :=
  (∀ a, (k0_off442 v3987 v3991 v4006) a + S1x1x32x256.size a ≤ S5x50x50x256.size a)
theorem k0_off442_inb : ∀ (v3987 : BitVec 32) (v3991 : BitVec 32) (v4006 : BitVec 32) (k0_hw295 : k0_chk295 v3987 v3991 v4006), ∀ a, (k0_off442 v3987 v3991 v4006) a + S1x1x32x256.size a ≤ S5x50x50x256.size a := fun v3987 v3991 v4006 k0_hw295 => k0_hw295

def k0_off443 (v3987 : BitVec 32) (v3991 : BitVec 32) (v4006 : BitVec 32) (v4009 : BitVec 32) : Fin 4 → Nat :=
  let v4016 : Index := Scalar.indexCast v4006
  let c4_i32_1661 : BitVec 32 := 4#32
  let v3992 : BitVec 32 := Scalar.shrsi v3991 c4_i32_1661
  let v4010 : BitVec 32 := Scalar.addi v3992 v4009
  let v4017 : Index := Scalar.indexCast v4010
  let c4_i32_1659 : BitVec 32 := 4#32
  let v3988 : BitVec 32 := Scalar.shrsi v3987 c4_i32_1659
  let c3_i32_1666 : BitVec 32 := 3#32
  let v4001 : BitVec 32 := Scalar.shrsi v3988 c3_i32_1666
  let c3_i32_1667 : BitVec 32 := 3#32
  let v4002 : BitVec 32 := Scalar.shli v4001 c3_i32_1667
  let c16_i32_1668 : BitVec 32 := 16#32
  let v4003 : BitVec 32 := Scalar.minsi v4002 c16_i32_1668
  let v4004 : BitVec 32 := v4003
  let v4018 : Index := Scalar.indexCast v4004
  let c0_1671 : Index := 0#32
  ![v4016.toNat, v4017.toNat, v4018.toNat, 0]

def k0_chk296 (v3987 : BitVec 32) (v3991 : BitVec 32) (v4006 : BitVec 32) (v4009 : BitVec 32) : Prop :=
  (∀ a, (k0_off443 v3987 v3991 v4006 v4009) a + S1x1x32x256.size a ≤ S5x50x50x256.size a)
theorem k0_off443_inb : ∀ (v3987 : BitVec 32) (v3991 : BitVec 32) (v4006 : BitVec 32) (v4009 : BitVec 32) (k0_hw296 : k0_chk296 v3987 v3991 v4006 v4009), ∀ a, (k0_off443 v3987 v3991 v4006 v4009) a + S1x1x32x256.size a ≤ S5x50x50x256.size a := fun v3987 v3991 v4006 v4009 k0_hw296 => k0_hw296

def k0_off444 : Fin 4 → Nat :=
  let c0_1674 : Index := 0#32
  let c0_i32 : BitVec 32 := 0#32
  let c128_i32_1655 : BitVec 32 := 128#32
  let v3980 : BitVec 32 := Scalar.muli c0_i32 c128_i32_1655
  let c73_i32 : BitVec 32 := 73#32
  let v3981 : BitVec 32 := Scalar.addi v3980 c73_i32
  let v4030 : Index := Scalar.indexCast v3981
  let c0_1675 : Index := 0#32
  let c0_1676 : Index := 0#32
  ![0, v4030.toNat, 0, 0]
def k0_off445 (i : grid0.Coords) (c0_i32_1680 : BitVec 32) : Fin 1 → Nat :=
  let arg0 : BitVec 32 := BitVec.ofNat 32 (i 0).val
  let c128_i32_1678 : BitVec 32 := 128#32
  let v4036 : BitVec 32 := Scalar.muli arg0 c128_i32_1678
  let c0_i32 : BitVec 32 := 0#32
  let c128_i32_1677 : BitVec 32 := 128#32
  let v4034 : BitVec 32 := Scalar.muli c0_i32 c128_i32_1677
  let c74_i32 : BitVec 32 := 74#32
  let v4035 : BitVec 32 := Scalar.addi v4034 c74_i32
  let v4037 : BitVec 32 := Scalar.addi v4036 v4035
  let c4_i32_1679 : BitVec 32 := 4#32
  let v4038 : BitVec 32 := Scalar.muli v4037 c4_i32_1679
  let v4039 : BitVec 32 := Scalar.addi v4038 c0_i32_1680
  let v4040 : Index := Scalar.indexCast v4039
  ![v4040.toNat]
def k0_mult75 (v4041 : BitVec 32) : BitVec 32 :=
  let c4_i32_1681 : BitVec 32 := 4#32
  let v4042 : BitVec 32 := Scalar.shrsi v4041 c4_i32_1681
  let c3_i32_1688 : BitVec 32 := 3#32
  let v4055 : BitVec 32 := Scalar.shrsi v4042 c3_i32_1688
  let c3_i32_1689 : BitVec 32 := 3#32
  let v4056 : BitVec 32 := Scalar.shli v4055 c3_i32_1689
  let c16_i32_1690 : BitVec 32 := 16#32
  let v4057 : BitVec 32 := Scalar.minsi v4056 c16_i32_1690
  v4057

def k0_chk297 (v4041 : BitVec 32) : Prop :=
  (8 ∣ (k0_mult75 v4041).toNat)
theorem k0_mult75_dvd : ∀ (v4041 : BitVec 32) (k0_hw297 : k0_chk297 v4041), 8 ∣ (k0_mult75 v4041).toNat := fun v4041 k0_hw297 => k0_hw297

def k0_off446 (v4053 : BitVec 32) : Fin 1 → Nat :=
  let c4_i32_1687 : BitVec 32 := 4#32
  let v4054 : BitVec 32 := Scalar.shrsi v4053 c4_i32_1687
  let v4059 : Index := Scalar.indexCast v4054
  ![v4059.toNat]

def k0_off447 (v4053 : BitVec 32) : Fin 1 → Nat :=
  let c32_i32_1691 : BitVec 32 := 32#32
  let c4_i32_1687 : BitVec 32 := 4#32
  let v4054 : BitVec 32 := Scalar.shrsi v4053 c4_i32_1687
  let v4061 : BitVec 32 := Scalar.addi c32_i32_1691 v4054
  let v4062 : Index := Scalar.indexCast v4061
  ![v4062.toNat]

def k0_chk298 (v4053 : BitVec 32) : Prop :=
  (∀ a, (k0_off446 v4053) a + S1.size a ≤ S64.size a) ∧
  (∀ a, (k0_off447 v4053) a + S1.size a ≤ S64.size a)
theorem k0_off446_inb : ∀ (v4053 : BitVec 32) (k0_hw298 : k0_chk298 v4053), ∀ a, (k0_off446 v4053) a + S1.size a ≤ S64.size a := fun v4053 k0_hw298 => k0_hw298.1
theorem k0_off447_inb : ∀ (v4053 : BitVec 32) (k0_hw298 : k0_chk298 v4053), ∀ a, (k0_off447 v4053) a + S1.size a ≤ S64.size a := fun v4053 k0_hw298 => k0_hw298.2

def k0_off448 (v4041 : BitVec 32) (v4045 : BitVec 32) (v4060 : BitVec 32) : Fin 4 → Nat :=
  let v4065 : Index := Scalar.indexCast v4060
  let c4_i32_1683 : BitVec 32 := 4#32
  let v4046 : BitVec 32 := Scalar.shrsi v4045 c4_i32_1683
  let v4066 : Index := Scalar.indexCast v4046
  let c4_i32_1681 : BitVec 32 := 4#32
  let v4042 : BitVec 32 := Scalar.shrsi v4041 c4_i32_1681
  let c3_i32_1688 : BitVec 32 := 3#32
  let v4055 : BitVec 32 := Scalar.shrsi v4042 c3_i32_1688
  let c3_i32_1689 : BitVec 32 := 3#32
  let v4056 : BitVec 32 := Scalar.shli v4055 c3_i32_1689
  let c16_i32_1690 : BitVec 32 := 16#32
  let v4057 : BitVec 32 := Scalar.minsi v4056 c16_i32_1690
  let v4058 : BitVec 32 := v4057
  let v4067 : Index := Scalar.indexCast v4058
  let c0_1692 : Index := 0#32
  ![v4065.toNat, v4066.toNat, v4067.toNat, 0]

def k0_chk299 (v4041 : BitVec 32) (v4045 : BitVec 32) (v4060 : BitVec 32) : Prop :=
  (∀ a, (k0_off448 v4041 v4045 v4060) a + S1x1x32x256.size a ≤ S5x50x50x256.size a)
theorem k0_off448_inb : ∀ (v4041 : BitVec 32) (v4045 : BitVec 32) (v4060 : BitVec 32) (k0_hw299 : k0_chk299 v4041 v4045 v4060), ∀ a, (k0_off448 v4041 v4045 v4060) a + S1x1x32x256.size a ≤ S5x50x50x256.size a := fun v4041 v4045 v4060 k0_hw299 => k0_hw299

def k0_off449 (v4041 : BitVec 32) (v4045 : BitVec 32) (v4060 : BitVec 32) (v4063 : BitVec 32) : Fin 4 → Nat :=
  let v4070 : Index := Scalar.indexCast v4060
  let c4_i32_1683 : BitVec 32 := 4#32
  let v4046 : BitVec 32 := Scalar.shrsi v4045 c4_i32_1683
  let v4064 : BitVec 32 := Scalar.addi v4046 v4063
  let v4071 : Index := Scalar.indexCast v4064
  let c4_i32_1681 : BitVec 32 := 4#32
  let v4042 : BitVec 32 := Scalar.shrsi v4041 c4_i32_1681
  let c3_i32_1688 : BitVec 32 := 3#32
  let v4055 : BitVec 32 := Scalar.shrsi v4042 c3_i32_1688
  let c3_i32_1689 : BitVec 32 := 3#32
  let v4056 : BitVec 32 := Scalar.shli v4055 c3_i32_1689
  let c16_i32_1690 : BitVec 32 := 16#32
  let v4057 : BitVec 32 := Scalar.minsi v4056 c16_i32_1690
  let v4058 : BitVec 32 := v4057
  let v4072 : Index := Scalar.indexCast v4058
  let c0_1693 : Index := 0#32
  ![v4070.toNat, v4071.toNat, v4072.toNat, 0]

def k0_chk300 (v4041 : BitVec 32) (v4045 : BitVec 32) (v4060 : BitVec 32) (v4063 : BitVec 32) : Prop :=
  (∀ a, (k0_off449 v4041 v4045 v4060 v4063) a + S1x1x32x256.size a ≤ S5x50x50x256.size a)
theorem k0_off449_inb : ∀ (v4041 : BitVec 32) (v4045 : BitVec 32) (v4060 : BitVec 32) (v4063 : BitVec 32) (k0_hw300 : k0_chk300 v4041 v4045 v4060 v4063), ∀ a, (k0_off449 v4041 v4045 v4060 v4063) a + S1x1x32x256.size a ≤ S5x50x50x256.size a := fun v4041 v4045 v4060 v4063 k0_hw300 => k0_hw300

def k0_off450 : Fin 4 → Nat :=
  let c0_1696 : Index := 0#32
  let c0_i32 : BitVec 32 := 0#32
  let c128_i32_1677 : BitVec 32 := 128#32
  let v4034 : BitVec 32 := Scalar.muli c0_i32 c128_i32_1677
  let c74_i32 : BitVec 32 := 74#32
  let v4035 : BitVec 32 := Scalar.addi v4034 c74_i32
  let v4084 : Index := Scalar.indexCast v4035
  let c0_1697 : Index := 0#32
  let c0_1698 : Index := 0#32
  ![0, v4084.toNat, 0, 0]
def k0_off451 (i : grid0.Coords) (c0_i32_1702 : BitVec 32) : Fin 1 → Nat :=
  let arg0 : BitVec 32 := BitVec.ofNat 32 (i 0).val
  let c128_i32_1700 : BitVec 32 := 128#32
  let v4090 : BitVec 32 := Scalar.muli arg0 c128_i32_1700
  let c0_i32 : BitVec 32 := 0#32
  let c128_i32_1699 : BitVec 32 := 128#32
  let v4088 : BitVec 32 := Scalar.muli c0_i32 c128_i32_1699
  let c75_i32 : BitVec 32 := 75#32
  let v4089 : BitVec 32 := Scalar.addi v4088 c75_i32
  let v4091 : BitVec 32 := Scalar.addi v4090 v4089
  let c4_i32_1701 : BitVec 32 := 4#32
  let v4092 : BitVec 32 := Scalar.muli v4091 c4_i32_1701
  let v4093 : BitVec 32 := Scalar.addi v4092 c0_i32_1702
  let v4094 : Index := Scalar.indexCast v4093
  ![v4094.toNat]
def k0_mult76 (v4095 : BitVec 32) : BitVec 32 :=
  let c4_i32_1703 : BitVec 32 := 4#32
  let v4096 : BitVec 32 := Scalar.shrsi v4095 c4_i32_1703
  let c3_i32_1710 : BitVec 32 := 3#32
  let v4109 : BitVec 32 := Scalar.shrsi v4096 c3_i32_1710
  let c3_i32_1711 : BitVec 32 := 3#32
  let v4110 : BitVec 32 := Scalar.shli v4109 c3_i32_1711
  let c16_i32_1712 : BitVec 32 := 16#32
  let v4111 : BitVec 32 := Scalar.minsi v4110 c16_i32_1712
  v4111

def k0_chk301 (v4095 : BitVec 32) : Prop :=
  (8 ∣ (k0_mult76 v4095).toNat)
theorem k0_mult76_dvd : ∀ (v4095 : BitVec 32) (k0_hw301 : k0_chk301 v4095), 8 ∣ (k0_mult76 v4095).toNat := fun v4095 k0_hw301 => k0_hw301

def k0_off452 (v4107 : BitVec 32) : Fin 1 → Nat :=
  let c4_i32_1709 : BitVec 32 := 4#32
  let v4108 : BitVec 32 := Scalar.shrsi v4107 c4_i32_1709
  let v4113 : Index := Scalar.indexCast v4108
  ![v4113.toNat]

def k0_off453 (v4107 : BitVec 32) : Fin 1 → Nat :=
  let c32_i32_1713 : BitVec 32 := 32#32
  let c4_i32_1709 : BitVec 32 := 4#32
  let v4108 : BitVec 32 := Scalar.shrsi v4107 c4_i32_1709
  let v4115 : BitVec 32 := Scalar.addi c32_i32_1713 v4108
  let v4116 : Index := Scalar.indexCast v4115
  ![v4116.toNat]

def k0_chk302 (v4107 : BitVec 32) : Prop :=
  (∀ a, (k0_off452 v4107) a + S1.size a ≤ S64.size a) ∧
  (∀ a, (k0_off453 v4107) a + S1.size a ≤ S64.size a)
theorem k0_off452_inb : ∀ (v4107 : BitVec 32) (k0_hw302 : k0_chk302 v4107), ∀ a, (k0_off452 v4107) a + S1.size a ≤ S64.size a := fun v4107 k0_hw302 => k0_hw302.1
theorem k0_off453_inb : ∀ (v4107 : BitVec 32) (k0_hw302 : k0_chk302 v4107), ∀ a, (k0_off453 v4107) a + S1.size a ≤ S64.size a := fun v4107 k0_hw302 => k0_hw302.2

def k0_off454 (v4095 : BitVec 32) (v4099 : BitVec 32) (v4114 : BitVec 32) : Fin 4 → Nat :=
  let v4119 : Index := Scalar.indexCast v4114
  let c4_i32_1705 : BitVec 32 := 4#32
  let v4100 : BitVec 32 := Scalar.shrsi v4099 c4_i32_1705
  let v4120 : Index := Scalar.indexCast v4100
  let c4_i32_1703 : BitVec 32 := 4#32
  let v4096 : BitVec 32 := Scalar.shrsi v4095 c4_i32_1703
  let c3_i32_1710 : BitVec 32 := 3#32
  let v4109 : BitVec 32 := Scalar.shrsi v4096 c3_i32_1710
  let c3_i32_1711 : BitVec 32 := 3#32
  let v4110 : BitVec 32 := Scalar.shli v4109 c3_i32_1711
  let c16_i32_1712 : BitVec 32 := 16#32
  let v4111 : BitVec 32 := Scalar.minsi v4110 c16_i32_1712
  let v4112 : BitVec 32 := v4111
  let v4121 : Index := Scalar.indexCast v4112
  let c0_1714 : Index := 0#32
  ![v4119.toNat, v4120.toNat, v4121.toNat, 0]

def k0_chk303 (v4095 : BitVec 32) (v4099 : BitVec 32) (v4114 : BitVec 32) : Prop :=
  (∀ a, (k0_off454 v4095 v4099 v4114) a + S1x1x32x256.size a ≤ S5x50x50x256.size a)
theorem k0_off454_inb : ∀ (v4095 : BitVec 32) (v4099 : BitVec 32) (v4114 : BitVec 32) (k0_hw303 : k0_chk303 v4095 v4099 v4114), ∀ a, (k0_off454 v4095 v4099 v4114) a + S1x1x32x256.size a ≤ S5x50x50x256.size a := fun v4095 v4099 v4114 k0_hw303 => k0_hw303

def k0_off455 (v4095 : BitVec 32) (v4099 : BitVec 32) (v4114 : BitVec 32) (v4117 : BitVec 32) : Fin 4 → Nat :=
  let v4124 : Index := Scalar.indexCast v4114
  let c4_i32_1705 : BitVec 32 := 4#32
  let v4100 : BitVec 32 := Scalar.shrsi v4099 c4_i32_1705
  let v4118 : BitVec 32 := Scalar.addi v4100 v4117
  let v4125 : Index := Scalar.indexCast v4118
  let c4_i32_1703 : BitVec 32 := 4#32
  let v4096 : BitVec 32 := Scalar.shrsi v4095 c4_i32_1703
  let c3_i32_1710 : BitVec 32 := 3#32
  let v4109 : BitVec 32 := Scalar.shrsi v4096 c3_i32_1710
  let c3_i32_1711 : BitVec 32 := 3#32
  let v4110 : BitVec 32 := Scalar.shli v4109 c3_i32_1711
  let c16_i32_1712 : BitVec 32 := 16#32
  let v4111 : BitVec 32 := Scalar.minsi v4110 c16_i32_1712
  let v4112 : BitVec 32 := v4111
  let v4126 : Index := Scalar.indexCast v4112
  let c0_1715 : Index := 0#32
  ![v4124.toNat, v4125.toNat, v4126.toNat, 0]

def k0_chk304 (v4095 : BitVec 32) (v4099 : BitVec 32) (v4114 : BitVec 32) (v4117 : BitVec 32) : Prop :=
  (∀ a, (k0_off455 v4095 v4099 v4114 v4117) a + S1x1x32x256.size a ≤ S5x50x50x256.size a)
theorem k0_off455_inb : ∀ (v4095 : BitVec 32) (v4099 : BitVec 32) (v4114 : BitVec 32) (v4117 : BitVec 32) (k0_hw304 : k0_chk304 v4095 v4099 v4114 v4117), ∀ a, (k0_off455 v4095 v4099 v4114 v4117) a + S1x1x32x256.size a ≤ S5x50x50x256.size a := fun v4095 v4099 v4114 v4117 k0_hw304 => k0_hw304

def k0_off456 : Fin 4 → Nat :=
  let c0_1718 : Index := 0#32
  let c0_i32 : BitVec 32 := 0#32
  let c128_i32_1699 : BitVec 32 := 128#32
  let v4088 : BitVec 32 := Scalar.muli c0_i32 c128_i32_1699
  let c75_i32 : BitVec 32 := 75#32
  let v4089 : BitVec 32 := Scalar.addi v4088 c75_i32
  let v4138 : Index := Scalar.indexCast v4089
  let c0_1719 : Index := 0#32
  let c0_1720 : Index := 0#32
  ![0, v4138.toNat, 0, 0]
def k0_off457 (i : grid0.Coords) (c0_i32_1724 : BitVec 32) : Fin 1 → Nat :=
  let arg0 : BitVec 32 := BitVec.ofNat 32 (i 0).val
  let c128_i32_1722 : BitVec 32 := 128#32
  let v4144 : BitVec 32 := Scalar.muli arg0 c128_i32_1722
  let c0_i32 : BitVec 32 := 0#32
  let c128_i32_1721 : BitVec 32 := 128#32
  let v4142 : BitVec 32 := Scalar.muli c0_i32 c128_i32_1721
  let c76_i32 : BitVec 32 := 76#32
  let v4143 : BitVec 32 := Scalar.addi v4142 c76_i32
  let v4145 : BitVec 32 := Scalar.addi v4144 v4143
  let c4_i32_1723 : BitVec 32 := 4#32
  let v4146 : BitVec 32 := Scalar.muli v4145 c4_i32_1723
  let v4147 : BitVec 32 := Scalar.addi v4146 c0_i32_1724
  let v4148 : Index := Scalar.indexCast v4147
  ![v4148.toNat]
def k0_mult77 (v4149 : BitVec 32) : BitVec 32 :=
  let c4_i32_1725 : BitVec 32 := 4#32
  let v4150 : BitVec 32 := Scalar.shrsi v4149 c4_i32_1725
  let c3_i32_1732 : BitVec 32 := 3#32
  let v4163 : BitVec 32 := Scalar.shrsi v4150 c3_i32_1732
  let c3_i32_1733 : BitVec 32 := 3#32
  let v4164 : BitVec 32 := Scalar.shli v4163 c3_i32_1733
  let c16_i32_1734 : BitVec 32 := 16#32
  let v4165 : BitVec 32 := Scalar.minsi v4164 c16_i32_1734
  v4165

def k0_chk305 (v4149 : BitVec 32) : Prop :=
  (8 ∣ (k0_mult77 v4149).toNat)
theorem k0_mult77_dvd : ∀ (v4149 : BitVec 32) (k0_hw305 : k0_chk305 v4149), 8 ∣ (k0_mult77 v4149).toNat := fun v4149 k0_hw305 => k0_hw305

def k0_off458 (v4161 : BitVec 32) : Fin 1 → Nat :=
  let c4_i32_1731 : BitVec 32 := 4#32
  let v4162 : BitVec 32 := Scalar.shrsi v4161 c4_i32_1731
  let v4167 : Index := Scalar.indexCast v4162
  ![v4167.toNat]

def k0_off459 (v4161 : BitVec 32) : Fin 1 → Nat :=
  let c32_i32_1735 : BitVec 32 := 32#32
  let c4_i32_1731 : BitVec 32 := 4#32
  let v4162 : BitVec 32 := Scalar.shrsi v4161 c4_i32_1731
  let v4169 : BitVec 32 := Scalar.addi c32_i32_1735 v4162
  let v4170 : Index := Scalar.indexCast v4169
  ![v4170.toNat]

def k0_chk306 (v4161 : BitVec 32) : Prop :=
  (∀ a, (k0_off458 v4161) a + S1.size a ≤ S64.size a) ∧
  (∀ a, (k0_off459 v4161) a + S1.size a ≤ S64.size a)
theorem k0_off458_inb : ∀ (v4161 : BitVec 32) (k0_hw306 : k0_chk306 v4161), ∀ a, (k0_off458 v4161) a + S1.size a ≤ S64.size a := fun v4161 k0_hw306 => k0_hw306.1
theorem k0_off459_inb : ∀ (v4161 : BitVec 32) (k0_hw306 : k0_chk306 v4161), ∀ a, (k0_off459 v4161) a + S1.size a ≤ S64.size a := fun v4161 k0_hw306 => k0_hw306.2

def k0_off460 (v4149 : BitVec 32) (v4153 : BitVec 32) (v4168 : BitVec 32) : Fin 4 → Nat :=
  let v4173 : Index := Scalar.indexCast v4168
  let c4_i32_1727 : BitVec 32 := 4#32
  let v4154 : BitVec 32 := Scalar.shrsi v4153 c4_i32_1727
  let v4174 : Index := Scalar.indexCast v4154
  let c4_i32_1725 : BitVec 32 := 4#32
  let v4150 : BitVec 32 := Scalar.shrsi v4149 c4_i32_1725
  let c3_i32_1732 : BitVec 32 := 3#32
  let v4163 : BitVec 32 := Scalar.shrsi v4150 c3_i32_1732
  let c3_i32_1733 : BitVec 32 := 3#32
  let v4164 : BitVec 32 := Scalar.shli v4163 c3_i32_1733
  let c16_i32_1734 : BitVec 32 := 16#32
  let v4165 : BitVec 32 := Scalar.minsi v4164 c16_i32_1734
  let v4166 : BitVec 32 := v4165
  let v4175 : Index := Scalar.indexCast v4166
  let c0_1736 : Index := 0#32
  ![v4173.toNat, v4174.toNat, v4175.toNat, 0]

def k0_chk307 (v4149 : BitVec 32) (v4153 : BitVec 32) (v4168 : BitVec 32) : Prop :=
  (∀ a, (k0_off460 v4149 v4153 v4168) a + S1x1x32x256.size a ≤ S5x50x50x256.size a)
theorem k0_off460_inb : ∀ (v4149 : BitVec 32) (v4153 : BitVec 32) (v4168 : BitVec 32) (k0_hw307 : k0_chk307 v4149 v4153 v4168), ∀ a, (k0_off460 v4149 v4153 v4168) a + S1x1x32x256.size a ≤ S5x50x50x256.size a := fun v4149 v4153 v4168 k0_hw307 => k0_hw307

def k0_off461 (v4149 : BitVec 32) (v4153 : BitVec 32) (v4168 : BitVec 32) (v4171 : BitVec 32) : Fin 4 → Nat :=
  let v4178 : Index := Scalar.indexCast v4168
  let c4_i32_1727 : BitVec 32 := 4#32
  let v4154 : BitVec 32 := Scalar.shrsi v4153 c4_i32_1727
  let v4172 : BitVec 32 := Scalar.addi v4154 v4171
  let v4179 : Index := Scalar.indexCast v4172
  let c4_i32_1725 : BitVec 32 := 4#32
  let v4150 : BitVec 32 := Scalar.shrsi v4149 c4_i32_1725
  let c3_i32_1732 : BitVec 32 := 3#32
  let v4163 : BitVec 32 := Scalar.shrsi v4150 c3_i32_1732
  let c3_i32_1733 : BitVec 32 := 3#32
  let v4164 : BitVec 32 := Scalar.shli v4163 c3_i32_1733
  let c16_i32_1734 : BitVec 32 := 16#32
  let v4165 : BitVec 32 := Scalar.minsi v4164 c16_i32_1734
  let v4166 : BitVec 32 := v4165
  let v4180 : Index := Scalar.indexCast v4166
  let c0_1737 : Index := 0#32
  ![v4178.toNat, v4179.toNat, v4180.toNat, 0]

def k0_chk308 (v4149 : BitVec 32) (v4153 : BitVec 32) (v4168 : BitVec 32) (v4171 : BitVec 32) : Prop :=
  (∀ a, (k0_off461 v4149 v4153 v4168 v4171) a + S1x1x32x256.size a ≤ S5x50x50x256.size a)
theorem k0_off461_inb : ∀ (v4149 : BitVec 32) (v4153 : BitVec 32) (v4168 : BitVec 32) (v4171 : BitVec 32) (k0_hw308 : k0_chk308 v4149 v4153 v4168 v4171), ∀ a, (k0_off461 v4149 v4153 v4168 v4171) a + S1x1x32x256.size a ≤ S5x50x50x256.size a := fun v4149 v4153 v4168 v4171 k0_hw308 => k0_hw308

def k0_off462 : Fin 4 → Nat :=
  let c0_1740 : Index := 0#32
  let c0_i32 : BitVec 32 := 0#32
  let c128_i32_1721 : BitVec 32 := 128#32
  let v4142 : BitVec 32 := Scalar.muli c0_i32 c128_i32_1721
  let c76_i32 : BitVec 32 := 76#32
  let v4143 : BitVec 32 := Scalar.addi v4142 c76_i32
  let v4192 : Index := Scalar.indexCast v4143
  let c0_1741 : Index := 0#32
  let c0_1742 : Index := 0#32
  ![0, v4192.toNat, 0, 0]
def k0_off463 (i : grid0.Coords) (c0_i32_1746 : BitVec 32) : Fin 1 → Nat :=
  let arg0 : BitVec 32 := BitVec.ofNat 32 (i 0).val
  let c128_i32_1744 : BitVec 32 := 128#32
  let v4198 : BitVec 32 := Scalar.muli arg0 c128_i32_1744
  let c0_i32 : BitVec 32 := 0#32
  let c128_i32_1743 : BitVec 32 := 128#32
  let v4196 : BitVec 32 := Scalar.muli c0_i32 c128_i32_1743
  let c77_i32 : BitVec 32 := 77#32
  let v4197 : BitVec 32 := Scalar.addi v4196 c77_i32
  let v4199 : BitVec 32 := Scalar.addi v4198 v4197
  let c4_i32_1745 : BitVec 32 := 4#32
  let v4200 : BitVec 32 := Scalar.muli v4199 c4_i32_1745
  let v4201 : BitVec 32 := Scalar.addi v4200 c0_i32_1746
  let v4202 : Index := Scalar.indexCast v4201
  ![v4202.toNat]
def k0_mult78 (v4203 : BitVec 32) : BitVec 32 :=
  let c4_i32_1747 : BitVec 32 := 4#32
  let v4204 : BitVec 32 := Scalar.shrsi v4203 c4_i32_1747
  let c3_i32_1754 : BitVec 32 := 3#32
  let v4217 : BitVec 32 := Scalar.shrsi v4204 c3_i32_1754
  let c3_i32_1755 : BitVec 32 := 3#32
  let v4218 : BitVec 32 := Scalar.shli v4217 c3_i32_1755
  let c16_i32_1756 : BitVec 32 := 16#32
  let v4219 : BitVec 32 := Scalar.minsi v4218 c16_i32_1756
  v4219

def k0_chk309 (v4203 : BitVec 32) : Prop :=
  (8 ∣ (k0_mult78 v4203).toNat)
theorem k0_mult78_dvd : ∀ (v4203 : BitVec 32) (k0_hw309 : k0_chk309 v4203), 8 ∣ (k0_mult78 v4203).toNat := fun v4203 k0_hw309 => k0_hw309

def k0_off464 (v4215 : BitVec 32) : Fin 1 → Nat :=
  let c4_i32_1753 : BitVec 32 := 4#32
  let v4216 : BitVec 32 := Scalar.shrsi v4215 c4_i32_1753
  let v4221 : Index := Scalar.indexCast v4216
  ![v4221.toNat]

def k0_off465 (v4215 : BitVec 32) : Fin 1 → Nat :=
  let c32_i32_1757 : BitVec 32 := 32#32
  let c4_i32_1753 : BitVec 32 := 4#32
  let v4216 : BitVec 32 := Scalar.shrsi v4215 c4_i32_1753
  let v4223 : BitVec 32 := Scalar.addi c32_i32_1757 v4216
  let v4224 : Index := Scalar.indexCast v4223
  ![v4224.toNat]

def k0_chk310 (v4215 : BitVec 32) : Prop :=
  (∀ a, (k0_off464 v4215) a + S1.size a ≤ S64.size a) ∧
  (∀ a, (k0_off465 v4215) a + S1.size a ≤ S64.size a)
theorem k0_off464_inb : ∀ (v4215 : BitVec 32) (k0_hw310 : k0_chk310 v4215), ∀ a, (k0_off464 v4215) a + S1.size a ≤ S64.size a := fun v4215 k0_hw310 => k0_hw310.1
theorem k0_off465_inb : ∀ (v4215 : BitVec 32) (k0_hw310 : k0_chk310 v4215), ∀ a, (k0_off465 v4215) a + S1.size a ≤ S64.size a := fun v4215 k0_hw310 => k0_hw310.2

def k0_off466 (v4203 : BitVec 32) (v4207 : BitVec 32) (v4222 : BitVec 32) : Fin 4 → Nat :=
  let v4227 : Index := Scalar.indexCast v4222
  let c4_i32_1749 : BitVec 32 := 4#32
  let v4208 : BitVec 32 := Scalar.shrsi v4207 c4_i32_1749
  let v4228 : Index := Scalar.indexCast v4208
  let c4_i32_1747 : BitVec 32 := 4#32
  let v4204 : BitVec 32 := Scalar.shrsi v4203 c4_i32_1747
  let c3_i32_1754 : BitVec 32 := 3#32
  let v4217 : BitVec 32 := Scalar.shrsi v4204 c3_i32_1754
  let c3_i32_1755 : BitVec 32 := 3#32
  let v4218 : BitVec 32 := Scalar.shli v4217 c3_i32_1755
  let c16_i32_1756 : BitVec 32 := 16#32
  let v4219 : BitVec 32 := Scalar.minsi v4218 c16_i32_1756
  let v4220 : BitVec 32 := v4219
  let v4229 : Index := Scalar.indexCast v4220
  let c0_1758 : Index := 0#32
  ![v4227.toNat, v4228.toNat, v4229.toNat, 0]

def k0_chk311 (v4203 : BitVec 32) (v4207 : BitVec 32) (v4222 : BitVec 32) : Prop :=
  (∀ a, (k0_off466 v4203 v4207 v4222) a + S1x1x32x256.size a ≤ S5x50x50x256.size a)
theorem k0_off466_inb : ∀ (v4203 : BitVec 32) (v4207 : BitVec 32) (v4222 : BitVec 32) (k0_hw311 : k0_chk311 v4203 v4207 v4222), ∀ a, (k0_off466 v4203 v4207 v4222) a + S1x1x32x256.size a ≤ S5x50x50x256.size a := fun v4203 v4207 v4222 k0_hw311 => k0_hw311

def k0_off467 (v4203 : BitVec 32) (v4207 : BitVec 32) (v4222 : BitVec 32) (v4225 : BitVec 32) : Fin 4 → Nat :=
  let v4232 : Index := Scalar.indexCast v4222
  let c4_i32_1749 : BitVec 32 := 4#32
  let v4208 : BitVec 32 := Scalar.shrsi v4207 c4_i32_1749
  let v4226 : BitVec 32 := Scalar.addi v4208 v4225
  let v4233 : Index := Scalar.indexCast v4226
  let c4_i32_1747 : BitVec 32 := 4#32
  let v4204 : BitVec 32 := Scalar.shrsi v4203 c4_i32_1747
  let c3_i32_1754 : BitVec 32 := 3#32
  let v4217 : BitVec 32 := Scalar.shrsi v4204 c3_i32_1754
  let c3_i32_1755 : BitVec 32 := 3#32
  let v4218 : BitVec 32 := Scalar.shli v4217 c3_i32_1755
  let c16_i32_1756 : BitVec 32 := 16#32
  let v4219 : BitVec 32 := Scalar.minsi v4218 c16_i32_1756
  let v4220 : BitVec 32 := v4219
  let v4234 : Index := Scalar.indexCast v4220
  let c0_1759 : Index := 0#32
  ![v4232.toNat, v4233.toNat, v4234.toNat, 0]

def k0_chk312 (v4203 : BitVec 32) (v4207 : BitVec 32) (v4222 : BitVec 32) (v4225 : BitVec 32) : Prop :=
  (∀ a, (k0_off467 v4203 v4207 v4222 v4225) a + S1x1x32x256.size a ≤ S5x50x50x256.size a)
theorem k0_off467_inb : ∀ (v4203 : BitVec 32) (v4207 : BitVec 32) (v4222 : BitVec 32) (v4225 : BitVec 32) (k0_hw312 : k0_chk312 v4203 v4207 v4222 v4225), ∀ a, (k0_off467 v4203 v4207 v4222 v4225) a + S1x1x32x256.size a ≤ S5x50x50x256.size a := fun v4203 v4207 v4222 v4225 k0_hw312 => k0_hw312

def k0_off468 : Fin 4 → Nat :=
  let c0_1762 : Index := 0#32
  let c0_i32 : BitVec 32 := 0#32
  let c128_i32_1743 : BitVec 32 := 128#32
  let v4196 : BitVec 32 := Scalar.muli c0_i32 c128_i32_1743
  let c77_i32 : BitVec 32 := 77#32
  let v4197 : BitVec 32 := Scalar.addi v4196 c77_i32
  let v4246 : Index := Scalar.indexCast v4197
  let c0_1763 : Index := 0#32
  let c0_1764 : Index := 0#32
  ![0, v4246.toNat, 0, 0]
def k0_off469 (i : grid0.Coords) (c0_i32_1768 : BitVec 32) : Fin 1 → Nat :=
  let arg0 : BitVec 32 := BitVec.ofNat 32 (i 0).val
  let c128_i32_1766 : BitVec 32 := 128#32
  let v4252 : BitVec 32 := Scalar.muli arg0 c128_i32_1766
  let c0_i32 : BitVec 32 := 0#32
  let c128_i32_1765 : BitVec 32 := 128#32
  let v4250 : BitVec 32 := Scalar.muli c0_i32 c128_i32_1765
  let c78_i32 : BitVec 32 := 78#32
  let v4251 : BitVec 32 := Scalar.addi v4250 c78_i32
  let v4253 : BitVec 32 := Scalar.addi v4252 v4251
  let c4_i32_1767 : BitVec 32 := 4#32
  let v4254 : BitVec 32 := Scalar.muli v4253 c4_i32_1767
  let v4255 : BitVec 32 := Scalar.addi v4254 c0_i32_1768
  let v4256 : Index := Scalar.indexCast v4255
  ![v4256.toNat]
def k0_mult79 (v4257 : BitVec 32) : BitVec 32 :=
  let c4_i32_1769 : BitVec 32 := 4#32
  let v4258 : BitVec 32 := Scalar.shrsi v4257 c4_i32_1769
  let c3_i32_1776 : BitVec 32 := 3#32
  let v4271 : BitVec 32 := Scalar.shrsi v4258 c3_i32_1776
  let c3_i32_1777 : BitVec 32 := 3#32
  let v4272 : BitVec 32 := Scalar.shli v4271 c3_i32_1777
  let c16_i32_1778 : BitVec 32 := 16#32
  let v4273 : BitVec 32 := Scalar.minsi v4272 c16_i32_1778
  v4273

def k0_chk313 (v4257 : BitVec 32) : Prop :=
  (8 ∣ (k0_mult79 v4257).toNat)
theorem k0_mult79_dvd : ∀ (v4257 : BitVec 32) (k0_hw313 : k0_chk313 v4257), 8 ∣ (k0_mult79 v4257).toNat := fun v4257 k0_hw313 => k0_hw313

def k0_off470 (v4269 : BitVec 32) : Fin 1 → Nat :=
  let c4_i32_1775 : BitVec 32 := 4#32
  let v4270 : BitVec 32 := Scalar.shrsi v4269 c4_i32_1775
  let v4275 : Index := Scalar.indexCast v4270
  ![v4275.toNat]

def k0_off471 (v4269 : BitVec 32) : Fin 1 → Nat :=
  let c32_i32_1779 : BitVec 32 := 32#32
  let c4_i32_1775 : BitVec 32 := 4#32
  let v4270 : BitVec 32 := Scalar.shrsi v4269 c4_i32_1775
  let v4277 : BitVec 32 := Scalar.addi c32_i32_1779 v4270
  let v4278 : Index := Scalar.indexCast v4277
  ![v4278.toNat]

def k0_chk314 (v4269 : BitVec 32) : Prop :=
  (∀ a, (k0_off470 v4269) a + S1.size a ≤ S64.size a) ∧
  (∀ a, (k0_off471 v4269) a + S1.size a ≤ S64.size a)
theorem k0_off470_inb : ∀ (v4269 : BitVec 32) (k0_hw314 : k0_chk314 v4269), ∀ a, (k0_off470 v4269) a + S1.size a ≤ S64.size a := fun v4269 k0_hw314 => k0_hw314.1
theorem k0_off471_inb : ∀ (v4269 : BitVec 32) (k0_hw314 : k0_chk314 v4269), ∀ a, (k0_off471 v4269) a + S1.size a ≤ S64.size a := fun v4269 k0_hw314 => k0_hw314.2

def k0_off472 (v4257 : BitVec 32) (v4261 : BitVec 32) (v4276 : BitVec 32) : Fin 4 → Nat :=
  let v4281 : Index := Scalar.indexCast v4276
  let c4_i32_1771 : BitVec 32 := 4#32
  let v4262 : BitVec 32 := Scalar.shrsi v4261 c4_i32_1771
  let v4282 : Index := Scalar.indexCast v4262
  let c4_i32_1769 : BitVec 32 := 4#32
  let v4258 : BitVec 32 := Scalar.shrsi v4257 c4_i32_1769
  let c3_i32_1776 : BitVec 32 := 3#32
  let v4271 : BitVec 32 := Scalar.shrsi v4258 c3_i32_1776
  let c3_i32_1777 : BitVec 32 := 3#32
  let v4272 : BitVec 32 := Scalar.shli v4271 c3_i32_1777
  let c16_i32_1778 : BitVec 32 := 16#32
  let v4273 : BitVec 32 := Scalar.minsi v4272 c16_i32_1778
  let v4274 : BitVec 32 := v4273
  let v4283 : Index := Scalar.indexCast v4274
  let c0_1780 : Index := 0#32
  ![v4281.toNat, v4282.toNat, v4283.toNat, 0]

def k0_chk315 (v4257 : BitVec 32) (v4261 : BitVec 32) (v4276 : BitVec 32) : Prop :=
  (∀ a, (k0_off472 v4257 v4261 v4276) a + S1x1x32x256.size a ≤ S5x50x50x256.size a)
theorem k0_off472_inb : ∀ (v4257 : BitVec 32) (v4261 : BitVec 32) (v4276 : BitVec 32) (k0_hw315 : k0_chk315 v4257 v4261 v4276), ∀ a, (k0_off472 v4257 v4261 v4276) a + S1x1x32x256.size a ≤ S5x50x50x256.size a := fun v4257 v4261 v4276 k0_hw315 => k0_hw315

def k0_off473 (v4257 : BitVec 32) (v4261 : BitVec 32) (v4276 : BitVec 32) (v4279 : BitVec 32) : Fin 4 → Nat :=
  let v4286 : Index := Scalar.indexCast v4276
  let c4_i32_1771 : BitVec 32 := 4#32
  let v4262 : BitVec 32 := Scalar.shrsi v4261 c4_i32_1771
  let v4280 : BitVec 32 := Scalar.addi v4262 v4279
  let v4287 : Index := Scalar.indexCast v4280
  let c4_i32_1769 : BitVec 32 := 4#32
  let v4258 : BitVec 32 := Scalar.shrsi v4257 c4_i32_1769
  let c3_i32_1776 : BitVec 32 := 3#32
  let v4271 : BitVec 32 := Scalar.shrsi v4258 c3_i32_1776
  let c3_i32_1777 : BitVec 32 := 3#32
  let v4272 : BitVec 32 := Scalar.shli v4271 c3_i32_1777
  let c16_i32_1778 : BitVec 32 := 16#32
  let v4273 : BitVec 32 := Scalar.minsi v4272 c16_i32_1778
  let v4274 : BitVec 32 := v4273
  let v4288 : Index := Scalar.indexCast v4274
  let c0_1781 : Index := 0#32
  ![v4286.toNat, v4287.toNat, v4288.toNat, 0]

def k0_chk316 (v4257 : BitVec 32) (v4261 : BitVec 32) (v4276 : BitVec 32) (v4279 : BitVec 32) : Prop :=
  (∀ a, (k0_off473 v4257 v4261 v4276 v4279) a + S1x1x32x256.size a ≤ S5x50x50x256.size a)
theorem k0_off473_inb : ∀ (v4257 : BitVec 32) (v4261 : BitVec 32) (v4276 : BitVec 32) (v4279 : BitVec 32) (k0_hw316 : k0_chk316 v4257 v4261 v4276 v4279), ∀ a, (k0_off473 v4257 v4261 v4276 v4279) a + S1x1x32x256.size a ≤ S5x50x50x256.size a := fun v4257 v4261 v4276 v4279 k0_hw316 => k0_hw316

def k0_off474 : Fin 4 → Nat :=
  let c0_1784 : Index := 0#32
  let c0_i32 : BitVec 32 := 0#32
  let c128_i32_1765 : BitVec 32 := 128#32
  let v4250 : BitVec 32 := Scalar.muli c0_i32 c128_i32_1765
  let c78_i32 : BitVec 32 := 78#32
  let v4251 : BitVec 32 := Scalar.addi v4250 c78_i32
  let v4300 : Index := Scalar.indexCast v4251
  let c0_1785 : Index := 0#32
  let c0_1786 : Index := 0#32
  ![0, v4300.toNat, 0, 0]
def k0_off475 (i : grid0.Coords) (c0_i32_1790 : BitVec 32) : Fin 1 → Nat :=
  let arg0 : BitVec 32 := BitVec.ofNat 32 (i 0).val
  let c128_i32_1788 : BitVec 32 := 128#32
  let v4306 : BitVec 32 := Scalar.muli arg0 c128_i32_1788
  let c0_i32 : BitVec 32 := 0#32
  let c128_i32_1787 : BitVec 32 := 128#32
  let v4304 : BitVec 32 := Scalar.muli c0_i32 c128_i32_1787
  let c79_i32 : BitVec 32 := 79#32
  let v4305 : BitVec 32 := Scalar.addi v4304 c79_i32
  let v4307 : BitVec 32 := Scalar.addi v4306 v4305
  let c4_i32_1789 : BitVec 32 := 4#32
  let v4308 : BitVec 32 := Scalar.muli v4307 c4_i32_1789
  let v4309 : BitVec 32 := Scalar.addi v4308 c0_i32_1790
  let v4310 : Index := Scalar.indexCast v4309
  ![v4310.toNat]
def k0_mult80 (v4311 : BitVec 32) : BitVec 32 :=
  let c4_i32_1791 : BitVec 32 := 4#32
  let v4312 : BitVec 32 := Scalar.shrsi v4311 c4_i32_1791
  let c3_i32_1798 : BitVec 32 := 3#32
  let v4325 : BitVec 32 := Scalar.shrsi v4312 c3_i32_1798
  let c3_i32_1799 : BitVec 32 := 3#32
  let v4326 : BitVec 32 := Scalar.shli v4325 c3_i32_1799
  let c16_i32_1800 : BitVec 32 := 16#32
  let v4327 : BitVec 32 := Scalar.minsi v4326 c16_i32_1800
  v4327

def k0_chk317 (v4311 : BitVec 32) : Prop :=
  (8 ∣ (k0_mult80 v4311).toNat)
theorem k0_mult80_dvd : ∀ (v4311 : BitVec 32) (k0_hw317 : k0_chk317 v4311), 8 ∣ (k0_mult80 v4311).toNat := fun v4311 k0_hw317 => k0_hw317

def k0_off476 (v4323 : BitVec 32) : Fin 1 → Nat :=
  let c4_i32_1797 : BitVec 32 := 4#32
  let v4324 : BitVec 32 := Scalar.shrsi v4323 c4_i32_1797
  let v4329 : Index := Scalar.indexCast v4324
  ![v4329.toNat]

def k0_off477 (v4323 : BitVec 32) : Fin 1 → Nat :=
  let c32_i32_1801 : BitVec 32 := 32#32
  let c4_i32_1797 : BitVec 32 := 4#32
  let v4324 : BitVec 32 := Scalar.shrsi v4323 c4_i32_1797
  let v4331 : BitVec 32 := Scalar.addi c32_i32_1801 v4324
  let v4332 : Index := Scalar.indexCast v4331
  ![v4332.toNat]

def k0_chk318 (v4323 : BitVec 32) : Prop :=
  (∀ a, (k0_off476 v4323) a + S1.size a ≤ S64.size a) ∧
  (∀ a, (k0_off477 v4323) a + S1.size a ≤ S64.size a)
theorem k0_off476_inb : ∀ (v4323 : BitVec 32) (k0_hw318 : k0_chk318 v4323), ∀ a, (k0_off476 v4323) a + S1.size a ≤ S64.size a := fun v4323 k0_hw318 => k0_hw318.1
theorem k0_off477_inb : ∀ (v4323 : BitVec 32) (k0_hw318 : k0_chk318 v4323), ∀ a, (k0_off477 v4323) a + S1.size a ≤ S64.size a := fun v4323 k0_hw318 => k0_hw318.2

def k0_off478 (v4311 : BitVec 32) (v4315 : BitVec 32) (v4330 : BitVec 32) : Fin 4 → Nat :=
  let v4335 : Index := Scalar.indexCast v4330
  let c4_i32_1793 : BitVec 32 := 4#32
  let v4316 : BitVec 32 := Scalar.shrsi v4315 c4_i32_1793
  let v4336 : Index := Scalar.indexCast v4316
  let c4_i32_1791 : BitVec 32 := 4#32
  let v4312 : BitVec 32 := Scalar.shrsi v4311 c4_i32_1791
  let c3_i32_1798 : BitVec 32 := 3#32
  let v4325 : BitVec 32 := Scalar.shrsi v4312 c3_i32_1798
  let c3_i32_1799 : BitVec 32 := 3#32
  let v4326 : BitVec 32 := Scalar.shli v4325 c3_i32_1799
  let c16_i32_1800 : BitVec 32 := 16#32
  let v4327 : BitVec 32 := Scalar.minsi v4326 c16_i32_1800
  let v4328 : BitVec 32 := v4327
  let v4337 : Index := Scalar.indexCast v4328
  let c0_1802 : Index := 0#32
  ![v4335.toNat, v4336.toNat, v4337.toNat, 0]

def k0_chk319 (v4311 : BitVec 32) (v4315 : BitVec 32) (v4330 : BitVec 32) : Prop :=
  (∀ a, (k0_off478 v4311 v4315 v4330) a + S1x1x32x256.size a ≤ S5x50x50x256.size a)
theorem k0_off478_inb : ∀ (v4311 : BitVec 32) (v4315 : BitVec 32) (v4330 : BitVec 32) (k0_hw319 : k0_chk319 v4311 v4315 v4330), ∀ a, (k0_off478 v4311 v4315 v4330) a + S1x1x32x256.size a ≤ S5x50x50x256.size a := fun v4311 v4315 v4330 k0_hw319 => k0_hw319

def k0_off479 (v4311 : BitVec 32) (v4315 : BitVec 32) (v4330 : BitVec 32) (v4333 : BitVec 32) : Fin 4 → Nat :=
  let v4340 : Index := Scalar.indexCast v4330
  let c4_i32_1793 : BitVec 32 := 4#32
  let v4316 : BitVec 32 := Scalar.shrsi v4315 c4_i32_1793
  let v4334 : BitVec 32 := Scalar.addi v4316 v4333
  let v4341 : Index := Scalar.indexCast v4334
  let c4_i32_1791 : BitVec 32 := 4#32
  let v4312 : BitVec 32 := Scalar.shrsi v4311 c4_i32_1791
  let c3_i32_1798 : BitVec 32 := 3#32
  let v4325 : BitVec 32 := Scalar.shrsi v4312 c3_i32_1798
  let c3_i32_1799 : BitVec 32 := 3#32
  let v4326 : BitVec 32 := Scalar.shli v4325 c3_i32_1799
  let c16_i32_1800 : BitVec 32 := 16#32
  let v4327 : BitVec 32 := Scalar.minsi v4326 c16_i32_1800
  let v4328 : BitVec 32 := v4327
  let v4342 : Index := Scalar.indexCast v4328
  let c0_1803 : Index := 0#32
  ![v4340.toNat, v4341.toNat, v4342.toNat, 0]

def k0_chk320 (v4311 : BitVec 32) (v4315 : BitVec 32) (v4330 : BitVec 32) (v4333 : BitVec 32) : Prop :=
  (∀ a, (k0_off479 v4311 v4315 v4330 v4333) a + S1x1x32x256.size a ≤ S5x50x50x256.size a)
theorem k0_off479_inb : ∀ (v4311 : BitVec 32) (v4315 : BitVec 32) (v4330 : BitVec 32) (v4333 : BitVec 32) (k0_hw320 : k0_chk320 v4311 v4315 v4330 v4333), ∀ a, (k0_off479 v4311 v4315 v4330 v4333) a + S1x1x32x256.size a ≤ S5x50x50x256.size a := fun v4311 v4315 v4330 v4333 k0_hw320 => k0_hw320

def k0_off480 : Fin 4 → Nat :=
  let c0_1806 : Index := 0#32
  let c0_i32 : BitVec 32 := 0#32
  let c128_i32_1787 : BitVec 32 := 128#32
  let v4304 : BitVec 32 := Scalar.muli c0_i32 c128_i32_1787
  let c79_i32 : BitVec 32 := 79#32
  let v4305 : BitVec 32 := Scalar.addi v4304 c79_i32
  let v4354 : Index := Scalar.indexCast v4305
  let c0_1807 : Index := 0#32
  let c0_1808 : Index := 0#32
  ![0, v4354.toNat, 0, 0]
def k0_off481 (i : grid0.Coords) (c0_i32_1812 : BitVec 32) : Fin 1 → Nat :=
  let arg0 : BitVec 32 := BitVec.ofNat 32 (i 0).val
  let c128_i32_1810 : BitVec 32 := 128#32
  let v4360 : BitVec 32 := Scalar.muli arg0 c128_i32_1810
  let c0_i32 : BitVec 32 := 0#32
  let c128_i32_1809 : BitVec 32 := 128#32
  let v4358 : BitVec 32 := Scalar.muli c0_i32 c128_i32_1809
  let c80_i32 : BitVec 32 := 80#32
  let v4359 : BitVec 32 := Scalar.addi v4358 c80_i32
  let v4361 : BitVec 32 := Scalar.addi v4360 v4359
  let c4_i32_1811 : BitVec 32 := 4#32
  let v4362 : BitVec 32 := Scalar.muli v4361 c4_i32_1811
  let v4363 : BitVec 32 := Scalar.addi v4362 c0_i32_1812
  let v4364 : Index := Scalar.indexCast v4363
  ![v4364.toNat]
def k0_mult81 (v4365 : BitVec 32) : BitVec 32 :=
  let c4_i32_1813 : BitVec 32 := 4#32
  let v4366 : BitVec 32 := Scalar.shrsi v4365 c4_i32_1813
  let c3_i32_1820 : BitVec 32 := 3#32
  let v4379 : BitVec 32 := Scalar.shrsi v4366 c3_i32_1820
  let c3_i32_1821 : BitVec 32 := 3#32
  let v4380 : BitVec 32 := Scalar.shli v4379 c3_i32_1821
  let c16_i32_1822 : BitVec 32 := 16#32
  let v4381 : BitVec 32 := Scalar.minsi v4380 c16_i32_1822
  v4381

def k0_chk321 (v4365 : BitVec 32) : Prop :=
  (8 ∣ (k0_mult81 v4365).toNat)
theorem k0_mult81_dvd : ∀ (v4365 : BitVec 32) (k0_hw321 : k0_chk321 v4365), 8 ∣ (k0_mult81 v4365).toNat := fun v4365 k0_hw321 => k0_hw321

def k0_off482 (v4377 : BitVec 32) : Fin 1 → Nat :=
  let c4_i32_1819 : BitVec 32 := 4#32
  let v4378 : BitVec 32 := Scalar.shrsi v4377 c4_i32_1819
  let v4383 : Index := Scalar.indexCast v4378
  ![v4383.toNat]

def k0_off483 (v4377 : BitVec 32) : Fin 1 → Nat :=
  let c32_i32_1823 : BitVec 32 := 32#32
  let c4_i32_1819 : BitVec 32 := 4#32
  let v4378 : BitVec 32 := Scalar.shrsi v4377 c4_i32_1819
  let v4385 : BitVec 32 := Scalar.addi c32_i32_1823 v4378
  let v4386 : Index := Scalar.indexCast v4385
  ![v4386.toNat]

def k0_chk322 (v4377 : BitVec 32) : Prop :=
  (∀ a, (k0_off482 v4377) a + S1.size a ≤ S64.size a) ∧
  (∀ a, (k0_off483 v4377) a + S1.size a ≤ S64.size a)
theorem k0_off482_inb : ∀ (v4377 : BitVec 32) (k0_hw322 : k0_chk322 v4377), ∀ a, (k0_off482 v4377) a + S1.size a ≤ S64.size a := fun v4377 k0_hw322 => k0_hw322.1
theorem k0_off483_inb : ∀ (v4377 : BitVec 32) (k0_hw322 : k0_chk322 v4377), ∀ a, (k0_off483 v4377) a + S1.size a ≤ S64.size a := fun v4377 k0_hw322 => k0_hw322.2

def k0_off484 (v4365 : BitVec 32) (v4369 : BitVec 32) (v4384 : BitVec 32) : Fin 4 → Nat :=
  let v4389 : Index := Scalar.indexCast v4384
  let c4_i32_1815 : BitVec 32 := 4#32
  let v4370 : BitVec 32 := Scalar.shrsi v4369 c4_i32_1815
  let v4390 : Index := Scalar.indexCast v4370
  let c4_i32_1813 : BitVec 32 := 4#32
  let v4366 : BitVec 32 := Scalar.shrsi v4365 c4_i32_1813
  let c3_i32_1820 : BitVec 32 := 3#32
  let v4379 : BitVec 32 := Scalar.shrsi v4366 c3_i32_1820
  let c3_i32_1821 : BitVec 32 := 3#32
  let v4380 : BitVec 32 := Scalar.shli v4379 c3_i32_1821
  let c16_i32_1822 : BitVec 32 := 16#32
  let v4381 : BitVec 32 := Scalar.minsi v4380 c16_i32_1822
  let v4382 : BitVec 32 := v4381
  let v4391 : Index := Scalar.indexCast v4382
  let c0_1824 : Index := 0#32
  ![v4389.toNat, v4390.toNat, v4391.toNat, 0]

def k0_chk323 (v4365 : BitVec 32) (v4369 : BitVec 32) (v4384 : BitVec 32) : Prop :=
  (∀ a, (k0_off484 v4365 v4369 v4384) a + S1x1x32x256.size a ≤ S5x50x50x256.size a)
theorem k0_off484_inb : ∀ (v4365 : BitVec 32) (v4369 : BitVec 32) (v4384 : BitVec 32) (k0_hw323 : k0_chk323 v4365 v4369 v4384), ∀ a, (k0_off484 v4365 v4369 v4384) a + S1x1x32x256.size a ≤ S5x50x50x256.size a := fun v4365 v4369 v4384 k0_hw323 => k0_hw323

def k0_off485 (v4365 : BitVec 32) (v4369 : BitVec 32) (v4384 : BitVec 32) (v4387 : BitVec 32) : Fin 4 → Nat :=
  let v4394 : Index := Scalar.indexCast v4384
  let c4_i32_1815 : BitVec 32 := 4#32
  let v4370 : BitVec 32 := Scalar.shrsi v4369 c4_i32_1815
  let v4388 : BitVec 32 := Scalar.addi v4370 v4387
  let v4395 : Index := Scalar.indexCast v4388
  let c4_i32_1813 : BitVec 32 := 4#32
  let v4366 : BitVec 32 := Scalar.shrsi v4365 c4_i32_1813
  let c3_i32_1820 : BitVec 32 := 3#32
  let v4379 : BitVec 32 := Scalar.shrsi v4366 c3_i32_1820
  let c3_i32_1821 : BitVec 32 := 3#32
  let v4380 : BitVec 32 := Scalar.shli v4379 c3_i32_1821
  let c16_i32_1822 : BitVec 32 := 16#32
  let v4381 : BitVec 32 := Scalar.minsi v4380 c16_i32_1822
  let v4382 : BitVec 32 := v4381
  let v4396 : Index := Scalar.indexCast v4382
  let c0_1825 : Index := 0#32
  ![v4394.toNat, v4395.toNat, v4396.toNat, 0]

def k0_chk324 (v4365 : BitVec 32) (v4369 : BitVec 32) (v4384 : BitVec 32) (v4387 : BitVec 32) : Prop :=
  (∀ a, (k0_off485 v4365 v4369 v4384 v4387) a + S1x1x32x256.size a ≤ S5x50x50x256.size a)
theorem k0_off485_inb : ∀ (v4365 : BitVec 32) (v4369 : BitVec 32) (v4384 : BitVec 32) (v4387 : BitVec 32) (k0_hw324 : k0_chk324 v4365 v4369 v4384 v4387), ∀ a, (k0_off485 v4365 v4369 v4384 v4387) a + S1x1x32x256.size a ≤ S5x50x50x256.size a := fun v4365 v4369 v4384 v4387 k0_hw324 => k0_hw324

def k0_off486 : Fin 4 → Nat :=
  let c0_1828 : Index := 0#32
  let c0_i32 : BitVec 32 := 0#32
  let c128_i32_1809 : BitVec 32 := 128#32
  let v4358 : BitVec 32 := Scalar.muli c0_i32 c128_i32_1809
  let c80_i32 : BitVec 32 := 80#32
  let v4359 : BitVec 32 := Scalar.addi v4358 c80_i32
  let v4408 : Index := Scalar.indexCast v4359
  let c0_1829 : Index := 0#32
  let c0_1830 : Index := 0#32
  ![0, v4408.toNat, 0, 0]
def k0_off487 (i : grid0.Coords) (c0_i32_1834 : BitVec 32) : Fin 1 → Nat :=
  let arg0 : BitVec 32 := BitVec.ofNat 32 (i 0).val
  let c128_i32_1832 : BitVec 32 := 128#32
  let v4414 : BitVec 32 := Scalar.muli arg0 c128_i32_1832
  let c0_i32 : BitVec 32 := 0#32
  let c128_i32_1831 : BitVec 32 := 128#32
  let v4412 : BitVec 32 := Scalar.muli c0_i32 c128_i32_1831
  let c81_i32 : BitVec 32 := 81#32
  let v4413 : BitVec 32 := Scalar.addi v4412 c81_i32
  let v4415 : BitVec 32 := Scalar.addi v4414 v4413
  let c4_i32_1833 : BitVec 32 := 4#32
  let v4416 : BitVec 32 := Scalar.muli v4415 c4_i32_1833
  let v4417 : BitVec 32 := Scalar.addi v4416 c0_i32_1834
  let v4418 : Index := Scalar.indexCast v4417
  ![v4418.toNat]
def k0_mult82 (v4419 : BitVec 32) : BitVec 32 :=
  let c4_i32_1835 : BitVec 32 := 4#32
  let v4420 : BitVec 32 := Scalar.shrsi v4419 c4_i32_1835
  let c3_i32_1842 : BitVec 32 := 3#32
  let v4433 : BitVec 32 := Scalar.shrsi v4420 c3_i32_1842
  let c3_i32_1843 : BitVec 32 := 3#32
  let v4434 : BitVec 32 := Scalar.shli v4433 c3_i32_1843
  let c16_i32_1844 : BitVec 32 := 16#32
  let v4435 : BitVec 32 := Scalar.minsi v4434 c16_i32_1844
  v4435

def k0_chk325 (v4419 : BitVec 32) : Prop :=
  (8 ∣ (k0_mult82 v4419).toNat)
theorem k0_mult82_dvd : ∀ (v4419 : BitVec 32) (k0_hw325 : k0_chk325 v4419), 8 ∣ (k0_mult82 v4419).toNat := fun v4419 k0_hw325 => k0_hw325

def k0_off488 (v4431 : BitVec 32) : Fin 1 → Nat :=
  let c4_i32_1841 : BitVec 32 := 4#32
  let v4432 : BitVec 32 := Scalar.shrsi v4431 c4_i32_1841
  let v4437 : Index := Scalar.indexCast v4432
  ![v4437.toNat]

def k0_off489 (v4431 : BitVec 32) : Fin 1 → Nat :=
  let c32_i32_1845 : BitVec 32 := 32#32
  let c4_i32_1841 : BitVec 32 := 4#32
  let v4432 : BitVec 32 := Scalar.shrsi v4431 c4_i32_1841
  let v4439 : BitVec 32 := Scalar.addi c32_i32_1845 v4432
  let v4440 : Index := Scalar.indexCast v4439
  ![v4440.toNat]

def k0_chk326 (v4431 : BitVec 32) : Prop :=
  (∀ a, (k0_off488 v4431) a + S1.size a ≤ S64.size a) ∧
  (∀ a, (k0_off489 v4431) a + S1.size a ≤ S64.size a)
theorem k0_off488_inb : ∀ (v4431 : BitVec 32) (k0_hw326 : k0_chk326 v4431), ∀ a, (k0_off488 v4431) a + S1.size a ≤ S64.size a := fun v4431 k0_hw326 => k0_hw326.1
theorem k0_off489_inb : ∀ (v4431 : BitVec 32) (k0_hw326 : k0_chk326 v4431), ∀ a, (k0_off489 v4431) a + S1.size a ≤ S64.size a := fun v4431 k0_hw326 => k0_hw326.2

def k0_off490 (v4419 : BitVec 32) (v4423 : BitVec 32) (v4438 : BitVec 32) : Fin 4 → Nat :=
  let v4443 : Index := Scalar.indexCast v4438
  let c4_i32_1837 : BitVec 32 := 4#32
  let v4424 : BitVec 32 := Scalar.shrsi v4423 c4_i32_1837
  let v4444 : Index := Scalar.indexCast v4424
  let c4_i32_1835 : BitVec 32 := 4#32
  let v4420 : BitVec 32 := Scalar.shrsi v4419 c4_i32_1835
  let c3_i32_1842 : BitVec 32 := 3#32
  let v4433 : BitVec 32 := Scalar.shrsi v4420 c3_i32_1842
  let c3_i32_1843 : BitVec 32 := 3#32
  let v4434 : BitVec 32 := Scalar.shli v4433 c3_i32_1843
  let c16_i32_1844 : BitVec 32 := 16#32
  let v4435 : BitVec 32 := Scalar.minsi v4434 c16_i32_1844
  let v4436 : BitVec 32 := v4435
  let v4445 : Index := Scalar.indexCast v4436
  let c0_1846 : Index := 0#32
  ![v4443.toNat, v4444.toNat, v4445.toNat, 0]

def k0_chk327 (v4419 : BitVec 32) (v4423 : BitVec 32) (v4438 : BitVec 32) : Prop :=
  (∀ a, (k0_off490 v4419 v4423 v4438) a + S1x1x32x256.size a ≤ S5x50x50x256.size a)
theorem k0_off490_inb : ∀ (v4419 : BitVec 32) (v4423 : BitVec 32) (v4438 : BitVec 32) (k0_hw327 : k0_chk327 v4419 v4423 v4438), ∀ a, (k0_off490 v4419 v4423 v4438) a + S1x1x32x256.size a ≤ S5x50x50x256.size a := fun v4419 v4423 v4438 k0_hw327 => k0_hw327

def k0_off491 (v4419 : BitVec 32) (v4423 : BitVec 32) (v4438 : BitVec 32) (v4441 : BitVec 32) : Fin 4 → Nat :=
  let v4448 : Index := Scalar.indexCast v4438
  let c4_i32_1837 : BitVec 32 := 4#32
  let v4424 : BitVec 32 := Scalar.shrsi v4423 c4_i32_1837
  let v4442 : BitVec 32 := Scalar.addi v4424 v4441
  let v4449 : Index := Scalar.indexCast v4442
  let c4_i32_1835 : BitVec 32 := 4#32
  let v4420 : BitVec 32 := Scalar.shrsi v4419 c4_i32_1835
  let c3_i32_1842 : BitVec 32 := 3#32
  let v4433 : BitVec 32 := Scalar.shrsi v4420 c3_i32_1842
  let c3_i32_1843 : BitVec 32 := 3#32
  let v4434 : BitVec 32 := Scalar.shli v4433 c3_i32_1843
  let c16_i32_1844 : BitVec 32 := 16#32
  let v4435 : BitVec 32 := Scalar.minsi v4434 c16_i32_1844
  let v4436 : BitVec 32 := v4435
  let v4450 : Index := Scalar.indexCast v4436
  let c0_1847 : Index := 0#32
  ![v4448.toNat, v4449.toNat, v4450.toNat, 0]

def k0_chk328 (v4419 : BitVec 32) (v4423 : BitVec 32) (v4438 : BitVec 32) (v4441 : BitVec 32) : Prop :=
  (∀ a, (k0_off491 v4419 v4423 v4438 v4441) a + S1x1x32x256.size a ≤ S5x50x50x256.size a)
theorem k0_off491_inb : ∀ (v4419 : BitVec 32) (v4423 : BitVec 32) (v4438 : BitVec 32) (v4441 : BitVec 32) (k0_hw328 : k0_chk328 v4419 v4423 v4438 v4441), ∀ a, (k0_off491 v4419 v4423 v4438 v4441) a + S1x1x32x256.size a ≤ S5x50x50x256.size a := fun v4419 v4423 v4438 v4441 k0_hw328 => k0_hw328

def k0_off492 : Fin 4 → Nat :=
  let c0_1850 : Index := 0#32
  let c0_i32 : BitVec 32 := 0#32
  let c128_i32_1831 : BitVec 32 := 128#32
  let v4412 : BitVec 32 := Scalar.muli c0_i32 c128_i32_1831
  let c81_i32 : BitVec 32 := 81#32
  let v4413 : BitVec 32 := Scalar.addi v4412 c81_i32
  let v4462 : Index := Scalar.indexCast v4413
  let c0_1851 : Index := 0#32
  let c0_1852 : Index := 0#32
  ![0, v4462.toNat, 0, 0]
def k0_off493 (i : grid0.Coords) (c0_i32_1856 : BitVec 32) : Fin 1 → Nat :=
  let arg0 : BitVec 32 := BitVec.ofNat 32 (i 0).val
  let c128_i32_1854 : BitVec 32 := 128#32
  let v4468 : BitVec 32 := Scalar.muli arg0 c128_i32_1854
  let c0_i32 : BitVec 32 := 0#32
  let c128_i32_1853 : BitVec 32 := 128#32
  let v4466 : BitVec 32 := Scalar.muli c0_i32 c128_i32_1853
  let c82_i32 : BitVec 32 := 82#32
  let v4467 : BitVec 32 := Scalar.addi v4466 c82_i32
  let v4469 : BitVec 32 := Scalar.addi v4468 v4467
  let c4_i32_1855 : BitVec 32 := 4#32
  let v4470 : BitVec 32 := Scalar.muli v4469 c4_i32_1855
  let v4471 : BitVec 32 := Scalar.addi v4470 c0_i32_1856
  let v4472 : Index := Scalar.indexCast v4471
  ![v4472.toNat]
def k0_mult83 (v4473 : BitVec 32) : BitVec 32 :=
  let c4_i32_1857 : BitVec 32 := 4#32
  let v4474 : BitVec 32 := Scalar.shrsi v4473 c4_i32_1857
  let c3_i32_1864 : BitVec 32 := 3#32
  let v4487 : BitVec 32 := Scalar.shrsi v4474 c3_i32_1864
  let c3_i32_1865 : BitVec 32 := 3#32
  let v4488 : BitVec 32 := Scalar.shli v4487 c3_i32_1865
  let c16_i32_1866 : BitVec 32 := 16#32
  let v4489 : BitVec 32 := Scalar.minsi v4488 c16_i32_1866
  v4489

def k0_chk329 (v4473 : BitVec 32) : Prop :=
  (8 ∣ (k0_mult83 v4473).toNat)
theorem k0_mult83_dvd : ∀ (v4473 : BitVec 32) (k0_hw329 : k0_chk329 v4473), 8 ∣ (k0_mult83 v4473).toNat := fun v4473 k0_hw329 => k0_hw329

def k0_off494 (v4485 : BitVec 32) : Fin 1 → Nat :=
  let c4_i32_1863 : BitVec 32 := 4#32
  let v4486 : BitVec 32 := Scalar.shrsi v4485 c4_i32_1863
  let v4491 : Index := Scalar.indexCast v4486
  ![v4491.toNat]

def k0_off495 (v4485 : BitVec 32) : Fin 1 → Nat :=
  let c32_i32_1867 : BitVec 32 := 32#32
  let c4_i32_1863 : BitVec 32 := 4#32
  let v4486 : BitVec 32 := Scalar.shrsi v4485 c4_i32_1863
  let v4493 : BitVec 32 := Scalar.addi c32_i32_1867 v4486
  let v4494 : Index := Scalar.indexCast v4493
  ![v4494.toNat]

def k0_chk330 (v4485 : BitVec 32) : Prop :=
  (∀ a, (k0_off494 v4485) a + S1.size a ≤ S64.size a) ∧
  (∀ a, (k0_off495 v4485) a + S1.size a ≤ S64.size a)
theorem k0_off494_inb : ∀ (v4485 : BitVec 32) (k0_hw330 : k0_chk330 v4485), ∀ a, (k0_off494 v4485) a + S1.size a ≤ S64.size a := fun v4485 k0_hw330 => k0_hw330.1
theorem k0_off495_inb : ∀ (v4485 : BitVec 32) (k0_hw330 : k0_chk330 v4485), ∀ a, (k0_off495 v4485) a + S1.size a ≤ S64.size a := fun v4485 k0_hw330 => k0_hw330.2

def k0_off496 (v4473 : BitVec 32) (v4477 : BitVec 32) (v4492 : BitVec 32) : Fin 4 → Nat :=
  let v4497 : Index := Scalar.indexCast v4492
  let c4_i32_1859 : BitVec 32 := 4#32
  let v4478 : BitVec 32 := Scalar.shrsi v4477 c4_i32_1859
  let v4498 : Index := Scalar.indexCast v4478
  let c4_i32_1857 : BitVec 32 := 4#32
  let v4474 : BitVec 32 := Scalar.shrsi v4473 c4_i32_1857
  let c3_i32_1864 : BitVec 32 := 3#32
  let v4487 : BitVec 32 := Scalar.shrsi v4474 c3_i32_1864
  let c3_i32_1865 : BitVec 32 := 3#32
  let v4488 : BitVec 32 := Scalar.shli v4487 c3_i32_1865
  let c16_i32_1866 : BitVec 32 := 16#32
  let v4489 : BitVec 32 := Scalar.minsi v4488 c16_i32_1866
  let v4490 : BitVec 32 := v4489
  let v4499 : Index := Scalar.indexCast v4490
  let c0_1868 : Index := 0#32
  ![v4497.toNat, v4498.toNat, v4499.toNat, 0]

def k0_chk331 (v4473 : BitVec 32) (v4477 : BitVec 32) (v4492 : BitVec 32) : Prop :=
  (∀ a, (k0_off496 v4473 v4477 v4492) a + S1x1x32x256.size a ≤ S5x50x50x256.size a)
theorem k0_off496_inb : ∀ (v4473 : BitVec 32) (v4477 : BitVec 32) (v4492 : BitVec 32) (k0_hw331 : k0_chk331 v4473 v4477 v4492), ∀ a, (k0_off496 v4473 v4477 v4492) a + S1x1x32x256.size a ≤ S5x50x50x256.size a := fun v4473 v4477 v4492 k0_hw331 => k0_hw331

def k0_off497 (v4473 : BitVec 32) (v4477 : BitVec 32) (v4492 : BitVec 32) (v4495 : BitVec 32) : Fin 4 → Nat :=
  let v4502 : Index := Scalar.indexCast v4492
  let c4_i32_1859 : BitVec 32 := 4#32
  let v4478 : BitVec 32 := Scalar.shrsi v4477 c4_i32_1859
  let v4496 : BitVec 32 := Scalar.addi v4478 v4495
  let v4503 : Index := Scalar.indexCast v4496
  let c4_i32_1857 : BitVec 32 := 4#32
  let v4474 : BitVec 32 := Scalar.shrsi v4473 c4_i32_1857
  let c3_i32_1864 : BitVec 32 := 3#32
  let v4487 : BitVec 32 := Scalar.shrsi v4474 c3_i32_1864
  let c3_i32_1865 : BitVec 32 := 3#32
  let v4488 : BitVec 32 := Scalar.shli v4487 c3_i32_1865
  let c16_i32_1866 : BitVec 32 := 16#32
  let v4489 : BitVec 32 := Scalar.minsi v4488 c16_i32_1866
  let v4490 : BitVec 32 := v4489
  let v4504 : Index := Scalar.indexCast v4490
  let c0_1869 : Index := 0#32
  ![v4502.toNat, v4503.toNat, v4504.toNat, 0]

def k0_chk332 (v4473 : BitVec 32) (v4477 : BitVec 32) (v4492 : BitVec 32) (v4495 : BitVec 32) : Prop :=
  (∀ a, (k0_off497 v4473 v4477 v4492 v4495) a + S1x1x32x256.size a ≤ S5x50x50x256.size a)
theorem k0_off497_inb : ∀ (v4473 : BitVec 32) (v4477 : BitVec 32) (v4492 : BitVec 32) (v4495 : BitVec 32) (k0_hw332 : k0_chk332 v4473 v4477 v4492 v4495), ∀ a, (k0_off497 v4473 v4477 v4492 v4495) a + S1x1x32x256.size a ≤ S5x50x50x256.size a := fun v4473 v4477 v4492 v4495 k0_hw332 => k0_hw332

def k0_off498 : Fin 4 → Nat :=
  let c0_1872 : Index := 0#32
  let c0_i32 : BitVec 32 := 0#32
  let c128_i32_1853 : BitVec 32 := 128#32
  let v4466 : BitVec 32 := Scalar.muli c0_i32 c128_i32_1853
  let c82_i32 : BitVec 32 := 82#32
  let v4467 : BitVec 32 := Scalar.addi v4466 c82_i32
  let v4516 : Index := Scalar.indexCast v4467
  let c0_1873 : Index := 0#32
  let c0_1874 : Index := 0#32
  ![0, v4516.toNat, 0, 0]
def k0_off499 (i : grid0.Coords) (c0_i32_1878 : BitVec 32) : Fin 1 → Nat :=
  let arg0 : BitVec 32 := BitVec.ofNat 32 (i 0).val
  let c128_i32_1876 : BitVec 32 := 128#32
  let v4522 : BitVec 32 := Scalar.muli arg0 c128_i32_1876
  let c0_i32 : BitVec 32 := 0#32
  let c128_i32_1875 : BitVec 32 := 128#32
  let v4520 : BitVec 32 := Scalar.muli c0_i32 c128_i32_1875
  let c83_i32 : BitVec 32 := 83#32
  let v4521 : BitVec 32 := Scalar.addi v4520 c83_i32
  let v4523 : BitVec 32 := Scalar.addi v4522 v4521
  let c4_i32_1877 : BitVec 32 := 4#32
  let v4524 : BitVec 32 := Scalar.muli v4523 c4_i32_1877
  let v4525 : BitVec 32 := Scalar.addi v4524 c0_i32_1878
  let v4526 : Index := Scalar.indexCast v4525
  ![v4526.toNat]
def k0_mult84 (v4527 : BitVec 32) : BitVec 32 :=
  let c4_i32_1879 : BitVec 32 := 4#32
  let v4528 : BitVec 32 := Scalar.shrsi v4527 c4_i32_1879
  let c3_i32_1886 : BitVec 32 := 3#32
  let v4541 : BitVec 32 := Scalar.shrsi v4528 c3_i32_1886
  let c3_i32_1887 : BitVec 32 := 3#32
  let v4542 : BitVec 32 := Scalar.shli v4541 c3_i32_1887
  let c16_i32_1888 : BitVec 32 := 16#32
  let v4543 : BitVec 32 := Scalar.minsi v4542 c16_i32_1888
  v4543

def k0_chk333 (v4527 : BitVec 32) : Prop :=
  (8 ∣ (k0_mult84 v4527).toNat)
theorem k0_mult84_dvd : ∀ (v4527 : BitVec 32) (k0_hw333 : k0_chk333 v4527), 8 ∣ (k0_mult84 v4527).toNat := fun v4527 k0_hw333 => k0_hw333

def k0_off500 (v4539 : BitVec 32) : Fin 1 → Nat :=
  let c4_i32_1885 : BitVec 32 := 4#32
  let v4540 : BitVec 32 := Scalar.shrsi v4539 c4_i32_1885
  let v4545 : Index := Scalar.indexCast v4540
  ![v4545.toNat]

def k0_off501 (v4539 : BitVec 32) : Fin 1 → Nat :=
  let c32_i32_1889 : BitVec 32 := 32#32
  let c4_i32_1885 : BitVec 32 := 4#32
  let v4540 : BitVec 32 := Scalar.shrsi v4539 c4_i32_1885
  let v4547 : BitVec 32 := Scalar.addi c32_i32_1889 v4540
  let v4548 : Index := Scalar.indexCast v4547
  ![v4548.toNat]

def k0_chk334 (v4539 : BitVec 32) : Prop :=
  (∀ a, (k0_off500 v4539) a + S1.size a ≤ S64.size a) ∧
  (∀ a, (k0_off501 v4539) a + S1.size a ≤ S64.size a)
theorem k0_off500_inb : ∀ (v4539 : BitVec 32) (k0_hw334 : k0_chk334 v4539), ∀ a, (k0_off500 v4539) a + S1.size a ≤ S64.size a := fun v4539 k0_hw334 => k0_hw334.1
theorem k0_off501_inb : ∀ (v4539 : BitVec 32) (k0_hw334 : k0_chk334 v4539), ∀ a, (k0_off501 v4539) a + S1.size a ≤ S64.size a := fun v4539 k0_hw334 => k0_hw334.2

def k0_off502 (v4527 : BitVec 32) (v4531 : BitVec 32) (v4546 : BitVec 32) : Fin 4 → Nat :=
  let v4551 : Index := Scalar.indexCast v4546
  let c4_i32_1881 : BitVec 32 := 4#32
  let v4532 : BitVec 32 := Scalar.shrsi v4531 c4_i32_1881
  let v4552 : Index := Scalar.indexCast v4532
  let c4_i32_1879 : BitVec 32 := 4#32
  let v4528 : BitVec 32 := Scalar.shrsi v4527 c4_i32_1879
  let c3_i32_1886 : BitVec 32 := 3#32
  let v4541 : BitVec 32 := Scalar.shrsi v4528 c3_i32_1886
  let c3_i32_1887 : BitVec 32 := 3#32
  let v4542 : BitVec 32 := Scalar.shli v4541 c3_i32_1887
  let c16_i32_1888 : BitVec 32 := 16#32
  let v4543 : BitVec 32 := Scalar.minsi v4542 c16_i32_1888
  let v4544 : BitVec 32 := v4543
  let v4553 : Index := Scalar.indexCast v4544
  let c0_1890 : Index := 0#32
  ![v4551.toNat, v4552.toNat, v4553.toNat, 0]

def k0_chk335 (v4527 : BitVec 32) (v4531 : BitVec 32) (v4546 : BitVec 32) : Prop :=
  (∀ a, (k0_off502 v4527 v4531 v4546) a + S1x1x32x256.size a ≤ S5x50x50x256.size a)
theorem k0_off502_inb : ∀ (v4527 : BitVec 32) (v4531 : BitVec 32) (v4546 : BitVec 32) (k0_hw335 : k0_chk335 v4527 v4531 v4546), ∀ a, (k0_off502 v4527 v4531 v4546) a + S1x1x32x256.size a ≤ S5x50x50x256.size a := fun v4527 v4531 v4546 k0_hw335 => k0_hw335

def k0_off503 (v4527 : BitVec 32) (v4531 : BitVec 32) (v4546 : BitVec 32) (v4549 : BitVec 32) : Fin 4 → Nat :=
  let v4556 : Index := Scalar.indexCast v4546
  let c4_i32_1881 : BitVec 32 := 4#32
  let v4532 : BitVec 32 := Scalar.shrsi v4531 c4_i32_1881
  let v4550 : BitVec 32 := Scalar.addi v4532 v4549
  let v4557 : Index := Scalar.indexCast v4550
  let c4_i32_1879 : BitVec 32 := 4#32
  let v4528 : BitVec 32 := Scalar.shrsi v4527 c4_i32_1879
  let c3_i32_1886 : BitVec 32 := 3#32
  let v4541 : BitVec 32 := Scalar.shrsi v4528 c3_i32_1886
  let c3_i32_1887 : BitVec 32 := 3#32
  let v4542 : BitVec 32 := Scalar.shli v4541 c3_i32_1887
  let c16_i32_1888 : BitVec 32 := 16#32
  let v4543 : BitVec 32 := Scalar.minsi v4542 c16_i32_1888
  let v4544 : BitVec 32 := v4543
  let v4558 : Index := Scalar.indexCast v4544
  let c0_1891 : Index := 0#32
  ![v4556.toNat, v4557.toNat, v4558.toNat, 0]

def k0_chk336 (v4527 : BitVec 32) (v4531 : BitVec 32) (v4546 : BitVec 32) (v4549 : BitVec 32) : Prop :=
  (∀ a, (k0_off503 v4527 v4531 v4546 v4549) a + S1x1x32x256.size a ≤ S5x50x50x256.size a)
theorem k0_off503_inb : ∀ (v4527 : BitVec 32) (v4531 : BitVec 32) (v4546 : BitVec 32) (v4549 : BitVec 32) (k0_hw336 : k0_chk336 v4527 v4531 v4546 v4549), ∀ a, (k0_off503 v4527 v4531 v4546 v4549) a + S1x1x32x256.size a ≤ S5x50x50x256.size a := fun v4527 v4531 v4546 v4549 k0_hw336 => k0_hw336

def k0_off504 : Fin 4 → Nat :=
  let c0_1894 : Index := 0#32
  let c0_i32 : BitVec 32 := 0#32
  let c128_i32_1875 : BitVec 32 := 128#32
  let v4520 : BitVec 32 := Scalar.muli c0_i32 c128_i32_1875
  let c83_i32 : BitVec 32 := 83#32
  let v4521 : BitVec 32 := Scalar.addi v4520 c83_i32
  let v4570 : Index := Scalar.indexCast v4521
  let c0_1895 : Index := 0#32
  let c0_1896 : Index := 0#32
  ![0, v4570.toNat, 0, 0]
def k0_off505 (i : grid0.Coords) (c0_i32_1900 : BitVec 32) : Fin 1 → Nat :=
  let arg0 : BitVec 32 := BitVec.ofNat 32 (i 0).val
  let c128_i32_1898 : BitVec 32 := 128#32
  let v4576 : BitVec 32 := Scalar.muli arg0 c128_i32_1898
  let c0_i32 : BitVec 32 := 0#32
  let c128_i32_1897 : BitVec 32 := 128#32
  let v4574 : BitVec 32 := Scalar.muli c0_i32 c128_i32_1897
  let c84_i32 : BitVec 32 := 84#32
  let v4575 : BitVec 32 := Scalar.addi v4574 c84_i32
  let v4577 : BitVec 32 := Scalar.addi v4576 v4575
  let c4_i32_1899 : BitVec 32 := 4#32
  let v4578 : BitVec 32 := Scalar.muli v4577 c4_i32_1899
  let v4579 : BitVec 32 := Scalar.addi v4578 c0_i32_1900
  let v4580 : Index := Scalar.indexCast v4579
  ![v4580.toNat]
def k0_mult85 (v4581 : BitVec 32) : BitVec 32 :=
  let c4_i32_1901 : BitVec 32 := 4#32
  let v4582 : BitVec 32 := Scalar.shrsi v4581 c4_i32_1901
  let c3_i32_1908 : BitVec 32 := 3#32
  let v4595 : BitVec 32 := Scalar.shrsi v4582 c3_i32_1908
  let c3_i32_1909 : BitVec 32 := 3#32
  let v4596 : BitVec 32 := Scalar.shli v4595 c3_i32_1909
  let c16_i32_1910 : BitVec 32 := 16#32
  let v4597 : BitVec 32 := Scalar.minsi v4596 c16_i32_1910
  v4597

def k0_chk337 (v4581 : BitVec 32) : Prop :=
  (8 ∣ (k0_mult85 v4581).toNat)
theorem k0_mult85_dvd : ∀ (v4581 : BitVec 32) (k0_hw337 : k0_chk337 v4581), 8 ∣ (k0_mult85 v4581).toNat := fun v4581 k0_hw337 => k0_hw337

def k0_off506 (v4593 : BitVec 32) : Fin 1 → Nat :=
  let c4_i32_1907 : BitVec 32 := 4#32
  let v4594 : BitVec 32 := Scalar.shrsi v4593 c4_i32_1907
  let v4599 : Index := Scalar.indexCast v4594
  ![v4599.toNat]

def k0_off507 (v4593 : BitVec 32) : Fin 1 → Nat :=
  let c32_i32_1911 : BitVec 32 := 32#32
  let c4_i32_1907 : BitVec 32 := 4#32
  let v4594 : BitVec 32 := Scalar.shrsi v4593 c4_i32_1907
  let v4601 : BitVec 32 := Scalar.addi c32_i32_1911 v4594
  let v4602 : Index := Scalar.indexCast v4601
  ![v4602.toNat]

def k0_chk338 (v4593 : BitVec 32) : Prop :=
  (∀ a, (k0_off506 v4593) a + S1.size a ≤ S64.size a) ∧
  (∀ a, (k0_off507 v4593) a + S1.size a ≤ S64.size a)
theorem k0_off506_inb : ∀ (v4593 : BitVec 32) (k0_hw338 : k0_chk338 v4593), ∀ a, (k0_off506 v4593) a + S1.size a ≤ S64.size a := fun v4593 k0_hw338 => k0_hw338.1
theorem k0_off507_inb : ∀ (v4593 : BitVec 32) (k0_hw338 : k0_chk338 v4593), ∀ a, (k0_off507 v4593) a + S1.size a ≤ S64.size a := fun v4593 k0_hw338 => k0_hw338.2

def k0_off508 (v4581 : BitVec 32) (v4585 : BitVec 32) (v4600 : BitVec 32) : Fin 4 → Nat :=
  let v4605 : Index := Scalar.indexCast v4600
  let c4_i32_1903 : BitVec 32 := 4#32
  let v4586 : BitVec 32 := Scalar.shrsi v4585 c4_i32_1903
  let v4606 : Index := Scalar.indexCast v4586
  let c4_i32_1901 : BitVec 32 := 4#32
  let v4582 : BitVec 32 := Scalar.shrsi v4581 c4_i32_1901
  let c3_i32_1908 : BitVec 32 := 3#32
  let v4595 : BitVec 32 := Scalar.shrsi v4582 c3_i32_1908
  let c3_i32_1909 : BitVec 32 := 3#32
  let v4596 : BitVec 32 := Scalar.shli v4595 c3_i32_1909
  let c16_i32_1910 : BitVec 32 := 16#32
  let v4597 : BitVec 32 := Scalar.minsi v4596 c16_i32_1910
  let v4598 : BitVec 32 := v4597
  let v4607 : Index := Scalar.indexCast v4598
  let c0_1912 : Index := 0#32
  ![v4605.toNat, v4606.toNat, v4607.toNat, 0]

def k0_chk339 (v4581 : BitVec 32) (v4585 : BitVec 32) (v4600 : BitVec 32) : Prop :=
  (∀ a, (k0_off508 v4581 v4585 v4600) a + S1x1x32x256.size a ≤ S5x50x50x256.size a)
theorem k0_off508_inb : ∀ (v4581 : BitVec 32) (v4585 : BitVec 32) (v4600 : BitVec 32) (k0_hw339 : k0_chk339 v4581 v4585 v4600), ∀ a, (k0_off508 v4581 v4585 v4600) a + S1x1x32x256.size a ≤ S5x50x50x256.size a := fun v4581 v4585 v4600 k0_hw339 => k0_hw339

def k0_off509 (v4581 : BitVec 32) (v4585 : BitVec 32) (v4600 : BitVec 32) (v4603 : BitVec 32) : Fin 4 → Nat :=
  let v4610 : Index := Scalar.indexCast v4600
  let c4_i32_1903 : BitVec 32 := 4#32
  let v4586 : BitVec 32 := Scalar.shrsi v4585 c4_i32_1903
  let v4604 : BitVec 32 := Scalar.addi v4586 v4603
  let v4611 : Index := Scalar.indexCast v4604
  let c4_i32_1901 : BitVec 32 := 4#32
  let v4582 : BitVec 32 := Scalar.shrsi v4581 c4_i32_1901
  let c3_i32_1908 : BitVec 32 := 3#32
  let v4595 : BitVec 32 := Scalar.shrsi v4582 c3_i32_1908
  let c3_i32_1909 : BitVec 32 := 3#32
  let v4596 : BitVec 32 := Scalar.shli v4595 c3_i32_1909
  let c16_i32_1910 : BitVec 32 := 16#32
  let v4597 : BitVec 32 := Scalar.minsi v4596 c16_i32_1910
  let v4598 : BitVec 32 := v4597
  let v4612 : Index := Scalar.indexCast v4598
  let c0_1913 : Index := 0#32
  ![v4610.toNat, v4611.toNat, v4612.toNat, 0]

def k0_chk340 (v4581 : BitVec 32) (v4585 : BitVec 32) (v4600 : BitVec 32) (v4603 : BitVec 32) : Prop :=
  (∀ a, (k0_off509 v4581 v4585 v4600 v4603) a + S1x1x32x256.size a ≤ S5x50x50x256.size a)
theorem k0_off509_inb : ∀ (v4581 : BitVec 32) (v4585 : BitVec 32) (v4600 : BitVec 32) (v4603 : BitVec 32) (k0_hw340 : k0_chk340 v4581 v4585 v4600 v4603), ∀ a, (k0_off509 v4581 v4585 v4600 v4603) a + S1x1x32x256.size a ≤ S5x50x50x256.size a := fun v4581 v4585 v4600 v4603 k0_hw340 => k0_hw340

def k0_off510 : Fin 4 → Nat :=
  let c0_1916 : Index := 0#32
  let c0_i32 : BitVec 32 := 0#32
  let c128_i32_1897 : BitVec 32 := 128#32
  let v4574 : BitVec 32 := Scalar.muli c0_i32 c128_i32_1897
  let c84_i32 : BitVec 32 := 84#32
  let v4575 : BitVec 32 := Scalar.addi v4574 c84_i32
  let v4624 : Index := Scalar.indexCast v4575
  let c0_1917 : Index := 0#32
  let c0_1918 : Index := 0#32
  ![0, v4624.toNat, 0, 0]
def k0_off511 (i : grid0.Coords) (c0_i32_1922 : BitVec 32) : Fin 1 → Nat :=
  let arg0 : BitVec 32 := BitVec.ofNat 32 (i 0).val
  let c128_i32_1920 : BitVec 32 := 128#32
  let v4630 : BitVec 32 := Scalar.muli arg0 c128_i32_1920
  let c0_i32 : BitVec 32 := 0#32
  let c128_i32_1919 : BitVec 32 := 128#32
  let v4628 : BitVec 32 := Scalar.muli c0_i32 c128_i32_1919
  let c85_i32 : BitVec 32 := 85#32
  let v4629 : BitVec 32 := Scalar.addi v4628 c85_i32
  let v4631 : BitVec 32 := Scalar.addi v4630 v4629
  let c4_i32_1921 : BitVec 32 := 4#32
  let v4632 : BitVec 32 := Scalar.muli v4631 c4_i32_1921
  let v4633 : BitVec 32 := Scalar.addi v4632 c0_i32_1922
  let v4634 : Index := Scalar.indexCast v4633
  ![v4634.toNat]
def k0_mult86 (v4635 : BitVec 32) : BitVec 32 :=
  let c4_i32_1923 : BitVec 32 := 4#32
  let v4636 : BitVec 32 := Scalar.shrsi v4635 c4_i32_1923
  let c3_i32_1930 : BitVec 32 := 3#32
  let v4649 : BitVec 32 := Scalar.shrsi v4636 c3_i32_1930
  let c3_i32_1931 : BitVec 32 := 3#32
  let v4650 : BitVec 32 := Scalar.shli v4649 c3_i32_1931
  let c16_i32_1932 : BitVec 32 := 16#32
  let v4651 : BitVec 32 := Scalar.minsi v4650 c16_i32_1932
  v4651

def k0_chk341 (v4635 : BitVec 32) : Prop :=
  (8 ∣ (k0_mult86 v4635).toNat)
theorem k0_mult86_dvd : ∀ (v4635 : BitVec 32) (k0_hw341 : k0_chk341 v4635), 8 ∣ (k0_mult86 v4635).toNat := fun v4635 k0_hw341 => k0_hw341

def k0_off512 (v4647 : BitVec 32) : Fin 1 → Nat :=
  let c4_i32_1929 : BitVec 32 := 4#32
  let v4648 : BitVec 32 := Scalar.shrsi v4647 c4_i32_1929
  let v4653 : Index := Scalar.indexCast v4648
  ![v4653.toNat]

def k0_off513 (v4647 : BitVec 32) : Fin 1 → Nat :=
  let c32_i32_1933 : BitVec 32 := 32#32
  let c4_i32_1929 : BitVec 32 := 4#32
  let v4648 : BitVec 32 := Scalar.shrsi v4647 c4_i32_1929
  let v4655 : BitVec 32 := Scalar.addi c32_i32_1933 v4648
  let v4656 : Index := Scalar.indexCast v4655
  ![v4656.toNat]

def k0_chk342 (v4647 : BitVec 32) : Prop :=
  (∀ a, (k0_off512 v4647) a + S1.size a ≤ S64.size a) ∧
  (∀ a, (k0_off513 v4647) a + S1.size a ≤ S64.size a)
theorem k0_off512_inb : ∀ (v4647 : BitVec 32) (k0_hw342 : k0_chk342 v4647), ∀ a, (k0_off512 v4647) a + S1.size a ≤ S64.size a := fun v4647 k0_hw342 => k0_hw342.1
theorem k0_off513_inb : ∀ (v4647 : BitVec 32) (k0_hw342 : k0_chk342 v4647), ∀ a, (k0_off513 v4647) a + S1.size a ≤ S64.size a := fun v4647 k0_hw342 => k0_hw342.2

def k0_off514 (v4635 : BitVec 32) (v4639 : BitVec 32) (v4654 : BitVec 32) : Fin 4 → Nat :=
  let v4659 : Index := Scalar.indexCast v4654
  let c4_i32_1925 : BitVec 32 := 4#32
  let v4640 : BitVec 32 := Scalar.shrsi v4639 c4_i32_1925
  let v4660 : Index := Scalar.indexCast v4640
  let c4_i32_1923 : BitVec 32 := 4#32
  let v4636 : BitVec 32 := Scalar.shrsi v4635 c4_i32_1923
  let c3_i32_1930 : BitVec 32 := 3#32
  let v4649 : BitVec 32 := Scalar.shrsi v4636 c3_i32_1930
  let c3_i32_1931 : BitVec 32 := 3#32
  let v4650 : BitVec 32 := Scalar.shli v4649 c3_i32_1931
  let c16_i32_1932 : BitVec 32 := 16#32
  let v4651 : BitVec 32 := Scalar.minsi v4650 c16_i32_1932
  let v4652 : BitVec 32 := v4651
  let v4661 : Index := Scalar.indexCast v4652
  let c0_1934 : Index := 0#32
  ![v4659.toNat, v4660.toNat, v4661.toNat, 0]

def k0_chk343 (v4635 : BitVec 32) (v4639 : BitVec 32) (v4654 : BitVec 32) : Prop :=
  (∀ a, (k0_off514 v4635 v4639 v4654) a + S1x1x32x256.size a ≤ S5x50x50x256.size a)
theorem k0_off514_inb : ∀ (v4635 : BitVec 32) (v4639 : BitVec 32) (v4654 : BitVec 32) (k0_hw343 : k0_chk343 v4635 v4639 v4654), ∀ a, (k0_off514 v4635 v4639 v4654) a + S1x1x32x256.size a ≤ S5x50x50x256.size a := fun v4635 v4639 v4654 k0_hw343 => k0_hw343

def k0_off515 (v4635 : BitVec 32) (v4639 : BitVec 32) (v4654 : BitVec 32) (v4657 : BitVec 32) : Fin 4 → Nat :=
  let v4664 : Index := Scalar.indexCast v4654
  let c4_i32_1925 : BitVec 32 := 4#32
  let v4640 : BitVec 32 := Scalar.shrsi v4639 c4_i32_1925
  let v4658 : BitVec 32 := Scalar.addi v4640 v4657
  let v4665 : Index := Scalar.indexCast v4658
  let c4_i32_1923 : BitVec 32 := 4#32
  let v4636 : BitVec 32 := Scalar.shrsi v4635 c4_i32_1923
  let c3_i32_1930 : BitVec 32 := 3#32
  let v4649 : BitVec 32 := Scalar.shrsi v4636 c3_i32_1930
  let c3_i32_1931 : BitVec 32 := 3#32
  let v4650 : BitVec 32 := Scalar.shli v4649 c3_i32_1931
  let c16_i32_1932 : BitVec 32 := 16#32
  let v4651 : BitVec 32 := Scalar.minsi v4650 c16_i32_1932
  let v4652 : BitVec 32 := v4651
  let v4666 : Index := Scalar.indexCast v4652
  let c0_1935 : Index := 0#32
  ![v4664.toNat, v4665.toNat, v4666.toNat, 0]

def k0_chk344 (v4635 : BitVec 32) (v4639 : BitVec 32) (v4654 : BitVec 32) (v4657 : BitVec 32) : Prop :=
  (∀ a, (k0_off515 v4635 v4639 v4654 v4657) a + S1x1x32x256.size a ≤ S5x50x50x256.size a)
theorem k0_off515_inb : ∀ (v4635 : BitVec 32) (v4639 : BitVec 32) (v4654 : BitVec 32) (v4657 : BitVec 32) (k0_hw344 : k0_chk344 v4635 v4639 v4654 v4657), ∀ a, (k0_off515 v4635 v4639 v4654 v4657) a + S1x1x32x256.size a ≤ S5x50x50x256.size a := fun v4635 v4639 v4654 v4657 k0_hw344 => k0_hw344

def k0_off516 : Fin 4 → Nat :=
  let c0_1938 : Index := 0#32
  let c0_i32 : BitVec 32 := 0#32
  let c128_i32_1919 : BitVec 32 := 128#32
  let v4628 : BitVec 32 := Scalar.muli c0_i32 c128_i32_1919
  let c85_i32 : BitVec 32 := 85#32
  let v4629 : BitVec 32 := Scalar.addi v4628 c85_i32
  let v4678 : Index := Scalar.indexCast v4629
  let c0_1939 : Index := 0#32
  let c0_1940 : Index := 0#32
  ![0, v4678.toNat, 0, 0]
def k0_off517 (i : grid0.Coords) (c0_i32_1944 : BitVec 32) : Fin 1 → Nat :=
  let arg0 : BitVec 32 := BitVec.ofNat 32 (i 0).val
  let c128_i32_1942 : BitVec 32 := 128#32
  let v4684 : BitVec 32 := Scalar.muli arg0 c128_i32_1942
  let c0_i32 : BitVec 32 := 0#32
  let c128_i32_1941 : BitVec 32 := 128#32
  let v4682 : BitVec 32 := Scalar.muli c0_i32 c128_i32_1941
  let c86_i32 : BitVec 32 := 86#32
  let v4683 : BitVec 32 := Scalar.addi v4682 c86_i32
  let v4685 : BitVec 32 := Scalar.addi v4684 v4683
  let c4_i32_1943 : BitVec 32 := 4#32
  let v4686 : BitVec 32 := Scalar.muli v4685 c4_i32_1943
  let v4687 : BitVec 32 := Scalar.addi v4686 c0_i32_1944
  let v4688 : Index := Scalar.indexCast v4687
  ![v4688.toNat]
def k0_mult87 (v4689 : BitVec 32) : BitVec 32 :=
  let c4_i32_1945 : BitVec 32 := 4#32
  let v4690 : BitVec 32 := Scalar.shrsi v4689 c4_i32_1945
  let c3_i32_1952 : BitVec 32 := 3#32
  let v4703 : BitVec 32 := Scalar.shrsi v4690 c3_i32_1952
  let c3_i32_1953 : BitVec 32 := 3#32
  let v4704 : BitVec 32 := Scalar.shli v4703 c3_i32_1953
  let c16_i32_1954 : BitVec 32 := 16#32
  let v4705 : BitVec 32 := Scalar.minsi v4704 c16_i32_1954
  v4705

def k0_chk345 (v4689 : BitVec 32) : Prop :=
  (8 ∣ (k0_mult87 v4689).toNat)
theorem k0_mult87_dvd : ∀ (v4689 : BitVec 32) (k0_hw345 : k0_chk345 v4689), 8 ∣ (k0_mult87 v4689).toNat := fun v4689 k0_hw345 => k0_hw345

def k0_off518 (v4701 : BitVec 32) : Fin 1 → Nat :=
  let c4_i32_1951 : BitVec 32 := 4#32
  let v4702 : BitVec 32 := Scalar.shrsi v4701 c4_i32_1951
  let v4707 : Index := Scalar.indexCast v4702
  ![v4707.toNat]

def k0_off519 (v4701 : BitVec 32) : Fin 1 → Nat :=
  let c32_i32_1955 : BitVec 32 := 32#32
  let c4_i32_1951 : BitVec 32 := 4#32
  let v4702 : BitVec 32 := Scalar.shrsi v4701 c4_i32_1951
  let v4709 : BitVec 32 := Scalar.addi c32_i32_1955 v4702
  let v4710 : Index := Scalar.indexCast v4709
  ![v4710.toNat]

def k0_chk346 (v4701 : BitVec 32) : Prop :=
  (∀ a, (k0_off518 v4701) a + S1.size a ≤ S64.size a) ∧
  (∀ a, (k0_off519 v4701) a + S1.size a ≤ S64.size a)
theorem k0_off518_inb : ∀ (v4701 : BitVec 32) (k0_hw346 : k0_chk346 v4701), ∀ a, (k0_off518 v4701) a + S1.size a ≤ S64.size a := fun v4701 k0_hw346 => k0_hw346.1
theorem k0_off519_inb : ∀ (v4701 : BitVec 32) (k0_hw346 : k0_chk346 v4701), ∀ a, (k0_off519 v4701) a + S1.size a ≤ S64.size a := fun v4701 k0_hw346 => k0_hw346.2

def k0_off520 (v4689 : BitVec 32) (v4693 : BitVec 32) (v4708 : BitVec 32) : Fin 4 → Nat :=
  let v4713 : Index := Scalar.indexCast v4708
  let c4_i32_1947 : BitVec 32 := 4#32
  let v4694 : BitVec 32 := Scalar.shrsi v4693 c4_i32_1947
  let v4714 : Index := Scalar.indexCast v4694
  let c4_i32_1945 : BitVec 32 := 4#32
  let v4690 : BitVec 32 := Scalar.shrsi v4689 c4_i32_1945
  let c3_i32_1952 : BitVec 32 := 3#32
  let v4703 : BitVec 32 := Scalar.shrsi v4690 c3_i32_1952
  let c3_i32_1953 : BitVec 32 := 3#32
  let v4704 : BitVec 32 := Scalar.shli v4703 c3_i32_1953
  let c16_i32_1954 : BitVec 32 := 16#32
  let v4705 : BitVec 32 := Scalar.minsi v4704 c16_i32_1954
  let v4706 : BitVec 32 := v4705
  let v4715 : Index := Scalar.indexCast v4706
  let c0_1956 : Index := 0#32
  ![v4713.toNat, v4714.toNat, v4715.toNat, 0]

def k0_chk347 (v4689 : BitVec 32) (v4693 : BitVec 32) (v4708 : BitVec 32) : Prop :=
  (∀ a, (k0_off520 v4689 v4693 v4708) a + S1x1x32x256.size a ≤ S5x50x50x256.size a)
theorem k0_off520_inb : ∀ (v4689 : BitVec 32) (v4693 : BitVec 32) (v4708 : BitVec 32) (k0_hw347 : k0_chk347 v4689 v4693 v4708), ∀ a, (k0_off520 v4689 v4693 v4708) a + S1x1x32x256.size a ≤ S5x50x50x256.size a := fun v4689 v4693 v4708 k0_hw347 => k0_hw347

def k0_off521 (v4689 : BitVec 32) (v4693 : BitVec 32) (v4708 : BitVec 32) (v4711 : BitVec 32) : Fin 4 → Nat :=
  let v4718 : Index := Scalar.indexCast v4708
  let c4_i32_1947 : BitVec 32 := 4#32
  let v4694 : BitVec 32 := Scalar.shrsi v4693 c4_i32_1947
  let v4712 : BitVec 32 := Scalar.addi v4694 v4711
  let v4719 : Index := Scalar.indexCast v4712
  let c4_i32_1945 : BitVec 32 := 4#32
  let v4690 : BitVec 32 := Scalar.shrsi v4689 c4_i32_1945
  let c3_i32_1952 : BitVec 32 := 3#32
  let v4703 : BitVec 32 := Scalar.shrsi v4690 c3_i32_1952
  let c3_i32_1953 : BitVec 32 := 3#32
  let v4704 : BitVec 32 := Scalar.shli v4703 c3_i32_1953
  let c16_i32_1954 : BitVec 32 := 16#32
  let v4705 : BitVec 32 := Scalar.minsi v4704 c16_i32_1954
  let v4706 : BitVec 32 := v4705
  let v4720 : Index := Scalar.indexCast v4706
  let c0_1957 : Index := 0#32
  ![v4718.toNat, v4719.toNat, v4720.toNat, 0]

def k0_chk348 (v4689 : BitVec 32) (v4693 : BitVec 32) (v4708 : BitVec 32) (v4711 : BitVec 32) : Prop :=
  (∀ a, (k0_off521 v4689 v4693 v4708 v4711) a + S1x1x32x256.size a ≤ S5x50x50x256.size a)
theorem k0_off521_inb : ∀ (v4689 : BitVec 32) (v4693 : BitVec 32) (v4708 : BitVec 32) (v4711 : BitVec 32) (k0_hw348 : k0_chk348 v4689 v4693 v4708 v4711), ∀ a, (k0_off521 v4689 v4693 v4708 v4711) a + S1x1x32x256.size a ≤ S5x50x50x256.size a := fun v4689 v4693 v4708 v4711 k0_hw348 => k0_hw348

def k0_off522 : Fin 4 → Nat :=
  let c0_1960 : Index := 0#32
  let c0_i32 : BitVec 32 := 0#32
  let c128_i32_1941 : BitVec 32 := 128#32
  let v4682 : BitVec 32 := Scalar.muli c0_i32 c128_i32_1941
  let c86_i32 : BitVec 32 := 86#32
  let v4683 : BitVec 32 := Scalar.addi v4682 c86_i32
  let v4732 : Index := Scalar.indexCast v4683
  let c0_1961 : Index := 0#32
  let c0_1962 : Index := 0#32
  ![0, v4732.toNat, 0, 0]
def k0_off523 (i : grid0.Coords) (c0_i32_1966 : BitVec 32) : Fin 1 → Nat :=
  let arg0 : BitVec 32 := BitVec.ofNat 32 (i 0).val
  let c128_i32_1964 : BitVec 32 := 128#32
  let v4738 : BitVec 32 := Scalar.muli arg0 c128_i32_1964
  let c0_i32 : BitVec 32 := 0#32
  let c128_i32_1963 : BitVec 32 := 128#32
  let v4736 : BitVec 32 := Scalar.muli c0_i32 c128_i32_1963
  let c87_i32 : BitVec 32 := 87#32
  let v4737 : BitVec 32 := Scalar.addi v4736 c87_i32
  let v4739 : BitVec 32 := Scalar.addi v4738 v4737
  let c4_i32_1965 : BitVec 32 := 4#32
  let v4740 : BitVec 32 := Scalar.muli v4739 c4_i32_1965
  let v4741 : BitVec 32 := Scalar.addi v4740 c0_i32_1966
  let v4742 : Index := Scalar.indexCast v4741
  ![v4742.toNat]
def k0_mult88 (v4743 : BitVec 32) : BitVec 32 :=
  let c4_i32_1967 : BitVec 32 := 4#32
  let v4744 : BitVec 32 := Scalar.shrsi v4743 c4_i32_1967
  let c3_i32_1974 : BitVec 32 := 3#32
  let v4757 : BitVec 32 := Scalar.shrsi v4744 c3_i32_1974
  let c3_i32_1975 : BitVec 32 := 3#32
  let v4758 : BitVec 32 := Scalar.shli v4757 c3_i32_1975
  let c16_i32_1976 : BitVec 32 := 16#32
  let v4759 : BitVec 32 := Scalar.minsi v4758 c16_i32_1976
  v4759

def k0_chk349 (v4743 : BitVec 32) : Prop :=
  (8 ∣ (k0_mult88 v4743).toNat)
theorem k0_mult88_dvd : ∀ (v4743 : BitVec 32) (k0_hw349 : k0_chk349 v4743), 8 ∣ (k0_mult88 v4743).toNat := fun v4743 k0_hw349 => k0_hw349

def k0_off524 (v4755 : BitVec 32) : Fin 1 → Nat :=
  let c4_i32_1973 : BitVec 32 := 4#32
  let v4756 : BitVec 32 := Scalar.shrsi v4755 c4_i32_1973
  let v4761 : Index := Scalar.indexCast v4756
  ![v4761.toNat]

def k0_off525 (v4755 : BitVec 32) : Fin 1 → Nat :=
  let c32_i32_1977 : BitVec 32 := 32#32
  let c4_i32_1973 : BitVec 32 := 4#32
  let v4756 : BitVec 32 := Scalar.shrsi v4755 c4_i32_1973
  let v4763 : BitVec 32 := Scalar.addi c32_i32_1977 v4756
  let v4764 : Index := Scalar.indexCast v4763
  ![v4764.toNat]

def k0_chk350 (v4755 : BitVec 32) : Prop :=
  (∀ a, (k0_off524 v4755) a + S1.size a ≤ S64.size a) ∧
  (∀ a, (k0_off525 v4755) a + S1.size a ≤ S64.size a)
theorem k0_off524_inb : ∀ (v4755 : BitVec 32) (k0_hw350 : k0_chk350 v4755), ∀ a, (k0_off524 v4755) a + S1.size a ≤ S64.size a := fun v4755 k0_hw350 => k0_hw350.1
theorem k0_off525_inb : ∀ (v4755 : BitVec 32) (k0_hw350 : k0_chk350 v4755), ∀ a, (k0_off525 v4755) a + S1.size a ≤ S64.size a := fun v4755 k0_hw350 => k0_hw350.2

def k0_off526 (v4743 : BitVec 32) (v4747 : BitVec 32) (v4762 : BitVec 32) : Fin 4 → Nat :=
  let v4767 : Index := Scalar.indexCast v4762
  let c4_i32_1969 : BitVec 32 := 4#32
  let v4748 : BitVec 32 := Scalar.shrsi v4747 c4_i32_1969
  let v4768 : Index := Scalar.indexCast v4748
  let c4_i32_1967 : BitVec 32 := 4#32
  let v4744 : BitVec 32 := Scalar.shrsi v4743 c4_i32_1967
  let c3_i32_1974 : BitVec 32 := 3#32
  let v4757 : BitVec 32 := Scalar.shrsi v4744 c3_i32_1974
  let c3_i32_1975 : BitVec 32 := 3#32
  let v4758 : BitVec 32 := Scalar.shli v4757 c3_i32_1975
  let c16_i32_1976 : BitVec 32 := 16#32
  let v4759 : BitVec 32 := Scalar.minsi v4758 c16_i32_1976
  let v4760 : BitVec 32 := v4759
  let v4769 : Index := Scalar.indexCast v4760
  let c0_1978 : Index := 0#32
  ![v4767.toNat, v4768.toNat, v4769.toNat, 0]

def k0_chk351 (v4743 : BitVec 32) (v4747 : BitVec 32) (v4762 : BitVec 32) : Prop :=
  (∀ a, (k0_off526 v4743 v4747 v4762) a + S1x1x32x256.size a ≤ S5x50x50x256.size a)
theorem k0_off526_inb : ∀ (v4743 : BitVec 32) (v4747 : BitVec 32) (v4762 : BitVec 32) (k0_hw351 : k0_chk351 v4743 v4747 v4762), ∀ a, (k0_off526 v4743 v4747 v4762) a + S1x1x32x256.size a ≤ S5x50x50x256.size a := fun v4743 v4747 v4762 k0_hw351 => k0_hw351

def k0_off527 (v4743 : BitVec 32) (v4747 : BitVec 32) (v4762 : BitVec 32) (v4765 : BitVec 32) : Fin 4 → Nat :=
  let v4772 : Index := Scalar.indexCast v4762
  let c4_i32_1969 : BitVec 32 := 4#32
  let v4748 : BitVec 32 := Scalar.shrsi v4747 c4_i32_1969
  let v4766 : BitVec 32 := Scalar.addi v4748 v4765
  let v4773 : Index := Scalar.indexCast v4766
  let c4_i32_1967 : BitVec 32 := 4#32
  let v4744 : BitVec 32 := Scalar.shrsi v4743 c4_i32_1967
  let c3_i32_1974 : BitVec 32 := 3#32
  let v4757 : BitVec 32 := Scalar.shrsi v4744 c3_i32_1974
  let c3_i32_1975 : BitVec 32 := 3#32
  let v4758 : BitVec 32 := Scalar.shli v4757 c3_i32_1975
  let c16_i32_1976 : BitVec 32 := 16#32
  let v4759 : BitVec 32 := Scalar.minsi v4758 c16_i32_1976
  let v4760 : BitVec 32 := v4759
  let v4774 : Index := Scalar.indexCast v4760
  let c0_1979 : Index := 0#32
  ![v4772.toNat, v4773.toNat, v4774.toNat, 0]

def k0_chk352 (v4743 : BitVec 32) (v4747 : BitVec 32) (v4762 : BitVec 32) (v4765 : BitVec 32) : Prop :=
  (∀ a, (k0_off527 v4743 v4747 v4762 v4765) a + S1x1x32x256.size a ≤ S5x50x50x256.size a)
theorem k0_off527_inb : ∀ (v4743 : BitVec 32) (v4747 : BitVec 32) (v4762 : BitVec 32) (v4765 : BitVec 32) (k0_hw352 : k0_chk352 v4743 v4747 v4762 v4765), ∀ a, (k0_off527 v4743 v4747 v4762 v4765) a + S1x1x32x256.size a ≤ S5x50x50x256.size a := fun v4743 v4747 v4762 v4765 k0_hw352 => k0_hw352

def k0_off528 : Fin 4 → Nat :=
  let c0_1982 : Index := 0#32
  let c0_i32 : BitVec 32 := 0#32
  let c128_i32_1963 : BitVec 32 := 128#32
  let v4736 : BitVec 32 := Scalar.muli c0_i32 c128_i32_1963
  let c87_i32 : BitVec 32 := 87#32
  let v4737 : BitVec 32 := Scalar.addi v4736 c87_i32
  let v4786 : Index := Scalar.indexCast v4737
  let c0_1983 : Index := 0#32
  let c0_1984 : Index := 0#32
  ![0, v4786.toNat, 0, 0]
def k0_off529 (i : grid0.Coords) (c0_i32_1988 : BitVec 32) : Fin 1 → Nat :=
  let arg0 : BitVec 32 := BitVec.ofNat 32 (i 0).val
  let c128_i32_1986 : BitVec 32 := 128#32
  let v4792 : BitVec 32 := Scalar.muli arg0 c128_i32_1986
  let c0_i32 : BitVec 32 := 0#32
  let c128_i32_1985 : BitVec 32 := 128#32
  let v4790 : BitVec 32 := Scalar.muli c0_i32 c128_i32_1985
  let c88_i32 : BitVec 32 := 88#32
  let v4791 : BitVec 32 := Scalar.addi v4790 c88_i32
  let v4793 : BitVec 32 := Scalar.addi v4792 v4791
  let c4_i32_1987 : BitVec 32 := 4#32
  let v4794 : BitVec 32 := Scalar.muli v4793 c4_i32_1987
  let v4795 : BitVec 32 := Scalar.addi v4794 c0_i32_1988
  let v4796 : Index := Scalar.indexCast v4795
  ![v4796.toNat]
def k0_mult89 (v4797 : BitVec 32) : BitVec 32 :=
  let c4_i32_1989 : BitVec 32 := 4#32
  let v4798 : BitVec 32 := Scalar.shrsi v4797 c4_i32_1989
  let c3_i32_1996 : BitVec 32 := 3#32
  let v4811 : BitVec 32 := Scalar.shrsi v4798 c3_i32_1996
  let c3_i32_1997 : BitVec 32 := 3#32
  let v4812 : BitVec 32 := Scalar.shli v4811 c3_i32_1997
  let c16_i32_1998 : BitVec 32 := 16#32
  let v4813 : BitVec 32 := Scalar.minsi v4812 c16_i32_1998
  v4813

def k0_chk353 (v4797 : BitVec 32) : Prop :=
  (8 ∣ (k0_mult89 v4797).toNat)
theorem k0_mult89_dvd : ∀ (v4797 : BitVec 32) (k0_hw353 : k0_chk353 v4797), 8 ∣ (k0_mult89 v4797).toNat := fun v4797 k0_hw353 => k0_hw353

def k0_off530 (v4809 : BitVec 32) : Fin 1 → Nat :=
  let c4_i32_1995 : BitVec 32 := 4#32
  let v4810 : BitVec 32 := Scalar.shrsi v4809 c4_i32_1995
  let v4815 : Index := Scalar.indexCast v4810
  ![v4815.toNat]

def k0_off531 (v4809 : BitVec 32) : Fin 1 → Nat :=
  let c32_i32_1999 : BitVec 32 := 32#32
  let c4_i32_1995 : BitVec 32 := 4#32
  let v4810 : BitVec 32 := Scalar.shrsi v4809 c4_i32_1995
  let v4817 : BitVec 32 := Scalar.addi c32_i32_1999 v4810
  let v4818 : Index := Scalar.indexCast v4817
  ![v4818.toNat]

def k0_chk354 (v4809 : BitVec 32) : Prop :=
  (∀ a, (k0_off530 v4809) a + S1.size a ≤ S64.size a) ∧
  (∀ a, (k0_off531 v4809) a + S1.size a ≤ S64.size a)
theorem k0_off530_inb : ∀ (v4809 : BitVec 32) (k0_hw354 : k0_chk354 v4809), ∀ a, (k0_off530 v4809) a + S1.size a ≤ S64.size a := fun v4809 k0_hw354 => k0_hw354.1
theorem k0_off531_inb : ∀ (v4809 : BitVec 32) (k0_hw354 : k0_chk354 v4809), ∀ a, (k0_off531 v4809) a + S1.size a ≤ S64.size a := fun v4809 k0_hw354 => k0_hw354.2

def k0_off532 (v4797 : BitVec 32) (v4801 : BitVec 32) (v4816 : BitVec 32) : Fin 4 → Nat :=
  let v4821 : Index := Scalar.indexCast v4816
  let c4_i32_1991 : BitVec 32 := 4#32
  let v4802 : BitVec 32 := Scalar.shrsi v4801 c4_i32_1991
  let v4822 : Index := Scalar.indexCast v4802
  let c4_i32_1989 : BitVec 32 := 4#32
  let v4798 : BitVec 32 := Scalar.shrsi v4797 c4_i32_1989
  let c3_i32_1996 : BitVec 32 := 3#32
  let v4811 : BitVec 32 := Scalar.shrsi v4798 c3_i32_1996
  let c3_i32_1997 : BitVec 32 := 3#32
  let v4812 : BitVec 32 := Scalar.shli v4811 c3_i32_1997
  let c16_i32_1998 : BitVec 32 := 16#32
  let v4813 : BitVec 32 := Scalar.minsi v4812 c16_i32_1998
  let v4814 : BitVec 32 := v4813
  let v4823 : Index := Scalar.indexCast v4814
  let c0_2000 : Index := 0#32
  ![v4821.toNat, v4822.toNat, v4823.toNat, 0]

def k0_chk355 (v4797 : BitVec 32) (v4801 : BitVec 32) (v4816 : BitVec 32) : Prop :=
  (∀ a, (k0_off532 v4797 v4801 v4816) a + S1x1x32x256.size a ≤ S5x50x50x256.size a)
theorem k0_off532_inb : ∀ (v4797 : BitVec 32) (v4801 : BitVec 32) (v4816 : BitVec 32) (k0_hw355 : k0_chk355 v4797 v4801 v4816), ∀ a, (k0_off532 v4797 v4801 v4816) a + S1x1x32x256.size a ≤ S5x50x50x256.size a := fun v4797 v4801 v4816 k0_hw355 => k0_hw355

def k0_off533 (v4797 : BitVec 32) (v4801 : BitVec 32) (v4816 : BitVec 32) (v4819 : BitVec 32) : Fin 4 → Nat :=
  let v4826 : Index := Scalar.indexCast v4816
  let c4_i32_1991 : BitVec 32 := 4#32
  let v4802 : BitVec 32 := Scalar.shrsi v4801 c4_i32_1991
  let v4820 : BitVec 32 := Scalar.addi v4802 v4819
  let v4827 : Index := Scalar.indexCast v4820
  let c4_i32_1989 : BitVec 32 := 4#32
  let v4798 : BitVec 32 := Scalar.shrsi v4797 c4_i32_1989
  let c3_i32_1996 : BitVec 32 := 3#32
  let v4811 : BitVec 32 := Scalar.shrsi v4798 c3_i32_1996
  let c3_i32_1997 : BitVec 32 := 3#32
  let v4812 : BitVec 32 := Scalar.shli v4811 c3_i32_1997
  let c16_i32_1998 : BitVec 32 := 16#32
  let v4813 : BitVec 32 := Scalar.minsi v4812 c16_i32_1998
  let v4814 : BitVec 32 := v4813
  let v4828 : Index := Scalar.indexCast v4814
  let c0_2001 : Index := 0#32
  ![v4826.toNat, v4827.toNat, v4828.toNat, 0]

def k0_chk356 (v4797 : BitVec 32) (v4801 : BitVec 32) (v4816 : BitVec 32) (v4819 : BitVec 32) : Prop :=
  (∀ a, (k0_off533 v4797 v4801 v4816 v4819) a + S1x1x32x256.size a ≤ S5x50x50x256.size a)
theorem k0_off533_inb : ∀ (v4797 : BitVec 32) (v4801 : BitVec 32) (v4816 : BitVec 32) (v4819 : BitVec 32) (k0_hw356 : k0_chk356 v4797 v4801 v4816 v4819), ∀ a, (k0_off533 v4797 v4801 v4816 v4819) a + S1x1x32x256.size a ≤ S5x50x50x256.size a := fun v4797 v4801 v4816 v4819 k0_hw356 => k0_hw356

def k0_off534 : Fin 4 → Nat :=
  let c0_2004 : Index := 0#32
  let c0_i32 : BitVec 32 := 0#32
  let c128_i32_1985 : BitVec 32 := 128#32
  let v4790 : BitVec 32 := Scalar.muli c0_i32 c128_i32_1985
  let c88_i32 : BitVec 32 := 88#32
  let v4791 : BitVec 32 := Scalar.addi v4790 c88_i32
  let v4840 : Index := Scalar.indexCast v4791
  let c0_2005 : Index := 0#32
  let c0_2006 : Index := 0#32
  ![0, v4840.toNat, 0, 0]
def k0_off535 (i : grid0.Coords) (c0_i32_2010 : BitVec 32) : Fin 1 → Nat :=
  let arg0 : BitVec 32 := BitVec.ofNat 32 (i 0).val
  let c128_i32_2008 : BitVec 32 := 128#32
  let v4846 : BitVec 32 := Scalar.muli arg0 c128_i32_2008
  let c0_i32 : BitVec 32 := 0#32
  let c128_i32_2007 : BitVec 32 := 128#32
  let v4844 : BitVec 32 := Scalar.muli c0_i32 c128_i32_2007
  let c89_i32 : BitVec 32 := 89#32
  let v4845 : BitVec 32 := Scalar.addi v4844 c89_i32
  let v4847 : BitVec 32 := Scalar.addi v4846 v4845
  let c4_i32_2009 : BitVec 32 := 4#32
  let v4848 : BitVec 32 := Scalar.muli v4847 c4_i32_2009
  let v4849 : BitVec 32 := Scalar.addi v4848 c0_i32_2010
  let v4850 : Index := Scalar.indexCast v4849
  ![v4850.toNat]
def k0_mult90 (v4851 : BitVec 32) : BitVec 32 :=
  let c4_i32_2011 : BitVec 32 := 4#32
  let v4852 : BitVec 32 := Scalar.shrsi v4851 c4_i32_2011
  let c3_i32_2018 : BitVec 32 := 3#32
  let v4865 : BitVec 32 := Scalar.shrsi v4852 c3_i32_2018
  let c3_i32_2019 : BitVec 32 := 3#32
  let v4866 : BitVec 32 := Scalar.shli v4865 c3_i32_2019
  let c16_i32_2020 : BitVec 32 := 16#32
  let v4867 : BitVec 32 := Scalar.minsi v4866 c16_i32_2020
  v4867

def k0_chk357 (v4851 : BitVec 32) : Prop :=
  (8 ∣ (k0_mult90 v4851).toNat)
theorem k0_mult90_dvd : ∀ (v4851 : BitVec 32) (k0_hw357 : k0_chk357 v4851), 8 ∣ (k0_mult90 v4851).toNat := fun v4851 k0_hw357 => k0_hw357

def k0_off536 (v4863 : BitVec 32) : Fin 1 → Nat :=
  let c4_i32_2017 : BitVec 32 := 4#32
  let v4864 : BitVec 32 := Scalar.shrsi v4863 c4_i32_2017
  let v4869 : Index := Scalar.indexCast v4864
  ![v4869.toNat]

def k0_off537 (v4863 : BitVec 32) : Fin 1 → Nat :=
  let c32_i32_2021 : BitVec 32 := 32#32
  let c4_i32_2017 : BitVec 32 := 4#32
  let v4864 : BitVec 32 := Scalar.shrsi v4863 c4_i32_2017
  let v4871 : BitVec 32 := Scalar.addi c32_i32_2021 v4864
  let v4872 : Index := Scalar.indexCast v4871
  ![v4872.toNat]

def k0_chk358 (v4863 : BitVec 32) : Prop :=
  (∀ a, (k0_off536 v4863) a + S1.size a ≤ S64.size a) ∧
  (∀ a, (k0_off537 v4863) a + S1.size a ≤ S64.size a)
theorem k0_off536_inb : ∀ (v4863 : BitVec 32) (k0_hw358 : k0_chk358 v4863), ∀ a, (k0_off536 v4863) a + S1.size a ≤ S64.size a := fun v4863 k0_hw358 => k0_hw358.1
theorem k0_off537_inb : ∀ (v4863 : BitVec 32) (k0_hw358 : k0_chk358 v4863), ∀ a, (k0_off537 v4863) a + S1.size a ≤ S64.size a := fun v4863 k0_hw358 => k0_hw358.2

def k0_off538 (v4851 : BitVec 32) (v4855 : BitVec 32) (v4870 : BitVec 32) : Fin 4 → Nat :=
  let v4875 : Index := Scalar.indexCast v4870
  let c4_i32_2013 : BitVec 32 := 4#32
  let v4856 : BitVec 32 := Scalar.shrsi v4855 c4_i32_2013
  let v4876 : Index := Scalar.indexCast v4856
  let c4_i32_2011 : BitVec 32 := 4#32
  let v4852 : BitVec 32 := Scalar.shrsi v4851 c4_i32_2011
  let c3_i32_2018 : BitVec 32 := 3#32
  let v4865 : BitVec 32 := Scalar.shrsi v4852 c3_i32_2018
  let c3_i32_2019 : BitVec 32 := 3#32
  let v4866 : BitVec 32 := Scalar.shli v4865 c3_i32_2019
  let c16_i32_2020 : BitVec 32 := 16#32
  let v4867 : BitVec 32 := Scalar.minsi v4866 c16_i32_2020
  let v4868 : BitVec 32 := v4867
  let v4877 : Index := Scalar.indexCast v4868
  let c0_2022 : Index := 0#32
  ![v4875.toNat, v4876.toNat, v4877.toNat, 0]

def k0_chk359 (v4851 : BitVec 32) (v4855 : BitVec 32) (v4870 : BitVec 32) : Prop :=
  (∀ a, (k0_off538 v4851 v4855 v4870) a + S1x1x32x256.size a ≤ S5x50x50x256.size a)
theorem k0_off538_inb : ∀ (v4851 : BitVec 32) (v4855 : BitVec 32) (v4870 : BitVec 32) (k0_hw359 : k0_chk359 v4851 v4855 v4870), ∀ a, (k0_off538 v4851 v4855 v4870) a + S1x1x32x256.size a ≤ S5x50x50x256.size a := fun v4851 v4855 v4870 k0_hw359 => k0_hw359

def k0_off539 (v4851 : BitVec 32) (v4855 : BitVec 32) (v4870 : BitVec 32) (v4873 : BitVec 32) : Fin 4 → Nat :=
  let v4880 : Index := Scalar.indexCast v4870
  let c4_i32_2013 : BitVec 32 := 4#32
  let v4856 : BitVec 32 := Scalar.shrsi v4855 c4_i32_2013
  let v4874 : BitVec 32 := Scalar.addi v4856 v4873
  let v4881 : Index := Scalar.indexCast v4874
  let c4_i32_2011 : BitVec 32 := 4#32
  let v4852 : BitVec 32 := Scalar.shrsi v4851 c4_i32_2011
  let c3_i32_2018 : BitVec 32 := 3#32
  let v4865 : BitVec 32 := Scalar.shrsi v4852 c3_i32_2018
  let c3_i32_2019 : BitVec 32 := 3#32
  let v4866 : BitVec 32 := Scalar.shli v4865 c3_i32_2019
  let c16_i32_2020 : BitVec 32 := 16#32
  let v4867 : BitVec 32 := Scalar.minsi v4866 c16_i32_2020
  let v4868 : BitVec 32 := v4867
  let v4882 : Index := Scalar.indexCast v4868
  let c0_2023 : Index := 0#32
  ![v4880.toNat, v4881.toNat, v4882.toNat, 0]

def k0_chk360 (v4851 : BitVec 32) (v4855 : BitVec 32) (v4870 : BitVec 32) (v4873 : BitVec 32) : Prop :=
  (∀ a, (k0_off539 v4851 v4855 v4870 v4873) a + S1x1x32x256.size a ≤ S5x50x50x256.size a)
theorem k0_off539_inb : ∀ (v4851 : BitVec 32) (v4855 : BitVec 32) (v4870 : BitVec 32) (v4873 : BitVec 32) (k0_hw360 : k0_chk360 v4851 v4855 v4870 v4873), ∀ a, (k0_off539 v4851 v4855 v4870 v4873) a + S1x1x32x256.size a ≤ S5x50x50x256.size a := fun v4851 v4855 v4870 v4873 k0_hw360 => k0_hw360

def k0_off540 : Fin 4 → Nat :=
  let c0_2026 : Index := 0#32
  let c0_i32 : BitVec 32 := 0#32
  let c128_i32_2007 : BitVec 32 := 128#32
  let v4844 : BitVec 32 := Scalar.muli c0_i32 c128_i32_2007
  let c89_i32 : BitVec 32 := 89#32
  let v4845 : BitVec 32 := Scalar.addi v4844 c89_i32
  let v4894 : Index := Scalar.indexCast v4845
  let c0_2027 : Index := 0#32
  let c0_2028 : Index := 0#32
  ![0, v4894.toNat, 0, 0]
def k0_off541 (i : grid0.Coords) (c0_i32_2032 : BitVec 32) : Fin 1 → Nat :=
  let arg0 : BitVec 32 := BitVec.ofNat 32 (i 0).val
  let c128_i32_2030 : BitVec 32 := 128#32
  let v4900 : BitVec 32 := Scalar.muli arg0 c128_i32_2030
  let c0_i32 : BitVec 32 := 0#32
  let c128_i32_2029 : BitVec 32 := 128#32
  let v4898 : BitVec 32 := Scalar.muli c0_i32 c128_i32_2029
  let c90_i32 : BitVec 32 := 90#32
  let v4899 : BitVec 32 := Scalar.addi v4898 c90_i32
  let v4901 : BitVec 32 := Scalar.addi v4900 v4899
  let c4_i32_2031 : BitVec 32 := 4#32
  let v4902 : BitVec 32 := Scalar.muli v4901 c4_i32_2031
  let v4903 : BitVec 32 := Scalar.addi v4902 c0_i32_2032
  let v4904 : Index := Scalar.indexCast v4903
  ![v4904.toNat]
def k0_mult91 (v4905 : BitVec 32) : BitVec 32 :=
  let c4_i32_2033 : BitVec 32 := 4#32
  let v4906 : BitVec 32 := Scalar.shrsi v4905 c4_i32_2033
  let c3_i32_2040 : BitVec 32 := 3#32
  let v4919 : BitVec 32 := Scalar.shrsi v4906 c3_i32_2040
  let c3_i32_2041 : BitVec 32 := 3#32
  let v4920 : BitVec 32 := Scalar.shli v4919 c3_i32_2041
  let c16_i32_2042 : BitVec 32 := 16#32
  let v4921 : BitVec 32 := Scalar.minsi v4920 c16_i32_2042
  v4921

def k0_chk361 (v4905 : BitVec 32) : Prop :=
  (8 ∣ (k0_mult91 v4905).toNat)
theorem k0_mult91_dvd : ∀ (v4905 : BitVec 32) (k0_hw361 : k0_chk361 v4905), 8 ∣ (k0_mult91 v4905).toNat := fun v4905 k0_hw361 => k0_hw361

def k0_off542 (v4917 : BitVec 32) : Fin 1 → Nat :=
  let c4_i32_2039 : BitVec 32 := 4#32
  let v4918 : BitVec 32 := Scalar.shrsi v4917 c4_i32_2039
  let v4923 : Index := Scalar.indexCast v4918
  ![v4923.toNat]

def k0_off543 (v4917 : BitVec 32) : Fin 1 → Nat :=
  let c32_i32_2043 : BitVec 32 := 32#32
  let c4_i32_2039 : BitVec 32 := 4#32
  let v4918 : BitVec 32 := Scalar.shrsi v4917 c4_i32_2039
  let v4925 : BitVec 32 := Scalar.addi c32_i32_2043 v4918
  let v4926 : Index := Scalar.indexCast v4925
  ![v4926.toNat]

def k0_chk362 (v4917 : BitVec 32) : Prop :=
  (∀ a, (k0_off542 v4917) a + S1.size a ≤ S64.size a) ∧
  (∀ a, (k0_off543 v4917) a + S1.size a ≤ S64.size a)
theorem k0_off542_inb : ∀ (v4917 : BitVec 32) (k0_hw362 : k0_chk362 v4917), ∀ a, (k0_off542 v4917) a + S1.size a ≤ S64.size a := fun v4917 k0_hw362 => k0_hw362.1
theorem k0_off543_inb : ∀ (v4917 : BitVec 32) (k0_hw362 : k0_chk362 v4917), ∀ a, (k0_off543 v4917) a + S1.size a ≤ S64.size a := fun v4917 k0_hw362 => k0_hw362.2

def k0_off544 (v4905 : BitVec 32) (v4909 : BitVec 32) (v4924 : BitVec 32) : Fin 4 → Nat :=
  let v4929 : Index := Scalar.indexCast v4924
  let c4_i32_2035 : BitVec 32 := 4#32
  let v4910 : BitVec 32 := Scalar.shrsi v4909 c4_i32_2035
  let v4930 : Index := Scalar.indexCast v4910
  let c4_i32_2033 : BitVec 32 := 4#32
  let v4906 : BitVec 32 := Scalar.shrsi v4905 c4_i32_2033
  let c3_i32_2040 : BitVec 32 := 3#32
  let v4919 : BitVec 32 := Scalar.shrsi v4906 c3_i32_2040
  let c3_i32_2041 : BitVec 32 := 3#32
  let v4920 : BitVec 32 := Scalar.shli v4919 c3_i32_2041
  let c16_i32_2042 : BitVec 32 := 16#32
  let v4921 : BitVec 32 := Scalar.minsi v4920 c16_i32_2042
  let v4922 : BitVec 32 := v4921
  let v4931 : Index := Scalar.indexCast v4922
  let c0_2044 : Index := 0#32
  ![v4929.toNat, v4930.toNat, v4931.toNat, 0]

def k0_chk363 (v4905 : BitVec 32) (v4909 : BitVec 32) (v4924 : BitVec 32) : Prop :=
  (∀ a, (k0_off544 v4905 v4909 v4924) a + S1x1x32x256.size a ≤ S5x50x50x256.size a)
theorem k0_off544_inb : ∀ (v4905 : BitVec 32) (v4909 : BitVec 32) (v4924 : BitVec 32) (k0_hw363 : k0_chk363 v4905 v4909 v4924), ∀ a, (k0_off544 v4905 v4909 v4924) a + S1x1x32x256.size a ≤ S5x50x50x256.size a := fun v4905 v4909 v4924 k0_hw363 => k0_hw363

def k0_off545 (v4905 : BitVec 32) (v4909 : BitVec 32) (v4924 : BitVec 32) (v4927 : BitVec 32) : Fin 4 → Nat :=
  let v4934 : Index := Scalar.indexCast v4924
  let c4_i32_2035 : BitVec 32 := 4#32
  let v4910 : BitVec 32 := Scalar.shrsi v4909 c4_i32_2035
  let v4928 : BitVec 32 := Scalar.addi v4910 v4927
  let v4935 : Index := Scalar.indexCast v4928
  let c4_i32_2033 : BitVec 32 := 4#32
  let v4906 : BitVec 32 := Scalar.shrsi v4905 c4_i32_2033
  let c3_i32_2040 : BitVec 32 := 3#32
  let v4919 : BitVec 32 := Scalar.shrsi v4906 c3_i32_2040
  let c3_i32_2041 : BitVec 32 := 3#32
  let v4920 : BitVec 32 := Scalar.shli v4919 c3_i32_2041
  let c16_i32_2042 : BitVec 32 := 16#32
  let v4921 : BitVec 32 := Scalar.minsi v4920 c16_i32_2042
  let v4922 : BitVec 32 := v4921
  let v4936 : Index := Scalar.indexCast v4922
  let c0_2045 : Index := 0#32
  ![v4934.toNat, v4935.toNat, v4936.toNat, 0]

def k0_chk364 (v4905 : BitVec 32) (v4909 : BitVec 32) (v4924 : BitVec 32) (v4927 : BitVec 32) : Prop :=
  (∀ a, (k0_off545 v4905 v4909 v4924 v4927) a + S1x1x32x256.size a ≤ S5x50x50x256.size a)
theorem k0_off545_inb : ∀ (v4905 : BitVec 32) (v4909 : BitVec 32) (v4924 : BitVec 32) (v4927 : BitVec 32) (k0_hw364 : k0_chk364 v4905 v4909 v4924 v4927), ∀ a, (k0_off545 v4905 v4909 v4924 v4927) a + S1x1x32x256.size a ≤ S5x50x50x256.size a := fun v4905 v4909 v4924 v4927 k0_hw364 => k0_hw364

def k0_off546 : Fin 4 → Nat :=
  let c0_2048 : Index := 0#32
  let c0_i32 : BitVec 32 := 0#32
  let c128_i32_2029 : BitVec 32 := 128#32
  let v4898 : BitVec 32 := Scalar.muli c0_i32 c128_i32_2029
  let c90_i32 : BitVec 32 := 90#32
  let v4899 : BitVec 32 := Scalar.addi v4898 c90_i32
  let v4948 : Index := Scalar.indexCast v4899
  let c0_2049 : Index := 0#32
  let c0_2050 : Index := 0#32
  ![0, v4948.toNat, 0, 0]
def k0_off547 (i : grid0.Coords) (c0_i32_2054 : BitVec 32) : Fin 1 → Nat :=
  let arg0 : BitVec 32 := BitVec.ofNat 32 (i 0).val
  let c128_i32_2052 : BitVec 32 := 128#32
  let v4954 : BitVec 32 := Scalar.muli arg0 c128_i32_2052
  let c0_i32 : BitVec 32 := 0#32
  let c128_i32_2051 : BitVec 32 := 128#32
  let v4952 : BitVec 32 := Scalar.muli c0_i32 c128_i32_2051
  let c91_i32 : BitVec 32 := 91#32
  let v4953 : BitVec 32 := Scalar.addi v4952 c91_i32
  let v4955 : BitVec 32 := Scalar.addi v4954 v4953
  let c4_i32_2053 : BitVec 32 := 4#32
  let v4956 : BitVec 32 := Scalar.muli v4955 c4_i32_2053
  let v4957 : BitVec 32 := Scalar.addi v4956 c0_i32_2054
  let v4958 : Index := Scalar.indexCast v4957
  ![v4958.toNat]
def k0_mult92 (v4959 : BitVec 32) : BitVec 32 :=
  let c4_i32_2055 : BitVec 32 := 4#32
  let v4960 : BitVec 32 := Scalar.shrsi v4959 c4_i32_2055
  let c3_i32_2062 : BitVec 32 := 3#32
  let v4973 : BitVec 32 := Scalar.shrsi v4960 c3_i32_2062
  let c3_i32_2063 : BitVec 32 := 3#32
  let v4974 : BitVec 32 := Scalar.shli v4973 c3_i32_2063
  let c16_i32_2064 : BitVec 32 := 16#32
  let v4975 : BitVec 32 := Scalar.minsi v4974 c16_i32_2064
  v4975

def k0_chk365 (v4959 : BitVec 32) : Prop :=
  (8 ∣ (k0_mult92 v4959).toNat)
theorem k0_mult92_dvd : ∀ (v4959 : BitVec 32) (k0_hw365 : k0_chk365 v4959), 8 ∣ (k0_mult92 v4959).toNat := fun v4959 k0_hw365 => k0_hw365

def k0_off548 (v4971 : BitVec 32) : Fin 1 → Nat :=
  let c4_i32_2061 : BitVec 32 := 4#32
  let v4972 : BitVec 32 := Scalar.shrsi v4971 c4_i32_2061
  let v4977 : Index := Scalar.indexCast v4972
  ![v4977.toNat]

def k0_off549 (v4971 : BitVec 32) : Fin 1 → Nat :=
  let c32_i32_2065 : BitVec 32 := 32#32
  let c4_i32_2061 : BitVec 32 := 4#32
  let v4972 : BitVec 32 := Scalar.shrsi v4971 c4_i32_2061
  let v4979 : BitVec 32 := Scalar.addi c32_i32_2065 v4972
  let v4980 : Index := Scalar.indexCast v4979
  ![v4980.toNat]

def k0_chk366 (v4971 : BitVec 32) : Prop :=
  (∀ a, (k0_off548 v4971) a + S1.size a ≤ S64.size a) ∧
  (∀ a, (k0_off549 v4971) a + S1.size a ≤ S64.size a)
theorem k0_off548_inb : ∀ (v4971 : BitVec 32) (k0_hw366 : k0_chk366 v4971), ∀ a, (k0_off548 v4971) a + S1.size a ≤ S64.size a := fun v4971 k0_hw366 => k0_hw366.1
theorem k0_off549_inb : ∀ (v4971 : BitVec 32) (k0_hw366 : k0_chk366 v4971), ∀ a, (k0_off549 v4971) a + S1.size a ≤ S64.size a := fun v4971 k0_hw366 => k0_hw366.2

def k0_off550 (v4959 : BitVec 32) (v4963 : BitVec 32) (v4978 : BitVec 32) : Fin 4 → Nat :=
  let v4983 : Index := Scalar.indexCast v4978
  let c4_i32_2057 : BitVec 32 := 4#32
  let v4964 : BitVec 32 := Scalar.shrsi v4963 c4_i32_2057
  let v4984 : Index := Scalar.indexCast v4964
  let c4_i32_2055 : BitVec 32 := 4#32
  let v4960 : BitVec 32 := Scalar.shrsi v4959 c4_i32_2055
  let c3_i32_2062 : BitVec 32 := 3#32
  let v4973 : BitVec 32 := Scalar.shrsi v4960 c3_i32_2062
  let c3_i32_2063 : BitVec 32 := 3#32
  let v4974 : BitVec 32 := Scalar.shli v4973 c3_i32_2063
  let c16_i32_2064 : BitVec 32 := 16#32
  let v4975 : BitVec 32 := Scalar.minsi v4974 c16_i32_2064
  let v4976 : BitVec 32 := v4975
  let v4985 : Index := Scalar.indexCast v4976
  let c0_2066 : Index := 0#32
  ![v4983.toNat, v4984.toNat, v4985.toNat, 0]

def k0_chk367 (v4959 : BitVec 32) (v4963 : BitVec 32) (v4978 : BitVec 32) : Prop :=
  (∀ a, (k0_off550 v4959 v4963 v4978) a + S1x1x32x256.size a ≤ S5x50x50x256.size a)
theorem k0_off550_inb : ∀ (v4959 : BitVec 32) (v4963 : BitVec 32) (v4978 : BitVec 32) (k0_hw367 : k0_chk367 v4959 v4963 v4978), ∀ a, (k0_off550 v4959 v4963 v4978) a + S1x1x32x256.size a ≤ S5x50x50x256.size a := fun v4959 v4963 v4978 k0_hw367 => k0_hw367

def k0_off551 (v4959 : BitVec 32) (v4963 : BitVec 32) (v4978 : BitVec 32) (v4981 : BitVec 32) : Fin 4 → Nat :=
  let v4988 : Index := Scalar.indexCast v4978
  let c4_i32_2057 : BitVec 32 := 4#32
  let v4964 : BitVec 32 := Scalar.shrsi v4963 c4_i32_2057
  let v4982 : BitVec 32 := Scalar.addi v4964 v4981
  let v4989 : Index := Scalar.indexCast v4982
  let c4_i32_2055 : BitVec 32 := 4#32
  let v4960 : BitVec 32 := Scalar.shrsi v4959 c4_i32_2055
  let c3_i32_2062 : BitVec 32 := 3#32
  let v4973 : BitVec 32 := Scalar.shrsi v4960 c3_i32_2062
  let c3_i32_2063 : BitVec 32 := 3#32
  let v4974 : BitVec 32 := Scalar.shli v4973 c3_i32_2063
  let c16_i32_2064 : BitVec 32 := 16#32
  let v4975 : BitVec 32 := Scalar.minsi v4974 c16_i32_2064
  let v4976 : BitVec 32 := v4975
  let v4990 : Index := Scalar.indexCast v4976
  let c0_2067 : Index := 0#32
  ![v4988.toNat, v4989.toNat, v4990.toNat, 0]

def k0_chk368 (v4959 : BitVec 32) (v4963 : BitVec 32) (v4978 : BitVec 32) (v4981 : BitVec 32) : Prop :=
  (∀ a, (k0_off551 v4959 v4963 v4978 v4981) a + S1x1x32x256.size a ≤ S5x50x50x256.size a)
theorem k0_off551_inb : ∀ (v4959 : BitVec 32) (v4963 : BitVec 32) (v4978 : BitVec 32) (v4981 : BitVec 32) (k0_hw368 : k0_chk368 v4959 v4963 v4978 v4981), ∀ a, (k0_off551 v4959 v4963 v4978 v4981) a + S1x1x32x256.size a ≤ S5x50x50x256.size a := fun v4959 v4963 v4978 v4981 k0_hw368 => k0_hw368

def k0_off552 : Fin 4 → Nat :=
  let c0_2070 : Index := 0#32
  let c0_i32 : BitVec 32 := 0#32
  let c128_i32_2051 : BitVec 32 := 128#32
  let v4952 : BitVec 32 := Scalar.muli c0_i32 c128_i32_2051
  let c91_i32 : BitVec 32 := 91#32
  let v4953 : BitVec 32 := Scalar.addi v4952 c91_i32
  let v5002 : Index := Scalar.indexCast v4953
  let c0_2071 : Index := 0#32
  let c0_2072 : Index := 0#32
  ![0, v5002.toNat, 0, 0]
def k0_off553 (i : grid0.Coords) (c0_i32_2076 : BitVec 32) : Fin 1 → Nat :=
  let arg0 : BitVec 32 := BitVec.ofNat 32 (i 0).val
  let c128_i32_2074 : BitVec 32 := 128#32
  let v5008 : BitVec 32 := Scalar.muli arg0 c128_i32_2074
  let c0_i32 : BitVec 32 := 0#32
  let c128_i32_2073 : BitVec 32 := 128#32
  let v5006 : BitVec 32 := Scalar.muli c0_i32 c128_i32_2073
  let c92_i32 : BitVec 32 := 92#32
  let v5007 : BitVec 32 := Scalar.addi v5006 c92_i32
  let v5009 : BitVec 32 := Scalar.addi v5008 v5007
  let c4_i32_2075 : BitVec 32 := 4#32
  let v5010 : BitVec 32 := Scalar.muli v5009 c4_i32_2075
  let v5011 : BitVec 32 := Scalar.addi v5010 c0_i32_2076
  let v5012 : Index := Scalar.indexCast v5011
  ![v5012.toNat]
def k0_mult93 (v5013 : BitVec 32) : BitVec 32 :=
  let c4_i32_2077 : BitVec 32 := 4#32
  let v5014 : BitVec 32 := Scalar.shrsi v5013 c4_i32_2077
  let c3_i32_2084 : BitVec 32 := 3#32
  let v5027 : BitVec 32 := Scalar.shrsi v5014 c3_i32_2084
  let c3_i32_2085 : BitVec 32 := 3#32
  let v5028 : BitVec 32 := Scalar.shli v5027 c3_i32_2085
  let c16_i32_2086 : BitVec 32 := 16#32
  let v5029 : BitVec 32 := Scalar.minsi v5028 c16_i32_2086
  v5029

def k0_chk369 (v5013 : BitVec 32) : Prop :=
  (8 ∣ (k0_mult93 v5013).toNat)
theorem k0_mult93_dvd : ∀ (v5013 : BitVec 32) (k0_hw369 : k0_chk369 v5013), 8 ∣ (k0_mult93 v5013).toNat := fun v5013 k0_hw369 => k0_hw369

def k0_off554 (v5025 : BitVec 32) : Fin 1 → Nat :=
  let c4_i32_2083 : BitVec 32 := 4#32
  let v5026 : BitVec 32 := Scalar.shrsi v5025 c4_i32_2083
  let v5031 : Index := Scalar.indexCast v5026
  ![v5031.toNat]

def k0_off555 (v5025 : BitVec 32) : Fin 1 → Nat :=
  let c32_i32_2087 : BitVec 32 := 32#32
  let c4_i32_2083 : BitVec 32 := 4#32
  let v5026 : BitVec 32 := Scalar.shrsi v5025 c4_i32_2083
  let v5033 : BitVec 32 := Scalar.addi c32_i32_2087 v5026
  let v5034 : Index := Scalar.indexCast v5033
  ![v5034.toNat]

def k0_chk370 (v5025 : BitVec 32) : Prop :=
  (∀ a, (k0_off554 v5025) a + S1.size a ≤ S64.size a) ∧
  (∀ a, (k0_off555 v5025) a + S1.size a ≤ S64.size a)
theorem k0_off554_inb : ∀ (v5025 : BitVec 32) (k0_hw370 : k0_chk370 v5025), ∀ a, (k0_off554 v5025) a + S1.size a ≤ S64.size a := fun v5025 k0_hw370 => k0_hw370.1
theorem k0_off555_inb : ∀ (v5025 : BitVec 32) (k0_hw370 : k0_chk370 v5025), ∀ a, (k0_off555 v5025) a + S1.size a ≤ S64.size a := fun v5025 k0_hw370 => k0_hw370.2

def k0_off556 (v5013 : BitVec 32) (v5017 : BitVec 32) (v5032 : BitVec 32) : Fin 4 → Nat :=
  let v5037 : Index := Scalar.indexCast v5032
  let c4_i32_2079 : BitVec 32 := 4#32
  let v5018 : BitVec 32 := Scalar.shrsi v5017 c4_i32_2079
  let v5038 : Index := Scalar.indexCast v5018
  let c4_i32_2077 : BitVec 32 := 4#32
  let v5014 : BitVec 32 := Scalar.shrsi v5013 c4_i32_2077
  let c3_i32_2084 : BitVec 32 := 3#32
  let v5027 : BitVec 32 := Scalar.shrsi v5014 c3_i32_2084
  let c3_i32_2085 : BitVec 32 := 3#32
  let v5028 : BitVec 32 := Scalar.shli v5027 c3_i32_2085
  let c16_i32_2086 : BitVec 32 := 16#32
  let v5029 : BitVec 32 := Scalar.minsi v5028 c16_i32_2086
  let v5030 : BitVec 32 := v5029
  let v5039 : Index := Scalar.indexCast v5030
  let c0_2088 : Index := 0#32
  ![v5037.toNat, v5038.toNat, v5039.toNat, 0]

def k0_chk371 (v5013 : BitVec 32) (v5017 : BitVec 32) (v5032 : BitVec 32) : Prop :=
  (∀ a, (k0_off556 v5013 v5017 v5032) a + S1x1x32x256.size a ≤ S5x50x50x256.size a)
theorem k0_off556_inb : ∀ (v5013 : BitVec 32) (v5017 : BitVec 32) (v5032 : BitVec 32) (k0_hw371 : k0_chk371 v5013 v5017 v5032), ∀ a, (k0_off556 v5013 v5017 v5032) a + S1x1x32x256.size a ≤ S5x50x50x256.size a := fun v5013 v5017 v5032 k0_hw371 => k0_hw371

def k0_off557 (v5013 : BitVec 32) (v5017 : BitVec 32) (v5032 : BitVec 32) (v5035 : BitVec 32) : Fin 4 → Nat :=
  let v5042 : Index := Scalar.indexCast v5032
  let c4_i32_2079 : BitVec 32 := 4#32
  let v5018 : BitVec 32 := Scalar.shrsi v5017 c4_i32_2079
  let v5036 : BitVec 32 := Scalar.addi v5018 v5035
  let v5043 : Index := Scalar.indexCast v5036
  let c4_i32_2077 : BitVec 32 := 4#32
  let v5014 : BitVec 32 := Scalar.shrsi v5013 c4_i32_2077
  let c3_i32_2084 : BitVec 32 := 3#32
  let v5027 : BitVec 32 := Scalar.shrsi v5014 c3_i32_2084
  let c3_i32_2085 : BitVec 32 := 3#32
  let v5028 : BitVec 32 := Scalar.shli v5027 c3_i32_2085
  let c16_i32_2086 : BitVec 32 := 16#32
  let v5029 : BitVec 32 := Scalar.minsi v5028 c16_i32_2086
  let v5030 : BitVec 32 := v5029
  let v5044 : Index := Scalar.indexCast v5030
  let c0_2089 : Index := 0#32
  ![v5042.toNat, v5043.toNat, v5044.toNat, 0]

def k0_chk372 (v5013 : BitVec 32) (v5017 : BitVec 32) (v5032 : BitVec 32) (v5035 : BitVec 32) : Prop :=
  (∀ a, (k0_off557 v5013 v5017 v5032 v5035) a + S1x1x32x256.size a ≤ S5x50x50x256.size a)
theorem k0_off557_inb : ∀ (v5013 : BitVec 32) (v5017 : BitVec 32) (v5032 : BitVec 32) (v5035 : BitVec 32) (k0_hw372 : k0_chk372 v5013 v5017 v5032 v5035), ∀ a, (k0_off557 v5013 v5017 v5032 v5035) a + S1x1x32x256.size a ≤ S5x50x50x256.size a := fun v5013 v5017 v5032 v5035 k0_hw372 => k0_hw372

def k0_off558 : Fin 4 → Nat :=
  let c0_2092 : Index := 0#32
  let c0_i32 : BitVec 32 := 0#32
  let c128_i32_2073 : BitVec 32 := 128#32
  let v5006 : BitVec 32 := Scalar.muli c0_i32 c128_i32_2073
  let c92_i32 : BitVec 32 := 92#32
  let v5007 : BitVec 32 := Scalar.addi v5006 c92_i32
  let v5056 : Index := Scalar.indexCast v5007
  let c0_2093 : Index := 0#32
  let c0_2094 : Index := 0#32
  ![0, v5056.toNat, 0, 0]
def k0_off559 (i : grid0.Coords) (c0_i32_2098 : BitVec 32) : Fin 1 → Nat :=
  let arg0 : BitVec 32 := BitVec.ofNat 32 (i 0).val
  let c128_i32_2096 : BitVec 32 := 128#32
  let v5062 : BitVec 32 := Scalar.muli arg0 c128_i32_2096
  let c0_i32 : BitVec 32 := 0#32
  let c128_i32_2095 : BitVec 32 := 128#32
  let v5060 : BitVec 32 := Scalar.muli c0_i32 c128_i32_2095
  let c93_i32 : BitVec 32 := 93#32
  let v5061 : BitVec 32 := Scalar.addi v5060 c93_i32
  let v5063 : BitVec 32 := Scalar.addi v5062 v5061
  let c4_i32_2097 : BitVec 32 := 4#32
  let v5064 : BitVec 32 := Scalar.muli v5063 c4_i32_2097
  let v5065 : BitVec 32 := Scalar.addi v5064 c0_i32_2098
  let v5066 : Index := Scalar.indexCast v5065
  ![v5066.toNat]
def k0_mult94 (v5067 : BitVec 32) : BitVec 32 :=
  let c4_i32_2099 : BitVec 32 := 4#32
  let v5068 : BitVec 32 := Scalar.shrsi v5067 c4_i32_2099
  let c3_i32_2106 : BitVec 32 := 3#32
  let v5081 : BitVec 32 := Scalar.shrsi v5068 c3_i32_2106
  let c3_i32_2107 : BitVec 32 := 3#32
  let v5082 : BitVec 32 := Scalar.shli v5081 c3_i32_2107
  let c16_i32_2108 : BitVec 32 := 16#32
  let v5083 : BitVec 32 := Scalar.minsi v5082 c16_i32_2108
  v5083

def k0_chk373 (v5067 : BitVec 32) : Prop :=
  (8 ∣ (k0_mult94 v5067).toNat)
theorem k0_mult94_dvd : ∀ (v5067 : BitVec 32) (k0_hw373 : k0_chk373 v5067), 8 ∣ (k0_mult94 v5067).toNat := fun v5067 k0_hw373 => k0_hw373

def k0_off560 (v5079 : BitVec 32) : Fin 1 → Nat :=
  let c4_i32_2105 : BitVec 32 := 4#32
  let v5080 : BitVec 32 := Scalar.shrsi v5079 c4_i32_2105
  let v5085 : Index := Scalar.indexCast v5080
  ![v5085.toNat]

def k0_off561 (v5079 : BitVec 32) : Fin 1 → Nat :=
  let c32_i32_2109 : BitVec 32 := 32#32
  let c4_i32_2105 : BitVec 32 := 4#32
  let v5080 : BitVec 32 := Scalar.shrsi v5079 c4_i32_2105
  let v5087 : BitVec 32 := Scalar.addi c32_i32_2109 v5080
  let v5088 : Index := Scalar.indexCast v5087
  ![v5088.toNat]

def k0_chk374 (v5079 : BitVec 32) : Prop :=
  (∀ a, (k0_off560 v5079) a + S1.size a ≤ S64.size a) ∧
  (∀ a, (k0_off561 v5079) a + S1.size a ≤ S64.size a)
theorem k0_off560_inb : ∀ (v5079 : BitVec 32) (k0_hw374 : k0_chk374 v5079), ∀ a, (k0_off560 v5079) a + S1.size a ≤ S64.size a := fun v5079 k0_hw374 => k0_hw374.1
theorem k0_off561_inb : ∀ (v5079 : BitVec 32) (k0_hw374 : k0_chk374 v5079), ∀ a, (k0_off561 v5079) a + S1.size a ≤ S64.size a := fun v5079 k0_hw374 => k0_hw374.2

def k0_off562 (v5067 : BitVec 32) (v5071 : BitVec 32) (v5086 : BitVec 32) : Fin 4 → Nat :=
  let v5091 : Index := Scalar.indexCast v5086
  let c4_i32_2101 : BitVec 32 := 4#32
  let v5072 : BitVec 32 := Scalar.shrsi v5071 c4_i32_2101
  let v5092 : Index := Scalar.indexCast v5072
  let c4_i32_2099 : BitVec 32 := 4#32
  let v5068 : BitVec 32 := Scalar.shrsi v5067 c4_i32_2099
  let c3_i32_2106 : BitVec 32 := 3#32
  let v5081 : BitVec 32 := Scalar.shrsi v5068 c3_i32_2106
  let c3_i32_2107 : BitVec 32 := 3#32
  let v5082 : BitVec 32 := Scalar.shli v5081 c3_i32_2107
  let c16_i32_2108 : BitVec 32 := 16#32
  let v5083 : BitVec 32 := Scalar.minsi v5082 c16_i32_2108
  let v5084 : BitVec 32 := v5083
  let v5093 : Index := Scalar.indexCast v5084
  let c0_2110 : Index := 0#32
  ![v5091.toNat, v5092.toNat, v5093.toNat, 0]

def k0_chk375 (v5067 : BitVec 32) (v5071 : BitVec 32) (v5086 : BitVec 32) : Prop :=
  (∀ a, (k0_off562 v5067 v5071 v5086) a + S1x1x32x256.size a ≤ S5x50x50x256.size a)
theorem k0_off562_inb : ∀ (v5067 : BitVec 32) (v5071 : BitVec 32) (v5086 : BitVec 32) (k0_hw375 : k0_chk375 v5067 v5071 v5086), ∀ a, (k0_off562 v5067 v5071 v5086) a + S1x1x32x256.size a ≤ S5x50x50x256.size a := fun v5067 v5071 v5086 k0_hw375 => k0_hw375

def k0_off563 (v5067 : BitVec 32) (v5071 : BitVec 32) (v5086 : BitVec 32) (v5089 : BitVec 32) : Fin 4 → Nat :=
  let v5096 : Index := Scalar.indexCast v5086
  let c4_i32_2101 : BitVec 32 := 4#32
  let v5072 : BitVec 32 := Scalar.shrsi v5071 c4_i32_2101
  let v5090 : BitVec 32 := Scalar.addi v5072 v5089
  let v5097 : Index := Scalar.indexCast v5090
  let c4_i32_2099 : BitVec 32 := 4#32
  let v5068 : BitVec 32 := Scalar.shrsi v5067 c4_i32_2099
  let c3_i32_2106 : BitVec 32 := 3#32
  let v5081 : BitVec 32 := Scalar.shrsi v5068 c3_i32_2106
  let c3_i32_2107 : BitVec 32 := 3#32
  let v5082 : BitVec 32 := Scalar.shli v5081 c3_i32_2107
  let c16_i32_2108 : BitVec 32 := 16#32
  let v5083 : BitVec 32 := Scalar.minsi v5082 c16_i32_2108
  let v5084 : BitVec 32 := v5083
  let v5098 : Index := Scalar.indexCast v5084
  let c0_2111 : Index := 0#32
  ![v5096.toNat, v5097.toNat, v5098.toNat, 0]

def k0_chk376 (v5067 : BitVec 32) (v5071 : BitVec 32) (v5086 : BitVec 32) (v5089 : BitVec 32) : Prop :=
  (∀ a, (k0_off563 v5067 v5071 v5086 v5089) a + S1x1x32x256.size a ≤ S5x50x50x256.size a)
theorem k0_off563_inb : ∀ (v5067 : BitVec 32) (v5071 : BitVec 32) (v5086 : BitVec 32) (v5089 : BitVec 32) (k0_hw376 : k0_chk376 v5067 v5071 v5086 v5089), ∀ a, (k0_off563 v5067 v5071 v5086 v5089) a + S1x1x32x256.size a ≤ S5x50x50x256.size a := fun v5067 v5071 v5086 v5089 k0_hw376 => k0_hw376

def k0_off564 : Fin 4 → Nat :=
  let c0_2114 : Index := 0#32
  let c0_i32 : BitVec 32 := 0#32
  let c128_i32_2095 : BitVec 32 := 128#32
  let v5060 : BitVec 32 := Scalar.muli c0_i32 c128_i32_2095
  let c93_i32 : BitVec 32 := 93#32
  let v5061 : BitVec 32 := Scalar.addi v5060 c93_i32
  let v5110 : Index := Scalar.indexCast v5061
  let c0_2115 : Index := 0#32
  let c0_2116 : Index := 0#32
  ![0, v5110.toNat, 0, 0]
def k0_off565 (i : grid0.Coords) (c0_i32_2120 : BitVec 32) : Fin 1 → Nat :=
  let arg0 : BitVec 32 := BitVec.ofNat 32 (i 0).val
  let c128_i32_2118 : BitVec 32 := 128#32
  let v5116 : BitVec 32 := Scalar.muli arg0 c128_i32_2118
  let c0_i32 : BitVec 32 := 0#32
  let c128_i32_2117 : BitVec 32 := 128#32
  let v5114 : BitVec 32 := Scalar.muli c0_i32 c128_i32_2117
  let c94_i32 : BitVec 32 := 94#32
  let v5115 : BitVec 32 := Scalar.addi v5114 c94_i32
  let v5117 : BitVec 32 := Scalar.addi v5116 v5115
  let c4_i32_2119 : BitVec 32 := 4#32
  let v5118 : BitVec 32 := Scalar.muli v5117 c4_i32_2119
  let v5119 : BitVec 32 := Scalar.addi v5118 c0_i32_2120
  let v5120 : Index := Scalar.indexCast v5119
  ![v5120.toNat]
def k0_mult95 (v5121 : BitVec 32) : BitVec 32 :=
  let c4_i32_2121 : BitVec 32 := 4#32
  let v5122 : BitVec 32 := Scalar.shrsi v5121 c4_i32_2121
  let c3_i32_2128 : BitVec 32 := 3#32
  let v5135 : BitVec 32 := Scalar.shrsi v5122 c3_i32_2128
  let c3_i32_2129 : BitVec 32 := 3#32
  let v5136 : BitVec 32 := Scalar.shli v5135 c3_i32_2129
  let c16_i32_2130 : BitVec 32 := 16#32
  let v5137 : BitVec 32 := Scalar.minsi v5136 c16_i32_2130
  v5137

def k0_chk377 (v5121 : BitVec 32) : Prop :=
  (8 ∣ (k0_mult95 v5121).toNat)
theorem k0_mult95_dvd : ∀ (v5121 : BitVec 32) (k0_hw377 : k0_chk377 v5121), 8 ∣ (k0_mult95 v5121).toNat := fun v5121 k0_hw377 => k0_hw377

def k0_off566 (v5133 : BitVec 32) : Fin 1 → Nat :=
  let c4_i32_2127 : BitVec 32 := 4#32
  let v5134 : BitVec 32 := Scalar.shrsi v5133 c4_i32_2127
  let v5139 : Index := Scalar.indexCast v5134
  ![v5139.toNat]

def k0_off567 (v5133 : BitVec 32) : Fin 1 → Nat :=
  let c32_i32_2131 : BitVec 32 := 32#32
  let c4_i32_2127 : BitVec 32 := 4#32
  let v5134 : BitVec 32 := Scalar.shrsi v5133 c4_i32_2127
  let v5141 : BitVec 32 := Scalar.addi c32_i32_2131 v5134
  let v5142 : Index := Scalar.indexCast v5141
  ![v5142.toNat]

def k0_chk378 (v5133 : BitVec 32) : Prop :=
  (∀ a, (k0_off566 v5133) a + S1.size a ≤ S64.size a) ∧
  (∀ a, (k0_off567 v5133) a + S1.size a ≤ S64.size a)
theorem k0_off566_inb : ∀ (v5133 : BitVec 32) (k0_hw378 : k0_chk378 v5133), ∀ a, (k0_off566 v5133) a + S1.size a ≤ S64.size a := fun v5133 k0_hw378 => k0_hw378.1
theorem k0_off567_inb : ∀ (v5133 : BitVec 32) (k0_hw378 : k0_chk378 v5133), ∀ a, (k0_off567 v5133) a + S1.size a ≤ S64.size a := fun v5133 k0_hw378 => k0_hw378.2

def k0_off568 (v5121 : BitVec 32) (v5125 : BitVec 32) (v5140 : BitVec 32) : Fin 4 → Nat :=
  let v5145 : Index := Scalar.indexCast v5140
  let c4_i32_2123 : BitVec 32 := 4#32
  let v5126 : BitVec 32 := Scalar.shrsi v5125 c4_i32_2123
  let v5146 : Index := Scalar.indexCast v5126
  let c4_i32_2121 : BitVec 32 := 4#32
  let v5122 : BitVec 32 := Scalar.shrsi v5121 c4_i32_2121
  let c3_i32_2128 : BitVec 32 := 3#32
  let v5135 : BitVec 32 := Scalar.shrsi v5122 c3_i32_2128
  let c3_i32_2129 : BitVec 32 := 3#32
  let v5136 : BitVec 32 := Scalar.shli v5135 c3_i32_2129
  let c16_i32_2130 : BitVec 32 := 16#32
  let v5137 : BitVec 32 := Scalar.minsi v5136 c16_i32_2130
  let v5138 : BitVec 32 := v5137
  let v5147 : Index := Scalar.indexCast v5138
  let c0_2132 : Index := 0#32
  ![v5145.toNat, v5146.toNat, v5147.toNat, 0]

def k0_chk379 (v5121 : BitVec 32) (v5125 : BitVec 32) (v5140 : BitVec 32) : Prop :=
  (∀ a, (k0_off568 v5121 v5125 v5140) a + S1x1x32x256.size a ≤ S5x50x50x256.size a)
theorem k0_off568_inb : ∀ (v5121 : BitVec 32) (v5125 : BitVec 32) (v5140 : BitVec 32) (k0_hw379 : k0_chk379 v5121 v5125 v5140), ∀ a, (k0_off568 v5121 v5125 v5140) a + S1x1x32x256.size a ≤ S5x50x50x256.size a := fun v5121 v5125 v5140 k0_hw379 => k0_hw379

def k0_off569 (v5121 : BitVec 32) (v5125 : BitVec 32) (v5140 : BitVec 32) (v5143 : BitVec 32) : Fin 4 → Nat :=
  let v5150 : Index := Scalar.indexCast v5140
  let c4_i32_2123 : BitVec 32 := 4#32
  let v5126 : BitVec 32 := Scalar.shrsi v5125 c4_i32_2123
  let v5144 : BitVec 32 := Scalar.addi v5126 v5143
  let v5151 : Index := Scalar.indexCast v5144
  let c4_i32_2121 : BitVec 32 := 4#32
  let v5122 : BitVec 32 := Scalar.shrsi v5121 c4_i32_2121
  let c3_i32_2128 : BitVec 32 := 3#32
  let v5135 : BitVec 32 := Scalar.shrsi v5122 c3_i32_2128
  let c3_i32_2129 : BitVec 32 := 3#32
  let v5136 : BitVec 32 := Scalar.shli v5135 c3_i32_2129
  let c16_i32_2130 : BitVec 32 := 16#32
  let v5137 : BitVec 32 := Scalar.minsi v5136 c16_i32_2130
  let v5138 : BitVec 32 := v5137
  let v5152 : Index := Scalar.indexCast v5138
  let c0_2133 : Index := 0#32
  ![v5150.toNat, v5151.toNat, v5152.toNat, 0]

def k0_chk380 (v5121 : BitVec 32) (v5125 : BitVec 32) (v5140 : BitVec 32) (v5143 : BitVec 32) : Prop :=
  (∀ a, (k0_off569 v5121 v5125 v5140 v5143) a + S1x1x32x256.size a ≤ S5x50x50x256.size a)
theorem k0_off569_inb : ∀ (v5121 : BitVec 32) (v5125 : BitVec 32) (v5140 : BitVec 32) (v5143 : BitVec 32) (k0_hw380 : k0_chk380 v5121 v5125 v5140 v5143), ∀ a, (k0_off569 v5121 v5125 v5140 v5143) a + S1x1x32x256.size a ≤ S5x50x50x256.size a := fun v5121 v5125 v5140 v5143 k0_hw380 => k0_hw380

def k0_off570 : Fin 4 → Nat :=
  let c0_2136 : Index := 0#32
  let c0_i32 : BitVec 32 := 0#32
  let c128_i32_2117 : BitVec 32 := 128#32
  let v5114 : BitVec 32 := Scalar.muli c0_i32 c128_i32_2117
  let c94_i32 : BitVec 32 := 94#32
  let v5115 : BitVec 32 := Scalar.addi v5114 c94_i32
  let v5164 : Index := Scalar.indexCast v5115
  let c0_2137 : Index := 0#32
  let c0_2138 : Index := 0#32
  ![0, v5164.toNat, 0, 0]
def k0_off571 (i : grid0.Coords) (c0_i32_2142 : BitVec 32) : Fin 1 → Nat :=
  let arg0 : BitVec 32 := BitVec.ofNat 32 (i 0).val
  let c128_i32_2140 : BitVec 32 := 128#32
  let v5170 : BitVec 32 := Scalar.muli arg0 c128_i32_2140
  let c0_i32 : BitVec 32 := 0#32
  let c128_i32_2139 : BitVec 32 := 128#32
  let v5168 : BitVec 32 := Scalar.muli c0_i32 c128_i32_2139
  let c95_i32 : BitVec 32 := 95#32
  let v5169 : BitVec 32 := Scalar.addi v5168 c95_i32
  let v5171 : BitVec 32 := Scalar.addi v5170 v5169
  let c4_i32_2141 : BitVec 32 := 4#32
  let v5172 : BitVec 32 := Scalar.muli v5171 c4_i32_2141
  let v5173 : BitVec 32 := Scalar.addi v5172 c0_i32_2142
  let v5174 : Index := Scalar.indexCast v5173
  ![v5174.toNat]
def k0_mult96 (v5175 : BitVec 32) : BitVec 32 :=
  let c4_i32_2143 : BitVec 32 := 4#32
  let v5176 : BitVec 32 := Scalar.shrsi v5175 c4_i32_2143
  let c3_i32_2150 : BitVec 32 := 3#32
  let v5189 : BitVec 32 := Scalar.shrsi v5176 c3_i32_2150
  let c3_i32_2151 : BitVec 32 := 3#32
  let v5190 : BitVec 32 := Scalar.shli v5189 c3_i32_2151
  let c16_i32_2152 : BitVec 32 := 16#32
  let v5191 : BitVec 32 := Scalar.minsi v5190 c16_i32_2152
  v5191

def k0_chk381 (v5175 : BitVec 32) : Prop :=
  (8 ∣ (k0_mult96 v5175).toNat)
theorem k0_mult96_dvd : ∀ (v5175 : BitVec 32) (k0_hw381 : k0_chk381 v5175), 8 ∣ (k0_mult96 v5175).toNat := fun v5175 k0_hw381 => k0_hw381

def k0_off572 (v5187 : BitVec 32) : Fin 1 → Nat :=
  let c4_i32_2149 : BitVec 32 := 4#32
  let v5188 : BitVec 32 := Scalar.shrsi v5187 c4_i32_2149
  let v5193 : Index := Scalar.indexCast v5188
  ![v5193.toNat]

def k0_off573 (v5187 : BitVec 32) : Fin 1 → Nat :=
  let c32_i32_2153 : BitVec 32 := 32#32
  let c4_i32_2149 : BitVec 32 := 4#32
  let v5188 : BitVec 32 := Scalar.shrsi v5187 c4_i32_2149
  let v5195 : BitVec 32 := Scalar.addi c32_i32_2153 v5188
  let v5196 : Index := Scalar.indexCast v5195
  ![v5196.toNat]

def k0_chk382 (v5187 : BitVec 32) : Prop :=
  (∀ a, (k0_off572 v5187) a + S1.size a ≤ S64.size a) ∧
  (∀ a, (k0_off573 v5187) a + S1.size a ≤ S64.size a)
theorem k0_off572_inb : ∀ (v5187 : BitVec 32) (k0_hw382 : k0_chk382 v5187), ∀ a, (k0_off572 v5187) a + S1.size a ≤ S64.size a := fun v5187 k0_hw382 => k0_hw382.1
theorem k0_off573_inb : ∀ (v5187 : BitVec 32) (k0_hw382 : k0_chk382 v5187), ∀ a, (k0_off573 v5187) a + S1.size a ≤ S64.size a := fun v5187 k0_hw382 => k0_hw382.2

def k0_off574 (v5175 : BitVec 32) (v5179 : BitVec 32) (v5194 : BitVec 32) : Fin 4 → Nat :=
  let v5199 : Index := Scalar.indexCast v5194
  let c4_i32_2145 : BitVec 32 := 4#32
  let v5180 : BitVec 32 := Scalar.shrsi v5179 c4_i32_2145
  let v5200 : Index := Scalar.indexCast v5180
  let c4_i32_2143 : BitVec 32 := 4#32
  let v5176 : BitVec 32 := Scalar.shrsi v5175 c4_i32_2143
  let c3_i32_2150 : BitVec 32 := 3#32
  let v5189 : BitVec 32 := Scalar.shrsi v5176 c3_i32_2150
  let c3_i32_2151 : BitVec 32 := 3#32
  let v5190 : BitVec 32 := Scalar.shli v5189 c3_i32_2151
  let c16_i32_2152 : BitVec 32 := 16#32
  let v5191 : BitVec 32 := Scalar.minsi v5190 c16_i32_2152
  let v5192 : BitVec 32 := v5191
  let v5201 : Index := Scalar.indexCast v5192
  let c0_2154 : Index := 0#32
  ![v5199.toNat, v5200.toNat, v5201.toNat, 0]

def k0_chk383 (v5175 : BitVec 32) (v5179 : BitVec 32) (v5194 : BitVec 32) : Prop :=
  (∀ a, (k0_off574 v5175 v5179 v5194) a + S1x1x32x256.size a ≤ S5x50x50x256.size a)
theorem k0_off574_inb : ∀ (v5175 : BitVec 32) (v5179 : BitVec 32) (v5194 : BitVec 32) (k0_hw383 : k0_chk383 v5175 v5179 v5194), ∀ a, (k0_off574 v5175 v5179 v5194) a + S1x1x32x256.size a ≤ S5x50x50x256.size a := fun v5175 v5179 v5194 k0_hw383 => k0_hw383

def k0_off575 (v5175 : BitVec 32) (v5179 : BitVec 32) (v5194 : BitVec 32) (v5197 : BitVec 32) : Fin 4 → Nat :=
  let v5204 : Index := Scalar.indexCast v5194
  let c4_i32_2145 : BitVec 32 := 4#32
  let v5180 : BitVec 32 := Scalar.shrsi v5179 c4_i32_2145
  let v5198 : BitVec 32 := Scalar.addi v5180 v5197
  let v5205 : Index := Scalar.indexCast v5198
  let c4_i32_2143 : BitVec 32 := 4#32
  let v5176 : BitVec 32 := Scalar.shrsi v5175 c4_i32_2143
  let c3_i32_2150 : BitVec 32 := 3#32
  let v5189 : BitVec 32 := Scalar.shrsi v5176 c3_i32_2150
  let c3_i32_2151 : BitVec 32 := 3#32
  let v5190 : BitVec 32 := Scalar.shli v5189 c3_i32_2151
  let c16_i32_2152 : BitVec 32 := 16#32
  let v5191 : BitVec 32 := Scalar.minsi v5190 c16_i32_2152
  let v5192 : BitVec 32 := v5191
  let v5206 : Index := Scalar.indexCast v5192
  let c0_2155 : Index := 0#32
  ![v5204.toNat, v5205.toNat, v5206.toNat, 0]

def k0_chk384 (v5175 : BitVec 32) (v5179 : BitVec 32) (v5194 : BitVec 32) (v5197 : BitVec 32) : Prop :=
  (∀ a, (k0_off575 v5175 v5179 v5194 v5197) a + S1x1x32x256.size a ≤ S5x50x50x256.size a)
theorem k0_off575_inb : ∀ (v5175 : BitVec 32) (v5179 : BitVec 32) (v5194 : BitVec 32) (v5197 : BitVec 32) (k0_hw384 : k0_chk384 v5175 v5179 v5194 v5197), ∀ a, (k0_off575 v5175 v5179 v5194 v5197) a + S1x1x32x256.size a ≤ S5x50x50x256.size a := fun v5175 v5179 v5194 v5197 k0_hw384 => k0_hw384

def k0_off576 : Fin 4 → Nat :=
  let c0_2158 : Index := 0#32
  let c0_i32 : BitVec 32 := 0#32
  let c128_i32_2139 : BitVec 32 := 128#32
  let v5168 : BitVec 32 := Scalar.muli c0_i32 c128_i32_2139
  let c95_i32 : BitVec 32 := 95#32
  let v5169 : BitVec 32 := Scalar.addi v5168 c95_i32
  let v5218 : Index := Scalar.indexCast v5169
  let c0_2159 : Index := 0#32
  let c0_2160 : Index := 0#32
  ![0, v5218.toNat, 0, 0]
def k0_off577 (i : grid0.Coords) (c0_i32_2164 : BitVec 32) : Fin 1 → Nat :=
  let arg0 : BitVec 32 := BitVec.ofNat 32 (i 0).val
  let c128_i32_2162 : BitVec 32 := 128#32
  let v5224 : BitVec 32 := Scalar.muli arg0 c128_i32_2162
  let c0_i32 : BitVec 32 := 0#32
  let c128_i32_2161 : BitVec 32 := 128#32
  let v5222 : BitVec 32 := Scalar.muli c0_i32 c128_i32_2161
  let c96_i32 : BitVec 32 := 96#32
  let v5223 : BitVec 32 := Scalar.addi v5222 c96_i32
  let v5225 : BitVec 32 := Scalar.addi v5224 v5223
  let c4_i32_2163 : BitVec 32 := 4#32
  let v5226 : BitVec 32 := Scalar.muli v5225 c4_i32_2163
  let v5227 : BitVec 32 := Scalar.addi v5226 c0_i32_2164
  let v5228 : Index := Scalar.indexCast v5227
  ![v5228.toNat]
def k0_mult97 (v5229 : BitVec 32) : BitVec 32 :=
  let c4_i32_2165 : BitVec 32 := 4#32
  let v5230 : BitVec 32 := Scalar.shrsi v5229 c4_i32_2165
  let c3_i32_2172 : BitVec 32 := 3#32
  let v5243 : BitVec 32 := Scalar.shrsi v5230 c3_i32_2172
  let c3_i32_2173 : BitVec 32 := 3#32
  let v5244 : BitVec 32 := Scalar.shli v5243 c3_i32_2173
  let c16_i32_2174 : BitVec 32 := 16#32
  let v5245 : BitVec 32 := Scalar.minsi v5244 c16_i32_2174
  v5245

def k0_chk385 (v5229 : BitVec 32) : Prop :=
  (8 ∣ (k0_mult97 v5229).toNat)
theorem k0_mult97_dvd : ∀ (v5229 : BitVec 32) (k0_hw385 : k0_chk385 v5229), 8 ∣ (k0_mult97 v5229).toNat := fun v5229 k0_hw385 => k0_hw385

def k0_off578 (v5241 : BitVec 32) : Fin 1 → Nat :=
  let c4_i32_2171 : BitVec 32 := 4#32
  let v5242 : BitVec 32 := Scalar.shrsi v5241 c4_i32_2171
  let v5247 : Index := Scalar.indexCast v5242
  ![v5247.toNat]

def k0_off579 (v5241 : BitVec 32) : Fin 1 → Nat :=
  let c32_i32_2175 : BitVec 32 := 32#32
  let c4_i32_2171 : BitVec 32 := 4#32
  let v5242 : BitVec 32 := Scalar.shrsi v5241 c4_i32_2171
  let v5249 : BitVec 32 := Scalar.addi c32_i32_2175 v5242
  let v5250 : Index := Scalar.indexCast v5249
  ![v5250.toNat]

def k0_chk386 (v5241 : BitVec 32) : Prop :=
  (∀ a, (k0_off578 v5241) a + S1.size a ≤ S64.size a) ∧
  (∀ a, (k0_off579 v5241) a + S1.size a ≤ S64.size a)
theorem k0_off578_inb : ∀ (v5241 : BitVec 32) (k0_hw386 : k0_chk386 v5241), ∀ a, (k0_off578 v5241) a + S1.size a ≤ S64.size a := fun v5241 k0_hw386 => k0_hw386.1
theorem k0_off579_inb : ∀ (v5241 : BitVec 32) (k0_hw386 : k0_chk386 v5241), ∀ a, (k0_off579 v5241) a + S1.size a ≤ S64.size a := fun v5241 k0_hw386 => k0_hw386.2

def k0_off580 (v5229 : BitVec 32) (v5233 : BitVec 32) (v5248 : BitVec 32) : Fin 4 → Nat :=
  let v5253 : Index := Scalar.indexCast v5248
  let c4_i32_2167 : BitVec 32 := 4#32
  let v5234 : BitVec 32 := Scalar.shrsi v5233 c4_i32_2167
  let v5254 : Index := Scalar.indexCast v5234
  let c4_i32_2165 : BitVec 32 := 4#32
  let v5230 : BitVec 32 := Scalar.shrsi v5229 c4_i32_2165
  let c3_i32_2172 : BitVec 32 := 3#32
  let v5243 : BitVec 32 := Scalar.shrsi v5230 c3_i32_2172
  let c3_i32_2173 : BitVec 32 := 3#32
  let v5244 : BitVec 32 := Scalar.shli v5243 c3_i32_2173
  let c16_i32_2174 : BitVec 32 := 16#32
  let v5245 : BitVec 32 := Scalar.minsi v5244 c16_i32_2174
  let v5246 : BitVec 32 := v5245
  let v5255 : Index := Scalar.indexCast v5246
  let c0_2176 : Index := 0#32
  ![v5253.toNat, v5254.toNat, v5255.toNat, 0]

def k0_chk387 (v5229 : BitVec 32) (v5233 : BitVec 32) (v5248 : BitVec 32) : Prop :=
  (∀ a, (k0_off580 v5229 v5233 v5248) a + S1x1x32x256.size a ≤ S5x50x50x256.size a)
theorem k0_off580_inb : ∀ (v5229 : BitVec 32) (v5233 : BitVec 32) (v5248 : BitVec 32) (k0_hw387 : k0_chk387 v5229 v5233 v5248), ∀ a, (k0_off580 v5229 v5233 v5248) a + S1x1x32x256.size a ≤ S5x50x50x256.size a := fun v5229 v5233 v5248 k0_hw387 => k0_hw387

def k0_off581 (v5229 : BitVec 32) (v5233 : BitVec 32) (v5248 : BitVec 32) (v5251 : BitVec 32) : Fin 4 → Nat :=
  let v5258 : Index := Scalar.indexCast v5248
  let c4_i32_2167 : BitVec 32 := 4#32
  let v5234 : BitVec 32 := Scalar.shrsi v5233 c4_i32_2167
  let v5252 : BitVec 32 := Scalar.addi v5234 v5251
  let v5259 : Index := Scalar.indexCast v5252
  let c4_i32_2165 : BitVec 32 := 4#32
  let v5230 : BitVec 32 := Scalar.shrsi v5229 c4_i32_2165
  let c3_i32_2172 : BitVec 32 := 3#32
  let v5243 : BitVec 32 := Scalar.shrsi v5230 c3_i32_2172
  let c3_i32_2173 : BitVec 32 := 3#32
  let v5244 : BitVec 32 := Scalar.shli v5243 c3_i32_2173
  let c16_i32_2174 : BitVec 32 := 16#32
  let v5245 : BitVec 32 := Scalar.minsi v5244 c16_i32_2174
  let v5246 : BitVec 32 := v5245
  let v5260 : Index := Scalar.indexCast v5246
  let c0_2177 : Index := 0#32
  ![v5258.toNat, v5259.toNat, v5260.toNat, 0]

def k0_chk388 (v5229 : BitVec 32) (v5233 : BitVec 32) (v5248 : BitVec 32) (v5251 : BitVec 32) : Prop :=
  (∀ a, (k0_off581 v5229 v5233 v5248 v5251) a + S1x1x32x256.size a ≤ S5x50x50x256.size a)
theorem k0_off581_inb : ∀ (v5229 : BitVec 32) (v5233 : BitVec 32) (v5248 : BitVec 32) (v5251 : BitVec 32) (k0_hw388 : k0_chk388 v5229 v5233 v5248 v5251), ∀ a, (k0_off581 v5229 v5233 v5248 v5251) a + S1x1x32x256.size a ≤ S5x50x50x256.size a := fun v5229 v5233 v5248 v5251 k0_hw388 => k0_hw388

def k0_off582 : Fin 4 → Nat :=
  let c0_2180 : Index := 0#32
  let c0_i32 : BitVec 32 := 0#32
  let c128_i32_2161 : BitVec 32 := 128#32
  let v5222 : BitVec 32 := Scalar.muli c0_i32 c128_i32_2161
  let c96_i32 : BitVec 32 := 96#32
  let v5223 : BitVec 32 := Scalar.addi v5222 c96_i32
  let v5272 : Index := Scalar.indexCast v5223
  let c0_2181 : Index := 0#32
  let c0_2182 : Index := 0#32
  ![0, v5272.toNat, 0, 0]
def k0_off583 (i : grid0.Coords) (c0_i32_2186 : BitVec 32) : Fin 1 → Nat :=
  let arg0 : BitVec 32 := BitVec.ofNat 32 (i 0).val
  let c128_i32_2184 : BitVec 32 := 128#32
  let v5278 : BitVec 32 := Scalar.muli arg0 c128_i32_2184
  let c0_i32 : BitVec 32 := 0#32
  let c128_i32_2183 : BitVec 32 := 128#32
  let v5276 : BitVec 32 := Scalar.muli c0_i32 c128_i32_2183
  let c97_i32 : BitVec 32 := 97#32
  let v5277 : BitVec 32 := Scalar.addi v5276 c97_i32
  let v5279 : BitVec 32 := Scalar.addi v5278 v5277
  let c4_i32_2185 : BitVec 32 := 4#32
  let v5280 : BitVec 32 := Scalar.muli v5279 c4_i32_2185
  let v5281 : BitVec 32 := Scalar.addi v5280 c0_i32_2186
  let v5282 : Index := Scalar.indexCast v5281
  ![v5282.toNat]
def k0_mult98 (v5283 : BitVec 32) : BitVec 32 :=
  let c4_i32_2187 : BitVec 32 := 4#32
  let v5284 : BitVec 32 := Scalar.shrsi v5283 c4_i32_2187
  let c3_i32_2194 : BitVec 32 := 3#32
  let v5297 : BitVec 32 := Scalar.shrsi v5284 c3_i32_2194
  let c3_i32_2195 : BitVec 32 := 3#32
  let v5298 : BitVec 32 := Scalar.shli v5297 c3_i32_2195
  let c16_i32_2196 : BitVec 32 := 16#32
  let v5299 : BitVec 32 := Scalar.minsi v5298 c16_i32_2196
  v5299

def k0_chk389 (v5283 : BitVec 32) : Prop :=
  (8 ∣ (k0_mult98 v5283).toNat)
theorem k0_mult98_dvd : ∀ (v5283 : BitVec 32) (k0_hw389 : k0_chk389 v5283), 8 ∣ (k0_mult98 v5283).toNat := fun v5283 k0_hw389 => k0_hw389

def k0_off584 (v5295 : BitVec 32) : Fin 1 → Nat :=
  let c4_i32_2193 : BitVec 32 := 4#32
  let v5296 : BitVec 32 := Scalar.shrsi v5295 c4_i32_2193
  let v5301 : Index := Scalar.indexCast v5296
  ![v5301.toNat]

def k0_off585 (v5295 : BitVec 32) : Fin 1 → Nat :=
  let c32_i32_2197 : BitVec 32 := 32#32
  let c4_i32_2193 : BitVec 32 := 4#32
  let v5296 : BitVec 32 := Scalar.shrsi v5295 c4_i32_2193
  let v5303 : BitVec 32 := Scalar.addi c32_i32_2197 v5296
  let v5304 : Index := Scalar.indexCast v5303
  ![v5304.toNat]

def k0_chk390 (v5295 : BitVec 32) : Prop :=
  (∀ a, (k0_off584 v5295) a + S1.size a ≤ S64.size a) ∧
  (∀ a, (k0_off585 v5295) a + S1.size a ≤ S64.size a)
theorem k0_off584_inb : ∀ (v5295 : BitVec 32) (k0_hw390 : k0_chk390 v5295), ∀ a, (k0_off584 v5295) a + S1.size a ≤ S64.size a := fun v5295 k0_hw390 => k0_hw390.1
theorem k0_off585_inb : ∀ (v5295 : BitVec 32) (k0_hw390 : k0_chk390 v5295), ∀ a, (k0_off585 v5295) a + S1.size a ≤ S64.size a := fun v5295 k0_hw390 => k0_hw390.2

def k0_off586 (v5283 : BitVec 32) (v5287 : BitVec 32) (v5302 : BitVec 32) : Fin 4 → Nat :=
  let v5307 : Index := Scalar.indexCast v5302
  let c4_i32_2189 : BitVec 32 := 4#32
  let v5288 : BitVec 32 := Scalar.shrsi v5287 c4_i32_2189
  let v5308 : Index := Scalar.indexCast v5288
  let c4_i32_2187 : BitVec 32 := 4#32
  let v5284 : BitVec 32 := Scalar.shrsi v5283 c4_i32_2187
  let c3_i32_2194 : BitVec 32 := 3#32
  let v5297 : BitVec 32 := Scalar.shrsi v5284 c3_i32_2194
  let c3_i32_2195 : BitVec 32 := 3#32
  let v5298 : BitVec 32 := Scalar.shli v5297 c3_i32_2195
  let c16_i32_2196 : BitVec 32 := 16#32
  let v5299 : BitVec 32 := Scalar.minsi v5298 c16_i32_2196
  let v5300 : BitVec 32 := v5299
  let v5309 : Index := Scalar.indexCast v5300
  let c0_2198 : Index := 0#32
  ![v5307.toNat, v5308.toNat, v5309.toNat, 0]

def k0_chk391 (v5283 : BitVec 32) (v5287 : BitVec 32) (v5302 : BitVec 32) : Prop :=
  (∀ a, (k0_off586 v5283 v5287 v5302) a + S1x1x32x256.size a ≤ S5x50x50x256.size a)
theorem k0_off586_inb : ∀ (v5283 : BitVec 32) (v5287 : BitVec 32) (v5302 : BitVec 32) (k0_hw391 : k0_chk391 v5283 v5287 v5302), ∀ a, (k0_off586 v5283 v5287 v5302) a + S1x1x32x256.size a ≤ S5x50x50x256.size a := fun v5283 v5287 v5302 k0_hw391 => k0_hw391

def k0_off587 (v5283 : BitVec 32) (v5287 : BitVec 32) (v5302 : BitVec 32) (v5305 : BitVec 32) : Fin 4 → Nat :=
  let v5312 : Index := Scalar.indexCast v5302
  let c4_i32_2189 : BitVec 32 := 4#32
  let v5288 : BitVec 32 := Scalar.shrsi v5287 c4_i32_2189
  let v5306 : BitVec 32 := Scalar.addi v5288 v5305
  let v5313 : Index := Scalar.indexCast v5306
  let c4_i32_2187 : BitVec 32 := 4#32
  let v5284 : BitVec 32 := Scalar.shrsi v5283 c4_i32_2187
  let c3_i32_2194 : BitVec 32 := 3#32
  let v5297 : BitVec 32 := Scalar.shrsi v5284 c3_i32_2194
  let c3_i32_2195 : BitVec 32 := 3#32
  let v5298 : BitVec 32 := Scalar.shli v5297 c3_i32_2195
  let c16_i32_2196 : BitVec 32 := 16#32
  let v5299 : BitVec 32 := Scalar.minsi v5298 c16_i32_2196
  let v5300 : BitVec 32 := v5299
  let v5314 : Index := Scalar.indexCast v5300
  let c0_2199 : Index := 0#32
  ![v5312.toNat, v5313.toNat, v5314.toNat, 0]

def k0_chk392 (v5283 : BitVec 32) (v5287 : BitVec 32) (v5302 : BitVec 32) (v5305 : BitVec 32) : Prop :=
  (∀ a, (k0_off587 v5283 v5287 v5302 v5305) a + S1x1x32x256.size a ≤ S5x50x50x256.size a)
theorem k0_off587_inb : ∀ (v5283 : BitVec 32) (v5287 : BitVec 32) (v5302 : BitVec 32) (v5305 : BitVec 32) (k0_hw392 : k0_chk392 v5283 v5287 v5302 v5305), ∀ a, (k0_off587 v5283 v5287 v5302 v5305) a + S1x1x32x256.size a ≤ S5x50x50x256.size a := fun v5283 v5287 v5302 v5305 k0_hw392 => k0_hw392

def k0_off588 : Fin 4 → Nat :=
  let c0_2202 : Index := 0#32
  let c0_i32 : BitVec 32 := 0#32
  let c128_i32_2183 : BitVec 32 := 128#32
  let v5276 : BitVec 32 := Scalar.muli c0_i32 c128_i32_2183
  let c97_i32 : BitVec 32 := 97#32
  let v5277 : BitVec 32 := Scalar.addi v5276 c97_i32
  let v5326 : Index := Scalar.indexCast v5277
  let c0_2203 : Index := 0#32
  let c0_2204 : Index := 0#32
  ![0, v5326.toNat, 0, 0]
def k0_off589 (i : grid0.Coords) (c0_i32_2208 : BitVec 32) : Fin 1 → Nat :=
  let arg0 : BitVec 32 := BitVec.ofNat 32 (i 0).val
  let c128_i32_2206 : BitVec 32 := 128#32
  let v5332 : BitVec 32 := Scalar.muli arg0 c128_i32_2206
  let c0_i32 : BitVec 32 := 0#32
  let c128_i32_2205 : BitVec 32 := 128#32
  let v5330 : BitVec 32 := Scalar.muli c0_i32 c128_i32_2205
  let c98_i32 : BitVec 32 := 98#32
  let v5331 : BitVec 32 := Scalar.addi v5330 c98_i32
  let v5333 : BitVec 32 := Scalar.addi v5332 v5331
  let c4_i32_2207 : BitVec 32 := 4#32
  let v5334 : BitVec 32 := Scalar.muli v5333 c4_i32_2207
  let v5335 : BitVec 32 := Scalar.addi v5334 c0_i32_2208
  let v5336 : Index := Scalar.indexCast v5335
  ![v5336.toNat]
def k0_mult99 (v5337 : BitVec 32) : BitVec 32 :=
  let c4_i32_2209 : BitVec 32 := 4#32
  let v5338 : BitVec 32 := Scalar.shrsi v5337 c4_i32_2209
  let c3_i32_2216 : BitVec 32 := 3#32
  let v5351 : BitVec 32 := Scalar.shrsi v5338 c3_i32_2216
  let c3_i32_2217 : BitVec 32 := 3#32
  let v5352 : BitVec 32 := Scalar.shli v5351 c3_i32_2217
  let c16_i32_2218 : BitVec 32 := 16#32
  let v5353 : BitVec 32 := Scalar.minsi v5352 c16_i32_2218
  v5353

def k0_chk393 (v5337 : BitVec 32) : Prop :=
  (8 ∣ (k0_mult99 v5337).toNat)
theorem k0_mult99_dvd : ∀ (v5337 : BitVec 32) (k0_hw393 : k0_chk393 v5337), 8 ∣ (k0_mult99 v5337).toNat := fun v5337 k0_hw393 => k0_hw393

def k0_off590 (v5349 : BitVec 32) : Fin 1 → Nat :=
  let c4_i32_2215 : BitVec 32 := 4#32
  let v5350 : BitVec 32 := Scalar.shrsi v5349 c4_i32_2215
  let v5355 : Index := Scalar.indexCast v5350
  ![v5355.toNat]

def k0_off591 (v5349 : BitVec 32) : Fin 1 → Nat :=
  let c32_i32_2219 : BitVec 32 := 32#32
  let c4_i32_2215 : BitVec 32 := 4#32
  let v5350 : BitVec 32 := Scalar.shrsi v5349 c4_i32_2215
  let v5357 : BitVec 32 := Scalar.addi c32_i32_2219 v5350
  let v5358 : Index := Scalar.indexCast v5357
  ![v5358.toNat]

def k0_chk394 (v5349 : BitVec 32) : Prop :=
  (∀ a, (k0_off590 v5349) a + S1.size a ≤ S64.size a) ∧
  (∀ a, (k0_off591 v5349) a + S1.size a ≤ S64.size a)
theorem k0_off590_inb : ∀ (v5349 : BitVec 32) (k0_hw394 : k0_chk394 v5349), ∀ a, (k0_off590 v5349) a + S1.size a ≤ S64.size a := fun v5349 k0_hw394 => k0_hw394.1
theorem k0_off591_inb : ∀ (v5349 : BitVec 32) (k0_hw394 : k0_chk394 v5349), ∀ a, (k0_off591 v5349) a + S1.size a ≤ S64.size a := fun v5349 k0_hw394 => k0_hw394.2

def k0_off592 (v5337 : BitVec 32) (v5341 : BitVec 32) (v5356 : BitVec 32) : Fin 4 → Nat :=
  let v5361 : Index := Scalar.indexCast v5356
  let c4_i32_2211 : BitVec 32 := 4#32
  let v5342 : BitVec 32 := Scalar.shrsi v5341 c4_i32_2211
  let v5362 : Index := Scalar.indexCast v5342
  let c4_i32_2209 : BitVec 32 := 4#32
  let v5338 : BitVec 32 := Scalar.shrsi v5337 c4_i32_2209
  let c3_i32_2216 : BitVec 32 := 3#32
  let v5351 : BitVec 32 := Scalar.shrsi v5338 c3_i32_2216
  let c3_i32_2217 : BitVec 32 := 3#32
  let v5352 : BitVec 32 := Scalar.shli v5351 c3_i32_2217
  let c16_i32_2218 : BitVec 32 := 16#32
  let v5353 : BitVec 32 := Scalar.minsi v5352 c16_i32_2218
  let v5354 : BitVec 32 := v5353
  let v5363 : Index := Scalar.indexCast v5354
  let c0_2220 : Index := 0#32
  ![v5361.toNat, v5362.toNat, v5363.toNat, 0]

def k0_chk395 (v5337 : BitVec 32) (v5341 : BitVec 32) (v5356 : BitVec 32) : Prop :=
  (∀ a, (k0_off592 v5337 v5341 v5356) a + S1x1x32x256.size a ≤ S5x50x50x256.size a)
theorem k0_off592_inb : ∀ (v5337 : BitVec 32) (v5341 : BitVec 32) (v5356 : BitVec 32) (k0_hw395 : k0_chk395 v5337 v5341 v5356), ∀ a, (k0_off592 v5337 v5341 v5356) a + S1x1x32x256.size a ≤ S5x50x50x256.size a := fun v5337 v5341 v5356 k0_hw395 => k0_hw395

def k0_off593 (v5337 : BitVec 32) (v5341 : BitVec 32) (v5356 : BitVec 32) (v5359 : BitVec 32) : Fin 4 → Nat :=
  let v5366 : Index := Scalar.indexCast v5356
  let c4_i32_2211 : BitVec 32 := 4#32
  let v5342 : BitVec 32 := Scalar.shrsi v5341 c4_i32_2211
  let v5360 : BitVec 32 := Scalar.addi v5342 v5359
  let v5367 : Index := Scalar.indexCast v5360
  let c4_i32_2209 : BitVec 32 := 4#32
  let v5338 : BitVec 32 := Scalar.shrsi v5337 c4_i32_2209
  let c3_i32_2216 : BitVec 32 := 3#32
  let v5351 : BitVec 32 := Scalar.shrsi v5338 c3_i32_2216
  let c3_i32_2217 : BitVec 32 := 3#32
  let v5352 : BitVec 32 := Scalar.shli v5351 c3_i32_2217
  let c16_i32_2218 : BitVec 32 := 16#32
  let v5353 : BitVec 32 := Scalar.minsi v5352 c16_i32_2218
  let v5354 : BitVec 32 := v5353
  let v5368 : Index := Scalar.indexCast v5354
  let c0_2221 : Index := 0#32
  ![v5366.toNat, v5367.toNat, v5368.toNat, 0]

def k0_chk396 (v5337 : BitVec 32) (v5341 : BitVec 32) (v5356 : BitVec 32) (v5359 : BitVec 32) : Prop :=
  (∀ a, (k0_off593 v5337 v5341 v5356 v5359) a + S1x1x32x256.size a ≤ S5x50x50x256.size a)
theorem k0_off593_inb : ∀ (v5337 : BitVec 32) (v5341 : BitVec 32) (v5356 : BitVec 32) (v5359 : BitVec 32) (k0_hw396 : k0_chk396 v5337 v5341 v5356 v5359), ∀ a, (k0_off593 v5337 v5341 v5356 v5359) a + S1x1x32x256.size a ≤ S5x50x50x256.size a := fun v5337 v5341 v5356 v5359 k0_hw396 => k0_hw396

def k0_off594 : Fin 4 → Nat :=
  let c0_2224 : Index := 0#32
  let c0_i32 : BitVec 32 := 0#32
  let c128_i32_2205 : BitVec 32 := 128#32
  let v5330 : BitVec 32 := Scalar.muli c0_i32 c128_i32_2205
  let c98_i32 : BitVec 32 := 98#32
  let v5331 : BitVec 32 := Scalar.addi v5330 c98_i32
  let v5380 : Index := Scalar.indexCast v5331
  let c0_2225 : Index := 0#32
  let c0_2226 : Index := 0#32
  ![0, v5380.toNat, 0, 0]
def k0_off595 (i : grid0.Coords) (c0_i32_2230 : BitVec 32) : Fin 1 → Nat :=
  let arg0 : BitVec 32 := BitVec.ofNat 32 (i 0).val
  let c128_i32_2228 : BitVec 32 := 128#32
  let v5386 : BitVec 32 := Scalar.muli arg0 c128_i32_2228
  let c0_i32 : BitVec 32 := 0#32
  let c128_i32_2227 : BitVec 32 := 128#32
  let v5384 : BitVec 32 := Scalar.muli c0_i32 c128_i32_2227
  let c99_i32 : BitVec 32 := 99#32
  let v5385 : BitVec 32 := Scalar.addi v5384 c99_i32
  let v5387 : BitVec 32 := Scalar.addi v5386 v5385
  let c4_i32_2229 : BitVec 32 := 4#32
  let v5388 : BitVec 32 := Scalar.muli v5387 c4_i32_2229
  let v5389 : BitVec 32 := Scalar.addi v5388 c0_i32_2230
  let v5390 : Index := Scalar.indexCast v5389
  ![v5390.toNat]
def k0_mult100 (v5391 : BitVec 32) : BitVec 32 :=
  let c4_i32_2231 : BitVec 32 := 4#32
  let v5392 : BitVec 32 := Scalar.shrsi v5391 c4_i32_2231
  let c3_i32_2238 : BitVec 32 := 3#32
  let v5405 : BitVec 32 := Scalar.shrsi v5392 c3_i32_2238
  let c3_i32_2239 : BitVec 32 := 3#32
  let v5406 : BitVec 32 := Scalar.shli v5405 c3_i32_2239
  let c16_i32_2240 : BitVec 32 := 16#32
  let v5407 : BitVec 32 := Scalar.minsi v5406 c16_i32_2240
  v5407

def k0_chk397 (v5391 : BitVec 32) : Prop :=
  (8 ∣ (k0_mult100 v5391).toNat)
theorem k0_mult100_dvd : ∀ (v5391 : BitVec 32) (k0_hw397 : k0_chk397 v5391), 8 ∣ (k0_mult100 v5391).toNat := fun v5391 k0_hw397 => k0_hw397

def k0_off596 (v5403 : BitVec 32) : Fin 1 → Nat :=
  let c4_i32_2237 : BitVec 32 := 4#32
  let v5404 : BitVec 32 := Scalar.shrsi v5403 c4_i32_2237
  let v5409 : Index := Scalar.indexCast v5404
  ![v5409.toNat]

def k0_off597 (v5403 : BitVec 32) : Fin 1 → Nat :=
  let c32_i32_2241 : BitVec 32 := 32#32
  let c4_i32_2237 : BitVec 32 := 4#32
  let v5404 : BitVec 32 := Scalar.shrsi v5403 c4_i32_2237
  let v5411 : BitVec 32 := Scalar.addi c32_i32_2241 v5404
  let v5412 : Index := Scalar.indexCast v5411
  ![v5412.toNat]

def k0_chk398 (v5403 : BitVec 32) : Prop :=
  (∀ a, (k0_off596 v5403) a + S1.size a ≤ S64.size a) ∧
  (∀ a, (k0_off597 v5403) a + S1.size a ≤ S64.size a)
theorem k0_off596_inb : ∀ (v5403 : BitVec 32) (k0_hw398 : k0_chk398 v5403), ∀ a, (k0_off596 v5403) a + S1.size a ≤ S64.size a := fun v5403 k0_hw398 => k0_hw398.1
theorem k0_off597_inb : ∀ (v5403 : BitVec 32) (k0_hw398 : k0_chk398 v5403), ∀ a, (k0_off597 v5403) a + S1.size a ≤ S64.size a := fun v5403 k0_hw398 => k0_hw398.2

def k0_off598 (v5391 : BitVec 32) (v5395 : BitVec 32) (v5410 : BitVec 32) : Fin 4 → Nat :=
  let v5415 : Index := Scalar.indexCast v5410
  let c4_i32_2233 : BitVec 32 := 4#32
  let v5396 : BitVec 32 := Scalar.shrsi v5395 c4_i32_2233
  let v5416 : Index := Scalar.indexCast v5396
  let c4_i32_2231 : BitVec 32 := 4#32
  let v5392 : BitVec 32 := Scalar.shrsi v5391 c4_i32_2231
  let c3_i32_2238 : BitVec 32 := 3#32
  let v5405 : BitVec 32 := Scalar.shrsi v5392 c3_i32_2238
  let c3_i32_2239 : BitVec 32 := 3#32
  let v5406 : BitVec 32 := Scalar.shli v5405 c3_i32_2239
  let c16_i32_2240 : BitVec 32 := 16#32
  let v5407 : BitVec 32 := Scalar.minsi v5406 c16_i32_2240
  let v5408 : BitVec 32 := v5407
  let v5417 : Index := Scalar.indexCast v5408
  let c0_2242 : Index := 0#32
  ![v5415.toNat, v5416.toNat, v5417.toNat, 0]

def k0_chk399 (v5391 : BitVec 32) (v5395 : BitVec 32) (v5410 : BitVec 32) : Prop :=
  (∀ a, (k0_off598 v5391 v5395 v5410) a + S1x1x32x256.size a ≤ S5x50x50x256.size a)
theorem k0_off598_inb : ∀ (v5391 : BitVec 32) (v5395 : BitVec 32) (v5410 : BitVec 32) (k0_hw399 : k0_chk399 v5391 v5395 v5410), ∀ a, (k0_off598 v5391 v5395 v5410) a + S1x1x32x256.size a ≤ S5x50x50x256.size a := fun v5391 v5395 v5410 k0_hw399 => k0_hw399

def k0_off599 (v5391 : BitVec 32) (v5395 : BitVec 32) (v5410 : BitVec 32) (v5413 : BitVec 32) : Fin 4 → Nat :=
  let v5420 : Index := Scalar.indexCast v5410
  let c4_i32_2233 : BitVec 32 := 4#32
  let v5396 : BitVec 32 := Scalar.shrsi v5395 c4_i32_2233
  let v5414 : BitVec 32 := Scalar.addi v5396 v5413
  let v5421 : Index := Scalar.indexCast v5414
  let c4_i32_2231 : BitVec 32 := 4#32
  let v5392 : BitVec 32 := Scalar.shrsi v5391 c4_i32_2231
  let c3_i32_2238 : BitVec 32 := 3#32
  let v5405 : BitVec 32 := Scalar.shrsi v5392 c3_i32_2238
  let c3_i32_2239 : BitVec 32 := 3#32
  let v5406 : BitVec 32 := Scalar.shli v5405 c3_i32_2239
  let c16_i32_2240 : BitVec 32 := 16#32
  let v5407 : BitVec 32 := Scalar.minsi v5406 c16_i32_2240
  let v5408 : BitVec 32 := v5407
  let v5422 : Index := Scalar.indexCast v5408
  let c0_2243 : Index := 0#32
  ![v5420.toNat, v5421.toNat, v5422.toNat, 0]

def k0_chk400 (v5391 : BitVec 32) (v5395 : BitVec 32) (v5410 : BitVec 32) (v5413 : BitVec 32) : Prop :=
  (∀ a, (k0_off599 v5391 v5395 v5410 v5413) a + S1x1x32x256.size a ≤ S5x50x50x256.size a)
theorem k0_off599_inb : ∀ (v5391 : BitVec 32) (v5395 : BitVec 32) (v5410 : BitVec 32) (v5413 : BitVec 32) (k0_hw400 : k0_chk400 v5391 v5395 v5410 v5413), ∀ a, (k0_off599 v5391 v5395 v5410 v5413) a + S1x1x32x256.size a ≤ S5x50x50x256.size a := fun v5391 v5395 v5410 v5413 k0_hw400 => k0_hw400

def k0_off600 : Fin 4 → Nat :=
  let c0_2246 : Index := 0#32
  let c0_i32 : BitVec 32 := 0#32
  let c128_i32_2227 : BitVec 32 := 128#32
  let v5384 : BitVec 32 := Scalar.muli c0_i32 c128_i32_2227
  let c99_i32 : BitVec 32 := 99#32
  let v5385 : BitVec 32 := Scalar.addi v5384 c99_i32
  let v5434 : Index := Scalar.indexCast v5385
  let c0_2247 : Index := 0#32
  let c0_2248 : Index := 0#32
  ![0, v5434.toNat, 0, 0]
def k0_off601 (i : grid0.Coords) (c0_i32_2252 : BitVec 32) : Fin 1 → Nat :=
  let arg0 : BitVec 32 := BitVec.ofNat 32 (i 0).val
  let c128_i32_2250 : BitVec 32 := 128#32
  let v5440 : BitVec 32 := Scalar.muli arg0 c128_i32_2250
  let c0_i32 : BitVec 32 := 0#32
  let c128_i32_2249 : BitVec 32 := 128#32
  let v5438 : BitVec 32 := Scalar.muli c0_i32 c128_i32_2249
  let c100_i32 : BitVec 32 := 100#32
  let v5439 : BitVec 32 := Scalar.addi v5438 c100_i32
  let v5441 : BitVec 32 := Scalar.addi v5440 v5439
  let c4_i32_2251 : BitVec 32 := 4#32
  let v5442 : BitVec 32 := Scalar.muli v5441 c4_i32_2251
  let v5443 : BitVec 32 := Scalar.addi v5442 c0_i32_2252
  let v5444 : Index := Scalar.indexCast v5443
  ![v5444.toNat]
def k0_mult101 (v5445 : BitVec 32) : BitVec 32 :=
  let c4_i32_2253 : BitVec 32 := 4#32
  let v5446 : BitVec 32 := Scalar.shrsi v5445 c4_i32_2253
  let c3_i32_2260 : BitVec 32 := 3#32
  let v5459 : BitVec 32 := Scalar.shrsi v5446 c3_i32_2260
  let c3_i32_2261 : BitVec 32 := 3#32
  let v5460 : BitVec 32 := Scalar.shli v5459 c3_i32_2261
  let c16_i32_2262 : BitVec 32 := 16#32
  let v5461 : BitVec 32 := Scalar.minsi v5460 c16_i32_2262
  v5461

def k0_chk401 (v5445 : BitVec 32) : Prop :=
  (8 ∣ (k0_mult101 v5445).toNat)
theorem k0_mult101_dvd : ∀ (v5445 : BitVec 32) (k0_hw401 : k0_chk401 v5445), 8 ∣ (k0_mult101 v5445).toNat := fun v5445 k0_hw401 => k0_hw401

def k0_off602 (v5457 : BitVec 32) : Fin 1 → Nat :=
  let c4_i32_2259 : BitVec 32 := 4#32
  let v5458 : BitVec 32 := Scalar.shrsi v5457 c4_i32_2259
  let v5463 : Index := Scalar.indexCast v5458
  ![v5463.toNat]

def k0_off603 (v5457 : BitVec 32) : Fin 1 → Nat :=
  let c32_i32_2263 : BitVec 32 := 32#32
  let c4_i32_2259 : BitVec 32 := 4#32
  let v5458 : BitVec 32 := Scalar.shrsi v5457 c4_i32_2259
  let v5465 : BitVec 32 := Scalar.addi c32_i32_2263 v5458
  let v5466 : Index := Scalar.indexCast v5465
  ![v5466.toNat]

def k0_chk402 (v5457 : BitVec 32) : Prop :=
  (∀ a, (k0_off602 v5457) a + S1.size a ≤ S64.size a) ∧
  (∀ a, (k0_off603 v5457) a + S1.size a ≤ S64.size a)
theorem k0_off602_inb : ∀ (v5457 : BitVec 32) (k0_hw402 : k0_chk402 v5457), ∀ a, (k0_off602 v5457) a + S1.size a ≤ S64.size a := fun v5457 k0_hw402 => k0_hw402.1
theorem k0_off603_inb : ∀ (v5457 : BitVec 32) (k0_hw402 : k0_chk402 v5457), ∀ a, (k0_off603 v5457) a + S1.size a ≤ S64.size a := fun v5457 k0_hw402 => k0_hw402.2

def k0_off604 (v5445 : BitVec 32) (v5449 : BitVec 32) (v5464 : BitVec 32) : Fin 4 → Nat :=
  let v5469 : Index := Scalar.indexCast v5464
  let c4_i32_2255 : BitVec 32 := 4#32
  let v5450 : BitVec 32 := Scalar.shrsi v5449 c4_i32_2255
  let v5470 : Index := Scalar.indexCast v5450
  let c4_i32_2253 : BitVec 32 := 4#32
  let v5446 : BitVec 32 := Scalar.shrsi v5445 c4_i32_2253
  let c3_i32_2260 : BitVec 32 := 3#32
  let v5459 : BitVec 32 := Scalar.shrsi v5446 c3_i32_2260
  let c3_i32_2261 : BitVec 32 := 3#32
  let v5460 : BitVec 32 := Scalar.shli v5459 c3_i32_2261
  let c16_i32_2262 : BitVec 32 := 16#32
  let v5461 : BitVec 32 := Scalar.minsi v5460 c16_i32_2262
  let v5462 : BitVec 32 := v5461
  let v5471 : Index := Scalar.indexCast v5462
  let c0_2264 : Index := 0#32
  ![v5469.toNat, v5470.toNat, v5471.toNat, 0]

def k0_chk403 (v5445 : BitVec 32) (v5449 : BitVec 32) (v5464 : BitVec 32) : Prop :=
  (∀ a, (k0_off604 v5445 v5449 v5464) a + S1x1x32x256.size a ≤ S5x50x50x256.size a)
theorem k0_off604_inb : ∀ (v5445 : BitVec 32) (v5449 : BitVec 32) (v5464 : BitVec 32) (k0_hw403 : k0_chk403 v5445 v5449 v5464), ∀ a, (k0_off604 v5445 v5449 v5464) a + S1x1x32x256.size a ≤ S5x50x50x256.size a := fun v5445 v5449 v5464 k0_hw403 => k0_hw403

def k0_off605 (v5445 : BitVec 32) (v5449 : BitVec 32) (v5464 : BitVec 32) (v5467 : BitVec 32) : Fin 4 → Nat :=
  let v5474 : Index := Scalar.indexCast v5464
  let c4_i32_2255 : BitVec 32 := 4#32
  let v5450 : BitVec 32 := Scalar.shrsi v5449 c4_i32_2255
  let v5468 : BitVec 32 := Scalar.addi v5450 v5467
  let v5475 : Index := Scalar.indexCast v5468
  let c4_i32_2253 : BitVec 32 := 4#32
  let v5446 : BitVec 32 := Scalar.shrsi v5445 c4_i32_2253
  let c3_i32_2260 : BitVec 32 := 3#32
  let v5459 : BitVec 32 := Scalar.shrsi v5446 c3_i32_2260
  let c3_i32_2261 : BitVec 32 := 3#32
  let v5460 : BitVec 32 := Scalar.shli v5459 c3_i32_2261
  let c16_i32_2262 : BitVec 32 := 16#32
  let v5461 : BitVec 32 := Scalar.minsi v5460 c16_i32_2262
  let v5462 : BitVec 32 := v5461
  let v5476 : Index := Scalar.indexCast v5462
  let c0_2265 : Index := 0#32
  ![v5474.toNat, v5475.toNat, v5476.toNat, 0]

def k0_chk404 (v5445 : BitVec 32) (v5449 : BitVec 32) (v5464 : BitVec 32) (v5467 : BitVec 32) : Prop :=
  (∀ a, (k0_off605 v5445 v5449 v5464 v5467) a + S1x1x32x256.size a ≤ S5x50x50x256.size a)
theorem k0_off605_inb : ∀ (v5445 : BitVec 32) (v5449 : BitVec 32) (v5464 : BitVec 32) (v5467 : BitVec 32) (k0_hw404 : k0_chk404 v5445 v5449 v5464 v5467), ∀ a, (k0_off605 v5445 v5449 v5464 v5467) a + S1x1x32x256.size a ≤ S5x50x50x256.size a := fun v5445 v5449 v5464 v5467 k0_hw404 => k0_hw404

def k0_off606 : Fin 4 → Nat :=
  let c0_2268 : Index := 0#32
  let c0_i32 : BitVec 32 := 0#32
  let c128_i32_2249 : BitVec 32 := 128#32
  let v5438 : BitVec 32 := Scalar.muli c0_i32 c128_i32_2249
  let c100_i32 : BitVec 32 := 100#32
  let v5439 : BitVec 32 := Scalar.addi v5438 c100_i32
  let v5488 : Index := Scalar.indexCast v5439
  let c0_2269 : Index := 0#32
  let c0_2270 : Index := 0#32
  ![0, v5488.toNat, 0, 0]
def k0_off607 (i : grid0.Coords) (c0_i32_2274 : BitVec 32) : Fin 1 → Nat :=
  let arg0 : BitVec 32 := BitVec.ofNat 32 (i 0).val
  let c128_i32_2272 : BitVec 32 := 128#32
  let v5494 : BitVec 32 := Scalar.muli arg0 c128_i32_2272
  let c0_i32 : BitVec 32 := 0#32
  let c128_i32_2271 : BitVec 32 := 128#32
  let v5492 : BitVec 32 := Scalar.muli c0_i32 c128_i32_2271
  let c101_i32 : BitVec 32 := 101#32
  let v5493 : BitVec 32 := Scalar.addi v5492 c101_i32
  let v5495 : BitVec 32 := Scalar.addi v5494 v5493
  let c4_i32_2273 : BitVec 32 := 4#32
  let v5496 : BitVec 32 := Scalar.muli v5495 c4_i32_2273
  let v5497 : BitVec 32 := Scalar.addi v5496 c0_i32_2274
  let v5498 : Index := Scalar.indexCast v5497
  ![v5498.toNat]
def k0_mult102 (v5499 : BitVec 32) : BitVec 32 :=
  let c4_i32_2275 : BitVec 32 := 4#32
  let v5500 : BitVec 32 := Scalar.shrsi v5499 c4_i32_2275
  let c3_i32_2282 : BitVec 32 := 3#32
  let v5513 : BitVec 32 := Scalar.shrsi v5500 c3_i32_2282
  let c3_i32_2283 : BitVec 32 := 3#32
  let v5514 : BitVec 32 := Scalar.shli v5513 c3_i32_2283
  let c16_i32_2284 : BitVec 32 := 16#32
  let v5515 : BitVec 32 := Scalar.minsi v5514 c16_i32_2284
  v5515

def k0_chk405 (v5499 : BitVec 32) : Prop :=
  (8 ∣ (k0_mult102 v5499).toNat)
theorem k0_mult102_dvd : ∀ (v5499 : BitVec 32) (k0_hw405 : k0_chk405 v5499), 8 ∣ (k0_mult102 v5499).toNat := fun v5499 k0_hw405 => k0_hw405

def k0_off608 (v5511 : BitVec 32) : Fin 1 → Nat :=
  let c4_i32_2281 : BitVec 32 := 4#32
  let v5512 : BitVec 32 := Scalar.shrsi v5511 c4_i32_2281
  let v5517 : Index := Scalar.indexCast v5512
  ![v5517.toNat]

def k0_off609 (v5511 : BitVec 32) : Fin 1 → Nat :=
  let c32_i32_2285 : BitVec 32 := 32#32
  let c4_i32_2281 : BitVec 32 := 4#32
  let v5512 : BitVec 32 := Scalar.shrsi v5511 c4_i32_2281
  let v5519 : BitVec 32 := Scalar.addi c32_i32_2285 v5512
  let v5520 : Index := Scalar.indexCast v5519
  ![v5520.toNat]

def k0_chk406 (v5511 : BitVec 32) : Prop :=
  (∀ a, (k0_off608 v5511) a + S1.size a ≤ S64.size a) ∧
  (∀ a, (k0_off609 v5511) a + S1.size a ≤ S64.size a)
theorem k0_off608_inb : ∀ (v5511 : BitVec 32) (k0_hw406 : k0_chk406 v5511), ∀ a, (k0_off608 v5511) a + S1.size a ≤ S64.size a := fun v5511 k0_hw406 => k0_hw406.1
theorem k0_off609_inb : ∀ (v5511 : BitVec 32) (k0_hw406 : k0_chk406 v5511), ∀ a, (k0_off609 v5511) a + S1.size a ≤ S64.size a := fun v5511 k0_hw406 => k0_hw406.2

def k0_off610 (v5499 : BitVec 32) (v5503 : BitVec 32) (v5518 : BitVec 32) : Fin 4 → Nat :=
  let v5523 : Index := Scalar.indexCast v5518
  let c4_i32_2277 : BitVec 32 := 4#32
  let v5504 : BitVec 32 := Scalar.shrsi v5503 c4_i32_2277
  let v5524 : Index := Scalar.indexCast v5504
  let c4_i32_2275 : BitVec 32 := 4#32
  let v5500 : BitVec 32 := Scalar.shrsi v5499 c4_i32_2275
  let c3_i32_2282 : BitVec 32 := 3#32
  let v5513 : BitVec 32 := Scalar.shrsi v5500 c3_i32_2282
  let c3_i32_2283 : BitVec 32 := 3#32
  let v5514 : BitVec 32 := Scalar.shli v5513 c3_i32_2283
  let c16_i32_2284 : BitVec 32 := 16#32
  let v5515 : BitVec 32 := Scalar.minsi v5514 c16_i32_2284
  let v5516 : BitVec 32 := v5515
  let v5525 : Index := Scalar.indexCast v5516
  let c0_2286 : Index := 0#32
  ![v5523.toNat, v5524.toNat, v5525.toNat, 0]

def k0_chk407 (v5499 : BitVec 32) (v5503 : BitVec 32) (v5518 : BitVec 32) : Prop :=
  (∀ a, (k0_off610 v5499 v5503 v5518) a + S1x1x32x256.size a ≤ S5x50x50x256.size a)
theorem k0_off610_inb : ∀ (v5499 : BitVec 32) (v5503 : BitVec 32) (v5518 : BitVec 32) (k0_hw407 : k0_chk407 v5499 v5503 v5518), ∀ a, (k0_off610 v5499 v5503 v5518) a + S1x1x32x256.size a ≤ S5x50x50x256.size a := fun v5499 v5503 v5518 k0_hw407 => k0_hw407

def k0_off611 (v5499 : BitVec 32) (v5503 : BitVec 32) (v5518 : BitVec 32) (v5521 : BitVec 32) : Fin 4 → Nat :=
  let v5528 : Index := Scalar.indexCast v5518
  let c4_i32_2277 : BitVec 32 := 4#32
  let v5504 : BitVec 32 := Scalar.shrsi v5503 c4_i32_2277
  let v5522 : BitVec 32 := Scalar.addi v5504 v5521
  let v5529 : Index := Scalar.indexCast v5522
  let c4_i32_2275 : BitVec 32 := 4#32
  let v5500 : BitVec 32 := Scalar.shrsi v5499 c4_i32_2275
  let c3_i32_2282 : BitVec 32 := 3#32
  let v5513 : BitVec 32 := Scalar.shrsi v5500 c3_i32_2282
  let c3_i32_2283 : BitVec 32 := 3#32
  let v5514 : BitVec 32 := Scalar.shli v5513 c3_i32_2283
  let c16_i32_2284 : BitVec 32 := 16#32
  let v5515 : BitVec 32 := Scalar.minsi v5514 c16_i32_2284
  let v5516 : BitVec 32 := v5515
  let v5530 : Index := Scalar.indexCast v5516
  let c0_2287 : Index := 0#32
  ![v5528.toNat, v5529.toNat, v5530.toNat, 0]

def k0_chk408 (v5499 : BitVec 32) (v5503 : BitVec 32) (v5518 : BitVec 32) (v5521 : BitVec 32) : Prop :=
  (∀ a, (k0_off611 v5499 v5503 v5518 v5521) a + S1x1x32x256.size a ≤ S5x50x50x256.size a)
theorem k0_off611_inb : ∀ (v5499 : BitVec 32) (v5503 : BitVec 32) (v5518 : BitVec 32) (v5521 : BitVec 32) (k0_hw408 : k0_chk408 v5499 v5503 v5518 v5521), ∀ a, (k0_off611 v5499 v5503 v5518 v5521) a + S1x1x32x256.size a ≤ S5x50x50x256.size a := fun v5499 v5503 v5518 v5521 k0_hw408 => k0_hw408

def k0_off612 : Fin 4 → Nat :=
  let c0_2290 : Index := 0#32
  let c0_i32 : BitVec 32 := 0#32
  let c128_i32_2271 : BitVec 32 := 128#32
  let v5492 : BitVec 32 := Scalar.muli c0_i32 c128_i32_2271
  let c101_i32 : BitVec 32 := 101#32
  let v5493 : BitVec 32 := Scalar.addi v5492 c101_i32
  let v5542 : Index := Scalar.indexCast v5493
  let c0_2291 : Index := 0#32
  let c0_2292 : Index := 0#32
  ![0, v5542.toNat, 0, 0]
def k0_off613 (i : grid0.Coords) (c0_i32_2296 : BitVec 32) : Fin 1 → Nat :=
  let arg0 : BitVec 32 := BitVec.ofNat 32 (i 0).val
  let c128_i32_2294 : BitVec 32 := 128#32
  let v5548 : BitVec 32 := Scalar.muli arg0 c128_i32_2294
  let c0_i32 : BitVec 32 := 0#32
  let c128_i32_2293 : BitVec 32 := 128#32
  let v5546 : BitVec 32 := Scalar.muli c0_i32 c128_i32_2293
  let c102_i32 : BitVec 32 := 102#32
  let v5547 : BitVec 32 := Scalar.addi v5546 c102_i32
  let v5549 : BitVec 32 := Scalar.addi v5548 v5547
  let c4_i32_2295 : BitVec 32 := 4#32
  let v5550 : BitVec 32 := Scalar.muli v5549 c4_i32_2295
  let v5551 : BitVec 32 := Scalar.addi v5550 c0_i32_2296
  let v5552 : Index := Scalar.indexCast v5551
  ![v5552.toNat]
def k0_mult103 (v5553 : BitVec 32) : BitVec 32 :=
  let c4_i32_2297 : BitVec 32 := 4#32
  let v5554 : BitVec 32 := Scalar.shrsi v5553 c4_i32_2297
  let c3_i32_2304 : BitVec 32 := 3#32
  let v5567 : BitVec 32 := Scalar.shrsi v5554 c3_i32_2304
  let c3_i32_2305 : BitVec 32 := 3#32
  let v5568 : BitVec 32 := Scalar.shli v5567 c3_i32_2305
  let c16_i32_2306 : BitVec 32 := 16#32
  let v5569 : BitVec 32 := Scalar.minsi v5568 c16_i32_2306
  v5569

def k0_chk409 (v5553 : BitVec 32) : Prop :=
  (8 ∣ (k0_mult103 v5553).toNat)
theorem k0_mult103_dvd : ∀ (v5553 : BitVec 32) (k0_hw409 : k0_chk409 v5553), 8 ∣ (k0_mult103 v5553).toNat := fun v5553 k0_hw409 => k0_hw409

def k0_off614 (v5565 : BitVec 32) : Fin 1 → Nat :=
  let c4_i32_2303 : BitVec 32 := 4#32
  let v5566 : BitVec 32 := Scalar.shrsi v5565 c4_i32_2303
  let v5571 : Index := Scalar.indexCast v5566
  ![v5571.toNat]

def k0_off615 (v5565 : BitVec 32) : Fin 1 → Nat :=
  let c32_i32_2307 : BitVec 32 := 32#32
  let c4_i32_2303 : BitVec 32 := 4#32
  let v5566 : BitVec 32 := Scalar.shrsi v5565 c4_i32_2303
  let v5573 : BitVec 32 := Scalar.addi c32_i32_2307 v5566
  let v5574 : Index := Scalar.indexCast v5573
  ![v5574.toNat]

def k0_chk410 (v5565 : BitVec 32) : Prop :=
  (∀ a, (k0_off614 v5565) a + S1.size a ≤ S64.size a) ∧
  (∀ a, (k0_off615 v5565) a + S1.size a ≤ S64.size a)
theorem k0_off614_inb : ∀ (v5565 : BitVec 32) (k0_hw410 : k0_chk410 v5565), ∀ a, (k0_off614 v5565) a + S1.size a ≤ S64.size a := fun v5565 k0_hw410 => k0_hw410.1
theorem k0_off615_inb : ∀ (v5565 : BitVec 32) (k0_hw410 : k0_chk410 v5565), ∀ a, (k0_off615 v5565) a + S1.size a ≤ S64.size a := fun v5565 k0_hw410 => k0_hw410.2

def k0_off616 (v5553 : BitVec 32) (v5557 : BitVec 32) (v5572 : BitVec 32) : Fin 4 → Nat :=
  let v5577 : Index := Scalar.indexCast v5572
  let c4_i32_2299 : BitVec 32 := 4#32
  let v5558 : BitVec 32 := Scalar.shrsi v5557 c4_i32_2299
  let v5578 : Index := Scalar.indexCast v5558
  let c4_i32_2297 : BitVec 32 := 4#32
  let v5554 : BitVec 32 := Scalar.shrsi v5553 c4_i32_2297
  let c3_i32_2304 : BitVec 32 := 3#32
  let v5567 : BitVec 32 := Scalar.shrsi v5554 c3_i32_2304
  let c3_i32_2305 : BitVec 32 := 3#32
  let v5568 : BitVec 32 := Scalar.shli v5567 c3_i32_2305
  let c16_i32_2306 : BitVec 32 := 16#32
  let v5569 : BitVec 32 := Scalar.minsi v5568 c16_i32_2306
  let v5570 : BitVec 32 := v5569
  let v5579 : Index := Scalar.indexCast v5570
  let c0_2308 : Index := 0#32
  ![v5577.toNat, v5578.toNat, v5579.toNat, 0]

def k0_chk411 (v5553 : BitVec 32) (v5557 : BitVec 32) (v5572 : BitVec 32) : Prop :=
  (∀ a, (k0_off616 v5553 v5557 v5572) a + S1x1x32x256.size a ≤ S5x50x50x256.size a)
theorem k0_off616_inb : ∀ (v5553 : BitVec 32) (v5557 : BitVec 32) (v5572 : BitVec 32) (k0_hw411 : k0_chk411 v5553 v5557 v5572), ∀ a, (k0_off616 v5553 v5557 v5572) a + S1x1x32x256.size a ≤ S5x50x50x256.size a := fun v5553 v5557 v5572 k0_hw411 => k0_hw411

def k0_off617 (v5553 : BitVec 32) (v5557 : BitVec 32) (v5572 : BitVec 32) (v5575 : BitVec 32) : Fin 4 → Nat :=
  let v5582 : Index := Scalar.indexCast v5572
  let c4_i32_2299 : BitVec 32 := 4#32
  let v5558 : BitVec 32 := Scalar.shrsi v5557 c4_i32_2299
  let v5576 : BitVec 32 := Scalar.addi v5558 v5575
  let v5583 : Index := Scalar.indexCast v5576
  let c4_i32_2297 : BitVec 32 := 4#32
  let v5554 : BitVec 32 := Scalar.shrsi v5553 c4_i32_2297
  let c3_i32_2304 : BitVec 32 := 3#32
  let v5567 : BitVec 32 := Scalar.shrsi v5554 c3_i32_2304
  let c3_i32_2305 : BitVec 32 := 3#32
  let v5568 : BitVec 32 := Scalar.shli v5567 c3_i32_2305
  let c16_i32_2306 : BitVec 32 := 16#32
  let v5569 : BitVec 32 := Scalar.minsi v5568 c16_i32_2306
  let v5570 : BitVec 32 := v5569
  let v5584 : Index := Scalar.indexCast v5570
  let c0_2309 : Index := 0#32
  ![v5582.toNat, v5583.toNat, v5584.toNat, 0]

def k0_chk412 (v5553 : BitVec 32) (v5557 : BitVec 32) (v5572 : BitVec 32) (v5575 : BitVec 32) : Prop :=
  (∀ a, (k0_off617 v5553 v5557 v5572 v5575) a + S1x1x32x256.size a ≤ S5x50x50x256.size a)
theorem k0_off617_inb : ∀ (v5553 : BitVec 32) (v5557 : BitVec 32) (v5572 : BitVec 32) (v5575 : BitVec 32) (k0_hw412 : k0_chk412 v5553 v5557 v5572 v5575), ∀ a, (k0_off617 v5553 v5557 v5572 v5575) a + S1x1x32x256.size a ≤ S5x50x50x256.size a := fun v5553 v5557 v5572 v5575 k0_hw412 => k0_hw412

def k0_off618 : Fin 4 → Nat :=
  let c0_2312 : Index := 0#32
  let c0_i32 : BitVec 32 := 0#32
  let c128_i32_2293 : BitVec 32 := 128#32
  let v5546 : BitVec 32 := Scalar.muli c0_i32 c128_i32_2293
  let c102_i32 : BitVec 32 := 102#32
  let v5547 : BitVec 32 := Scalar.addi v5546 c102_i32
  let v5596 : Index := Scalar.indexCast v5547
  let c0_2313 : Index := 0#32
  let c0_2314 : Index := 0#32
  ![0, v5596.toNat, 0, 0]
def k0_off619 (i : grid0.Coords) (c0_i32_2318 : BitVec 32) : Fin 1 → Nat :=
  let arg0 : BitVec 32 := BitVec.ofNat 32 (i 0).val
  let c128_i32_2316 : BitVec 32 := 128#32
  let v5602 : BitVec 32 := Scalar.muli arg0 c128_i32_2316
  let c0_i32 : BitVec 32 := 0#32
  let c128_i32_2315 : BitVec 32 := 128#32
  let v5600 : BitVec 32 := Scalar.muli c0_i32 c128_i32_2315
  let c103_i32 : BitVec 32 := 103#32
  let v5601 : BitVec 32 := Scalar.addi v5600 c103_i32
  let v5603 : BitVec 32 := Scalar.addi v5602 v5601
  let c4_i32_2317 : BitVec 32 := 4#32
  let v5604 : BitVec 32 := Scalar.muli v5603 c4_i32_2317
  let v5605 : BitVec 32 := Scalar.addi v5604 c0_i32_2318
  let v5606 : Index := Scalar.indexCast v5605
  ![v5606.toNat]
def k0_mult104 (v5607 : BitVec 32) : BitVec 32 :=
  let c4_i32_2319 : BitVec 32 := 4#32
  let v5608 : BitVec 32 := Scalar.shrsi v5607 c4_i32_2319
  let c3_i32_2326 : BitVec 32 := 3#32
  let v5621 : BitVec 32 := Scalar.shrsi v5608 c3_i32_2326
  let c3_i32_2327 : BitVec 32 := 3#32
  let v5622 : BitVec 32 := Scalar.shli v5621 c3_i32_2327
  let c16_i32_2328 : BitVec 32 := 16#32
  let v5623 : BitVec 32 := Scalar.minsi v5622 c16_i32_2328
  v5623

def k0_chk413 (v5607 : BitVec 32) : Prop :=
  (8 ∣ (k0_mult104 v5607).toNat)
theorem k0_mult104_dvd : ∀ (v5607 : BitVec 32) (k0_hw413 : k0_chk413 v5607), 8 ∣ (k0_mult104 v5607).toNat := fun v5607 k0_hw413 => k0_hw413

def k0_off620 (v5619 : BitVec 32) : Fin 1 → Nat :=
  let c4_i32_2325 : BitVec 32 := 4#32
  let v5620 : BitVec 32 := Scalar.shrsi v5619 c4_i32_2325
  let v5625 : Index := Scalar.indexCast v5620
  ![v5625.toNat]

def k0_off621 (v5619 : BitVec 32) : Fin 1 → Nat :=
  let c32_i32_2329 : BitVec 32 := 32#32
  let c4_i32_2325 : BitVec 32 := 4#32
  let v5620 : BitVec 32 := Scalar.shrsi v5619 c4_i32_2325
  let v5627 : BitVec 32 := Scalar.addi c32_i32_2329 v5620
  let v5628 : Index := Scalar.indexCast v5627
  ![v5628.toNat]

def k0_chk414 (v5619 : BitVec 32) : Prop :=
  (∀ a, (k0_off620 v5619) a + S1.size a ≤ S64.size a) ∧
  (∀ a, (k0_off621 v5619) a + S1.size a ≤ S64.size a)
theorem k0_off620_inb : ∀ (v5619 : BitVec 32) (k0_hw414 : k0_chk414 v5619), ∀ a, (k0_off620 v5619) a + S1.size a ≤ S64.size a := fun v5619 k0_hw414 => k0_hw414.1
theorem k0_off621_inb : ∀ (v5619 : BitVec 32) (k0_hw414 : k0_chk414 v5619), ∀ a, (k0_off621 v5619) a + S1.size a ≤ S64.size a := fun v5619 k0_hw414 => k0_hw414.2

def k0_off622 (v5607 : BitVec 32) (v5611 : BitVec 32) (v5626 : BitVec 32) : Fin 4 → Nat :=
  let v5631 : Index := Scalar.indexCast v5626
  let c4_i32_2321 : BitVec 32 := 4#32
  let v5612 : BitVec 32 := Scalar.shrsi v5611 c4_i32_2321
  let v5632 : Index := Scalar.indexCast v5612
  let c4_i32_2319 : BitVec 32 := 4#32
  let v5608 : BitVec 32 := Scalar.shrsi v5607 c4_i32_2319
  let c3_i32_2326 : BitVec 32 := 3#32
  let v5621 : BitVec 32 := Scalar.shrsi v5608 c3_i32_2326
  let c3_i32_2327 : BitVec 32 := 3#32
  let v5622 : BitVec 32 := Scalar.shli v5621 c3_i32_2327
  let c16_i32_2328 : BitVec 32 := 16#32
  let v5623 : BitVec 32 := Scalar.minsi v5622 c16_i32_2328
  let v5624 : BitVec 32 := v5623
  let v5633 : Index := Scalar.indexCast v5624
  let c0_2330 : Index := 0#32
  ![v5631.toNat, v5632.toNat, v5633.toNat, 0]

def k0_chk415 (v5607 : BitVec 32) (v5611 : BitVec 32) (v5626 : BitVec 32) : Prop :=
  (∀ a, (k0_off622 v5607 v5611 v5626) a + S1x1x32x256.size a ≤ S5x50x50x256.size a)
theorem k0_off622_inb : ∀ (v5607 : BitVec 32) (v5611 : BitVec 32) (v5626 : BitVec 32) (k0_hw415 : k0_chk415 v5607 v5611 v5626), ∀ a, (k0_off622 v5607 v5611 v5626) a + S1x1x32x256.size a ≤ S5x50x50x256.size a := fun v5607 v5611 v5626 k0_hw415 => k0_hw415

def k0_off623 (v5607 : BitVec 32) (v5611 : BitVec 32) (v5626 : BitVec 32) (v5629 : BitVec 32) : Fin 4 → Nat :=
  let v5636 : Index := Scalar.indexCast v5626
  let c4_i32_2321 : BitVec 32 := 4#32
  let v5612 : BitVec 32 := Scalar.shrsi v5611 c4_i32_2321
  let v5630 : BitVec 32 := Scalar.addi v5612 v5629
  let v5637 : Index := Scalar.indexCast v5630
  let c4_i32_2319 : BitVec 32 := 4#32
  let v5608 : BitVec 32 := Scalar.shrsi v5607 c4_i32_2319
  let c3_i32_2326 : BitVec 32 := 3#32
  let v5621 : BitVec 32 := Scalar.shrsi v5608 c3_i32_2326
  let c3_i32_2327 : BitVec 32 := 3#32
  let v5622 : BitVec 32 := Scalar.shli v5621 c3_i32_2327
  let c16_i32_2328 : BitVec 32 := 16#32
  let v5623 : BitVec 32 := Scalar.minsi v5622 c16_i32_2328
  let v5624 : BitVec 32 := v5623
  let v5638 : Index := Scalar.indexCast v5624
  let c0_2331 : Index := 0#32
  ![v5636.toNat, v5637.toNat, v5638.toNat, 0]

def k0_chk416 (v5607 : BitVec 32) (v5611 : BitVec 32) (v5626 : BitVec 32) (v5629 : BitVec 32) : Prop :=
  (∀ a, (k0_off623 v5607 v5611 v5626 v5629) a + S1x1x32x256.size a ≤ S5x50x50x256.size a)
theorem k0_off623_inb : ∀ (v5607 : BitVec 32) (v5611 : BitVec 32) (v5626 : BitVec 32) (v5629 : BitVec 32) (k0_hw416 : k0_chk416 v5607 v5611 v5626 v5629), ∀ a, (k0_off623 v5607 v5611 v5626 v5629) a + S1x1x32x256.size a ≤ S5x50x50x256.size a := fun v5607 v5611 v5626 v5629 k0_hw416 => k0_hw416

def k0_off624 : Fin 4 → Nat :=
  let c0_2334 : Index := 0#32
  let c0_i32 : BitVec 32 := 0#32
  let c128_i32_2315 : BitVec 32 := 128#32
  let v5600 : BitVec 32 := Scalar.muli c0_i32 c128_i32_2315
  let c103_i32 : BitVec 32 := 103#32
  let v5601 : BitVec 32 := Scalar.addi v5600 c103_i32
  let v5650 : Index := Scalar.indexCast v5601
  let c0_2335 : Index := 0#32
  let c0_2336 : Index := 0#32
  ![0, v5650.toNat, 0, 0]
def k0_off625 (i : grid0.Coords) (c0_i32_2340 : BitVec 32) : Fin 1 → Nat :=
  let arg0 : BitVec 32 := BitVec.ofNat 32 (i 0).val
  let c128_i32_2338 : BitVec 32 := 128#32
  let v5656 : BitVec 32 := Scalar.muli arg0 c128_i32_2338
  let c0_i32 : BitVec 32 := 0#32
  let c128_i32_2337 : BitVec 32 := 128#32
  let v5654 : BitVec 32 := Scalar.muli c0_i32 c128_i32_2337
  let c104_i32 : BitVec 32 := 104#32
  let v5655 : BitVec 32 := Scalar.addi v5654 c104_i32
  let v5657 : BitVec 32 := Scalar.addi v5656 v5655
  let c4_i32_2339 : BitVec 32 := 4#32
  let v5658 : BitVec 32 := Scalar.muli v5657 c4_i32_2339
  let v5659 : BitVec 32 := Scalar.addi v5658 c0_i32_2340
  let v5660 : Index := Scalar.indexCast v5659
  ![v5660.toNat]
def k0_mult105 (v5661 : BitVec 32) : BitVec 32 :=
  let c4_i32_2341 : BitVec 32 := 4#32
  let v5662 : BitVec 32 := Scalar.shrsi v5661 c4_i32_2341
  let c3_i32_2348 : BitVec 32 := 3#32
  let v5675 : BitVec 32 := Scalar.shrsi v5662 c3_i32_2348
  let c3_i32_2349 : BitVec 32 := 3#32
  let v5676 : BitVec 32 := Scalar.shli v5675 c3_i32_2349
  let c16_i32_2350 : BitVec 32 := 16#32
  let v5677 : BitVec 32 := Scalar.minsi v5676 c16_i32_2350
  v5677

def k0_chk417 (v5661 : BitVec 32) : Prop :=
  (8 ∣ (k0_mult105 v5661).toNat)
theorem k0_mult105_dvd : ∀ (v5661 : BitVec 32) (k0_hw417 : k0_chk417 v5661), 8 ∣ (k0_mult105 v5661).toNat := fun v5661 k0_hw417 => k0_hw417

def k0_off626 (v5673 : BitVec 32) : Fin 1 → Nat :=
  let c4_i32_2347 : BitVec 32 := 4#32
  let v5674 : BitVec 32 := Scalar.shrsi v5673 c4_i32_2347
  let v5679 : Index := Scalar.indexCast v5674
  ![v5679.toNat]

def k0_off627 (v5673 : BitVec 32) : Fin 1 → Nat :=
  let c32_i32_2351 : BitVec 32 := 32#32
  let c4_i32_2347 : BitVec 32 := 4#32
  let v5674 : BitVec 32 := Scalar.shrsi v5673 c4_i32_2347
  let v5681 : BitVec 32 := Scalar.addi c32_i32_2351 v5674
  let v5682 : Index := Scalar.indexCast v5681
  ![v5682.toNat]

def k0_chk418 (v5673 : BitVec 32) : Prop :=
  (∀ a, (k0_off626 v5673) a + S1.size a ≤ S64.size a) ∧
  (∀ a, (k0_off627 v5673) a + S1.size a ≤ S64.size a)
theorem k0_off626_inb : ∀ (v5673 : BitVec 32) (k0_hw418 : k0_chk418 v5673), ∀ a, (k0_off626 v5673) a + S1.size a ≤ S64.size a := fun v5673 k0_hw418 => k0_hw418.1
theorem k0_off627_inb : ∀ (v5673 : BitVec 32) (k0_hw418 : k0_chk418 v5673), ∀ a, (k0_off627 v5673) a + S1.size a ≤ S64.size a := fun v5673 k0_hw418 => k0_hw418.2

def k0_off628 (v5661 : BitVec 32) (v5665 : BitVec 32) (v5680 : BitVec 32) : Fin 4 → Nat :=
  let v5685 : Index := Scalar.indexCast v5680
  let c4_i32_2343 : BitVec 32 := 4#32
  let v5666 : BitVec 32 := Scalar.shrsi v5665 c4_i32_2343
  let v5686 : Index := Scalar.indexCast v5666
  let c4_i32_2341 : BitVec 32 := 4#32
  let v5662 : BitVec 32 := Scalar.shrsi v5661 c4_i32_2341
  let c3_i32_2348 : BitVec 32 := 3#32
  let v5675 : BitVec 32 := Scalar.shrsi v5662 c3_i32_2348
  let c3_i32_2349 : BitVec 32 := 3#32
  let v5676 : BitVec 32 := Scalar.shli v5675 c3_i32_2349
  let c16_i32_2350 : BitVec 32 := 16#32
  let v5677 : BitVec 32 := Scalar.minsi v5676 c16_i32_2350
  let v5678 : BitVec 32 := v5677
  let v5687 : Index := Scalar.indexCast v5678
  let c0_2352 : Index := 0#32
  ![v5685.toNat, v5686.toNat, v5687.toNat, 0]

def k0_chk419 (v5661 : BitVec 32) (v5665 : BitVec 32) (v5680 : BitVec 32) : Prop :=
  (∀ a, (k0_off628 v5661 v5665 v5680) a + S1x1x32x256.size a ≤ S5x50x50x256.size a)
theorem k0_off628_inb : ∀ (v5661 : BitVec 32) (v5665 : BitVec 32) (v5680 : BitVec 32) (k0_hw419 : k0_chk419 v5661 v5665 v5680), ∀ a, (k0_off628 v5661 v5665 v5680) a + S1x1x32x256.size a ≤ S5x50x50x256.size a := fun v5661 v5665 v5680 k0_hw419 => k0_hw419

def k0_off629 (v5661 : BitVec 32) (v5665 : BitVec 32) (v5680 : BitVec 32) (v5683 : BitVec 32) : Fin 4 → Nat :=
  let v5690 : Index := Scalar.indexCast v5680
  let c4_i32_2343 : BitVec 32 := 4#32
  let v5666 : BitVec 32 := Scalar.shrsi v5665 c4_i32_2343
  let v5684 : BitVec 32 := Scalar.addi v5666 v5683
  let v5691 : Index := Scalar.indexCast v5684
  let c4_i32_2341 : BitVec 32 := 4#32
  let v5662 : BitVec 32 := Scalar.shrsi v5661 c4_i32_2341
  let c3_i32_2348 : BitVec 32 := 3#32
  let v5675 : BitVec 32 := Scalar.shrsi v5662 c3_i32_2348
  let c3_i32_2349 : BitVec 32 := 3#32
  let v5676 : BitVec 32 := Scalar.shli v5675 c3_i32_2349
  let c16_i32_2350 : BitVec 32 := 16#32
  let v5677 : BitVec 32 := Scalar.minsi v5676 c16_i32_2350
  let v5678 : BitVec 32 := v5677
  let v5692 : Index := Scalar.indexCast v5678
  let c0_2353 : Index := 0#32
  ![v5690.toNat, v5691.toNat, v5692.toNat, 0]

def k0_chk420 (v5661 : BitVec 32) (v5665 : BitVec 32) (v5680 : BitVec 32) (v5683 : BitVec 32) : Prop :=
  (∀ a, (k0_off629 v5661 v5665 v5680 v5683) a + S1x1x32x256.size a ≤ S5x50x50x256.size a)
theorem k0_off629_inb : ∀ (v5661 : BitVec 32) (v5665 : BitVec 32) (v5680 : BitVec 32) (v5683 : BitVec 32) (k0_hw420 : k0_chk420 v5661 v5665 v5680 v5683), ∀ a, (k0_off629 v5661 v5665 v5680 v5683) a + S1x1x32x256.size a ≤ S5x50x50x256.size a := fun v5661 v5665 v5680 v5683 k0_hw420 => k0_hw420

def k0_off630 : Fin 4 → Nat :=
  let c0_2356 : Index := 0#32
  let c0_i32 : BitVec 32 := 0#32
  let c128_i32_2337 : BitVec 32 := 128#32
  let v5654 : BitVec 32 := Scalar.muli c0_i32 c128_i32_2337
  let c104_i32 : BitVec 32 := 104#32
  let v5655 : BitVec 32 := Scalar.addi v5654 c104_i32
  let v5704 : Index := Scalar.indexCast v5655
  let c0_2357 : Index := 0#32
  let c0_2358 : Index := 0#32
  ![0, v5704.toNat, 0, 0]
def k0_off631 (i : grid0.Coords) (c0_i32_2362 : BitVec 32) : Fin 1 → Nat :=
  let arg0 : BitVec 32 := BitVec.ofNat 32 (i 0).val
  let c128_i32_2360 : BitVec 32 := 128#32
  let v5710 : BitVec 32 := Scalar.muli arg0 c128_i32_2360
  let c0_i32 : BitVec 32 := 0#32
  let c128_i32_2359 : BitVec 32 := 128#32
  let v5708 : BitVec 32 := Scalar.muli c0_i32 c128_i32_2359
  let c105_i32 : BitVec 32 := 105#32
  let v5709 : BitVec 32 := Scalar.addi v5708 c105_i32
  let v5711 : BitVec 32 := Scalar.addi v5710 v5709
  let c4_i32_2361 : BitVec 32 := 4#32
  let v5712 : BitVec 32 := Scalar.muli v5711 c4_i32_2361
  let v5713 : BitVec 32 := Scalar.addi v5712 c0_i32_2362
  let v5714 : Index := Scalar.indexCast v5713
  ![v5714.toNat]
def k0_mult106 (v5715 : BitVec 32) : BitVec 32 :=
  let c4_i32_2363 : BitVec 32 := 4#32
  let v5716 : BitVec 32 := Scalar.shrsi v5715 c4_i32_2363
  let c3_i32_2370 : BitVec 32 := 3#32
  let v5729 : BitVec 32 := Scalar.shrsi v5716 c3_i32_2370
  let c3_i32_2371 : BitVec 32 := 3#32
  let v5730 : BitVec 32 := Scalar.shli v5729 c3_i32_2371
  let c16_i32_2372 : BitVec 32 := 16#32
  let v5731 : BitVec 32 := Scalar.minsi v5730 c16_i32_2372
  v5731

def k0_chk421 (v5715 : BitVec 32) : Prop :=
  (8 ∣ (k0_mult106 v5715).toNat)
theorem k0_mult106_dvd : ∀ (v5715 : BitVec 32) (k0_hw421 : k0_chk421 v5715), 8 ∣ (k0_mult106 v5715).toNat := fun v5715 k0_hw421 => k0_hw421

def k0_off632 (v5727 : BitVec 32) : Fin 1 → Nat :=
  let c4_i32_2369 : BitVec 32 := 4#32
  let v5728 : BitVec 32 := Scalar.shrsi v5727 c4_i32_2369
  let v5733 : Index := Scalar.indexCast v5728
  ![v5733.toNat]

def k0_off633 (v5727 : BitVec 32) : Fin 1 → Nat :=
  let c32_i32_2373 : BitVec 32 := 32#32
  let c4_i32_2369 : BitVec 32 := 4#32
  let v5728 : BitVec 32 := Scalar.shrsi v5727 c4_i32_2369
  let v5735 : BitVec 32 := Scalar.addi c32_i32_2373 v5728
  let v5736 : Index := Scalar.indexCast v5735
  ![v5736.toNat]

def k0_chk422 (v5727 : BitVec 32) : Prop :=
  (∀ a, (k0_off632 v5727) a + S1.size a ≤ S64.size a) ∧
  (∀ a, (k0_off633 v5727) a + S1.size a ≤ S64.size a)
theorem k0_off632_inb : ∀ (v5727 : BitVec 32) (k0_hw422 : k0_chk422 v5727), ∀ a, (k0_off632 v5727) a + S1.size a ≤ S64.size a := fun v5727 k0_hw422 => k0_hw422.1
theorem k0_off633_inb : ∀ (v5727 : BitVec 32) (k0_hw422 : k0_chk422 v5727), ∀ a, (k0_off633 v5727) a + S1.size a ≤ S64.size a := fun v5727 k0_hw422 => k0_hw422.2

def k0_off634 (v5715 : BitVec 32) (v5719 : BitVec 32) (v5734 : BitVec 32) : Fin 4 → Nat :=
  let v5739 : Index := Scalar.indexCast v5734
  let c4_i32_2365 : BitVec 32 := 4#32
  let v5720 : BitVec 32 := Scalar.shrsi v5719 c4_i32_2365
  let v5740 : Index := Scalar.indexCast v5720
  let c4_i32_2363 : BitVec 32 := 4#32
  let v5716 : BitVec 32 := Scalar.shrsi v5715 c4_i32_2363
  let c3_i32_2370 : BitVec 32 := 3#32
  let v5729 : BitVec 32 := Scalar.shrsi v5716 c3_i32_2370
  let c3_i32_2371 : BitVec 32 := 3#32
  let v5730 : BitVec 32 := Scalar.shli v5729 c3_i32_2371
  let c16_i32_2372 : BitVec 32 := 16#32
  let v5731 : BitVec 32 := Scalar.minsi v5730 c16_i32_2372
  let v5732 : BitVec 32 := v5731
  let v5741 : Index := Scalar.indexCast v5732
  let c0_2374 : Index := 0#32
  ![v5739.toNat, v5740.toNat, v5741.toNat, 0]

def k0_chk423 (v5715 : BitVec 32) (v5719 : BitVec 32) (v5734 : BitVec 32) : Prop :=
  (∀ a, (k0_off634 v5715 v5719 v5734) a + S1x1x32x256.size a ≤ S5x50x50x256.size a)
theorem k0_off634_inb : ∀ (v5715 : BitVec 32) (v5719 : BitVec 32) (v5734 : BitVec 32) (k0_hw423 : k0_chk423 v5715 v5719 v5734), ∀ a, (k0_off634 v5715 v5719 v5734) a + S1x1x32x256.size a ≤ S5x50x50x256.size a := fun v5715 v5719 v5734 k0_hw423 => k0_hw423

def k0_off635 (v5715 : BitVec 32) (v5719 : BitVec 32) (v5734 : BitVec 32) (v5737 : BitVec 32) : Fin 4 → Nat :=
  let v5744 : Index := Scalar.indexCast v5734
  let c4_i32_2365 : BitVec 32 := 4#32
  let v5720 : BitVec 32 := Scalar.shrsi v5719 c4_i32_2365
  let v5738 : BitVec 32 := Scalar.addi v5720 v5737
  let v5745 : Index := Scalar.indexCast v5738
  let c4_i32_2363 : BitVec 32 := 4#32
  let v5716 : BitVec 32 := Scalar.shrsi v5715 c4_i32_2363
  let c3_i32_2370 : BitVec 32 := 3#32
  let v5729 : BitVec 32 := Scalar.shrsi v5716 c3_i32_2370
  let c3_i32_2371 : BitVec 32 := 3#32
  let v5730 : BitVec 32 := Scalar.shli v5729 c3_i32_2371
  let c16_i32_2372 : BitVec 32 := 16#32
  let v5731 : BitVec 32 := Scalar.minsi v5730 c16_i32_2372
  let v5732 : BitVec 32 := v5731
  let v5746 : Index := Scalar.indexCast v5732
  let c0_2375 : Index := 0#32
  ![v5744.toNat, v5745.toNat, v5746.toNat, 0]

def k0_chk424 (v5715 : BitVec 32) (v5719 : BitVec 32) (v5734 : BitVec 32) (v5737 : BitVec 32) : Prop :=
  (∀ a, (k0_off635 v5715 v5719 v5734 v5737) a + S1x1x32x256.size a ≤ S5x50x50x256.size a)
theorem k0_off635_inb : ∀ (v5715 : BitVec 32) (v5719 : BitVec 32) (v5734 : BitVec 32) (v5737 : BitVec 32) (k0_hw424 : k0_chk424 v5715 v5719 v5734 v5737), ∀ a, (k0_off635 v5715 v5719 v5734 v5737) a + S1x1x32x256.size a ≤ S5x50x50x256.size a := fun v5715 v5719 v5734 v5737 k0_hw424 => k0_hw424

def k0_off636 : Fin 4 → Nat :=
  let c0_2378 : Index := 0#32
  let c0_i32 : BitVec 32 := 0#32
  let c128_i32_2359 : BitVec 32 := 128#32
  let v5708 : BitVec 32 := Scalar.muli c0_i32 c128_i32_2359
  let c105_i32 : BitVec 32 := 105#32
  let v5709 : BitVec 32 := Scalar.addi v5708 c105_i32
  let v5758 : Index := Scalar.indexCast v5709
  let c0_2379 : Index := 0#32
  let c0_2380 : Index := 0#32
  ![0, v5758.toNat, 0, 0]
def k0_off637 (i : grid0.Coords) (c0_i32_2384 : BitVec 32) : Fin 1 → Nat :=
  let arg0 : BitVec 32 := BitVec.ofNat 32 (i 0).val
  let c128_i32_2382 : BitVec 32 := 128#32
  let v5764 : BitVec 32 := Scalar.muli arg0 c128_i32_2382
  let c0_i32 : BitVec 32 := 0#32
  let c128_i32_2381 : BitVec 32 := 128#32
  let v5762 : BitVec 32 := Scalar.muli c0_i32 c128_i32_2381
  let c106_i32 : BitVec 32 := 106#32
  let v5763 : BitVec 32 := Scalar.addi v5762 c106_i32
  let v5765 : BitVec 32 := Scalar.addi v5764 v5763
  let c4_i32_2383 : BitVec 32 := 4#32
  let v5766 : BitVec 32 := Scalar.muli v5765 c4_i32_2383
  let v5767 : BitVec 32 := Scalar.addi v5766 c0_i32_2384
  let v5768 : Index := Scalar.indexCast v5767
  ![v5768.toNat]
def k0_mult107 (v5769 : BitVec 32) : BitVec 32 :=
  let c4_i32_2385 : BitVec 32 := 4#32
  let v5770 : BitVec 32 := Scalar.shrsi v5769 c4_i32_2385
  let c3_i32_2392 : BitVec 32 := 3#32
  let v5783 : BitVec 32 := Scalar.shrsi v5770 c3_i32_2392
  let c3_i32_2393 : BitVec 32 := 3#32
  let v5784 : BitVec 32 := Scalar.shli v5783 c3_i32_2393
  let c16_i32_2394 : BitVec 32 := 16#32
  let v5785 : BitVec 32 := Scalar.minsi v5784 c16_i32_2394
  v5785

def k0_chk425 (v5769 : BitVec 32) : Prop :=
  (8 ∣ (k0_mult107 v5769).toNat)
theorem k0_mult107_dvd : ∀ (v5769 : BitVec 32) (k0_hw425 : k0_chk425 v5769), 8 ∣ (k0_mult107 v5769).toNat := fun v5769 k0_hw425 => k0_hw425

def k0_off638 (v5781 : BitVec 32) : Fin 1 → Nat :=
  let c4_i32_2391 : BitVec 32 := 4#32
  let v5782 : BitVec 32 := Scalar.shrsi v5781 c4_i32_2391
  let v5787 : Index := Scalar.indexCast v5782
  ![v5787.toNat]

def k0_off639 (v5781 : BitVec 32) : Fin 1 → Nat :=
  let c32_i32_2395 : BitVec 32 := 32#32
  let c4_i32_2391 : BitVec 32 := 4#32
  let v5782 : BitVec 32 := Scalar.shrsi v5781 c4_i32_2391
  let v5789 : BitVec 32 := Scalar.addi c32_i32_2395 v5782
  let v5790 : Index := Scalar.indexCast v5789
  ![v5790.toNat]

def k0_chk426 (v5781 : BitVec 32) : Prop :=
  (∀ a, (k0_off638 v5781) a + S1.size a ≤ S64.size a) ∧
  (∀ a, (k0_off639 v5781) a + S1.size a ≤ S64.size a)
theorem k0_off638_inb : ∀ (v5781 : BitVec 32) (k0_hw426 : k0_chk426 v5781), ∀ a, (k0_off638 v5781) a + S1.size a ≤ S64.size a := fun v5781 k0_hw426 => k0_hw426.1
theorem k0_off639_inb : ∀ (v5781 : BitVec 32) (k0_hw426 : k0_chk426 v5781), ∀ a, (k0_off639 v5781) a + S1.size a ≤ S64.size a := fun v5781 k0_hw426 => k0_hw426.2

def k0_off640 (v5769 : BitVec 32) (v5773 : BitVec 32) (v5788 : BitVec 32) : Fin 4 → Nat :=
  let v5793 : Index := Scalar.indexCast v5788
  let c4_i32_2387 : BitVec 32 := 4#32
  let v5774 : BitVec 32 := Scalar.shrsi v5773 c4_i32_2387
  let v5794 : Index := Scalar.indexCast v5774
  let c4_i32_2385 : BitVec 32 := 4#32
  let v5770 : BitVec 32 := Scalar.shrsi v5769 c4_i32_2385
  let c3_i32_2392 : BitVec 32 := 3#32
  let v5783 : BitVec 32 := Scalar.shrsi v5770 c3_i32_2392
  let c3_i32_2393 : BitVec 32 := 3#32
  let v5784 : BitVec 32 := Scalar.shli v5783 c3_i32_2393
  let c16_i32_2394 : BitVec 32 := 16#32
  let v5785 : BitVec 32 := Scalar.minsi v5784 c16_i32_2394
  let v5786 : BitVec 32 := v5785
  let v5795 : Index := Scalar.indexCast v5786
  let c0_2396 : Index := 0#32
  ![v5793.toNat, v5794.toNat, v5795.toNat, 0]

def k0_chk427 (v5769 : BitVec 32) (v5773 : BitVec 32) (v5788 : BitVec 32) : Prop :=
  (∀ a, (k0_off640 v5769 v5773 v5788) a + S1x1x32x256.size a ≤ S5x50x50x256.size a)
theorem k0_off640_inb : ∀ (v5769 : BitVec 32) (v5773 : BitVec 32) (v5788 : BitVec 32) (k0_hw427 : k0_chk427 v5769 v5773 v5788), ∀ a, (k0_off640 v5769 v5773 v5788) a + S1x1x32x256.size a ≤ S5x50x50x256.size a := fun v5769 v5773 v5788 k0_hw427 => k0_hw427

def k0_off641 (v5769 : BitVec 32) (v5773 : BitVec 32) (v5788 : BitVec 32) (v5791 : BitVec 32) : Fin 4 → Nat :=
  let v5798 : Index := Scalar.indexCast v5788
  let c4_i32_2387 : BitVec 32 := 4#32
  let v5774 : BitVec 32 := Scalar.shrsi v5773 c4_i32_2387
  let v5792 : BitVec 32 := Scalar.addi v5774 v5791
  let v5799 : Index := Scalar.indexCast v5792
  let c4_i32_2385 : BitVec 32 := 4#32
  let v5770 : BitVec 32 := Scalar.shrsi v5769 c4_i32_2385
  let c3_i32_2392 : BitVec 32 := 3#32
  let v5783 : BitVec 32 := Scalar.shrsi v5770 c3_i32_2392
  let c3_i32_2393 : BitVec 32 := 3#32
  let v5784 : BitVec 32 := Scalar.shli v5783 c3_i32_2393
  let c16_i32_2394 : BitVec 32 := 16#32
  let v5785 : BitVec 32 := Scalar.minsi v5784 c16_i32_2394
  let v5786 : BitVec 32 := v5785
  let v5800 : Index := Scalar.indexCast v5786
  let c0_2397 : Index := 0#32
  ![v5798.toNat, v5799.toNat, v5800.toNat, 0]

def k0_chk428 (v5769 : BitVec 32) (v5773 : BitVec 32) (v5788 : BitVec 32) (v5791 : BitVec 32) : Prop :=
  (∀ a, (k0_off641 v5769 v5773 v5788 v5791) a + S1x1x32x256.size a ≤ S5x50x50x256.size a)
theorem k0_off641_inb : ∀ (v5769 : BitVec 32) (v5773 : BitVec 32) (v5788 : BitVec 32) (v5791 : BitVec 32) (k0_hw428 : k0_chk428 v5769 v5773 v5788 v5791), ∀ a, (k0_off641 v5769 v5773 v5788 v5791) a + S1x1x32x256.size a ≤ S5x50x50x256.size a := fun v5769 v5773 v5788 v5791 k0_hw428 => k0_hw428

def k0_off642 : Fin 4 → Nat :=
  let c0_2400 : Index := 0#32
  let c0_i32 : BitVec 32 := 0#32
  let c128_i32_2381 : BitVec 32 := 128#32
  let v5762 : BitVec 32 := Scalar.muli c0_i32 c128_i32_2381
  let c106_i32 : BitVec 32 := 106#32
  let v5763 : BitVec 32 := Scalar.addi v5762 c106_i32
  let v5812 : Index := Scalar.indexCast v5763
  let c0_2401 : Index := 0#32
  let c0_2402 : Index := 0#32
  ![0, v5812.toNat, 0, 0]
def k0_off643 (i : grid0.Coords) (c0_i32_2406 : BitVec 32) : Fin 1 → Nat :=
  let arg0 : BitVec 32 := BitVec.ofNat 32 (i 0).val
  let c128_i32_2404 : BitVec 32 := 128#32
  let v5818 : BitVec 32 := Scalar.muli arg0 c128_i32_2404
  let c0_i32 : BitVec 32 := 0#32
  let c128_i32_2403 : BitVec 32 := 128#32
  let v5816 : BitVec 32 := Scalar.muli c0_i32 c128_i32_2403
  let c107_i32 : BitVec 32 := 107#32
  let v5817 : BitVec 32 := Scalar.addi v5816 c107_i32
  let v5819 : BitVec 32 := Scalar.addi v5818 v5817
  let c4_i32_2405 : BitVec 32 := 4#32
  let v5820 : BitVec 32 := Scalar.muli v5819 c4_i32_2405
  let v5821 : BitVec 32 := Scalar.addi v5820 c0_i32_2406
  let v5822 : Index := Scalar.indexCast v5821
  ![v5822.toNat]
def k0_mult108 (v5823 : BitVec 32) : BitVec 32 :=
  let c4_i32_2407 : BitVec 32 := 4#32
  let v5824 : BitVec 32 := Scalar.shrsi v5823 c4_i32_2407
  let c3_i32_2414 : BitVec 32 := 3#32
  let v5837 : BitVec 32 := Scalar.shrsi v5824 c3_i32_2414
  let c3_i32_2415 : BitVec 32 := 3#32
  let v5838 : BitVec 32 := Scalar.shli v5837 c3_i32_2415
  let c16_i32_2416 : BitVec 32 := 16#32
  let v5839 : BitVec 32 := Scalar.minsi v5838 c16_i32_2416
  v5839

def k0_chk429 (v5823 : BitVec 32) : Prop :=
  (8 ∣ (k0_mult108 v5823).toNat)
theorem k0_mult108_dvd : ∀ (v5823 : BitVec 32) (k0_hw429 : k0_chk429 v5823), 8 ∣ (k0_mult108 v5823).toNat := fun v5823 k0_hw429 => k0_hw429

def k0_off644 (v5835 : BitVec 32) : Fin 1 → Nat :=
  let c4_i32_2413 : BitVec 32 := 4#32
  let v5836 : BitVec 32 := Scalar.shrsi v5835 c4_i32_2413
  let v5841 : Index := Scalar.indexCast v5836
  ![v5841.toNat]

def k0_off645 (v5835 : BitVec 32) : Fin 1 → Nat :=
  let c32_i32_2417 : BitVec 32 := 32#32
  let c4_i32_2413 : BitVec 32 := 4#32
  let v5836 : BitVec 32 := Scalar.shrsi v5835 c4_i32_2413
  let v5843 : BitVec 32 := Scalar.addi c32_i32_2417 v5836
  let v5844 : Index := Scalar.indexCast v5843
  ![v5844.toNat]

def k0_chk430 (v5835 : BitVec 32) : Prop :=
  (∀ a, (k0_off644 v5835) a + S1.size a ≤ S64.size a) ∧
  (∀ a, (k0_off645 v5835) a + S1.size a ≤ S64.size a)
theorem k0_off644_inb : ∀ (v5835 : BitVec 32) (k0_hw430 : k0_chk430 v5835), ∀ a, (k0_off644 v5835) a + S1.size a ≤ S64.size a := fun v5835 k0_hw430 => k0_hw430.1
theorem k0_off645_inb : ∀ (v5835 : BitVec 32) (k0_hw430 : k0_chk430 v5835), ∀ a, (k0_off645 v5835) a + S1.size a ≤ S64.size a := fun v5835 k0_hw430 => k0_hw430.2

def k0_off646 (v5823 : BitVec 32) (v5827 : BitVec 32) (v5842 : BitVec 32) : Fin 4 → Nat :=
  let v5847 : Index := Scalar.indexCast v5842
  let c4_i32_2409 : BitVec 32 := 4#32
  let v5828 : BitVec 32 := Scalar.shrsi v5827 c4_i32_2409
  let v5848 : Index := Scalar.indexCast v5828
  let c4_i32_2407 : BitVec 32 := 4#32
  let v5824 : BitVec 32 := Scalar.shrsi v5823 c4_i32_2407
  let c3_i32_2414 : BitVec 32 := 3#32
  let v5837 : BitVec 32 := Scalar.shrsi v5824 c3_i32_2414
  let c3_i32_2415 : BitVec 32 := 3#32
  let v5838 : BitVec 32 := Scalar.shli v5837 c3_i32_2415
  let c16_i32_2416 : BitVec 32 := 16#32
  let v5839 : BitVec 32 := Scalar.minsi v5838 c16_i32_2416
  let v5840 : BitVec 32 := v5839
  let v5849 : Index := Scalar.indexCast v5840
  let c0_2418 : Index := 0#32
  ![v5847.toNat, v5848.toNat, v5849.toNat, 0]

def k0_chk431 (v5823 : BitVec 32) (v5827 : BitVec 32) (v5842 : BitVec 32) : Prop :=
  (∀ a, (k0_off646 v5823 v5827 v5842) a + S1x1x32x256.size a ≤ S5x50x50x256.size a)
theorem k0_off646_inb : ∀ (v5823 : BitVec 32) (v5827 : BitVec 32) (v5842 : BitVec 32) (k0_hw431 : k0_chk431 v5823 v5827 v5842), ∀ a, (k0_off646 v5823 v5827 v5842) a + S1x1x32x256.size a ≤ S5x50x50x256.size a := fun v5823 v5827 v5842 k0_hw431 => k0_hw431

def k0_off647 (v5823 : BitVec 32) (v5827 : BitVec 32) (v5842 : BitVec 32) (v5845 : BitVec 32) : Fin 4 → Nat :=
  let v5852 : Index := Scalar.indexCast v5842
  let c4_i32_2409 : BitVec 32 := 4#32
  let v5828 : BitVec 32 := Scalar.shrsi v5827 c4_i32_2409
  let v5846 : BitVec 32 := Scalar.addi v5828 v5845
  let v5853 : Index := Scalar.indexCast v5846
  let c4_i32_2407 : BitVec 32 := 4#32
  let v5824 : BitVec 32 := Scalar.shrsi v5823 c4_i32_2407
  let c3_i32_2414 : BitVec 32 := 3#32
  let v5837 : BitVec 32 := Scalar.shrsi v5824 c3_i32_2414
  let c3_i32_2415 : BitVec 32 := 3#32
  let v5838 : BitVec 32 := Scalar.shli v5837 c3_i32_2415
  let c16_i32_2416 : BitVec 32 := 16#32
  let v5839 : BitVec 32 := Scalar.minsi v5838 c16_i32_2416
  let v5840 : BitVec 32 := v5839
  let v5854 : Index := Scalar.indexCast v5840
  let c0_2419 : Index := 0#32
  ![v5852.toNat, v5853.toNat, v5854.toNat, 0]

def k0_chk432 (v5823 : BitVec 32) (v5827 : BitVec 32) (v5842 : BitVec 32) (v5845 : BitVec 32) : Prop :=
  (∀ a, (k0_off647 v5823 v5827 v5842 v5845) a + S1x1x32x256.size a ≤ S5x50x50x256.size a)
theorem k0_off647_inb : ∀ (v5823 : BitVec 32) (v5827 : BitVec 32) (v5842 : BitVec 32) (v5845 : BitVec 32) (k0_hw432 : k0_chk432 v5823 v5827 v5842 v5845), ∀ a, (k0_off647 v5823 v5827 v5842 v5845) a + S1x1x32x256.size a ≤ S5x50x50x256.size a := fun v5823 v5827 v5842 v5845 k0_hw432 => k0_hw432

def k0_off648 : Fin 4 → Nat :=
  let c0_2422 : Index := 0#32
  let c0_i32 : BitVec 32 := 0#32
  let c128_i32_2403 : BitVec 32 := 128#32
  let v5816 : BitVec 32 := Scalar.muli c0_i32 c128_i32_2403
  let c107_i32 : BitVec 32 := 107#32
  let v5817 : BitVec 32 := Scalar.addi v5816 c107_i32
  let v5866 : Index := Scalar.indexCast v5817
  let c0_2423 : Index := 0#32
  let c0_2424 : Index := 0#32
  ![0, v5866.toNat, 0, 0]
def k0_off649 (i : grid0.Coords) (c0_i32_2428 : BitVec 32) : Fin 1 → Nat :=
  let arg0 : BitVec 32 := BitVec.ofNat 32 (i 0).val
  let c128_i32_2426 : BitVec 32 := 128#32
  let v5872 : BitVec 32 := Scalar.muli arg0 c128_i32_2426
  let c0_i32 : BitVec 32 := 0#32
  let c128_i32_2425 : BitVec 32 := 128#32
  let v5870 : BitVec 32 := Scalar.muli c0_i32 c128_i32_2425
  let c108_i32 : BitVec 32 := 108#32
  let v5871 : BitVec 32 := Scalar.addi v5870 c108_i32
  let v5873 : BitVec 32 := Scalar.addi v5872 v5871
  let c4_i32_2427 : BitVec 32 := 4#32
  let v5874 : BitVec 32 := Scalar.muli v5873 c4_i32_2427
  let v5875 : BitVec 32 := Scalar.addi v5874 c0_i32_2428
  let v5876 : Index := Scalar.indexCast v5875
  ![v5876.toNat]
def k0_mult109 (v5877 : BitVec 32) : BitVec 32 :=
  let c4_i32_2429 : BitVec 32 := 4#32
  let v5878 : BitVec 32 := Scalar.shrsi v5877 c4_i32_2429
  let c3_i32_2436 : BitVec 32 := 3#32
  let v5891 : BitVec 32 := Scalar.shrsi v5878 c3_i32_2436
  let c3_i32_2437 : BitVec 32 := 3#32
  let v5892 : BitVec 32 := Scalar.shli v5891 c3_i32_2437
  let c16_i32_2438 : BitVec 32 := 16#32
  let v5893 : BitVec 32 := Scalar.minsi v5892 c16_i32_2438
  v5893

def k0_chk433 (v5877 : BitVec 32) : Prop :=
  (8 ∣ (k0_mult109 v5877).toNat)
theorem k0_mult109_dvd : ∀ (v5877 : BitVec 32) (k0_hw433 : k0_chk433 v5877), 8 ∣ (k0_mult109 v5877).toNat := fun v5877 k0_hw433 => k0_hw433

def k0_off650 (v5889 : BitVec 32) : Fin 1 → Nat :=
  let c4_i32_2435 : BitVec 32 := 4#32
  let v5890 : BitVec 32 := Scalar.shrsi v5889 c4_i32_2435
  let v5895 : Index := Scalar.indexCast v5890
  ![v5895.toNat]

def k0_off651 (v5889 : BitVec 32) : Fin 1 → Nat :=
  let c32_i32_2439 : BitVec 32 := 32#32
  let c4_i32_2435 : BitVec 32 := 4#32
  let v5890 : BitVec 32 := Scalar.shrsi v5889 c4_i32_2435
  let v5897 : BitVec 32 := Scalar.addi c32_i32_2439 v5890
  let v5898 : Index := Scalar.indexCast v5897
  ![v5898.toNat]

def k0_chk434 (v5889 : BitVec 32) : Prop :=
  (∀ a, (k0_off650 v5889) a + S1.size a ≤ S64.size a) ∧
  (∀ a, (k0_off651 v5889) a + S1.size a ≤ S64.size a)
theorem k0_off650_inb : ∀ (v5889 : BitVec 32) (k0_hw434 : k0_chk434 v5889), ∀ a, (k0_off650 v5889) a + S1.size a ≤ S64.size a := fun v5889 k0_hw434 => k0_hw434.1
theorem k0_off651_inb : ∀ (v5889 : BitVec 32) (k0_hw434 : k0_chk434 v5889), ∀ a, (k0_off651 v5889) a + S1.size a ≤ S64.size a := fun v5889 k0_hw434 => k0_hw434.2

def k0_off652 (v5877 : BitVec 32) (v5881 : BitVec 32) (v5896 : BitVec 32) : Fin 4 → Nat :=
  let v5901 : Index := Scalar.indexCast v5896
  let c4_i32_2431 : BitVec 32 := 4#32
  let v5882 : BitVec 32 := Scalar.shrsi v5881 c4_i32_2431
  let v5902 : Index := Scalar.indexCast v5882
  let c4_i32_2429 : BitVec 32 := 4#32
  let v5878 : BitVec 32 := Scalar.shrsi v5877 c4_i32_2429
  let c3_i32_2436 : BitVec 32 := 3#32
  let v5891 : BitVec 32 := Scalar.shrsi v5878 c3_i32_2436
  let c3_i32_2437 : BitVec 32 := 3#32
  let v5892 : BitVec 32 := Scalar.shli v5891 c3_i32_2437
  let c16_i32_2438 : BitVec 32 := 16#32
  let v5893 : BitVec 32 := Scalar.minsi v5892 c16_i32_2438
  let v5894 : BitVec 32 := v5893
  let v5903 : Index := Scalar.indexCast v5894
  let c0_2440 : Index := 0#32
  ![v5901.toNat, v5902.toNat, v5903.toNat, 0]

def k0_chk435 (v5877 : BitVec 32) (v5881 : BitVec 32) (v5896 : BitVec 32) : Prop :=
  (∀ a, (k0_off652 v5877 v5881 v5896) a + S1x1x32x256.size a ≤ S5x50x50x256.size a)
theorem k0_off652_inb : ∀ (v5877 : BitVec 32) (v5881 : BitVec 32) (v5896 : BitVec 32) (k0_hw435 : k0_chk435 v5877 v5881 v5896), ∀ a, (k0_off652 v5877 v5881 v5896) a + S1x1x32x256.size a ≤ S5x50x50x256.size a := fun v5877 v5881 v5896 k0_hw435 => k0_hw435

def k0_off653 (v5877 : BitVec 32) (v5881 : BitVec 32) (v5896 : BitVec 32) (v5899 : BitVec 32) : Fin 4 → Nat :=
  let v5906 : Index := Scalar.indexCast v5896
  let c4_i32_2431 : BitVec 32 := 4#32
  let v5882 : BitVec 32 := Scalar.shrsi v5881 c4_i32_2431
  let v5900 : BitVec 32 := Scalar.addi v5882 v5899
  let v5907 : Index := Scalar.indexCast v5900
  let c4_i32_2429 : BitVec 32 := 4#32
  let v5878 : BitVec 32 := Scalar.shrsi v5877 c4_i32_2429
  let c3_i32_2436 : BitVec 32 := 3#32
  let v5891 : BitVec 32 := Scalar.shrsi v5878 c3_i32_2436
  let c3_i32_2437 : BitVec 32 := 3#32
  let v5892 : BitVec 32 := Scalar.shli v5891 c3_i32_2437
  let c16_i32_2438 : BitVec 32 := 16#32
  let v5893 : BitVec 32 := Scalar.minsi v5892 c16_i32_2438
  let v5894 : BitVec 32 := v5893
  let v5908 : Index := Scalar.indexCast v5894
  let c0_2441 : Index := 0#32
  ![v5906.toNat, v5907.toNat, v5908.toNat, 0]

def k0_chk436 (v5877 : BitVec 32) (v5881 : BitVec 32) (v5896 : BitVec 32) (v5899 : BitVec 32) : Prop :=
  (∀ a, (k0_off653 v5877 v5881 v5896 v5899) a + S1x1x32x256.size a ≤ S5x50x50x256.size a)
theorem k0_off653_inb : ∀ (v5877 : BitVec 32) (v5881 : BitVec 32) (v5896 : BitVec 32) (v5899 : BitVec 32) (k0_hw436 : k0_chk436 v5877 v5881 v5896 v5899), ∀ a, (k0_off653 v5877 v5881 v5896 v5899) a + S1x1x32x256.size a ≤ S5x50x50x256.size a := fun v5877 v5881 v5896 v5899 k0_hw436 => k0_hw436

def k0_off654 : Fin 4 → Nat :=
  let c0_2444 : Index := 0#32
  let c0_i32 : BitVec 32 := 0#32
  let c128_i32_2425 : BitVec 32 := 128#32
  let v5870 : BitVec 32 := Scalar.muli c0_i32 c128_i32_2425
  let c108_i32 : BitVec 32 := 108#32
  let v5871 : BitVec 32 := Scalar.addi v5870 c108_i32
  let v5920 : Index := Scalar.indexCast v5871
  let c0_2445 : Index := 0#32
  let c0_2446 : Index := 0#32
  ![0, v5920.toNat, 0, 0]
def k0_off655 (i : grid0.Coords) (c0_i32_2450 : BitVec 32) : Fin 1 → Nat :=
  let arg0 : BitVec 32 := BitVec.ofNat 32 (i 0).val
  let c128_i32_2448 : BitVec 32 := 128#32
  let v5926 : BitVec 32 := Scalar.muli arg0 c128_i32_2448
  let c0_i32 : BitVec 32 := 0#32
  let c128_i32_2447 : BitVec 32 := 128#32
  let v5924 : BitVec 32 := Scalar.muli c0_i32 c128_i32_2447
  let c109_i32 : BitVec 32 := 109#32
  let v5925 : BitVec 32 := Scalar.addi v5924 c109_i32
  let v5927 : BitVec 32 := Scalar.addi v5926 v5925
  let c4_i32_2449 : BitVec 32 := 4#32
  let v5928 : BitVec 32 := Scalar.muli v5927 c4_i32_2449
  let v5929 : BitVec 32 := Scalar.addi v5928 c0_i32_2450
  let v5930 : Index := Scalar.indexCast v5929
  ![v5930.toNat]
def k0_mult110 (v5931 : BitVec 32) : BitVec 32 :=
  let c4_i32_2451 : BitVec 32 := 4#32
  let v5932 : BitVec 32 := Scalar.shrsi v5931 c4_i32_2451
  let c3_i32_2458 : BitVec 32 := 3#32
  let v5945 : BitVec 32 := Scalar.shrsi v5932 c3_i32_2458
  let c3_i32_2459 : BitVec 32 := 3#32
  let v5946 : BitVec 32 := Scalar.shli v5945 c3_i32_2459
  let c16_i32_2460 : BitVec 32 := 16#32
  let v5947 : BitVec 32 := Scalar.minsi v5946 c16_i32_2460
  v5947

def k0_chk437 (v5931 : BitVec 32) : Prop :=
  (8 ∣ (k0_mult110 v5931).toNat)
theorem k0_mult110_dvd : ∀ (v5931 : BitVec 32) (k0_hw437 : k0_chk437 v5931), 8 ∣ (k0_mult110 v5931).toNat := fun v5931 k0_hw437 => k0_hw437

def k0_off656 (v5943 : BitVec 32) : Fin 1 → Nat :=
  let c4_i32_2457 : BitVec 32 := 4#32
  let v5944 : BitVec 32 := Scalar.shrsi v5943 c4_i32_2457
  let v5949 : Index := Scalar.indexCast v5944
  ![v5949.toNat]

def k0_off657 (v5943 : BitVec 32) : Fin 1 → Nat :=
  let c32_i32_2461 : BitVec 32 := 32#32
  let c4_i32_2457 : BitVec 32 := 4#32
  let v5944 : BitVec 32 := Scalar.shrsi v5943 c4_i32_2457
  let v5951 : BitVec 32 := Scalar.addi c32_i32_2461 v5944
  let v5952 : Index := Scalar.indexCast v5951
  ![v5952.toNat]

def k0_chk438 (v5943 : BitVec 32) : Prop :=
  (∀ a, (k0_off656 v5943) a + S1.size a ≤ S64.size a) ∧
  (∀ a, (k0_off657 v5943) a + S1.size a ≤ S64.size a)
theorem k0_off656_inb : ∀ (v5943 : BitVec 32) (k0_hw438 : k0_chk438 v5943), ∀ a, (k0_off656 v5943) a + S1.size a ≤ S64.size a := fun v5943 k0_hw438 => k0_hw438.1
theorem k0_off657_inb : ∀ (v5943 : BitVec 32) (k0_hw438 : k0_chk438 v5943), ∀ a, (k0_off657 v5943) a + S1.size a ≤ S64.size a := fun v5943 k0_hw438 => k0_hw438.2

def k0_off658 (v5931 : BitVec 32) (v5935 : BitVec 32) (v5950 : BitVec 32) : Fin 4 → Nat :=
  let v5955 : Index := Scalar.indexCast v5950
  let c4_i32_2453 : BitVec 32 := 4#32
  let v5936 : BitVec 32 := Scalar.shrsi v5935 c4_i32_2453
  let v5956 : Index := Scalar.indexCast v5936
  let c4_i32_2451 : BitVec 32 := 4#32
  let v5932 : BitVec 32 := Scalar.shrsi v5931 c4_i32_2451
  let c3_i32_2458 : BitVec 32 := 3#32
  let v5945 : BitVec 32 := Scalar.shrsi v5932 c3_i32_2458
  let c3_i32_2459 : BitVec 32 := 3#32
  let v5946 : BitVec 32 := Scalar.shli v5945 c3_i32_2459
  let c16_i32_2460 : BitVec 32 := 16#32
  let v5947 : BitVec 32 := Scalar.minsi v5946 c16_i32_2460
  let v5948 : BitVec 32 := v5947
  let v5957 : Index := Scalar.indexCast v5948
  let c0_2462 : Index := 0#32
  ![v5955.toNat, v5956.toNat, v5957.toNat, 0]

def k0_chk439 (v5931 : BitVec 32) (v5935 : BitVec 32) (v5950 : BitVec 32) : Prop :=
  (∀ a, (k0_off658 v5931 v5935 v5950) a + S1x1x32x256.size a ≤ S5x50x50x256.size a)
theorem k0_off658_inb : ∀ (v5931 : BitVec 32) (v5935 : BitVec 32) (v5950 : BitVec 32) (k0_hw439 : k0_chk439 v5931 v5935 v5950), ∀ a, (k0_off658 v5931 v5935 v5950) a + S1x1x32x256.size a ≤ S5x50x50x256.size a := fun v5931 v5935 v5950 k0_hw439 => k0_hw439

def k0_off659 (v5931 : BitVec 32) (v5935 : BitVec 32) (v5950 : BitVec 32) (v5953 : BitVec 32) : Fin 4 → Nat :=
  let v5960 : Index := Scalar.indexCast v5950
  let c4_i32_2453 : BitVec 32 := 4#32
  let v5936 : BitVec 32 := Scalar.shrsi v5935 c4_i32_2453
  let v5954 : BitVec 32 := Scalar.addi v5936 v5953
  let v5961 : Index := Scalar.indexCast v5954
  let c4_i32_2451 : BitVec 32 := 4#32
  let v5932 : BitVec 32 := Scalar.shrsi v5931 c4_i32_2451
  let c3_i32_2458 : BitVec 32 := 3#32
  let v5945 : BitVec 32 := Scalar.shrsi v5932 c3_i32_2458
  let c3_i32_2459 : BitVec 32 := 3#32
  let v5946 : BitVec 32 := Scalar.shli v5945 c3_i32_2459
  let c16_i32_2460 : BitVec 32 := 16#32
  let v5947 : BitVec 32 := Scalar.minsi v5946 c16_i32_2460
  let v5948 : BitVec 32 := v5947
  let v5962 : Index := Scalar.indexCast v5948
  let c0_2463 : Index := 0#32
  ![v5960.toNat, v5961.toNat, v5962.toNat, 0]

def k0_chk440 (v5931 : BitVec 32) (v5935 : BitVec 32) (v5950 : BitVec 32) (v5953 : BitVec 32) : Prop :=
  (∀ a, (k0_off659 v5931 v5935 v5950 v5953) a + S1x1x32x256.size a ≤ S5x50x50x256.size a)
theorem k0_off659_inb : ∀ (v5931 : BitVec 32) (v5935 : BitVec 32) (v5950 : BitVec 32) (v5953 : BitVec 32) (k0_hw440 : k0_chk440 v5931 v5935 v5950 v5953), ∀ a, (k0_off659 v5931 v5935 v5950 v5953) a + S1x1x32x256.size a ≤ S5x50x50x256.size a := fun v5931 v5935 v5950 v5953 k0_hw440 => k0_hw440

def k0_off660 : Fin 4 → Nat :=
  let c0_2466 : Index := 0#32
  let c0_i32 : BitVec 32 := 0#32
  let c128_i32_2447 : BitVec 32 := 128#32
  let v5924 : BitVec 32 := Scalar.muli c0_i32 c128_i32_2447
  let c109_i32 : BitVec 32 := 109#32
  let v5925 : BitVec 32 := Scalar.addi v5924 c109_i32
  let v5974 : Index := Scalar.indexCast v5925
  let c0_2467 : Index := 0#32
  let c0_2468 : Index := 0#32
  ![0, v5974.toNat, 0, 0]
def k0_off661 (i : grid0.Coords) (c0_i32_2472 : BitVec 32) : Fin 1 → Nat :=
  let arg0 : BitVec 32 := BitVec.ofNat 32 (i 0).val
  let c128_i32_2470 : BitVec 32 := 128#32
  let v5980 : BitVec 32 := Scalar.muli arg0 c128_i32_2470
  let c0_i32 : BitVec 32 := 0#32
  let c128_i32_2469 : BitVec 32 := 128#32
  let v5978 : BitVec 32 := Scalar.muli c0_i32 c128_i32_2469
  let c110_i32 : BitVec 32 := 110#32
  let v5979 : BitVec 32 := Scalar.addi v5978 c110_i32
  let v5981 : BitVec 32 := Scalar.addi v5980 v5979
  let c4_i32_2471 : BitVec 32 := 4#32
  let v5982 : BitVec 32 := Scalar.muli v5981 c4_i32_2471
  let v5983 : BitVec 32 := Scalar.addi v5982 c0_i32_2472
  let v5984 : Index := Scalar.indexCast v5983
  ![v5984.toNat]
def k0_mult111 (v5985 : BitVec 32) : BitVec 32 :=
  let c4_i32_2473 : BitVec 32 := 4#32
  let v5986 : BitVec 32 := Scalar.shrsi v5985 c4_i32_2473
  let c3_i32_2480 : BitVec 32 := 3#32
  let v5999 : BitVec 32 := Scalar.shrsi v5986 c3_i32_2480
  let c3_i32_2481 : BitVec 32 := 3#32
  let v6000 : BitVec 32 := Scalar.shli v5999 c3_i32_2481
  let c16_i32_2482 : BitVec 32 := 16#32
  let v6001 : BitVec 32 := Scalar.minsi v6000 c16_i32_2482
  v6001

def k0_chk441 (v5985 : BitVec 32) : Prop :=
  (8 ∣ (k0_mult111 v5985).toNat)
theorem k0_mult111_dvd : ∀ (v5985 : BitVec 32) (k0_hw441 : k0_chk441 v5985), 8 ∣ (k0_mult111 v5985).toNat := fun v5985 k0_hw441 => k0_hw441

def k0_off662 (v5997 : BitVec 32) : Fin 1 → Nat :=
  let c4_i32_2479 : BitVec 32 := 4#32
  let v5998 : BitVec 32 := Scalar.shrsi v5997 c4_i32_2479
  let v6003 : Index := Scalar.indexCast v5998
  ![v6003.toNat]

def k0_off663 (v5997 : BitVec 32) : Fin 1 → Nat :=
  let c32_i32_2483 : BitVec 32 := 32#32
  let c4_i32_2479 : BitVec 32 := 4#32
  let v5998 : BitVec 32 := Scalar.shrsi v5997 c4_i32_2479
  let v6005 : BitVec 32 := Scalar.addi c32_i32_2483 v5998
  let v6006 : Index := Scalar.indexCast v6005
  ![v6006.toNat]

def k0_chk442 (v5997 : BitVec 32) : Prop :=
  (∀ a, (k0_off662 v5997) a + S1.size a ≤ S64.size a) ∧
  (∀ a, (k0_off663 v5997) a + S1.size a ≤ S64.size a)
theorem k0_off662_inb : ∀ (v5997 : BitVec 32) (k0_hw442 : k0_chk442 v5997), ∀ a, (k0_off662 v5997) a + S1.size a ≤ S64.size a := fun v5997 k0_hw442 => k0_hw442.1
theorem k0_off663_inb : ∀ (v5997 : BitVec 32) (k0_hw442 : k0_chk442 v5997), ∀ a, (k0_off663 v5997) a + S1.size a ≤ S64.size a := fun v5997 k0_hw442 => k0_hw442.2

def k0_off664 (v5985 : BitVec 32) (v5989 : BitVec 32) (v6004 : BitVec 32) : Fin 4 → Nat :=
  let v6009 : Index := Scalar.indexCast v6004
  let c4_i32_2475 : BitVec 32 := 4#32
  let v5990 : BitVec 32 := Scalar.shrsi v5989 c4_i32_2475
  let v6010 : Index := Scalar.indexCast v5990
  let c4_i32_2473 : BitVec 32 := 4#32
  let v5986 : BitVec 32 := Scalar.shrsi v5985 c4_i32_2473
  let c3_i32_2480 : BitVec 32 := 3#32
  let v5999 : BitVec 32 := Scalar.shrsi v5986 c3_i32_2480
  let c3_i32_2481 : BitVec 32 := 3#32
  let v6000 : BitVec 32 := Scalar.shli v5999 c3_i32_2481
  let c16_i32_2482 : BitVec 32 := 16#32
  let v6001 : BitVec 32 := Scalar.minsi v6000 c16_i32_2482
  let v6002 : BitVec 32 := v6001
  let v6011 : Index := Scalar.indexCast v6002
  let c0_2484 : Index := 0#32
  ![v6009.toNat, v6010.toNat, v6011.toNat, 0]

def k0_chk443 (v5985 : BitVec 32) (v5989 : BitVec 32) (v6004 : BitVec 32) : Prop :=
  (∀ a, (k0_off664 v5985 v5989 v6004) a + S1x1x32x256.size a ≤ S5x50x50x256.size a)
theorem k0_off664_inb : ∀ (v5985 : BitVec 32) (v5989 : BitVec 32) (v6004 : BitVec 32) (k0_hw443 : k0_chk443 v5985 v5989 v6004), ∀ a, (k0_off664 v5985 v5989 v6004) a + S1x1x32x256.size a ≤ S5x50x50x256.size a := fun v5985 v5989 v6004 k0_hw443 => k0_hw443

def k0_off665 (v5985 : BitVec 32) (v5989 : BitVec 32) (v6004 : BitVec 32) (v6007 : BitVec 32) : Fin 4 → Nat :=
  let v6014 : Index := Scalar.indexCast v6004
  let c4_i32_2475 : BitVec 32 := 4#32
  let v5990 : BitVec 32 := Scalar.shrsi v5989 c4_i32_2475
  let v6008 : BitVec 32 := Scalar.addi v5990 v6007
  let v6015 : Index := Scalar.indexCast v6008
  let c4_i32_2473 : BitVec 32 := 4#32
  let v5986 : BitVec 32 := Scalar.shrsi v5985 c4_i32_2473
  let c3_i32_2480 : BitVec 32 := 3#32
  let v5999 : BitVec 32 := Scalar.shrsi v5986 c3_i32_2480
  let c3_i32_2481 : BitVec 32 := 3#32
  let v6000 : BitVec 32 := Scalar.shli v5999 c3_i32_2481
  let c16_i32_2482 : BitVec 32 := 16#32
  let v6001 : BitVec 32 := Scalar.minsi v6000 c16_i32_2482
  let v6002 : BitVec 32 := v6001
  let v6016 : Index := Scalar.indexCast v6002
  let c0_2485 : Index := 0#32
  ![v6014.toNat, v6015.toNat, v6016.toNat, 0]

def k0_chk444 (v5985 : BitVec 32) (v5989 : BitVec 32) (v6004 : BitVec 32) (v6007 : BitVec 32) : Prop :=
  (∀ a, (k0_off665 v5985 v5989 v6004 v6007) a + S1x1x32x256.size a ≤ S5x50x50x256.size a)
theorem k0_off665_inb : ∀ (v5985 : BitVec 32) (v5989 : BitVec 32) (v6004 : BitVec 32) (v6007 : BitVec 32) (k0_hw444 : k0_chk444 v5985 v5989 v6004 v6007), ∀ a, (k0_off665 v5985 v5989 v6004 v6007) a + S1x1x32x256.size a ≤ S5x50x50x256.size a := fun v5985 v5989 v6004 v6007 k0_hw444 => k0_hw444

def k0_off666 : Fin 4 → Nat :=
  let c0_2488 : Index := 0#32
  let c0_i32 : BitVec 32 := 0#32
  let c128_i32_2469 : BitVec 32 := 128#32
  let v5978 : BitVec 32 := Scalar.muli c0_i32 c128_i32_2469
  let c110_i32 : BitVec 32 := 110#32
  let v5979 : BitVec 32 := Scalar.addi v5978 c110_i32
  let v6028 : Index := Scalar.indexCast v5979
  let c0_2489 : Index := 0#32
  let c0_2490 : Index := 0#32
  ![0, v6028.toNat, 0, 0]
def k0_off667 (i : grid0.Coords) (c0_i32_2494 : BitVec 32) : Fin 1 → Nat :=
  let arg0 : BitVec 32 := BitVec.ofNat 32 (i 0).val
  let c128_i32_2492 : BitVec 32 := 128#32
  let v6034 : BitVec 32 := Scalar.muli arg0 c128_i32_2492
  let c0_i32 : BitVec 32 := 0#32
  let c128_i32_2491 : BitVec 32 := 128#32
  let v6032 : BitVec 32 := Scalar.muli c0_i32 c128_i32_2491
  let c111_i32 : BitVec 32 := 111#32
  let v6033 : BitVec 32 := Scalar.addi v6032 c111_i32
  let v6035 : BitVec 32 := Scalar.addi v6034 v6033
  let c4_i32_2493 : BitVec 32 := 4#32
  let v6036 : BitVec 32 := Scalar.muli v6035 c4_i32_2493
  let v6037 : BitVec 32 := Scalar.addi v6036 c0_i32_2494
  let v6038 : Index := Scalar.indexCast v6037
  ![v6038.toNat]
def k0_mult112 (v6039 : BitVec 32) : BitVec 32 :=
  let c4_i32_2495 : BitVec 32 := 4#32
  let v6040 : BitVec 32 := Scalar.shrsi v6039 c4_i32_2495
  let c3_i32_2502 : BitVec 32 := 3#32
  let v6053 : BitVec 32 := Scalar.shrsi v6040 c3_i32_2502
  let c3_i32_2503 : BitVec 32 := 3#32
  let v6054 : BitVec 32 := Scalar.shli v6053 c3_i32_2503
  let c16_i32_2504 : BitVec 32 := 16#32
  let v6055 : BitVec 32 := Scalar.minsi v6054 c16_i32_2504
  v6055

def k0_chk445 (v6039 : BitVec 32) : Prop :=
  (8 ∣ (k0_mult112 v6039).toNat)
theorem k0_mult112_dvd : ∀ (v6039 : BitVec 32) (k0_hw445 : k0_chk445 v6039), 8 ∣ (k0_mult112 v6039).toNat := fun v6039 k0_hw445 => k0_hw445

def k0_off668 (v6051 : BitVec 32) : Fin 1 → Nat :=
  let c4_i32_2501 : BitVec 32 := 4#32
  let v6052 : BitVec 32 := Scalar.shrsi v6051 c4_i32_2501
  let v6057 : Index := Scalar.indexCast v6052
  ![v6057.toNat]

def k0_off669 (v6051 : BitVec 32) : Fin 1 → Nat :=
  let c32_i32_2505 : BitVec 32 := 32#32
  let c4_i32_2501 : BitVec 32 := 4#32
  let v6052 : BitVec 32 := Scalar.shrsi v6051 c4_i32_2501
  let v6059 : BitVec 32 := Scalar.addi c32_i32_2505 v6052
  let v6060 : Index := Scalar.indexCast v6059
  ![v6060.toNat]

def k0_chk446 (v6051 : BitVec 32) : Prop :=
  (∀ a, (k0_off668 v6051) a + S1.size a ≤ S64.size a) ∧
  (∀ a, (k0_off669 v6051) a + S1.size a ≤ S64.size a)
theorem k0_off668_inb : ∀ (v6051 : BitVec 32) (k0_hw446 : k0_chk446 v6051), ∀ a, (k0_off668 v6051) a + S1.size a ≤ S64.size a := fun v6051 k0_hw446 => k0_hw446.1
theorem k0_off669_inb : ∀ (v6051 : BitVec 32) (k0_hw446 : k0_chk446 v6051), ∀ a, (k0_off669 v6051) a + S1.size a ≤ S64.size a := fun v6051 k0_hw446 => k0_hw446.2

def k0_off670 (v6039 : BitVec 32) (v6043 : BitVec 32) (v6058 : BitVec 32) : Fin 4 → Nat :=
  let v6063 : Index := Scalar.indexCast v6058
  let c4_i32_2497 : BitVec 32 := 4#32
  let v6044 : BitVec 32 := Scalar.shrsi v6043 c4_i32_2497
  let v6064 : Index := Scalar.indexCast v6044
  let c4_i32_2495 : BitVec 32 := 4#32
  let v6040 : BitVec 32 := Scalar.shrsi v6039 c4_i32_2495
  let c3_i32_2502 : BitVec 32 := 3#32
  let v6053 : BitVec 32 := Scalar.shrsi v6040 c3_i32_2502
  let c3_i32_2503 : BitVec 32 := 3#32
  let v6054 : BitVec 32 := Scalar.shli v6053 c3_i32_2503
  let c16_i32_2504 : BitVec 32 := 16#32
  let v6055 : BitVec 32 := Scalar.minsi v6054 c16_i32_2504
  let v6056 : BitVec 32 := v6055
  let v6065 : Index := Scalar.indexCast v6056
  let c0_2506 : Index := 0#32
  ![v6063.toNat, v6064.toNat, v6065.toNat, 0]

def k0_chk447 (v6039 : BitVec 32) (v6043 : BitVec 32) (v6058 : BitVec 32) : Prop :=
  (∀ a, (k0_off670 v6039 v6043 v6058) a + S1x1x32x256.size a ≤ S5x50x50x256.size a)
theorem k0_off670_inb : ∀ (v6039 : BitVec 32) (v6043 : BitVec 32) (v6058 : BitVec 32) (k0_hw447 : k0_chk447 v6039 v6043 v6058), ∀ a, (k0_off670 v6039 v6043 v6058) a + S1x1x32x256.size a ≤ S5x50x50x256.size a := fun v6039 v6043 v6058 k0_hw447 => k0_hw447

def k0_off671 (v6039 : BitVec 32) (v6043 : BitVec 32) (v6058 : BitVec 32) (v6061 : BitVec 32) : Fin 4 → Nat :=
  let v6068 : Index := Scalar.indexCast v6058
  let c4_i32_2497 : BitVec 32 := 4#32
  let v6044 : BitVec 32 := Scalar.shrsi v6043 c4_i32_2497
  let v6062 : BitVec 32 := Scalar.addi v6044 v6061
  let v6069 : Index := Scalar.indexCast v6062
  let c4_i32_2495 : BitVec 32 := 4#32
  let v6040 : BitVec 32 := Scalar.shrsi v6039 c4_i32_2495
  let c3_i32_2502 : BitVec 32 := 3#32
  let v6053 : BitVec 32 := Scalar.shrsi v6040 c3_i32_2502
  let c3_i32_2503 : BitVec 32 := 3#32
  let v6054 : BitVec 32 := Scalar.shli v6053 c3_i32_2503
  let c16_i32_2504 : BitVec 32 := 16#32
  let v6055 : BitVec 32 := Scalar.minsi v6054 c16_i32_2504
  let v6056 : BitVec 32 := v6055
  let v6070 : Index := Scalar.indexCast v6056
  let c0_2507 : Index := 0#32
  ![v6068.toNat, v6069.toNat, v6070.toNat, 0]

def k0_chk448 (v6039 : BitVec 32) (v6043 : BitVec 32) (v6058 : BitVec 32) (v6061 : BitVec 32) : Prop :=
  (∀ a, (k0_off671 v6039 v6043 v6058 v6061) a + S1x1x32x256.size a ≤ S5x50x50x256.size a)
theorem k0_off671_inb : ∀ (v6039 : BitVec 32) (v6043 : BitVec 32) (v6058 : BitVec 32) (v6061 : BitVec 32) (k0_hw448 : k0_chk448 v6039 v6043 v6058 v6061), ∀ a, (k0_off671 v6039 v6043 v6058 v6061) a + S1x1x32x256.size a ≤ S5x50x50x256.size a := fun v6039 v6043 v6058 v6061 k0_hw448 => k0_hw448

def k0_off672 : Fin 4 → Nat :=
  let c0_2510 : Index := 0#32
  let c0_i32 : BitVec 32 := 0#32
  let c128_i32_2491 : BitVec 32 := 128#32
  let v6032 : BitVec 32 := Scalar.muli c0_i32 c128_i32_2491
  let c111_i32 : BitVec 32 := 111#32
  let v6033 : BitVec 32 := Scalar.addi v6032 c111_i32
  let v6082 : Index := Scalar.indexCast v6033
  let c0_2511 : Index := 0#32
  let c0_2512 : Index := 0#32
  ![0, v6082.toNat, 0, 0]
def k0_off673 (i : grid0.Coords) (c0_i32_2516 : BitVec 32) : Fin 1 → Nat :=
  let arg0 : BitVec 32 := BitVec.ofNat 32 (i 0).val
  let c128_i32_2514 : BitVec 32 := 128#32
  let v6088 : BitVec 32 := Scalar.muli arg0 c128_i32_2514
  let c0_i32 : BitVec 32 := 0#32
  let c128_i32_2513 : BitVec 32 := 128#32
  let v6086 : BitVec 32 := Scalar.muli c0_i32 c128_i32_2513
  let c112_i32 : BitVec 32 := 112#32
  let v6087 : BitVec 32 := Scalar.addi v6086 c112_i32
  let v6089 : BitVec 32 := Scalar.addi v6088 v6087
  let c4_i32_2515 : BitVec 32 := 4#32
  let v6090 : BitVec 32 := Scalar.muli v6089 c4_i32_2515
  let v6091 : BitVec 32 := Scalar.addi v6090 c0_i32_2516
  let v6092 : Index := Scalar.indexCast v6091
  ![v6092.toNat]
def k0_mult113 (v6093 : BitVec 32) : BitVec 32 :=
  let c4_i32_2517 : BitVec 32 := 4#32
  let v6094 : BitVec 32 := Scalar.shrsi v6093 c4_i32_2517
  let c3_i32_2524 : BitVec 32 := 3#32
  let v6107 : BitVec 32 := Scalar.shrsi v6094 c3_i32_2524
  let c3_i32_2525 : BitVec 32 := 3#32
  let v6108 : BitVec 32 := Scalar.shli v6107 c3_i32_2525
  let c16_i32_2526 : BitVec 32 := 16#32
  let v6109 : BitVec 32 := Scalar.minsi v6108 c16_i32_2526
  v6109

def k0_chk449 (v6093 : BitVec 32) : Prop :=
  (8 ∣ (k0_mult113 v6093).toNat)
theorem k0_mult113_dvd : ∀ (v6093 : BitVec 32) (k0_hw449 : k0_chk449 v6093), 8 ∣ (k0_mult113 v6093).toNat := fun v6093 k0_hw449 => k0_hw449

def k0_off674 (v6105 : BitVec 32) : Fin 1 → Nat :=
  let c4_i32_2523 : BitVec 32 := 4#32
  let v6106 : BitVec 32 := Scalar.shrsi v6105 c4_i32_2523
  let v6111 : Index := Scalar.indexCast v6106
  ![v6111.toNat]

def k0_off675 (v6105 : BitVec 32) : Fin 1 → Nat :=
  let c32_i32_2527 : BitVec 32 := 32#32
  let c4_i32_2523 : BitVec 32 := 4#32
  let v6106 : BitVec 32 := Scalar.shrsi v6105 c4_i32_2523
  let v6113 : BitVec 32 := Scalar.addi c32_i32_2527 v6106
  let v6114 : Index := Scalar.indexCast v6113
  ![v6114.toNat]

def k0_chk450 (v6105 : BitVec 32) : Prop :=
  (∀ a, (k0_off674 v6105) a + S1.size a ≤ S64.size a) ∧
  (∀ a, (k0_off675 v6105) a + S1.size a ≤ S64.size a)
theorem k0_off674_inb : ∀ (v6105 : BitVec 32) (k0_hw450 : k0_chk450 v6105), ∀ a, (k0_off674 v6105) a + S1.size a ≤ S64.size a := fun v6105 k0_hw450 => k0_hw450.1
theorem k0_off675_inb : ∀ (v6105 : BitVec 32) (k0_hw450 : k0_chk450 v6105), ∀ a, (k0_off675 v6105) a + S1.size a ≤ S64.size a := fun v6105 k0_hw450 => k0_hw450.2

def k0_off676 (v6093 : BitVec 32) (v6097 : BitVec 32) (v6112 : BitVec 32) : Fin 4 → Nat :=
  let v6117 : Index := Scalar.indexCast v6112
  let c4_i32_2519 : BitVec 32 := 4#32
  let v6098 : BitVec 32 := Scalar.shrsi v6097 c4_i32_2519
  let v6118 : Index := Scalar.indexCast v6098
  let c4_i32_2517 : BitVec 32 := 4#32
  let v6094 : BitVec 32 := Scalar.shrsi v6093 c4_i32_2517
  let c3_i32_2524 : BitVec 32 := 3#32
  let v6107 : BitVec 32 := Scalar.shrsi v6094 c3_i32_2524
  let c3_i32_2525 : BitVec 32 := 3#32
  let v6108 : BitVec 32 := Scalar.shli v6107 c3_i32_2525
  let c16_i32_2526 : BitVec 32 := 16#32
  let v6109 : BitVec 32 := Scalar.minsi v6108 c16_i32_2526
  let v6110 : BitVec 32 := v6109
  let v6119 : Index := Scalar.indexCast v6110
  let c0_2528 : Index := 0#32
  ![v6117.toNat, v6118.toNat, v6119.toNat, 0]

def k0_chk451 (v6093 : BitVec 32) (v6097 : BitVec 32) (v6112 : BitVec 32) : Prop :=
  (∀ a, (k0_off676 v6093 v6097 v6112) a + S1x1x32x256.size a ≤ S5x50x50x256.size a)
theorem k0_off676_inb : ∀ (v6093 : BitVec 32) (v6097 : BitVec 32) (v6112 : BitVec 32) (k0_hw451 : k0_chk451 v6093 v6097 v6112), ∀ a, (k0_off676 v6093 v6097 v6112) a + S1x1x32x256.size a ≤ S5x50x50x256.size a := fun v6093 v6097 v6112 k0_hw451 => k0_hw451

def k0_off677 (v6093 : BitVec 32) (v6097 : BitVec 32) (v6112 : BitVec 32) (v6115 : BitVec 32) : Fin 4 → Nat :=
  let v6122 : Index := Scalar.indexCast v6112
  let c4_i32_2519 : BitVec 32 := 4#32
  let v6098 : BitVec 32 := Scalar.shrsi v6097 c4_i32_2519
  let v6116 : BitVec 32 := Scalar.addi v6098 v6115
  let v6123 : Index := Scalar.indexCast v6116
  let c4_i32_2517 : BitVec 32 := 4#32
  let v6094 : BitVec 32 := Scalar.shrsi v6093 c4_i32_2517
  let c3_i32_2524 : BitVec 32 := 3#32
  let v6107 : BitVec 32 := Scalar.shrsi v6094 c3_i32_2524
  let c3_i32_2525 : BitVec 32 := 3#32
  let v6108 : BitVec 32 := Scalar.shli v6107 c3_i32_2525
  let c16_i32_2526 : BitVec 32 := 16#32
  let v6109 : BitVec 32 := Scalar.minsi v6108 c16_i32_2526
  let v6110 : BitVec 32 := v6109
  let v6124 : Index := Scalar.indexCast v6110
  let c0_2529 : Index := 0#32
  ![v6122.toNat, v6123.toNat, v6124.toNat, 0]

def k0_chk452 (v6093 : BitVec 32) (v6097 : BitVec 32) (v6112 : BitVec 32) (v6115 : BitVec 32) : Prop :=
  (∀ a, (k0_off677 v6093 v6097 v6112 v6115) a + S1x1x32x256.size a ≤ S5x50x50x256.size a)
theorem k0_off677_inb : ∀ (v6093 : BitVec 32) (v6097 : BitVec 32) (v6112 : BitVec 32) (v6115 : BitVec 32) (k0_hw452 : k0_chk452 v6093 v6097 v6112 v6115), ∀ a, (k0_off677 v6093 v6097 v6112 v6115) a + S1x1x32x256.size a ≤ S5x50x50x256.size a := fun v6093 v6097 v6112 v6115 k0_hw452 => k0_hw452

def k0_off678 : Fin 4 → Nat :=
  let c0_2532 : Index := 0#32
  let c0_i32 : BitVec 32 := 0#32
  let c128_i32_2513 : BitVec 32 := 128#32
  let v6086 : BitVec 32 := Scalar.muli c0_i32 c128_i32_2513
  let c112_i32 : BitVec 32 := 112#32
  let v6087 : BitVec 32 := Scalar.addi v6086 c112_i32
  let v6136 : Index := Scalar.indexCast v6087
  let c0_2533 : Index := 0#32
  let c0_2534 : Index := 0#32
  ![0, v6136.toNat, 0, 0]
def k0_off679 (i : grid0.Coords) (c0_i32_2538 : BitVec 32) : Fin 1 → Nat :=
  let arg0 : BitVec 32 := BitVec.ofNat 32 (i 0).val
  let c128_i32_2536 : BitVec 32 := 128#32
  let v6142 : BitVec 32 := Scalar.muli arg0 c128_i32_2536
  let c0_i32 : BitVec 32 := 0#32
  let c128_i32_2535 : BitVec 32 := 128#32
  let v6140 : BitVec 32 := Scalar.muli c0_i32 c128_i32_2535
  let c113_i32 : BitVec 32 := 113#32
  let v6141 : BitVec 32 := Scalar.addi v6140 c113_i32
  let v6143 : BitVec 32 := Scalar.addi v6142 v6141
  let c4_i32_2537 : BitVec 32 := 4#32
  let v6144 : BitVec 32 := Scalar.muli v6143 c4_i32_2537
  let v6145 : BitVec 32 := Scalar.addi v6144 c0_i32_2538
  let v6146 : Index := Scalar.indexCast v6145
  ![v6146.toNat]
def k0_mult114 (v6147 : BitVec 32) : BitVec 32 :=
  let c4_i32_2539 : BitVec 32 := 4#32
  let v6148 : BitVec 32 := Scalar.shrsi v6147 c4_i32_2539
  let c3_i32_2546 : BitVec 32 := 3#32
  let v6161 : BitVec 32 := Scalar.shrsi v6148 c3_i32_2546
  let c3_i32_2547 : BitVec 32 := 3#32
  let v6162 : BitVec 32 := Scalar.shli v6161 c3_i32_2547
  let c16_i32_2548 : BitVec 32 := 16#32
  let v6163 : BitVec 32 := Scalar.minsi v6162 c16_i32_2548
  v6163

def k0_chk453 (v6147 : BitVec 32) : Prop :=
  (8 ∣ (k0_mult114 v6147).toNat)
theorem k0_mult114_dvd : ∀ (v6147 : BitVec 32) (k0_hw453 : k0_chk453 v6147), 8 ∣ (k0_mult114 v6147).toNat := fun v6147 k0_hw453 => k0_hw453

def k0_off680 (v6159 : BitVec 32) : Fin 1 → Nat :=
  let c4_i32_2545 : BitVec 32 := 4#32
  let v6160 : BitVec 32 := Scalar.shrsi v6159 c4_i32_2545
  let v6165 : Index := Scalar.indexCast v6160
  ![v6165.toNat]

def k0_off681 (v6159 : BitVec 32) : Fin 1 → Nat :=
  let c32_i32_2549 : BitVec 32 := 32#32
  let c4_i32_2545 : BitVec 32 := 4#32
  let v6160 : BitVec 32 := Scalar.shrsi v6159 c4_i32_2545
  let v6167 : BitVec 32 := Scalar.addi c32_i32_2549 v6160
  let v6168 : Index := Scalar.indexCast v6167
  ![v6168.toNat]

def k0_chk454 (v6159 : BitVec 32) : Prop :=
  (∀ a, (k0_off680 v6159) a + S1.size a ≤ S64.size a) ∧
  (∀ a, (k0_off681 v6159) a + S1.size a ≤ S64.size a)
theorem k0_off680_inb : ∀ (v6159 : BitVec 32) (k0_hw454 : k0_chk454 v6159), ∀ a, (k0_off680 v6159) a + S1.size a ≤ S64.size a := fun v6159 k0_hw454 => k0_hw454.1
theorem k0_off681_inb : ∀ (v6159 : BitVec 32) (k0_hw454 : k0_chk454 v6159), ∀ a, (k0_off681 v6159) a + S1.size a ≤ S64.size a := fun v6159 k0_hw454 => k0_hw454.2

def k0_off682 (v6147 : BitVec 32) (v6151 : BitVec 32) (v6166 : BitVec 32) : Fin 4 → Nat :=
  let v6171 : Index := Scalar.indexCast v6166
  let c4_i32_2541 : BitVec 32 := 4#32
  let v6152 : BitVec 32 := Scalar.shrsi v6151 c4_i32_2541
  let v6172 : Index := Scalar.indexCast v6152
  let c4_i32_2539 : BitVec 32 := 4#32
  let v6148 : BitVec 32 := Scalar.shrsi v6147 c4_i32_2539
  let c3_i32_2546 : BitVec 32 := 3#32
  let v6161 : BitVec 32 := Scalar.shrsi v6148 c3_i32_2546
  let c3_i32_2547 : BitVec 32 := 3#32
  let v6162 : BitVec 32 := Scalar.shli v6161 c3_i32_2547
  let c16_i32_2548 : BitVec 32 := 16#32
  let v6163 : BitVec 32 := Scalar.minsi v6162 c16_i32_2548
  let v6164 : BitVec 32 := v6163
  let v6173 : Index := Scalar.indexCast v6164
  let c0_2550 : Index := 0#32
  ![v6171.toNat, v6172.toNat, v6173.toNat, 0]

def k0_chk455 (v6147 : BitVec 32) (v6151 : BitVec 32) (v6166 : BitVec 32) : Prop :=
  (∀ a, (k0_off682 v6147 v6151 v6166) a + S1x1x32x256.size a ≤ S5x50x50x256.size a)
theorem k0_off682_inb : ∀ (v6147 : BitVec 32) (v6151 : BitVec 32) (v6166 : BitVec 32) (k0_hw455 : k0_chk455 v6147 v6151 v6166), ∀ a, (k0_off682 v6147 v6151 v6166) a + S1x1x32x256.size a ≤ S5x50x50x256.size a := fun v6147 v6151 v6166 k0_hw455 => k0_hw455

def k0_off683 (v6147 : BitVec 32) (v6151 : BitVec 32) (v6166 : BitVec 32) (v6169 : BitVec 32) : Fin 4 → Nat :=
  let v6176 : Index := Scalar.indexCast v6166
  let c4_i32_2541 : BitVec 32 := 4#32
  let v6152 : BitVec 32 := Scalar.shrsi v6151 c4_i32_2541
  let v6170 : BitVec 32 := Scalar.addi v6152 v6169
  let v6177 : Index := Scalar.indexCast v6170
  let c4_i32_2539 : BitVec 32 := 4#32
  let v6148 : BitVec 32 := Scalar.shrsi v6147 c4_i32_2539
  let c3_i32_2546 : BitVec 32 := 3#32
  let v6161 : BitVec 32 := Scalar.shrsi v6148 c3_i32_2546
  let c3_i32_2547 : BitVec 32 := 3#32
  let v6162 : BitVec 32 := Scalar.shli v6161 c3_i32_2547
  let c16_i32_2548 : BitVec 32 := 16#32
  let v6163 : BitVec 32 := Scalar.minsi v6162 c16_i32_2548
  let v6164 : BitVec 32 := v6163
  let v6178 : Index := Scalar.indexCast v6164
  let c0_2551 : Index := 0#32
  ![v6176.toNat, v6177.toNat, v6178.toNat, 0]

def k0_chk456 (v6147 : BitVec 32) (v6151 : BitVec 32) (v6166 : BitVec 32) (v6169 : BitVec 32) : Prop :=
  (∀ a, (k0_off683 v6147 v6151 v6166 v6169) a + S1x1x32x256.size a ≤ S5x50x50x256.size a)
theorem k0_off683_inb : ∀ (v6147 : BitVec 32) (v6151 : BitVec 32) (v6166 : BitVec 32) (v6169 : BitVec 32) (k0_hw456 : k0_chk456 v6147 v6151 v6166 v6169), ∀ a, (k0_off683 v6147 v6151 v6166 v6169) a + S1x1x32x256.size a ≤ S5x50x50x256.size a := fun v6147 v6151 v6166 v6169 k0_hw456 => k0_hw456

def k0_off684 : Fin 4 → Nat :=
  let c0_2554 : Index := 0#32
  let c0_i32 : BitVec 32 := 0#32
  let c128_i32_2535 : BitVec 32 := 128#32
  let v6140 : BitVec 32 := Scalar.muli c0_i32 c128_i32_2535
  let c113_i32 : BitVec 32 := 113#32
  let v6141 : BitVec 32 := Scalar.addi v6140 c113_i32
  let v6190 : Index := Scalar.indexCast v6141
  let c0_2555 : Index := 0#32
  let c0_2556 : Index := 0#32
  ![0, v6190.toNat, 0, 0]
def k0_off685 (i : grid0.Coords) (c0_i32_2560 : BitVec 32) : Fin 1 → Nat :=
  let arg0 : BitVec 32 := BitVec.ofNat 32 (i 0).val
  let c128_i32_2558 : BitVec 32 := 128#32
  let v6196 : BitVec 32 := Scalar.muli arg0 c128_i32_2558
  let c0_i32 : BitVec 32 := 0#32
  let c128_i32_2557 : BitVec 32 := 128#32
  let v6194 : BitVec 32 := Scalar.muli c0_i32 c128_i32_2557
  let c114_i32 : BitVec 32 := 114#32
  let v6195 : BitVec 32 := Scalar.addi v6194 c114_i32
  let v6197 : BitVec 32 := Scalar.addi v6196 v6195
  let c4_i32_2559 : BitVec 32 := 4#32
  let v6198 : BitVec 32 := Scalar.muli v6197 c4_i32_2559
  let v6199 : BitVec 32 := Scalar.addi v6198 c0_i32_2560
  let v6200 : Index := Scalar.indexCast v6199
  ![v6200.toNat]
def k0_mult115 (v6201 : BitVec 32) : BitVec 32 :=
  let c4_i32_2561 : BitVec 32 := 4#32
  let v6202 : BitVec 32 := Scalar.shrsi v6201 c4_i32_2561
  let c3_i32_2568 : BitVec 32 := 3#32
  let v6215 : BitVec 32 := Scalar.shrsi v6202 c3_i32_2568
  let c3_i32_2569 : BitVec 32 := 3#32
  let v6216 : BitVec 32 := Scalar.shli v6215 c3_i32_2569
  let c16_i32_2570 : BitVec 32 := 16#32
  let v6217 : BitVec 32 := Scalar.minsi v6216 c16_i32_2570
  v6217

def k0_chk457 (v6201 : BitVec 32) : Prop :=
  (8 ∣ (k0_mult115 v6201).toNat)
theorem k0_mult115_dvd : ∀ (v6201 : BitVec 32) (k0_hw457 : k0_chk457 v6201), 8 ∣ (k0_mult115 v6201).toNat := fun v6201 k0_hw457 => k0_hw457

def k0_off686 (v6213 : BitVec 32) : Fin 1 → Nat :=
  let c4_i32_2567 : BitVec 32 := 4#32
  let v6214 : BitVec 32 := Scalar.shrsi v6213 c4_i32_2567
  let v6219 : Index := Scalar.indexCast v6214
  ![v6219.toNat]

def k0_off687 (v6213 : BitVec 32) : Fin 1 → Nat :=
  let c32_i32_2571 : BitVec 32 := 32#32
  let c4_i32_2567 : BitVec 32 := 4#32
  let v6214 : BitVec 32 := Scalar.shrsi v6213 c4_i32_2567
  let v6221 : BitVec 32 := Scalar.addi c32_i32_2571 v6214
  let v6222 : Index := Scalar.indexCast v6221
  ![v6222.toNat]

def k0_chk458 (v6213 : BitVec 32) : Prop :=
  (∀ a, (k0_off686 v6213) a + S1.size a ≤ S64.size a) ∧
  (∀ a, (k0_off687 v6213) a + S1.size a ≤ S64.size a)
theorem k0_off686_inb : ∀ (v6213 : BitVec 32) (k0_hw458 : k0_chk458 v6213), ∀ a, (k0_off686 v6213) a + S1.size a ≤ S64.size a := fun v6213 k0_hw458 => k0_hw458.1
theorem k0_off687_inb : ∀ (v6213 : BitVec 32) (k0_hw458 : k0_chk458 v6213), ∀ a, (k0_off687 v6213) a + S1.size a ≤ S64.size a := fun v6213 k0_hw458 => k0_hw458.2

def k0_off688 (v6201 : BitVec 32) (v6205 : BitVec 32) (v6220 : BitVec 32) : Fin 4 → Nat :=
  let v6225 : Index := Scalar.indexCast v6220
  let c4_i32_2563 : BitVec 32 := 4#32
  let v6206 : BitVec 32 := Scalar.shrsi v6205 c4_i32_2563
  let v6226 : Index := Scalar.indexCast v6206
  let c4_i32_2561 : BitVec 32 := 4#32
  let v6202 : BitVec 32 := Scalar.shrsi v6201 c4_i32_2561
  let c3_i32_2568 : BitVec 32 := 3#32
  let v6215 : BitVec 32 := Scalar.shrsi v6202 c3_i32_2568
  let c3_i32_2569 : BitVec 32 := 3#32
  let v6216 : BitVec 32 := Scalar.shli v6215 c3_i32_2569
  let c16_i32_2570 : BitVec 32 := 16#32
  let v6217 : BitVec 32 := Scalar.minsi v6216 c16_i32_2570
  let v6218 : BitVec 32 := v6217
  let v6227 : Index := Scalar.indexCast v6218
  let c0_2572 : Index := 0#32
  ![v6225.toNat, v6226.toNat, v6227.toNat, 0]

def k0_chk459 (v6201 : BitVec 32) (v6205 : BitVec 32) (v6220 : BitVec 32) : Prop :=
  (∀ a, (k0_off688 v6201 v6205 v6220) a + S1x1x32x256.size a ≤ S5x50x50x256.size a)
theorem k0_off688_inb : ∀ (v6201 : BitVec 32) (v6205 : BitVec 32) (v6220 : BitVec 32) (k0_hw459 : k0_chk459 v6201 v6205 v6220), ∀ a, (k0_off688 v6201 v6205 v6220) a + S1x1x32x256.size a ≤ S5x50x50x256.size a := fun v6201 v6205 v6220 k0_hw459 => k0_hw459

def k0_off689 (v6201 : BitVec 32) (v6205 : BitVec 32) (v6220 : BitVec 32) (v6223 : BitVec 32) : Fin 4 → Nat :=
  let v6230 : Index := Scalar.indexCast v6220
  let c4_i32_2563 : BitVec 32 := 4#32
  let v6206 : BitVec 32 := Scalar.shrsi v6205 c4_i32_2563
  let v6224 : BitVec 32 := Scalar.addi v6206 v6223
  let v6231 : Index := Scalar.indexCast v6224
  let c4_i32_2561 : BitVec 32 := 4#32
  let v6202 : BitVec 32 := Scalar.shrsi v6201 c4_i32_2561
  let c3_i32_2568 : BitVec 32 := 3#32
  let v6215 : BitVec 32 := Scalar.shrsi v6202 c3_i32_2568
  let c3_i32_2569 : BitVec 32 := 3#32
  let v6216 : BitVec 32 := Scalar.shli v6215 c3_i32_2569
  let c16_i32_2570 : BitVec 32 := 16#32
  let v6217 : BitVec 32 := Scalar.minsi v6216 c16_i32_2570
  let v6218 : BitVec 32 := v6217
  let v6232 : Index := Scalar.indexCast v6218
  let c0_2573 : Index := 0#32
  ![v6230.toNat, v6231.toNat, v6232.toNat, 0]

def k0_chk460 (v6201 : BitVec 32) (v6205 : BitVec 32) (v6220 : BitVec 32) (v6223 : BitVec 32) : Prop :=
  (∀ a, (k0_off689 v6201 v6205 v6220 v6223) a + S1x1x32x256.size a ≤ S5x50x50x256.size a)
theorem k0_off689_inb : ∀ (v6201 : BitVec 32) (v6205 : BitVec 32) (v6220 : BitVec 32) (v6223 : BitVec 32) (k0_hw460 : k0_chk460 v6201 v6205 v6220 v6223), ∀ a, (k0_off689 v6201 v6205 v6220 v6223) a + S1x1x32x256.size a ≤ S5x50x50x256.size a := fun v6201 v6205 v6220 v6223 k0_hw460 => k0_hw460

def k0_off690 : Fin 4 → Nat :=
  let c0_2576 : Index := 0#32
  let c0_i32 : BitVec 32 := 0#32
  let c128_i32_2557 : BitVec 32 := 128#32
  let v6194 : BitVec 32 := Scalar.muli c0_i32 c128_i32_2557
  let c114_i32 : BitVec 32 := 114#32
  let v6195 : BitVec 32 := Scalar.addi v6194 c114_i32
  let v6244 : Index := Scalar.indexCast v6195
  let c0_2577 : Index := 0#32
  let c0_2578 : Index := 0#32
  ![0, v6244.toNat, 0, 0]
def k0_off691 (i : grid0.Coords) (c0_i32_2582 : BitVec 32) : Fin 1 → Nat :=
  let arg0 : BitVec 32 := BitVec.ofNat 32 (i 0).val
  let c128_i32_2580 : BitVec 32 := 128#32
  let v6250 : BitVec 32 := Scalar.muli arg0 c128_i32_2580
  let c0_i32 : BitVec 32 := 0#32
  let c128_i32_2579 : BitVec 32 := 128#32
  let v6248 : BitVec 32 := Scalar.muli c0_i32 c128_i32_2579
  let c115_i32 : BitVec 32 := 115#32
  let v6249 : BitVec 32 := Scalar.addi v6248 c115_i32
  let v6251 : BitVec 32 := Scalar.addi v6250 v6249
  let c4_i32_2581 : BitVec 32 := 4#32
  let v6252 : BitVec 32 := Scalar.muli v6251 c4_i32_2581
  let v6253 : BitVec 32 := Scalar.addi v6252 c0_i32_2582
  let v6254 : Index := Scalar.indexCast v6253
  ![v6254.toNat]
def k0_mult116 (v6255 : BitVec 32) : BitVec 32 :=
  let c4_i32_2583 : BitVec 32 := 4#32
  let v6256 : BitVec 32 := Scalar.shrsi v6255 c4_i32_2583
  let c3_i32_2590 : BitVec 32 := 3#32
  let v6269 : BitVec 32 := Scalar.shrsi v6256 c3_i32_2590
  let c3_i32_2591 : BitVec 32 := 3#32
  let v6270 : BitVec 32 := Scalar.shli v6269 c3_i32_2591
  let c16_i32_2592 : BitVec 32 := 16#32
  let v6271 : BitVec 32 := Scalar.minsi v6270 c16_i32_2592
  v6271

def k0_chk461 (v6255 : BitVec 32) : Prop :=
  (8 ∣ (k0_mult116 v6255).toNat)
theorem k0_mult116_dvd : ∀ (v6255 : BitVec 32) (k0_hw461 : k0_chk461 v6255), 8 ∣ (k0_mult116 v6255).toNat := fun v6255 k0_hw461 => k0_hw461

def k0_off692 (v6267 : BitVec 32) : Fin 1 → Nat :=
  let c4_i32_2589 : BitVec 32 := 4#32
  let v6268 : BitVec 32 := Scalar.shrsi v6267 c4_i32_2589
  let v6273 : Index := Scalar.indexCast v6268
  ![v6273.toNat]

def k0_off693 (v6267 : BitVec 32) : Fin 1 → Nat :=
  let c32_i32_2593 : BitVec 32 := 32#32
  let c4_i32_2589 : BitVec 32 := 4#32
  let v6268 : BitVec 32 := Scalar.shrsi v6267 c4_i32_2589
  let v6275 : BitVec 32 := Scalar.addi c32_i32_2593 v6268
  let v6276 : Index := Scalar.indexCast v6275
  ![v6276.toNat]

def k0_chk462 (v6267 : BitVec 32) : Prop :=
  (∀ a, (k0_off692 v6267) a + S1.size a ≤ S64.size a) ∧
  (∀ a, (k0_off693 v6267) a + S1.size a ≤ S64.size a)
theorem k0_off692_inb : ∀ (v6267 : BitVec 32) (k0_hw462 : k0_chk462 v6267), ∀ a, (k0_off692 v6267) a + S1.size a ≤ S64.size a := fun v6267 k0_hw462 => k0_hw462.1
theorem k0_off693_inb : ∀ (v6267 : BitVec 32) (k0_hw462 : k0_chk462 v6267), ∀ a, (k0_off693 v6267) a + S1.size a ≤ S64.size a := fun v6267 k0_hw462 => k0_hw462.2

def k0_off694 (v6255 : BitVec 32) (v6259 : BitVec 32) (v6274 : BitVec 32) : Fin 4 → Nat :=
  let v6279 : Index := Scalar.indexCast v6274
  let c4_i32_2585 : BitVec 32 := 4#32
  let v6260 : BitVec 32 := Scalar.shrsi v6259 c4_i32_2585
  let v6280 : Index := Scalar.indexCast v6260
  let c4_i32_2583 : BitVec 32 := 4#32
  let v6256 : BitVec 32 := Scalar.shrsi v6255 c4_i32_2583
  let c3_i32_2590 : BitVec 32 := 3#32
  let v6269 : BitVec 32 := Scalar.shrsi v6256 c3_i32_2590
  let c3_i32_2591 : BitVec 32 := 3#32
  let v6270 : BitVec 32 := Scalar.shli v6269 c3_i32_2591
  let c16_i32_2592 : BitVec 32 := 16#32
  let v6271 : BitVec 32 := Scalar.minsi v6270 c16_i32_2592
  let v6272 : BitVec 32 := v6271
  let v6281 : Index := Scalar.indexCast v6272
  let c0_2594 : Index := 0#32
  ![v6279.toNat, v6280.toNat, v6281.toNat, 0]

def k0_chk463 (v6255 : BitVec 32) (v6259 : BitVec 32) (v6274 : BitVec 32) : Prop :=
  (∀ a, (k0_off694 v6255 v6259 v6274) a + S1x1x32x256.size a ≤ S5x50x50x256.size a)
theorem k0_off694_inb : ∀ (v6255 : BitVec 32) (v6259 : BitVec 32) (v6274 : BitVec 32) (k0_hw463 : k0_chk463 v6255 v6259 v6274), ∀ a, (k0_off694 v6255 v6259 v6274) a + S1x1x32x256.size a ≤ S5x50x50x256.size a := fun v6255 v6259 v6274 k0_hw463 => k0_hw463

def k0_off695 (v6255 : BitVec 32) (v6259 : BitVec 32) (v6274 : BitVec 32) (v6277 : BitVec 32) : Fin 4 → Nat :=
  let v6284 : Index := Scalar.indexCast v6274
  let c4_i32_2585 : BitVec 32 := 4#32
  let v6260 : BitVec 32 := Scalar.shrsi v6259 c4_i32_2585
  let v6278 : BitVec 32 := Scalar.addi v6260 v6277
  let v6285 : Index := Scalar.indexCast v6278
  let c4_i32_2583 : BitVec 32 := 4#32
  let v6256 : BitVec 32 := Scalar.shrsi v6255 c4_i32_2583
  let c3_i32_2590 : BitVec 32 := 3#32
  let v6269 : BitVec 32 := Scalar.shrsi v6256 c3_i32_2590
  let c3_i32_2591 : BitVec 32 := 3#32
  let v6270 : BitVec 32 := Scalar.shli v6269 c3_i32_2591
  let c16_i32_2592 : BitVec 32 := 16#32
  let v6271 : BitVec 32 := Scalar.minsi v6270 c16_i32_2592
  let v6272 : BitVec 32 := v6271
  let v6286 : Index := Scalar.indexCast v6272
  let c0_2595 : Index := 0#32
  ![v6284.toNat, v6285.toNat, v6286.toNat, 0]

def k0_chk464 (v6255 : BitVec 32) (v6259 : BitVec 32) (v6274 : BitVec 32) (v6277 : BitVec 32) : Prop :=
  (∀ a, (k0_off695 v6255 v6259 v6274 v6277) a + S1x1x32x256.size a ≤ S5x50x50x256.size a)
theorem k0_off695_inb : ∀ (v6255 : BitVec 32) (v6259 : BitVec 32) (v6274 : BitVec 32) (v6277 : BitVec 32) (k0_hw464 : k0_chk464 v6255 v6259 v6274 v6277), ∀ a, (k0_off695 v6255 v6259 v6274 v6277) a + S1x1x32x256.size a ≤ S5x50x50x256.size a := fun v6255 v6259 v6274 v6277 k0_hw464 => k0_hw464

def k0_off696 : Fin 4 → Nat :=
  let c0_2598 : Index := 0#32
  let c0_i32 : BitVec 32 := 0#32
  let c128_i32_2579 : BitVec 32 := 128#32
  let v6248 : BitVec 32 := Scalar.muli c0_i32 c128_i32_2579
  let c115_i32 : BitVec 32 := 115#32
  let v6249 : BitVec 32 := Scalar.addi v6248 c115_i32
  let v6298 : Index := Scalar.indexCast v6249
  let c0_2599 : Index := 0#32
  let c0_2600 : Index := 0#32
  ![0, v6298.toNat, 0, 0]
def k0_off697 (i : grid0.Coords) (c0_i32_2604 : BitVec 32) : Fin 1 → Nat :=
  let arg0 : BitVec 32 := BitVec.ofNat 32 (i 0).val
  let c128_i32_2602 : BitVec 32 := 128#32
  let v6304 : BitVec 32 := Scalar.muli arg0 c128_i32_2602
  let c0_i32 : BitVec 32 := 0#32
  let c128_i32_2601 : BitVec 32 := 128#32
  let v6302 : BitVec 32 := Scalar.muli c0_i32 c128_i32_2601
  let c116_i32 : BitVec 32 := 116#32
  let v6303 : BitVec 32 := Scalar.addi v6302 c116_i32
  let v6305 : BitVec 32 := Scalar.addi v6304 v6303
  let c4_i32_2603 : BitVec 32 := 4#32
  let v6306 : BitVec 32 := Scalar.muli v6305 c4_i32_2603
  let v6307 : BitVec 32 := Scalar.addi v6306 c0_i32_2604
  let v6308 : Index := Scalar.indexCast v6307
  ![v6308.toNat]
def k0_mult117 (v6309 : BitVec 32) : BitVec 32 :=
  let c4_i32_2605 : BitVec 32 := 4#32
  let v6310 : BitVec 32 := Scalar.shrsi v6309 c4_i32_2605
  let c3_i32_2612 : BitVec 32 := 3#32
  let v6323 : BitVec 32 := Scalar.shrsi v6310 c3_i32_2612
  let c3_i32_2613 : BitVec 32 := 3#32
  let v6324 : BitVec 32 := Scalar.shli v6323 c3_i32_2613
  let c16_i32_2614 : BitVec 32 := 16#32
  let v6325 : BitVec 32 := Scalar.minsi v6324 c16_i32_2614
  v6325

def k0_chk465 (v6309 : BitVec 32) : Prop :=
  (8 ∣ (k0_mult117 v6309).toNat)
theorem k0_mult117_dvd : ∀ (v6309 : BitVec 32) (k0_hw465 : k0_chk465 v6309), 8 ∣ (k0_mult117 v6309).toNat := fun v6309 k0_hw465 => k0_hw465

def k0_off698 (v6321 : BitVec 32) : Fin 1 → Nat :=
  let c4_i32_2611 : BitVec 32 := 4#32
  let v6322 : BitVec 32 := Scalar.shrsi v6321 c4_i32_2611
  let v6327 : Index := Scalar.indexCast v6322
  ![v6327.toNat]

def k0_off699 (v6321 : BitVec 32) : Fin 1 → Nat :=
  let c32_i32_2615 : BitVec 32 := 32#32
  let c4_i32_2611 : BitVec 32 := 4#32
  let v6322 : BitVec 32 := Scalar.shrsi v6321 c4_i32_2611
  let v6329 : BitVec 32 := Scalar.addi c32_i32_2615 v6322
  let v6330 : Index := Scalar.indexCast v6329
  ![v6330.toNat]

def k0_chk466 (v6321 : BitVec 32) : Prop :=
  (∀ a, (k0_off698 v6321) a + S1.size a ≤ S64.size a) ∧
  (∀ a, (k0_off699 v6321) a + S1.size a ≤ S64.size a)
theorem k0_off698_inb : ∀ (v6321 : BitVec 32) (k0_hw466 : k0_chk466 v6321), ∀ a, (k0_off698 v6321) a + S1.size a ≤ S64.size a := fun v6321 k0_hw466 => k0_hw466.1
theorem k0_off699_inb : ∀ (v6321 : BitVec 32) (k0_hw466 : k0_chk466 v6321), ∀ a, (k0_off699 v6321) a + S1.size a ≤ S64.size a := fun v6321 k0_hw466 => k0_hw466.2

def k0_off700 (v6309 : BitVec 32) (v6313 : BitVec 32) (v6328 : BitVec 32) : Fin 4 → Nat :=
  let v6333 : Index := Scalar.indexCast v6328
  let c4_i32_2607 : BitVec 32 := 4#32
  let v6314 : BitVec 32 := Scalar.shrsi v6313 c4_i32_2607
  let v6334 : Index := Scalar.indexCast v6314
  let c4_i32_2605 : BitVec 32 := 4#32
  let v6310 : BitVec 32 := Scalar.shrsi v6309 c4_i32_2605
  let c3_i32_2612 : BitVec 32 := 3#32
  let v6323 : BitVec 32 := Scalar.shrsi v6310 c3_i32_2612
  let c3_i32_2613 : BitVec 32 := 3#32
  let v6324 : BitVec 32 := Scalar.shli v6323 c3_i32_2613
  let c16_i32_2614 : BitVec 32 := 16#32
  let v6325 : BitVec 32 := Scalar.minsi v6324 c16_i32_2614
  let v6326 : BitVec 32 := v6325
  let v6335 : Index := Scalar.indexCast v6326
  let c0_2616 : Index := 0#32
  ![v6333.toNat, v6334.toNat, v6335.toNat, 0]

def k0_chk467 (v6309 : BitVec 32) (v6313 : BitVec 32) (v6328 : BitVec 32) : Prop :=
  (∀ a, (k0_off700 v6309 v6313 v6328) a + S1x1x32x256.size a ≤ S5x50x50x256.size a)
theorem k0_off700_inb : ∀ (v6309 : BitVec 32) (v6313 : BitVec 32) (v6328 : BitVec 32) (k0_hw467 : k0_chk467 v6309 v6313 v6328), ∀ a, (k0_off700 v6309 v6313 v6328) a + S1x1x32x256.size a ≤ S5x50x50x256.size a := fun v6309 v6313 v6328 k0_hw467 => k0_hw467

def k0_off701 (v6309 : BitVec 32) (v6313 : BitVec 32) (v6328 : BitVec 32) (v6331 : BitVec 32) : Fin 4 → Nat :=
  let v6338 : Index := Scalar.indexCast v6328
  let c4_i32_2607 : BitVec 32 := 4#32
  let v6314 : BitVec 32 := Scalar.shrsi v6313 c4_i32_2607
  let v6332 : BitVec 32 := Scalar.addi v6314 v6331
  let v6339 : Index := Scalar.indexCast v6332
  let c4_i32_2605 : BitVec 32 := 4#32
  let v6310 : BitVec 32 := Scalar.shrsi v6309 c4_i32_2605
  let c3_i32_2612 : BitVec 32 := 3#32
  let v6323 : BitVec 32 := Scalar.shrsi v6310 c3_i32_2612
  let c3_i32_2613 : BitVec 32 := 3#32
  let v6324 : BitVec 32 := Scalar.shli v6323 c3_i32_2613
  let c16_i32_2614 : BitVec 32 := 16#32
  let v6325 : BitVec 32 := Scalar.minsi v6324 c16_i32_2614
  let v6326 : BitVec 32 := v6325
  let v6340 : Index := Scalar.indexCast v6326
  let c0_2617 : Index := 0#32
  ![v6338.toNat, v6339.toNat, v6340.toNat, 0]

def k0_chk468 (v6309 : BitVec 32) (v6313 : BitVec 32) (v6328 : BitVec 32) (v6331 : BitVec 32) : Prop :=
  (∀ a, (k0_off701 v6309 v6313 v6328 v6331) a + S1x1x32x256.size a ≤ S5x50x50x256.size a)
theorem k0_off701_inb : ∀ (v6309 : BitVec 32) (v6313 : BitVec 32) (v6328 : BitVec 32) (v6331 : BitVec 32) (k0_hw468 : k0_chk468 v6309 v6313 v6328 v6331), ∀ a, (k0_off701 v6309 v6313 v6328 v6331) a + S1x1x32x256.size a ≤ S5x50x50x256.size a := fun v6309 v6313 v6328 v6331 k0_hw468 => k0_hw468

def k0_off702 : Fin 4 → Nat :=
  let c0_2620 : Index := 0#32
  let c0_i32 : BitVec 32 := 0#32
  let c128_i32_2601 : BitVec 32 := 128#32
  let v6302 : BitVec 32 := Scalar.muli c0_i32 c128_i32_2601
  let c116_i32 : BitVec 32 := 116#32
  let v6303 : BitVec 32 := Scalar.addi v6302 c116_i32
  let v6352 : Index := Scalar.indexCast v6303
  let c0_2621 : Index := 0#32
  let c0_2622 : Index := 0#32
  ![0, v6352.toNat, 0, 0]
def k0_off703 (i : grid0.Coords) (c0_i32_2626 : BitVec 32) : Fin 1 → Nat :=
  let arg0 : BitVec 32 := BitVec.ofNat 32 (i 0).val
  let c128_i32_2624 : BitVec 32 := 128#32
  let v6358 : BitVec 32 := Scalar.muli arg0 c128_i32_2624
  let c0_i32 : BitVec 32 := 0#32
  let c128_i32_2623 : BitVec 32 := 128#32
  let v6356 : BitVec 32 := Scalar.muli c0_i32 c128_i32_2623
  let c117_i32 : BitVec 32 := 117#32
  let v6357 : BitVec 32 := Scalar.addi v6356 c117_i32
  let v6359 : BitVec 32 := Scalar.addi v6358 v6357
  let c4_i32_2625 : BitVec 32 := 4#32
  let v6360 : BitVec 32 := Scalar.muli v6359 c4_i32_2625
  let v6361 : BitVec 32 := Scalar.addi v6360 c0_i32_2626
  let v6362 : Index := Scalar.indexCast v6361
  ![v6362.toNat]
def k0_mult118 (v6363 : BitVec 32) : BitVec 32 :=
  let c4_i32_2627 : BitVec 32 := 4#32
  let v6364 : BitVec 32 := Scalar.shrsi v6363 c4_i32_2627
  let c3_i32_2634 : BitVec 32 := 3#32
  let v6377 : BitVec 32 := Scalar.shrsi v6364 c3_i32_2634
  let c3_i32_2635 : BitVec 32 := 3#32
  let v6378 : BitVec 32 := Scalar.shli v6377 c3_i32_2635
  let c16_i32_2636 : BitVec 32 := 16#32
  let v6379 : BitVec 32 := Scalar.minsi v6378 c16_i32_2636
  v6379

def k0_chk469 (v6363 : BitVec 32) : Prop :=
  (8 ∣ (k0_mult118 v6363).toNat)
theorem k0_mult118_dvd : ∀ (v6363 : BitVec 32) (k0_hw469 : k0_chk469 v6363), 8 ∣ (k0_mult118 v6363).toNat := fun v6363 k0_hw469 => k0_hw469

def k0_off704 (v6375 : BitVec 32) : Fin 1 → Nat :=
  let c4_i32_2633 : BitVec 32 := 4#32
  let v6376 : BitVec 32 := Scalar.shrsi v6375 c4_i32_2633
  let v6381 : Index := Scalar.indexCast v6376
  ![v6381.toNat]

def k0_off705 (v6375 : BitVec 32) : Fin 1 → Nat :=
  let c32_i32_2637 : BitVec 32 := 32#32
  let c4_i32_2633 : BitVec 32 := 4#32
  let v6376 : BitVec 32 := Scalar.shrsi v6375 c4_i32_2633
  let v6383 : BitVec 32 := Scalar.addi c32_i32_2637 v6376
  let v6384 : Index := Scalar.indexCast v6383
  ![v6384.toNat]

def k0_chk470 (v6375 : BitVec 32) : Prop :=
  (∀ a, (k0_off704 v6375) a + S1.size a ≤ S64.size a) ∧
  (∀ a, (k0_off705 v6375) a + S1.size a ≤ S64.size a)
theorem k0_off704_inb : ∀ (v6375 : BitVec 32) (k0_hw470 : k0_chk470 v6375), ∀ a, (k0_off704 v6375) a + S1.size a ≤ S64.size a := fun v6375 k0_hw470 => k0_hw470.1
theorem k0_off705_inb : ∀ (v6375 : BitVec 32) (k0_hw470 : k0_chk470 v6375), ∀ a, (k0_off705 v6375) a + S1.size a ≤ S64.size a := fun v6375 k0_hw470 => k0_hw470.2

def k0_off706 (v6363 : BitVec 32) (v6367 : BitVec 32) (v6382 : BitVec 32) : Fin 4 → Nat :=
  let v6387 : Index := Scalar.indexCast v6382
  let c4_i32_2629 : BitVec 32 := 4#32
  let v6368 : BitVec 32 := Scalar.shrsi v6367 c4_i32_2629
  let v6388 : Index := Scalar.indexCast v6368
  let c4_i32_2627 : BitVec 32 := 4#32
  let v6364 : BitVec 32 := Scalar.shrsi v6363 c4_i32_2627
  let c3_i32_2634 : BitVec 32 := 3#32
  let v6377 : BitVec 32 := Scalar.shrsi v6364 c3_i32_2634
  let c3_i32_2635 : BitVec 32 := 3#32
  let v6378 : BitVec 32 := Scalar.shli v6377 c3_i32_2635
  let c16_i32_2636 : BitVec 32 := 16#32
  let v6379 : BitVec 32 := Scalar.minsi v6378 c16_i32_2636
  let v6380 : BitVec 32 := v6379
  let v6389 : Index := Scalar.indexCast v6380
  let c0_2638 : Index := 0#32
  ![v6387.toNat, v6388.toNat, v6389.toNat, 0]

def k0_chk471 (v6363 : BitVec 32) (v6367 : BitVec 32) (v6382 : BitVec 32) : Prop :=
  (∀ a, (k0_off706 v6363 v6367 v6382) a + S1x1x32x256.size a ≤ S5x50x50x256.size a)
theorem k0_off706_inb : ∀ (v6363 : BitVec 32) (v6367 : BitVec 32) (v6382 : BitVec 32) (k0_hw471 : k0_chk471 v6363 v6367 v6382), ∀ a, (k0_off706 v6363 v6367 v6382) a + S1x1x32x256.size a ≤ S5x50x50x256.size a := fun v6363 v6367 v6382 k0_hw471 => k0_hw471

def k0_off707 (v6363 : BitVec 32) (v6367 : BitVec 32) (v6382 : BitVec 32) (v6385 : BitVec 32) : Fin 4 → Nat :=
  let v6392 : Index := Scalar.indexCast v6382
  let c4_i32_2629 : BitVec 32 := 4#32
  let v6368 : BitVec 32 := Scalar.shrsi v6367 c4_i32_2629
  let v6386 : BitVec 32 := Scalar.addi v6368 v6385
  let v6393 : Index := Scalar.indexCast v6386
  let c4_i32_2627 : BitVec 32 := 4#32
  let v6364 : BitVec 32 := Scalar.shrsi v6363 c4_i32_2627
  let c3_i32_2634 : BitVec 32 := 3#32
  let v6377 : BitVec 32 := Scalar.shrsi v6364 c3_i32_2634
  let c3_i32_2635 : BitVec 32 := 3#32
  let v6378 : BitVec 32 := Scalar.shli v6377 c3_i32_2635
  let c16_i32_2636 : BitVec 32 := 16#32
  let v6379 : BitVec 32 := Scalar.minsi v6378 c16_i32_2636
  let v6380 : BitVec 32 := v6379
  let v6394 : Index := Scalar.indexCast v6380
  let c0_2639 : Index := 0#32
  ![v6392.toNat, v6393.toNat, v6394.toNat, 0]

def k0_chk472 (v6363 : BitVec 32) (v6367 : BitVec 32) (v6382 : BitVec 32) (v6385 : BitVec 32) : Prop :=
  (∀ a, (k0_off707 v6363 v6367 v6382 v6385) a + S1x1x32x256.size a ≤ S5x50x50x256.size a)
theorem k0_off707_inb : ∀ (v6363 : BitVec 32) (v6367 : BitVec 32) (v6382 : BitVec 32) (v6385 : BitVec 32) (k0_hw472 : k0_chk472 v6363 v6367 v6382 v6385), ∀ a, (k0_off707 v6363 v6367 v6382 v6385) a + S1x1x32x256.size a ≤ S5x50x50x256.size a := fun v6363 v6367 v6382 v6385 k0_hw472 => k0_hw472

def k0_off708 : Fin 4 → Nat :=
  let c0_2642 : Index := 0#32
  let c0_i32 : BitVec 32 := 0#32
  let c128_i32_2623 : BitVec 32 := 128#32
  let v6356 : BitVec 32 := Scalar.muli c0_i32 c128_i32_2623
  let c117_i32 : BitVec 32 := 117#32
  let v6357 : BitVec 32 := Scalar.addi v6356 c117_i32
  let v6406 : Index := Scalar.indexCast v6357
  let c0_2643 : Index := 0#32
  let c0_2644 : Index := 0#32
  ![0, v6406.toNat, 0, 0]
def k0_off709 (i : grid0.Coords) (c0_i32_2648 : BitVec 32) : Fin 1 → Nat :=
  let arg0 : BitVec 32 := BitVec.ofNat 32 (i 0).val
  let c128_i32_2646 : BitVec 32 := 128#32
  let v6412 : BitVec 32 := Scalar.muli arg0 c128_i32_2646
  let c0_i32 : BitVec 32 := 0#32
  let c128_i32_2645 : BitVec 32 := 128#32
  let v6410 : BitVec 32 := Scalar.muli c0_i32 c128_i32_2645
  let c118_i32 : BitVec 32 := 118#32
  let v6411 : BitVec 32 := Scalar.addi v6410 c118_i32
  let v6413 : BitVec 32 := Scalar.addi v6412 v6411
  let c4_i32_2647 : BitVec 32 := 4#32
  let v6414 : BitVec 32 := Scalar.muli v6413 c4_i32_2647
  let v6415 : BitVec 32 := Scalar.addi v6414 c0_i32_2648
  let v6416 : Index := Scalar.indexCast v6415
  ![v6416.toNat]
def k0_mult119 (v6417 : BitVec 32) : BitVec 32 :=
  let c4_i32_2649 : BitVec 32 := 4#32
  let v6418 : BitVec 32 := Scalar.shrsi v6417 c4_i32_2649
  let c3_i32_2656 : BitVec 32 := 3#32
  let v6431 : BitVec 32 := Scalar.shrsi v6418 c3_i32_2656
  let c3_i32_2657 : BitVec 32 := 3#32
  let v6432 : BitVec 32 := Scalar.shli v6431 c3_i32_2657
  let c16_i32_2658 : BitVec 32 := 16#32
  let v6433 : BitVec 32 := Scalar.minsi v6432 c16_i32_2658
  v6433

def k0_chk473 (v6417 : BitVec 32) : Prop :=
  (8 ∣ (k0_mult119 v6417).toNat)
theorem k0_mult119_dvd : ∀ (v6417 : BitVec 32) (k0_hw473 : k0_chk473 v6417), 8 ∣ (k0_mult119 v6417).toNat := fun v6417 k0_hw473 => k0_hw473

def k0_off710 (v6429 : BitVec 32) : Fin 1 → Nat :=
  let c4_i32_2655 : BitVec 32 := 4#32
  let v6430 : BitVec 32 := Scalar.shrsi v6429 c4_i32_2655
  let v6435 : Index := Scalar.indexCast v6430
  ![v6435.toNat]

def k0_off711 (v6429 : BitVec 32) : Fin 1 → Nat :=
  let c32_i32_2659 : BitVec 32 := 32#32
  let c4_i32_2655 : BitVec 32 := 4#32
  let v6430 : BitVec 32 := Scalar.shrsi v6429 c4_i32_2655
  let v6437 : BitVec 32 := Scalar.addi c32_i32_2659 v6430
  let v6438 : Index := Scalar.indexCast v6437
  ![v6438.toNat]

def k0_chk474 (v6429 : BitVec 32) : Prop :=
  (∀ a, (k0_off710 v6429) a + S1.size a ≤ S64.size a) ∧
  (∀ a, (k0_off711 v6429) a + S1.size a ≤ S64.size a)
theorem k0_off710_inb : ∀ (v6429 : BitVec 32) (k0_hw474 : k0_chk474 v6429), ∀ a, (k0_off710 v6429) a + S1.size a ≤ S64.size a := fun v6429 k0_hw474 => k0_hw474.1
theorem k0_off711_inb : ∀ (v6429 : BitVec 32) (k0_hw474 : k0_chk474 v6429), ∀ a, (k0_off711 v6429) a + S1.size a ≤ S64.size a := fun v6429 k0_hw474 => k0_hw474.2

def k0_off712 (v6417 : BitVec 32) (v6421 : BitVec 32) (v6436 : BitVec 32) : Fin 4 → Nat :=
  let v6441 : Index := Scalar.indexCast v6436
  let c4_i32_2651 : BitVec 32 := 4#32
  let v6422 : BitVec 32 := Scalar.shrsi v6421 c4_i32_2651
  let v6442 : Index := Scalar.indexCast v6422
  let c4_i32_2649 : BitVec 32 := 4#32
  let v6418 : BitVec 32 := Scalar.shrsi v6417 c4_i32_2649
  let c3_i32_2656 : BitVec 32 := 3#32
  let v6431 : BitVec 32 := Scalar.shrsi v6418 c3_i32_2656
  let c3_i32_2657 : BitVec 32 := 3#32
  let v6432 : BitVec 32 := Scalar.shli v6431 c3_i32_2657
  let c16_i32_2658 : BitVec 32 := 16#32
  let v6433 : BitVec 32 := Scalar.minsi v6432 c16_i32_2658
  let v6434 : BitVec 32 := v6433
  let v6443 : Index := Scalar.indexCast v6434
  let c0_2660 : Index := 0#32
  ![v6441.toNat, v6442.toNat, v6443.toNat, 0]

def k0_chk475 (v6417 : BitVec 32) (v6421 : BitVec 32) (v6436 : BitVec 32) : Prop :=
  (∀ a, (k0_off712 v6417 v6421 v6436) a + S1x1x32x256.size a ≤ S5x50x50x256.size a)
theorem k0_off712_inb : ∀ (v6417 : BitVec 32) (v6421 : BitVec 32) (v6436 : BitVec 32) (k0_hw475 : k0_chk475 v6417 v6421 v6436), ∀ a, (k0_off712 v6417 v6421 v6436) a + S1x1x32x256.size a ≤ S5x50x50x256.size a := fun v6417 v6421 v6436 k0_hw475 => k0_hw475

def k0_off713 (v6417 : BitVec 32) (v6421 : BitVec 32) (v6436 : BitVec 32) (v6439 : BitVec 32) : Fin 4 → Nat :=
  let v6446 : Index := Scalar.indexCast v6436
  let c4_i32_2651 : BitVec 32 := 4#32
  let v6422 : BitVec 32 := Scalar.shrsi v6421 c4_i32_2651
  let v6440 : BitVec 32 := Scalar.addi v6422 v6439
  let v6447 : Index := Scalar.indexCast v6440
  let c4_i32_2649 : BitVec 32 := 4#32
  let v6418 : BitVec 32 := Scalar.shrsi v6417 c4_i32_2649
  let c3_i32_2656 : BitVec 32 := 3#32
  let v6431 : BitVec 32 := Scalar.shrsi v6418 c3_i32_2656
  let c3_i32_2657 : BitVec 32 := 3#32
  let v6432 : BitVec 32 := Scalar.shli v6431 c3_i32_2657
  let c16_i32_2658 : BitVec 32 := 16#32
  let v6433 : BitVec 32 := Scalar.minsi v6432 c16_i32_2658
  let v6434 : BitVec 32 := v6433
  let v6448 : Index := Scalar.indexCast v6434
  let c0_2661 : Index := 0#32
  ![v6446.toNat, v6447.toNat, v6448.toNat, 0]

def k0_chk476 (v6417 : BitVec 32) (v6421 : BitVec 32) (v6436 : BitVec 32) (v6439 : BitVec 32) : Prop :=
  (∀ a, (k0_off713 v6417 v6421 v6436 v6439) a + S1x1x32x256.size a ≤ S5x50x50x256.size a)
theorem k0_off713_inb : ∀ (v6417 : BitVec 32) (v6421 : BitVec 32) (v6436 : BitVec 32) (v6439 : BitVec 32) (k0_hw476 : k0_chk476 v6417 v6421 v6436 v6439), ∀ a, (k0_off713 v6417 v6421 v6436 v6439) a + S1x1x32x256.size a ≤ S5x50x50x256.size a := fun v6417 v6421 v6436 v6439 k0_hw476 => k0_hw476

def k0_off714 : Fin 4 → Nat :=
  let c0_2664 : Index := 0#32
  let c0_i32 : BitVec 32 := 0#32
  let c128_i32_2645 : BitVec 32 := 128#32
  let v6410 : BitVec 32 := Scalar.muli c0_i32 c128_i32_2645
  let c118_i32 : BitVec 32 := 118#32
  let v6411 : BitVec 32 := Scalar.addi v6410 c118_i32
  let v6460 : Index := Scalar.indexCast v6411
  let c0_2665 : Index := 0#32
  let c0_2666 : Index := 0#32
  ![0, v6460.toNat, 0, 0]
def k0_off715 (i : grid0.Coords) (c0_i32_2670 : BitVec 32) : Fin 1 → Nat :=
  let arg0 : BitVec 32 := BitVec.ofNat 32 (i 0).val
  let c128_i32_2668 : BitVec 32 := 128#32
  let v6466 : BitVec 32 := Scalar.muli arg0 c128_i32_2668
  let c0_i32 : BitVec 32 := 0#32
  let c128_i32_2667 : BitVec 32 := 128#32
  let v6464 : BitVec 32 := Scalar.muli c0_i32 c128_i32_2667
  let c119_i32 : BitVec 32 := 119#32
  let v6465 : BitVec 32 := Scalar.addi v6464 c119_i32
  let v6467 : BitVec 32 := Scalar.addi v6466 v6465
  let c4_i32_2669 : BitVec 32 := 4#32
  let v6468 : BitVec 32 := Scalar.muli v6467 c4_i32_2669
  let v6469 : BitVec 32 := Scalar.addi v6468 c0_i32_2670
  let v6470 : Index := Scalar.indexCast v6469
  ![v6470.toNat]
def k0_mult120 (v6471 : BitVec 32) : BitVec 32 :=
  let c4_i32_2671 : BitVec 32 := 4#32
  let v6472 : BitVec 32 := Scalar.shrsi v6471 c4_i32_2671
  let c3_i32_2678 : BitVec 32 := 3#32
  let v6485 : BitVec 32 := Scalar.shrsi v6472 c3_i32_2678
  let c3_i32_2679 : BitVec 32 := 3#32
  let v6486 : BitVec 32 := Scalar.shli v6485 c3_i32_2679
  let c16_i32_2680 : BitVec 32 := 16#32
  let v6487 : BitVec 32 := Scalar.minsi v6486 c16_i32_2680
  v6487

def k0_chk477 (v6471 : BitVec 32) : Prop :=
  (8 ∣ (k0_mult120 v6471).toNat)
theorem k0_mult120_dvd : ∀ (v6471 : BitVec 32) (k0_hw477 : k0_chk477 v6471), 8 ∣ (k0_mult120 v6471).toNat := fun v6471 k0_hw477 => k0_hw477

def k0_off716 (v6483 : BitVec 32) : Fin 1 → Nat :=
  let c4_i32_2677 : BitVec 32 := 4#32
  let v6484 : BitVec 32 := Scalar.shrsi v6483 c4_i32_2677
  let v6489 : Index := Scalar.indexCast v6484
  ![v6489.toNat]

def k0_off717 (v6483 : BitVec 32) : Fin 1 → Nat :=
  let c32_i32_2681 : BitVec 32 := 32#32
  let c4_i32_2677 : BitVec 32 := 4#32
  let v6484 : BitVec 32 := Scalar.shrsi v6483 c4_i32_2677
  let v6491 : BitVec 32 := Scalar.addi c32_i32_2681 v6484
  let v6492 : Index := Scalar.indexCast v6491
  ![v6492.toNat]

def k0_chk478 (v6483 : BitVec 32) : Prop :=
  (∀ a, (k0_off716 v6483) a + S1.size a ≤ S64.size a) ∧
  (∀ a, (k0_off717 v6483) a + S1.size a ≤ S64.size a)
theorem k0_off716_inb : ∀ (v6483 : BitVec 32) (k0_hw478 : k0_chk478 v6483), ∀ a, (k0_off716 v6483) a + S1.size a ≤ S64.size a := fun v6483 k0_hw478 => k0_hw478.1
theorem k0_off717_inb : ∀ (v6483 : BitVec 32) (k0_hw478 : k0_chk478 v6483), ∀ a, (k0_off717 v6483) a + S1.size a ≤ S64.size a := fun v6483 k0_hw478 => k0_hw478.2

def k0_off718 (v6471 : BitVec 32) (v6475 : BitVec 32) (v6490 : BitVec 32) : Fin 4 → Nat :=
  let v6495 : Index := Scalar.indexCast v6490
  let c4_i32_2673 : BitVec 32 := 4#32
  let v6476 : BitVec 32 := Scalar.shrsi v6475 c4_i32_2673
  let v6496 : Index := Scalar.indexCast v6476
  let c4_i32_2671 : BitVec 32 := 4#32
  let v6472 : BitVec 32 := Scalar.shrsi v6471 c4_i32_2671
  let c3_i32_2678 : BitVec 32 := 3#32
  let v6485 : BitVec 32 := Scalar.shrsi v6472 c3_i32_2678
  let c3_i32_2679 : BitVec 32 := 3#32
  let v6486 : BitVec 32 := Scalar.shli v6485 c3_i32_2679
  let c16_i32_2680 : BitVec 32 := 16#32
  let v6487 : BitVec 32 := Scalar.minsi v6486 c16_i32_2680
  let v6488 : BitVec 32 := v6487
  let v6497 : Index := Scalar.indexCast v6488
  let c0_2682 : Index := 0#32
  ![v6495.toNat, v6496.toNat, v6497.toNat, 0]

def k0_chk479 (v6471 : BitVec 32) (v6475 : BitVec 32) (v6490 : BitVec 32) : Prop :=
  (∀ a, (k0_off718 v6471 v6475 v6490) a + S1x1x32x256.size a ≤ S5x50x50x256.size a)
theorem k0_off718_inb : ∀ (v6471 : BitVec 32) (v6475 : BitVec 32) (v6490 : BitVec 32) (k0_hw479 : k0_chk479 v6471 v6475 v6490), ∀ a, (k0_off718 v6471 v6475 v6490) a + S1x1x32x256.size a ≤ S5x50x50x256.size a := fun v6471 v6475 v6490 k0_hw479 => k0_hw479

def k0_off719 (v6471 : BitVec 32) (v6475 : BitVec 32) (v6490 : BitVec 32) (v6493 : BitVec 32) : Fin 4 → Nat :=
  let v6500 : Index := Scalar.indexCast v6490
  let c4_i32_2673 : BitVec 32 := 4#32
  let v6476 : BitVec 32 := Scalar.shrsi v6475 c4_i32_2673
  let v6494 : BitVec 32 := Scalar.addi v6476 v6493
  let v6501 : Index := Scalar.indexCast v6494
  let c4_i32_2671 : BitVec 32 := 4#32
  let v6472 : BitVec 32 := Scalar.shrsi v6471 c4_i32_2671
  let c3_i32_2678 : BitVec 32 := 3#32
  let v6485 : BitVec 32 := Scalar.shrsi v6472 c3_i32_2678
  let c3_i32_2679 : BitVec 32 := 3#32
  let v6486 : BitVec 32 := Scalar.shli v6485 c3_i32_2679
  let c16_i32_2680 : BitVec 32 := 16#32
  let v6487 : BitVec 32 := Scalar.minsi v6486 c16_i32_2680
  let v6488 : BitVec 32 := v6487
  let v6502 : Index := Scalar.indexCast v6488
  let c0_2683 : Index := 0#32
  ![v6500.toNat, v6501.toNat, v6502.toNat, 0]

def k0_chk480 (v6471 : BitVec 32) (v6475 : BitVec 32) (v6490 : BitVec 32) (v6493 : BitVec 32) : Prop :=
  (∀ a, (k0_off719 v6471 v6475 v6490 v6493) a + S1x1x32x256.size a ≤ S5x50x50x256.size a)
theorem k0_off719_inb : ∀ (v6471 : BitVec 32) (v6475 : BitVec 32) (v6490 : BitVec 32) (v6493 : BitVec 32) (k0_hw480 : k0_chk480 v6471 v6475 v6490 v6493), ∀ a, (k0_off719 v6471 v6475 v6490 v6493) a + S1x1x32x256.size a ≤ S5x50x50x256.size a := fun v6471 v6475 v6490 v6493 k0_hw480 => k0_hw480

def k0_off720 : Fin 4 → Nat :=
  let c0_2686 : Index := 0#32
  let c0_i32 : BitVec 32 := 0#32
  let c128_i32_2667 : BitVec 32 := 128#32
  let v6464 : BitVec 32 := Scalar.muli c0_i32 c128_i32_2667
  let c119_i32 : BitVec 32 := 119#32
  let v6465 : BitVec 32 := Scalar.addi v6464 c119_i32
  let v6514 : Index := Scalar.indexCast v6465
  let c0_2687 : Index := 0#32
  let c0_2688 : Index := 0#32
  ![0, v6514.toNat, 0, 0]
def k0_off721 (i : grid0.Coords) (c0_i32_2692 : BitVec 32) : Fin 1 → Nat :=
  let arg0 : BitVec 32 := BitVec.ofNat 32 (i 0).val
  let c128_i32_2690 : BitVec 32 := 128#32
  let v6520 : BitVec 32 := Scalar.muli arg0 c128_i32_2690
  let c0_i32 : BitVec 32 := 0#32
  let c128_i32_2689 : BitVec 32 := 128#32
  let v6518 : BitVec 32 := Scalar.muli c0_i32 c128_i32_2689
  let c120_i32 : BitVec 32 := 120#32
  let v6519 : BitVec 32 := Scalar.addi v6518 c120_i32
  let v6521 : BitVec 32 := Scalar.addi v6520 v6519
  let c4_i32_2691 : BitVec 32 := 4#32
  let v6522 : BitVec 32 := Scalar.muli v6521 c4_i32_2691
  let v6523 : BitVec 32 := Scalar.addi v6522 c0_i32_2692
  let v6524 : Index := Scalar.indexCast v6523
  ![v6524.toNat]
def k0_mult121 (v6525 : BitVec 32) : BitVec 32 :=
  let c4_i32_2693 : BitVec 32 := 4#32
  let v6526 : BitVec 32 := Scalar.shrsi v6525 c4_i32_2693
  let c3_i32_2700 : BitVec 32 := 3#32
  let v6539 : BitVec 32 := Scalar.shrsi v6526 c3_i32_2700
  let c3_i32_2701 : BitVec 32 := 3#32
  let v6540 : BitVec 32 := Scalar.shli v6539 c3_i32_2701
  let c16_i32_2702 : BitVec 32 := 16#32
  let v6541 : BitVec 32 := Scalar.minsi v6540 c16_i32_2702
  v6541

def k0_chk481 (v6525 : BitVec 32) : Prop :=
  (8 ∣ (k0_mult121 v6525).toNat)
theorem k0_mult121_dvd : ∀ (v6525 : BitVec 32) (k0_hw481 : k0_chk481 v6525), 8 ∣ (k0_mult121 v6525).toNat := fun v6525 k0_hw481 => k0_hw481

def k0_off722 (v6537 : BitVec 32) : Fin 1 → Nat :=
  let c4_i32_2699 : BitVec 32 := 4#32
  let v6538 : BitVec 32 := Scalar.shrsi v6537 c4_i32_2699
  let v6543 : Index := Scalar.indexCast v6538
  ![v6543.toNat]

def k0_off723 (v6537 : BitVec 32) : Fin 1 → Nat :=
  let c32_i32_2703 : BitVec 32 := 32#32
  let c4_i32_2699 : BitVec 32 := 4#32
  let v6538 : BitVec 32 := Scalar.shrsi v6537 c4_i32_2699
  let v6545 : BitVec 32 := Scalar.addi c32_i32_2703 v6538
  let v6546 : Index := Scalar.indexCast v6545
  ![v6546.toNat]

def k0_chk482 (v6537 : BitVec 32) : Prop :=
  (∀ a, (k0_off722 v6537) a + S1.size a ≤ S64.size a) ∧
  (∀ a, (k0_off723 v6537) a + S1.size a ≤ S64.size a)
theorem k0_off722_inb : ∀ (v6537 : BitVec 32) (k0_hw482 : k0_chk482 v6537), ∀ a, (k0_off722 v6537) a + S1.size a ≤ S64.size a := fun v6537 k0_hw482 => k0_hw482.1
theorem k0_off723_inb : ∀ (v6537 : BitVec 32) (k0_hw482 : k0_chk482 v6537), ∀ a, (k0_off723 v6537) a + S1.size a ≤ S64.size a := fun v6537 k0_hw482 => k0_hw482.2

def k0_off724 (v6525 : BitVec 32) (v6529 : BitVec 32) (v6544 : BitVec 32) : Fin 4 → Nat :=
  let v6549 : Index := Scalar.indexCast v6544
  let c4_i32_2695 : BitVec 32 := 4#32
  let v6530 : BitVec 32 := Scalar.shrsi v6529 c4_i32_2695
  let v6550 : Index := Scalar.indexCast v6530
  let c4_i32_2693 : BitVec 32 := 4#32
  let v6526 : BitVec 32 := Scalar.shrsi v6525 c4_i32_2693
  let c3_i32_2700 : BitVec 32 := 3#32
  let v6539 : BitVec 32 := Scalar.shrsi v6526 c3_i32_2700
  let c3_i32_2701 : BitVec 32 := 3#32
  let v6540 : BitVec 32 := Scalar.shli v6539 c3_i32_2701
  let c16_i32_2702 : BitVec 32 := 16#32
  let v6541 : BitVec 32 := Scalar.minsi v6540 c16_i32_2702
  let v6542 : BitVec 32 := v6541
  let v6551 : Index := Scalar.indexCast v6542
  let c0_2704 : Index := 0#32
  ![v6549.toNat, v6550.toNat, v6551.toNat, 0]

def k0_chk483 (v6525 : BitVec 32) (v6529 : BitVec 32) (v6544 : BitVec 32) : Prop :=
  (∀ a, (k0_off724 v6525 v6529 v6544) a + S1x1x32x256.size a ≤ S5x50x50x256.size a)
theorem k0_off724_inb : ∀ (v6525 : BitVec 32) (v6529 : BitVec 32) (v6544 : BitVec 32) (k0_hw483 : k0_chk483 v6525 v6529 v6544), ∀ a, (k0_off724 v6525 v6529 v6544) a + S1x1x32x256.size a ≤ S5x50x50x256.size a := fun v6525 v6529 v6544 k0_hw483 => k0_hw483

def k0_off725 (v6525 : BitVec 32) (v6529 : BitVec 32) (v6544 : BitVec 32) (v6547 : BitVec 32) : Fin 4 → Nat :=
  let v6554 : Index := Scalar.indexCast v6544
  let c4_i32_2695 : BitVec 32 := 4#32
  let v6530 : BitVec 32 := Scalar.shrsi v6529 c4_i32_2695
  let v6548 : BitVec 32 := Scalar.addi v6530 v6547
  let v6555 : Index := Scalar.indexCast v6548
  let c4_i32_2693 : BitVec 32 := 4#32
  let v6526 : BitVec 32 := Scalar.shrsi v6525 c4_i32_2693
  let c3_i32_2700 : BitVec 32 := 3#32
  let v6539 : BitVec 32 := Scalar.shrsi v6526 c3_i32_2700
  let c3_i32_2701 : BitVec 32 := 3#32
  let v6540 : BitVec 32 := Scalar.shli v6539 c3_i32_2701
  let c16_i32_2702 : BitVec 32 := 16#32
  let v6541 : BitVec 32 := Scalar.minsi v6540 c16_i32_2702
  let v6542 : BitVec 32 := v6541
  let v6556 : Index := Scalar.indexCast v6542
  let c0_2705 : Index := 0#32
  ![v6554.toNat, v6555.toNat, v6556.toNat, 0]

def k0_chk484 (v6525 : BitVec 32) (v6529 : BitVec 32) (v6544 : BitVec 32) (v6547 : BitVec 32) : Prop :=
  (∀ a, (k0_off725 v6525 v6529 v6544 v6547) a + S1x1x32x256.size a ≤ S5x50x50x256.size a)
theorem k0_off725_inb : ∀ (v6525 : BitVec 32) (v6529 : BitVec 32) (v6544 : BitVec 32) (v6547 : BitVec 32) (k0_hw484 : k0_chk484 v6525 v6529 v6544 v6547), ∀ a, (k0_off725 v6525 v6529 v6544 v6547) a + S1x1x32x256.size a ≤ S5x50x50x256.size a := fun v6525 v6529 v6544 v6547 k0_hw484 => k0_hw484

def k0_off726 : Fin 4 → Nat :=
  let c0_2708 : Index := 0#32
  let c0_i32 : BitVec 32 := 0#32
  let c128_i32_2689 : BitVec 32 := 128#32
  let v6518 : BitVec 32 := Scalar.muli c0_i32 c128_i32_2689
  let c120_i32 : BitVec 32 := 120#32
  let v6519 : BitVec 32 := Scalar.addi v6518 c120_i32
  let v6568 : Index := Scalar.indexCast v6519
  let c0_2709 : Index := 0#32
  let c0_2710 : Index := 0#32
  ![0, v6568.toNat, 0, 0]
def k0_off727 (i : grid0.Coords) (c0_i32_2714 : BitVec 32) : Fin 1 → Nat :=
  let arg0 : BitVec 32 := BitVec.ofNat 32 (i 0).val
  let c128_i32_2712 : BitVec 32 := 128#32
  let v6574 : BitVec 32 := Scalar.muli arg0 c128_i32_2712
  let c0_i32 : BitVec 32 := 0#32
  let c128_i32_2711 : BitVec 32 := 128#32
  let v6572 : BitVec 32 := Scalar.muli c0_i32 c128_i32_2711
  let c121_i32 : BitVec 32 := 121#32
  let v6573 : BitVec 32 := Scalar.addi v6572 c121_i32
  let v6575 : BitVec 32 := Scalar.addi v6574 v6573
  let c4_i32_2713 : BitVec 32 := 4#32
  let v6576 : BitVec 32 := Scalar.muli v6575 c4_i32_2713
  let v6577 : BitVec 32 := Scalar.addi v6576 c0_i32_2714
  let v6578 : Index := Scalar.indexCast v6577
  ![v6578.toNat]
def k0_mult122 (v6579 : BitVec 32) : BitVec 32 :=
  let c4_i32_2715 : BitVec 32 := 4#32
  let v6580 : BitVec 32 := Scalar.shrsi v6579 c4_i32_2715
  let c3_i32_2722 : BitVec 32 := 3#32
  let v6593 : BitVec 32 := Scalar.shrsi v6580 c3_i32_2722
  let c3_i32_2723 : BitVec 32 := 3#32
  let v6594 : BitVec 32 := Scalar.shli v6593 c3_i32_2723
  let c16_i32_2724 : BitVec 32 := 16#32
  let v6595 : BitVec 32 := Scalar.minsi v6594 c16_i32_2724
  v6595

def k0_chk485 (v6579 : BitVec 32) : Prop :=
  (8 ∣ (k0_mult122 v6579).toNat)
theorem k0_mult122_dvd : ∀ (v6579 : BitVec 32) (k0_hw485 : k0_chk485 v6579), 8 ∣ (k0_mult122 v6579).toNat := fun v6579 k0_hw485 => k0_hw485

def k0_off728 (v6591 : BitVec 32) : Fin 1 → Nat :=
  let c4_i32_2721 : BitVec 32 := 4#32
  let v6592 : BitVec 32 := Scalar.shrsi v6591 c4_i32_2721
  let v6597 : Index := Scalar.indexCast v6592
  ![v6597.toNat]

def k0_off729 (v6591 : BitVec 32) : Fin 1 → Nat :=
  let c32_i32_2725 : BitVec 32 := 32#32
  let c4_i32_2721 : BitVec 32 := 4#32
  let v6592 : BitVec 32 := Scalar.shrsi v6591 c4_i32_2721
  let v6599 : BitVec 32 := Scalar.addi c32_i32_2725 v6592
  let v6600 : Index := Scalar.indexCast v6599
  ![v6600.toNat]

def k0_chk486 (v6591 : BitVec 32) : Prop :=
  (∀ a, (k0_off728 v6591) a + S1.size a ≤ S64.size a) ∧
  (∀ a, (k0_off729 v6591) a + S1.size a ≤ S64.size a)
theorem k0_off728_inb : ∀ (v6591 : BitVec 32) (k0_hw486 : k0_chk486 v6591), ∀ a, (k0_off728 v6591) a + S1.size a ≤ S64.size a := fun v6591 k0_hw486 => k0_hw486.1
theorem k0_off729_inb : ∀ (v6591 : BitVec 32) (k0_hw486 : k0_chk486 v6591), ∀ a, (k0_off729 v6591) a + S1.size a ≤ S64.size a := fun v6591 k0_hw486 => k0_hw486.2

def k0_off730 (v6579 : BitVec 32) (v6583 : BitVec 32) (v6598 : BitVec 32) : Fin 4 → Nat :=
  let v6603 : Index := Scalar.indexCast v6598
  let c4_i32_2717 : BitVec 32 := 4#32
  let v6584 : BitVec 32 := Scalar.shrsi v6583 c4_i32_2717
  let v6604 : Index := Scalar.indexCast v6584
  let c4_i32_2715 : BitVec 32 := 4#32
  let v6580 : BitVec 32 := Scalar.shrsi v6579 c4_i32_2715
  let c3_i32_2722 : BitVec 32 := 3#32
  let v6593 : BitVec 32 := Scalar.shrsi v6580 c3_i32_2722
  let c3_i32_2723 : BitVec 32 := 3#32
  let v6594 : BitVec 32 := Scalar.shli v6593 c3_i32_2723
  let c16_i32_2724 : BitVec 32 := 16#32
  let v6595 : BitVec 32 := Scalar.minsi v6594 c16_i32_2724
  let v6596 : BitVec 32 := v6595
  let v6605 : Index := Scalar.indexCast v6596
  let c0_2726 : Index := 0#32
  ![v6603.toNat, v6604.toNat, v6605.toNat, 0]

def k0_chk487 (v6579 : BitVec 32) (v6583 : BitVec 32) (v6598 : BitVec 32) : Prop :=
  (∀ a, (k0_off730 v6579 v6583 v6598) a + S1x1x32x256.size a ≤ S5x50x50x256.size a)
theorem k0_off730_inb : ∀ (v6579 : BitVec 32) (v6583 : BitVec 32) (v6598 : BitVec 32) (k0_hw487 : k0_chk487 v6579 v6583 v6598), ∀ a, (k0_off730 v6579 v6583 v6598) a + S1x1x32x256.size a ≤ S5x50x50x256.size a := fun v6579 v6583 v6598 k0_hw487 => k0_hw487

def k0_off731 (v6579 : BitVec 32) (v6583 : BitVec 32) (v6598 : BitVec 32) (v6601 : BitVec 32) : Fin 4 → Nat :=
  let v6608 : Index := Scalar.indexCast v6598
  let c4_i32_2717 : BitVec 32 := 4#32
  let v6584 : BitVec 32 := Scalar.shrsi v6583 c4_i32_2717
  let v6602 : BitVec 32 := Scalar.addi v6584 v6601
  let v6609 : Index := Scalar.indexCast v6602
  let c4_i32_2715 : BitVec 32 := 4#32
  let v6580 : BitVec 32 := Scalar.shrsi v6579 c4_i32_2715
  let c3_i32_2722 : BitVec 32 := 3#32
  let v6593 : BitVec 32 := Scalar.shrsi v6580 c3_i32_2722
  let c3_i32_2723 : BitVec 32 := 3#32
  let v6594 : BitVec 32 := Scalar.shli v6593 c3_i32_2723
  let c16_i32_2724 : BitVec 32 := 16#32
  let v6595 : BitVec 32 := Scalar.minsi v6594 c16_i32_2724
  let v6596 : BitVec 32 := v6595
  let v6610 : Index := Scalar.indexCast v6596
  let c0_2727 : Index := 0#32
  ![v6608.toNat, v6609.toNat, v6610.toNat, 0]

def k0_chk488 (v6579 : BitVec 32) (v6583 : BitVec 32) (v6598 : BitVec 32) (v6601 : BitVec 32) : Prop :=
  (∀ a, (k0_off731 v6579 v6583 v6598 v6601) a + S1x1x32x256.size a ≤ S5x50x50x256.size a)
theorem k0_off731_inb : ∀ (v6579 : BitVec 32) (v6583 : BitVec 32) (v6598 : BitVec 32) (v6601 : BitVec 32) (k0_hw488 : k0_chk488 v6579 v6583 v6598 v6601), ∀ a, (k0_off731 v6579 v6583 v6598 v6601) a + S1x1x32x256.size a ≤ S5x50x50x256.size a := fun v6579 v6583 v6598 v6601 k0_hw488 => k0_hw488

def k0_off732 : Fin 4 → Nat :=
  let c0_2730 : Index := 0#32
  let c0_i32 : BitVec 32 := 0#32
  let c128_i32_2711 : BitVec 32 := 128#32
  let v6572 : BitVec 32 := Scalar.muli c0_i32 c128_i32_2711
  let c121_i32 : BitVec 32 := 121#32
  let v6573 : BitVec 32 := Scalar.addi v6572 c121_i32
  let v6622 : Index := Scalar.indexCast v6573
  let c0_2731 : Index := 0#32
  let c0_2732 : Index := 0#32
  ![0, v6622.toNat, 0, 0]
def k0_off733 (i : grid0.Coords) (c0_i32_2736 : BitVec 32) : Fin 1 → Nat :=
  let arg0 : BitVec 32 := BitVec.ofNat 32 (i 0).val
  let c128_i32_2734 : BitVec 32 := 128#32
  let v6628 : BitVec 32 := Scalar.muli arg0 c128_i32_2734
  let c0_i32 : BitVec 32 := 0#32
  let c128_i32_2733 : BitVec 32 := 128#32
  let v6626 : BitVec 32 := Scalar.muli c0_i32 c128_i32_2733
  let c122_i32 : BitVec 32 := 122#32
  let v6627 : BitVec 32 := Scalar.addi v6626 c122_i32
  let v6629 : BitVec 32 := Scalar.addi v6628 v6627
  let c4_i32_2735 : BitVec 32 := 4#32
  let v6630 : BitVec 32 := Scalar.muli v6629 c4_i32_2735
  let v6631 : BitVec 32 := Scalar.addi v6630 c0_i32_2736
  let v6632 : Index := Scalar.indexCast v6631
  ![v6632.toNat]
def k0_mult123 (v6633 : BitVec 32) : BitVec 32 :=
  let c4_i32_2737 : BitVec 32 := 4#32
  let v6634 : BitVec 32 := Scalar.shrsi v6633 c4_i32_2737
  let c3_i32_2744 : BitVec 32 := 3#32
  let v6647 : BitVec 32 := Scalar.shrsi v6634 c3_i32_2744
  let c3_i32_2745 : BitVec 32 := 3#32
  let v6648 : BitVec 32 := Scalar.shli v6647 c3_i32_2745
  let c16_i32_2746 : BitVec 32 := 16#32
  let v6649 : BitVec 32 := Scalar.minsi v6648 c16_i32_2746
  v6649

def k0_chk489 (v6633 : BitVec 32) : Prop :=
  (8 ∣ (k0_mult123 v6633).toNat)
theorem k0_mult123_dvd : ∀ (v6633 : BitVec 32) (k0_hw489 : k0_chk489 v6633), 8 ∣ (k0_mult123 v6633).toNat := fun v6633 k0_hw489 => k0_hw489

def k0_off734 (v6645 : BitVec 32) : Fin 1 → Nat :=
  let c4_i32_2743 : BitVec 32 := 4#32
  let v6646 : BitVec 32 := Scalar.shrsi v6645 c4_i32_2743
  let v6651 : Index := Scalar.indexCast v6646
  ![v6651.toNat]

def k0_off735 (v6645 : BitVec 32) : Fin 1 → Nat :=
  let c32_i32_2747 : BitVec 32 := 32#32
  let c4_i32_2743 : BitVec 32 := 4#32
  let v6646 : BitVec 32 := Scalar.shrsi v6645 c4_i32_2743
  let v6653 : BitVec 32 := Scalar.addi c32_i32_2747 v6646
  let v6654 : Index := Scalar.indexCast v6653
  ![v6654.toNat]

def k0_chk490 (v6645 : BitVec 32) : Prop :=
  (∀ a, (k0_off734 v6645) a + S1.size a ≤ S64.size a) ∧
  (∀ a, (k0_off735 v6645) a + S1.size a ≤ S64.size a)
theorem k0_off734_inb : ∀ (v6645 : BitVec 32) (k0_hw490 : k0_chk490 v6645), ∀ a, (k0_off734 v6645) a + S1.size a ≤ S64.size a := fun v6645 k0_hw490 => k0_hw490.1
theorem k0_off735_inb : ∀ (v6645 : BitVec 32) (k0_hw490 : k0_chk490 v6645), ∀ a, (k0_off735 v6645) a + S1.size a ≤ S64.size a := fun v6645 k0_hw490 => k0_hw490.2

def k0_off736 (v6633 : BitVec 32) (v6637 : BitVec 32) (v6652 : BitVec 32) : Fin 4 → Nat :=
  let v6657 : Index := Scalar.indexCast v6652
  let c4_i32_2739 : BitVec 32 := 4#32
  let v6638 : BitVec 32 := Scalar.shrsi v6637 c4_i32_2739
  let v6658 : Index := Scalar.indexCast v6638
  let c4_i32_2737 : BitVec 32 := 4#32
  let v6634 : BitVec 32 := Scalar.shrsi v6633 c4_i32_2737
  let c3_i32_2744 : BitVec 32 := 3#32
  let v6647 : BitVec 32 := Scalar.shrsi v6634 c3_i32_2744
  let c3_i32_2745 : BitVec 32 := 3#32
  let v6648 : BitVec 32 := Scalar.shli v6647 c3_i32_2745
  let c16_i32_2746 : BitVec 32 := 16#32
  let v6649 : BitVec 32 := Scalar.minsi v6648 c16_i32_2746
  let v6650 : BitVec 32 := v6649
  let v6659 : Index := Scalar.indexCast v6650
  let c0_2748 : Index := 0#32
  ![v6657.toNat, v6658.toNat, v6659.toNat, 0]

def k0_chk491 (v6633 : BitVec 32) (v6637 : BitVec 32) (v6652 : BitVec 32) : Prop :=
  (∀ a, (k0_off736 v6633 v6637 v6652) a + S1x1x32x256.size a ≤ S5x50x50x256.size a)
theorem k0_off736_inb : ∀ (v6633 : BitVec 32) (v6637 : BitVec 32) (v6652 : BitVec 32) (k0_hw491 : k0_chk491 v6633 v6637 v6652), ∀ a, (k0_off736 v6633 v6637 v6652) a + S1x1x32x256.size a ≤ S5x50x50x256.size a := fun v6633 v6637 v6652 k0_hw491 => k0_hw491

def k0_off737 (v6633 : BitVec 32) (v6637 : BitVec 32) (v6652 : BitVec 32) (v6655 : BitVec 32) : Fin 4 → Nat :=
  let v6662 : Index := Scalar.indexCast v6652
  let c4_i32_2739 : BitVec 32 := 4#32
  let v6638 : BitVec 32 := Scalar.shrsi v6637 c4_i32_2739
  let v6656 : BitVec 32 := Scalar.addi v6638 v6655
  let v6663 : Index := Scalar.indexCast v6656
  let c4_i32_2737 : BitVec 32 := 4#32
  let v6634 : BitVec 32 := Scalar.shrsi v6633 c4_i32_2737
  let c3_i32_2744 : BitVec 32 := 3#32
  let v6647 : BitVec 32 := Scalar.shrsi v6634 c3_i32_2744
  let c3_i32_2745 : BitVec 32 := 3#32
  let v6648 : BitVec 32 := Scalar.shli v6647 c3_i32_2745
  let c16_i32_2746 : BitVec 32 := 16#32
  let v6649 : BitVec 32 := Scalar.minsi v6648 c16_i32_2746
  let v6650 : BitVec 32 := v6649
  let v6664 : Index := Scalar.indexCast v6650
  let c0_2749 : Index := 0#32
  ![v6662.toNat, v6663.toNat, v6664.toNat, 0]

def k0_chk492 (v6633 : BitVec 32) (v6637 : BitVec 32) (v6652 : BitVec 32) (v6655 : BitVec 32) : Prop :=
  (∀ a, (k0_off737 v6633 v6637 v6652 v6655) a + S1x1x32x256.size a ≤ S5x50x50x256.size a)
theorem k0_off737_inb : ∀ (v6633 : BitVec 32) (v6637 : BitVec 32) (v6652 : BitVec 32) (v6655 : BitVec 32) (k0_hw492 : k0_chk492 v6633 v6637 v6652 v6655), ∀ a, (k0_off737 v6633 v6637 v6652 v6655) a + S1x1x32x256.size a ≤ S5x50x50x256.size a := fun v6633 v6637 v6652 v6655 k0_hw492 => k0_hw492

def k0_off738 : Fin 4 → Nat :=
  let c0_2752 : Index := 0#32
  let c0_i32 : BitVec 32 := 0#32
  let c128_i32_2733 : BitVec 32 := 128#32
  let v6626 : BitVec 32 := Scalar.muli c0_i32 c128_i32_2733
  let c122_i32 : BitVec 32 := 122#32
  let v6627 : BitVec 32 := Scalar.addi v6626 c122_i32
  let v6676 : Index := Scalar.indexCast v6627
  let c0_2753 : Index := 0#32
  let c0_2754 : Index := 0#32
  ![0, v6676.toNat, 0, 0]
def k0_off739 (i : grid0.Coords) (c0_i32_2758 : BitVec 32) : Fin 1 → Nat :=
  let arg0 : BitVec 32 := BitVec.ofNat 32 (i 0).val
  let c128_i32_2756 : BitVec 32 := 128#32
  let v6682 : BitVec 32 := Scalar.muli arg0 c128_i32_2756
  let c0_i32 : BitVec 32 := 0#32
  let c128_i32_2755 : BitVec 32 := 128#32
  let v6680 : BitVec 32 := Scalar.muli c0_i32 c128_i32_2755
  let c123_i32 : BitVec 32 := 123#32
  let v6681 : BitVec 32 := Scalar.addi v6680 c123_i32
  let v6683 : BitVec 32 := Scalar.addi v6682 v6681
  let c4_i32_2757 : BitVec 32 := 4#32
  let v6684 : BitVec 32 := Scalar.muli v6683 c4_i32_2757
  let v6685 : BitVec 32 := Scalar.addi v6684 c0_i32_2758
  let v6686 : Index := Scalar.indexCast v6685
  ![v6686.toNat]
def k0_mult124 (v6687 : BitVec 32) : BitVec 32 :=
  let c4_i32_2759 : BitVec 32 := 4#32
  let v6688 : BitVec 32 := Scalar.shrsi v6687 c4_i32_2759
  let c3_i32_2766 : BitVec 32 := 3#32
  let v6701 : BitVec 32 := Scalar.shrsi v6688 c3_i32_2766
  let c3_i32_2767 : BitVec 32 := 3#32
  let v6702 : BitVec 32 := Scalar.shli v6701 c3_i32_2767
  let c16_i32_2768 : BitVec 32 := 16#32
  let v6703 : BitVec 32 := Scalar.minsi v6702 c16_i32_2768
  v6703

def k0_chk493 (v6687 : BitVec 32) : Prop :=
  (8 ∣ (k0_mult124 v6687).toNat)
theorem k0_mult124_dvd : ∀ (v6687 : BitVec 32) (k0_hw493 : k0_chk493 v6687), 8 ∣ (k0_mult124 v6687).toNat := fun v6687 k0_hw493 => k0_hw493

def k0_off740 (v6699 : BitVec 32) : Fin 1 → Nat :=
  let c4_i32_2765 : BitVec 32 := 4#32
  let v6700 : BitVec 32 := Scalar.shrsi v6699 c4_i32_2765
  let v6705 : Index := Scalar.indexCast v6700
  ![v6705.toNat]

def k0_off741 (v6699 : BitVec 32) : Fin 1 → Nat :=
  let c32_i32_2769 : BitVec 32 := 32#32
  let c4_i32_2765 : BitVec 32 := 4#32
  let v6700 : BitVec 32 := Scalar.shrsi v6699 c4_i32_2765
  let v6707 : BitVec 32 := Scalar.addi c32_i32_2769 v6700
  let v6708 : Index := Scalar.indexCast v6707
  ![v6708.toNat]

def k0_chk494 (v6699 : BitVec 32) : Prop :=
  (∀ a, (k0_off740 v6699) a + S1.size a ≤ S64.size a) ∧
  (∀ a, (k0_off741 v6699) a + S1.size a ≤ S64.size a)
theorem k0_off740_inb : ∀ (v6699 : BitVec 32) (k0_hw494 : k0_chk494 v6699), ∀ a, (k0_off740 v6699) a + S1.size a ≤ S64.size a := fun v6699 k0_hw494 => k0_hw494.1
theorem k0_off741_inb : ∀ (v6699 : BitVec 32) (k0_hw494 : k0_chk494 v6699), ∀ a, (k0_off741 v6699) a + S1.size a ≤ S64.size a := fun v6699 k0_hw494 => k0_hw494.2

def k0_off742 (v6687 : BitVec 32) (v6691 : BitVec 32) (v6706 : BitVec 32) : Fin 4 → Nat :=
  let v6711 : Index := Scalar.indexCast v6706
  let c4_i32_2761 : BitVec 32 := 4#32
  let v6692 : BitVec 32 := Scalar.shrsi v6691 c4_i32_2761
  let v6712 : Index := Scalar.indexCast v6692
  let c4_i32_2759 : BitVec 32 := 4#32
  let v6688 : BitVec 32 := Scalar.shrsi v6687 c4_i32_2759
  let c3_i32_2766 : BitVec 32 := 3#32
  let v6701 : BitVec 32 := Scalar.shrsi v6688 c3_i32_2766
  let c3_i32_2767 : BitVec 32 := 3#32
  let v6702 : BitVec 32 := Scalar.shli v6701 c3_i32_2767
  let c16_i32_2768 : BitVec 32 := 16#32
  let v6703 : BitVec 32 := Scalar.minsi v6702 c16_i32_2768
  let v6704 : BitVec 32 := v6703
  let v6713 : Index := Scalar.indexCast v6704
  let c0_2770 : Index := 0#32
  ![v6711.toNat, v6712.toNat, v6713.toNat, 0]

def k0_chk495 (v6687 : BitVec 32) (v6691 : BitVec 32) (v6706 : BitVec 32) : Prop :=
  (∀ a, (k0_off742 v6687 v6691 v6706) a + S1x1x32x256.size a ≤ S5x50x50x256.size a)
theorem k0_off742_inb : ∀ (v6687 : BitVec 32) (v6691 : BitVec 32) (v6706 : BitVec 32) (k0_hw495 : k0_chk495 v6687 v6691 v6706), ∀ a, (k0_off742 v6687 v6691 v6706) a + S1x1x32x256.size a ≤ S5x50x50x256.size a := fun v6687 v6691 v6706 k0_hw495 => k0_hw495

def k0_off743 (v6687 : BitVec 32) (v6691 : BitVec 32) (v6706 : BitVec 32) (v6709 : BitVec 32) : Fin 4 → Nat :=
  let v6716 : Index := Scalar.indexCast v6706
  let c4_i32_2761 : BitVec 32 := 4#32
  let v6692 : BitVec 32 := Scalar.shrsi v6691 c4_i32_2761
  let v6710 : BitVec 32 := Scalar.addi v6692 v6709
  let v6717 : Index := Scalar.indexCast v6710
  let c4_i32_2759 : BitVec 32 := 4#32
  let v6688 : BitVec 32 := Scalar.shrsi v6687 c4_i32_2759
  let c3_i32_2766 : BitVec 32 := 3#32
  let v6701 : BitVec 32 := Scalar.shrsi v6688 c3_i32_2766
  let c3_i32_2767 : BitVec 32 := 3#32
  let v6702 : BitVec 32 := Scalar.shli v6701 c3_i32_2767
  let c16_i32_2768 : BitVec 32 := 16#32
  let v6703 : BitVec 32 := Scalar.minsi v6702 c16_i32_2768
  let v6704 : BitVec 32 := v6703
  let v6718 : Index := Scalar.indexCast v6704
  let c0_2771 : Index := 0#32
  ![v6716.toNat, v6717.toNat, v6718.toNat, 0]

def k0_chk496 (v6687 : BitVec 32) (v6691 : BitVec 32) (v6706 : BitVec 32) (v6709 : BitVec 32) : Prop :=
  (∀ a, (k0_off743 v6687 v6691 v6706 v6709) a + S1x1x32x256.size a ≤ S5x50x50x256.size a)
theorem k0_off743_inb : ∀ (v6687 : BitVec 32) (v6691 : BitVec 32) (v6706 : BitVec 32) (v6709 : BitVec 32) (k0_hw496 : k0_chk496 v6687 v6691 v6706 v6709), ∀ a, (k0_off743 v6687 v6691 v6706 v6709) a + S1x1x32x256.size a ≤ S5x50x50x256.size a := fun v6687 v6691 v6706 v6709 k0_hw496 => k0_hw496

def k0_off744 : Fin 4 → Nat :=
  let c0_2774 : Index := 0#32
  let c0_i32 : BitVec 32 := 0#32
  let c128_i32_2755 : BitVec 32 := 128#32
  let v6680 : BitVec 32 := Scalar.muli c0_i32 c128_i32_2755
  let c123_i32 : BitVec 32 := 123#32
  let v6681 : BitVec 32 := Scalar.addi v6680 c123_i32
  let v6730 : Index := Scalar.indexCast v6681
  let c0_2775 : Index := 0#32
  let c0_2776 : Index := 0#32
  ![0, v6730.toNat, 0, 0]
def k0_off745 (i : grid0.Coords) (c0_i32_2780 : BitVec 32) : Fin 1 → Nat :=
  let arg0 : BitVec 32 := BitVec.ofNat 32 (i 0).val
  let c128_i32_2778 : BitVec 32 := 128#32
  let v6736 : BitVec 32 := Scalar.muli arg0 c128_i32_2778
  let c0_i32 : BitVec 32 := 0#32
  let c128_i32_2777 : BitVec 32 := 128#32
  let v6734 : BitVec 32 := Scalar.muli c0_i32 c128_i32_2777
  let c124_i32 : BitVec 32 := 124#32
  let v6735 : BitVec 32 := Scalar.addi v6734 c124_i32
  let v6737 : BitVec 32 := Scalar.addi v6736 v6735
  let c4_i32_2779 : BitVec 32 := 4#32
  let v6738 : BitVec 32 := Scalar.muli v6737 c4_i32_2779
  let v6739 : BitVec 32 := Scalar.addi v6738 c0_i32_2780
  let v6740 : Index := Scalar.indexCast v6739
  ![v6740.toNat]
def k0_mult125 (v6741 : BitVec 32) : BitVec 32 :=
  let c4_i32_2781 : BitVec 32 := 4#32
  let v6742 : BitVec 32 := Scalar.shrsi v6741 c4_i32_2781
  let c3_i32_2788 : BitVec 32 := 3#32
  let v6755 : BitVec 32 := Scalar.shrsi v6742 c3_i32_2788
  let c3_i32_2789 : BitVec 32 := 3#32
  let v6756 : BitVec 32 := Scalar.shli v6755 c3_i32_2789
  let c16_i32_2790 : BitVec 32 := 16#32
  let v6757 : BitVec 32 := Scalar.minsi v6756 c16_i32_2790
  v6757

def k0_chk497 (v6741 : BitVec 32) : Prop :=
  (8 ∣ (k0_mult125 v6741).toNat)
theorem k0_mult125_dvd : ∀ (v6741 : BitVec 32) (k0_hw497 : k0_chk497 v6741), 8 ∣ (k0_mult125 v6741).toNat := fun v6741 k0_hw497 => k0_hw497

def k0_off746 (v6753 : BitVec 32) : Fin 1 → Nat :=
  let c4_i32_2787 : BitVec 32 := 4#32
  let v6754 : BitVec 32 := Scalar.shrsi v6753 c4_i32_2787
  let v6759 : Index := Scalar.indexCast v6754
  ![v6759.toNat]

def k0_off747 (v6753 : BitVec 32) : Fin 1 → Nat :=
  let c32_i32_2791 : BitVec 32 := 32#32
  let c4_i32_2787 : BitVec 32 := 4#32
  let v6754 : BitVec 32 := Scalar.shrsi v6753 c4_i32_2787
  let v6761 : BitVec 32 := Scalar.addi c32_i32_2791 v6754
  let v6762 : Index := Scalar.indexCast v6761
  ![v6762.toNat]

def k0_chk498 (v6753 : BitVec 32) : Prop :=
  (∀ a, (k0_off746 v6753) a + S1.size a ≤ S64.size a) ∧
  (∀ a, (k0_off747 v6753) a + S1.size a ≤ S64.size a)
theorem k0_off746_inb : ∀ (v6753 : BitVec 32) (k0_hw498 : k0_chk498 v6753), ∀ a, (k0_off746 v6753) a + S1.size a ≤ S64.size a := fun v6753 k0_hw498 => k0_hw498.1
theorem k0_off747_inb : ∀ (v6753 : BitVec 32) (k0_hw498 : k0_chk498 v6753), ∀ a, (k0_off747 v6753) a + S1.size a ≤ S64.size a := fun v6753 k0_hw498 => k0_hw498.2

def k0_off748 (v6741 : BitVec 32) (v6745 : BitVec 32) (v6760 : BitVec 32) : Fin 4 → Nat :=
  let v6765 : Index := Scalar.indexCast v6760
  let c4_i32_2783 : BitVec 32 := 4#32
  let v6746 : BitVec 32 := Scalar.shrsi v6745 c4_i32_2783
  let v6766 : Index := Scalar.indexCast v6746
  let c4_i32_2781 : BitVec 32 := 4#32
  let v6742 : BitVec 32 := Scalar.shrsi v6741 c4_i32_2781
  let c3_i32_2788 : BitVec 32 := 3#32
  let v6755 : BitVec 32 := Scalar.shrsi v6742 c3_i32_2788
  let c3_i32_2789 : BitVec 32 := 3#32
  let v6756 : BitVec 32 := Scalar.shli v6755 c3_i32_2789
  let c16_i32_2790 : BitVec 32 := 16#32
  let v6757 : BitVec 32 := Scalar.minsi v6756 c16_i32_2790
  let v6758 : BitVec 32 := v6757
  let v6767 : Index := Scalar.indexCast v6758
  let c0_2792 : Index := 0#32
  ![v6765.toNat, v6766.toNat, v6767.toNat, 0]

def k0_chk499 (v6741 : BitVec 32) (v6745 : BitVec 32) (v6760 : BitVec 32) : Prop :=
  (∀ a, (k0_off748 v6741 v6745 v6760) a + S1x1x32x256.size a ≤ S5x50x50x256.size a)
theorem k0_off748_inb : ∀ (v6741 : BitVec 32) (v6745 : BitVec 32) (v6760 : BitVec 32) (k0_hw499 : k0_chk499 v6741 v6745 v6760), ∀ a, (k0_off748 v6741 v6745 v6760) a + S1x1x32x256.size a ≤ S5x50x50x256.size a := fun v6741 v6745 v6760 k0_hw499 => k0_hw499

def k0_off749 (v6741 : BitVec 32) (v6745 : BitVec 32) (v6760 : BitVec 32) (v6763 : BitVec 32) : Fin 4 → Nat :=
  let v6770 : Index := Scalar.indexCast v6760
  let c4_i32_2783 : BitVec 32 := 4#32
  let v6746 : BitVec 32 := Scalar.shrsi v6745 c4_i32_2783
  let v6764 : BitVec 32 := Scalar.addi v6746 v6763
  let v6771 : Index := Scalar.indexCast v6764
  let c4_i32_2781 : BitVec 32 := 4#32
  let v6742 : BitVec 32 := Scalar.shrsi v6741 c4_i32_2781
  let c3_i32_2788 : BitVec 32 := 3#32
  let v6755 : BitVec 32 := Scalar.shrsi v6742 c3_i32_2788
  let c3_i32_2789 : BitVec 32 := 3#32
  let v6756 : BitVec 32 := Scalar.shli v6755 c3_i32_2789
  let c16_i32_2790 : BitVec 32 := 16#32
  let v6757 : BitVec 32 := Scalar.minsi v6756 c16_i32_2790
  let v6758 : BitVec 32 := v6757
  let v6772 : Index := Scalar.indexCast v6758
  let c0_2793 : Index := 0#32
  ![v6770.toNat, v6771.toNat, v6772.toNat, 0]

def k0_chk500 (v6741 : BitVec 32) (v6745 : BitVec 32) (v6760 : BitVec 32) (v6763 : BitVec 32) : Prop :=
  (∀ a, (k0_off749 v6741 v6745 v6760 v6763) a + S1x1x32x256.size a ≤ S5x50x50x256.size a)
theorem k0_off749_inb : ∀ (v6741 : BitVec 32) (v6745 : BitVec 32) (v6760 : BitVec 32) (v6763 : BitVec 32) (k0_hw500 : k0_chk500 v6741 v6745 v6760 v6763), ∀ a, (k0_off749 v6741 v6745 v6760 v6763) a + S1x1x32x256.size a ≤ S5x50x50x256.size a := fun v6741 v6745 v6760 v6763 k0_hw500 => k0_hw500

def k0_off750 : Fin 4 → Nat :=
  let c0_2796 : Index := 0#32
  let c0_i32 : BitVec 32 := 0#32
  let c128_i32_2777 : BitVec 32 := 128#32
  let v6734 : BitVec 32 := Scalar.muli c0_i32 c128_i32_2777
  let c124_i32 : BitVec 32 := 124#32
  let v6735 : BitVec 32 := Scalar.addi v6734 c124_i32
  let v6784 : Index := Scalar.indexCast v6735
  let c0_2797 : Index := 0#32
  let c0_2798 : Index := 0#32
  ![0, v6784.toNat, 0, 0]
def k0_off751 (i : grid0.Coords) (c0_i32_2802 : BitVec 32) : Fin 1 → Nat :=
  let arg0 : BitVec 32 := BitVec.ofNat 32 (i 0).val
  let c128_i32_2800 : BitVec 32 := 128#32
  let v6790 : BitVec 32 := Scalar.muli arg0 c128_i32_2800
  let c0_i32 : BitVec 32 := 0#32
  let c128_i32_2799 : BitVec 32 := 128#32
  let v6788 : BitVec 32 := Scalar.muli c0_i32 c128_i32_2799
  let c125_i32 : BitVec 32 := 125#32
  let v6789 : BitVec 32 := Scalar.addi v6788 c125_i32
  let v6791 : BitVec 32 := Scalar.addi v6790 v6789
  let c4_i32_2801 : BitVec 32 := 4#32
  let v6792 : BitVec 32 := Scalar.muli v6791 c4_i32_2801
  let v6793 : BitVec 32 := Scalar.addi v6792 c0_i32_2802
  let v6794 : Index := Scalar.indexCast v6793
  ![v6794.toNat]
def k0_mult126 (v6795 : BitVec 32) : BitVec 32 :=
  let c4_i32_2803 : BitVec 32 := 4#32
  let v6796 : BitVec 32 := Scalar.shrsi v6795 c4_i32_2803
  let c3_i32_2810 : BitVec 32 := 3#32
  let v6809 : BitVec 32 := Scalar.shrsi v6796 c3_i32_2810
  let c3_i32_2811 : BitVec 32 := 3#32
  let v6810 : BitVec 32 := Scalar.shli v6809 c3_i32_2811
  let c16_i32_2812 : BitVec 32 := 16#32
  let v6811 : BitVec 32 := Scalar.minsi v6810 c16_i32_2812
  v6811

def k0_chk501 (v6795 : BitVec 32) : Prop :=
  (8 ∣ (k0_mult126 v6795).toNat)
theorem k0_mult126_dvd : ∀ (v6795 : BitVec 32) (k0_hw501 : k0_chk501 v6795), 8 ∣ (k0_mult126 v6795).toNat := fun v6795 k0_hw501 => k0_hw501

def k0_off752 (v6807 : BitVec 32) : Fin 1 → Nat :=
  let c4_i32_2809 : BitVec 32 := 4#32
  let v6808 : BitVec 32 := Scalar.shrsi v6807 c4_i32_2809
  let v6813 : Index := Scalar.indexCast v6808
  ![v6813.toNat]

def k0_off753 (v6807 : BitVec 32) : Fin 1 → Nat :=
  let c32_i32_2813 : BitVec 32 := 32#32
  let c4_i32_2809 : BitVec 32 := 4#32
  let v6808 : BitVec 32 := Scalar.shrsi v6807 c4_i32_2809
  let v6815 : BitVec 32 := Scalar.addi c32_i32_2813 v6808
  let v6816 : Index := Scalar.indexCast v6815
  ![v6816.toNat]

def k0_chk502 (v6807 : BitVec 32) : Prop :=
  (∀ a, (k0_off752 v6807) a + S1.size a ≤ S64.size a) ∧
  (∀ a, (k0_off753 v6807) a + S1.size a ≤ S64.size a)
theorem k0_off752_inb : ∀ (v6807 : BitVec 32) (k0_hw502 : k0_chk502 v6807), ∀ a, (k0_off752 v6807) a + S1.size a ≤ S64.size a := fun v6807 k0_hw502 => k0_hw502.1
theorem k0_off753_inb : ∀ (v6807 : BitVec 32) (k0_hw502 : k0_chk502 v6807), ∀ a, (k0_off753 v6807) a + S1.size a ≤ S64.size a := fun v6807 k0_hw502 => k0_hw502.2

def k0_off754 (v6795 : BitVec 32) (v6799 : BitVec 32) (v6814 : BitVec 32) : Fin 4 → Nat :=
  let v6819 : Index := Scalar.indexCast v6814
  let c4_i32_2805 : BitVec 32 := 4#32
  let v6800 : BitVec 32 := Scalar.shrsi v6799 c4_i32_2805
  let v6820 : Index := Scalar.indexCast v6800
  let c4_i32_2803 : BitVec 32 := 4#32
  let v6796 : BitVec 32 := Scalar.shrsi v6795 c4_i32_2803
  let c3_i32_2810 : BitVec 32 := 3#32
  let v6809 : BitVec 32 := Scalar.shrsi v6796 c3_i32_2810
  let c3_i32_2811 : BitVec 32 := 3#32
  let v6810 : BitVec 32 := Scalar.shli v6809 c3_i32_2811
  let c16_i32_2812 : BitVec 32 := 16#32
  let v6811 : BitVec 32 := Scalar.minsi v6810 c16_i32_2812
  let v6812 : BitVec 32 := v6811
  let v6821 : Index := Scalar.indexCast v6812
  let c0_2814 : Index := 0#32
  ![v6819.toNat, v6820.toNat, v6821.toNat, 0]

def k0_chk503 (v6795 : BitVec 32) (v6799 : BitVec 32) (v6814 : BitVec 32) : Prop :=
  (∀ a, (k0_off754 v6795 v6799 v6814) a + S1x1x32x256.size a ≤ S5x50x50x256.size a)
theorem k0_off754_inb : ∀ (v6795 : BitVec 32) (v6799 : BitVec 32) (v6814 : BitVec 32) (k0_hw503 : k0_chk503 v6795 v6799 v6814), ∀ a, (k0_off754 v6795 v6799 v6814) a + S1x1x32x256.size a ≤ S5x50x50x256.size a := fun v6795 v6799 v6814 k0_hw503 => k0_hw503

def k0_off755 (v6795 : BitVec 32) (v6799 : BitVec 32) (v6814 : BitVec 32) (v6817 : BitVec 32) : Fin 4 → Nat :=
  let v6824 : Index := Scalar.indexCast v6814
  let c4_i32_2805 : BitVec 32 := 4#32
  let v6800 : BitVec 32 := Scalar.shrsi v6799 c4_i32_2805
  let v6818 : BitVec 32 := Scalar.addi v6800 v6817
  let v6825 : Index := Scalar.indexCast v6818
  let c4_i32_2803 : BitVec 32 := 4#32
  let v6796 : BitVec 32 := Scalar.shrsi v6795 c4_i32_2803
  let c3_i32_2810 : BitVec 32 := 3#32
  let v6809 : BitVec 32 := Scalar.shrsi v6796 c3_i32_2810
  let c3_i32_2811 : BitVec 32 := 3#32
  let v6810 : BitVec 32 := Scalar.shli v6809 c3_i32_2811
  let c16_i32_2812 : BitVec 32 := 16#32
  let v6811 : BitVec 32 := Scalar.minsi v6810 c16_i32_2812
  let v6812 : BitVec 32 := v6811
  let v6826 : Index := Scalar.indexCast v6812
  let c0_2815 : Index := 0#32
  ![v6824.toNat, v6825.toNat, v6826.toNat, 0]

def k0_chk504 (v6795 : BitVec 32) (v6799 : BitVec 32) (v6814 : BitVec 32) (v6817 : BitVec 32) : Prop :=
  (∀ a, (k0_off755 v6795 v6799 v6814 v6817) a + S1x1x32x256.size a ≤ S5x50x50x256.size a)
theorem k0_off755_inb : ∀ (v6795 : BitVec 32) (v6799 : BitVec 32) (v6814 : BitVec 32) (v6817 : BitVec 32) (k0_hw504 : k0_chk504 v6795 v6799 v6814 v6817), ∀ a, (k0_off755 v6795 v6799 v6814 v6817) a + S1x1x32x256.size a ≤ S5x50x50x256.size a := fun v6795 v6799 v6814 v6817 k0_hw504 => k0_hw504

def k0_off756 : Fin 4 → Nat :=
  let c0_2818 : Index := 0#32
  let c0_i32 : BitVec 32 := 0#32
  let c128_i32_2799 : BitVec 32 := 128#32
  let v6788 : BitVec 32 := Scalar.muli c0_i32 c128_i32_2799
  let c125_i32 : BitVec 32 := 125#32
  let v6789 : BitVec 32 := Scalar.addi v6788 c125_i32
  let v6838 : Index := Scalar.indexCast v6789
  let c0_2819 : Index := 0#32
  let c0_2820 : Index := 0#32
  ![0, v6838.toNat, 0, 0]
def k0_off757 (i : grid0.Coords) (c0_i32_2824 : BitVec 32) : Fin 1 → Nat :=
  let arg0 : BitVec 32 := BitVec.ofNat 32 (i 0).val
  let c128_i32_2822 : BitVec 32 := 128#32
  let v6844 : BitVec 32 := Scalar.muli arg0 c128_i32_2822
  let c0_i32 : BitVec 32 := 0#32
  let c128_i32_2821 : BitVec 32 := 128#32
  let v6842 : BitVec 32 := Scalar.muli c0_i32 c128_i32_2821
  let c126_i32 : BitVec 32 := 126#32
  let v6843 : BitVec 32 := Scalar.addi v6842 c126_i32
  let v6845 : BitVec 32 := Scalar.addi v6844 v6843
  let c4_i32_2823 : BitVec 32 := 4#32
  let v6846 : BitVec 32 := Scalar.muli v6845 c4_i32_2823
  let v6847 : BitVec 32 := Scalar.addi v6846 c0_i32_2824
  let v6848 : Index := Scalar.indexCast v6847
  ![v6848.toNat]
def k0_mult127 (v6849 : BitVec 32) : BitVec 32 :=
  let c4_i32_2825 : BitVec 32 := 4#32
  let v6850 : BitVec 32 := Scalar.shrsi v6849 c4_i32_2825
  let c3_i32_2832 : BitVec 32 := 3#32
  let v6863 : BitVec 32 := Scalar.shrsi v6850 c3_i32_2832
  let c3_i32_2833 : BitVec 32 := 3#32
  let v6864 : BitVec 32 := Scalar.shli v6863 c3_i32_2833
  let c16_i32_2834 : BitVec 32 := 16#32
  let v6865 : BitVec 32 := Scalar.minsi v6864 c16_i32_2834
  v6865

def k0_chk505 (v6849 : BitVec 32) : Prop :=
  (8 ∣ (k0_mult127 v6849).toNat)
theorem k0_mult127_dvd : ∀ (v6849 : BitVec 32) (k0_hw505 : k0_chk505 v6849), 8 ∣ (k0_mult127 v6849).toNat := fun v6849 k0_hw505 => k0_hw505

def k0_off758 (v6861 : BitVec 32) : Fin 1 → Nat :=
  let c4_i32_2831 : BitVec 32 := 4#32
  let v6862 : BitVec 32 := Scalar.shrsi v6861 c4_i32_2831
  let v6867 : Index := Scalar.indexCast v6862
  ![v6867.toNat]

def k0_off759 (v6861 : BitVec 32) : Fin 1 → Nat :=
  let c32_i32_2835 : BitVec 32 := 32#32
  let c4_i32_2831 : BitVec 32 := 4#32
  let v6862 : BitVec 32 := Scalar.shrsi v6861 c4_i32_2831
  let v6869 : BitVec 32 := Scalar.addi c32_i32_2835 v6862
  let v6870 : Index := Scalar.indexCast v6869
  ![v6870.toNat]

def k0_chk506 (v6861 : BitVec 32) : Prop :=
  (∀ a, (k0_off758 v6861) a + S1.size a ≤ S64.size a) ∧
  (∀ a, (k0_off759 v6861) a + S1.size a ≤ S64.size a)
theorem k0_off758_inb : ∀ (v6861 : BitVec 32) (k0_hw506 : k0_chk506 v6861), ∀ a, (k0_off758 v6861) a + S1.size a ≤ S64.size a := fun v6861 k0_hw506 => k0_hw506.1
theorem k0_off759_inb : ∀ (v6861 : BitVec 32) (k0_hw506 : k0_chk506 v6861), ∀ a, (k0_off759 v6861) a + S1.size a ≤ S64.size a := fun v6861 k0_hw506 => k0_hw506.2

def k0_off760 (v6849 : BitVec 32) (v6853 : BitVec 32) (v6868 : BitVec 32) : Fin 4 → Nat :=
  let v6873 : Index := Scalar.indexCast v6868
  let c4_i32_2827 : BitVec 32 := 4#32
  let v6854 : BitVec 32 := Scalar.shrsi v6853 c4_i32_2827
  let v6874 : Index := Scalar.indexCast v6854
  let c4_i32_2825 : BitVec 32 := 4#32
  let v6850 : BitVec 32 := Scalar.shrsi v6849 c4_i32_2825
  let c3_i32_2832 : BitVec 32 := 3#32
  let v6863 : BitVec 32 := Scalar.shrsi v6850 c3_i32_2832
  let c3_i32_2833 : BitVec 32 := 3#32
  let v6864 : BitVec 32 := Scalar.shli v6863 c3_i32_2833
  let c16_i32_2834 : BitVec 32 := 16#32
  let v6865 : BitVec 32 := Scalar.minsi v6864 c16_i32_2834
  let v6866 : BitVec 32 := v6865
  let v6875 : Index := Scalar.indexCast v6866
  let c0_2836 : Index := 0#32
  ![v6873.toNat, v6874.toNat, v6875.toNat, 0]

def k0_chk507 (v6849 : BitVec 32) (v6853 : BitVec 32) (v6868 : BitVec 32) : Prop :=
  (∀ a, (k0_off760 v6849 v6853 v6868) a + S1x1x32x256.size a ≤ S5x50x50x256.size a)
theorem k0_off760_inb : ∀ (v6849 : BitVec 32) (v6853 : BitVec 32) (v6868 : BitVec 32) (k0_hw507 : k0_chk507 v6849 v6853 v6868), ∀ a, (k0_off760 v6849 v6853 v6868) a + S1x1x32x256.size a ≤ S5x50x50x256.size a := fun v6849 v6853 v6868 k0_hw507 => k0_hw507

def k0_off761 (v6849 : BitVec 32) (v6853 : BitVec 32) (v6868 : BitVec 32) (v6871 : BitVec 32) : Fin 4 → Nat :=
  let v6878 : Index := Scalar.indexCast v6868
  let c4_i32_2827 : BitVec 32 := 4#32
  let v6854 : BitVec 32 := Scalar.shrsi v6853 c4_i32_2827
  let v6872 : BitVec 32 := Scalar.addi v6854 v6871
  let v6879 : Index := Scalar.indexCast v6872
  let c4_i32_2825 : BitVec 32 := 4#32
  let v6850 : BitVec 32 := Scalar.shrsi v6849 c4_i32_2825
  let c3_i32_2832 : BitVec 32 := 3#32
  let v6863 : BitVec 32 := Scalar.shrsi v6850 c3_i32_2832
  let c3_i32_2833 : BitVec 32 := 3#32
  let v6864 : BitVec 32 := Scalar.shli v6863 c3_i32_2833
  let c16_i32_2834 : BitVec 32 := 16#32
  let v6865 : BitVec 32 := Scalar.minsi v6864 c16_i32_2834
  let v6866 : BitVec 32 := v6865
  let v6880 : Index := Scalar.indexCast v6866
  let c0_2837 : Index := 0#32
  ![v6878.toNat, v6879.toNat, v6880.toNat, 0]

def k0_chk508 (v6849 : BitVec 32) (v6853 : BitVec 32) (v6868 : BitVec 32) (v6871 : BitVec 32) : Prop :=
  (∀ a, (k0_off761 v6849 v6853 v6868 v6871) a + S1x1x32x256.size a ≤ S5x50x50x256.size a)
theorem k0_off761_inb : ∀ (v6849 : BitVec 32) (v6853 : BitVec 32) (v6868 : BitVec 32) (v6871 : BitVec 32) (k0_hw508 : k0_chk508 v6849 v6853 v6868 v6871), ∀ a, (k0_off761 v6849 v6853 v6868 v6871) a + S1x1x32x256.size a ≤ S5x50x50x256.size a := fun v6849 v6853 v6868 v6871 k0_hw508 => k0_hw508

def k0_off762 : Fin 4 → Nat :=
  let c0_2840 : Index := 0#32
  let c0_i32 : BitVec 32 := 0#32
  let c128_i32_2821 : BitVec 32 := 128#32
  let v6842 : BitVec 32 := Scalar.muli c0_i32 c128_i32_2821
  let c126_i32 : BitVec 32 := 126#32
  let v6843 : BitVec 32 := Scalar.addi v6842 c126_i32
  let v6892 : Index := Scalar.indexCast v6843
  let c0_2841 : Index := 0#32
  let c0_2842 : Index := 0#32
  ![0, v6892.toNat, 0, 0]
def k0_off763 (i : grid0.Coords) (c0_i32_2846 : BitVec 32) : Fin 1 → Nat :=
  let arg0 : BitVec 32 := BitVec.ofNat 32 (i 0).val
  let c128_i32_2844 : BitVec 32 := 128#32
  let v6898 : BitVec 32 := Scalar.muli arg0 c128_i32_2844
  let c0_i32 : BitVec 32 := 0#32
  let c128_i32_2843 : BitVec 32 := 128#32
  let v6896 : BitVec 32 := Scalar.muli c0_i32 c128_i32_2843
  let c127_i32 : BitVec 32 := 127#32
  let v6897 : BitVec 32 := Scalar.addi v6896 c127_i32
  let v6899 : BitVec 32 := Scalar.addi v6898 v6897
  let c4_i32_2845 : BitVec 32 := 4#32
  let v6900 : BitVec 32 := Scalar.muli v6899 c4_i32_2845
  let v6901 : BitVec 32 := Scalar.addi v6900 c0_i32_2846
  let v6902 : Index := Scalar.indexCast v6901
  ![v6902.toNat]
def k0_mult128 (v6903 : BitVec 32) : BitVec 32 :=
  let c4_i32_2847 : BitVec 32 := 4#32
  let v6904 : BitVec 32 := Scalar.shrsi v6903 c4_i32_2847
  let c3_i32_2854 : BitVec 32 := 3#32
  let v6917 : BitVec 32 := Scalar.shrsi v6904 c3_i32_2854
  let c3_i32_2855 : BitVec 32 := 3#32
  let v6918 : BitVec 32 := Scalar.shli v6917 c3_i32_2855
  let c16_i32_2856 : BitVec 32 := 16#32
  let v6919 : BitVec 32 := Scalar.minsi v6918 c16_i32_2856
  v6919

def k0_chk509 (v6903 : BitVec 32) : Prop :=
  (8 ∣ (k0_mult128 v6903).toNat)
theorem k0_mult128_dvd : ∀ (v6903 : BitVec 32) (k0_hw509 : k0_chk509 v6903), 8 ∣ (k0_mult128 v6903).toNat := fun v6903 k0_hw509 => k0_hw509

def k0_off764 (v6915 : BitVec 32) : Fin 1 → Nat :=
  let c4_i32_2853 : BitVec 32 := 4#32
  let v6916 : BitVec 32 := Scalar.shrsi v6915 c4_i32_2853
  let v6921 : Index := Scalar.indexCast v6916
  ![v6921.toNat]

def k0_off765 (v6915 : BitVec 32) : Fin 1 → Nat :=
  let c32_i32_2857 : BitVec 32 := 32#32
  let c4_i32_2853 : BitVec 32 := 4#32
  let v6916 : BitVec 32 := Scalar.shrsi v6915 c4_i32_2853
  let v6923 : BitVec 32 := Scalar.addi c32_i32_2857 v6916
  let v6924 : Index := Scalar.indexCast v6923
  ![v6924.toNat]

def k0_chk510 (v6915 : BitVec 32) : Prop :=
  (∀ a, (k0_off764 v6915) a + S1.size a ≤ S64.size a) ∧
  (∀ a, (k0_off765 v6915) a + S1.size a ≤ S64.size a)
theorem k0_off764_inb : ∀ (v6915 : BitVec 32) (k0_hw510 : k0_chk510 v6915), ∀ a, (k0_off764 v6915) a + S1.size a ≤ S64.size a := fun v6915 k0_hw510 => k0_hw510.1
theorem k0_off765_inb : ∀ (v6915 : BitVec 32) (k0_hw510 : k0_chk510 v6915), ∀ a, (k0_off765 v6915) a + S1.size a ≤ S64.size a := fun v6915 k0_hw510 => k0_hw510.2

def k0_off766 (v6903 : BitVec 32) (v6907 : BitVec 32) (v6922 : BitVec 32) : Fin 4 → Nat :=
  let v6927 : Index := Scalar.indexCast v6922
  let c4_i32_2849 : BitVec 32 := 4#32
  let v6908 : BitVec 32 := Scalar.shrsi v6907 c4_i32_2849
  let v6928 : Index := Scalar.indexCast v6908
  let c4_i32_2847 : BitVec 32 := 4#32
  let v6904 : BitVec 32 := Scalar.shrsi v6903 c4_i32_2847
  let c3_i32_2854 : BitVec 32 := 3#32
  let v6917 : BitVec 32 := Scalar.shrsi v6904 c3_i32_2854
  let c3_i32_2855 : BitVec 32 := 3#32
  let v6918 : BitVec 32 := Scalar.shli v6917 c3_i32_2855
  let c16_i32_2856 : BitVec 32 := 16#32
  let v6919 : BitVec 32 := Scalar.minsi v6918 c16_i32_2856
  let v6920 : BitVec 32 := v6919
  let v6929 : Index := Scalar.indexCast v6920
  let c0_2858 : Index := 0#32
  ![v6927.toNat, v6928.toNat, v6929.toNat, 0]

def k0_chk511 (v6903 : BitVec 32) (v6907 : BitVec 32) (v6922 : BitVec 32) : Prop :=
  (∀ a, (k0_off766 v6903 v6907 v6922) a + S1x1x32x256.size a ≤ S5x50x50x256.size a)
theorem k0_off766_inb : ∀ (v6903 : BitVec 32) (v6907 : BitVec 32) (v6922 : BitVec 32) (k0_hw511 : k0_chk511 v6903 v6907 v6922), ∀ a, (k0_off766 v6903 v6907 v6922) a + S1x1x32x256.size a ≤ S5x50x50x256.size a := fun v6903 v6907 v6922 k0_hw511 => k0_hw511

def k0_off767 (v6903 : BitVec 32) (v6907 : BitVec 32) (v6922 : BitVec 32) (v6925 : BitVec 32) : Fin 4 → Nat :=
  let v6932 : Index := Scalar.indexCast v6922
  let c4_i32_2849 : BitVec 32 := 4#32
  let v6908 : BitVec 32 := Scalar.shrsi v6907 c4_i32_2849
  let v6926 : BitVec 32 := Scalar.addi v6908 v6925
  let v6933 : Index := Scalar.indexCast v6926
  let c4_i32_2847 : BitVec 32 := 4#32
  let v6904 : BitVec 32 := Scalar.shrsi v6903 c4_i32_2847
  let c3_i32_2854 : BitVec 32 := 3#32
  let v6917 : BitVec 32 := Scalar.shrsi v6904 c3_i32_2854
  let c3_i32_2855 : BitVec 32 := 3#32
  let v6918 : BitVec 32 := Scalar.shli v6917 c3_i32_2855
  let c16_i32_2856 : BitVec 32 := 16#32
  let v6919 : BitVec 32 := Scalar.minsi v6918 c16_i32_2856
  let v6920 : BitVec 32 := v6919
  let v6934 : Index := Scalar.indexCast v6920
  let c0_2859 : Index := 0#32
  ![v6932.toNat, v6933.toNat, v6934.toNat, 0]

def k0_chk512 (v6903 : BitVec 32) (v6907 : BitVec 32) (v6922 : BitVec 32) (v6925 : BitVec 32) : Prop :=
  (∀ a, (k0_off767 v6903 v6907 v6922 v6925) a + S1x1x32x256.size a ≤ S5x50x50x256.size a)
theorem k0_off767_inb : ∀ (v6903 : BitVec 32) (v6907 : BitVec 32) (v6922 : BitVec 32) (v6925 : BitVec 32) (k0_hw512 : k0_chk512 v6903 v6907 v6922 v6925), ∀ a, (k0_off767 v6903 v6907 v6922 v6925) a + S1x1x32x256.size a ≤ S5x50x50x256.size a := fun v6903 v6907 v6922 v6925 k0_hw512 => k0_hw512

def k0_off768 : Fin 4 → Nat :=
  let c0_2862 : Index := 0#32
  let c0_i32 : BitVec 32 := 0#32
  let c128_i32_2843 : BitVec 32 := 128#32
  let v6896 : BitVec 32 := Scalar.muli c0_i32 c128_i32_2843
  let c127_i32 : BitVec 32 := 127#32
  let v6897 : BitVec 32 := Scalar.addi v6896 c127_i32
  let v6946 : Index := Scalar.indexCast v6897
  let c0_2863 : Index := 0#32
  let c0_2864 : Index := 0#32
  ![0, v6946.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x50x50x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x256x50x50 : Shape := ⟨4, ![2, 256, 50, 50]⟩
abbrev S2x128x4 : Shape := ⟨3, ![2, 128, 4]⟩
abbrev S_ : Shape := ⟨0, ![]⟩
abbrev S256x4 : Shape := ⟨2, ![256, 4]⟩
abbrev S2 : Shape := ⟨1, ![2]⟩
abbrev S2x128 : Shape := ⟨2, ![2, 128]⟩
abbrev S256 : Shape := ⟨1, ![256]⟩
abbrev S256x1 : Shape := ⟨2, ![256, 1]⟩
abbrev S50 : Shape := ⟨1, ![50]⟩
abbrev S1x50 : Shape := ⟨2, ![1, 50]⟩
abbrev S256x50 : Shape := ⟨2, ![256, 50]⟩
abbrev S256x1x50x1 : Shape := ⟨4, ![256, 1, 50, 1]⟩
abbrev S256x1x1x50 : Shape := ⟨4, ![256, 1, 1, 50]⟩
abbrev S256x1x50x50 : Shape := ⟨4, ![256, 1, 50, 50]⟩
abbrev S256x256x50x50 : Shape := ⟨4, ![256, 256, 50, 50]⟩
abbrev S256x256 : Shape := ⟨2, ![256, 256]⟩
abbrev S256x256x1x1 : Shape := ⟨4, ![256, 256, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x256x50x50, .f32⟩
  | .hbm, ⟨1, _⟩ => ⟨S2x128x4, .i32⟩
  | .hbm, ⟨2, _⟩ => ⟨S_, .i32⟩
  | .hbm, ⟨3, _⟩ => ⟨S_, .i32⟩
  | .hbm, ⟨4, _⟩ => ⟨S2x128x4, .i32⟩
  | .hbm, ⟨5, _⟩ => ⟨S2x128x4, .i32⟩
  | .hbm, ⟨6, _⟩ => ⟨S2x128x4, .i32⟩
  | .hbm, ⟨7, _⟩ => ⟨S_, .i32⟩
  | .hbm, ⟨8, _⟩ => ⟨S2x128x4, .i32⟩
  | .hbm, ⟨9, _⟩ => ⟨S2x128x4, .i1⟩
  | .hbm, ⟨10, _⟩ => ⟨S2x128x4, .i32⟩
  | .hbm, ⟨11, _⟩ => ⟨S2x128x4, .i32⟩
  | .hbm, ⟨12, _⟩ => ⟨S_, .i32⟩
  | .hbm, ⟨13, _⟩ => ⟨S2x128x4, .i32⟩
  | .hbm, ⟨14, _⟩ => ⟨S2x128x4, .i1⟩
  | .hbm, ⟨15, _⟩ => ⟨S2x128x4, .i1⟩
  | .hbm, ⟨16, _⟩ => ⟨S_, .i32⟩
  | .hbm, ⟨17, _⟩ => ⟨S2x128x4, .i32⟩
  | .hbm, ⟨18, _⟩ => ⟨S2x128x4, .i32⟩
  | .hbm, ⟨19, _⟩ => ⟨S2x128x4, .i32⟩
  | .hbm, ⟨20, _⟩ => ⟨S256x4, .i32⟩
  | .hbm, ⟨21, _⟩ => ⟨S2, .i32⟩
  | .hbm, ⟨22, _⟩ => ⟨S2x128, .i32⟩
  | .hbm, ⟨23, _⟩ => ⟨S256, .i32⟩
  | .hbm, ⟨24, _⟩ => ⟨S256x1, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S256x1, .i32⟩
  | .hbm, ⟨29, _⟩ => ⟨S256, .i32⟩
  | .hbm, ⟨30, _⟩ => ⟨S256x1, .i32⟩
  | .hbm, ⟨31, _⟩ => ⟨S256, .i32⟩
  | .hbm, ⟨32, _⟩ => ⟨S50, .i32⟩
  | .hbm, ⟨33, _⟩ => ⟨S50, .i32⟩
  | .hbm, ⟨34, _⟩ => ⟨S1x50, .i32⟩
  | .hbm, ⟨35, _⟩ => ⟨S256x1, .i32⟩
  | .hbm, ⟨36, _⟩ => ⟨S256x50, .i32⟩
  | .hbm, ⟨37, _⟩ => ⟨S256x50, .i32⟩
  | .hbm, ⟨38, _⟩ => ⟨S256x50, .i1⟩
  | .hbm, ⟨39, _⟩ => ⟨S1x50, .i32⟩
  | .hbm, ⟨40, _⟩ => ⟨S256, .i32⟩
  | .hbm, ⟨41, _⟩ => ⟨S256x1, .i32⟩
  | .hbm, ⟨42, _⟩ => ⟨S256x50, .i32⟩
  | .hbm, ⟨43, _⟩ => ⟨S256x50, .i32⟩
  | .hbm, ⟨44, _⟩ => ⟨S256x50, .i1⟩
  | .hbm, ⟨45, _⟩ => ⟨S256x50, .i1⟩
  | .hbm, ⟨46, _⟩ => ⟨S1x50, .i32⟩
  | .hbm, ⟨47, _⟩ => ⟨S256x1, .i32⟩
  | .hbm, ⟨48, _⟩ => ⟨S256x50, .i32⟩
  | .hbm, ⟨49, _⟩ => ⟨S256x50, .i32⟩
  | .hbm, ⟨50, _⟩ => ⟨S256x50, .i1⟩
  | .hbm, ⟨51, _⟩ => ⟨S1x50, .i32⟩
  | .hbm, ⟨52, _⟩ => ⟨S256, .i32⟩
  | .hbm, ⟨53, _⟩ => ⟨S256x1, .i32⟩
  | .hbm, ⟨54, _⟩ => ⟨S256x50, .i32⟩
  | .hbm, ⟨55, _⟩ => ⟨S256x50, .i32⟩
  | .hbm, ⟨56, _⟩ => ⟨S256x50, .i1⟩
  | .hbm, ⟨57, _⟩ => ⟨S256x50, .i1⟩
  | .hbm, ⟨58, _⟩ => ⟨S256x1x50x1, .i1⟩
  | .hbm, ⟨59, _⟩ => ⟨S256x1x1x50, .i1⟩
  | .hbm, ⟨60, _⟩ => ⟨S256x1x50x50, .i1⟩
  | .hbm, ⟨61, _⟩ => ⟨S256x1x50x50, .i1⟩
  | .hbm, ⟨62, _⟩ => ⟨S256x1x50x50, .i1⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S256x1, .i32⟩
  | .hbm, ⟨71, _⟩ => ⟨S256x256x50x50, .f32⟩
  | .hbm, ⟨72, _⟩ => ⟨S_, .f32⟩
  | .hbm, ⟨73, _⟩ => ⟨S256x256x50x50, .i1⟩
  | .hbm, ⟨74, _⟩ => ⟨S256x256x50x50, .f32⟩
  | .hbm, ⟨75, _⟩ => ⟨S256x256x50x50, .f32⟩
  | .hbm, ⟨76, _⟩ => ⟨S_, .f32⟩
  | .hbm, ⟨77, _⟩ => ⟨S256x256, .f32⟩
  | .hbm, ⟨78, _⟩ => ⟨S256x256x1x1, .f32⟩
  | _, _ => ⟨S2x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_0 : Ref sig .tc := ⟨.hbm, 63, rfl⟩
abbrev main_v44 : Ref sig .tc := ⟨.hbm, 64, rfl⟩
abbrev main_v45 : Ref sig .tc := ⟨.hbm, 65, rfl⟩
abbrev main_c_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst : Ref sig .tc := ⟨.hbm, 72, rfl⟩
abbrev main_call1_v0 : Ref sig .tc := ⟨.hbm, 73, rfl⟩
abbrev main_call1_v1 : Ref sig .tc := ⟨.hbm, 74, rfl⟩
abbrev main_v51 : Ref sig .tc := ⟨.hbm, 75, rfl⟩
abbrev main_cst_2 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.Seg.lean ====
/- The kernel's body as its prologue (the five levels of row maxima) followed by 128 copies of ONE segment (a
   proposal's row of the result): `segK`, `segs`, `proK`, and the equation `body_eq` with the printed function. -/
module

public import proofs.«01_k».proof.Proof.Gen.Kernel.Skeleton
public import Idealize.ShloMosaic.Lib.Tactic

@[expose] public section

noncomputable section

namespace Cert.Kernel.Roi

open Idealize.ShloMosaic Idealize.ShloMosaic.TcCoe Idealize.SL.Sem Idealize.ShloMosaic.Tactic
open Cert.Kernel Cert.Kernel.Facts₀ Cert.Kernel.Facts
open Cert.Kernel.Gen (k0_pay2 k0_pay3 k0_pay4 k0_pay5 k0_pay6)

variable {F : FTy → Type} [FloatOps F]

local notation "𝔼" => TpuEff nD τ sig (Elt F) Λ₀ (Proc.tc : Proc τ)

/-- The word of the flattened proposals that field `r` of proposal `g` of image `i` is, as the kernel computes it. -/
def propOff (i : grid0.Coords) (g r : BitVec 32) : Fin 1 → Nat :=
  ![(Scalar.indexCast (Scalar.addi (Scalar.muli (Scalar.addi (Scalar.muli (BitVec.ofNat 32 (i 0).val) 128#32)
    (Scalar.addi (Scalar.muli 0#32 128#32) g)) 4#32) r)).toNat]

theorem propOff_eq : ∀ (i : grid0.Coords) (g : Fin 128) (r : Fin 4),
    propOff i (BitVec.ofNat 32 g.val) (BitVec.ofNat 32 r.val) = ![512 * (i 0).val + 4 * g.val + r.val] := by
  decide +kernel

theorem propOff_inb (i : grid0.Coords) (g : Fin 128) (r : Fin 4) :
    ∀ a, propOff i (BitVec.ofNat 32 g.val) (BitVec.ofNat 32 r.val) a + S1.size a ≤ S1024.size a := by
  have h : (i 0).val < 2 := (i 0).isLt
  have hg := g.isLt; have hr := r.isLt
  intro a
  rw [propOff_eq]
  fin_cases a
  show 512 * (i 0).val + 4 * g.val + r.val + 1 ≤ 1024
  omega

/-- The row of the result that proposal `g` is written to. -/
def rowOff (g : BitVec 32) : Fin 4 → Nat :=
  ![0, (Scalar.indexCast (Scalar.addi (Scalar.muli 0#32 128#32) g)).toNat, 0, 0]

theorem rowOff_eq : ∀ g : Fin 128, rowOff (BitVec.ofNat 32 g.val) = ![0, g.val, 0, 0] := by decide +kernel

theorem rowOff_inb (g : Fin 128) : ∀ a, rowOff (BitVec.ofNat 32 g.val) a + S1x1x1x256.size a ≤ S1x128x1x256.size a := by
  have hg := g.isLt
  intro a
  rw [rowOff_eq]
  fin_cases a
  · show 0 + 1 ≤ 1; omega
  · show g.val + 1 ≤ 128; omega
  · show 0 + 1 ≤ 1; omega
  · show 0 + 256 ≤ 256; omega

/-- What a segment stores: the masked maximum over the 32 lanes of the two loaded windows' maxima. -/
def rowPay (x w : BitVec 32) (a b : Vec F S1x1x32x256 .f32) : FVec F S1x1x1x256 .f32 :=
  shapeCast S1x1x1x256 (multiReduction .maximumf [0] S256
    (select
      (cmpi .ult (subi (iota .tc S32x256 32 [0] iota_S32x256_d0_w32)
          (broadcast S32x256 (Scalar.subi (Scalar.shrsi x 4#32) (Scalar.minsi (Scalar.shli (Scalar.shrsi (Scalar.shrsi x 4#32) 3#32) 3#32) 16#32))))
        (broadcast S32x256 (Scalar.shrsi w 4#32)))
      (maximumf (shapeCast S32x256 a shapeCasts_S1x1x32x256_S32x256) (shapeCast S32x256 b shapeCasts_S1x1x32x256_S32x256))
      (broadcast S32x256 (Scalar.ofBits .f32 0xFF7FFFFF#32)))
    0xFF800000#32 reduces_S32x256_S256 (.inl rfl) rfl) shapeCasts_S256_S1x1x1x256

/-- A load of one word of scalar memory, continued. -/
abbrev wordK {s : Shape} (m : Memref sig .tc .smem s .i32) (r : Rect s) (h1 : r.shape.numel = 1)
    (k : BitVec 32 → Prog 𝔼 PUnit) : Prog 𝔼 PUnit :=
  smemLoadElt m r (View.loads_smem_one rfl h1) (Shape.Idx.first (h1.symm ▸ Nat.one_pos)) k

/-- One proposal's segment of the body, continued by `K`. -/
def segK (i : grid0.Coords) (arg1 : Memref sig .tc .smem S1024 .i32) (arg2 : Memref sig .tc .smem S64 .i32)
    (arg4 : Memref sig .tc .vmem S1x128x1x256 .f32) (arg5 : Memref sig .tc .vmem S5x50x50x256 .f32)
    (g : Fin 128) (K : Prog 𝔼 PUnit) : Prog 𝔼 PUnit :=
  wordK arg1 (Rect.unit (s := S1024) (propOff i (BitVec.ofNat 32 g.val) 0#32) S1.size (propOff_inb i g 0)) numel1_S1 fun x =>
  .op (TpuEff.assume (k0_chk1 x) (k0_chk1.dec x)) fun _ =>
  wordK arg1 (Rect.unit (s := S1024) (propOff i (BitVec.ofNat 32 g.val) 1#32) S1.size (propOff_inb i g 1)) numel1_S1 fun y =>
  wordK arg1 (Rect.unit (s := S1024) (propOff i (BitVec.ofNat 32 g.val) 2#32) S1.size (propOff_inb i g 2)) numel1_S1 fun w =>
  wordK arg1 (Rect.unit (s := S1024) (propOff i (BitVec.ofNat 32 g.val) 3#32) S1.size (propOff_inb i g 3)) numel1_S1 fun h =>
  .op (TpuEff.assume (k0_chk2 h) (k0_chk2.dec h)) fun h2 =>
  wordK arg2 (Rect.unit (s := S64) (k0_off2 h) S1.size (k0_off2_inb h h2.down)) numel1_S1 fun t =>
  .op (TpuEff.assume (k0_chk3 x y t) (k0_chk3.dec x y t)) fun h3 =>
  wordK arg2 (Rect.unit (s := S64) (k0_off3 h) S1.size (k0_off3_inb h h2.down)) numel1_S1 fun d =>
  .op (TpuEff.assume (k0_chk4 x y t d) (k0_chk4.dec x y t d)) fun h4 =>
  .op (.load arg5 (Rect.unit (s := S5x50x50x256) (k0_off4 x y t) S1x1x32x256.size (k0_off4_inb x y t h3.down)).toLoadRect (View.loadsAt_vmem h_S1x1x32x256)) fun a =>
  .op (.load arg5 (Rect.unit (s := S5x50x50x256) (k0_off5 x y t d) S1x1x32x256.size (k0_off5_inb x y t d h4.down)).toLoadRect (View.loadsAt_vmem h_S1x1x32x256)) fun b =>
  .op (.load arg4 (Rect.unit (s := S1x128x1x256) (rowOff (BitVec.ofNat 32 g.val)) S1x1x1x256.size (rowOff_inb g)).toLoadRect (View.loadsAt_vmem h_S1x1x1x256)) fun _ =>
  .op (.store arg4 (Rect.unit (s := S1x128x1x256) (rowOff (BitVec.ofNat 32 g.val)) S1x1x1x256.size (rowOff_inb g)) (rowPay x w a b) Finset.univ (View.stores_vmem_bits_univ h_S1x1x1x256 rfl) (.inl rfl)) fun _ =>
  K

/-- The last `n` segments, in order. -/
def segs (i : grid0.Coords) (arg1 : Memref sig .tc .smem S1024 .i32) (arg2 : Memref sig .tc .smem S64 .i32)
    (arg4 : Memref sig .tc .vmem S1x128x1x256 .f32) (arg5 : Memref sig .tc .vmem S5x50x50x256 .f32)
    (n : Nat) : Prog 𝔼 PUnit :=
  Nat.rec (motive := fun _ => Prog 𝔼 PUnit) (.ret ⟨⟩)
    (fun n K => segK i arg1 arg2 arg4 arg5 ⟨127 - n, Nat.lt_succ_of_le (Nat.sub_le _ _)⟩ K) n

/-- The prologue, which fills the five levels, continued by `K`. -/
def proK (arg3 : Memref sig .tc .vmem S1x50x50x256 .f32) (arg5 : Memref sig .tc .vmem S5x50x50x256 .f32)
    (K : Prog 𝔼 PUnit) : Prog 𝔼 PUnit :=
  .op (.load arg3 (Rect.unit (s := S1x50x50x256) ![0, 0, 0, 0] S1x50x50x256.size inb_S1x50x50x256_S1x50x50x256_0_0_0_0).toLoadRect (View.loadsAt_vmem h_S1x50x50x256)) fun v1 =>
  .op (.load arg5 (Rect.unit (s := S5x50x50x256) ![0, 0, 0, 0] S1x50x50x256.size inb_S5x50x50x256_S1x50x50x256_0_0_0_0).toLoadRect (View.loadsAt_vmem h_S1x50x50x256)) fun _ =>
  .op (.store arg5 (Rect.unit (s := S5x50x50x256) ![0, 0, 0, 0] S1x50x50x256.size inb_S5x50x50x256_S1x50x50x256_0_0_0_0) (k0_pay2 v1) Finset.univ (View.stores_vmem_bits_univ h_S1x50x50x256 rfl) (.inl rfl)) fun _ =>
  .op (.load arg5 (Rect.unit (s := S5x50x50x256) ![0, 0, 0, 0] S1x47x50x256.size inb_S5x50x50x256_S1x47x50x256_0_0_0_0).toLoadRect (View.loadsAt_vmem h_S1x47x50x256)) fun v6 =>
  .op (.load arg5 (Rect.unit (s := S5x50x50x256) ![0, 1, 0, 0] S1x47x50x256.size inb_S5x50x50x256_S1x47x50x256_0_1_0_0).toLoadRect (View.loadsAt_vmem h_S1x47x50x256)) fun v8 =>
  .op (.load arg5 (Rect.unit (s := S5x50x50x256) ![1, 0, 0, 0] S1x47x50x256.size inb_S5x50x50x256_S1x47x50x256_1_0_0_0).toLoadRect (View.loadsAt_vmem h_S1x47x50x256)) fun _ =>
  .op (.store arg5 (Rect.unit (s := S5x50x50x256) ![1, 0, 0, 0] S1x47x50x256.size inb_S5x50x50x256_S1x47x50x256_1_0_0_0) (k0_pay3 v6 v8) Finset.univ (View.stores_vmem_bits_univ h_S1x47x50x256 rfl) (.inl rfl)) fun _ =>
  .op (.load arg5 (Rect.unit (s := S5x50x50x256) ![1, 0, 0, 0] S1x45x50x256.size inb_S5x50x50x256_S1x45x50x256_1_0_0_0).toLoadRect (View.loadsAt_vmem h_S1x45x50x256)) fun v14 =>
  .op (.load arg5 (Rect.unit (s := S5x50x50x256) ![1, 2, 0, 0] S1x45x50x256.size inb_S5x50x50x256_S1x45x50x256_1_2_0_0).toLoadRect (View.loadsAt_vmem h_S1x45x50x256)) fun v16 =>
  .op (.load arg5 (Rect.unit (s := S5x50x50x256) ![2, 0, 0, 0] S1x45x50x256.size inb_S5x50x50x256_S1x45x50x256_2_0_0_0).toLoadRect (View.loadsAt_vmem h_S1x45x50x256)) fun _ =>
  .op (.store arg5 (Rect.unit (s := S5x50x50x256) ![2, 0, 0, 0] S1x45x50x256.size inb_S5x50x50x256_S1x45x50x256_2_0_0_0) (k0_pay4 v14 v16) Finset.univ (View.stores_vmem_bits_univ h_S1x45x50x256 rfl) (.inl rfl)) fun _ =>
  .op (.load arg5 (Rect.unit (s := S5x50x50x256) ![2, 0, 0, 0] S1x41x50x256.size inb_S5x50x50x256_S1x41x50x256_2_0_0_0).toLoadRect (View.loadsAt_vmem h_S1x41x50x256)) fun v22 =>
  .op (.load arg5 (Rect.unit (s := S5x50x50x256) ![2, 4, 0, 0] S1x41x50x256.size inb_S5x50x50x256_S1x41x50x256_2_4_0_0).toLoadRect (View.loadsAt_vmem h_S1x41x50x256)) fun v24 =>
  .op (.load arg5 (Rect.unit (s := S5x50x50x256) ![3, 0, 0, 0] S1x41x50x256.size inb_S5x50x50x256_S1x41x50x256_3_0_0_0).toLoadRect (View.loadsAt_vmem h_S1x41x50x256)) fun _ =>
  .op (.store arg5 (Rect.unit (s := S5x50x50x256) ![3, 0, 0, 0] S1x41x50x256.size inb_S5x50x50x256_S1x41x50x256_3_0_0_0) (k0_pay5 v22 v24) Finset.univ (View.stores_vmem_bits_univ h_S1x41x50x256 rfl) (.inl rfl)) fun _ =>
  .op (.load arg5 (Rect.unit (s := S5x50x50x256) ![3, 0, 0, 0] S1x33x50x256.size inb_S5x50x50x256_S1x33x50x256_3_0_0_0).toLoadRect (View.loadsAt_vmem h_S1x33x50x256)) fun v30 =>
  .op (.load arg5 (Rect.unit (s := S5x50x50x256) ![3, 8, 0, 0] S1x33x50x256.size inb_S5x50x50x256_S1x33x50x256_3_8_0_0).toLoadRect (View.loadsAt_vmem h_S1x33x50x256)) fun v32 =>
  .op (.load arg5 (Rect.unit (s := S5x50x50x256) ![4, 0, 0, 0] S1x33x50x256.size inb_S5x50x50x256_S1x33x50x256_4_0_0_0).toLoadRect (View.loadsAt_vmem h_S1x33x50x256)) fun _ =>
  .op (.store arg5 (Rect.unit (s := S5x50x50x256) ![4, 0, 0, 0] S1x33x50x256.size inb_S5x50x50x256_S1x33x50x256_4_0_0_0) (k0_pay6 v30 v32) Finset.univ (View.stores_vmem_bits_univ h_S1x33x50x256 rfl) (.inl rfl)) fun _ =>
  K

end Cert.Kernel.Roi

end
-- ==== Proof.Body.lean ====
/- The printed body is the prologue followed by 128 segments. -/
module

public import proofs.«01_k».proof.Proof.Seg

@[expose] public section

set_option maxRecDepth 65536

noncomputable section

namespace Cert.Kernel.Roi

open Idealize.ShloMosaic Idealize.ShloMosaic.TcCoe Idealize.SL.Sem Idealize.ShloMosaic.Tactic
open Cert.Kernel

variable {F : FTy → Type} [FloatOps F]

/-- The printed body is the prologue followed by the 128 segments: by unfolding. -/
theorem body_eq (i : grid0.Coords) (arg1 : Memref sig .tc .smem S1024 .i32) (harg1 : arg1.IsWhole) (arg2 : Memref sig .tc .smem S64 .i32) (harg2 : arg2.IsWhole) (arg3 : Memref sig .tc .vmem S1x50x50x256 .f32) (harg3 : arg3.IsWhole) (arg4 : Memref sig .tc .vmem S1x128x1x256 .f32) (harg4 : arg4.IsWhole) (arg5 : Memref sig .tc .vmem S5x50x50x256 .f32) (harg5 : arg5.IsWhole) :
    cc0_roi_max_pool (F := F) i arg1 harg1 arg2 harg2 arg3 harg3 arg4 harg4 arg5 harg5
      = proK arg3 arg5 (segs i arg1 arg2 arg4 arg5 128) := by sl_kernel_rfl

end Cert.Kernel.Roi

end
-- ==== Proof.Words.lean ====
/- What a proposal's words steer, as natural numbers: the start of the aligned window, the level and the row of the
   second read. -/
module

public import proofs.«01_k».proof.Kernel

@[expose] public section

namespace Cert.Roi

open Idealize.ShloMosaic

/-- A word of a proposal as the precondition bounds it. -/
def InR (x : BitVec 32) : Prop := 16 ≤ x.toNat ∧ x.toNat < 400

/-- A proposal's word in cells. -/
def cell (x : BitVec 32) : Nat := x.toNat / 16

theorem InR.cell_pos {x : BitVec 32} (h : InR x) : 1 ≤ cell x := by unfold cell; have := h.1; omega
theorem InR.cell_le {x : BitVec 32} (h : InR x) : cell x ≤ 24 := by unfold cell; have := h.2; omega

theorem InR.shr {x : BitVec 32} (h : InR x) : Scalar.shrsi x 4#32 = BitVec.ofNat 32 (cell x) := by
  obtain ⟨h1, h2⟩ := h
  obtain ⟨n, hn, rfl⟩ : ∃ n : Fin 400, 16 ≤ n.val ∧ x = BitVec.ofNat 32 n.val :=
    ⟨⟨x.toNat, h2⟩, h1, by simp⟩
  have : ∀ n : Fin 400, Scalar.shrsi (BitVec.ofNat 32 n.val) 4#32 = BitVec.ofNat 32 (cell (BitVec.ofNat 32 n.val)) := by
    decide +kernel
  exact this n

/-- The window's first column, on a multiple of eight. -/
def colN (p : Nat) : Nat := min (p / 8 * 8) 16

/-- The same, as the kernel computes it from the word. -/
def colW (x : BitVec 32) : BitVec 32 :=
  Scalar.minsi (Scalar.shli (Scalar.shrsi (Scalar.shrsi x 4#32) 3#32) 3#32) 16#32

theorem InR.colW {x : BitVec 32} (h : InR x) : colW x = BitVec.ofNat 32 (colN (cell x)) := by
  have : ∀ p : Fin 25, Scalar.minsi (Scalar.shli (Scalar.shrsi (BitVec.ofNat 32 p.val) 3#32) 3#32) 16#32
      = BitVec.ofNat 32 (colN p.val) := by decide +kernel
  unfold Roi.colW
  rw [h.shr]
  exact this ⟨cell x, Nat.lt_succ_of_le h.cell_le⟩

/-- The level a window of `h` rows is read at: the largest `k` with `2 ^ k ≤ h`, at most 4. -/
def lvlN (h : Nat) : Nat := if h < 2 then 0 else if h < 4 then 1 else if h < 8 then 2 else if h < 16 then 3 else 4

theorem lvlN_le (h : Nat) : lvlN h ≤ 4 := by unfold lvlN; split_ifs <;> omega

theorem pow_lvlN_le {h : Nat} (h1 : 1 ≤ h) : 2 ^ lvlN h ≤ h := by unfold lvlN; split_ifs <;> omega

theorem lt_pow_lvlN {h : Nat} (h1 : h ≤ 24) : h ≤ 2 * 2 ^ lvlN h := by unfold lvlN; split_ifs <;> omega

theorem tab_lvl : ∀ h : Fin 25, 1 ≤ h.val → Cert.Kernel.lit0 ⟨h.val, by omega⟩ = BitVec.ofNat 32 (lvlN h.val) := by
  decide +kernel

theorem tab_row : ∀ h : Fin 25, 1 ≤ h.val → Cert.Kernel.lit0 ⟨32 + h.val, by omega⟩ = BitVec.ofNat 32 (h.val - 2 ^ lvlN h.val) := by
  decide +kernel

end Cert.Roi

end
-- ==== Proof.SegWp.lean ====
/- One segment's triple: from the words of the proposal and the five levels, the segment replaces its row of the
   result. -/
module

public import proofs.«01_k».proof.Proof.Body
public import proofs.«01_k».proof.Proof.Words
public import proofs.«01_k».proof.Proof.Gen.Kernel.Frame
public import Idealize.ShloMosaic.Lib.Tactic
public import Idealize.ShloMosaic.Lib.WritesUnit
public import Idealize.ShloMosaic.Lib.Pipeline.Kit

@[expose] public section

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Facts₀ Cert.Kernel.Facts
open Cert.Roi

variable {F : FTy → Type} [FloatOps F]

local notation "𝔼" => TpuEff nD τ sig (Elt F) Λ₀ (Proc.tc : Proc τ)
local notation "𝕄" => MT nD τ sig Unit (Elt F) ℕ (UR sig nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- Word `n` of the flattened proposals. -/
def wordN (P : S1024.Idx → BitVec 32) (n : Nat) : BitVec 32 := P fun a => ⟨n % S1024.size a, Nat.mod_lt _ ((by decide : ∀ a, 0 < S1024.size a) a)⟩

/-- Field `r` of proposal `g` of image `i`. -/
def fieldN (P : S1024.Idx → BitVec 32) (i g r : Nat) : BitVec 32 := wordN P (512 * i + 4 * g + r)

/-- Level `k`, row `r`, column `q`, channel `ch` as an index of the levels. -/
def ix5 (k r q ch : Nat) : S5x50x50x256.Idx :=
  fun a => ⟨(![k, r, q, ch] : Fin 4 → Nat) a % S5x50x50x256.size a,
    Nat.mod_lt _ ((by decide : ∀ a, 0 < S5x50x50x256.size a) a)⟩

/-- What a segment stores, from the proposal's four words and the levels. -/
def rowWords (x y w h : BitVec 32) (L : S5x50x50x256.Idx → F .f32) : FVec F S1x1x1x256 .f32 :=
  rowPay (F := F) x w
    (fun j => L (ix5 (lvlN (cell h)) (cell y) (colN (cell x) + (j 2).val) (j 3).val))
    (fun j => L (ix5 (lvlN (cell h)) (cell y + (cell h - 2 ^ lvlN (cell h))) (colN (cell x) + (j 2).val) (j 3).val))

/-- What the segment of proposal `g` stores, from the proposals and the levels. -/
def rowOf (P : S1024.Idx → BitVec 32) (L : S5x50x50x256.Idx → F .f32) (i g : Nat) : FVec F S1x1x1x256 .f32 :=
  rowWords (fieldN P i g 0) (fieldN P i g 1) (fieldN P i g 2) (fieldN P i g 3) L

section words

variable {x y h t d : BitVec 32}

theorem off2_eq (hh : InR h) : k0_off2 h = ![cell h] := by
  show ![(Scalar.shrsi h 4#32).toNat] = _
  rw [hh.shr, BitVec.toNat_ofNat, Nat.mod_eq_of_lt (by have := hh.cell_le; omega)]

theorem off3_eq (hh : InR h) : k0_off3 h = ![32 + cell h] := by
  show ![(32#32 + Scalar.shrsi h 4#32).toNat] = _
  have := hh.cell_le
  rw [hh.shr, BitVec.toNat_add, BitVec.toNat_ofNat, BitVec.toNat_ofNat, Nat.mod_eq_of_lt (show cell h < 2 ^ 32 by omega),
    Nat.mod_eq_of_lt (show 32 < 2 ^ 32 by omega), Nat.mod_eq_of_lt (show 32 + cell h < 2 ^ 32 by omega)]

theorem off4_eq (hx : InR x) (hy : InR y) (k : Nat) (hk : k ≤ 4) (ht : t = BitVec.ofNat 32 k) :
    k0_off4 x y t = ![k, cell y, colN (cell x), 0] := by
  show ![t.toNat, (Scalar.shrsi y 4#32).toNat, (colW x).toNat, 0] = _
  have := hy.cell_le; have : colN (cell x) ≤ 16 := Nat.min_le_right _ _
  rw [hx.colW, hy.shr, ht, BitVec.toNat_ofNat, BitVec.toNat_ofNat, BitVec.toNat_ofNat,
    Nat.mod_eq_of_lt (show k < 2 ^ 32 by omega), Nat.mod_eq_of_lt (show cell y < 2 ^ 32 by omega),
    Nat.mod_eq_of_lt (show colN (cell x) < 2 ^ 32 by omega)]

theorem off5_eq (hx : InR x) (hy : InR y) (k r : Nat) (hk : k ≤ 4) (hr : r ≤ 24) (ht : t = BitVec.ofNat 32 k) (hd : d = BitVec.ofNat 32 r) :
    k0_off5 x y t d = ![k, cell y + r, colN (cell x), 0] := by
  show ![t.toNat, (Scalar.shrsi y 4#32 + d).toNat, (colW x).toNat, 0] = _
  have := hy.cell_le; have : colN (cell x) ≤ 16 := Nat.min_le_right _ _
  rw [hx.colW, hy.shr, ht, hd, BitVec.toNat_add, BitVec.toNat_ofNat, BitVec.toNat_ofNat, BitVec.toNat_ofNat, BitVec.toNat_ofNat,
    Nat.mod_eq_of_lt (show k < 2 ^ 32 by omega), Nat.mod_eq_of_lt (show cell y < 2 ^ 32 by omega),
    Nat.mod_eq_of_lt (show colN (cell x) < 2 ^ 32 by omega), Nat.mod_eq_of_lt (show r < 2 ^ 32 by omega),
    Nat.mod_eq_of_lt (show cell y + r < 2 ^ 32 by omega)]

theorem chk1_of (hx : InR x) : k0_chk1 x := by
  show 8 ∣ (colW x).toNat
  have : ∀ p : Fin 25, 8 ∣ (BitVec.ofNat 32 (colN p.val)).toNat := by decide +kernel
  rw [hx.colW]; exact this ⟨cell x, Nat.lt_succ_of_le hx.cell_le⟩

theorem chk2_of (hh : InR h) : k0_chk2 h := by
  have := hh.cell_le
  refine ⟨fun a => ?_, fun a => ?_⟩
  · rw [off2_eq hh]; fin_cases a; show cell h + 1 ≤ 64; omega
  · rw [off3_eq hh]; fin_cases a; show 32 + cell h + 1 ≤ 64; omega

theorem inb5 {k r q : Nat} (hk : k ≤ 4) (hr : r ≤ 48) (hq : q ≤ 16) :
    ∀ a, (![k, r, q, 0] : Fin 4 → Nat) a + S1x1x32x256.size a ≤ S5x50x50x256.size a := by
  intro a
  fin_cases a
  · show k + 1 ≤ 5; omega
  · show r + 1 ≤ 50; omega
  · show q + 32 ≤ 50; omega
  · show 0 + 256 ≤ 256; omega

theorem chk3_of (hx : InR x) (hy : InR y) (k : Nat) (hk : k ≤ 4) (ht : t = BitVec.ofNat 32 k) : k0_chk3 x y t := by
  unfold k0_chk3
  rw [off4_eq hx hy k hk ht]
  exact inb5 hk (by have := hy.cell_le; omega) (Nat.min_le_right _ _)

theorem chk4_of (hx : InR x) (hy : InR y) (k r : Nat) (hk : k ≤ 4) (hr : r ≤ 24) (ht : t = BitVec.ofNat 32 k) (hd : d = BitVec.ofNat 32 r) :
    k0_chk4 x y t d := by
  unfold k0_chk4
  rw [off5_eq hx hy k r hk hr ht hd]
  exact inb5 hk (by have := hy.cell_le; omega) (Nat.min_le_right _ _)

end words

/-- A load of a one-row window of the levels, at its offsets. -/
theorem ld5 (L : S5x50x50x256.Idx → F .f32) (off : Fin 4 → Nat) (inb : ∀ a, off a + S1x1x32x256.size a ≤ S5x50x50x256.size a)
    {k r q : Nat} (h : off = ![k, r, q, 0]) :
    (fun j => L ((Rect.unit (s := S5x50x50x256) off S1x1x32x256.size inb).toLoadRect.idx j))
      = fun j => L (ix5 k r (q + (j 2).val) (j 3).val) := by
  subst h
  have h0 := inb 0; have h1 := inb 1; have h2 := inb 2
  funext j
  congr 1
  funext a
  apply Fin.ext
  have hj2 : (j 2).val < 32 := (j 2).isLt
  have hj3 : (j 3).val < 256 := (j 3).isLt
  have hj0 : (j 0).val < 1 := (j 0).isLt
  have hj1 : (j 1).val < 1 := (j 1).isLt
  change k + 1 ≤ 5 at h0; change r + 1 ≤ 50 at h1; change q + 32 ≤ 50 at h2
  fin_cases a
  · show k + 1 * (j 0).val = k % 5; omega
  · show r + 1 * (j 1).val = r % 50; omega
  · show q + 1 * (j 2).val = (q + (j 2).val) % 50; omega
  · show 0 + 1 * (j 3).val = (j 3).val % 256; omega

/-- A load of one word of the flattened proposals. -/
theorem ld1 (P : S1024.Idx → BitVec 32) (off : Fin 1 → Nat) (inb : ∀ a, off a + S1.size a ≤ S1024.size a)
    (j : (Rect.unit (s := S1024) off S1.size inb).toLoadRect.shape.Idx) {n : Nat} (h : off = ![n]) :
    P ((Rect.unit (s := S1024) off S1.size inb).toLoadRect.idx j) = wordN P n := by
  subst h
  have h0 := inb 0
  change n + 1 ≤ 1024 at h0
  unfold wordN
  congr 1
  funext a
  apply Fin.ext
  have hj0 : (j 0).val < 1 := (j 0).isLt
  fin_cases a
  show n + 1 * (j 0).val = n % 1024; omega

/-- A load of one word of the table. -/
theorem ld2 (T : S64.Idx → BitVec 32) (hT : ∀ j, T j = lit0 (j 0)) (off : Fin 1 → Nat) (inb : ∀ a, off a + S1.size a ≤ S64.size a)
    (j : (Rect.unit (s := S64) off S1.size inb).toLoadRect.shape.Idx) {n : Nat} (hn : n < 64) (h : off = ![n]) :
    T ((Rect.unit (s := S64) off S1.size inb).toLoadRect.idx j) = lit0 ⟨n, hn⟩ := by
  subst h
  rw [hT]
  congr 1
  apply Fin.ext
  have hj0 : (j 0).val < 1 := (j 0).isLt
  show n + 1 * (j 0).val = n; omega

/-- The place of an element of the result within its proposal's row. -/
def cell4 (y : S1x128x1x256.Idx) : S1x1x1x256.Idx :=
  fun a => ⟨(![0, 0, 0, (y 3).val] : Fin 4 → Nat) a % S1x1x1x256.size a, Nat.mod_lt _ ((by decide : ∀ a, 0 < S1x1x1x256.size a) a)⟩

/-- What the result reads after one row is written. -/
theorem read_row (v : View sig .tc .vmem S1x128x1x256 .f32) (f : v.ty.Contents (Elt F)) (g : Fin 128) (w : FVec F S1x1x1x256 .f32)
    (y : S1x128x1x256.Idx) :
    v.read (Elt F) (v.writes (Elt F) f [⟨Rect.unit (s := S1x128x1x256) (rowOff (BitVec.ofNat 32 g.val)) S1x1x1x256.size (rowOff_inb g), w⟩]) y
      = if (y 1).val = g.val then w (cell4 y) else v.read (Elt F) f y := by
  have y0 : (y 0).val < 1 := (y 0).isLt
  have y2 : (y 2).val < 1 := (y 2).isLt
  by_cases hy : (y 1).val = g.val
  · rw [if_pos hy]
    refine View.read_writes_cons_unit_of_mem v f (rowOff_inb g) w [] y (cell4 y) (rowOff_eq g) fun a => ?_
    fin_cases a
    · show (y 0).val = 0 + 0; omega
    · show (y 1).val = g.val + 0; omega
    · show (y 2).val = 0 + 0; omega
    · show (y 3).val = 0 + (y 3).val % 256
      have y3 : (y 3).val < 256 := (y 3).isLt
      omega
  · rw [if_neg hy, View.read_writes_cons_unit_of_not_mem v f (rowOff_inb g) w [] y (rowOff_eq g) 1 (by
      show (y 1).val < g.val ∨ g.val + 1 ≤ (y 1).val; omega)]
    rfl

theorem segK_wp (c : Dev nD) (i : grid0.Coords) (arg1 : Memref sig .tc .smem S1024 .i32) (arg2 : Memref sig .tc .smem S64 .i32)
    (arg4 : Memref sig .tc .vmem S1x128x1x256 .f32) (arg5 : Memref sig .tc .vmem S5x50x50x256 .f32)
    (g : Fin 128) (K : Prog 𝔼 PUnit)
    (f1 : Bf F c arg1) (f2 : Bf F c arg2) (f4 : Bf F c arg4) (f5 : Bf F c arg5) (Q : PUnit → sProp 𝕄)
    (hP : ∀ j, InR (arg1.view.read (Elt F) f1 j)) (hT : ∀ j, arg2.view.read (Elt F) f2 j = lit0 (j 0)) :
    iprop(pt c arg1 f1 ∗ pt c arg2 f2 ∗ pt c arg5 f5 ∗ pt c arg4 f4
      ∗ (∀ f4' : Bf F c arg4, iprop(⌜∀ y : S1x128x1x256.Idx, arg4.view.read (Elt F) f4' y
            = if (y 1).val = g.val then rowOf (arg1.view.read (Elt F) f1) (arg5.view.read (Elt F) f5) (i 0).val g.val (cell4 y)
              else arg4.view.read (Elt F) f4 y⌝
          ∗ pt c arg1 f1 ∗ pt c arg2 f2 ∗ pt c arg5 f5 ∗ pt c arg4 f4') -∗ wp frame (wpE (defs₀ (F := F)) Variants.none c none) Set.univ K Q))
    ⊢ wp frame (wpE (defs₀ (F := F)) Variants.none c none) Set.univ
        (segK i arg1 arg2 arg4 arg5 g K) Q := by
  have hf : ∀ r, InR (fieldN (arg1.view.read (Elt F) f1) (i 0).val g.val r) := fun r => hP _
  set P := arg1.view.read (Elt F) f1 with hPdef
  have e1 : ∀ (r : Fin 4) j, arg1.view.readAt (Elt F) (Rect.unit (s := S1024) (propOff i (BitVec.ofNat 32 g.val) (BitVec.ofNat 32 r.val)) S1.size (propOff_inb i g r)).toLoadRect f1 j
      = fieldN P (i 0).val g.val r.val := fun r j => ld1 P _ _ j (propOff_eq i g r)
  have e2 : ∀ (h : BitVec 32) (hh : InR h) inb j, arg2.view.readAt (Elt F) (Rect.unit (s := S64) (k0_off2 h) S1.size inb).toLoadRect f2 j
      = BitVec.ofNat 32 (lvlN (cell h)) := fun h hh inb j =>
    (ld2 _ hT _ inb j (by have := hh.cell_le; omega) (off2_eq hh)).trans (tab_lvl ⟨cell h, Nat.lt_succ_of_le hh.cell_le⟩ hh.cell_pos)
  have e3 : ∀ (h : BitVec 32) (hh : InR h) inb j, arg2.view.readAt (Elt F) (Rect.unit (s := S64) (k0_off3 h) S1.size inb).toLoadRect f2 j
      = BitVec.ofNat 32 (cell h - 2 ^ lvlN (cell h)) := fun h hh inb j =>
    (ld2 _ hT _ inb j (by have := hh.cell_le; omega) (off3_eq hh)).trans (tab_row ⟨cell h, Nat.lt_succ_of_le hh.cell_le⟩ hh.cell_pos)
  have i0 : ∀ j, InR (arg1.view.readAt (Elt F) (Rect.unit (s := S1024) (propOff i (BitVec.ofNat 32 g.val) 0#32) S1.size (propOff_inb i g 0)).toLoadRect f1 j) :=
    fun j => (e1 0 j) ▸ hf 0
  have i1 : ∀ j, InR (arg1.view.readAt (Elt F) (Rect.unit (s := S1024) (propOff i (BitVec.ofNat 32 g.val) 1#32) S1.size (propOff_inb i g 1)).toLoadRect f1 j) :=
    fun j => (e1 1 j) ▸ hf 1
  have i3 : ∀ j, InR (arg1.view.readAt (Elt F) (Rect.unit (s := S1024) (propOff i (BitVec.ofNat 32 g.val) 3#32) S1.size (propOff_inb i g 3)).toLoadRect f1 j) :=
    fun j => (e1 3 j) ▸ hf 3
  iintro ⟨H1, H2, H5, H4, Hk⟩
  unfold segK wordK smemLoadElt
  have c1 := chk1_of (i0 (Shape.Idx.first (numel1_S1.symm ▸ Nat.one_pos)))
  have c2 := chk2_of (i3 (Shape.Idx.first (numel1_S1.symm ▸ Nat.one_pos)))
  have c3 := chk3_of (i0 (Shape.Idx.first (numel1_S1.symm ▸ Nat.one_pos))) (i1 (Shape.Idx.first (numel1_S1.symm ▸ Nat.one_pos))) _ (lvlN_le _)
    (e2 _ (i3 (Shape.Idx.first (numel1_S1.symm ▸ Nat.one_pos))) (k0_off2_inb _ c2) (Shape.Idx.first (numel1_S1.symm ▸ Nat.one_pos)))
  have c4 := chk4_of (i0 (Shape.Idx.first (numel1_S1.symm ▸ Nat.one_pos))) (i1 (Shape.Idx.first (numel1_S1.symm ▸ Nat.one_pos))) _ _ (lvlN_le _)
    (le_trans (Nat.sub_le _ _) (i3 (Shape.Idx.first (numel1_S1.symm ▸ Nat.one_pos))).cell_le)
    (e2 _ (i3 (Shape.Idx.first (numel1_S1.symm ▸ Nat.one_pos))) (k0_off2_inb _ c2) (Shape.Idx.first (numel1_S1.symm ▸ Nat.one_pos)))
    (e3 _ (i3 (Shape.Idx.first (numel1_S1.symm ▸ Nat.one_pos))) (k0_off3_inb _ c2) (Shape.Idx.first (numel1_S1.symm ▸ Nat.one_pos)))
  sl_exec
  iapply Hk $$ %(arg4.view.writes (Elt F) f4 [⟨Rect.unit (s := S1x128x1x256) (rowOff (BitVec.ofNat 32 g.val)) S1x1x1x256.size (rowOff_inb g),
    rowOf P (arg5.view.read (Elt F) f5) (i 0).val g.val⟩])
  isplitr
  · ipureintro
    exact read_row arg4.view f4 g _
  isplitl [H1]; · iexact H1
  isplitl [H2]; · iexact H2
  isplitl [H5]; · iexact H5
  have ew : rowPay (F := F)
      (arg1.view.readAt (Elt F) (Rect.unit (s := S1024) (propOff i (BitVec.ofNat 32 g.val) 0#32) S1.size (propOff_inb i g 0)).toLoadRect f1 (Shape.Idx.first (numel1_S1.symm ▸ Nat.one_pos)))
      (arg1.view.readAt (Elt F) (Rect.unit (s := S1024) (propOff i (BitVec.ofNat 32 g.val) 2#32) S1.size (propOff_inb i g 2)).toLoadRect f1 (Shape.Idx.first (numel1_S1.symm ▸ Nat.one_pos)))
      (segK_wp.sl.a c i arg1 arg2 arg5 g f1 f2 f5 c2 c3) (segK_wp.sl.b c i arg1 arg2 arg5 g f1 f2 f5 c2 c4)
      = rowOf P (arg5.view.read (Elt F) f5) (i 0).val g.val := by
    unfold rowOf
    have e0 := e1 0 (Shape.Idx.first (numel1_S1.symm ▸ Nat.one_pos))
    have e2' := e1 2 (Shape.Idx.first (numel1_S1.symm ▸ Nat.one_pos))
    have ey := e1 1 (Shape.Idx.first (numel1_S1.symm ▸ Nat.one_pos))
    have eh := e1 3 (Shape.Idx.first (numel1_S1.symm ▸ Nat.one_pos))
    have ea := ld5 (arg5.view.read (Elt F) f5) _ (k0_off4_inb _ _ _ c3) (off4_eq (i0 _) (i1 _) _ (lvlN_le _) (e2 _ (i3 _) (k0_off2_inb _ c2) (Shape.Idx.first (numel1_S1.symm ▸ Nat.one_pos))))
    have eb := ld5 (arg5.view.read (Elt F) f5) _ (k0_off5_inb _ _ _ _ c4) (off5_eq (i0 _) (i1 _) _ _ (lvlN_le _)
      (le_trans (Nat.sub_le _ _) (i3 _).cell_le)
      (e2 _ (i3 _) (k0_off2_inb _ c2) (Shape.Idx.first (numel1_S1.symm ▸ Nat.one_pos))) (e3 _ (i3 _) (k0_off3_inb _ c2) (Shape.Idx.first (numel1_S1.symm ▸ Nat.one_pos))))
    refine (congr (congrArg (rowPay _ _) ea) eb).trans ?_
    have hcongr : ∀ {x y w h x' y' w' h' : BitVec 32}, x = x' → y = y' → w = w' → h = h' →
        rowWords x y w h (arg5.view.read (Elt F) f5) = rowWords x' y' w' h' (arg5.view.read (Elt F) f5) := by
      intros; subst_vars; rfl
    exact hcongr e0 ey e2' eh
  rw [← ew]
  iexact H4

end Cert.Kernel.Roi

end
-- ==== Proof.Pro.lean ====
/- The prologue's triple: it leaves the five levels of row maxima in the scratch buffer. -/
module

public import proofs.«01_k».proof.Proof.SegWp
public import Idealize.ShloMosaic.Lib.Pipeline.Value

@[expose] public section

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Facts₀ Cert.Kernel.Facts
open Cert.Roi

variable {F : FTy → Type} [FloatOps F]

local notation "𝔼" => TpuEff nD τ sig (Elt F) Λ₀ (Proc.tc : Proc τ)
local notation "𝕄" => MT nD τ sig Unit (Elt F) ℕ (UR sig nD τ) ℕ

/-- Row `r`, column `q`, channel `ch` of the image's features as an index. -/
def ix3 (r q ch : Nat) : S1x50x50x256.Idx :=
  fun a => ⟨(![0, r, q, ch] : Fin 4 → Nat) a % S1x50x50x256.size a,
    Nat.mod_lt _ ((by decide : ∀ a, 0 < S1x50x50x256.size a) a)⟩

/-- The maximum of `2 ^ k` rows from row `r`, as the kernel builds it: two windows of half the rows. -/
def mx (X : S1x50x50x256.Idx → F .f32) : Nat → Nat → Nat → Nat → F .f32
  | 0, r, q, ch => X (ix3 r q ch)
  | k + 1, r, q, ch => FloatOps.maximumf (mx X k r q ch) (mx X k (r + 2 ^ k) q ch)

/-- How many rows of level `k` the prologue fills. -/
def nR (k : Nat) : Nat := if k = 0 then 50 else 49 - 2 ^ k

/-- The writes `L` leave levels `0` to `k` filled. -/
def Good (v : View sig .tc .vmem S5x50x50x256 .f32) (X : S1x50x50x256.Idx → F .f32) (k : Nat)
    (L : List (View.Piece (Elt F) S5x50x50x256 .f32)) : Prop :=
  ∀ (f : v.ty.Contents (Elt F)) (k' r q ch : Nat), k' ≤ k → k' < 5 → r < nR k' → q < 50 → ch < 256 →
    v.read (Elt F) (v.writes (Elt F) f L) (ix5 k' r q ch) = mx X k' r q ch

theorem ix5_0 {k r q ch : Nat} (hk : k < 5) : (ix5 k r q ch 0).val = k := Nat.mod_eq_of_lt hk
theorem ix5_1 {k r q ch : Nat} (hr : r < 50) : (ix5 k r q ch 1).val = r := Nat.mod_eq_of_lt hr
theorem ix5_2 {k r q ch : Nat} (hq : q < 50) : (ix5 k r q ch 2).val = q := Nat.mod_eq_of_lt hq
theorem ix5_3 {k r q ch : Nat} (hc : ch < 256) : (ix5 k r q ch 3).val = ch := Nat.mod_eq_of_lt hc

theorem nR_le (k : Nat) : nR k ≤ 50 := by have := Nat.two_pow_pos k; unfold nR; split_ifs <;> omega

/-- The first level is the features. -/
theorem good_zero (v : View sig .tc .vmem S5x50x50x256 .f32) (X : S1x50x50x256.Idx → F .f32)
    (inb : ∀ a, (![0, 0, 0, 0] : Fin 4 → Nat) a + S1x50x50x256.size a ≤ S5x50x50x256.size a) :
    Good v X 0 [⟨Rect.unit (s := S5x50x50x256) ![0, 0, 0, 0] S1x50x50x256.size inb, X⟩] := by
  intro f k r q ch hk hk5 hr hq hc
  obtain rfl : k = 0 := by omega
  have hr' : r < 50 := hr
  refine View.read_writes_cons_unit_of_mem v f inb X [] _ (ix3 r q ch) rfl fun a => ?_
  fin_cases a
  · show 0 % 5 = 0 + 0 % 1; omega
  · show r % 50 = 0 + r % 50; omega
  · show q % 50 = 0 + q % 50; omega
  · show ch % 256 = 0 + ch % 256; omega

/-- Each further level, from the one before it. -/
theorem good_succ (v : View sig .tc .vmem S5x50x50x256 .f32) (X : S1x50x50x256.Idx → F .f32) (k n : Nat)
    (L : List (View.Piece (Elt F) S5x50x50x256 .f32)) (hL : Good v X k L) (hk : k < 4) (hn : n = nR (k + 1)) (hn' : n + 2 ^ k ≤ nR k)
    (inb : ∀ a, (![k + 1, 0, 0, 0] : Fin 4 → Nat) a + (![1, n, 50, 256] : Fin 4 → Nat) a ≤ S5x50x50x256.size a)
    (inbA : ∀ a, (![k, 0, 0, 0] : Fin 4 → Nat) a + (![1, n, 50, 256] : Fin 4 → Nat) a ≤ S5x50x50x256.size a)
    (inbB : ∀ a, (![k, 2 ^ k, 0, 0] : Fin 4 → Nat) a + (![1, n, 50, 256] : Fin 4 → Nat) a ≤ S5x50x50x256.size a)
    (w : (⟨4, ![1, n, 50, 256]⟩ : Shape).Idx → F .f32)
    (hw : ∀ j, w j = FloatOps.maximumf
      (v.readCov L (Rect.unit (s := S5x50x50x256) ![k, 0, 0, 0] ![1, n, 50, 256] inbA).toLoadRect j)
      (v.readCov L (Rect.unit (s := S5x50x50x256) ![k, 2 ^ k, 0, 0] ![1, n, 50, 256] inbB).toLoadRect j)) :
    Good v X (k + 1) (⟨Rect.unit (s := S5x50x50x256) ![k + 1, 0, 0, 0] ![1, n, 50, 256] inb, w⟩ :: L) := by
  intro f k' r q ch hk' hk5 hr hq hc
  have := nR_le k; have := nR_le k'; have := Nat.two_pow_pos k
  by_cases e : k' = k + 1
  · subst e
    rw [← hn] at hr
    let x : (⟨4, ![1, n, 50, 256]⟩ : Shape).Idx := fun a => ⟨(![0, r, q, ch] : Fin 4 → Nat) a, by
      fin_cases a
      · exact Nat.one_pos
      · exact hr
      · exact hq
      · exact hc⟩
    rw [View.read_writes_cons_unit_of_mem v f inb w L _ x rfl fun a => by
      fin_cases a
      · show (k + 1) % 5 = (k + 1) + 0; omega
      · show r % 50 = 0 + r; omega
      · show q % 50 = 0 + q; omega
      · show ch % 256 = 0 + ch; omega]
    rw [hw]
    show FloatOps.maximumf (v.read (Elt F) (v.writes (Elt F) v.junk L) _) (v.read (Elt F) (v.writes (Elt F) v.junk L) _) = _
    have eA : (Rect.unit (s := S5x50x50x256) ![k, 0, 0, 0] ![1, n, 50, 256] inbA).toLoadRect.idx x = ix5 k r q ch := by
      funext a
      apply Fin.ext
      fin_cases a
      · show k + 1 * 0 = k % 5; omega
      · show 0 + 1 * r = r % 50; omega
      · show 0 + 1 * q = q % 50; omega
      · show 0 + 1 * ch = ch % 256; omega
    have eB : (Rect.unit (s := S5x50x50x256) ![k, 2 ^ k, 0, 0] ![1, n, 50, 256] inbB).toLoadRect.idx x = ix5 k (r + 2 ^ k) q ch := by
      funext a
      apply Fin.ext
      fin_cases a
      · show k + 1 * 0 = k % 5; omega
      · show 2 ^ k + 1 * r = (r + 2 ^ k) % 50; omega
      · show 0 + 1 * q = q % 50; omega
      · show 0 + 1 * ch = ch % 256; omega
    rw [eA, eB, hL _ k r q ch (le_refl _) (by omega) (by omega) hq hc, hL _ k (r + 2 ^ k) q ch (le_refl _) (by omega) (by omega) hq hc]
    rfl
  · rw [View.read_writes_cons_unit_of_not_mem v f inb w L _ rfl 0 (by
      left
      show k' % 5 < k + 1
      omega)]
    exact hL f k' r q ch (by omega) hk5 hr hq hc

theorem pay2_eq (X : S1x50x50x256.Idx → F .f32) : Gen.k0_pay2 X = X := by
  unfold Gen.k0_pay2; exact shapeCast_shapeCast _ _ _

theorem pay3_apply (a b : S1x47x50x256.Idx → F .f32) (j) : Gen.k0_pay3 a b j = FloatOps.maximumf (a j) (b j) :=
  congr (congrArg FloatOps.maximumf (congrFun (shapeCast_shapeCast a _ _) j)) (congrFun (shapeCast_shapeCast b _ _) j)
theorem pay4_apply (a b : S1x45x50x256.Idx → F .f32) (j) : Gen.k0_pay4 a b j = FloatOps.maximumf (a j) (b j) :=
  congr (congrArg FloatOps.maximumf (congrFun (shapeCast_shapeCast a _ _) j)) (congrFun (shapeCast_shapeCast b _ _) j)
theorem pay5_apply (a b : S1x41x50x256.Idx → F .f32) (j) : Gen.k0_pay5 a b j = FloatOps.maximumf (a j) (b j) :=
  congr (congrArg FloatOps.maximumf (congrFun (shapeCast_shapeCast a _ _) j)) (congrFun (shapeCast_shapeCast b _ _) j)
theorem pay6_apply (a b : S1x33x50x256.Idx → F .f32) (j) : Gen.k0_pay6 a b j = FloatOps.maximumf (a j) (b j) :=
  congr (congrArg FloatOps.maximumf (congrFun (shapeCast_shapeCast a _ _) j)) (congrFun (shapeCast_shapeCast b _ _) j)

/-- The whole block of the features, loaded. -/
theorem ld_whole (X : S1x50x50x256.Idx → F .f32) (inb : ∀ a, (![0, 0, 0, 0] : Fin 4 → Nat) a + S1x50x50x256.size a ≤ S1x50x50x256.size a) :
    (fun j => X ((Rect.unit (s := S1x50x50x256) ![0, 0, 0, 0] S1x50x50x256.size inb).toLoadRect.idx j)) = X := by
  funext j
  congr 1
  funext a
  apply Fin.ext
  fin_cases a
  · show 0 + 1 * (j 0).val = (j 0).val; omega
  · show 0 + 1 * (j 1).val = (j 1).val; omega
  · show 0 + 1 * (j 2).val = (j 2).val; omega
  · show 0 + 1 * (j 3).val = (j 3).val; omega

theorem proK_wp (c : Dev nD)
    (arg3 : Memref sig .tc .vmem S1x50x50x256 .f32) (arg5 : Memref sig .tc .vmem S5x50x50x256 .f32)
    (K : Prog 𝔼 PUnit) (f3 : Bf F c arg3) (f5 : Bf F c arg5) (Q : PUnit → sProp 𝕄) :
    iprop(pt c arg3 f3 ∗ pt c arg5 f5
      ∗ (∀ f5' : Bf F c arg5, iprop(⌜∀ k r q ch : Nat, k < 5 → r < nR k → q < 50 → ch < 256 →
            arg5.view.read (Elt F) f5' (ix5 k r q ch) = mx (arg3.view.read (Elt F) f3) k r q ch⌝
          ∗ pt c arg3 f3 ∗ pt c arg5 f5') -∗ wp frame (wpE (defs₀ (F := F)) Variants.none c none) Set.univ K Q))
    ⊢ wp frame (wpE (defs₀ (F := F)) Variants.none c none) Set.univ
        (proK arg3 arg5 K) Q := by
  iintro ⟨H3, H5, Hk⟩
  unfold proK
  sl_exec
  have g1 : Good arg5.view (arg3.view.read (Elt F) f3) 0 (proK_wp.sl.H5_1 c arg3 f3) := by
    have := good_zero arg5.view (arg3.view.read (Elt F) f3) inb_S5x50x50x256_S1x50x50x256_0_0_0_0
    have e : Gen.k0_pay2 (View.readAt (Elt F) arg3.view (Rect.unit (s := S1x50x50x256) ![0, 0, 0, 0] S1x50x50x256.size inb_S1x50x50x256_S1x50x50x256_0_0_0_0).toLoadRect f3)
        = arg3.view.read (Elt F) f3 := (pay2_eq _).trans (ld_whole _ _)
    unfold proK_wp.sl.H5_1
    rw [e]
    exact this
  have g2 : Good arg5.view (arg3.view.read (Elt F) f3) 1 (proK_wp.sl.H5_2 c arg3 arg5 f3) :=
    good_succ arg5.view _ 0 47 _ g1 (by omega) rfl (by decide) inb_S5x50x50x256_S1x47x50x256_1_0_0_0
      inb_S5x50x50x256_S1x47x50x256_0_0_0_0 inb_S5x50x50x256_S1x47x50x256_0_1_0_0 _ (pay3_apply _ _)
  have g3 : Good arg5.view (arg3.view.read (Elt F) f3) 2 (proK_wp.sl.H5_3 c arg3 arg5 f3) :=
    good_succ arg5.view _ 1 45 _ g2 (by omega) rfl (by decide) inb_S5x50x50x256_S1x45x50x256_2_0_0_0
      inb_S5x50x50x256_S1x45x50x256_1_0_0_0 inb_S5x50x50x256_S1x45x50x256_1_2_0_0 _ (pay4_apply _ _)
  have g4 : Good arg5.view (arg3.view.read (Elt F) f3) 3 (proK_wp.sl.H5_4 c arg3 arg5 f3) :=
    good_succ arg5.view _ 2 41 _ g3 (by omega) rfl (by decide) inb_S5x50x50x256_S1x41x50x256_3_0_0_0
      inb_S5x50x50x256_S1x41x50x256_2_0_0_0 inb_S5x50x50x256_S1x41x50x256_2_4_0_0 _ (pay5_apply _ _)
  have g5 : Good arg5.view (arg3.view.read (Elt F) f3) 4 (⟨Rect.unit (s := S5x50x50x256) ![4, 0, 0, 0] S1x33x50x256.size inb_S5x50x50x256_S1x33x50x256_4_0_0_0,
      Gen.k0_pay6 (proK_wp.sl.v30 c arg3 arg5 f3) (proK_wp.sl.v32 c arg3 arg5 f3)⟩ :: proK_wp.sl.H5_4 c arg3 arg5 f3) :=
    good_succ arg5.view _ 3 33 _ g4 (by omega) rfl (by decide) inb_S5x50x50x256_S1x33x50x256_4_0_0_0
      inb_S5x50x50x256_S1x33x50x256_3_0_0_0 inb_S5x50x50x256_S1x33x50x256_3_8_0_0 _ (pay6_apply _ _)
  iapply Hk $$ %_
  isplitr
  · ipureintro
    intro k r q ch hk hr hq hc
    exact g5 f5 k r q ch (by omega) hk hr hq hc
  isplitl [H3]; · iexact H3
  iexact H5

end Cert.Kernel.Roi

end
-- ==== Proof.BodyWp.lean ====
/- The body's triple: from the image's features, the proposals and the table, the body leaves every proposal's row. -/
module

public import proofs.«01_k».proof.Proof.Pro

@[expose] public section

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Facts₀ Cert.Kernel.Facts
open Cert.Roi

variable {F : FTy → Type} [FloatOps F]

local notation "𝔼" => TpuEff nD τ sig (Elt F) Λ₀ (Proc.tc : Proc τ)
local notation "𝕄" => MT nD τ sig Unit (Elt F) ℕ (UR sig nD τ) ℕ

/-- What a segment stores, from the proposal's four words and the image's features. -/
def rowX (x y w h : BitVec 32) (X : S1x50x50x256.Idx → F .f32) : FVec F S1x1x1x256 .f32 :=
  rowPay (F := F) x w
    (fun j => mx X (lvlN (cell h)) (cell y) (colN (cell x) + (j 2).val) (j 3).val)
    (fun j => mx X (lvlN (cell h)) (cell y + (cell h - 2 ^ lvlN (cell h))) (colN (cell x) + (j 2).val) (j 3).val)

/-- The body's result, from the proposals and the image's features. -/
def outX (P : S1024.Idx → BitVec 32) (X : S1x50x50x256.Idx → F .f32) (i : Nat) (y : S1x128x1x256.Idx) : F .f32 :=
  rowX (fieldN P i (y 1).val 0) (fieldN P i (y 1).val 1) (fieldN P i (y 1).val 2) (fieldN P i (y 1).val 3) X (cell4 y)

theorem rowWords_eq {x y w h : BitVec 32} (hx : InR x) (hy : InR y) (hh : InR h) (X : S1x50x50x256.Idx → F .f32)
    (L : S5x50x50x256.Idx → F .f32)
    (hL : ∀ k r q ch : Nat, k < 5 → r < nR k → q < 50 → ch < 256 → L (ix5 k r q ch) = mx X k r q ch) :
    rowWords x y w h L = rowX x y w h X := by
  have hq : colN (cell x) ≤ 16 := Nat.min_le_right _ _
  have hk := lvlN_le (cell h)
  have hy1 := hy.cell_le
  have hh1 := hh.cell_le
  have hp := pow_lvlN_le hh.cell_pos
  have hpos := Nat.two_pow_pos (lvlN (cell h))
  have hn : ∀ r, r + 2 ^ lvlN (cell h) ≤ 48 → r < nR (lvlN (cell h)) := by
    intro r hr; unfold nR; split_ifs <;> omega
  unfold rowWords rowX
  refine congr (congrArg (rowPay x w) ?_) ?_
  · funext j
    have j2 : (j 2).val < 32 := (j 2).isLt
    exact hL _ _ _ _ (by omega) (hn _ (by omega)) (by omega) (j 3).isLt
  · funext j
    have j2 : (j 2).val < 32 := (j 2).isLt
    exact hL _ _ _ _ (by omega) (hn _ (by omega)) (by omega) (j 3).isLt

theorem segs_zero (i : grid0.Coords) (arg1 : Memref sig .tc .smem S1024 .i32) (arg2 : Memref sig .tc .smem S64 .i32)
    (arg4 : Memref sig .tc .vmem S1x128x1x256 .f32) (arg5 : Memref sig .tc .vmem S5x50x50x256 .f32) :
    segs (F := F) i arg1 arg2 arg4 arg5 0 = .ret ⟨⟩ := rfl

theorem segs_wp (c : Dev nD) (i : grid0.Coords) (arg1 : Memref sig .tc .smem S1024 .i32) (arg2 : Memref sig .tc .smem S64 .i32)
    (arg4 : Memref sig .tc .vmem S1x128x1x256 .f32) (arg5 : Memref sig .tc .vmem S5x50x50x256 .f32)
    (f1 : Bf F c arg1) (f2 : Bf F c arg2) (f5 : Bf F c arg5) (Q : PUnit → sProp 𝕄)
    (hP : ∀ j, InR (arg1.view.read (Elt F) f1 j)) (hT : ∀ j, arg2.view.read (Elt F) f2 j = lit0 (j 0))
    (O : S1x128x1x256.Idx → F .f32)
    (hO : ∀ y, rowOf (arg1.view.read (Elt F) f1) (arg5.view.read (Elt F) f5) (i 0).val (y 1).val (cell4 y) = O y) :
    ∀ (n : Nat) (hn : n ≤ 128) (f4 : Bf F c arg4)
      (h4 : ∀ y : S1x128x1x256.Idx, (y 1).val < 128 - n → arg4.view.read (Elt F) f4 y = O y),
    iprop(pt c arg1 f1 ∗ pt c arg2 f2 ∗ pt c arg5 f5 ∗ pt c arg4 f4
      ∗ (∀ f4' : Bf F c arg4, iprop(⌜arg4.view.read (Elt F) f4' = O⌝
          ∗ pt c arg1 f1 ∗ pt c arg2 f2 ∗ pt c arg5 f5 ∗ pt c arg4 f4') -∗ Q ⟨⟩))
    ⊢ wp frame (wpE (defs₀ (F := F)) Variants.none c none) Set.univ
        (segs i arg1 arg2 arg4 arg5 n) Q
  | 0, _, f4, h4 => by
    iintro ⟨H1, H2, H5, H4, Hk⟩
    rw [segs_zero]
    sl_step
    iapply Hk $$ %f4
    isplitr
    · ipureintro
      exact funext fun y => h4 y (y 1).isLt
    isplitl [H1]; · iexact H1
    isplitl [H2]; · iexact H2
    isplitl [H5]; · iexact H5
    iexact H4
  | n + 1, hn, f4, h4 => by
    refine entails_trans ?_ (segK_wp c i arg1 arg2 arg4 arg5 ⟨127 - n, Nat.lt_succ_of_le (Nat.sub_le _ _)⟩
      (segs i arg1 arg2 arg4 arg5 n) f1 f2 f4 f5 Q hP hT)
    iintro ⟨H1, H2, H5, H4, Hk⟩
    isplitl [H1]; · iexact H1
    isplitl [H2]; · iexact H2
    isplitl [H5]; · iexact H5
    isplitl [H4]; · iexact H4
    iintro %f4' ⟨%h4', H1, H2, H5, H4⟩
    iapply segs_wp c i arg1 arg2 arg4 arg5 f1 f2 f5 Q hP hT O hO n (by omega) f4' (fun y hy => by
      rw [h4' y]
      split_ifs with e
      · rw [← hO y, e]
      · exact h4 y (by dsimp only at e; omega))
    isplitl [H1]; · iexact H1
    isplitl [H2]; · iexact H2
    isplitl [H5]; · iexact H5
    isplitl [H4]; · iexact H4
    iexact Hk

theorem body_wp (c : Dev nD) (i : grid0.Coords) (arg1 : Memref sig .tc .smem S1024 .i32) (harg1 : arg1.IsWhole) (arg2 : Memref sig .tc .smem S64 .i32) (harg2 : arg2.IsWhole)
    (arg3 : Memref sig .tc .vmem S1x50x50x256 .f32) (harg3 : arg3.IsWhole) (arg4 : Memref sig .tc .vmem S1x128x1x256 .f32) (harg4 : arg4.IsWhole)
    (arg5 : Memref sig .tc .vmem S5x50x50x256 .f32) (harg5 : arg5.IsWhole)
    (f1 : Bf F c arg1) (f2 : Bf F c arg2) (f3 : Bf F c arg3) (f4 : Bf F c arg4) (f5 : Bf F c arg5) (Q : PUnit → sProp 𝕄)
    (hP : ∀ j, InR (arg1.view.read (Elt F) f1 j)) (hT : ∀ j, arg2.view.read (Elt F) f2 j = lit0 (j 0)) :
    iprop(pt c arg1 f1 ∗ pt c arg2 f2 ∗ pt c arg3 f3 ∗ pt c arg4 f4 ∗ pt c arg5 f5
      ∗ (∀ (f4' : Bf F c arg4) (f5' : Bf F c arg5),
          iprop(⌜arg4.view.read (Elt F) f4' = outX (arg1.view.read (Elt F) f1) (arg3.view.read (Elt F) f3) (i 0).val⌝
            ∗ pt c arg1 f1 ∗ pt c arg2 f2 ∗ pt c arg3 f3 ∗ pt c arg4 f4' ∗ pt c arg5 f5') -∗ Q ⟨⟩))
    ⊢ wp frame (wpE (defs₀ (F := F)) Variants.none c none) Set.univ
        (cc0_roi_max_pool (F := F) i arg1 harg1 arg2 harg2 arg3 harg3 arg4 harg4 arg5 harg5) Q := by
  rw [body_eq]
  refine entails_trans ?_ (proK_wp c arg3 arg5 (segs i arg1 arg2 arg4 arg5 128) f3 f5 Q)
  iintro ⟨H1, H2, H3, H4, H5, Hk⟩
  isplitl [H3]; · iexact H3
  isplitl [H5]; · iexact H5
  iintro %f5' ⟨%h5, H3, H5⟩
  iapply segs_wp c i arg1 arg2 arg4 arg5 f1 f2 f5' Q hP hT
    (outX (arg1.view.read (Elt F) f1) (arg3.view.read (Elt F) f3) (i 0).val)
    (fun y => congrFun (rowWords_eq (hP _) (hP _) (hP _) _ _ h5) _) 128 (le_refl _) f4
    (fun y hy => absurd hy (by omega))
  isplitl [H1]; · iexact H1
  isplitl [H2]; · iexact H2
  isplitl [H5]; · iexact H5
  isplitl [H4]; · iexact H4
  iintro %f4' ⟨%h4, H1, H2, H5, H4⟩
  iapply Hk $$ %f4' %f5'
  isplitr
  · ipureintro; exact h4
  isplitl [H1]; · iexact H1
  isplitl [H2]; · iexact H2
  isplitl [H3]; · iexact H3
  isplitl [H4]; · iexact H4
  iexact H5

end Cert.Kernel.Roi

end
-- ==== Proof.Run.lean ====
/- The kernel's run: the pipeline's proof data, the body at every point, and @main's run to its final memory. -/
module

public import proofs.«01_k».proof.Proof.BodyWp

@[expose] public section

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Facts₀ Cert.Kernel.Facts
open Cert.Roi

variable {F : FTy → Type} [FloatOps F]

local notation "𝔼" => TpuEff nD τ sig (Elt F) Λ₀ (Proc.tc : Proc τ)
local notation "𝕄" => MT nD τ sig Unit (Elt F) ℕ (UR sig nD τ) ℕ

/-- A whole buffer held through its memref is the buffer's own points-to. -/
theorem owns_pt (c : Dev nD) {sp : Space} {S : Shape} {t : EltTy} (M : Memref sig .tc sp S t) (hM : M.IsWhole) (X : S.Idx → Elt F t) :
    (owns (c : Thread nD τ) M fullShare X : sProp 𝕄)
      = iprop(∃ f : Bf F c M, ⌜M.view.read (Elt F) f = X⌝ ∗ pt c M f) := by
  unfold owns pt
  rw [hM.set_eq_univ]

variable (m : (ℓ : Loc nD τ sig) → Buf (Elt F) ℓ) (ρ : Dev nD → PrngReg)

/-- The image a point handles. -/
abbrev img (t : Fin cfg0.N) : Nat := ((grid0.coords t) 0).val

/-- The proof data: the arrays as the region finds them; after the body the inputs' buffers at their blocks and the
    result's at the image's rows. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => outX (F := F) (Gen.iblk m c 0 t) (Gen.iblk m c 2 t) (img t)
  Φ _ := Pipeline.ΦA spec0 c
  q _ := fullShare
  owed _ := 0

theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) :
    (dats m 0 c).after 3 t = outX (F := F) (Gen.iblk m c 0 t) (Gen.iblk m c 2 t) (img t) := by dsimp only [dats]

theorem before_0 (c : Dev nD) (t : Fin cfg0.N) (d) : (dats m 0 c).before 0 t d = Gen.iblk m c 0 t :=
  Gen.before0_0_of m (dats m 0 c) (A_eq m c 0) (after_0 m c) t d
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d

def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t))

/-- What the proposals' words must satisfy. -/
def Words (m : (ℓ : Loc nD τ sig) → Buf (Elt F) ℓ) : Prop :=
  ∀ (c : Dev nD) (j : S2x128x4.Idx), InR (m ((c : Thread nD τ).loc main_arg1) j)

/-- The table as the region finds it. -/
theorem V_main_c (c : Dev nD) : Gen.V m c main_c = fun i => lit0 (S64.rowMajor i) := by
  show StableHlo.after Gen.hostOps0 _ (Proc.devRef .tc main_c) = _
  after_results
  rfl

/-- The features as the region finds them: channels last. -/
theorem V_main_v0 (c : Dev nD) : Gen.V m c main_v0
    = (transpose S2x50x50x256 [0, 2, 3, 1] (m ((c : Thread nD τ).loc main_arg0) : S2x256x50x50.Idx → F .f32)
        Gen.transposes_S2x256x50x50_S2x50x50x256_0_2_3_1 : S2x50x50x256.Idx → F .f32) := by
  show StableHlo.after Gen.hostOps0 _ (Proc.devRef .tc main_v0) = _
  after_results

/-- The proposals as the region finds them: in one row. -/
theorem V_main_v1 (c : Dev nD) : Gen.V m c main_v1
    = (shapeCast S1024 (m ((c : Thread nD τ).loc main_arg1) : S2x128x4.Idx → BitVec 32)
        Gen.shapeCasts_S2x128x4_S1024 : S1024.Idx → BitVec 32) := by
  show StableHlo.after Gen.hostOps0 _ (Proc.devRef .tc main_v1) = _
  after_results
  rfl

theorem index_0 : ∀ t : Fin cfg0.N, win0_0.index t (0 : Fin 1) = 0 := (by decide +kernel : ∀ t : Fin grid0.N, _)
theorem index_1 : ∀ t : Fin cfg0.N, win0_1.index t (0 : Fin 1) = 0 := (by decide +kernel : ∀ t : Fin grid0.N, _)
theorem index_2 : ∀ t : Fin cfg0.N, win0_2.index t (0 : Fin 4) = img t ∧ win0_2.index t (1 : Fin 4) = 0
    ∧ win0_2.index t (2 : Fin 4) = 0 ∧ win0_2.index t (3 : Fin 4) = 0 := (by decide +kernel : ∀ t : Fin grid0.N, _)
theorem index_3 : ∀ t : Fin cfg0.N, win0_3.index t (0 : Fin 4) = img t ∧ win0_3.index t (1 : Fin 4) = 0
    ∧ win0_3.index t (2 : Fin 4) = 0 ∧ win0_3.index t (3 : Fin 4) = 0 := (by decide +kernel : ∀ t : Fin grid0.N, _)

/-- The proposals' block is the whole row of words. -/
theorem iblk_0 (c : Dev nD) (t : Fin cfg0.N) :
    (Gen.iblk m c 0 t : S1024.Idx → BitVec 32)
      = shapeCast S1024 (m ((c : Thread nD τ).loc main_arg1) : S2x128x4.Idx → BitVec 32) Gen.shapeCasts_S2x128x4_S1024 := by
  funext j
  unfold Gen.iblk
  rw [View.read_apply, cast_eq]
  show Gen.V m c main_v1 (((cfg0.win 0).blk t).view.emb j) = _
  rw [V_main_v1]
  refine congrArg _ ?_
  funext a; apply Fin.ext
  have e0 := index_0 t
  match a with
  | ⟨0, _⟩ => show win0_0.index t (0 : Fin 1) * 1024 + 1 * (j 0).val = (j 0).val; omega

/-- The table's block is the table. -/
theorem iblk_1 (c : Dev nD) (t : Fin cfg0.N) (j : S64.Idx) : (Gen.iblk m c 1 t : S64.Idx → BitVec 32) j = lit0 (j 0) := by
  unfold Gen.iblk
  rw [View.read_apply, cast_eq]
  show Gen.V m c main_c (((cfg0.win 1).blk t).view.emb j) = _
  rw [V_main_c]
  refine congrArg lit0 ?_
  apply Fin.ext
  have e1 := index_1 t
  rw [Shape.rowMajor_val_one]
  show win0_1.index t (0 : Fin 1) * 64 + 1 * (j 0).val = (j 0).val
  omega

/-- A features array at an image, a channel, a row and a column. -/
def at4 (A : S2x256x50x50.Idx → F .f32) (b ch r q : Nat) : F .f32 :=
  A (fun a => ⟨(![b, ch, r, q] : Fin 4 → Nat) a % S2x256x50x50.size a,
    Nat.mod_lt _ ((by decide : ∀ a, 0 < S2x256x50x50.size a) a)⟩)

/-- The features' block is the point's image, channels last. -/
theorem iblk_2 (c : Dev nD) (t : Fin cfg0.N) (j : S1x50x50x256.Idx) :
    (Gen.iblk m c 2 t : S1x50x50x256.Idx → F .f32) j
      = at4 (m ((c : Thread nD τ).loc main_arg0) : S2x256x50x50.Idx → F .f32) (img t) (j 3).val (j 1).val (j 2).val := by
  unfold Gen.iblk
  rw [View.read_apply, cast_eq]
  show Gen.V m c main_v0 (((cfg0.win 2).blk t).view.emb j) = _
  rw [V_main_v0]
  unfold at4
  refine congrArg (m ((c : Thread nD τ).loc main_arg0)) ?_
  obtain ⟨e0, e1, e2, e3⟩ := index_2 t
  have ht : img t < 2 := ((grid0.coords t) 0).isLt
  funext a; apply Fin.ext
  match a with
  | ⟨0, _⟩ =>
    show win0_2.index t (0 : Fin 4) * 1 + 1 * (j 0).val = img t % 2
    have : (j 0).val < 1 := (j 0).isLt
    omega
  | ⟨1, _⟩ =>
    show win0_2.index t (3 : Fin 4) * 256 + 1 * (j 3).val = (j 3).val % 256
    have : (j 3).val < 256 := (j 3).isLt
    omega
  | ⟨2, _⟩ =>
    show win0_2.index t (1 : Fin 4) * 50 + 1 * (j 1).val = (j 1).val % 50
    have : (j 1).val < 50 := (j 1).isLt
    omega
  | ⟨3, _⟩ =>
    show win0_2.index t (2 : Fin 4) * 50 + 1 * (j 2).val = (j 2).val % 50
    have : (j 2).val < 50 := (j 2).isLt
    omega

/-- The proposals' block is in range. -/
theorem iblk_0_inR (hW : Words m) (c : Dev nD) (t : Fin cfg0.N) (j : S1024.Idx) :
    InR ((Gen.iblk m c 0 t : S1024.Idx → BitVec 32) j) := by
  rw [iblk_0]
  exact hW c _

theorem sound_body (hW : Words m) (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  rw [show (dats m 0 c).Φ t.succ = Pipeline.ΦA spec0 c from rfl, show (dats m 0 c).Φ t.castSucc = Pipeline.ΦA spec0 c from rfl,
    after_0, after_1, after_2, after_3]
  simp only [before_0, before_1, before_2]
  unfold Dat.owesAt Pipeline.owesWithin
  rw [show (dats m 0 c).owed t.castSucc = 0 from rfl, show (dats m 0 c).owed t.succ = 0 from rfl]
  unfold Pipeline.ΦA
  rw [Gen.scopedRest0_eq]
  rw [owns_pt c (Gen.st0_0 t) (hstage0_0 ((cfg0.slots t 0).cast nbuf0_0)),
    owns_pt c (Gen.st0_1 t) (hstage0_1 ((cfg0.slots t 1).cast nbuf0_1)),
    owns_pt c (Gen.st0_2 t) (hstage0_2 ((cfg0.slots t 2).cast nbuf0_2))]
  simp only [owns_pt c (Gen.st0_3 t) (hstage0_3 ((cfg0.slots t 3).cast nbuf0_3))]
  iintro ⟨⟨⟨%f5, H5⟩, Hg⟩, ⟨%W, -, HO⟩, ⟨%d1, %f1, %e1, H1⟩, ⟨%d2, %f2, %e2, H2⟩, ⟨%d3, %f3, %e3, H3⟩, ⟨%d4, %f4, -, H4⟩⟩
  have key := body_wp (F := F) c (grid0.coords t) (Gen.st0_0 t) (hstage0_0 ((cfg0.slots t 0).cast nbuf0_0))
    (Gen.st0_1 t) (hstage0_1 ((cfg0.slots t 1).cast nbuf0_1)) (Gen.st0_2 t) (hstage0_2 ((cfg0.slots t 2).cast nbuf0_2))
    (Gen.st0_3 t) (hstage0_3 ((cfg0.slots t 3).cast nbuf0_3)) (Memref.whole cc0_scratch0) (Memref.isWhole_whole _)
    f1 f2 f3 f4 f5
  iapply (key _ (fun j => by rw [e1]; exact iblk_0_inR m hW c t j) (fun j => by rw [e2]; exact iblk_1 m c t j))
  isplitl [H1]; · iexact H1
  isplitl [H2]; · iexact H2
  isplitl [H3]; · iexact H3
  isplitl [H4]; · iexact H4
  isplitl [H5]; · iexact H5
  iintro %f4' %f5' ⟨%e4, H1, H2, H3, H4, H5⟩
  isplitl [H5 Hg]
  · isplitl [H5]
    · iexists f5'; iexact H5
    iexact Hg
  isplitl [HO]
  · iexists W; isplitr; · ipureintro; exact fun _ _ => Or.inl trivial
    iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists f4'; isplitr
  · ipureintro; rw [e4, e1, e3]
  iexact H4

theorem defs₀_row (t : Fin cfg0.N) :
    defs₀ (F := F) .tc cfg0.body (cfg0.bodyArgs t (cfg0.slots t)) = Gen.bodyAt0 t := by
  unfold defs₀; rw [Defs.onTc_tc]

theorem body_obligation (hW : Words m) (c : Dev nD) :
    BodyObligation (dats (F := F) m 0 c) (defs₀ (F := F)) Variants.none () Set.univ := fun t => by
  rw [Gen.bigSep_W0, Gen.bigSep_W0, defs₀_row]
  exact triple_restated (sound_body m hW c t) rfl .rfl fun _ => .rfl

set_option backward.isDefEq.respectTransparency.types false in
/-- @main runs to its end: the arrays as the proof data say, every other buffer as the later lines leave it. -/
theorem run_main (hW : Words m) : θ_run defs (onTc (τ := τ) (main (F := F))) (s₀ m ρ)
    (fun r => Pipeline.FramePost cfgs (dats m) 0 (Pipeline.afterTail₀ cfgs (dats m) 0 (Gen.V0 m) [Gen.hostOps1]) r
      ∧ r.2.sem = fun _ => 0) :=
  Pipeline.θ_run_frame_around (Q' := _) cfgs (dats m) (0 : Fin 1) Gen.launch0 defs₀ Variants.none m ρ main
    (hbody := fun c => (body_obligation m hW c).loose) (hshare := fun c => (dats m 0 c).share_full fun _ => rfl)
    (howed := fun _ _ => rfl) (V₀ := Gen.V0 m) (opss := [Gen.hostOps1]) (hsub := Gen.sfx_sub) (hfresh := Gen.sfx_fresh)
    (hkeep := Gen.sfx_keeps) (hmain := Gen.hmain m Variants.none) (hA := A_eq m) (hΦ := fun _ _ => rfl)

end Cert.Kernel.Roi

end
-- ==== Proof.Val.lean ====
/- What the kernel's result array holds after @main: every proposal's row, by its image and its place there. -/
module

public import proofs.«01_k».proof.Proof.Run
public import Idealize.ShloMosaic.Lib.Pointwise
public import Idealize.ShloMosaic.Lib.Pipeline.ValueKit

@[expose] public section

noncomputable section

namespace Cert.Kernel.Roi

open Idealize.ShloMosaic Idealize.ShloMosaic.TcCoe Idealize.ShloMosaic.Tactic
open Idealize.SL Idealize.SL.Sem
open Idealize.ShloMosaic.Pipeline (Dat)
open Cert.Kernel Cert.Kernel.Facts₀ Cert.Kernel.Facts
open Cert.Roi

variable {F : FTy → Type} [FloatOps F]

/-- An image of the features, channels last. -/
def imgX (A : S2x256x50x50.Idx → F .f32) (b : Nat) : S1x50x50x256.Idx → F .f32 :=
  fun j => at4 A b (j 3).val (j 1).val (j 2).val

/-- A proposal's word: image, place, field. -/
def field3 (Pr : S2x128x4.Idx → BitVec 32) (b i r : Nat) : BitVec 32 :=
  fieldN (shapeCast S1024 Pr Gen.shapeCasts_S2x128x4_S1024) b i r

/-- A channel of a row. -/
def chan (ch : Nat) : S1x1x1x256.Idx :=
  fun a => ⟨(![0, 0, 0, ch] : Fin 4 → Nat) a % S1x1x1x256.size a, Nat.mod_lt _ ((by decide : ∀ a, 0 < S1x1x1x256.size a) a)⟩

/-- The kernel's result for proposal `i` of image `b` at a channel. -/
def rowOut (A : S2x256x50x50.Idx → F .f32) (Pr : S2x128x4.Idx → BitVec 32) (b i ch : Nat) : F .f32 :=
  rowX (field3 Pr b i 0) (field3 Pr b i 1) (field3 Pr b i 2) (field3 Pr b i 3) (imgX A b) (chan ch)

/-- The pallas_call's array. -/
def arrG (A : S2x256x50x50.Idx → F .f32) (Pr : S2x128x4.Idx → BitVec 32) (y : S2x128x1x256.Idx) : F .f32 :=
  rowOut A Pr (y 0).val (y 1).val (y 3).val

/-- @main's result. -/
def resG (A : S2x256x50x50.Idx → F .f32) (Pr : S2x128x4.Idx → BitVec 32) (n : S256x256x1x1.Idx) : F .f32 :=
  rowOut A Pr ((n 0).val / 128) ((n 0).val % 128) (n 1).val

variable (m : (ℓ : Loc nD τ sig) → Buf (Elt F) ℓ) (ρ : Dev nD → PrngReg)

theorem flushed_3 (c : Dev nD) (t : Fin cfg0.N) :
    (dats m 0 c).flushed 3 t = ((cfg0.win 3).blk t).view.read (Elt F)
      (arrG (m ((c : Thread nD τ).loc main_arg0)) (m ((c : Thread nD τ).loc main_arg1))) := by
  funext y
  rw [View.read_apply, cast_eq]
  show (dats m 0 c).after 3 t y = _
  rw [after_3, iblk_0, show (Gen.iblk m c 2 t : S1x50x50x256.Idx → F .f32) = imgX (m ((c : Thread nD τ).loc main_arg0)) (img t)
    from funext fun j => iblk_2 m c t j]
  obtain ⟨e0, e1, e2, e3⟩ := index_3 t
  have h0 : ((((cfg0.win 3).blk t).view.emb y) (0 : Fin 4)).val = img t := by
    show win0_3.index t (0 : Fin 4) * 1 + 1 * (y 0).val = _
    have : (y 0).val < 1 := (y 0).isLt
    omega
  have h1 : ((((cfg0.win 3).blk t).view.emb y) (1 : Fin 4)).val = (y 1).val := by
    show win0_3.index t (1 : Fin 4) * 128 + 1 * (y 1).val = _
    omega
  have h3 : ((((cfg0.win 3).blk t).view.emb y) (3 : Fin 4)).val = (y 3).val := by
    show win0_3.index t (3 : Fin 4) * 256 + 1 * (y 3).val = _
    omega
  show _ = rowOut _ _ ((((cfg0.win 3).blk t).view.emb y) (0 : Fin 4)).val ((((cfg0.win 3).blk t).view.emb y) (1 : Fin 4)).val
    ((((cfg0.win 3).blk t).view.emb y) (3 : Fin 4)).val
  rw [h0, h1, h3]
  rfl

theorem img_eq : ∀ t : Fin cfg0.N, img t = t.val := (by decide +kernel : ∀ t : Fin grid0.N, _)

/-- Every index of the array lies in the block of its image's point. -/
theorem cover_3 (i : S2x128x1x256.Idx) : ∃ t : Fin cfg0.N, (cfg0.win 3).flush t = true ∧ i ∈ ((cfg0.win 3).blk t).view.set := by
  refine ⟨⟨(i 0).val, (i 0).isLt⟩, Gen.flush0_3 _, ?_⟩
  obtain ⟨e0, e1, e2, e3⟩ := index_3 ⟨(i 0).val, (i 0).isLt⟩
  rw [img_eq] at e0
  have h1 : (i 1).val < 128 := (i 1).isLt
  have h2 : (i 2).val < 1 := (i 2).isLt
  have h3 : (i 3).val < 256 := (i 3).isLt
  mem_blk
  rw [e0, e1, e2, e3]
  dsimp only
  omega

theorem arrAt_3 (c : Dev nD) : (dats m 0 c).arrAt 3 cfg0.N
    = arrG (m ((c : Thread nD τ).loc main_arg0)) (m ((c : Thread nD τ).loc main_arg1)) :=
  (dats m 0 c).arrAt_eq_of_cover 3 _ (fun t _ => flushed_3 m c t) cover_3

theorem tail_v4 (c : Dev nD) : Pipeline.afterTail₀ cfgs (dats m) 0 (Gen.V0 m) [Gen.hostOps1] c main_v4
    = resG (m ((c : Thread nD τ).loc main_arg0)) (m ((c : Thread nD τ).loc main_arg1)) := by
  unfold Pipeline.afterTail₀
  show StableHlo.after Gen.hostOps1 _ (Proc.devRef .tc main_v4) = _
  after_results
  have e := (Pipeline.withArrays_arr spec0 Gen.launch0.win.arr_inj c (Gen.V0 m c) (fun w => (dats m 0 c).arrAt w cfg0.N) 3).trans (arrAt_3 m c)
  funext n
  show shapeCast S256x256 (Pipeline.withArrays spec0 c (Gen.V0 m c) (fun w => (dats m 0 c).arrAt w cfg0.N)
      (Proc.tc.devRef main_v2) : S2x128x1x256.Idx → F .f32) Gen.shapeCasts_S2x128x1x256_S256x256 _ = _
  rw [show Pipeline.withArrays spec0 c (Gen.V0 m c) (fun w => (dats m 0 c).arrAt w cfg0.N) (Proc.tc.devRef main_v2) = _ from e]
  have h0 : (n 0).val < 256 := (n 0).isLt
  have h1 : (n 1).val < 256 := (n 1).isLt
  unfold shapeCast
  rw [Shape.reshapeEquiv_eq_of_rowMajor (y := fun a => ⟨(![(n 0).val / 128, (n 0).val % 128, 0, (n 1).val] : Fin 4 → Nat) a
    % S2x128x1x256.size a, Nat.mod_lt _ ((by decide : ∀ a, 0 < S2x128x1x256.size a) a)⟩)]
  · show rowOut _ _ ((n 0).val / 128 % 2) ((n 0).val % 128 % 128) ((n 1).val % 256) = rowOut _ _ _ _ _
    congr 1 <;> omega
  · rw [Shape.rowMajor_val_four, Shape.rowMajor_val_two]
    show (((n 0).val / 128 % 2 * 128 + (n 0).val % 128 % 128) * 1 + 0 % 1) * 256 + (n 1).val % 256
      = (n 0).val * 256 + (n 1).val
    omega

/-- From proposals in range, @main ends with every proposal's row in the result, the arguments as launched and every
    semaphore at zero. -/
theorem run_value (hW : Words m) : θ_run defs (onTc (τ := τ) (main (F := F))) ⟨m, fun _ => 0, ρ⟩ (fun r => (∀ c : Dev nD,
      r.2.mem ((c.tc : Thread nD τ).loc main_v4) = resG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_v4 (Pipeline.mem_restRefs_of main_v4 (by decide) (by decide))).trans (tail_v4 m c),
       ((h.1 c).2 main_arg0 (Pipeline.mem_restRefs_of main_arg0 (by decide) (by decide))).trans (Gen.W_main_arg0 m (dats m) c),
       ((h.1 c).2 main_arg1 (Pipeline.mem_restRefs_of main_arg1 (by decide) (by decide))).trans (Gen.W_main_arg1 m (dats m) c)⟩,
      h.2⟩) (run_main m ρ hW)

end Cert.Kernel.Roi

end
-- ==== Proof.Ideal.lean ====
/- The idealized kernel is the kernel's program letter for letter: what the kernel's run leaves, its run leaves. -/
module

public import proofs.«01_k».proof.Proof.Val
public import proofs.«01_k».proof.Proof.Gen.KernelIdeal

@[expose] public section

noncomputable section

namespace Cert.KernelIdeal.Roi

open Idealize.ShloMosaic Idealize.ShloMosaic.TcCoe Idealize.ShloMosaic.Tactic
open Idealize.SL Idealize.SL.Sem
open Cert.KernelIdeal
open Cert.Roi

variable {F : FTy → Type} [FloatOps F]

/-- What the proposals' words must satisfy. -/
def Words (m : (ℓ : Loc nD τ sig) → Buf (Elt F) ℓ) : Prop :=
  ∀ (c : Dev nD) (j : S2x128x4.Idx), InR (m ((c : Thread nD τ).loc main_arg1) j)

/-- The two programs' value statements are the same statement. -/
theorem value_same :
  (∀ (m : (ℓ : Loc nD τ sig) → Buf (Elt F) ℓ) (ρ : Dev nD → PrngReg), Words m →
    θ_run defs (onTc (τ := τ) (main (F := F))) ⟨m, fun _ => 0, ρ⟩ (fun r => (∀ c : Dev nD,
      r.2.mem ((c.tc : Thread nD τ).loc main_v4)
        = Cert.Kernel.Roi.resG (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0))
  = (∀ (m : (ℓ : Loc Cert.Kernel.nD Cert.Kernel.τ Cert.Kernel.sig) → Buf (Elt F) ℓ) (ρ : Dev Cert.Kernel.nD → PrngReg),
    Cert.Kernel.Roi.Words m →
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_v4)
        = Cert.Kernel.Roi.resG (F := F) (m ((c.tc : Thread Cert.Kernel.nD Cert.Kernel.τ).loc Cert.Kernel.main_arg0))
            (m ((c.tc : Thread Cert.Kernel.nD Cert.Kernel.τ).loc Cert.Kernel.main_arg1))
      ∧ r.2.mem ((c.tc : Thread Cert.Kernel.nD Cert.Kernel.τ).loc Cert.Kernel.main_arg0)
        = m ((c.tc : Thread Cert.Kernel.nD Cert.Kernel.τ).loc Cert.Kernel.main_arg0)
      ∧ r.2.mem ((c.tc : Thread Cert.Kernel.nD Cert.Kernel.τ).loc Cert.Kernel.main_arg1)
        = m ((c.tc : Thread Cert.Kernel.nD Cert.Kernel.τ).loc Cert.Kernel.main_arg1))
      ∧ r.2.sem = fun _ => 0)) := by
  sl_kernel_rfl

/-- The idealized kernel's run. -/
theorem run_value (m : (ℓ : Loc nD τ sig) → Buf (Elt F) ℓ) (ρ : Dev nD → PrngReg) (hW : Words m) :
    θ_run defs (onTc (τ := τ) (main (F := F))) ⟨m, fun _ => 0, ρ⟩ (fun r => (∀ c : Dev nD,
      r.2.mem ((c.tc : Thread nD τ).loc main_v4)
        = Cert.Kernel.Roi.resG (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  value_same.mpr (fun m ρ hW => Cert.Kernel.Roi.run_value m ρ hW) m ρ hW

end Cert.KernelIdeal.Roi

end
-- ==== Proof.Range.lean ====
/- The precondition read at a word: every proposal's word is at least 16 and below 400. -/
module

public import proofs.«01_k».proof.Proof.Words
public import proofs.«01_k».proof.Pre_proposals_in_image

@[expose] public section

noncomputable section

namespace Cert.Roi

open Idealize.ShloMosaic

variable {F : FTy → Type} [FloatOps F] [Cert.Pre_proposals_in_image.Facts]

/-- The printed predicate at one proposal word says that the word is in range. -/
theorem inR_of_pre (A : FVec F Cert.Pre_proposals_in_image.S2x256x50x50 .f32) (Pr : IVec Cert.Pre_proposals_in_image.S2x128x4 32)
    (h : Cert.Pre_proposals_in_image.fn A Pr = fun _ => 1#1) (j) : InR (Pr j) := by
  have both : ∀ p q : Bool, IntOp.andi (BitVec.ofBool p) (BitVec.ofBool q) = 1#1 → p = true ∧ q = true := by decide
  have e := both _ _ (congrFun h j)
  have e1 : BitVec.sle 16#32 (Pr j) = true := e.1
  have e2 : BitVec.slt (Pr j) 400#32 = true := e.2
  have lo : (16#32).toInt ≤ (Pr j).toInt := by simpa [BitVec.sle] using e1
  have hi : (Pr j).toInt < (400#32).toInt := by simpa [BitVec.slt] using e2
  have l16 : (16#32).toInt = 16 := by decide
  have l400 : (400#32).toInt = 400 := by decide
  rw [l16, BitVec.toInt_eq_toNat_cond] at lo
  rw [l400, BitVec.toInt_eq_toNat_cond] at hi
  have := (Pr j).isLt
  unfold InR
  split at lo <;> split at hi <;> omega

end Cert.Roi

end
-- ==== Proof.RowMax.lean ====
/- A proposal's row over the extended reals: what lies above it. -/
module

public import proofs.«01_k».proof.Proof.Val
public import Idealize.ShloMosaic.PureOps.Ideal.Laws

@[expose] public section

noncomputable section

namespace Cert.Kernel.Roi

open Idealize.ShloMosaic Idealize.ShloMosaic.TcCoe Idealize.ShloMosaic.Tactic
open Cert.Kernel Cert.Kernel.Facts₀ Cert.Kernel.Facts
open Cert.Roi

/-- The maximum of `2 ^ k` rows is below `z` if each of them is. -/
theorem mx_le (X : S1x50x50x256.Idx → Ideal .f32) (k r q ch : Nat) (z : EReal) :
    (mx X k r q ch : EReal) ≤ z ↔ ∀ i < 2 ^ k, (X (ix3 (r + i) q ch) : EReal) ≤ z := by
  induction k generalizing r with
  | zero =>
    constructor
    · intro h i hi
      obtain rfl : i = 0 := by simpa using hi
      exact h
    · intro h
      exact h 0 (by simp)
  | succ k ih =>
    show max (mx X k r q ch : EReal) (mx X k (r + 2 ^ k) q ch) ≤ z ↔ _
    rw [max_le_iff, ih, ih]
    have hp := Nat.pow_succ 2 k
    constructor
    · rintro ⟨h1, h2⟩ i hi
      by_cases hk : i < 2 ^ k
      · exact h1 i hk
      · have := h2 (i - 2 ^ k) (by omega)
        rwa [show r + 2 ^ k + (i - 2 ^ k) = r + i by omega] at this
    · intro h
      refine ⟨fun i hi => h i (by omega), fun i hi => ?_⟩
      rw [Nat.add_assoc]
      exact h (2 ^ k + i) (by omega)

/-- Two windows of `2 ^ k` rows, one from the top and one to the bottom, reach every row between. -/
theorem mx_pair_le (X : S1x50x50x256.Idx → Ideal .f32) {h : Nat} (h1 : 1 ≤ h) (h2 : h ≤ 24) (r q ch : Nat) (z : EReal) :
    ((mx X (lvlN h) r q ch : EReal) ≤ z ∧ (mx X (lvlN h) (r + (h - 2 ^ lvlN h)) q ch : EReal) ≤ z)
      ↔ ∀ i < h, (X (ix3 (r + i) q ch) : EReal) ≤ z := by
  have a := pow_lvlN_le h1
  have b := lt_pow_lvlN h2
  rw [mx_le, mx_le]
  constructor
  · rintro ⟨e1, e2⟩ i hi
    by_cases hk : i < 2 ^ lvlN h
    · exact e1 i hk
    · have := e2 (i - (h - 2 ^ lvlN h)) (by omega)
      rwa [show r + (h - 2 ^ lvlN h) + (i - (h - 2 ^ lvlN h)) = r + i by omega] at this
  · intro e
    refine ⟨fun i hi => e i (by omega), fun i hi => ?_⟩
    rw [Nat.add_assoc]
    exact e _ (by omega)

/-- The kernel's unsigned comparison keeps the lanes of the proposal's columns. -/
theorem lane_bit {x w : BitVec 32} (hx : InR x) (hw : InR w) {l : Nat} (hl : l < 32) :
    IntOp.cmpi .ult (IntOp.subi (BitVec.ofNat 32 l) (Scalar.subi (Scalar.shrsi x 4#32) (colW x))) (Scalar.shrsi w 4#32) = 1
      ↔ cell x ≤ colN (cell x) + l ∧ colN (cell x) + l < cell x + cell w := by
  have a := hx.cell_le
  have b := hw.cell_le
  have c : colN (cell x) ≤ cell x := by unfold colN; omega
  have d : cell x < colN (cell x) + 9 := by unfold colN; omega
  rw [hx.shr, hx.colW, hw.shr]
  show BitVec.ofBool (BitVec.ult (BitVec.ofNat 32 l - (BitVec.ofNat 32 (cell x) - BitVec.ofNat 32 (colN (cell x))))
    (BitVec.ofNat 32 (cell w))) = 1 ↔ _
  have e : ∀ p : Bool, BitVec.ofBool p = 1 ↔ p = true := by decide
  rw [e, BitVec.ult, decide_eq_true_eq, BitVec.toNat_sub, BitVec.toNat_sub]
  simp only [BitVec.toNat_ofNat]
  omega

/-- What lies above a proposal's row at a channel: what lies above every cell of its region and above the floor. -/
theorem rowX_le {x y w h : BitVec 32} (hx : InR x) (hy : InR y) (hw : InR w) (hh : InR h)
    (X : S1x50x50x256.Idx → Ideal .f32) (ch : Nat) (hc : ch < 256) (z : EReal) :
    (rowX x y w h X (chan ch) : EReal) ≤ z ↔ Ideal.ofBits .f32 0xFF800000#32 ≤ z ∧ Ideal.ofBits .f32 0xFF7FFFFF#32 ≤ z
      ∧ ∀ i < cell h, ∀ j < cell w, (X (ix3 (cell y + i) (cell x + j) ch) : EReal) ≤ z := by
  have e3 : ((chan ch 3 : Fin 256) : Nat) = ch := Nat.mod_eq_of_lt hc
  have a := hx.cell_le
  have b := hw.cell_le
  have c : colN (cell x) ≤ cell x := by unfold colN; omega
  have d : cell x < colN (cell x) + 9 := by unfold colN; omega
  unfold rowX
  pointwise [rowPay]
  rw [Finset.fold_max_le]
  refine and_congr_right fun _ => ?_
  have key : ∀ l : Fin 32, (Scalar.select
        (IntOp.cmpi .ult (IntOp.subi (BitVec.ofNat 32 l) (Scalar.subi (Scalar.shrsi x 4#32) (colW x))) (Scalar.shrsi w 4#32))
        (max (mx X (lvlN (cell h)) (cell y) (colN (cell x) + l) (chan ch 3 : Fin 256) : EReal)
          (mx X (lvlN (cell h)) (cell y + (cell h - 2 ^ lvlN (cell h))) (colN (cell x) + l) (chan ch 3 : Fin 256)))
        (Ideal.ofBits .f32 0xFF7FFFFF#32) : EReal) ≤ z
      ↔ if cell x ≤ colN (cell x) + l ∧ colN (cell x) + l < cell x + cell w
        then ∀ i < cell h, (X (ix3 (cell y + i) (colN (cell x) + l) ch) : EReal) ≤ z
        else Ideal.ofBits .f32 0xFF7FFFFF#32 ≤ z := by
    intro l
    have hb := lane_bit hx hw l.isLt
    unfold Scalar.select
    by_cases hin : cell x ≤ colN (cell x) + l ∧ colN (cell x) + l < cell x + cell w
    · rw [if_pos hin, if_pos (hb.mpr hin), max_le_iff, e3, mx_pair_le X hh.cell_pos hh.cell_le]
    · rw [if_neg hin, if_neg (fun t => hin (hb.mp t))]
  refine Iff.trans (forall_congr' fun l => (imp_congr_right fun _ => key l)) ?_
  constructor
  · intro H
    refine ⟨?_, fun i hi j hj => ?_⟩
    · by_cases h0 : cell x ≤ colN (cell x)
      · have := H ⟨31, by omega⟩ (Finset.mem_univ _)
        rwa [if_neg (by show ¬ (_ ≤ _ + 31 ∧ _ + 31 < _); omega)] at this
      · have := H ⟨0, by omega⟩ (Finset.mem_univ _)
        rwa [if_neg (by show ¬ (_ ≤ _ + 0 ∧ _ + 0 < _); omega)] at this
    · have := H ⟨cell x + j - colN (cell x), by omega⟩ (Finset.mem_univ _)
      have ej : colN (cell x) + (cell x + j - colN (cell x)) = cell x + j := by omega
      rw [if_pos (by show _ ≤ _ + (cell x + j - colN (cell x)) ∧ _ + (cell x + j - colN (cell x)) < _; omega)] at this
      have := this i hi
      rwa [show colN (cell x) + ((⟨cell x + j - colN (cell x), by omega⟩ : Fin 32) : Nat) = cell x + j from ej] at this
  · rintro ⟨h1, h2⟩ l -
    split_ifs with hin
    · intro i hi
      have := h2 i hi (colN (cell x) + l - cell x) (by omega)
      rwa [show cell x + (colN (cell x) + l - cell x) = colN (cell x) + l by omega] at this
    · exact h1

/-- The same of the kernel's result, cell by cell of the features. -/
theorem rowOut_le (A : S2x256x50x50.Idx → Ideal .f32) (Pr : S2x128x4.Idx → BitVec 32) {b p ch : Nat}
    (hP : ∀ r, InR (field3 Pr b p r)) (hc : ch < 256) (z : EReal) :
    (rowOut A Pr b p ch : EReal) ≤ z ↔ Ideal.ofBits .f32 0xFF800000#32 ≤ z ∧ Ideal.ofBits .f32 0xFF7FFFFF#32 ≤ z
      ∧ ∀ i < cell (field3 Pr b p 3), ∀ j < cell (field3 Pr b p 2),
        (at4 A b ch (cell (field3 Pr b p 1) + i) (cell (field3 Pr b p 0) + j) : EReal) ≤ z := by
  unfold rowOut
  rw [rowX_le (hP 0) (hP 1) (hP 2) (hP 3) _ _ hc]
  have h0 := (hP 0).cell_le
  have h1 := (hP 1).cell_le
  have h2 := (hP 2).cell_le
  have h3 := (hP 3).cell_le
  refine and_congr_right fun _ => and_congr_right fun _ => forall_congr' fun i => imp_congr_right fun hi =>
    forall_congr' fun j => imp_congr_right fun hj => ?_
  show (at4 A b (ch % 256) ((cell (field3 Pr b p 1) + i) % 50) ((cell (field3 Pr b p 0) + j) % 50) : EReal) ≤ z ↔ _
  rw [Nat.mod_eq_of_lt hc, Nat.mod_eq_of_lt (by omega : _ + i < 50), Nat.mod_eq_of_lt (by omega : _ + j < 50)]

end Cert.Kernel.Roi

end
-- ==== Proof.Ref.lean ====
/- The reference's result in named steps: the proposals in cells, the masks, the gathered features, the maximum. -/
module

public import proofs.«01_k».proof.Proof.Gen.ReferenceIdeal.Run
public import proofs.«01_k».proof.Proof.Words
public import Idealize.ShloMosaic.Lib.Pointwise
public import Idealize.ShloMosaic.PureOps.Ideal.Laws

@[expose] public section

noncomputable section

namespace Cert.ReferenceIdeal.Roi

open Idealize.ShloMosaic Idealize.ShloMosaic.TcCoe
open Cert.ReferenceIdeal Cert.ReferenceIdeal.Gen
open Cert.Roi

/-- The words' rounded-down sixteenths. -/
def cells (Pr : IVec S2x128x4 32) : IVec S2x128x4 32 :=
  select (andi (cmpi .ne (signi Pr) (broadcastInDim S2x128x4 ![] bcast_S_S2x128x4 (signi (id (constantI S_ 32 16#32)))))
      (cmpi .ne (Host.remsi Pr (broadcastInDim S2x128x4 ![] bcast_S_S2x128x4 (id (constantI S_ 32 16#32))))
        (broadcastInDim S2x128x4 ![] bcast_S_S2x128x4 (constantI S_ 32 0#32))))
    (subi (Host.divsi Pr (broadcastInDim S2x128x4 ![] bcast_S_S2x128x4 (id (constantI S_ 32 16#32))))
      (broadcastInDim S2x128x4 ![] bcast_S_S2x128x4 (constantI S_ 32 1#32)))
    (Host.divsi Pr (broadcastInDim S2x128x4 ![] bcast_S_S2x128x4 (id (constantI S_ 32 16#32))))

/-- One field of every proposal, in cells. -/
def fieldV (Pr : IVec S2x128x4 32) (off : Fin 2 → Nat) (h : S256x4.Slices off S256x1) : IVec S256 32 :=
  shapeCast S256 (extractStridedSlice S256x1 off (shapeCast S256x4 (cells Pr) shapeCasts_S2x128x4_S256x4) h) shapeCasts_S256x1_S256

/-- Which of fifty positions lie in `[lo, lo + len)`. -/
def span (lo len : IVec S256 32) : IVec S256x50 1 :=
  andi (cmpi .sge (broadcastInDim S256x50 ![0, 1] bcast_S1x50_S256x50_0_1 (broadcastInDim S1x50 ![1] bcast_S50_S1x50_1 (iotaInDim S50 32 0)))
      (broadcastInDim S256x50 ![0, 1] bcast_S256x1_S256x50_0_1 (broadcastInDim S256x1 ![0] bcast_S256_S256x1_0 lo)))
    (cmpi .slt (broadcastInDim S256x50 ![0, 1] bcast_S1x50_S256x50_0_1 (broadcastInDim S1x50 ![1] bcast_S50_S1x50_1 (iotaInDim S50 32 0)))
      (broadcastInDim S256x50 ![0, 1] bcast_S256x1_S256x50_0_1 (broadcastInDim S256x1 ![0] bcast_S256_S256x1_0 (addi lo len))))

/-- The mask of rows and columns. -/
def maskV (rows cols : IVec S256x50 1) : IVec S256x256x50x50 1 :=
  broadcastInDim S256x256x50x50 ![0, 1, 2, 3] bcast_S256x1x50x50_S256x256x50x50_0_1_2_3
    (andi (broadcastInDim S256x1x50x50 ![0, 1, 2, 3] bcast_S256x1x50x1_S256x1x50x50_0_1_2_3
        (broadcastInDim S256x1x50x1 ![0, 2] bcast_S256x50_S256x1x50x1_0_2 rows))
      (broadcastInDim S256x1x50x50 ![0, 1, 2, 3] bcast_S256x1x1x50_S256x1x50x50_0_1_2_3
        (broadcastInDim S256x1x1x50 ![0, 3] bcast_S256x50_S256x1x1x50_0_3 cols)))

/-- Each proposal's image before the wrap of negative numbers. -/
def imgV : IVec S256 32 :=
  shapeCast S256 (broadcastInDim S2x128 ![0] bcast_S2_S2x128_0 (iotaInDim S2 32 0)) shapeCasts_S2x128_S256

/-- Each proposal's image. -/
def imgW : IVec S256x1 32 :=
  broadcastInDim S256x1 ![0] bcast_S256_S256x1_0
    (select (cmpi .slt imgV (broadcastInDim S256 ![] bcast_S_S256 (constantI S_ 32 0#32)))
      (addi imgV (broadcastInDim S256 ![] bcast_S_S256 (constantI S_ 32 2#32))) imgV)

/-- Each proposal's features. -/
def featV (A : FVec Ideal S2x256x50x50 .f32) : FVec Ideal S256x256x50x50 .f32 :=
  Host.gather gather_S2x256x50x50_S256x1_S256x256x50x50_123_0_n_n_0_1_12565050 A imgW

/-- The masked maximum. -/
def poolV (A : FVec Ideal S2x256x50x50 .f32) (Pr : IVec S2x128x4 32) : FVec Ideal S256x256 .f32 :=
  Host.reduce FloatOps.maximumf
    (select (maskV (span (fieldV Pr ![0, 1] slices_S256x4_S256x1_0_1) (fieldV Pr ![0, 3] slices_S256x4_S256x1_0_3))
        (span (fieldV Pr ![0, 0] slices_S256x4_S256x1_0_0) (fieldV Pr ![0, 2] slices_S256x4_S256x1_0_2)))
      (featV A) (broadcastInDim S256x256x50x50 ![] bcast_S_S256x256x50x50 (constant S_ .f32 0xFF7FFFFF#32)))
    (constant S_ .f32 0xFF800000#32) reducesTo_S256x256x50x50_S256x256_d2_3 h_S_

set_option maxRecDepth 8192 in
/-- The reference's result is the masked maximum. -/
theorem res_eq (m : (ℓ : Loc nD τ sig) → Buf (Elt Ideal) ℓ) (c : Dev nD) : Value.res_out0 (F := Ideal) m c
    = broadcastInDim S256x256x1x1 ![0, 1] bcast_S256x256_S256x256x1x1_0_1
        (poolV (m ((c.tc : Thread nD τ).loc main_arg0)) (m ((c.tc : Thread nD τ).loc main_arg1))) := by
  unfold Value.res_out0 Value.res_main_v53
  rfl

/-- A word's rounded-down sixteenth, as the reference computes it. -/
def floorW (x : BitVec 32) : BitVec 32 :=
  Scalar.select
    (IntOp.andi
      (IntOp.cmpi .ne (if x = 0 then (0 : BitVec 32) else if x.msb = true then -1 else 1)
        (if (16#32 : BitVec 32) = 0 then (0 : BitVec 32) else if (16#32).msb = true then -1 else 1))
      (IntOp.cmpi .ne (IntOp.remsi .host x 16#32) 0#32))
    (IntOp.subi (IntOp.divsi .host x 16#32) 1#32) (IntOp.divsi .host x 16#32)

theorem floorW_eq {x : BitVec 32} (h : InR x) : floorW x = BitVec.ofNat 32 (cell x) := by
  obtain ⟨h1, h2⟩ := h
  obtain ⟨n, hn, rfl⟩ : ∃ n : Fin 400, 16 ≤ n.val ∧ x = BitVec.ofNat 32 n.val :=
    ⟨⟨x.toNat, h2⟩, h1, by simp⟩
  have : ∀ n : Fin 400, 16 ≤ n.val → floorW (BitVec.ofNat 32 n.val) = BitVec.ofNat 32 (cell (BitVec.ofNat 32 n.val)) := by
    decide +kernel
  exact this n hn

theorem cells_apply (Pr : IVec S2x128x4 32) (j : S2x128x4.Idx) : cells Pr j = floorW (Pr j) := by
  pointwise [cells]
  rfl

/-- A proposal's word by the proposal's number. -/
def wordV (Pr : IVec S2x128x4 32) (n : Fin 256) (r : Fin 4) : BitVec 32 :=
  Pr (ix3 (⟨n.val / 128, by omega⟩ : Fin 2) (⟨n.val % 128, by omega⟩ : Fin 128) r)

theorem fieldV_apply (Pr : IVec S2x128x4 32) (r : Fin 4) (h : S256x4.Slices ![0, r.val] S256x1) (n : Fin 256)
    (hW : InR (wordV Pr n r)) : fieldV Pr ![0, r.val] h (ix1 n) = BitVec.ofNat 32 (cell (wordV Pr n r)) := by
  refine Eq.trans ?_ (floorW_eq hW)
  refine Eq.trans ?_ (cells_apply Pr _)
  pointwise [fieldV]

/-- A span's bit says that the position lies in it. -/
theorem span_apply {lo len : IVec S256 32} {n : Fin 256} {a b : Nat} (ha : a ≤ 24) (hb : b ≤ 24)
    (h1 : lo (ix1 n) = BitVec.ofNat 32 a) (h2 : len (ix1 n) = BitVec.ofNat 32 b) (r : Fin 50) :
    span lo len (ix2 n r) = 1 ↔ a ≤ r.val ∧ r.val < a + b := by
  pointwise [span]
  rw [h1, h2]
  have e : ∀ p q : Bool, IntOp.andi (BitVec.ofBool p) (BitVec.ofBool q) = 1 ↔ p = true ∧ q = true := by decide
  have hr := r.isLt
  have t : ∀ k : Nat, k < 50 → (BitVec.ofNat 32 k).toInt = k := by
    intro k hk
    rw [BitVec.toInt_eq_toNat_of_lt (by rw [BitVec.toNat_ofNat]; omega), BitVec.toNat_ofNat]
    omega
  show IntOp.andi (BitVec.ofBool (BitVec.sle (BitVec.ofNat 32 a) (BitVec.ofNat 32 r.val)))
    (BitVec.ofBool (BitVec.slt (BitVec.ofNat 32 r.val) (BitVec.ofNat 32 a + BitVec.ofNat 32 b))) = 1 ↔ _
  rw [e, BitVec.sle, BitVec.slt, decide_eq_true_eq, decide_eq_true_eq, ← BitVec.ofNat_add, t _ (by omega), t _ (by omega), t _ (by omega)]
  omega

theorem maskV_apply (R C : IVec S256x50 1) (n ch : Fin 256) (r q : Fin 50) :
    maskV R C (ix4 n ch r q) = 1 ↔ R (ix2 n r) = 1 ∧ C (ix2 n q) = 1 := by
  pointwise [maskV]
  generalize R (ix2 n r) = p
  generalize C (ix2 n q) = q
  revert p q
  decide

theorem imgW_apply (n : Fin 256) : imgW (ix2 n 0) = BitVec.ofNat 32 (n.val / 128) := by
  pointwise [imgW, imgV]
  have : ∀ k : Fin 2, Scalar.select (IntOp.cmpi .slt (BitVec.ofNat 32 k.val) 0#32) (IntOp.addi (BitVec.ofNat 32 k.val) 2#32)
      (BitVec.ofNat 32 k.val) = BitVec.ofNat 32 k.val := by decide
  exact this ⟨n.val / 128, by omega⟩

/-- The gathered features are those of the proposal's image. -/
theorem featV_apply (A : FVec Ideal S2x256x50x50 .f32) (n ch : Fin 256) (r q : Fin 50) :
    featV A (ix4 n ch r q) = A (ix4 (⟨n.val / 128, by omega⟩ : Fin 2) ch r q) := by
  unfold featV Host.gather
  refine congrArg A (funext fun a => Fin.ext ?_)
  show GatherDims.start _ _ _ a + GatherDims.batchCoord _ _ a + GatherDims.offCoord _ _ a = _
  rw [GatherDims.batchCoord_eq_zero _ _ _ List.not_mem_nil, Nat.add_zero]
  have hs : ∀ i : S256x1.Idx, i = ix2 n 0 → (imgW i).toInt.toNat = n.val / 128 := by
    rintro i rfl
    have : n.val < 256 := n.isLt
    rw [imgW_apply, BitVec.toInt_eq_toNat_of_lt (by rw [BitVec.toNat_ofNat]; omega), BitVec.toNat_ofNat]
    omega
  have hn : n.val / 128 < 2 := by omega
  fin_cases a
  · show min (imgW _).toInt.toNat (2 - 1) + 0 = n.val / 128
    rw [hs _ ?_]
    · omega
    · funext b
      fin_cases b
      · rfl
      · rfl
  · show 0 + ch.val = ch.val
    omega
  · show 0 + r.val = r.val
    omega
  · show 0 + q.val = q.val
    omega

/-- What lies above the reference's result for a proposal: what lies above every cell of its region and above the
    floor. -/
theorem poolV_le (A : FVec Ideal S2x256x50x50 .f32) (Pr : IVec S2x128x4 32) (n ch : Fin 256) (hW : ∀ r, InR (wordV Pr n r))
    (z : EReal) :
    (poolV A Pr (ix2 n ch) : EReal) ≤ z ↔ Ideal.ofBits .f32 0xFF800000#32 ≤ z ∧ Ideal.ofBits .f32 0xFF7FFFFF#32 ≤ z
      ∧ ∀ r q : Fin 50, (cell (wordV Pr n 1) ≤ r.val ∧ r.val < cell (wordV Pr n 1) + cell (wordV Pr n 3))
        → (cell (wordV Pr n 0) ≤ q.val ∧ q.val < cell (wordV Pr n 0) + cell (wordV Pr n 2))
        → (A (ix4 (⟨n.val / 128, by omega⟩ : Fin 2) ch r q) : EReal) ≤ z := by
  pointwise [poolV]
  rw [Finset.fold_max_le]
  refine and_congr_right fun _ => ?_
  have hm : ∀ r q : Fin 50, maskV
      (span (fieldV Pr ![0, 1] slices_S256x4_S256x1_0_1) (fieldV Pr ![0, 3] slices_S256x4_S256x1_0_3))
      (span (fieldV Pr ![0, 0] slices_S256x4_S256x1_0_0) (fieldV Pr ![0, 2] slices_S256x4_S256x1_0_2)) (ix4 n ch r q) = 1
      ↔ (cell (wordV Pr n 1) ≤ r.val ∧ r.val < cell (wordV Pr n 1) + cell (wordV Pr n 3))
        ∧ (cell (wordV Pr n 0) ≤ q.val ∧ q.val < cell (wordV Pr n 0) + cell (wordV Pr n 2)) := fun r q =>
    (maskV_apply _ _ n ch r q).trans (and_congr
      (span_apply (hW 1).cell_le (hW 3).cell_le (fieldV_apply Pr 1 slices_S256x4_S256x1_0_1 n (hW 1)) (fieldV_apply Pr 3 slices_S256x4_S256x1_0_3 n (hW 3)) r)
      (span_apply (hW 0).cell_le (hW 2).cell_le (fieldV_apply Pr 0 slices_S256x4_S256x1_0_0 n (hW 0)) (fieldV_apply Pr 2 slices_S256x4_S256x1_0_2 n (hW 2)) q))
  unfold Scalar.select
  constructor
  · intro H
    refine ⟨?_, fun r q hr hq => ?_⟩
    · have := H (⟨49, by omega⟩, ⟨49, by omega⟩) (Finset.mem_univ _)
      rw [if_neg] at this
      · exact this
      · intro t
        have := ((hm _ _).mp t).1.2
        have h1 := (hW 1).cell_le
        have h3 := (hW 3).cell_le
        dsimp only at this
        omega
    · have := H (r, q) (Finset.mem_univ _)
      rw [if_pos ((hm r q).mpr ⟨hr, hq⟩)] at this
      rw [featV_apply] at this
      exact this
  · rintro ⟨h1, h2⟩ ⟨r, q⟩ -
    by_cases t : maskV
      (span (fieldV Pr ![0, 1] slices_S256x4_S256x1_0_1) (fieldV Pr ![0, 3] slices_S256x4_S256x1_0_3))
      (span (fieldV Pr ![0, 0] slices_S256x4_S256x1_0_0) (fieldV Pr ![0, 2] slices_S256x4_S256x1_0_2)) (ix4 n ch r q) = 1
    · rw [if_pos t, featV_apply]
      exact h2 r q ((hm r q).mp t).1 ((hm r q).mp t).2
    · rw [if_neg t]
      exact h1

end Cert.ReferenceIdeal.Roi

end
-- ==== Proof.Equal.lean ====
/- Kernel and reference compute the same array over the extended reals: the same values lie above both, element by
   element. -/
module

public import proofs.«01_k».proof.Proof.RowMax
public import proofs.«01_k».proof.Proof.Ref

@[expose] public section

noncomputable section

namespace Cert.Roi

open Idealize.ShloMosaic
open Cert.Kernel (S256x256x1x1 S2x256x50x50 S2x128x4 S1024)
open Cert.Kernel.Roi (resG rowOut rowOut_le field3 at4)
open Cert.ReferenceIdeal.Roi (poolV poolV_le wordV)

/-- A field of the flat proposals is the proposal's word. -/
theorem field3_eq (Pr : S2x128x4.Idx → BitVec 32) (n : Fin 256) (r : Fin 4) :
    field3 Pr (n.val / 128) (n.val % 128) r.val = wordV Pr n r := by
  have hn := n.isLt
  have hr := r.isLt
  unfold field3 Cert.Kernel.Roi.fieldN Cert.Kernel.Roi.wordN shapeCast wordV
  rw [Shape.reshapeEquiv_eq_of_rowMajor (y := ix3 (⟨n.val / 128, by omega⟩ : Fin 2) (⟨n.val % 128, by omega⟩ : Fin 128) r)]
  rw [Shape.rowMajor_val_three, Shape.rowMajor_val_one]
  show (n.val / 128 * 128 + n.val % 128) * 4 + r.val = (512 * (n.val / 128) + 4 * (n.val % 128) + r.val) % 1024
  omega

/-- Every field of the flat proposals is one of the words. -/
theorem field3_inR {Pr : S2x128x4.Idx → BitVec 32} (hP : ∀ j, InR (Pr j)) (b i r : Nat) : InR (field3 Pr b i r) := hP _

theorem at4_eq (A : S2x256x50x50.Idx → Ideal .f32) {b ch r q : Nat} (hb : b < 2) (hc : ch < 256) (hr : r < 50) (hq : q < 50) :
    at4 A b ch r q = A (ix4 (⟨b, hb⟩ : Fin 2) (⟨ch, hc⟩ : Fin 256) (⟨r, hr⟩ : Fin 50) (⟨q, hq⟩ : Fin 50)) := by
  refine congrArg A (funext fun a => Fin.ext ?_)
  fin_cases a
  · exact Nat.mod_eq_of_lt hb
  · exact Nat.mod_eq_of_lt hc
  · exact Nat.mod_eq_of_lt hr
  · exact Nat.mod_eq_of_lt hq

/-- One element of the two results. -/
theorem elem_eq (A : S2x256x50x50.Idx → Ideal .f32) (Pr : S2x128x4.Idx → BitVec 32) (hP : ∀ j, InR (Pr j)) (n ch : Fin 256) :
    (rowOut A Pr (n.val / 128) (n.val % 128) ch.val : EReal) = poolV A Pr (ix2 n ch) := by
  refine eq_of_forall_ge_iff fun z => ?_
  rw [rowOut_le A Pr (fun r => field3_inR hP _ _ r) ch.isLt, poolV_le A Pr n ch (fun r => hP _)]
  rw [show field3 Pr (n.val / 128) (n.val % 128) 0 = wordV Pr n 0 from field3_eq Pr n 0,
    show field3 Pr (n.val / 128) (n.val % 128) 1 = wordV Pr n 1 from field3_eq Pr n 1,
    show field3 Pr (n.val / 128) (n.val % 128) 2 = wordV Pr n 2 from field3_eq Pr n 2,
    show field3 Pr (n.val / 128) (n.val % 128) 3 = wordV Pr n 3 from field3_eq Pr n 3]
  have hw : ∀ r, cell (wordV Pr n r) ≤ 24 := fun r => InR.cell_le (hP _)
  have h0 := hw 0
  have h1 := hw 1
  have h2 := hw 2
  have h3 := hw 3
  have hb : n.val / 128 < 2 := by omega
  refine and_congr_right fun _ => and_congr_right fun _ => ?_
  constructor
  · intro H r q hr hq
    have := H (r.val - cell (wordV Pr n 1)) (by omega) (q.val - cell (wordV Pr n 0)) (by omega)
    rw [at4_eq A hb ch.isLt (by omega) (by omega)] at this
    have er : cell (wordV Pr n 1) + (r.val - cell (wordV Pr n 1)) = r.val := by omega
    have eq : cell (wordV Pr n 0) + (q.val - cell (wordV Pr n 0)) = q.val := by omega
    simp only [er, eq, Fin.eta] at this
    exact this
  · intro H i hi j hj
    rw [at4_eq A hb ch.isLt (by omega) (by omega)]
    exact H ⟨cell (wordV Pr n 1) + i, by omega⟩ ⟨cell (wordV Pr n 0) + j, by omega⟩
      ⟨Nat.le_add_right _ _, Nat.add_lt_add_left hi _⟩ ⟨Nat.le_add_right _ _, Nat.add_lt_add_left hj _⟩

/-- The kernel's array is the reference's. -/
theorem resG_eq (A : S2x256x50x50.Idx → Ideal .f32) (Pr : S2x128x4.Idx → BitVec 32) (hP : ∀ j, InR (Pr j)) :
    resG A Pr = broadcastInDim Cert.ReferenceIdeal.S256x256x1x1 ![0, 1] Cert.ReferenceIdeal.Gen.bcast_S256x256_S256x256x1x1_0_1 (poolV A Pr) := by
  funext k
  refine (elem_eq A Pr hP (k 0) (k 1)).trans (congrArg (poolV A Pr) (funext fun a => ?_))
  fin_cases a
  · rfl
  · rfl

end Cert.Roi

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal
public import proofs.«01_k».proof.Proof.Range
public import proofs.«01_k».proof.Proof.Equal
public import Idealize.ShloMosaic.Adequacy
public import Idealize.ShloMosaic.Init

@[expose] public section

noncomputable section

namespace Cert.Proof

open Idealize.ShloMosaic Idealize.SL.Sem

/-- The precondition's one side condition. -/
theorem pre_facts : Cert.Pre_proposals_in_image.Facts := ⟨by decide⟩

/-- The kernel's proposals are in range. -/
theorem words_kernel (m) (h : @Cert.Pre_Kernel pre_facts m) : Cert.Kernel.Roi.Words m :=
  fun c j => @Cert.Roi.inR_of_pre _ _ pre_facts _ _ (h c) j

/-- The idealized kernel's proposals are in range. -/
theorem words_ideal (m) (h : @Cert.Pre_KernelIdeal pre_facts m) : Cert.KernelIdeal.Roi.Words m :=
  fun c j => @Cert.Roi.inR_of_pre _ _ pre_facts _ _ (h c) j

/-- The reference's frame, from any memory. -/
theorem frame_reference : @Cert.quiescent_ReferenceIdeal Cert.ReferenceIdeal.Gen.facts := fun m ρ _ =>
  (θ_run _ _ _).mono (fun r h => ⟨fun c => (h c).2, Idealize.ShloMosaic.sem_eq_zero_of_no_sems (by decide) r.2⟩)
    (Cert.ReferenceIdeal.Value.run (F := Ideal) m ρ)

/-- Kernel and reference end with the same array. -/
theorem algebraic : @Cert.algebraic_KernelIdeal_ReferenceIdeal Cert.KernelIdeal.Gen.facts Cert.ReferenceIdeal.Gen.facts pre_facts := by
  intro m g m' g' hpre hsame
  have hW := words_ideal m hpre
  refine ⟨fun c => Cert.Kernel.Roi.resG (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    ?_, ?_⟩
  · exact (θ_run _ _ _).mono (fun _ h => h.1) (Cert.KernelIdeal.Roi.run_value m g hW)
  refine (θ_run _ _ _).mono (fun _ h c => ⟨(h c).1.trans ?_, (h c).2⟩) (Cert.ReferenceIdeal.Value.run (F := Ideal) m' g')
  refine (Cert.ReferenceIdeal.Roi.res_eq m' c).trans ?_
  rw [(hsame c).1, (hsame c).2]
  exact (Cert.Roi.resG_eq _ _ (hW c)).symm

theorem claim : Cert.Claim := ⟨Cert.Kernel.Gen.facts, Cert.KernelIdeal.Gen.facts, Cert.ReferenceIdeal.Gen.facts, pre_facts,
  fun m ρ hpre => (θ_run _ _ _).mono (fun _ h => ⟨fun c => (h.1 c).2, h.2⟩) (Cert.Kernel.Roi.run_value m ρ (words_kernel m hpre)),
  fun m ρ hpre => (θ_run _ _ _).mono (fun _ h => ⟨fun c => (h.1 c).2, h.2⟩) (Cert.KernelIdeal.Roi.run_value m ρ (words_ideal m hpre)),
  frame_reference,
  fun m ρ _ => frame_reference m ρ trivial,
  trivial,
  algebraic⟩

end Cert.Proof

end
